-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite [hPre_finite : Cert.Pre_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InFirstGrad (m : (ℓ : Loc Cert.InFirstGrad.nD Cert.InFirstGrad.τ Cert.InFirstGrad.sig) → Buf (Elt Bits) ℓ) : Prop :=
  True

def Pre_InFirstGradIdeal (m : (ℓ : Loc Cert.InFirstGradIdeal.nD Cert.InFirstGradIdeal.τ Cert.InFirstGradIdeal.sig) → Buf (Elt Ideal) ℓ) : Prop :=
  True

def Pre_InFirstRefIdeal (m : (ℓ : Loc Cert.InFirstRefIdeal.nD Cert.InFirstRefIdeal.τ Cert.InFirstRefIdeal.sig) → Buf (Elt Ideal) ℓ) : Prop :=
  True

def Pre_HidGrad (m : (ℓ : Loc Cert.HidGrad.nD Cert.HidGrad.τ Cert.HidGrad.sig) → Buf (Elt Bits) ℓ) : Prop :=
  True

def Pre_HidGradIdeal (m : (ℓ : Loc Cert.HidGradIdeal.nD Cert.HidGradIdeal.τ Cert.HidGradIdeal.sig) → Buf (Elt Ideal) ℓ) : Prop :=
  True

def Pre_HidGradIdeal_finite_hidden [hPre_finite_hidden : Cert.Pre_finite_hidden.Facts] (m : (ℓ : Loc Cert.HidGradIdeal.nD Cert.HidGradIdeal.τ Cert.HidGradIdeal.sig) → Buf (Elt Ideal) ℓ) : Prop :=
  ∀ c : Dev Cert.HidGradIdeal.nD,
    (Cert.Pre_finite_hidden.fn (F := Ideal) (m ((c.tc : Thread Cert.HidGradIdeal.nD Cert.HidGradIdeal.τ).loc Cert.HidGradIdeal.main_arg0)) (m ((c.tc : Thread Cert.HidGradIdeal.nD Cert.HidGradIdeal.τ).loc Cert.HidGradIdeal.main_arg1)) (m ((c.tc : Thread Cert.HidGradIdeal.nD Cert.HidGradIdeal.τ).loc Cert.HidGradIdeal.main_arg2)) (m ((c.tc : Thread Cert.HidGradIdeal.nD Cert.HidGradIdeal.τ).loc Cert.HidGradIdeal.main_arg3))).1 = (fun _ => 1#1)
    ∧ (Cert.Pre_finite_hidden.fn (F := Ideal) (m ((c.tc : Thread Cert.HidGradIdeal.nD Cert.HidGradIdeal.τ).loc Cert.HidGradIdeal.main_arg0)) (m ((c.tc : Thread Cert.HidGradIdeal.nD Cert.HidGradIdeal.τ).loc Cert.HidGradIdeal.main_arg1)) (m ((c.tc : Thread Cert.HidGradIdeal.nD Cert.HidGradIdeal.τ).loc Cert.HidGradIdeal.main_arg2)) (m ((c.tc : Thread Cert.HidGradIdeal.nD Cert.HidGradIdeal.τ).loc Cert.HidGradIdeal.main_arg3))).2.1 = (fun _ => 1#1)
    ∧ (Cert.Pre_finite_hidden.fn (F := Ideal) (m ((c.tc : Thread Cert.HidGradIdeal.nD Cert.HidGradIdeal.τ).loc Cert.HidGradIdeal.main_arg0)) (m ((c.tc : Thread Cert.HidGradIdeal.nD Cert.HidGradIdeal.τ).loc Cert.HidGradIdeal.main_arg1)) (m ((c.tc : Thread Cert.HidGradIdeal.nD Cert.HidGradIdeal.τ).loc Cert.HidGradIdeal.main_arg2)) (m ((c.tc : Thread Cert.HidGradIdeal.nD Cert.HidGradIdeal.τ).loc Cert.HidGradIdeal.main_arg3))).2.2 = (fun _ => 1#1)

def Pre_HidRefIdeal (m : (ℓ : Loc Cert.HidRefIdeal.nD Cert.HidRefIdeal.τ Cert.HidRefIdeal.sig) → Buf (Elt Ideal) ℓ) : Prop :=
  True

def Pre_HidRefIdeal_finite_hidden [hPre_finite_hidden : Cert.Pre_finite_hidden.Facts] (m : (ℓ : Loc Cert.HidRefIdeal.nD Cert.HidRefIdeal.τ Cert.HidRefIdeal.sig) → Buf (Elt Ideal) ℓ) : Prop :=
  ∀ c : Dev Cert.HidRefIdeal.nD,
    (Cert.Pre_finite_hidden.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3))).1 = (fun _ => 1#1)
    ∧ (Cert.Pre_finite_hidden.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3))).2.1 = (fun _ => 1#1)
    ∧ (Cert.Pre_finite_hidden.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3))).2.2 = (fun _ => 1#1)

def Pre_HidFirstGrad (m : (ℓ : Loc Cert.HidFirstGrad.nD Cert.HidFirstGrad.τ Cert.HidFirstGrad.sig) → Buf (Elt Bits) ℓ) : Prop :=
  True

def Pre_HidFirstGradIdeal (m : (ℓ : Loc Cert.HidFirstGradIdeal.nD Cert.HidFirstGradIdeal.τ Cert.HidFirstGradIdeal.sig) → Buf (Elt Ideal) ℓ) : Prop :=
  True

def Pre_HidFirstGradIdeal_finite_hidden [hPre_finite_hidden : Cert.Pre_finite_hidden.Facts] (m : (ℓ : Loc Cert.HidFirstGradIdeal.nD Cert.HidFirstGradIdeal.τ Cert.HidFirstGradIdeal.sig) → Buf (Elt Ideal) ℓ) : Prop :=
  ∀ c : Dev Cert.HidFirstGradIdeal.nD,
    (Cert.Pre_finite_hidden.fn (F := Ideal) (m ((c.tc : Thread Cert.HidFirstGradIdeal.nD Cert.HidFirstGradIdeal.τ).loc Cert.HidFirstGradIdeal.main_arg0)) (m ((c.tc : Thread Cert.HidFirstGradIdeal.nD Cert.HidFirstGradIdeal.τ).loc Cert.HidFirstGradIdeal.main_arg1)) (m ((c.tc : Thread Cert.HidFirstGradIdeal.nD Cert.HidFirstGradIdeal.τ).loc Cert.HidFirstGradIdeal.main_arg2)) (m ((c.tc : Thread Cert.HidFirstGradIdeal.nD Cert.HidFirstGradIdeal.τ).loc Cert.HidFirstGradIdeal.main_arg3))).1 = (fun _ => 1#1)
    ∧ (Cert.Pre_finite_hidden.fn (F := Ideal) (m ((c.tc : Thread Cert.HidFirstGradIdeal.nD Cert.HidFirstGradIdeal.τ).loc Cert.HidFirstGradIdeal.main_arg0)) (m ((c.tc : Thread Cert.HidFirstGradIdeal.nD Cert.HidFirstGradIdeal.τ).loc Cert.HidFirstGradIdeal.main_arg1)) (m ((c.tc : Thread Cert.HidFirstGradIdeal.nD Cert.HidFirstGradIdeal.τ).loc Cert.HidFirstGradIdeal.main_arg2)) (m ((c.tc : Thread Cert.HidFirstGradIdeal.nD Cert.HidFirstGradIdeal.τ).loc Cert.HidFirstGradIdeal.main_arg3))).2.1 = (fun _ => 1#1)
    ∧ (Cert.Pre_finite_hidden.fn (F := Ideal) (m ((c.tc : Thread Cert.HidFirstGradIdeal.nD Cert.HidFirstGradIdeal.τ).loc Cert.HidFirstGradIdeal.main_arg0)) (m ((c.tc : Thread Cert.HidFirstGradIdeal.nD Cert.HidFirstGradIdeal.τ).loc Cert.HidFirstGradIdeal.main_arg1)) (m ((c.tc : Thread Cert.HidFirstGradIdeal.nD Cert.HidFirstGradIdeal.τ).loc Cert.HidFirstGradIdeal.main_arg2)) (m ((c.tc : Thread Cert.HidFirstGradIdeal.nD Cert.HidFirstGradIdeal.τ).loc Cert.HidFirstGradIdeal.main_arg3))).2.2 = (fun _ => 1#1)

def Pre_HidFirstRefIdeal (m : (ℓ : Loc Cert.HidFirstRefIdeal.nD Cert.HidFirstRefIdeal.τ Cert.HidFirstRefIdeal.sig) → Buf (Elt Ideal) ℓ) : Prop :=
  True

def Pre_HidFirstRefIdeal_finite_hidden [hPre_finite_hidden : Cert.Pre_finite_hidden.Facts] (m : (ℓ : Loc Cert.HidFirstRefIdeal.nD Cert.HidFirstRefIdeal.τ Cert.HidFirstRefIdeal.sig) → Buf (Elt Ideal) ℓ) : Prop :=
  ∀ c : Dev Cert.HidFirstRefIdeal.nD,
    (Cert.Pre_finite_hidden.fn (F := Ideal) (m ((c.tc : Thread Cert.HidFirstRefIdeal.nD Cert.HidFirstRefIdeal.τ).loc Cert.HidFirstRefIdeal.main_arg0)) (m ((c.tc : Thread Cert.HidFirstRefIdeal.nD Cert.HidFirstRefIdeal.τ).loc Cert.HidFirstRefIdeal.main_arg1)) (m ((c.tc : Thread Cert.HidFirstRefIdeal.nD Cert.HidFirstRefIdeal.τ).loc Cert.HidFirstRefIdeal.main_arg2)) (m ((c.tc : Thread Cert.HidFirstRefIdeal.nD Cert.HidFirstRefIdeal.τ).loc Cert.HidFirstRefIdeal.main_arg3))).1 = (fun _ => 1#1)
    ∧ (Cert.Pre_finite_hidden.fn (F := Ideal) (m ((c.tc : Thread Cert.HidFirstRefIdeal.nD Cert.HidFirstRefIdeal.τ).loc Cert.HidFirstRefIdeal.main_arg0)) (m ((c.tc : Thread Cert.HidFirstRefIdeal.nD Cert.HidFirstRefIdeal.τ).loc Cert.HidFirstRefIdeal.main_arg1)) (m ((c.tc : Thread Cert.HidFirstRefIdeal.nD Cert.HidFirstRefIdeal.τ).loc Cert.HidFirstRefIdeal.main_arg2)) (m ((c.tc : Thread Cert.HidFirstRefIdeal.nD Cert.HidFirstRefIdeal.τ).loc Cert.HidFirstRefIdeal.main_arg3))).2.1 = (fun _ => 1#1)
    ∧ (Cert.Pre_finite_hidden.fn (F := Ideal) (m ((c.tc : Thread Cert.HidFirstRefIdeal.nD Cert.HidFirstRefIdeal.τ).loc Cert.HidFirstRefIdeal.main_arg0)) (m ((c.tc : Thread Cert.HidFirstRefIdeal.nD Cert.HidFirstRefIdeal.τ).loc Cert.HidFirstRefIdeal.main_arg1)) (m ((c.tc : Thread Cert.HidFirstRefIdeal.nD Cert.HidFirstRefIdeal.τ).loc Cert.HidFirstRefIdeal.main_arg2)) (m ((c.tc : Thread Cert.HidFirstRefIdeal.nD Cert.HidFirstRefIdeal.τ).loc Cert.HidFirstRefIdeal.main_arg3))).2.2 = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_finite_gates [hPre_finite_gates : Cert.Pre_finite_gates.Facts] (m : (ℓ : Loc Cert.GatesIdeal.nD Cert.GatesIdeal.τ Cert.GatesIdeal.sig) → Buf (Elt Ideal) ℓ) : Prop :=
  ∀ c : Dev Cert.GatesIdeal.nD,
    (Cert.Pre_finite_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2))).1 = (fun _ => 1#1)
    ∧ (Cert.Pre_finite_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2))).2 = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_finite_gates [hPre_finite_gates : Cert.Pre_finite_gates.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_finite_gates.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2))).1 = (fun _ => 1#1)
    ∧ (Cert.Pre_finite_gates.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2))).2 = (fun _ => 1#1)

def Pre_GatesFirst (m : (ℓ : Loc Cert.GatesFirst.nD Cert.GatesFirst.τ Cert.GatesFirst.sig) → Buf (Elt Bits) ℓ) : Prop :=
  True

def Pre_GatesFirstIdeal (m : (ℓ : Loc Cert.GatesFirstIdeal.nD Cert.GatesFirstIdeal.τ Cert.GatesFirstIdeal.sig) → Buf (Elt Ideal) ℓ) : Prop :=
  True

def Pre_GatesFirstIdeal_finite_gates [hPre_finite_gates : Cert.Pre_finite_gates.Facts] (m : (ℓ : Loc Cert.GatesFirstIdeal.nD Cert.GatesFirstIdeal.τ Cert.GatesFirstIdeal.sig) → Buf (Elt Ideal) ℓ) : Prop :=
  ∀ c : Dev Cert.GatesFirstIdeal.nD,
    (Cert.Pre_finite_gates.fn (F := Ideal) (m ((c.tc : Thread Cert.GatesFirstIdeal.nD Cert.GatesFirstIdeal.τ).loc Cert.GatesFirstIdeal.main_arg0)) (m ((c.tc : Thread Cert.GatesFirstIdeal.nD Cert.GatesFirstIdeal.τ).loc Cert.GatesFirstIdeal.main_arg1)) (m ((c.tc : Thread Cert.GatesFirstIdeal.nD Cert.GatesFirstIdeal.τ).loc Cert.GatesFirstIdeal.main_arg2))).1 = (fun _ => 1#1)
    ∧ (Cert.Pre_finite_gates.fn (F := Ideal) (m ((c.tc : Thread Cert.GatesFirstIdeal.nD Cert.GatesFirstIdeal.τ).loc Cert.GatesFirstIdeal.main_arg0)) (m ((c.tc : Thread Cert.GatesFirstIdeal.nD Cert.GatesFirstIdeal.τ).loc Cert.GatesFirstIdeal.main_arg1)) (m ((c.tc : Thread Cert.GatesFirstIdeal.nD Cert.GatesFirstIdeal.τ).loc Cert.GatesFirstIdeal.main_arg2))).2 = (fun _ => 1#1)

def Pre_GatesFirstRefIdeal (m : (ℓ : Loc Cert.GatesFirstRefIdeal.nD Cert.GatesFirstRefIdeal.τ Cert.GatesFirstRefIdeal.sig) → Buf (Elt Ideal) ℓ) : Prop :=
  True

def Pre_GatesFirstRefIdeal_finite_gates [hPre_finite_gates : Cert.Pre_finite_gates.Facts] (m : (ℓ : Loc Cert.GatesFirstRefIdeal.nD Cert.GatesFirstRefIdeal.τ Cert.GatesFirstRefIdeal.sig) → Buf (Elt Ideal) ℓ) : Prop :=
  ∀ c : Dev Cert.GatesFirstRefIdeal.nD,
    (Cert.Pre_finite_gates.fn (F := Ideal) (m ((c.tc : Thread Cert.GatesFirstRefIdeal.nD Cert.GatesFirstRefIdeal.τ).loc Cert.GatesFirstRefIdeal.main_arg0)) (m ((c.tc : Thread Cert.GatesFirstRefIdeal.nD Cert.GatesFirstRefIdeal.τ).loc Cert.GatesFirstRefIdeal.main_arg1)) (m ((c.tc : Thread Cert.GatesFirstRefIdeal.nD Cert.GatesFirstRefIdeal.τ).loc Cert.GatesFirstRefIdeal.main_arg2))).1 = (fun _ => 1#1)
    ∧ (Cert.Pre_finite_gates.fn (F := Ideal) (m ((c.tc : Thread Cert.GatesFirstRefIdeal.nD Cert.GatesFirstRefIdeal.τ).loc Cert.GatesFirstRefIdeal.main_arg0)) (m ((c.tc : Thread Cert.GatesFirstRefIdeal.nD Cert.GatesFirstRefIdeal.τ).loc Cert.GatesFirstRefIdeal.main_arg1)) (m ((c.tc : Thread Cert.GatesFirstRefIdeal.nD Cert.GatesFirstRefIdeal.τ).loc Cert.GatesFirstRefIdeal.main_arg2))).2 = (fun _ => 1#1)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite [hAttnBwdIdeal : Cert.AttnBwdIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5)
      ∧ r.2.mem ((c.tc : Thread Cert.InGrad.nD Cert.InGrad.τ).loc Cert.InGrad.main_arg6) = m ((c.tc : Thread Cert.InGrad.nD Cert.InGrad.τ).loc Cert.InGrad.main_arg6))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
      ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_InFirstGrad [hInFirstGrad : Cert.InFirstGrad.Facts] : Prop :=
  ∀ (m : (ℓ : Loc Cert.InFirstGrad.nD Cert.InFirstGrad.τ Cert.InFirstGrad.sig) → Buf (Elt Bits) ℓ) (g : Dev Cert.InFirstGrad.nD → PrngReg), Pre_InFirstGrad m →
    θ_run (Cert.InFirstGrad.defs (F := Bits)) (onTc (τ := Cert.InFirstGrad.τ) (Cert.InFirstGrad.main (F := Bits))) ⟨m, fun _ => 0, g⟩ (fun r => (∀ c : Dev Cert.InFirstGrad.nD,
      r.2.mem ((c.tc : Thread Cert.InFirstGrad.nD Cert.InFirstGrad.τ).loc Cert.InFirstGrad.main_arg0) = m ((c.tc : Thread Cert.InFirstGrad.nD Cert.InFirstGrad.τ).loc Cert.InFirstGrad.main_arg0)
      ∧ r.2.mem ((c.tc : Thread Cert.InFirstGrad.nD Cert.InFirstGrad.τ).loc Cert.InFirstGrad.main_arg1) = m ((c.tc : Thread Cert.InFirstGrad.nD Cert.InFirstGrad.τ).loc Cert.InFirstGrad.main_arg1)
      ∧ r.2.mem ((c.tc : Thread Cert.InFirstGrad.nD Cert.InFirstGrad.τ).loc Cert.InFirstGrad.main_arg2) = m ((c.tc : Thread Cert.InFirstGrad.nD Cert.InFirstGrad.τ).loc Cert.InFirstGrad.main_arg2)
      ∧ r.2.mem ((c.tc : Thread Cert.InFirstGrad.nD Cert.InFirstGrad.τ).loc Cert.InFirstGrad.main_arg3) = m ((c.tc : Thread Cert.InFirstGrad.nD Cert.InFirstGrad.τ).loc Cert.InFirstGrad.main_arg3)
      ∧ r.2.mem ((c.tc : Thread Cert.InFirstGrad.nD Cert.InFirstGrad.τ).loc Cert.InFirstGrad.main_arg4) = m ((c.tc : Thread Cert.InFirstGrad.nD Cert.InFirstGrad.τ).loc Cert.InFirstGrad.main_arg4)
      ∧ r.2.mem ((c.tc : Thread Cert.InFirstGrad.nD Cert.InFirstGrad.τ).loc Cert.InFirstGrad.main_arg5) = m ((c.tc : Thread Cert.InFirstGrad.nD Cert.InFirstGrad.τ).loc Cert.InFirstGrad.main_arg5)
      ∧ r.2.mem ((c.tc : Thread Cert.InFirstGrad.nD Cert.InFirstGrad.τ).loc Cert.InFirstGrad.main_arg6) = m ((c.tc : Thread Cert.InFirstGrad.nD Cert.InFirstGrad.τ).loc Cert.InFirstGrad.main_arg6))
      ∧ r.2.sem = fun _ => 0)

def quiescent_InFirstGradIdeal [hInFirstGradIdeal : Cert.InFirstGradIdeal.Facts] : Prop :=
  ∀ (m : (ℓ : Loc Cert.InFirstGradIdeal.nD Cert.InFirstGradIdeal.τ Cert.InFirstGradIdeal.sig) → Buf (Elt Ideal) ℓ) (g : Dev Cert.InFirstGradIdeal.nD → PrngReg), Pre_InFirstGradIdeal m →
    θ_run (Cert.InFirstGradIdeal.defs (F := Ideal)) (onTc (τ := Cert.InFirstGradIdeal.τ) (Cert.InFirstGradIdeal.main (F := Ideal))) ⟨m, fun _ => 0, g⟩ (fun r => (∀ c : Dev Cert.InFirstGradIdeal.nD,
      r.2.mem ((c.tc : Thread Cert.InFirstGradIdeal.nD Cert.InFirstGradIdeal.τ).loc Cert.InFirstGradIdeal.main_arg0) = m ((c.tc : Thread Cert.InFirstGradIdeal.nD Cert.InFirstGradIdeal.τ).loc Cert.InFirstGradIdeal.main_arg0)
      ∧ r.2.mem ((c.tc : Thread Cert.InFirstGradIdeal.nD Cert.InFirstGradIdeal.τ).loc Cert.InFirstGradIdeal.main_arg1) = m ((c.tc : Thread Cert.InFirstGradIdeal.nD Cert.InFirstGradIdeal.τ).loc Cert.InFirstGradIdeal.main_arg1)
      ∧ r.2.mem ((c.tc : Thread Cert.InFirstGradIdeal.nD Cert.InFirstGradIdeal.τ).loc Cert.InFirstGradIdeal.main_arg2) = m ((c.tc : Thread Cert.InFirstGradIdeal.nD Cert.InFirstGradIdeal.τ).loc Cert.InFirstGradIdeal.main_arg2)
      ∧ r.2.mem ((c.tc : Thread Cert.InFirstGradIdeal.nD Cert.InFirstGradIdeal.τ).loc Cert.InFirstGradIdeal.main_arg3) = m ((c.tc : Thread Cert.InFirstGradIdeal.nD Cert.InFirstGradIdeal.τ).loc Cert.InFirstGradIdeal.main_arg3)
      ∧ r.2.mem ((c.tc : Thread Cert.InFirstGradIdeal.nD Cert.InFirstGradIdeal.τ).loc Cert.InFirstGradIdeal.main_arg4) = m ((c.tc : Thread Cert.InFirstGradIdeal.nD Cert.InFirstGradIdeal.τ).loc Cert.InFirstGradIdeal.main_arg4)
      ∧ r.2.mem ((c.tc : Thread Cert.InFirstGradIdeal.nD Cert.InFirstGradIdeal.τ).loc Cert.InFirstGradIdeal.main_arg5) = m ((c.tc : Thread Cert.InFirstGradIdeal.nD Cert.InFirstGradIdeal.τ).loc Cert.InFirstGradIdeal.main_arg5)
      ∧ r.2.mem ((c.tc : Thread Cert.InFirstGradIdeal.nD Cert.InFirstGradIdeal.τ).loc Cert.InFirstGradIdeal.main_arg6) = m ((c.tc : Thread Cert.InFirstGradIdeal.nD Cert.InFirstGradIdeal.τ).loc Cert.InFirstGradIdeal.main_arg6))
      ∧ r.2.sem = fun _ => 0)

def quiescent_InFirstRefIdeal [hInFirstRefIdeal : Cert.InFirstRefIdeal.Facts] : Prop :=
  ∀ (m : (ℓ : Loc Cert.InFirstRefIdeal.nD Cert.InFirstRefIdeal.τ Cert.InFirstRefIdeal.sig) → Buf (Elt Ideal) ℓ) (g : Dev Cert.InFirstRefIdeal.nD → PrngReg), Pre_InFirstRefIdeal m →
    θ_run (Cert.InFirstRefIdeal.defs (F := Ideal)) (onTc (τ := Cert.InFirstRefIdeal.τ) (Cert.InFirstRefIdeal.main (F := Ideal))) ⟨m, fun _ => 0, g⟩ (fun r => (∀ c : Dev Cert.InFirstRefIdeal.nD,
      r.2.mem ((c.tc : Thread Cert.InFirstRefIdeal.nD Cert.InFirstRefIdeal.τ).loc Cert.InFirstRefIdeal.main_arg0) = m ((c.tc : Thread Cert.InFirstRefIdeal.nD Cert.InFirstRefIdeal.τ).loc Cert.InFirstRefIdeal.main_arg0)
      ∧ r.2.mem ((c.tc : Thread Cert.InFirstRefIdeal.nD Cert.InFirstRefIdeal.τ).loc Cert.InFirstRefIdeal.main_arg1) = m ((c.tc : Thread Cert.InFirstRefIdeal.nD Cert.InFirstRefIdeal.τ).loc Cert.InFirstRefIdeal.main_arg1)
      ∧ r.2.mem ((c.tc : Thread Cert.InFirstRefIdeal.nD Cert.InFirstRefIdeal.τ).loc Cert.InFirstRefIdeal.main_arg2) = m ((c.tc : Thread Cert.InFirstRefIdeal.nD Cert.InFirstRefIdeal.τ).loc Cert.InFirstRefIdeal.main_arg2)
      ∧ r.2.mem ((c.tc : Thread Cert.InFirstRefIdeal.nD Cert.InFirstRefIdeal.τ).loc Cert.InFirstRefIdeal.main_arg3) = m ((c.tc : Thread Cert.InFirstRefIdeal.nD Cert.InFirstRefIdeal.τ).loc Cert.InFirstRefIdeal.main_arg3)
      ∧ r.2.mem ((c.tc : Thread Cert.InFirstRefIdeal.nD Cert.InFirstRefIdeal.τ).loc Cert.InFirstRefIdeal.main_arg4) = m ((c.tc : Thread Cert.InFirstRefIdeal.nD Cert.InFirstRefIdeal.τ).loc Cert.InFirstRefIdeal.main_arg4)
      ∧ r.2.mem ((c.tc : Thread Cert.InFirstRefIdeal.nD Cert.InFirstRefIdeal.τ).loc Cert.InFirstRefIdeal.main_arg5) = m ((c.tc : Thread Cert.InFirstRefIdeal.nD Cert.InFirstRefIdeal.τ).loc Cert.InFirstRefIdeal.main_arg5)
      ∧ r.2.mem ((c.tc : Thread Cert.InFirstRefIdeal.nD Cert.InFirstRefIdeal.τ).loc Cert.InFirstRefIdeal.main_arg6) = m ((c.tc : Thread Cert.InFirstRefIdeal.nD Cert.InFirstRefIdeal.τ).loc Cert.InFirstRefIdeal.main_arg6))
      ∧ r.2.sem = fun _ => 0)

def quiescent_HidGrad [hHidGrad : Cert.HidGrad.Facts] : Prop :=
  ∀ (m : (ℓ : Loc Cert.HidGrad.nD Cert.HidGrad.τ Cert.HidGrad.sig) → Buf (Elt Bits) ℓ) (g : Dev Cert.HidGrad.nD → PrngReg), Pre_HidGrad m →
    θ_run (Cert.HidGrad.defs (F := Bits)) (onTc (τ := Cert.HidGrad.τ) (Cert.HidGrad.main (F := Bits))) ⟨m, fun _ => 0, g⟩ (fun r => (∀ c : Dev Cert.HidGrad.nD,
      r.2.mem ((c.tc : Thread Cert.HidGrad.nD Cert.HidGrad.τ).loc Cert.HidGrad.main_arg0) = m ((c.tc : Thread Cert.HidGrad.nD Cert.HidGrad.τ).loc Cert.HidGrad.main_arg0)
      ∧ r.2.mem ((c.tc : Thread Cert.HidGrad.nD Cert.HidGrad.τ).loc Cert.HidGrad.main_arg1) = m ((c.tc : Thread Cert.HidGrad.nD Cert.HidGrad.τ).loc Cert.HidGrad.main_arg1)
      ∧ r.2.mem ((c.tc : Thread Cert.HidGrad.nD Cert.HidGrad.τ).loc Cert.HidGrad.main_arg2) = m ((c.tc : Thread Cert.HidGrad.nD Cert.HidGrad.τ).loc Cert.HidGrad.main_arg2)
      ∧ r.2.mem ((c.tc : Thread Cert.HidGrad.nD Cert.HidGrad.τ).loc Cert.HidGrad.main_arg3) = m ((c.tc : Thread Cert.HidGrad.nD Cert.HidGrad.τ).loc Cert.HidGrad.main_arg3))
      ∧ r.2.sem = fun _ => 0)

def quiescent_HidGradIdeal [hHidGradIdeal : Cert.HidGradIdeal.Facts] : Prop :=
  ∀ (m : (ℓ : Loc Cert.HidGradIdeal.nD Cert.HidGradIdeal.τ Cert.HidGradIdeal.sig) → Buf (Elt Ideal) ℓ) (g : Dev Cert.HidGradIdeal.nD → PrngReg), Pre_HidGradIdeal m →
    θ_run (Cert.HidGradIdeal.defs (F := Ideal)) (onTc (τ := Cert.HidGradIdeal.τ) (Cert.HidGradIdeal.main (F := Ideal))) ⟨m, fun _ => 0, g⟩ (fun r => (∀ c : Dev Cert.HidGradIdeal.nD,
      r.2.mem ((c.tc : Thread Cert.HidGradIdeal.nD Cert.HidGradIdeal.τ).loc Cert.HidGradIdeal.main_arg0) = m ((c.tc : Thread Cert.HidGradIdeal.nD Cert.HidGradIdeal.τ).loc Cert.HidGradIdeal.main_arg0)
      ∧ r.2.mem ((c.tc : Thread Cert.HidGradIdeal.nD Cert.HidGradIdeal.τ).loc Cert.HidGradIdeal.main_arg1) = m ((c.tc : Thread Cert.HidGradIdeal.nD Cert.HidGradIdeal.τ).loc Cert.HidGradIdeal.main_arg1)
      ∧ r.2.mem ((c.tc : Thread Cert.HidGradIdeal.nD Cert.HidGradIdeal.τ).loc Cert.HidGradIdeal.main_arg2) = m ((c.tc : Thread Cert.HidGradIdeal.nD Cert.HidGradIdeal.τ).loc Cert.HidGradIdeal.main_arg2)
      ∧ r.2.mem ((c.tc : Thread Cert.HidGradIdeal.nD Cert.HidGradIdeal.τ).loc Cert.HidGradIdeal.main_arg3) = m ((c.tc : Thread Cert.HidGradIdeal.nD Cert.HidGradIdeal.τ).loc Cert.HidGradIdeal.main_arg3))
      ∧ r.2.sem = fun _ => 0)

def quiescent_HidGradIdeal_pre_finite_hidden [hHidGradIdeal : Cert.HidGradIdeal.Facts] [hPre_finite_hidden : Cert.Pre_finite_hidden.Facts] : Prop :=
  ∀ (m : (ℓ : Loc Cert.HidGradIdeal.nD Cert.HidGradIdeal.τ Cert.HidGradIdeal.sig) → Buf (Elt Ideal) ℓ) (g : Dev Cert.HidGradIdeal.nD → PrngReg), Pre_HidGradIdeal_finite_hidden m →
    θ_run (Cert.HidGradIdeal.defs (F := Ideal)) (onTc (τ := Cert.HidGradIdeal.τ) (Cert.HidGradIdeal.main (F := Ideal))) ⟨m, fun _ => 0, g⟩ (fun r => (∀ c : Dev Cert.HidGradIdeal.nD,
      r.2.mem ((c.tc : Thread Cert.HidGradIdeal.nD Cert.HidGradIdeal.τ).loc Cert.HidGradIdeal.main_arg0) = m ((c.tc : Thread Cert.HidGradIdeal.nD Cert.HidGradIdeal.τ).loc Cert.HidGradIdeal.main_arg0)
      ∧ r.2.mem ((c.tc : Thread Cert.HidGradIdeal.nD Cert.HidGradIdeal.τ).loc Cert.HidGradIdeal.main_arg1) = m ((c.tc : Thread Cert.HidGradIdeal.nD Cert.HidGradIdeal.τ).loc Cert.HidGradIdeal.main_arg1)
      ∧ r.2.mem ((c.tc : Thread Cert.HidGradIdeal.nD Cert.HidGradIdeal.τ).loc Cert.HidGradIdeal.main_arg2) = m ((c.tc : Thread Cert.HidGradIdeal.nD Cert.HidGradIdeal.τ).loc Cert.HidGradIdeal.main_arg2)
      ∧ r.2.mem ((c.tc : Thread Cert.HidGradIdeal.nD Cert.HidGradIdeal.τ).loc Cert.HidGradIdeal.main_arg3) = m ((c.tc : Thread Cert.HidGradIdeal.nD Cert.HidGradIdeal.τ).loc Cert.HidGradIdeal.main_arg3))
      ∧ r.2.sem = fun _ => 0)

def quiescent_HidRefIdeal [hHidRefIdeal : Cert.HidRefIdeal.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1)
      ∧ r.2.mem ((c.tc : Thread Cert.HidRefIdeal.nD Cert.HidRefIdeal.τ).loc Cert.HidRefIdeal.main_arg2) = m ((c.tc : Thread Cert.HidRefIdeal.nD Cert.HidRefIdeal.τ).loc Cert.HidRefIdeal.main_arg2)
      ∧ r.2.mem ((c.tc : Thread Cert.HidRefIdeal.nD Cert.HidRefIdeal.τ).loc Cert.HidRefIdeal.main_arg3) = m ((c.tc : Thread Cert.HidRefIdeal.nD Cert.HidRefIdeal.τ).loc Cert.HidRefIdeal.main_arg3))
      ∧ r.2.sem = fun _ => 0)

def quiescent_HidRefIdeal_pre_finite_hidden [hHidRefIdeal : Cert.HidRefIdeal.Facts] [hPre_finite_hidden : Cert.Pre_finite_hidden.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal_finite_hidden m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1)
      ∧ r.2.mem ((c.tc : Thread Cert.HidRefIdeal.nD Cert.HidRefIdeal.τ).loc Cert.HidRefIdeal.main_arg2) = m ((c.tc : Thread Cert.HidRefIdeal.nD Cert.HidRefIdeal.τ).loc Cert.HidRefIdeal.main_arg2)
      ∧ r.2.mem ((c.tc : Thread Cert.HidRefIdeal.nD Cert.HidRefIdeal.τ).loc Cert.HidRefIdeal.main_arg3) = m ((c.tc : Thread Cert.HidRefIdeal.nD Cert.HidRefIdeal.τ).loc Cert.HidRefIdeal.main_arg3))
      ∧ r.2.sem = fun _ => 0)

def quiescent_HidFirstGrad [hHidFirstGrad : Cert.HidFirstGrad.Facts] : Prop :=
  ∀ (m : (ℓ : Loc Cert.HidFirstGrad.nD Cert.HidFirstGrad.τ Cert.HidFirstGrad.sig) → Buf (Elt Bits) ℓ) (g : Dev Cert.HidFirstGrad.nD → PrngReg), Pre_HidFirstGrad m →
    θ_run (Cert.HidFirstGrad.defs (F := Bits)) (onTc (τ := Cert.HidFirstGrad.τ) (Cert.HidFirstGrad.main (F := Bits))) ⟨m, fun _ => 0, g⟩ (fun r => (∀ c : Dev Cert.HidFirstGrad.nD,
      r.2.mem ((c.tc : Thread Cert.HidFirstGrad.nD Cert.HidFirstGrad.τ).loc Cert.HidFirstGrad.main_arg0) = m ((c.tc : Thread Cert.HidFirstGrad.nD Cert.HidFirstGrad.τ).loc Cert.HidFirstGrad.main_arg0)
      ∧ r.2.mem ((c.tc : Thread Cert.HidFirstGrad.nD Cert.HidFirstGrad.τ).loc Cert.HidFirstGrad.main_arg1) = m ((c.tc : Thread Cert.HidFirstGrad.nD Cert.HidFirstGrad.τ).loc Cert.HidFirstGrad.main_arg1)
      ∧ r.2.mem ((c.tc : Thread Cert.HidFirstGrad.nD Cert.HidFirstGrad.τ).loc Cert.HidFirstGrad.main_arg2) = m ((c.tc : Thread Cert.HidFirstGrad.nD Cert.HidFirstGrad.τ).loc Cert.HidFirstGrad.main_arg2)
      ∧ r.2.mem ((c.tc : Thread Cert.HidFirstGrad.nD Cert.HidFirstGrad.τ).loc Cert.HidFirstGrad.main_arg3) = m ((c.tc : Thread Cert.HidFirstGrad.nD Cert.HidFirstGrad.τ).loc Cert.HidFirstGrad.main_arg3))
      ∧ r.2.sem = fun _ => 0)

def quiescent_HidFirstGradIdeal [hHidFirstGradIdeal : Cert.HidFirstGradIdeal.Facts] : Prop :=
  ∀ (m : (ℓ : Loc Cert.HidFirstGradIdeal.nD Cert.HidFirstGradIdeal.τ Cert.HidFirstGradIdeal.sig) → Buf (Elt Ideal) ℓ) (g : Dev Cert.HidFirstGradIdeal.nD → PrngReg), Pre_HidFirstGradIdeal m →
    θ_run (Cert.HidFirstGradIdeal.defs (F := Ideal)) (onTc (τ := Cert.HidFirstGradIdeal.τ) (Cert.HidFirstGradIdeal.main (F := Ideal))) ⟨m, fun _ => 0, g⟩ (fun r => (∀ c : Dev Cert.HidFirstGradIdeal.nD,
      r.2.mem ((c.tc : Thread Cert.HidFirstGradIdeal.nD Cert.HidFirstGradIdeal.τ).loc Cert.HidFirstGradIdeal.main_arg0) = m ((c.tc : Thread Cert.HidFirstGradIdeal.nD Cert.HidFirstGradIdeal.τ).loc Cert.HidFirstGradIdeal.main_arg0)
      ∧ r.2.mem ((c.tc : Thread Cert.HidFirstGradIdeal.nD Cert.HidFirstGradIdeal.τ).loc Cert.HidFirstGradIdeal.main_arg1) = m ((c.tc : Thread Cert.HidFirstGradIdeal.nD Cert.HidFirstGradIdeal.τ).loc Cert.HidFirstGradIdeal.main_arg1)
      ∧ r.2.mem ((c.tc : Thread Cert.HidFirstGradIdeal.nD Cert.HidFirstGradIdeal.τ).loc Cert.HidFirstGradIdeal.main_arg2) = m ((c.tc : Thread Cert.HidFirstGradIdeal.nD Cert.HidFirstGradIdeal.τ).loc Cert.HidFirstGradIdeal.main_arg2)
      ∧ r.2.mem ((c.tc : Thread Cert.HidFirstGradIdeal.nD Cert.HidFirstGradIdeal.τ).loc Cert.HidFirstGradIdeal.main_arg3) = m ((c.tc : Thread Cert.HidFirstGradIdeal.nD Cert.HidFirstGradIdeal.τ).loc Cert.HidFirstGradIdeal.main_arg3))
      ∧ r.2.sem = fun _ => 0)

def quiescent_HidFirstGradIdeal_pre_finite_hidden [hHidFirstGradIdeal : Cert.HidFirstGradIdeal.Facts] [hPre_finite_hidden : Cert.Pre_finite_hidden.Facts] : Prop :=
  ∀ (m : (ℓ : Loc Cert.HidFirstGradIdeal.nD Cert.HidFirstGradIdeal.τ Cert.HidFirstGradIdeal.sig) → Buf (Elt Ideal) ℓ) (g : Dev Cert.HidFirstGradIdeal.nD → PrngReg), Pre_HidFirstGradIdeal_finite_hidden m →
    θ_run (Cert.HidFirstGradIdeal.defs (F := Ideal)) (onTc (τ := Cert.HidFirstGradIdeal.τ) (Cert.HidFirstGradIdeal.main (F := Ideal))) ⟨m, fun _ => 0, g⟩ (fun r => (∀ c : Dev Cert.HidFirstGradIdeal.nD,
      r.2.mem ((c.tc : Thread Cert.HidFirstGradIdeal.nD Cert.HidFirstGradIdeal.τ).loc Cert.HidFirstGradIdeal.main_arg0) = m ((c.tc : Thread Cert.HidFirstGradIdeal.nD Cert.HidFirstGradIdeal.τ).loc Cert.HidFirstGradIdeal.main_arg0)
      ∧ r.2.mem ((c.tc : Thread Cert.HidFirstGradIdeal.nD Cert.HidFirstGradIdeal.τ).loc Cert.HidFirstGradIdeal.main_arg1) = m ((c.tc : Thread Cert.HidFirstGradIdeal.nD Cert.HidFirstGradIdeal.τ).loc Cert.HidFirstGradIdeal.main_arg1)
      ∧ r.2.mem ((c.tc : Thread Cert.HidFirstGradIdeal.nD Cert.HidFirstGradIdeal.τ).loc Cert.HidFirstGradIdeal.main_arg2) = m ((c.tc : Thread Cert.HidFirstGradIdeal.nD Cert.HidFirstGradIdeal.τ).loc Cert.HidFirstGradIdeal.main_arg2)
      ∧ r.2.mem ((c.tc : Thread Cert.HidFirstGradIdeal.nD Cert.HidFirstGradIdeal.τ).loc Cert.HidFirstGradIdeal.main_arg3) = m ((c.tc : Thread Cert.HidFirstGradIdeal.nD Cert.HidFirstGradIdeal.τ).loc Cert.HidFirstGradIdeal.main_arg3))
      ∧ r.2.sem = fun _ => 0)

def quiescent_HidFirstRefIdeal [hHidFirstRefIdeal : Cert.HidFirstRefIdeal.Facts] : Prop :=
  ∀ (m : (ℓ : Loc Cert.HidFirstRefIdeal.nD Cert.HidFirstRefIdeal.τ Cert.HidFirstRefIdeal.sig) → Buf (Elt Ideal) ℓ) (g : Dev Cert.HidFirstRefIdeal.nD → PrngReg), Pre_HidFirstRefIdeal m →
    θ_run (Cert.HidFirstRefIdeal.defs (F := Ideal)) (onTc (τ := Cert.HidFirstRefIdeal.τ) (Cert.HidFirstRefIdeal.main (F := Ideal))) ⟨m, fun _ => 0, g⟩ (fun r => (∀ c : Dev Cert.HidFirstRefIdeal.nD,
      r.2.mem ((c.tc : Thread Cert.HidFirstRefIdeal.nD Cert.HidFirstRefIdeal.τ).loc Cert.HidFirstRefIdeal.main_arg0) = m ((c.tc : Thread Cert.HidFirstRefIdeal.nD Cert.HidFirstRefIdeal.τ).loc Cert.HidFirstRefIdeal.main_arg0)
      ∧ r.2.mem ((c.tc : Thread Cert.HidFirstRefIdeal.nD Cert.HidFirstRefIdeal.τ).loc Cert.HidFirstRefIdeal.main_arg1) = m ((c.tc : Thread Cert.HidFirstRefIdeal.nD Cert.HidFirstRefIdeal.τ).loc Cert.HidFirstRefIdeal.main_arg1)
      ∧ r.2.mem ((c.tc : Thread Cert.HidFirstRefIdeal.nD Cert.HidFirstRefIdeal.τ).loc Cert.HidFirstRefIdeal.main_arg2) = m ((c.tc : Thread Cert.HidFirstRefIdeal.nD Cert.HidFirstRefIdeal.τ).loc Cert.HidFirstRefIdeal.main_arg2)
      ∧ r.2.mem ((c.tc : Thread Cert.HidFirstRefIdeal.nD Cert.HidFirstRefIdeal.τ).loc Cert.HidFirstRefIdeal.main_arg3) = m ((c.tc : Thread Cert.HidFirstRefIdeal.nD Cert.HidFirstRefIdeal.τ).loc Cert.HidFirstRefIdeal.main_arg3))
      ∧ r.2.sem = fun _ => 0)

def quiescent_HidFirstRefIdeal_pre_finite_hidden [hHidFirstRefIdeal : Cert.HidFirstRefIdeal.Facts] [hPre_finite_hidden : Cert.Pre_finite_hidden.Facts] : Prop :=
  ∀ (m : (ℓ : Loc Cert.HidFirstRefIdeal.nD Cert.HidFirstRefIdeal.τ Cert.HidFirstRefIdeal.sig) → Buf (Elt Ideal) ℓ) (g : Dev Cert.HidFirstRefIdeal.nD → PrngReg), Pre_HidFirstRefIdeal_finite_hidden m →
    θ_run (Cert.HidFirstRefIdeal.defs (F := Ideal)) (onTc (τ := Cert.HidFirstRefIdeal.τ) (Cert.HidFirstRefIdeal.main (F := Ideal))) ⟨m, fun _ => 0, g⟩ (fun r => (∀ c : Dev Cert.HidFirstRefIdeal.nD,
      r.2.mem ((c.tc : Thread Cert.HidFirstRefIdeal.nD Cert.HidFirstRefIdeal.τ).loc Cert.HidFirstRefIdeal.main_arg0) = m ((c.tc : Thread Cert.HidFirstRefIdeal.nD Cert.HidFirstRefIdeal.τ).loc Cert.HidFirstRefIdeal.main_arg0)
      ∧ r.2.mem ((c.tc : Thread Cert.HidFirstRefIdeal.nD Cert.HidFirstRefIdeal.τ).loc Cert.HidFirstRefIdeal.main_arg1) = m ((c.tc : Thread Cert.HidFirstRefIdeal.nD Cert.HidFirstRefIdeal.τ).loc Cert.HidFirstRefIdeal.main_arg1)
      ∧ r.2.mem ((c.tc : Thread Cert.HidFirstRefIdeal.nD Cert.HidFirstRefIdeal.τ).loc Cert.HidFirstRefIdeal.main_arg2) = m ((c.tc : Thread Cert.HidFirstRefIdeal.nD Cert.HidFirstRefIdeal.τ).loc Cert.HidFirstRefIdeal.main_arg2)
      ∧ r.2.mem ((c.tc : Thread Cert.HidFirstRefIdeal.nD Cert.HidFirstRefIdeal.τ).loc Cert.HidFirstRefIdeal.main_arg3) = m ((c.tc : Thread Cert.HidFirstRefIdeal.nD Cert.HidFirstRefIdeal.τ).loc Cert.HidFirstRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesIdeal_pre_finite_gates [hGatesIdeal : Cert.GatesIdeal.Facts] [hPre_finite_gates : Cert.Pre_finite_gates.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_finite_gates m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_GatesRefIdeal_pre_finite_gates [hGatesRefIdeal : Cert.GatesRefIdeal.Facts] [hPre_finite_gates : Cert.Pre_finite_gates.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_finite_gates m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_GatesFirst [hGatesFirst : Cert.GatesFirst.Facts] : Prop :=
  ∀ (m : (ℓ : Loc Cert.GatesFirst.nD Cert.GatesFirst.τ Cert.GatesFirst.sig) → Buf (Elt Bits) ℓ) (g : Dev Cert.GatesFirst.nD → PrngReg), Pre_GatesFirst m →
    θ_run (Cert.GatesFirst.defs (F := Bits)) (onTc (τ := Cert.GatesFirst.τ) (Cert.GatesFirst.main (F := Bits))) ⟨m, fun _ => 0, g⟩ (fun r => (∀ c : Dev Cert.GatesFirst.nD,
      r.2.mem ((c.tc : Thread Cert.GatesFirst.nD Cert.GatesFirst.τ).loc Cert.GatesFirst.main_arg0) = m ((c.tc : Thread Cert.GatesFirst.nD Cert.GatesFirst.τ).loc Cert.GatesFirst.main_arg0)
      ∧ r.2.mem ((c.tc : Thread Cert.GatesFirst.nD Cert.GatesFirst.τ).loc Cert.GatesFirst.main_arg1) = m ((c.tc : Thread Cert.GatesFirst.nD Cert.GatesFirst.τ).loc Cert.GatesFirst.main_arg1)
      ∧ r.2.mem ((c.tc : Thread Cert.GatesFirst.nD Cert.GatesFirst.τ).loc Cert.GatesFirst.main_arg2) = m ((c.tc : Thread Cert.GatesFirst.nD Cert.GatesFirst.τ).loc Cert.GatesFirst.main_arg2))
      ∧ r.2.sem = fun _ => 0)

def quiescent_GatesFirstIdeal [hGatesFirstIdeal : Cert.GatesFirstIdeal.Facts] : Prop :=
  ∀ (m : (ℓ : Loc Cert.GatesFirstIdeal.nD Cert.GatesFirstIdeal.τ Cert.GatesFirstIdeal.sig) → Buf (Elt Ideal) ℓ) (g : Dev Cert.GatesFirstIdeal.nD → PrngReg), Pre_GatesFirstIdeal m →
    θ_run (Cert.GatesFirstIdeal.defs (F := Ideal)) (onTc (τ := Cert.GatesFirstIdeal.τ) (Cert.GatesFirstIdeal.main (F := Ideal))) ⟨m, fun _ => 0, g⟩ (fun r => (∀ c : Dev Cert.GatesFirstIdeal.nD,
      r.2.mem ((c.tc : Thread Cert.GatesFirstIdeal.nD Cert.GatesFirstIdeal.τ).loc Cert.GatesFirstIdeal.main_arg0) = m ((c.tc : Thread Cert.GatesFirstIdeal.nD Cert.GatesFirstIdeal.τ).loc Cert.GatesFirstIdeal.main_arg0)
      ∧ r.2.mem ((c.tc : Thread Cert.GatesFirstIdeal.nD Cert.GatesFirstIdeal.τ).loc Cert.GatesFirstIdeal.main_arg1) = m ((c.tc : Thread Cert.GatesFirstIdeal.nD Cert.GatesFirstIdeal.τ).loc Cert.GatesFirstIdeal.main_arg1)
      ∧ r.2.mem ((c.tc : Thread Cert.GatesFirstIdeal.nD Cert.GatesFirstIdeal.τ).loc Cert.GatesFirstIdeal.main_arg2) = m ((c.tc : Thread Cert.GatesFirstIdeal.nD Cert.GatesFirstIdeal.τ).loc Cert.GatesFirstIdeal.main_arg2))
      ∧ r.2.sem = fun _ => 0)

def quiescent_GatesFirstIdeal_pre_finite_gates [hGatesFirstIdeal : Cert.GatesFirstIdeal.Facts] [hPre_finite_gates : Cert.Pre_finite_gates.Facts] : Prop :=
  ∀ (m : (ℓ : Loc Cert.GatesFirstIdeal.nD Cert.GatesFirstIdeal.τ Cert.GatesFirstIdeal.sig) → Buf (Elt Ideal) ℓ) (g : Dev Cert.GatesFirstIdeal.nD → PrngReg), Pre_GatesFirstIdeal_finite_gates m →
    θ_run (Cert.GatesFirstIdeal.defs (F := Ideal)) (onTc (τ := Cert.GatesFirstIdeal.τ) (Cert.GatesFirstIdeal.main (F := Ideal))) ⟨m, fun _ => 0, g⟩ (fun r => (∀ c : Dev Cert.GatesFirstIdeal.nD,
      r.2.mem ((c.tc : Thread Cert.GatesFirstIdeal.nD Cert.GatesFirstIdeal.τ).loc Cert.GatesFirstIdeal.main_arg0) = m ((c.tc : Thread Cert.GatesFirstIdeal.nD Cert.GatesFirstIdeal.τ).loc Cert.GatesFirstIdeal.main_arg0)
      ∧ r.2.mem ((c.tc : Thread Cert.GatesFirstIdeal.nD Cert.GatesFirstIdeal.τ).loc Cert.GatesFirstIdeal.main_arg1) = m ((c.tc : Thread Cert.GatesFirstIdeal.nD Cert.GatesFirstIdeal.τ).loc Cert.GatesFirstIdeal.main_arg1)
      ∧ r.2.mem ((c.tc : Thread Cert.GatesFirstIdeal.nD Cert.GatesFirstIdeal.τ).loc Cert.GatesFirstIdeal.main_arg2) = m ((c.tc : Thread Cert.GatesFirstIdeal.nD Cert.GatesFirstIdeal.τ).loc Cert.GatesFirstIdeal.main_arg2))
      ∧ r.2.sem = fun _ => 0)

def quiescent_GatesFirstRefIdeal [hGatesFirstRefIdeal : Cert.GatesFirstRefIdeal.Facts] : Prop :=
  ∀ (m : (ℓ : Loc Cert.GatesFirstRefIdeal.nD Cert.GatesFirstRefIdeal.τ Cert.GatesFirstRefIdeal.sig) → Buf (Elt Ideal) ℓ) (g : Dev Cert.GatesFirstRefIdeal.nD → PrngReg), Pre_GatesFirstRefIdeal m →
    θ_run (Cert.GatesFirstRefIdeal.defs (F := Ideal)) (onTc (τ := Cert.GatesFirstRefIdeal.τ) (Cert.GatesFirstRefIdeal.main (F := Ideal))) ⟨m, fun _ => 0, g⟩ (fun r => (∀ c : Dev Cert.GatesFirstRefIdeal.nD,
      r.2.mem ((c.tc : Thread Cert.GatesFirstRefIdeal.nD Cert.GatesFirstRefIdeal.τ).loc Cert.GatesFirstRefIdeal.main_arg0) = m ((c.tc : Thread Cert.GatesFirstRefIdeal.nD Cert.GatesFirstRefIdeal.τ).loc Cert.GatesFirstRefIdeal.main_arg0)
      ∧ r.2.mem ((c.tc : Thread Cert.GatesFirstRefIdeal.nD Cert.GatesFirstRefIdeal.τ).loc Cert.GatesFirstRefIdeal.main_arg1) = m ((c.tc : Thread Cert.GatesFirstRefIdeal.nD Cert.GatesFirstRefIdeal.τ).loc Cert.GatesFirstRefIdeal.main_arg1)
      ∧ r.2.mem ((c.tc : Thread Cert.GatesFirstRefIdeal.nD Cert.GatesFirstRefIdeal.τ).loc Cert.GatesFirstRefIdeal.main_arg2) = m ((c.tc : Thread Cert.GatesFirstRefIdeal.nD Cert.GatesFirstRefIdeal.τ).loc Cert.GatesFirstRefIdeal.main_arg2))
      ∧ r.2.sem = fun _ => 0)

def quiescent_GatesFirstRefIdeal_pre_finite_gates [hGatesFirstRefIdeal : Cert.GatesFirstRefIdeal.Facts] [hPre_finite_gates : Cert.Pre_finite_gates.Facts] : Prop :=
  ∀ (m : (ℓ : Loc Cert.GatesFirstRefIdeal.nD Cert.GatesFirstRefIdeal.τ Cert.GatesFirstRefIdeal.sig) → Buf (Elt Ideal) ℓ) (g : Dev Cert.GatesFirstRefIdeal.nD → PrngReg), Pre_GatesFirstRefIdeal_finite_gates m →
    θ_run (Cert.GatesFirstRefIdeal.defs (F := Ideal)) (onTc (τ := Cert.GatesFirstRefIdeal.τ) (Cert.GatesFirstRefIdeal.main (F := Ideal))) ⟨m, fun _ => 0, g⟩ (fun r => (∀ c : Dev Cert.GatesFirstRefIdeal.nD,
      r.2.mem ((c.tc : Thread Cert.GatesFirstRefIdeal.nD Cert.GatesFirstRefIdeal.τ).loc Cert.GatesFirstRefIdeal.main_arg0) = m ((c.tc : Thread Cert.GatesFirstRefIdeal.nD Cert.GatesFirstRefIdeal.τ).loc Cert.GatesFirstRefIdeal.main_arg0)
      ∧ r.2.mem ((c.tc : Thread Cert.GatesFirstRefIdeal.nD Cert.GatesFirstRefIdeal.τ).loc Cert.GatesFirstRefIdeal.main_arg1) = m ((c.tc : Thread Cert.GatesFirstRefIdeal.nD Cert.GatesFirstRefIdeal.τ).loc Cert.GatesFirstRefIdeal.main_arg1)
      ∧ r.2.mem ((c.tc : Thread Cert.GatesFirstRefIdeal.nD Cert.GatesFirstRefIdeal.τ).loc Cert.GatesFirstRefIdeal.main_arg2) = m ((c.tc : Thread Cert.GatesFirstRefIdeal.nD Cert.GatesFirstRefIdeal.τ).loc Cert.GatesFirstRefIdeal.main_arg2))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v69) = v0 c
          ∧ r.2.mem ((c.tc : Thread Cert.ConvRefIdeal.nD Cert.ConvRefIdeal.τ).loc Cert.ConvRefIdeal.main_v54) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_AttnBwd_AttnBwdIdeal : Prop :=
  IdealRules.named_const.Statement Cert.AttnBwdIdeal.κ "mask" .f32 0xF149F2CA#32 ⊥
  ∧ IdealRules.named_const.Statement Cert.AttnBwdIdeal.κ "scale_log2" .f32 0x3DD53B95#32 (((Real.sqrt 192)⁻¹ * (Real.log 2)⁻¹ : ℝ) : EReal)
  ∧ IdealRules.named_const.Statement Cert.AttnBwdIdeal.κ "log2e" .f32 0x3FB8AA3B#32 (((Real.log 2)⁻¹ : ℝ) : EReal)
  ∧ IdealRules.named_const.Statement Cert.AttnBwdIdeal.κ "scale" .f32 0x3D93CD3A#32 (((Real.sqrt 192)⁻¹ : ℝ) : EReal)

def algebraic_AttnBwdIdeal_AttnRefIdeal_pre_finite [hAttnBwdIdeal : Cert.AttnBwdIdeal.Facts] [hAttnRefIdeal : Cert.AttnRefIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v35_0)) (v1 : (c : Dev Cert.AttnBwdIdeal.nD) → Buf (Elt Ideal) ((c.tc : Thread Cert.AttnBwdIdeal.nD Cert.AttnBwdIdeal.τ).loc Cert.AttnBwdIdeal.main_v35_1)) (v2 : (c : Dev Cert.AttnBwdIdeal.nD) → Buf (Elt Ideal) ((c.tc : Thread Cert.AttnBwdIdeal.nD Cert.AttnBwdIdeal.τ).loc Cert.AttnBwdIdeal.main_v35_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v35_0) = v0 c
          ∧ r.2.mem ((c.tc : Thread Cert.AttnBwdIdeal.nD Cert.AttnBwdIdeal.τ).loc Cert.AttnBwdIdeal.main_v35_1) = v1 c
          ∧ r.2.mem ((c.tc : Thread Cert.AttnBwdIdeal.nD Cert.AttnBwdIdeal.τ).loc Cert.AttnBwdIdeal.main_v35_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v72) = v0 c
          ∧ r.2.mem ((c.tc : Thread Cert.AttnRefIdeal.nD Cert.AttnRefIdeal.τ).loc Cert.AttnRefIdeal.main_v71) = v1 c
          ∧ r.2.mem ((c.tc : Thread Cert.AttnRefIdeal.nD Cert.AttnRefIdeal.τ).loc Cert.AttnRefIdeal.main_v70) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_DownGrad_DownGradIdeal : Prop :=
  True

def algebraic_DownGradIdeal_DownRefIdeal [hDownGradIdeal : Cert.DownGradIdeal.Facts] [hDownRefIdeal : Cert.DownRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownGradIdeal m →
    (∀ c : Dev Cert.DownGradIdeal.nD,
      m' ((c.tc : Thread Cert.DownRefIdeal.nD Cert.DownRefIdeal.τ).loc Cert.DownRefIdeal.main_arg0) = m ((c.tc : Thread Cert.DownGradIdeal.nD Cert.DownGradIdeal.τ).loc Cert.DownGradIdeal.main_arg0)
      ∧ m' ((c.tc : Thread Cert.DownRefIdeal.nD Cert.DownRefIdeal.τ).loc Cert.DownRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v2)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v2) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_UpGrad_UpGradIdeal : Prop :=
  True

def algebraic_UpGradIdeal_UpRefIdeal [hUpGradIdeal : Cert.UpGradIdeal.Facts] [hUpRefIdeal : Cert.UpRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpGradIdeal m →
    (∀ c : Dev Cert.UpGradIdeal.nD,
      m' ((c.tc : Thread Cert.UpRefIdeal.nD Cert.UpRefIdeal.τ).loc Cert.UpRefIdeal.main_arg0) = m ((c.tc : Thread Cert.UpGradIdeal.nD Cert.UpGradIdeal.τ).loc Cert.UpGradIdeal.main_arg0)
      ∧ m' ((c.tc : Thread Cert.UpRefIdeal.nD Cert.UpRefIdeal.τ).loc Cert.UpRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v2)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v2) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_InGrad_InGradIdeal : Prop :=
  True

def algebraic_InGradIdeal_InRefIdeal [hInGradIdeal : Cert.InGradIdeal.Facts] [hInRefIdeal : Cert.InRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InRefIdeal.nD Cert.InRefIdeal.τ Cert.InRefIdeal.sig) → Buf (Elt Ideal) ℓ) (g' : Dev Cert.InRefIdeal.nD → PrngReg), Pre_InGradIdeal m →
    (∀ c : Dev Cert.InGradIdeal.nD,
      m' ((c.tc : Thread Cert.InRefIdeal.nD Cert.InRefIdeal.τ).loc Cert.InRefIdeal.main_arg0) = m ((c.tc : Thread Cert.InGradIdeal.nD Cert.InGradIdeal.τ).loc Cert.InGradIdeal.main_arg0)
      ∧ m' ((c.tc : Thread Cert.InRefIdeal.nD Cert.InRefIdeal.τ).loc Cert.InRefIdeal.main_arg1) = m ((c.tc : Thread Cert.InGradIdeal.nD Cert.InGradIdeal.τ).loc Cert.InGradIdeal.main_arg1)
      ∧ m' ((c.tc : Thread Cert.InRefIdeal.nD Cert.InRefIdeal.τ).loc Cert.InRefIdeal.main_arg2) = m ((c.tc : Thread Cert.InGradIdeal.nD Cert.InGradIdeal.τ).loc Cert.InGradIdeal.main_arg2)
      ∧ m' ((c.tc : Thread Cert.InRefIdeal.nD Cert.InRefIdeal.τ).loc Cert.InRefIdeal.main_arg3) = m ((c.tc : Thread Cert.InGradIdeal.nD Cert.InGradIdeal.τ).loc Cert.InGradIdeal.main_arg3)
      ∧ m' ((c.tc : Thread Cert.InRefIdeal.nD Cert.InRefIdeal.τ).loc Cert.InRefIdeal.main_arg4) = m ((c.tc : Thread Cert.InGradIdeal.nD Cert.InGradIdeal.τ).loc Cert.InGradIdeal.main_arg4)
      ∧ m' ((c.tc : Thread Cert.InRefIdeal.nD Cert.InRefIdeal.τ).loc Cert.InRefIdeal.main_arg5) = m ((c.tc : Thread Cert.InGradIdeal.nD Cert.InGradIdeal.τ).loc Cert.InGradIdeal.main_arg5)
      ∧ m' ((c.tc : Thread Cert.InRefIdeal.nD Cert.InRefIdeal.τ).loc Cert.InRefIdeal.main_arg6) = m ((c.tc : Thread Cert.InGradIdeal.nD Cert.InGradIdeal.τ).loc Cert.InGradIdeal.main_arg6)) →
    ∃ (v0 : (c : Dev Cert.InGradIdeal.nD) → Buf (Elt Ideal) ((c.tc : Thread Cert.InGradIdeal.nD Cert.InGradIdeal.τ).loc Cert.InGradIdeal.main_v11_0)) (v1 : (c : Dev Cert.InGradIdeal.nD) → Buf (Elt Ideal) ((c.tc : Thread Cert.InGradIdeal.nD Cert.InGradIdeal.τ).loc Cert.InGradIdeal.main_v11_1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v11_0) = v0 c
          ∧ r.2.mem ((c.tc : Thread Cert.InGradIdeal.nD Cert.InGradIdeal.τ).loc Cert.InGradIdeal.main_v11_1) = v1 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
          ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v51) = v0 c
          ∧ r.2.mem ((c.tc : Thread Cert.InRefIdeal.nD Cert.InRefIdeal.τ).loc Cert.InRefIdeal.main_v52) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_InFirstGrad_InFirstGradIdeal : Prop :=
  True

def algebraic_InFirstGradIdeal_InFirstRefIdeal [hInFirstGradIdeal : Cert.InFirstGradIdeal.Facts] [hInFirstRefIdeal : Cert.InFirstRefIdeal.Facts] : Prop :=
  ∀ (m : (ℓ : Loc Cert.InFirstGradIdeal.nD Cert.InFirstGradIdeal.τ Cert.InFirstGradIdeal.sig) → Buf (Elt Ideal) ℓ) (g : Dev Cert.InFirstGradIdeal.nD → PrngReg)
    (m' : (ℓ : Loc Cert.InFirstRefIdeal.nD Cert.InFirstRefIdeal.τ Cert.InFirstRefIdeal.sig) → Buf (Elt Ideal) ℓ) (g' : Dev Cert.InFirstRefIdeal.nD → PrngReg), Pre_InFirstGradIdeal m →
    (∀ c : Dev Cert.InFirstGradIdeal.nD,
      m' ((c.tc : Thread Cert.InFirstRefIdeal.nD Cert.InFirstRefIdeal.τ).loc Cert.InFirstRefIdeal.main_arg0) = m ((c.tc : Thread Cert.InFirstGradIdeal.nD Cert.InFirstGradIdeal.τ).loc Cert.InFirstGradIdeal.main_arg0)
      ∧ m' ((c.tc : Thread Cert.InFirstRefIdeal.nD Cert.InFirstRefIdeal.τ).loc Cert.InFirstRefIdeal.main_arg1) = m ((c.tc : Thread Cert.InFirstGradIdeal.nD Cert.InFirstGradIdeal.τ).loc Cert.InFirstGradIdeal.main_arg1)
      ∧ m' ((c.tc : Thread Cert.InFirstRefIdeal.nD Cert.InFirstRefIdeal.τ).loc Cert.InFirstRefIdeal.main_arg2) = m ((c.tc : Thread Cert.InFirstGradIdeal.nD Cert.InFirstGradIdeal.τ).loc Cert.InFirstGradIdeal.main_arg2)
      ∧ m' ((c.tc : Thread Cert.InFirstRefIdeal.nD Cert.InFirstRefIdeal.τ).loc Cert.InFirstRefIdeal.main_arg3) = m ((c.tc : Thread Cert.InFirstGradIdeal.nD Cert.InFirstGradIdeal.τ).loc Cert.InFirstGradIdeal.main_arg3)
      ∧ m' ((c.tc : Thread Cert.InFirstRefIdeal.nD Cert.InFirstRefIdeal.τ).loc Cert.InFirstRefIdeal.main_arg4) = m ((c.tc : Thread Cert.InFirstGradIdeal.nD Cert.InFirstGradIdeal.τ).loc Cert.InFirstGradIdeal.main_arg4)
      ∧ m' ((c.tc : Thread Cert.InFirstRefIdeal.nD Cert.InFirstRefIdeal.τ).loc Cert.InFirstRefIdeal.main_arg5) = m ((c.tc : Thread Cert.InFirstGradIdeal.nD Cert.InFirstGradIdeal.τ).loc Cert.InFirstGradIdeal.main_arg5)
      ∧ m' ((c.tc : Thread Cert.InFirstRefIdeal.nD Cert.InFirstRefIdeal.τ).loc Cert.InFirstRefIdeal.main_arg6) = m ((c.tc : Thread Cert.InFirstGradIdeal.nD Cert.InFirstGradIdeal.τ).loc Cert.InFirstGradIdeal.main_arg6)) →
    ∃ (v0 : (c : Dev Cert.InFirstGradIdeal.nD) → Buf (Elt Ideal) ((c.tc : Thread Cert.InFirstGradIdeal.nD Cert.InFirstGradIdeal.τ).loc Cert.InFirstGradIdeal.main_v11_0)) (v1 : (c : Dev Cert.InFirstGradIdeal.nD) → Buf (Elt Ideal) ((c.tc : Thread Cert.InFirstGradIdeal.nD Cert.InFirstGradIdeal.τ).loc Cert.InFirstGradIdeal.main_v11_1)),
      θ_run (Cert.InFirstGradIdeal.defs (F := Ideal)) (onTc (τ := Cert.InFirstGradIdeal.τ) (Cert.InFirstGradIdeal.main (F := Ideal))) ⟨m, fun _ => 0, g⟩ (fun r => ∀ c : Dev Cert.InFirstGradIdeal.nD,
          r.2.mem ((c.tc : Thread Cert.InFirstGradIdeal.nD Cert.InFirstGradIdeal.τ).loc Cert.InFirstGradIdeal.main_v11_0) = v0 c
          ∧ r.2.mem ((c.tc : Thread Cert.InFirstGradIdeal.nD Cert.InFirstGradIdeal.τ).loc Cert.InFirstGradIdeal.main_v11_1) = v1 c
          ∧ r.2.mem ((c.tc : Thread Cert.InFirstGradIdeal.nD Cert.InFirstGradIdeal.τ).loc Cert.InFirstGradIdeal.main_arg0) = m ((c.tc : Thread Cert.InFirstGradIdeal.nD Cert.InFirstGradIdeal.τ).loc Cert.InFirstGradIdeal.main_arg0)
          ∧ r.2.mem ((c.tc : Thread Cert.InFirstGradIdeal.nD Cert.InFirstGradIdeal.τ).loc Cert.InFirstGradIdeal.main_arg1) = m ((c.tc : Thread Cert.InFirstGradIdeal.nD Cert.InFirstGradIdeal.τ).loc Cert.InFirstGradIdeal.main_arg1)
          ∧ r.2.mem ((c.tc : Thread Cert.InFirstGradIdeal.nD Cert.InFirstGradIdeal.τ).loc Cert.InFirstGradIdeal.main_arg2) = m ((c.tc : Thread Cert.InFirstGradIdeal.nD Cert.InFirstGradIdeal.τ).loc Cert.InFirstGradIdeal.main_arg2)
          ∧ r.2.mem ((c.tc : Thread Cert.InFirstGradIdeal.nD Cert.InFirstGradIdeal.τ).loc Cert.InFirstGradIdeal.main_arg3) = m ((c.tc : Thread Cert.InFirstGradIdeal.nD Cert.InFirstGradIdeal.τ).loc Cert.InFirstGradIdeal.main_arg3)
          ∧ r.2.mem ((c.tc : Thread Cert.InFirstGradIdeal.nD Cert.InFirstGradIdeal.τ).loc Cert.InFirstGradIdeal.main_arg4) = m ((c.tc : Thread Cert.InFirstGradIdeal.nD Cert.InFirstGradIdeal.τ).loc Cert.InFirstGradIdeal.main_arg4)
          ∧ r.2.mem ((c.tc : Thread Cert.InFirstGradIdeal.nD Cert.InFirstGradIdeal.τ).loc Cert.InFirstGradIdeal.main_arg5) = m ((c.tc : Thread Cert.InFirstGradIdeal.nD Cert.InFirstGradIdeal.τ).loc Cert.InFirstGradIdeal.main_arg5)
          ∧ r.2.mem ((c.tc : Thread Cert.InFirstGradIdeal.nD Cert.InFirstGradIdeal.τ).loc Cert.InFirstGradIdeal.main_arg6) = m ((c.tc : Thread Cert.InFirstGradIdeal.nD Cert.InFirstGradIdeal.τ).loc Cert.InFirstGradIdeal.main_arg6))
      ∧ θ_run (Cert.InFirstRefIdeal.defs (F := Ideal)) (onTc (τ := Cert.InFirstRefIdeal.τ) (Cert.InFirstRefIdeal.main (F := Ideal))) ⟨m', fun _ => 0, g'⟩ (fun r => ∀ c : Dev Cert.InFirstRefIdeal.nD,
          r.2.mem ((c.tc : Thread Cert.InFirstRefIdeal.nD Cert.InFirstRefIdeal.τ).loc Cert.InFirstRefIdeal.main_v51) = v0 c
          ∧ r.2.mem ((c.tc : Thread Cert.InFirstRefIdeal.nD Cert.InFirstRefIdeal.τ).loc Cert.InFirstRefIdeal.main_v52) = v1 c
          ∧ r.2.mem ((c.tc : Thread Cert.InFirstRefIdeal.nD Cert.InFirstRefIdeal.τ).loc Cert.InFirstRefIdeal.main_arg0) = m' ((c.tc : Thread Cert.InFirstRefIdeal.nD Cert.InFirstRefIdeal.τ).loc Cert.InFirstRefIdeal.main_arg0)
          ∧ r.2.mem ((c.tc : Thread Cert.InFirstRefIdeal.nD Cert.InFirstRefIdeal.τ).loc Cert.InFirstRefIdeal.main_arg1) = m' ((c.tc : Thread Cert.InFirstRefIdeal.nD Cert.InFirstRefIdeal.τ).loc Cert.InFirstRefIdeal.main_arg1)
          ∧ r.2.mem ((c.tc : Thread Cert.InFirstRefIdeal.nD Cert.InFirstRefIdeal.τ).loc Cert.InFirstRefIdeal.main_arg2) = m' ((c.tc : Thread Cert.InFirstRefIdeal.nD Cert.InFirstRefIdeal.τ).loc Cert.InFirstRefIdeal.main_arg2)
          ∧ r.2.mem ((c.tc : Thread Cert.InFirstRefIdeal.nD Cert.InFirstRefIdeal.τ).loc Cert.InFirstRefIdeal.main_arg3) = m' ((c.tc : Thread Cert.InFirstRefIdeal.nD Cert.InFirstRefIdeal.τ).loc Cert.InFirstRefIdeal.main_arg3)
          ∧ r.2.mem ((c.tc : Thread Cert.InFirstRefIdeal.nD Cert.InFirstRefIdeal.τ).loc Cert.InFirstRefIdeal.main_arg4) = m' ((c.tc : Thread Cert.InFirstRefIdeal.nD Cert.InFirstRefIdeal.τ).loc Cert.InFirstRefIdeal.main_arg4)
          ∧ r.2.mem ((c.tc : Thread Cert.InFirstRefIdeal.nD Cert.InFirstRefIdeal.τ).loc Cert.InFirstRefIdeal.main_arg5) = m' ((c.tc : Thread Cert.InFirstRefIdeal.nD Cert.InFirstRefIdeal.τ).loc Cert.InFirstRefIdeal.main_arg5)
          ∧ r.2.mem ((c.tc : Thread Cert.InFirstRefIdeal.nD Cert.InFirstRefIdeal.τ).loc Cert.InFirstRefIdeal.main_arg6) = m' ((c.tc : Thread Cert.InFirstRefIdeal.nD Cert.InFirstRefIdeal.τ).loc Cert.InFirstRefIdeal.main_arg6))

def preserves_HidGrad_HidGradIdeal : Prop :=
  True

def algebraic_HidGradIdeal_HidRefIdeal_pre_finite_hidden [hHidGradIdeal : Cert.HidGradIdeal.Facts] [hHidRefIdeal : Cert.HidRefIdeal.Facts] [hPre_finite_hidden : Cert.Pre_finite_hidden.Facts] : Prop :=
  ∀ (m : (ℓ : Loc Cert.HidGradIdeal.nD Cert.HidGradIdeal.τ Cert.HidGradIdeal.sig) → Buf (Elt Ideal) ℓ) (g : Dev Cert.HidGradIdeal.nD → PrngReg)
    (m' : (ℓ : Loc Cert.HidRefIdeal.nD Cert.HidRefIdeal.τ Cert.HidRefIdeal.sig) → Buf (Elt Ideal) ℓ) (g' : Dev Cert.HidRefIdeal.nD → PrngReg), Pre_HidGradIdeal_finite_hidden m →
    (∀ c : Dev Cert.HidGradIdeal.nD,
      m' ((c.tc : Thread Cert.HidRefIdeal.nD Cert.HidRefIdeal.τ).loc Cert.HidRefIdeal.main_arg0) = m ((c.tc : Thread Cert.HidGradIdeal.nD Cert.HidGradIdeal.τ).loc Cert.HidGradIdeal.main_arg0)
      ∧ m' ((c.tc : Thread Cert.HidRefIdeal.nD Cert.HidRefIdeal.τ).loc Cert.HidRefIdeal.main_arg1) = m ((c.tc : Thread Cert.HidGradIdeal.nD Cert.HidGradIdeal.τ).loc Cert.HidGradIdeal.main_arg1)
      ∧ m' ((c.tc : Thread Cert.HidRefIdeal.nD Cert.HidRefIdeal.τ).loc Cert.HidRefIdeal.main_arg2) = m ((c.tc : Thread Cert.HidGradIdeal.nD Cert.HidGradIdeal.τ).loc Cert.HidGradIdeal.main_arg2)
      ∧ m' ((c.tc : Thread Cert.HidRefIdeal.nD Cert.HidRefIdeal.τ).loc Cert.HidRefIdeal.main_arg3) = m ((c.tc : Thread Cert.HidGradIdeal.nD Cert.HidGradIdeal.τ).loc Cert.HidGradIdeal.main_arg3)) →
    ∃ (v0 : (c : Dev Cert.HidGradIdeal.nD) → Buf (Elt Ideal) ((c.tc : Thread Cert.HidGradIdeal.nD Cert.HidGradIdeal.τ).loc Cert.HidGradIdeal.main_v15_0)) (v1 : (c : Dev Cert.HidGradIdeal.nD) → Buf (Elt Ideal) ((c.tc : Thread Cert.HidGradIdeal.nD Cert.HidGradIdeal.τ).loc Cert.HidGradIdeal.main_v15_1)),
      θ_run (Cert.HidGradIdeal.defs (F := Ideal)) (onTc (τ := Cert.HidGradIdeal.τ) (Cert.HidGradIdeal.main (F := Ideal))) ⟨m, fun _ => 0, g⟩ (fun r => ∀ c : Dev Cert.HidGradIdeal.nD,
          r.2.mem ((c.tc : Thread Cert.HidGradIdeal.nD Cert.HidGradIdeal.τ).loc Cert.HidGradIdeal.main_v15_0) = v0 c
          ∧ r.2.mem ((c.tc : Thread Cert.HidGradIdeal.nD Cert.HidGradIdeal.τ).loc Cert.HidGradIdeal.main_v15_1) = v1 c
          ∧ r.2.mem ((c.tc : Thread Cert.HidGradIdeal.nD Cert.HidGradIdeal.τ).loc Cert.HidGradIdeal.main_arg0) = m ((c.tc : Thread Cert.HidGradIdeal.nD Cert.HidGradIdeal.τ).loc Cert.HidGradIdeal.main_arg0)
          ∧ r.2.mem ((c.tc : Thread Cert.HidGradIdeal.nD Cert.HidGradIdeal.τ).loc Cert.HidGradIdeal.main_arg1) = m ((c.tc : Thread Cert.HidGradIdeal.nD Cert.HidGradIdeal.τ).loc Cert.HidGradIdeal.main_arg1)
          ∧ r.2.mem ((c.tc : Thread Cert.HidGradIdeal.nD Cert.HidGradIdeal.τ).loc Cert.HidGradIdeal.main_arg2) = m ((c.tc : Thread Cert.HidGradIdeal.nD Cert.HidGradIdeal.τ).loc Cert.HidGradIdeal.main_arg2)
          ∧ r.2.mem ((c.tc : Thread Cert.HidGradIdeal.nD Cert.HidGradIdeal.τ).loc Cert.HidGradIdeal.main_arg3) = m ((c.tc : Thread Cert.HidGradIdeal.nD Cert.HidGradIdeal.τ).loc Cert.HidGradIdeal.main_arg3))
      ∧ θ_run (Cert.HidRefIdeal.defs (F := Ideal)) (onTc (τ := Cert.HidRefIdeal.τ) (Cert.HidRefIdeal.main (F := Ideal))) ⟨m', fun _ => 0, g'⟩ (fun r => ∀ c : Dev Cert.HidRefIdeal.nD,
          r.2.mem ((c.tc : Thread Cert.HidRefIdeal.nD Cert.HidRefIdeal.τ).loc Cert.HidRefIdeal.main_v12) = v0 c
          ∧ r.2.mem ((c.tc : Thread Cert.HidRefIdeal.nD Cert.HidRefIdeal.τ).loc Cert.HidRefIdeal.main_v15) = v1 c
          ∧ r.2.mem ((c.tc : Thread Cert.HidRefIdeal.nD Cert.HidRefIdeal.τ).loc Cert.HidRefIdeal.main_arg0) = m' ((c.tc : Thread Cert.HidRefIdeal.nD Cert.HidRefIdeal.τ).loc Cert.HidRefIdeal.main_arg0)
          ∧ r.2.mem ((c.tc : Thread Cert.HidRefIdeal.nD Cert.HidRefIdeal.τ).loc Cert.HidRefIdeal.main_arg1) = m' ((c.tc : Thread Cert.HidRefIdeal.nD Cert.HidRefIdeal.τ).loc Cert.HidRefIdeal.main_arg1)
          ∧ r.2.mem ((c.tc : Thread Cert.HidRefIdeal.nD Cert.HidRefIdeal.τ).loc Cert.HidRefIdeal.main_arg2) = m' ((c.tc : Thread Cert.HidRefIdeal.nD Cert.HidRefIdeal.τ).loc Cert.HidRefIdeal.main_arg2)
          ∧ r.2.mem ((c.tc : Thread Cert.HidRefIdeal.nD Cert.HidRefIdeal.τ).loc Cert.HidRefIdeal.main_arg3) = m' ((c.tc : Thread Cert.HidRefIdeal.nD Cert.HidRefIdeal.τ).loc Cert.HidRefIdeal.main_arg3))

def preserves_HidFirstGrad_HidFirstGradIdeal : Prop :=
  True

def algebraic_HidFirstGradIdeal_HidFirstRefIdeal_pre_finite_hidden [hHidFirstGradIdeal : Cert.HidFirstGradIdeal.Facts] [hHidFirstRefIdeal : Cert.HidFirstRefIdeal.Facts] [hPre_finite_hidden : Cert.Pre_finite_hidden.Facts] : Prop :=
  ∀ (m : (ℓ : Loc Cert.HidFirstGradIdeal.nD Cert.HidFirstGradIdeal.τ Cert.HidFirstGradIdeal.sig) → Buf (Elt Ideal) ℓ) (g : Dev Cert.HidFirstGradIdeal.nD → PrngReg)
    (m' : (ℓ : Loc Cert.HidFirstRefIdeal.nD Cert.HidFirstRefIdeal.τ Cert.HidFirstRefIdeal.sig) → Buf (Elt Ideal) ℓ) (g' : Dev Cert.HidFirstRefIdeal.nD → PrngReg), Pre_HidFirstGradIdeal_finite_hidden m →
    (∀ c : Dev Cert.HidFirstGradIdeal.nD,
      m' ((c.tc : Thread Cert.HidFirstRefIdeal.nD Cert.HidFirstRefIdeal.τ).loc Cert.HidFirstRefIdeal.main_arg0) = m ((c.tc : Thread Cert.HidFirstGradIdeal.nD Cert.HidFirstGradIdeal.τ).loc Cert.HidFirstGradIdeal.main_arg0)
      ∧ m' ((c.tc : Thread Cert.HidFirstRefIdeal.nD Cert.HidFirstRefIdeal.τ).loc Cert.HidFirstRefIdeal.main_arg1) = m ((c.tc : Thread Cert.HidFirstGradIdeal.nD Cert.HidFirstGradIdeal.τ).loc Cert.HidFirstGradIdeal.main_arg1)
      ∧ m' ((c.tc : Thread Cert.HidFirstRefIdeal.nD Cert.HidFirstRefIdeal.τ).loc Cert.HidFirstRefIdeal.main_arg2) = m ((c.tc : Thread Cert.HidFirstGradIdeal.nD Cert.HidFirstGradIdeal.τ).loc Cert.HidFirstGradIdeal.main_arg2)
      ∧ m' ((c.tc : Thread Cert.HidFirstRefIdeal.nD Cert.HidFirstRefIdeal.τ).loc Cert.HidFirstRefIdeal.main_arg3) = m ((c.tc : Thread Cert.HidFirstGradIdeal.nD Cert.HidFirstGradIdeal.τ).loc Cert.HidFirstGradIdeal.main_arg3)) →
    ∃ (v0 : (c : Dev Cert.HidFirstGradIdeal.nD) → Buf (Elt Ideal) ((c.tc : Thread Cert.HidFirstGradIdeal.nD Cert.HidFirstGradIdeal.τ).loc Cert.HidFirstGradIdeal.main_v15_0)) (v1 : (c : Dev Cert.HidFirstGradIdeal.nD) → Buf (Elt Ideal) ((c.tc : Thread Cert.HidFirstGradIdeal.nD Cert.HidFirstGradIdeal.τ).loc Cert.HidFirstGradIdeal.main_v15_1)),
      θ_run (Cert.HidFirstGradIdeal.defs (F := Ideal)) (onTc (τ := Cert.HidFirstGradIdeal.τ) (Cert.HidFirstGradIdeal.main (F := Ideal))) ⟨m, fun _ => 0, g⟩ (fun r => ∀ c : Dev Cert.HidFirstGradIdeal.nD,
          r.2.mem ((c.tc : Thread Cert.HidFirstGradIdeal.nD Cert.HidFirstGradIdeal.τ).loc Cert.HidFirstGradIdeal.main_v15_0) = v0 c
          ∧ r.2.mem ((c.tc : Thread Cert.HidFirstGradIdeal.nD Cert.HidFirstGradIdeal.τ).loc Cert.HidFirstGradIdeal.main_v15_1) = v1 c
          ∧ r.2.mem ((c.tc : Thread Cert.HidFirstGradIdeal.nD Cert.HidFirstGradIdeal.τ).loc Cert.HidFirstGradIdeal.main_arg0) = m ((c.tc : Thread Cert.HidFirstGradIdeal.nD Cert.HidFirstGradIdeal.τ).loc Cert.HidFirstGradIdeal.main_arg0)
          ∧ r.2.mem ((c.tc : Thread Cert.HidFirstGradIdeal.nD Cert.HidFirstGradIdeal.τ).loc Cert.HidFirstGradIdeal.main_arg1) = m ((c.tc : Thread Cert.HidFirstGradIdeal.nD Cert.HidFirstGradIdeal.τ).loc Cert.HidFirstGradIdeal.main_arg1)
          ∧ r.2.mem ((c.tc : Thread Cert.HidFirstGradIdeal.nD Cert.HidFirstGradIdeal.τ).loc Cert.HidFirstGradIdeal.main_arg2) = m ((c.tc : Thread Cert.HidFirstGradIdeal.nD Cert.HidFirstGradIdeal.τ).loc Cert.HidFirstGradIdeal.main_arg2)
          ∧ r.2.mem ((c.tc : Thread Cert.HidFirstGradIdeal.nD Cert.HidFirstGradIdeal.τ).loc Cert.HidFirstGradIdeal.main_arg3) = m ((c.tc : Thread Cert.HidFirstGradIdeal.nD Cert.HidFirstGradIdeal.τ).loc Cert.HidFirstGradIdeal.main_arg3))
      ∧ θ_run (Cert.HidFirstRefIdeal.defs (F := Ideal)) (onTc (τ := Cert.HidFirstRefIdeal.τ) (Cert.HidFirstRefIdeal.main (F := Ideal))) ⟨m', fun _ => 0, g'⟩ (fun r => ∀ c : Dev Cert.HidFirstRefIdeal.nD,
          r.2.mem ((c.tc : Thread Cert.HidFirstRefIdeal.nD Cert.HidFirstRefIdeal.τ).loc Cert.HidFirstRefIdeal.main_v12) = v0 c
          ∧ r.2.mem ((c.tc : Thread Cert.HidFirstRefIdeal.nD Cert.HidFirstRefIdeal.τ).loc Cert.HidFirstRefIdeal.main_v15) = v1 c
          ∧ r.2.mem ((c.tc : Thread Cert.HidFirstRefIdeal.nD Cert.HidFirstRefIdeal.τ).loc Cert.HidFirstRefIdeal.main_arg0) = m' ((c.tc : Thread Cert.HidFirstRefIdeal.nD Cert.HidFirstRefIdeal.τ).loc Cert.HidFirstRefIdeal.main_arg0)
          ∧ r.2.mem ((c.tc : Thread Cert.HidFirstRefIdeal.nD Cert.HidFirstRefIdeal.τ).loc Cert.HidFirstRefIdeal.main_arg1) = m' ((c.tc : Thread Cert.HidFirstRefIdeal.nD Cert.HidFirstRefIdeal.τ).loc Cert.HidFirstRefIdeal.main_arg1)
          ∧ r.2.mem ((c.tc : Thread Cert.HidFirstRefIdeal.nD Cert.HidFirstRefIdeal.τ).loc Cert.HidFirstRefIdeal.main_arg2) = m' ((c.tc : Thread Cert.HidFirstRefIdeal.nD Cert.HidFirstRefIdeal.τ).loc Cert.HidFirstRefIdeal.main_arg2)
          ∧ r.2.mem ((c.tc : Thread Cert.HidFirstRefIdeal.nD Cert.HidFirstRefIdeal.τ).loc Cert.HidFirstRefIdeal.main_arg3) = m' ((c.tc : Thread Cert.HidFirstRefIdeal.nD Cert.HidFirstRefIdeal.τ).loc Cert.HidFirstRefIdeal.main_arg3))

def preserves_Gates_GatesIdeal : Prop :=
  True

def algebraic_GatesIdeal_GatesRefIdeal_pre_finite_gates [hGatesIdeal : Cert.GatesIdeal.Facts] [hGatesRefIdeal : Cert.GatesRefIdeal.Facts] [hPre_finite_gates : Cert.Pre_finite_gates.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_finite_gates m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v6_0)) (v1 : (c : Dev Cert.GatesIdeal.nD) → Buf (Elt Ideal) ((c.tc : Thread Cert.GatesIdeal.nD Cert.GatesIdeal.τ).loc Cert.GatesIdeal.main_v6_1)) (v2 : (c : Dev Cert.GatesIdeal.nD) → Buf (Elt Ideal) ((c.tc : Thread Cert.GatesIdeal.nD Cert.GatesIdeal.τ).loc Cert.GatesIdeal.main_v6_2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v6_0) = v0 c
          ∧ r.2.mem ((c.tc : Thread Cert.GatesIdeal.nD Cert.GatesIdeal.τ).loc Cert.GatesIdeal.main_v6_1) = v1 c
          ∧ r.2.mem ((c.tc : Thread Cert.GatesIdeal.nD Cert.GatesIdeal.τ).loc Cert.GatesIdeal.main_v6_2) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v17) = v0 c
          ∧ r.2.mem ((c.tc : Thread Cert.GatesRefIdeal.nD Cert.GatesRefIdeal.τ).loc Cert.GatesRefIdeal.main_v20) = v1 c
          ∧ r.2.mem ((c.tc : Thread Cert.GatesRefIdeal.nD Cert.GatesRefIdeal.τ).loc Cert.GatesRefIdeal.main_v23) = v2 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_GatesFirst_GatesFirstIdeal : Prop :=
  True

def algebraic_GatesFirstIdeal_GatesFirstRefIdeal_pre_finite_gates [hGatesFirstIdeal : Cert.GatesFirstIdeal.Facts] [hGatesFirstRefIdeal : Cert.GatesFirstRefIdeal.Facts] [hPre_finite_gates : Cert.Pre_finite_gates.Facts] : Prop :=
  ∀ (m : (ℓ : Loc Cert.GatesFirstIdeal.nD Cert.GatesFirstIdeal.τ Cert.GatesFirstIdeal.sig) → Buf (Elt Ideal) ℓ) (g : Dev Cert.GatesFirstIdeal.nD → PrngReg)
    (m' : (ℓ : Loc Cert.GatesFirstRefIdeal.nD Cert.GatesFirstRefIdeal.τ Cert.GatesFirstRefIdeal.sig) → Buf (Elt Ideal) ℓ) (g' : Dev Cert.GatesFirstRefIdeal.nD → PrngReg), Pre_GatesFirstIdeal_finite_gates m →
    (∀ c : Dev Cert.GatesFirstIdeal.nD,
      m' ((c.tc : Thread Cert.GatesFirstRefIdeal.nD Cert.GatesFirstRefIdeal.τ).loc Cert.GatesFirstRefIdeal.main_arg0) = m ((c.tc : Thread Cert.GatesFirstIdeal.nD Cert.GatesFirstIdeal.τ).loc Cert.GatesFirstIdeal.main_arg0)
      ∧ m' ((c.tc : Thread Cert.GatesFirstRefIdeal.nD Cert.GatesFirstRefIdeal.τ).loc Cert.GatesFirstRefIdeal.main_arg1) = m ((c.tc : Thread Cert.GatesFirstIdeal.nD Cert.GatesFirstIdeal.τ).loc Cert.GatesFirstIdeal.main_arg1)
      ∧ m' ((c.tc : Thread Cert.GatesFirstRefIdeal.nD Cert.GatesFirstRefIdeal.τ).loc Cert.GatesFirstRefIdeal.main_arg2) = m ((c.tc : Thread Cert.GatesFirstIdeal.nD Cert.GatesFirstIdeal.τ).loc Cert.GatesFirstIdeal.main_arg2)) →
    ∃ (v0 : (c : Dev Cert.GatesFirstIdeal.nD) → Buf (Elt Ideal) ((c.tc : Thread Cert.GatesFirstIdeal.nD Cert.GatesFirstIdeal.τ).loc Cert.GatesFirstIdeal.main_v6_0)) (v1 : (c : Dev Cert.GatesFirstIdeal.nD) → Buf (Elt Ideal) ((c.tc : Thread Cert.GatesFirstIdeal.nD Cert.GatesFirstIdeal.τ).loc Cert.GatesFirstIdeal.main_v6_1)) (v2 : (c : Dev Cert.GatesFirstIdeal.nD) → Buf (Elt Ideal) ((c.tc : Thread Cert.GatesFirstIdeal.nD Cert.GatesFirstIdeal.τ).loc Cert.GatesFirstIdeal.main_v6_2)),
      θ_run (Cert.GatesFirstIdeal.defs (F := Ideal)) (onTc (τ := Cert.GatesFirstIdeal.τ) (Cert.GatesFirstIdeal.main (F := Ideal))) ⟨m, fun _ => 0, g⟩ (fun r => ∀ c : Dev Cert.GatesFirstIdeal.nD,
          r.2.mem ((c.tc : Thread Cert.GatesFirstIdeal.nD Cert.GatesFirstIdeal.τ).loc Cert.GatesFirstIdeal.main_v6_0) = v0 c
          ∧ r.2.mem ((c.tc : Thread Cert.GatesFirstIdeal.nD Cert.GatesFirstIdeal.τ).loc Cert.GatesFirstIdeal.main_v6_1) = v1 c
          ∧ r.2.mem ((c.tc : Thread Cert.GatesFirstIdeal.nD Cert.GatesFirstIdeal.τ).loc Cert.GatesFirstIdeal.main_v6_2) = v2 c
          ∧ r.2.mem ((c.tc : Thread Cert.GatesFirstIdeal.nD Cert.GatesFirstIdeal.τ).loc Cert.GatesFirstIdeal.main_arg0) = m ((c.tc : Thread Cert.GatesFirstIdeal.nD Cert.GatesFirstIdeal.τ).loc Cert.GatesFirstIdeal.main_arg0)
          ∧ r.2.mem ((c.tc : Thread Cert.GatesFirstIdeal.nD Cert.GatesFirstIdeal.τ).loc Cert.GatesFirstIdeal.main_arg1) = m ((c.tc : Thread Cert.GatesFirstIdeal.nD Cert.GatesFirstIdeal.τ).loc Cert.GatesFirstIdeal.main_arg1)
          ∧ r.2.mem ((c.tc : Thread Cert.GatesFirstIdeal.nD Cert.GatesFirstIdeal.τ).loc Cert.GatesFirstIdeal.main_arg2) = m ((c.tc : Thread Cert.GatesFirstIdeal.nD Cert.GatesFirstIdeal.τ).loc Cert.GatesFirstIdeal.main_arg2))
      ∧ θ_run (Cert.GatesFirstRefIdeal.defs (F := Ideal)) (onTc (τ := Cert.GatesFirstRefIdeal.τ) (Cert.GatesFirstRefIdeal.main (F := Ideal))) ⟨m', fun _ => 0, g'⟩ (fun r => ∀ c : Dev Cert.GatesFirstRefIdeal.nD,
          r.2.mem ((c.tc : Thread Cert.GatesFirstRefIdeal.nD Cert.GatesFirstRefIdeal.τ).loc Cert.GatesFirstRefIdeal.main_v17) = v0 c
          ∧ r.2.mem ((c.tc : Thread Cert.GatesFirstRefIdeal.nD Cert.GatesFirstRefIdeal.τ).loc Cert.GatesFirstRefIdeal.main_v20) = v1 c
          ∧ r.2.mem ((c.tc : Thread Cert.GatesFirstRefIdeal.nD Cert.GatesFirstRefIdeal.τ).loc Cert.GatesFirstRefIdeal.main_v23) = v2 c
          ∧ r.2.mem ((c.tc : Thread Cert.GatesFirstRefIdeal.nD Cert.GatesFirstRefIdeal.τ).loc Cert.GatesFirstRefIdeal.main_arg0) = m' ((c.tc : Thread Cert.GatesFirstRefIdeal.nD Cert.GatesFirstRefIdeal.τ).loc Cert.GatesFirstRefIdeal.main_arg0)
          ∧ r.2.mem ((c.tc : Thread Cert.GatesFirstRefIdeal.nD Cert.GatesFirstRefIdeal.τ).loc Cert.GatesFirstRefIdeal.main_arg1) = m' ((c.tc : Thread Cert.GatesFirstRefIdeal.nD Cert.GatesFirstRefIdeal.τ).loc Cert.GatesFirstRefIdeal.main_arg1)
          ∧ r.2.mem ((c.tc : Thread Cert.GatesFirstRefIdeal.nD Cert.GatesFirstRefIdeal.τ).loc Cert.GatesFirstRefIdeal.main_arg2) = m' ((c.tc : Thread Cert.GatesFirstRefIdeal.nD Cert.GatesFirstRefIdeal.τ).loc Cert.GatesFirstRefIdeal.main_arg2))

def Claim : Prop :=
  ∃ (hConvBwd : Cert.ConvBwd.Facts) (hConvBwdIdeal : Cert.ConvBwdIdeal.Facts) (hConvRefIdeal : Cert.ConvRefIdeal.Facts) (hAttnBwd : Cert.AttnBwd.Facts) (hAttnBwdIdeal : Cert.AttnBwdIdeal.Facts) (hAttnRefIdeal : Cert.AttnRefIdeal.Facts) (hDownGrad : Cert.DownGrad.Facts) (hDownGradIdeal : Cert.DownGradIdeal.Facts) (hDownRefIdeal : Cert.DownRefIdeal.Facts) (hUpGrad : Cert.UpGrad.Facts) (hUpGradIdeal : Cert.UpGradIdeal.Facts) (hUpRefIdeal : Cert.UpRefIdeal.Facts) (hInGrad : Cert.InGrad.Facts) (hInGradIdeal : Cert.InGradIdeal.Facts) (hInRefIdeal : Cert.InRefIdeal.Facts) (hInFirstGrad : Cert.InFirstGrad.Facts) (hInFirstGradIdeal : Cert.InFirstGradIdeal.Facts) (hInFirstRefIdeal : Cert.InFirstRefIdeal.Facts) (hHidGrad : Cert.HidGrad.Facts) (hHidGradIdeal : Cert.HidGradIdeal.Facts) (hHidRefIdeal : Cert.HidRefIdeal.Facts) (hHidFirstGrad : Cert.HidFirstGrad.Facts) (hHidFirstGradIdeal : Cert.HidFirstGradIdeal.Facts) (hHidFirstRefIdeal : Cert.HidFirstRefIdeal.Facts) (hGates : Cert.Gates.Facts) (hGatesIdeal : Cert.GatesIdeal.Facts) (hGatesRefIdeal : Cert.GatesRefIdeal.Facts) (hGatesFirst : Cert.GatesFirst.Facts) (hGatesFirstIdeal : Cert.GatesFirstIdeal.Facts) (hGatesFirstRefIdeal : Cert.GatesFirstRefIdeal.Facts) (hPre_finite : Cert.Pre_finite.Facts) (hPre_finite_hidden : Cert.Pre_finite_hidden.Facts) (hPre_finite_gates : Cert.Pre_finite_gates.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_AttnBwd (hAttnBwd := hAttnBwd)
    ∧ quiescent_AttnBwdIdeal (hAttnBwdIdeal := hAttnBwdIdeal)
    ∧ quiescent_AttnBwdIdeal_pre_finite (hAttnBwdIdeal := hAttnBwdIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_DownGrad (hDownGrad := hDownGrad)
    ∧ quiescent_DownGradIdeal (hDownGradIdeal := hDownGradIdeal)
    ∧ quiescent_DownRefIdeal (hDownRefIdeal := hDownRefIdeal)
    ∧ quiescent_UpGrad (hUpGrad := hUpGrad)
    ∧ quiescent_UpGradIdeal (hUpGradIdeal := hUpGradIdeal)
    ∧ quiescent_UpRefIdeal (hUpRefIdeal := hUpRefIdeal)
    ∧ quiescent_InGrad (hInGrad := hInGrad)
    ∧ quiescent_InGradIdeal (hInGradIdeal := hInGradIdeal)
    ∧ quiescent_InRefIdeal (hInRefIdeal := hInRefIdeal)
    ∧ quiescent_InFirstGrad (hInFirstGrad := hInFirstGrad)
    ∧ quiescent_InFirstGradIdeal (hInFirstGradIdeal := hInFirstGradIdeal)
    ∧ quiescent_InFirstRefIdeal (hInFirstRefIdeal := hInFirstRefIdeal)
    ∧ quiescent_HidGrad (hHidGrad := hHidGrad)
    ∧ quiescent_HidGradIdeal (hHidGradIdeal := hHidGradIdeal)
    ∧ quiescent_HidGradIdeal_pre_finite_hidden (hHidGradIdeal := hHidGradIdeal) (hPre_finite_hidden := hPre_finite_hidden)
    ∧ quiescent_HidRefIdeal (hHidRefIdeal := hHidRefIdeal)
    ∧ quiescent_HidRefIdeal_pre_finite_hidden (hHidRefIdeal := hHidRefIdeal) (hPre_finite_hidden := hPre_finite_hidden)
    ∧ quiescent_HidFirstGrad (hHidFirstGrad := hHidFirstGrad)
    ∧ quiescent_HidFirstGradIdeal (hHidFirstGradIdeal := hHidFirstGradIdeal)
    ∧ quiescent_HidFirstGradIdeal_pre_finite_hidden (hHidFirstGradIdeal := hHidFirstGradIdeal) (hPre_finite_hidden := hPre_finite_hidden)
    ∧ quiescent_HidFirstRefIdeal (hHidFirstRefIdeal := hHidFirstRefIdeal)
    ∧ quiescent_HidFirstRefIdeal_pre_finite_hidden (hHidFirstRefIdeal := hHidFirstRefIdeal) (hPre_finite_hidden := hPre_finite_hidden)
    ∧ quiescent_Gates (hGates := hGates)
    ∧ quiescent_GatesIdeal (hGatesIdeal := hGatesIdeal)
    ∧ quiescent_GatesIdeal_pre_finite_gates (hGatesIdeal := hGatesIdeal) (hPre_finite_gates := hPre_finite_gates)
    ∧ quiescent_GatesRefIdeal (hGatesRefIdeal := hGatesRefIdeal)
    ∧ quiescent_GatesRefIdeal_pre_finite_gates (hGatesRefIdeal := hGatesRefIdeal) (hPre_finite_gates := hPre_finite_gates)
    ∧ quiescent_GatesFirst (hGatesFirst := hGatesFirst)
    ∧ quiescent_GatesFirstIdeal (hGatesFirstIdeal := hGatesFirstIdeal)
    ∧ quiescent_GatesFirstIdeal_pre_finite_gates (hGatesFirstIdeal := hGatesFirstIdeal) (hPre_finite_gates := hPre_finite_gates)
    ∧ quiescent_GatesFirstRefIdeal (hGatesFirstRefIdeal := hGatesFirstRefIdeal)
    ∧ quiescent_GatesFirstRefIdeal_pre_finite_gates (hGatesFirstRefIdeal := hGatesFirstRefIdeal) (hPre_finite_gates := hPre_finite_gates)
    ∧ preserves_ConvBwd_ConvBwdIdeal
    ∧ algebraic_ConvBwdIdeal_ConvRefIdeal (hConvBwdIdeal := hConvBwdIdeal) (hConvRefIdeal := hConvRefIdeal)
    ∧ preserves_AttnBwd_AttnBwdIdeal
    ∧ algebraic_AttnBwdIdeal_AttnRefIdeal_pre_finite (hAttnBwdIdeal := hAttnBwdIdeal) (hAttnRefIdeal := hAttnRefIdeal) (hPre_finite := hPre_finite)
    ∧ preserves_DownGrad_DownGradIdeal
    ∧ algebraic_DownGradIdeal_DownRefIdeal (hDownGradIdeal := hDownGradIdeal) (hDownRefIdeal := hDownRefIdeal)
    ∧ preserves_UpGrad_UpGradIdeal
    ∧ algebraic_UpGradIdeal_UpRefIdeal (hUpGradIdeal := hUpGradIdeal) (hUpRefIdeal := hUpRefIdeal)
    ∧ preserves_InGrad_InGradIdeal
    ∧ algebraic_InGradIdeal_InRefIdeal (hInGradIdeal := hInGradIdeal) (hInRefIdeal := hInRefIdeal)
    ∧ preserves_InFirstGrad_InFirstGradIdeal
    ∧ algebraic_InFirstGradIdeal_InFirstRefIdeal (hInFirstGradIdeal := hInFirstGradIdeal) (hInFirstRefIdeal := hInFirstRefIdeal)
    ∧ preserves_HidGrad_HidGradIdeal
    ∧ algebraic_HidGradIdeal_HidRefIdeal_pre_finite_hidden (hHidGradIdeal := hHidGradIdeal) (hHidRefIdeal := hHidRefIdeal) (hPre_finite_hidden := hPre_finite_hidden)
    ∧ preserves_HidFirstGrad_HidFirstGradIdeal
    ∧ algebraic_HidFirstGradIdeal_HidFirstRefIdeal_pre_finite_hidden (hHidFirstGradIdeal := hHidFirstGradIdeal) (hHidFirstRefIdeal := hHidFirstRefIdeal) (hPre_finite_hidden := hPre_finite_hidden)
    ∧ preserves_Gates_GatesIdeal
    ∧ algebraic_GatesIdeal_GatesRefIdeal_pre_finite_gates (hGatesIdeal := hGatesIdeal) (hGatesRefIdeal := hGatesRefIdeal) (hPre_finite_gates := hPre_finite_gates)
    ∧ preserves_GatesFirst_GatesFirstIdeal
    ∧ algebraic_GatesFirstIdeal_GatesFirstRefIdeal_pre_finite_gates (hGatesFirstIdeal := hGatesFirstIdeal) (hGatesFirstRefIdeal := hGatesFirstRefIdeal) (hPre_finite_gates := hPre_finite_gates)
-- ==== Pre_finite.lean ====
abbrev S8x4096x192 : Shape := ⟨3, ![8, 4096, 192]⟩
abbrev S8x4096x128 : Shape := ⟨3, ![8, 4096, 128]⟩
abbrev S4096x1024 : Shape := ⟨2, ![4096, 1024]⟩
abbrev S_ : Shape := ⟨0, ![]⟩

class Facts : Prop where
  bcast_S_S8x4096x192 : S_.BroadcastsInDim S8x4096x192 (![] : Fin 0 → Fin S8x4096x192.rank)
  bcast_S_S8x4096x128 : S_.BroadcastsInDim S8x4096x128 (![] : Fin 0 → Fin S8x4096x128.rank)
  bcast_S_S4096x1024 : S_.BroadcastsInDim S4096x1024 (![] : Fin 0 → Fin S4096x1024.rank)

variable [Facts]

def fn {F : FTy → Type} [FloatOps F] (main_arg0 : FVec F S8x4096x192 .bf16) (main_arg1 : FVec F S8x4096x192 .bf16) (main_arg2 : FVec F S8x4096x128 .bf16) (main_arg3 : FVec F S4096x1024 .f32) : IVec S8x4096x192 1 × IVec S8x4096x192 1 × IVec S8x4096x128 1 × IVec S4096x1024 1 :=
  let main_v0 : FVec F S8x4096x192 .bf16 := Host.absf main_arg0
  let main_cst : FVec F S_ .bf16 := constant S_ .bf16 0x7F80#16
  let main_v1 : FVec F S8x4096x192 .bf16 := broadcastInDim S8x4096x192 ![] bcast_S_S8x4096x192 main_cst
  let main_v2 : IVec S8x4096x192 1 := cmpf .olt main_v0 main_v1
  let main_v3 : FVec F S8x4096x192 .bf16 := Host.absf main_arg1
  let main_cst_0 : FVec F S_ .bf16 := constant S_ .bf16 0x7F80#16
  let main_v4 : FVec F S8x4096x192 .bf16 := broadcastInDim S8x4096x192 ![] bcast_S_S8x4096x192 main_cst_0
  let main_v5 : IVec S8x4096x192 1 := cmpf .olt main_v3 main_v4
  let main_v6 : FVec F S8x4096x128 .bf16 := Host.absf main_arg2
  let main_cst_1 : FVec F S_ .bf16 := constant S_ .bf16 0x7F80#16
  let main_v7 : FVec F S8x4096x128 .bf16 := broadcastInDim S8x4096x128 ![] bcast_S_S8x4096x128 main_cst_1
  let main_v8 : IVec S8x4096x128 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_gates.lean ====
abbrev S4096x1024 : Shape := ⟨2, ![4096, 1024]⟩
abbrev S2x1024x2816 : Shape := ⟨3, ![2, 1024, 2816]⟩
abbrev S_ : Shape := ⟨0, ![]⟩

class Facts : Prop where
  bcast_S_S4096x1024 : S_.BroadcastsInDim S4096x1024 (![] : Fin 0 → Fin S4096x1024.rank)
  bcast_S_S2x1024x2816 : S_.BroadcastsInDim S2x1024x2816 (![] : Fin 0 → Fin S2x1024x2816.rank)

variable [Facts]

def fn {F : FTy → Type} [FloatOps F] (main_arg0 : FVec F S4096x1024 .bf16) (main_arg1 : FVec F S2x1024x2816 .bf16) (main_arg2 : FVec F S2x1024x2816 .bf16) : IVec S4096x1024 1 × IVec S2x1024x2816 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S2x1024x2816 .bf16 := Host.absf main_arg2
  let main_cst_0 : FVec F S_ .bf16 := constant S_ .bf16 0x7F80#16
  let main_v4 : FVec F S2x1024x2816 .bf16 := broadcastInDim S2x1024x2816 ![] bcast_S_S2x1024x2816 main_cst_0
  let main_v5 : IVec S2x1024x2816 1 := cmpf .olt main_v3 main_v4
  (main_v2, main_v5)
-- ==== Pre_finite_hidden.lean ====
abbrev S4096x2816 : Shape := ⟨2, ![4096, 2816]⟩
abbrev S2x2816x1024 : Shape := ⟨3, ![2, 2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S2x2816x1024 : S_.BroadcastsInDim S2x2816x1024 (![] : Fin 0 → Fin S2x2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S4096x2816 .f32) (main_arg2 : FVec F S2x2816x1024 .bf16) (main_arg3 : FVec F S4096x1024 .f32) : IVec S4096x2816 1 × IVec S2x2816x1024 1 × IVec S4096x1024 1 :=
  let main_v0 : FVec F S4096x2816 .f32 := Host.absf main_arg1
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2x2816x1024 .bf16 := Host.absf main_arg2
  let main_cst_0 : FVec F S_ .bf16 := constant S_ .bf16 0x7F80#16
  let main_v4 : FVec F S2x2816x1024 .bf16 := broadcastInDim S2x2816x1024 ![] bcast_S_S2x2816x1024 main_cst_0
  let main_v5 : IVec S2x2816x1024 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== ConvBwd.lean ====
abbrev S3x4096x1024 : Shape := ⟨3, ![3, 4096, 1024]⟩
abbrev S3x1024 : Shape := ⟨2, ![3, 1024]⟩
abbrev S4096x1024 : Shape := ⟨2, ![4096, 1024]⟩
abbrev S1x4096x128 : Shape := ⟨3, ![1, 4096, 128]⟩
abbrev S3x128 : Shape := ⟨2, ![3, 128]⟩
abbrev S4096x128 : Shape := ⟨2, ![4096, 128]⟩
abbrev S3x4096x128 : Shape := ⟨3, ![3, 4096, 128]⟩
abbrev S1x128 : Shape := ⟨2, ![1, 128]⟩
abbrev S128 : Shape := ⟨1, ![128]⟩

abbrev nBuf : Space → Nat
  | .hbm => 5
  | .vmem => 14
  | .smem => 0
  | _ => 0

abbrev bufTy : (tb : Table) → Fin (tcTables nBuf tb) → BufTy
  | .hbm, ⟨0, _⟩ => ⟨S3x4096x1024, .bf16⟩
  | .hbm, ⟨1, _⟩ => ⟨S3x1024, .f32⟩
  | .hbm, ⟨2, _⟩ => ⟨S4096x1024, .f32⟩
  | .hbm, ⟨3, _⟩ => ⟨S3x4096x1024, .bf16⟩
  | .hbm, ⟨4, _⟩ => ⟨S3x1024, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .f32⟩
  | .local _ .vmem, ⟨9, _⟩ => ⟨S4096x128, .f32⟩
  | .local _ .vmem, ⟨10, _⟩ => ⟨S3x4096x128, .bf16⟩
  | .local _ .vmem, ⟨11, _⟩ => ⟨S3x4096x128, .bf16⟩
  | .local _ .vmem, ⟨12, _⟩ => ⟨S3x128, .f32⟩
  | .local _ .vmem, ⟨13, _⟩ => ⟨S3x128, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S3x4096x1024 : Shape := ⟨3, ![3, 4096, 1024]⟩
abbrev S3x1024 : Shape := ⟨2, ![3, 1024]⟩
abbrev S4096x1024 : Shape := ⟨2, ![4096, 1024]⟩
abbrev S1x4096x1024 : Shape := ⟨3, ![1, 4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S3x1024, .f32⟩
  | .hbm, ⟨2, _⟩ => ⟨S4096x1024, .f32⟩
  | .hbm, ⟨3, _⟩ => ⟨S1x4096x1024, .bf16⟩
  | .hbm, ⟨4, _⟩ => ⟨S4096x1024, .bf16⟩
  | .hbm, ⟨5, _⟩ => ⟨S4096x1024, .f32⟩
  | .hbm, ⟨6, _⟩ => ⟨S1x4096x1024, .bf16⟩
  | .hbm, ⟨7, _⟩ => ⟨S4096x1024, .bf16⟩
  | .hbm, ⟨8, _⟩ => ⟨S4096x1024, .f32⟩
  | .hbm, ⟨9, _⟩ => ⟨S1x4096x1024, .bf16⟩
  | .hbm, ⟨10, _⟩ => ⟨S4096x1024, .bf16⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S2x1024, .f32⟩
  | .hbm, ⟨15, _⟩ => ⟨S4098x1024, .f32⟩
  | .hbm, ⟨16, _⟩ => ⟨S_, .f32⟩
  | .hbm, ⟨17, _⟩ => ⟨S2x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S4098x1024, .f32⟩
  | .hbm, ⟨43, _⟩ => ⟨S_, .f32⟩
  | .hbm, ⟨44, _⟩ => ⟨S3x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S4098x1024, .f32⟩
  | .hbm, ⟨53, _⟩ => ⟨S4098x1024, .f32⟩
  | .hbm, ⟨54, _⟩ => ⟨S_, .f32⟩
  | .hbm, ⟨55, _⟩ => ⟨S3x1024, .f32⟩
  | .hbm, ⟨56, _⟩ => ⟨S3x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S4098x1024, .f32⟩
  | .hbm, ⟨65, _⟩ => ⟨S4098x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S2x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | .hbm, ⟨74, _⟩ => ⟨S1x4096x1024, .bf16⟩
  | .hbm, ⟨75, _⟩ => ⟨S_, .bf16⟩
  | .hbm, ⟨76, _⟩ => ⟨S3x4096x1024, .bf16⟩
  | .hbm, ⟨77, _⟩ => ⟨S4096x1024, .bf16⟩
  | .hbm, ⟨78, _⟩ => ⟨S1x4096x1024, .bf16⟩
  | .hbm, ⟨79, _⟩ => ⟨S_, .bf16⟩
  | .hbm, ⟨80, _⟩ => ⟨S3x4096x1024, .bf16⟩
  | .hbm, ⟨81, _⟩ => ⟨S3x4096x1024, .bf16⟩
  | .hbm, ⟨82, _⟩ => ⟨S4096x1024, .bf16⟩
  | .hbm, ⟨83, _⟩ => ⟨S1x4096x1024, .bf16⟩
  | .hbm, ⟨84, _⟩ => ⟨S_, .bf16⟩
  | .hbm, ⟨85, _⟩ => ⟨S3x4096x1024, .bf16⟩
  | .hbm, ⟨86, _⟩ => ⟨S3x4096x1024, .bf16⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== AttnBwd.lean ====
abbrev S8x4096x192 : Shape := ⟨3, ![8, 4096, 192]⟩
abbrev S8x4096x128 : Shape := ⟨3, ![8, 4096, 128]⟩
abbrev S4096x1024 : Shape := ⟨2, ![4096, 1024]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x8x1x512 : Shape := ⟨4, ![8, 8, 1, 512]⟩
abbrev S4096x8x128 : Shape := ⟨3, ![4096, 8, 128]⟩
abbrev S1x4096x192 : Shape := ⟨3, ![1, 4096, 192]⟩
abbrev S1x4096x128 : Shape := ⟨3, ![1, 4096, 128]⟩
abbrev S4096x128 : Shape := ⟨2, ![4096, 128]⟩
abbrev S1x8x1x512 : Shape := ⟨4, ![1, 8, 1, 512]⟩
abbrev S2x512x512 : Shape := ⟨3, ![2, 512, 512]⟩
abbrev S512x512 : Shape := ⟨2, ![512, 512]⟩
abbrev S4096x192 : Shape := ⟨2, ![4096, 192]⟩
abbrev S1x512x192 : Shape := ⟨3, ![1, 512, 192]⟩
abbrev S512x192 : Shape := ⟨2, ![512, 192]⟩
abbrev S1x512x512 : Shape := ⟨3, ![1, 512, 512]⟩
abbrev S1x512x128 : Shape := ⟨3, ![1, 512, 128]⟩
abbrev S512x128 : Shape := ⟨2, ![512, 128]⟩
abbrev S1x1x1x512 : Shape := ⟨4, ![1, 1, 1, 512]⟩
abbrev S1x512 : Shape := ⟨2, ![1, 512]⟩

abbrev nBuf : Space → Nat
  | .hbm => 68
  | .vmem => 26
  | .smem => 0
  | _ => 0

abbrev bufTy : (tb : Table) → Fin (tcTables nBuf tb) → BufTy
  | .hbm, ⟨0, _⟩ => ⟨S8x4096x192, .bf16⟩
  | .hbm, ⟨1, _⟩ => ⟨S8x4096x192, .bf16⟩
  | .hbm, ⟨2, _⟩ => ⟨S8x4096x128, .bf16⟩
  | .hbm, ⟨3, _⟩ => ⟨S4096x1024, .f32⟩
  | .hbm, ⟨4, _⟩ => ⟨S8x4096x192, .f32⟩
  | .hbm, ⟨5, _⟩ => ⟨S8x4096x192, .f32⟩
  | .hbm, ⟨6, _⟩ => ⟨S8x4096x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S1x4096x4096, .i1⟩
  | .hbm, ⟨39, _⟩ => ⟨S_, .f32⟩
  | .hbm, ⟨40, _⟩ => ⟨S_, .f32⟩
  | .hbm, ⟨41, _⟩ => ⟨S8x4096x4096, .i1⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x8x1x512, .f32⟩
  | .hbm, ⟨56, _⟩ => ⟨S8x4096x4096, .f32⟩
  | .hbm, ⟨57, _⟩ => ⟨S8x4096x4096, .f32⟩
  | .hbm, ⟨58, _⟩ => ⟨S8x4096x128, .f32⟩
  | .hbm, ⟨59, _⟩ => ⟨S4096x8x128, .f32⟩
  | .hbm, ⟨60, _⟩ => ⟨S8x4096x128, .f32⟩
  | .hbm, ⟨61, _⟩ => ⟨S8x4096x128, .f32⟩
  | .hbm, ⟨62, _⟩ => ⟨S_, .f32⟩
  | .hbm, ⟨63, _⟩ => ⟨S8x4096, .f32⟩
  | .hbm, ⟨64, _⟩ => ⟨S8x8x1x512, .f32⟩
  | .hbm, ⟨65, _⟩ => ⟨S8x4096x192, .bf16⟩
  | .hbm, ⟨66, _⟩ => ⟨S8x4096x192, .bf16⟩
  | .hbm, ⟨67, _⟩ => ⟨S8x4096x128, .bf16⟩
  | .local _ .vmem, ⟨0, _⟩ => ⟨S1x4096x192, .bf16⟩
  | .local _ .vmem, ⟨1, _⟩ => ⟨S1x4096x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S1x4096x128, .bf16⟩
  | .local _ .vmem, ⟨5, _⟩ => ⟨S1x4096x128, .bf16⟩
  | .local _ .vmem, ⟨6, _⟩ => ⟨S4096x128, .f32⟩
  | .local _ .vmem, ⟨7, _⟩ => ⟨S4096x128, .f32⟩
  | .local _ .vmem, ⟨8, _⟩ => ⟨S1x8x1x512, .f32⟩
  | .local _ .vmem, ⟨9, _⟩ => ⟨S1x8x1x512, .f32⟩
  | .local _ .vmem, ⟨10, _⟩ => ⟨S1x8x1x512, .f32⟩
  | .local _ .vmem, ⟨11, _⟩ => ⟨S1x8x1x512, .f32⟩
  | .local _ .vmem, ⟨12, _⟩ => ⟨S1x4096x192, .bf16⟩
  | .local _ .vmem, ⟨13, _⟩ => ⟨S1x4096x192, .bf16⟩
  | .local _ .vmem, ⟨14, _⟩ => ⟨S1x4096x192, .bf16⟩
  | .local _ .vmem, ⟨15, _⟩ => ⟨S1x4096x192, .bf16⟩
  | .local _ .vmem, ⟨16, _⟩ => ⟨S1x4096x128, .bf16⟩
  | .local _ .vmem, ⟨17, _⟩ => ⟨S1x4096x128, .bf16⟩
  | .local _ .vmem, ⟨18, _⟩ => ⟨S2x512x512, .f32⟩
  | .local _ .vmem, ⟨19, _⟩ => ⟨S2x512x512, .f32⟩
  | .local _ .vmem, ⟨20, _⟩ => ⟨S2x512x512, .bf16⟩
  | .local _ .vmem, ⟨21, _⟩ => ⟨S2x512x512, .bf16⟩
  | .local _ .vmem, ⟨22, _⟩ => ⟨S512x512, .f32⟩
  | .local _ .vmem, ⟨23, _⟩ => ⟨S4096x192, .f32⟩
  | .local _ .vmem, ⟨24, _⟩ => ⟨S4096x192, .f32⟩
  | .local _ .vmem, ⟨25, _⟩ => ⟨S4096x128, .f32⟩
  | _, _ => ⟨S8x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_v34 : Ref sig .tc := ⟨.hbm, 64, rfl⟩
abbrev main_v35_0 : Ref sig .tc := ⟨.hbm, 65, rfl⟩
abbrev main_v35_1 : Ref sig .tc := ⟨.hbm, 66, rfl⟩
abbrev main_v35_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_mult1 : BitVec 32 :=
  let c0_i32_8 : BitVec 32 := 0#32
  let c512_i32 : BitVec 32 := 512#32
  let v15 : BitVec 32 := Scalar.muli c0_i32_8 c512_i32
  v15
def k0_off1 : Fin 3 → Nat :=
  let c0_9 : Index := 0#32
  let c0_i32_8 : BitVec 32 := 0#32
  let c512_i32 : BitVec 32 := 512#32
  let v15 : BitVec 32 := Scalar.muli c0_i32_8 c512_i32
  let v16 : BitVec 32 := v15
  let v17 : Index := Scalar.indexCast v16
  let c0_10 : Index := 0#32
  ![0, v17.toNat, 0]
def k0_mult2 : BitVec 32 :=
  let c0_i32_11 : BitVec 32 := 0#32
  let c0_i32_12 : BitVec 32 := 0#32
  let v20 : BitVec 32 := Scalar.addi c0_i32_11 c0_i32_12
  let c512_i32_13 : BitVec 32 := 512#32
  let v21 : BitVec 32 := Scalar.muli v20 c512_i32_13
  v21
def k0_off2 : Fin 3 → Nat :=
  let c0_14 : Index := 0#32
  let c0_i32_11 : BitVec 32 := 0#32
  let c0_i32_12 : BitVec 32 := 0#32
  let v20 : BitVec 32 := Scalar.addi c0_i32_11 c0_i32_12
  let c512_i32_13 : BitVec 32 := 512#32
  let v21 : BitVec 32 := Scalar.muli v20 c512_i32_13
  let v22 : BitVec 32 := v21
  let v23 : Index := Scalar.indexCast v22
  let c0_15 : Index := 0#32
  ![0, v23.toNat, 0]
def k0_mult3 : BitVec 32 :=
  let c0_i32_20 : BitVec 32 := 0#32
  let c512_i32_21 : BitVec 32 := 512#32
  let v30 : BitVec 32 := Scalar.muli c0_i32_20 c512_i32_21
  v30
def k0_off3 : Fin 3 → Nat :=
  let c0_22 : Index := 0#32
  let c0_i32_20 : BitVec 32 := 0#32
  let c512_i32_21 : BitVec 32 := 512#32
  let v30 : BitVec 32 := Scalar.muli c0_i32_20 c512_i32_21
  let v31 : BitVec 32 := v30
  let v32 : Index := Scalar.indexCast v31
  let c0_23 : Index := 0#32
  ![0, v32.toNat, 0]
def k0_mult4 : BitVec 32 :=
  let c0_i32_24 : BitVec 32 := 0#32
  let c0_i32_25 : BitVec 32 := 0#32
  let v35 : BitVec 32 := Scalar.addi c0_i32_24 c0_i32_25
  let c512_i32_26 : BitVec 32 := 512#32
  let v36 : BitVec 32 := Scalar.muli v35 c512_i32_26
  v36
def k0_off4 : Fin 2 → Nat :=
  let c0_i32_24 : BitVec 32 := 0#32
  let c0_i32_25 : BitVec 32 := 0#32
  let v35 : BitVec 32 := Scalar.addi c0_i32_24 c0_i32_25
  let c512_i32_26 : BitVec 32 := 512#32
  let v36 : BitVec 32 := Scalar.muli v35 c512_i32_26
  let v37 : BitVec 32 := v36
  let v38 : Index := Scalar.indexCast v37
  let c0_27 : Index := 0#32
  ![v38.toNat, 0]
def k0_mult5 : BitVec 32 :=
  let c0_i32_33 : BitVec 32 := 0#32
  let c7_i32 : BitVec 32 := 7#32
  let c0_i32_32 : BitVec 32 := 0#32
  let v45 : BitVec 32 := Scalar.subi c7_i32 c0_i32_32
  let v46 : BitVec 1 := Scalar.cmpi .eq c0_i32_33 v45
  let c0_i32_34 : BitVec 32 := 0#32
  let c1_i32 : BitVec 32 := 1#32
  let v47 : BitVec 32 := Scalar.addi c0_i32_34 c1_i32
  let c0_i32_35 : BitVec 32 := 0#32
  let v48 : BitVec 32 := Scalar.select v46 v47 c0_i32_35
  let c512_i32_39 : BitVec 32 := 512#32
  let v51 : BitVec 32 := Scalar.muli v48 c512_i32_39
  v51
def k0_off5 : Fin 3 → Nat :=
  let c0_40 : Index := 0#32
  let c0_i32_33 : BitVec 32 := 0#32
  let c7_i32 : BitVec 32 := 7#32
  let c0_i32_32 : BitVec 32 := 0#32
  let v45 : BitVec 32 := Scalar.subi c7_i32 c0_i32_32
  let v46 : BitVec 1 := Scalar.cmpi .eq c0_i32_33 v45
  let c0_i32_34 : BitVec 32 := 0#32
  let c1_i32 : BitVec 32 := 1#32
  let v47 : BitVec 32 := Scalar.addi c0_i32_34 c1_i32
  let c0_i32_35 : BitVec 32 := 0#32
  let v48 : BitVec 32 := Scalar.select v46 v47 c0_i32_35
  let c512_i32_39 : BitVec 32 := 512#32
  let v51 : BitVec 32 := Scalar.muli v48 c512_i32_39
  let v52 : BitVec 32 := v51
  let v53 : Index := Scalar.indexCast v52
  let c0_41 : Index := 0#32
  ![0, v53.toNat, 0]
def k0_mult6 : BitVec 32 :=
  let c0_i32_33 : BitVec 32 := 0#32
  let c7_i32 : BitVec 32 := 7#32
  let c0_i32_32 : BitVec 32 := 0#32
  let v45 : BitVec 32 := Scalar.subi c7_i32 c0_i32_32
  let v46 : BitVec 1 := Scalar.cmpi .eq c0_i32_33 v45
  let c0_i32_34 : BitVec 32 := 0#32
  let c1_i32 : BitVec 32 := 1#32
  let v47 : BitVec 32 := Scalar.addi c0_i32_34 c1_i32
  let c0_i32_35 : BitVec 32 := 0#32
  let v48 : BitVec 32 := Scalar.select v46 v47 c0_i32_35
  let c0_i32_38 : BitVec 32 := 0#32
  let c0_i32_36 : BitVec 32 := 0#32
  let c1_i32_37 : BitVec 32 := 1#32
  let v49 : BitVec 32 := Scalar.addi c0_i32_36 c1_i32_37
  let v50 : BitVec 32 := Scalar.select v46 c0_i32_38 v49
  let v56 : BitVec 32 := Scalar.addi v48 v50
  let c512_i32_42 : BitVec 32 := 512#32
  let v57 : BitVec 32 := Scalar.muli v56 c512_i32_42
  v57
def k0_off6 : Fin 3 → Nat :=
  let c0_43 : Index := 0#32
  let c0_i32_33 : BitVec 32 := 0#32
  let c7_i32 : BitVec 32 := 7#32
  let c0_i32_32 : BitVec 32 := 0#32
  let v45 : BitVec 32 := Scalar.subi c7_i32 c0_i32_32
  let v46 : BitVec 1 := Scalar.cmpi .eq c0_i32_33 v45
  let c0_i32_34 : BitVec 32 := 0#32
  let c1_i32 : BitVec 32 := 1#32
  let v47 : BitVec 32 := Scalar.addi c0_i32_34 c1_i32
  let c0_i32_35 : BitVec 32 := 0#32
  let v48 : BitVec 32 := Scalar.select v46 v47 c0_i32_35
  let c0_i32_38 : BitVec 32 := 0#32
  let c0_i32_36 : BitVec 32 := 0#32
  let c1_i32_37 : BitVec 32 := 1#32
  let v49 : BitVec 32 := Scalar.addi c0_i32_36 c1_i32_37
  let v50 : BitVec 32 := Scalar.select v46 c0_i32_38 v49
  let v56 : BitVec 32 := Scalar.addi v48 v50
  let c512_i32_42 : BitVec 32 := 512#32
  let v57 : BitVec 32 := Scalar.muli v56 c512_i32_42
  let v58 : BitVec 32 := v57
  let v59 : Index := Scalar.indexCast v58
  let c0_44 : Index := 0#32
  ![0, v59.toNat, 0]
def k0_mult7 : BitVec 32 :=
  let c0_i32_33 : BitVec 32 := 0#32
  let c7_i32 : BitVec 32 := 7#32
  let c0_i32_32 : BitVec 32 := 0#32
  let v45 : BitVec 32 := Scalar.subi c7_i32 c0_i32_32
  let v46 : BitVec 1 := Scalar.cmpi .eq c0_i32_33 v45
  let c0_i32_34 : BitVec 32 := 0#32
  let c1_i32 : BitVec 32 := 1#32
  let v47 : BitVec 32 := Scalar.addi c0_i32_34 c1_i32
  let c0_i32_35 : BitVec 32 := 0#32
  let v48 : BitVec 32 := Scalar.select v46 v47 c0_i32_35
  let c512_i32_48 : BitVec 32 := 512#32
  let v66 : BitVec 32 := Scalar.muli v48 c512_i32_48
  v66
def k0_off7 : Fin 3 → Nat :=
  let c0_49 : Index := 0#32
  let c0_i32_33 : BitVec 32 := 0#32
  let c7_i32 : BitVec 32 := 7#32
  let c0_i32_32 : BitVec 32 := 0#32
  let v45 : BitVec 32 := Scalar.subi c7_i32 c0_i32_32
  let v46 : BitVec 1 := Scalar.cmpi .eq c0_i32_33 v45
  let c0_i32_34 : BitVec 32 := 0#32
  let c1_i32 : BitVec 32 := 1#32
  let v47 : BitVec 32 := Scalar.addi c0_i32_34 c1_i32
  let c0_i32_35 : BitVec 32 := 0#32
  let v48 : BitVec 32 := Scalar.select v46 v47 c0_i32_35
  let c512_i32_48 : BitVec 32 := 512#32
  let v66 : BitVec 32 := Scalar.muli v48 c512_i32_48
  let v67 : BitVec 32 := v66
  let v68 : Index := Scalar.indexCast v67
  let c0_50 : Index := 0#32
  ![0, v68.toNat, 0]
def k0_mult8 : BitVec 32 :=
  let c0_i32_33 : BitVec 32 := 0#32
  let c7_i32 : BitVec 32 := 7#32
  let c0_i32_32 : BitVec 32 := 0#32
  let v45 : BitVec 32 := Scalar.subi c7_i32 c0_i32_32
  let v46 : BitVec 1 := Scalar.cmpi .eq c0_i32_33 v45
  let c0_i32_34 : BitVec 32 := 0#32
  let c1_i32 : BitVec 32 := 1#32
  let v47 : BitVec 32 := Scalar.addi c0_i32_34 c1_i32
  let c0_i32_35 : BitVec 32 := 0#32
  let v48 : BitVec 32 := Scalar.select v46 v47 c0_i32_35
  let c0_i32_38 : BitVec 32 := 0#32
  let c0_i32_36 : BitVec 32 := 0#32
  let c1_i32_37 : BitVec 32 := 1#32
  let v49 : BitVec 32 := Scalar.addi c0_i32_36 c1_i32_37
  let v50 : BitVec 32 := Scalar.select v46 c0_i32_38 v49
  let v71 : BitVec 32 := Scalar.addi v48 v50
  let c512_i32_51 : BitVec 32 := 512#32
  let v72 : BitVec 32 := Scalar.muli v71 c512_i32_51
  v72
def k0_off8 : Fin 2 → Nat :=
  let c0_i32_33 : BitVec 32 := 0#32
  let c7_i32 : BitVec 32 := 7#32
  let c0_i32_32 : BitVec 32 := 0#32
  let v45 : BitVec 32 := Scalar.subi c7_i32 c0_i32_32
  let v46 : BitVec 1 := Scalar.cmpi .eq c0_i32_33 v45
  let c0_i32_34 : BitVec 32 := 0#32
  let c1_i32 : BitVec 32 := 1#32
  let v47 : BitVec 32 := Scalar.addi c0_i32_34 c1_i32
  let c0_i32_35 : BitVec 32 := 0#32
  let v48 : BitVec 32 := Scalar.select v46 v47 c0_i32_35
  let c0_i32_38 : BitVec 32 := 0#32
  let c0_i32_36 : BitVec 32 := 0#32
  let c1_i32_37 : BitVec 32 := 1#32
  let v49 : BitVec 32 := Scalar.addi c0_i32_36 c1_i32_37
  let v50 : BitVec 32 := Scalar.select v46 c0_i32_38 v49
  let v71 : BitVec 32 := Scalar.addi v48 v50
  let c512_i32_51 : BitVec 32 := 512#32
  let v72 : BitVec 32 := Scalar.muli v71 c512_i32_51
  let v73 : BitVec 32 := v72
  let v74 : Index := Scalar.indexCast v73
  let c0_52 : Index := 0#32
  ![v74.toNat, 0]
def k0_off9 : Fin 4 → Nat :=
  let c0_67 : Index := 0#32
  let c0_i32_65 : BitVec 32 := 0#32
  let c0_i32_66 : BitVec 32 := 0#32
  let v92 : BitVec 32 := Scalar.addi c0_i32_65 c0_i32_66
  let v93 : Index := Scalar.indexCast v92
  let c0_68 : Index := 0#32
  let c0_69 : Index := 0#32
  ![0, v93.toNat, 0, 0]
@[reducible] def k0_t1_loop : Scf.Loop 32 :=
  let c0_i32_92 : BitVec 32 := 0#32
  let c17_i32 : BitVec 32 := 17#32
  let v126 : BitVec 32 := Scalar.addi c0_i32_92 c17_i32
  let c1_i32_93 : BitVec 32 := 1#32
  ⟨c0_i32_92, v126, c1_i32_93⟩
def k0_mult9 (arg19 : BitVec 32) : BitVec 32 :=
  let c512_i32_191 : BitVec 32 := 512#32
  let v290 : BitVec 32 := Scalar.muli arg19 c512_i32_191
  v290

def k0_off10 (arg19 : BitVec 32) : Fin 2 → Nat :=
  let c512_i32_191 : BitVec 32 := 512#32
  let v290 : BitVec 32 := Scalar.muli arg19 c512_i32_191
  let v291 : BitVec 32 := v290
  let v292 : Index := Scalar.indexCast v291
  let c0_192 : Index := 0#32
  ![v292.toNat, 0]
def k0_mult10 (arg19 : BitVec 32) (arg20 : BitVec 32) : BitVec 32 :=
  let v296 : BitVec 32 := Scalar.addi arg19 arg20
  let c512_i32_196 : BitVec 32 := 512#32
  let v297 : BitVec 32 := Scalar.muli v296 c512_i32_196
  v297

def k0_off11 (arg19 : BitVec 32) (arg20 : BitVec 32) : Fin 2 → Nat :=
  let v296 : BitVec 32 := Scalar.addi arg19 arg20
  let c512_i32_196 : BitVec 32 := 512#32
  let v297 : BitVec 32 := Scalar.muli v296 c512_i32_196
  let v298 : BitVec 32 := v297
  let v299 : Index := Scalar.indexCast v298
  let c0_197 : Index := 0#32
  ![v299.toNat, 0]
def k0_off12 (arg19 : BitVec 32) : Fin 2 → Nat :=
  let c512_i32_191 : BitVec 32 := 512#32
  let v290 : BitVec 32 := Scalar.muli arg19 c512_i32_191
  let v291 : BitVec 32 := v290
  let v304 : Index := Scalar.indexCast v291
  let c0_199 : Index := 0#32
  ![v304.toNat, 0]
def k0_mult11 (arg19 : BitVec 32) : BitVec 32 :=
  let c512_i32_200 : BitVec 32 := 512#32
  let v308 : BitVec 32 := Scalar.muli arg19 c512_i32_200
  v308
def k0_off13 (arg19 : BitVec 32) : Fin 2 → Nat :=
  let c512_i32_200 : BitVec 32 := 512#32
  let v308 : BitVec 32 := Scalar.muli arg19 c512_i32_200
  let v309 : BitVec 32 := v308
  let v310 : Index := Scalar.indexCast v309
  let c0_201 : Index := 0#32
  ![v310.toNat, 0]
def k0_mult12 (arg19 : BitVec 32) (arg20 : BitVec 32) : BitVec 32 :=
  let v314 : BitVec 32 := Scalar.addi arg19 arg20
  let c512_i32_205 : BitVec 32 := 512#32
  let v315 : BitVec 32 := Scalar.muli v314 c512_i32_205
  v315
def k0_off14 (arg19 : BitVec 32) (arg20 : BitVec 32) : Fin 3 → Nat :=
  let c0_206 : Index := 0#32
  let v314 : BitVec 32 := Scalar.addi arg19 arg20
  let c512_i32_205 : BitVec 32 := 512#32
  let v315 : BitVec 32 := Scalar.muli v314 c512_i32_205
  let v316 : BitVec 32 := v315
  let v317 : Index := Scalar.indexCast v316
  let c0_207 : Index := 0#32
  ![0, v317.toNat, 0]
def k0_mult13 (arg19 : BitVec 32) (arg20 : BitVec 32) : BitVec 32 :=
  let v326 : BitVec 32 := Scalar.addi arg19 arg20
  let c512_i32_210 : BitVec 32 := 512#32
  let v327 : BitVec 32 := Scalar.muli v326 c512_i32_210
  v327
def k0_off15 (arg19 : BitVec 32) (arg20 : BitVec 32) : Fin 2 → Nat :=
  let v326 : BitVec 32 := Scalar.addi arg19 arg20
  let c512_i32_210 : BitVec 32 := 512#32
  let v327 : BitVec 32 := Scalar.muli v326 c512_i32_210
  let v328 : BitVec 32 := v327
  let v329 : Index := Scalar.indexCast v328
  let c0_211 : Index := 0#32
  ![v329.toNat, 0]

def k0_chk2 (arg19 : BitVec 32) (arg20 : BitVec 32) : Prop :=
  (512 ∣ (k0_mult10 arg19 arg20).toNat) ∧
  (∀ a, (k0_off11 arg19 arg20) a + S512x128.size a ≤ S4096x128.size a) ∧
  (512 ∣ (k0_mult12 arg19 arg20).toNat) ∧
  (∀ a, (k0_off14 arg19 arg20) a + S1x512x192.size a ≤ S1x4096x192.size a) ∧
  (512 ∣ (k0_mult13 arg19 arg20).toNat) ∧
  (∀ a, (k0_off15 arg19 arg20) a + S512x192.size a ≤ S4096x192.size a)
theorem k0_mult10_dvd : ∀ (arg19 : BitVec 32) (arg20 : BitVec 32) (k0_hw2 : k0_chk2 arg19 arg20), 512 ∣ (k0_mult10 arg19 arg20).toNat := fun arg19 arg20 k0_hw2 => k0_hw2.1
theorem k0_off11_inb : ∀ (arg19 : BitVec 32) (arg20 : BitVec 32) (k0_hw2 : k0_chk2 arg19 arg20), ∀ a, (k0_off11 arg19 arg20) a + S512x128.size a ≤ S4096x128.size a := fun arg19 arg20 k0_hw2 => k0_hw2.2.1
theorem k0_mult12_dvd : ∀ (arg19 : BitVec 32) (arg20 : BitVec 32) (k0_hw2 : k0_chk2 arg19 arg20), 512 ∣ (k0_mult12 arg19 arg20).toNat := fun arg19 arg20 k0_hw2 => k0_hw2.2.2.1
theorem k0_off14_inb : ∀ (arg19 : BitVec 32) (arg20 : BitVec 32) (k0_hw2 : k0_chk2 arg19 arg20), ∀ a, (k0_off14 arg19 arg20) a + S1x512x192.size a ≤ S1x4096x192.size a := fun arg19 arg20 k0_hw2 => k0_hw2.2.2.2.1
theorem k0_mult13_dvd : ∀ (arg19 : BitVec 32) (arg20 : BitVec 32) (k0_hw2 : k0_chk2 arg19 arg20), 512 ∣ (k0_mult13 arg19 arg20).toNat := fun arg19 arg20 k0_hw2 => k0_hw2.2.2.2.2.1
theorem k0_off15_inb : ∀ (arg19 : BitVec 32) (arg20 : BitVec 32) (k0_hw2 : k0_chk2 arg19 arg20), ∀ a, (k0_off15 arg19 arg20) a + S512x192.size a ≤ S4096x192.size a := fun arg19 arg20 k0_hw2 => k0_hw2.2.2.2.2.2

def k0_mult14 (arg19 : BitVec 32) : BitVec 32 :=
  let c512_i32_215 : BitVec 32 := 512#32
  let v333 : BitVec 32 := Scalar.muli arg19 c512_i32_215
  v333
def k0_off16 (arg19 : BitVec 32) : Fin 3 → Nat :=
  let c0_216 : Index := 0#32
  let c512_i32_215 : BitVec 32 := 512#32
  let v333 : BitVec 32 := Scalar.muli arg19 c512_i32_215
  let v334 : BitVec 32 := v333
  let v335 : Index := Scalar.indexCast v334
  let c0_217 : Index := 0#32
  ![0, v335.toNat, 0]

def k0_chk1 (arg19 : BitVec 32) : Prop :=
  (512 ∣ (k0_mult9 arg19).toNat) ∧
  (∀ a, (k0_off10 arg19) a + S512x128.size a ≤ S4096x128.size a) ∧
  (∀ a, (k0_off12 arg19) a + S512x128.size a ≤ S4096x128.size a) ∧
  (512 ∣ (k0_mult11 arg19).toNat) ∧
  (∀ a, (k0_off13 arg19) a + S512x192.size a ≤ S4096x192.size a) ∧
  (512 ∣ (k0_mult14 arg19).toNat) ∧
  (∀ a, (k0_off16 arg19) a + S1x512x192.size a ≤ S1x4096x192.size a)
theorem k0_mult9_dvd : ∀ (arg19 : BitVec 32) (k0_hw1 : k0_chk1 arg19), 512 ∣ (k0_mult9 arg19).toNat := fun arg19 k0_hw1 => k0_hw1.1
theorem k0_off10_inb : ∀ (arg19 : BitVec 32) (k0_hw1 : k0_chk1 arg19), ∀ a, (k0_off10 arg19) a + S512x128.size a ≤ S4096x128.size a := fun arg19 k0_hw1 => k0_hw1.2.1
theorem k0_off12_inb : ∀ (arg19 : BitVec 32) (k0_hw1 : k0_chk1 arg19), ∀ a, (k0_off12 arg19) a + S512x128.size a ≤ S4096x128.size a := fun arg19 k0_hw1 => k0_hw1.2.2.1
theorem k0_mult11_dvd : ∀ (arg19 : BitVec 32) (k0_hw1 : k0_chk1 arg19), 512 ∣ (k0_mult11 arg19).toNat := fun arg19 k0_hw1 => k0_hw1.2.2.2.1
theorem k0_off13_inb : ∀ (arg19 : BitVec 32) (k0_hw1 : k0_chk1 arg19), ∀ a, (k0_off13 arg19) a + S512x192.size a ≤ S4096x192.size a := fun arg19 k0_hw1 => k0_hw1.2.2.2.2.1
theorem k0_mult14_dvd : ∀ (arg19 : BitVec 32) (k0_hw1 : k0_chk1 arg19), 512 ∣ (k0_mult14 arg19).toNat := fun arg19 k0_hw1 => k0_hw1.2.2.2.2.2.1
theorem k0_off16_inb : ∀ (arg19 : BitVec 32) (k0_hw1 : k0_chk1 arg19), ∀ a, (k0_off16 arg19) a + S1x512x192.size a ≤ S1x4096x192.size a := fun arg19 k0_hw1 => k0_hw1.2.2.2.2.2.2

def k0_off17 (arg21 : BitVec 32) (arg22 : BitVec 32) : Fin 4 → Nat :=
  let c0_227 : Index := 0#32
  let v355 : BitVec 32 := Scalar.addi arg21 arg22
  let v356 : Index := Scalar.indexCast v355
  let c0_228 : Index := 0#32
  let c0_229 : Index := 0#32
  ![0, v356.toNat, 0, 0]

def k0_mult15 (arg23 : BitVec 32) : BitVec 32 :=
  let c512_i32_244 : BitVec 32 := 512#32
  let v383 : BitVec 32 := Scalar.muli arg23 c512_i32_244
  v383

def k0_off18 (arg23 : BitVec 32) : Fin 3 → Nat :=
  let c0_245 : Index := 0#32
  let c512_i32_244 : BitVec 32 := 512#32
  let v383 : BitVec 32 := Scalar.muli arg23 c512_i32_244
  let v384 : BitVec 32 := v383
  let v385 : Index := Scalar.indexCast v384
  let c0_246 : Index := 0#32
  ![0, v385.toNat, 0]
def k0_mult16 (arg23 : BitVec 32) (arg24 : BitVec 32) : BitVec 32 :=
  let v388 : BitVec 32 := Scalar.addi arg23 arg24
  let c512_i32_247 : BitVec 32 := 512#32
  let v389 : BitVec 32 := Scalar.muli v388 c512_i32_247
  v389

def k0_off19 (arg23 : BitVec 32) (arg24 : BitVec 32) : Fin 3 → Nat :=
  let c0_248 : Index := 0#32
  let v388 : BitVec 32 := Scalar.addi arg23 arg24
  let c512_i32_247 : BitVec 32 := 512#32
  let v389 : BitVec 32 := Scalar.muli v388 c512_i32_247
  let v390 : BitVec 32 := v389
  let v391 : Index := Scalar.indexCast v390
  let c0_249 : Index := 0#32
  ![0, v391.toNat, 0]
def k0_mult17 (arg23 : BitVec 32) : BitVec 32 :=
  let c512_i32_254 : BitVec 32 := 512#32
  let v398 : BitVec 32 := Scalar.muli arg23 c512_i32_254
  v398
def k0_off20 (arg23 : BitVec 32) : Fin 3 → Nat :=
  let c0_255 : Index := 0#32
  let c512_i32_254 : BitVec 32 := 512#32
  let v398 : BitVec 32 := Scalar.muli arg23 c512_i32_254
  let v399 : BitVec 32 := v398
  let v400 : Index := Scalar.indexCast v399
  let c0_256 : Index := 0#32
  ![0, v400.toNat, 0]

def k0_chk4 (arg23 : BitVec 32) : Prop :=
  (512 ∣ (k0_mult15 arg23).toNat) ∧
  (∀ a, (k0_off18 arg23) a + S1x512x192.size a ≤ S1x4096x192.size a) ∧
  (512 ∣ (k0_mult17 arg23).toNat) ∧
  (∀ a, (k0_off20 arg23) a + S1x512x128.size a ≤ S1x4096x128.size a)
theorem k0_mult15_dvd : ∀ (arg23 : BitVec 32) (k0_hw4 : k0_chk4 arg23), 512 ∣ (k0_mult15 arg23).toNat := fun arg23 k0_hw4 => k0_hw4.1
theorem k0_off18_inb : ∀ (arg23 : BitVec 32) (k0_hw4 : k0_chk4 arg23), ∀ a, (k0_off18 arg23) a + S1x512x192.size a ≤ S1x4096x192.size a := fun arg23 k0_hw4 => k0_hw4.2.1
theorem k0_mult17_dvd : ∀ (arg23 : BitVec 32) (k0_hw4 : k0_chk4 arg23), 512 ∣ (k0_mult17 arg23).toNat := fun arg23 k0_hw4 => k0_hw4.2.2.1
theorem k0_off20_inb : ∀ (arg23 : BitVec 32) (k0_hw4 : k0_chk4 arg23), ∀ a, (k0_off20 arg23) a + S1x512x128.size a ≤ S1x4096x128.size a := fun arg23 k0_hw4 => k0_hw4.2.2.2

def k0_mult18 (arg23 : BitVec 32) (arg24 : BitVec 32) : BitVec 32 :=
  let v403 : BitVec 32 := Scalar.addi arg23 arg24
  let c512_i32_257 : BitVec 32 := 512#32
  let v404 : BitVec 32 := Scalar.muli v403 c512_i32_257
  v404
def k0_off21 (arg23 : BitVec 32) (arg24 : BitVec 32) : Fin 2 → Nat :=
  let v403 : BitVec 32 := Scalar.addi arg23 arg24
  let c512_i32_257 : BitVec 32 := 512#32
  let v404 : BitVec 32 := Scalar.muli v403 c512_i32_257
  let v405 : BitVec 32 := v404
  let v406 : Index := Scalar.indexCast v405
  let c0_258 : Index := 0#32
  ![v406.toNat, 0]
def k0_mult19 (arg21 : BitVec 32) : BitVec 32 :=
  let c512_i32_267 : BitVec 32 := 512#32
  let v419 : BitVec 32 := Scalar.muli arg21 c512_i32_267
  v419

def k0_off22 (arg21 : BitVec 32) : Fin 2 → Nat :=
  let c512_i32_267 : BitVec 32 := 512#32
  let v419 : BitVec 32 := Scalar.muli arg21 c512_i32_267
  let v420 : BitVec 32 := v419
  let v421 : Index := Scalar.indexCast v420
  let c0_268 : Index := 0#32
  ![v421.toNat, 0]
def k0_mult20 (arg21 : BitVec 32) (arg22 : BitVec 32) : BitVec 32 :=
  let v425 : BitVec 32 := Scalar.addi arg21 arg22
  let c512_i32_272 : BitVec 32 := 512#32
  let v426 : BitVec 32 := Scalar.muli v425 c512_i32_272
  v426
def k0_off23 (arg21 : BitVec 32) (arg22 : BitVec 32) : Fin 2 → Nat :=
  let v425 : BitVec 32 := Scalar.addi arg21 arg22
  let c512_i32_272 : BitVec 32 := 512#32
  let v426 : BitVec 32 := Scalar.muli v425 c512_i32_272
  let v427 : BitVec 32 := v426
  let v428 : Index := Scalar.indexCast v427
  let c0_273 : Index := 0#32
  ![v428.toNat, 0]
def k0_mult21 (arg21 : BitVec 32) : BitVec 32 :=
  let c512_i32_276 : BitVec 32 := 512#32
  let v437 : BitVec 32 := Scalar.muli arg21 c512_i32_276
  v437
def k0_off24 (arg21 : BitVec 32) : Fin 2 → Nat :=
  let c512_i32_276 : BitVec 32 := 512#32
  let v437 : BitVec 32 := Scalar.muli arg21 c512_i32_276
  let v438 : BitVec 32 := v437
  let v439 : Index := Scalar.indexCast v438
  let c0_277 : Index := 0#32
  ![v439.toNat, 0]
def k0_mult22 (arg21 : BitVec 32) (arg22 : BitVec 32) : BitVec 32 :=
  let v443 : BitVec 32 := Scalar.addi arg21 arg22
  let c512_i32_281 : BitVec 32 := 512#32
  let v444 : BitVec 32 := Scalar.muli v443 c512_i32_281
  v444
def k0_off25 (arg21 : BitVec 32) (arg22 : BitVec 32) : Fin 3 → Nat :=
  let c0_282 : Index := 0#32
  let v443 : BitVec 32 := Scalar.addi arg21 arg22
  let c512_i32_281 : BitVec 32 := 512#32
  let v444 : BitVec 32 := Scalar.muli v443 c512_i32_281
  let v445 : BitVec 32 := v444
  let v446 : Index := Scalar.indexCast v445
  let c0_283 : Index := 0#32
  ![0, v446.toNat, 0]
def k0_mult23 (arg21 : BitVec 32) (arg22 : BitVec 32) : BitVec 32 :=
  let v455 : BitVec 32 := Scalar.addi arg21 arg22
  let c512_i32_286 : BitVec 32 := 512#32
  let v456 : BitVec 32 := Scalar.muli v455 c512_i32_286
  v456
def k0_off26 (arg21 : BitVec 32) (arg22 : BitVec 32) : Fin 2 → Nat :=
  let v455 : BitVec 32 := Scalar.addi arg21 arg22
  let c512_i32_286 : BitVec 32 := 512#32
  let v456 : BitVec 32 := Scalar.muli v455 c512_i32_286
  let v457 : BitVec 32 := v456
  let v458 : Index := Scalar.indexCast v457
  let c0_287 : Index := 0#32
  ![v458.toNat, 0]

def k0_chk3 (arg21 : BitVec 32) (arg22 : BitVec 32) : Prop :=
  (∀ a, (k0_off17 arg21 arg22) a + S1x1x1x512.size a ≤ S1x8x1x512.size a) ∧
  (512 ∣ (k0_mult20 arg21 arg22).toNat) ∧
  (∀ a, (k0_off23 arg21 arg22) a + S512x128.size a ≤ S4096x128.size a) ∧
  (512 ∣ (k0_mult22 arg21 arg22).toNat) ∧
  (∀ a, (k0_off25 arg21 arg22) a + S1x512x192.size a ≤ S1x4096x192.size a) ∧
  (512 ∣ (k0_mult23 arg21 arg22).toNat) ∧
  (∀ a, (k0_off26 arg21 arg22) a + S512x192.size a ≤ S4096x192.size a)
theorem k0_off17_inb : ∀ (arg21 : BitVec 32) (arg22 : BitVec 32) (k0_hw3 : k0_chk3 arg21 arg22), ∀ a, (k0_off17 arg21 arg22) a + S1x1x1x512.size a ≤ S1x8x1x512.size a := fun arg21 arg22 k0_hw3 => k0_hw3.1
theorem k0_mult20_dvd : ∀ (arg21 : BitVec 32) (arg22 : BitVec 32) (k0_hw3 : k0_chk3 arg21 arg22), 512 ∣ (k0_mult20 arg21 arg22).toNat := fun arg21 arg22 k0_hw3 => k0_hw3.2.1
theorem k0_off23_inb : ∀ (arg21 : BitVec 32) (arg22 : BitVec 32) (k0_hw3 : k0_chk3 arg21 arg22), ∀ a, (k0_off23 arg21 arg22) a + S512x128.size a ≤ S4096x128.size a := fun arg21 arg22 k0_hw3 => k0_hw3.2.2.1
theorem k0_mult22_dvd : ∀ (arg21 : BitVec 32) (arg22 : BitVec 32) (k0_hw3 : k0_chk3 arg21 arg22), 512 ∣ (k0_mult22 arg21 arg22).toNat := fun arg21 arg22 k0_hw3 => k0_hw3.2.2.2.1
theorem k0_off25_inb : ∀ (arg21 : BitVec 32) (arg22 : BitVec 32) (k0_hw3 : k0_chk3 arg21 arg22), ∀ a, (k0_off25 arg21 arg22) a + S1x512x192.size a ≤ S1x4096x192.size a := fun arg21 arg22 k0_hw3 => k0_hw3.2.2.2.2.1
theorem k0_mult23_dvd : ∀ (arg21 : BitVec 32) (arg22 : BitVec 32) (k0_hw3 : k0_chk3 arg21 arg22), 512 ∣ (k0_mult23 arg21 arg22).toNat := fun arg21 arg22 k0_hw3 => k0_hw3.2.2.2.2.2.1
theorem k0_off26_inb : ∀ (arg21 : BitVec 32) (arg22 : BitVec 32) (k0_hw3 : k0_chk3 arg21 arg22), ∀ a, (k0_off26 arg21 arg22) a + S512x192.size a ≤ S4096x192.size a := fun arg21 arg22 k0_hw3 => k0_hw3.2.2.2.2.2.2

def k0_mult24 (arg21 : BitVec 32) : BitVec 32 :=
  let c512_i32_291 : BitVec 32 := 512#32
  let v462 : BitVec 32 := Scalar.muli arg21 c512_i32_291
  v462
def k0_off27 (arg21 : BitVec 32) : Fin 3 → Nat :=
  let c0_292 : Index := 0#32
  let c512_i32_291 : BitVec 32 := 512#32
  let v462 : BitVec 32 := Scalar.muli arg21 c512_i32_291
  let v463 : BitVec 32 := v462
  let v464 : Index := Scalar.indexCast v463
  let c0_293 : Index := 0#32
  ![0, v464.toNat, 0]

def k0_chk6 (arg21 : BitVec 32) : Prop :=
  (512 ∣ (k0_mult19 arg21).toNat) ∧
  (∀ a, (k0_off22 arg21) a + S512x128.size a ≤ S4096x128.size a) ∧
  (512 ∣ (k0_mult21 arg21).toNat) ∧
  (∀ a, (k0_off24 arg21) a + S512x192.size a ≤ S4096x192.size a) ∧
  (512 ∣ (k0_mult24 arg21).toNat) ∧
  (∀ a, (k0_off27 arg21) a + S1x512x192.size a ≤ S1x4096x192.size a)
theorem k0_mult19_dvd : ∀ (arg21 : BitVec 32) (k0_hw6 : k0_chk6 arg21), 512 ∣ (k0_mult19 arg21).toNat := fun arg21 k0_hw6 => k0_hw6.1
theorem k0_off22_inb : ∀ (arg21 : BitVec 32) (k0_hw6 : k0_chk6 arg21), ∀ a, (k0_off22 arg21) a + S512x128.size a ≤ S4096x128.size a := fun arg21 k0_hw6 => k0_hw6.2.1
theorem k0_mult21_dvd : ∀ (arg21 : BitVec 32) (k0_hw6 : k0_chk6 arg21), 512 ∣ (k0_mult21 arg21).toNat := fun arg21 k0_hw6 => k0_hw6.2.2.1
theorem k0_off24_inb : ∀ (arg21 : BitVec 32) (k0_hw6 : k0_chk6 arg21), ∀ a, (k0_off24 arg21) a + S512x192.size a ≤ S4096x192.size a := fun arg21 k0_hw6 => k0_hw6.2.2.2.1
theorem k0_mult24_dvd : ∀ (arg21 : BitVec 32) (k0_hw6 : k0_chk6 arg21), 512 ∣ (k0_mult24 arg21).toNat := fun arg21 k0_hw6 => k0_hw6.2.2.2.2.1
theorem k0_off27_inb : ∀ (arg21 : BitVec 32) (k0_hw6 : k0_chk6 arg21), ∀ a, (k0_off27 arg21) a + S1x512x192.size a ≤ S1x4096x192.size a := fun arg21 k0_hw6 => k0_hw6.2.2.2.2.2

def k0_off28 (arg23 : BitVec 32) (arg24 : BitVec 32) : Fin 4 → Nat :=
  let c0_303 : Index := 0#32
  let v484 : BitVec 32 := Scalar.addi arg23 arg24
  let v485 : Index := Scalar.indexCast v484
  let c0_304 : Index := 0#32
  let c0_305 : Index := 0#32
  ![0, v485.toNat, 0, 0]
def k0_mult25 (arg23 : BitVec 32) (arg24 : BitVec 32) : BitVec 32 :=
  let c7_i32_263 : BitVec 32 := 7#32
  let v413 : BitVec 32 := Scalar.subi c7_i32_263 arg23
  let v414 : BitVec 1 := Scalar.cmpi .eq arg24 v413
  let c1_i32_264 : BitVec 32 := 1#32
  let v415 : BitVec 32 := Scalar.addi arg23 c1_i32_264
  let v416 : BitVec 32 := Scalar.select v414 v415 arg23
  let c512_i32_320 : BitVec 32 := 512#32
  let v512 : BitVec 32 := Scalar.muli v416 c512_i32_320
  v512
def k0_off29 (arg23 : BitVec 32) (arg24 : BitVec 32) : Fin 3 → Nat :=
  let c0_321 : Index := 0#32
  let c7_i32_263 : BitVec 32 := 7#32
  let v413 : BitVec 32 := Scalar.subi c7_i32_263 arg23
  let v414 : BitVec 1 := Scalar.cmpi .eq arg24 v413
  let c1_i32_264 : BitVec 32 := 1#32
  let v415 : BitVec 32 := Scalar.addi arg23 c1_i32_264
  let v416 : BitVec 32 := Scalar.select v414 v415 arg23
  let c512_i32_320 : BitVec 32 := 512#32
  let v512 : BitVec 32 := Scalar.muli v416 c512_i32_320
  let v513 : BitVec 32 := v512
  let v514 : Index := Scalar.indexCast v513
  let c0_322 : Index := 0#32
  ![0, v514.toNat, 0]
def k0_mult26 (arg23 : BitVec 32) (arg24 : BitVec 32) : BitVec 32 :=
  let c7_i32_263 : BitVec 32 := 7#32
  let v413 : BitVec 32 := Scalar.subi c7_i32_263 arg23
  let v414 : BitVec 1 := Scalar.cmpi .eq arg24 v413
  let c1_i32_264 : BitVec 32 := 1#32
  let v415 : BitVec 32 := Scalar.addi arg23 c1_i32_264
  let v416 : BitVec 32 := Scalar.select v414 v415 arg23
  let c0_i32_266 : BitVec 32 := 0#32
  let c1_i32_265 : BitVec 32 := 1#32
  let v417 : BitVec 32 := Scalar.addi arg24 c1_i32_265
  let v418 : BitVec 32 := Scalar.select v414 c0_i32_266 v417
  let v517 : BitVec 32 := Scalar.addi v416 v418
  let c512_i32_323 : BitVec 32 := 512#32
  let v518 : BitVec 32 := Scalar.muli v517 c512_i32_323
  v518
def k0_off30 (arg23 : BitVec 32) (arg24 : BitVec 32) : Fin 3 → Nat :=
  let c0_324 : Index := 0#32
  let c7_i32_263 : BitVec 32 := 7#32
  let v413 : BitVec 32 := Scalar.subi c7_i32_263 arg23
  let v414 : BitVec 1 := Scalar.cmpi .eq arg24 v413
  let c1_i32_264 : BitVec 32 := 1#32
  let v415 : BitVec 32 := Scalar.addi arg23 c1_i32_264
  let v416 : BitVec 32 := Scalar.select v414 v415 arg23
  let c0_i32_266 : BitVec 32 := 0#32
  let c1_i32_265 : BitVec 32 := 1#32
  let v417 : BitVec 32 := Scalar.addi arg24 c1_i32_265
  let v418 : BitVec 32 := Scalar.select v414 c0_i32_266 v417
  let v517 : BitVec 32 := Scalar.addi v416 v418
  let c512_i32_323 : BitVec 32 := 512#32
  let v518 : BitVec 32 := Scalar.muli v517 c512_i32_323
  let v519 : BitVec 32 := v518
  let v520 : Index := Scalar.indexCast v519
  let c0_325 : Index := 0#32
  ![0, v520.toNat, 0]
def k0_mult27 (arg23 : BitVec 32) (arg24 : BitVec 32) : BitVec 32 :=
  let c7_i32_263 : BitVec 32 := 7#32
  let v413 : BitVec 32 := Scalar.subi c7_i32_263 arg23
  let v414 : BitVec 1 := Scalar.cmpi .eq arg24 v413
  let c1_i32_264 : BitVec 32 := 1#32
  let v415 : BitVec 32 := Scalar.addi arg23 c1_i32_264
  let v416 : BitVec 32 := Scalar.select v414 v415 arg23
  let c512_i32_330 : BitVec 32 := 512#32
  let v527 : BitVec 32 := Scalar.muli v416 c512_i32_330
  v527
def k0_off31 (arg23 : BitVec 32) (arg24 : BitVec 32) : Fin 3 → Nat :=
  let c0_331 : Index := 0#32
  let c7_i32_263 : BitVec 32 := 7#32
  let v413 : BitVec 32 := Scalar.subi c7_i32_263 arg23
  let v414 : BitVec 1 := Scalar.cmpi .eq arg24 v413
  let c1_i32_264 : BitVec 32 := 1#32
  let v415 : BitVec 32 := Scalar.addi arg23 c1_i32_264
  let v416 : BitVec 32 := Scalar.select v414 v415 arg23
  let c512_i32_330 : BitVec 32 := 512#32
  let v527 : BitVec 32 := Scalar.muli v416 c512_i32_330
  let v528 : BitVec 32 := v527
  let v529 : Index := Scalar.indexCast v528
  let c0_332 : Index := 0#32
  ![0, v529.toNat, 0]
def k0_mult28 (arg23 : BitVec 32) (arg24 : BitVec 32) : BitVec 32 :=
  let c7_i32_263 : BitVec 32 := 7#32
  let v413 : BitVec 32 := Scalar.subi c7_i32_263 arg23
  let v414 : BitVec 1 := Scalar.cmpi .eq arg24 v413
  let c1_i32_264 : BitVec 32 := 1#32
  let v415 : BitVec 32 := Scalar.addi arg23 c1_i32_264
  let v416 : BitVec 32 := Scalar.select v414 v415 arg23
  let c0_i32_266 : BitVec 32 := 0#32
  let c1_i32_265 : BitVec 32 := 1#32
  let v417 : BitVec 32 := Scalar.addi arg24 c1_i32_265
  let v418 : BitVec 32 := Scalar.select v414 c0_i32_266 v417
  let v532 : BitVec 32 := Scalar.addi v416 v418
  let c512_i32_333 : BitVec 32 := 512#32
  let v533 : BitVec 32 := Scalar.muli v532 c512_i32_333
  v533
def k0_off32 (arg23 : BitVec 32) (arg24 : BitVec 32) : Fin 2 → Nat :=
  let c7_i32_263 : BitVec 32 := 7#32
  let v413 : BitVec 32 := Scalar.subi c7_i32_263 arg23
  let v414 : BitVec 1 := Scalar.cmpi .eq arg24 v413
  let c1_i32_264 : BitVec 32 := 1#32
  let v415 : BitVec 32 := Scalar.addi arg23 c1_i32_264
  let v416 : BitVec 32 := Scalar.select v414 v415 arg23
  let c0_i32_266 : BitVec 32 := 0#32
  let c1_i32_265 : BitVec 32 := 1#32
  let v417 : BitVec 32 := Scalar.addi arg24 c1_i32_265
  let v418 : BitVec 32 := Scalar.select v414 c0_i32_266 v417
  let v532 : BitVec 32 := Scalar.addi v416 v418
  let c512_i32_333 : BitVec 32 := 512#32
  let v533 : BitVec 32 := Scalar.muli v532 c512_i32_333
  let v534 : BitVec 32 := v533
  let v535 : Index := Scalar.indexCast v534
  let c0_334 : Index := 0#32
  ![v535.toNat, 0]

def k0_chk5 (arg23 : BitVec 32) (arg24 : BitVec 32) : Prop :=
  (512 ∣ (k0_mult16 arg23 arg24).toNat) ∧
  (∀ a, (k0_off19 arg23 arg24) a + S1x512x192.size a ≤ S1x4096x192.size a) ∧
  (512 ∣ (k0_mult18 arg23 arg24).toNat) ∧
  (∀ a, (k0_off21 arg23 arg24) a + S512x128.size a ≤ S4096x128.size a) ∧
  (∀ a, (k0_off28 arg23 arg24) a + S1x1x1x512.size a ≤ S1x8x1x512.size a) ∧
  (512 ∣ (k0_mult25 arg23 arg24).toNat) ∧
  (∀ a, (k0_off29 arg23 arg24) a + S1x512x192.size a ≤ S1x4096x192.size a) ∧
  (512 ∣ (k0_mult26 arg23 arg24).toNat) ∧
  (∀ a, (k0_off30 arg23 arg24) a + S1x512x192.size a ≤ S1x4096x192.size a) ∧
  (512 ∣ (k0_mult27 arg23 arg24).toNat) ∧
  (∀ a, (k0_off31 arg23 arg24) a + S1x512x128.size a ≤ S1x4096x128.size a) ∧
  (512 ∣ (k0_mult28 arg23 arg24).toNat) ∧
  (∀ a, (k0_off32 arg23 arg24) a + S512x128.size a ≤ S4096x128.size a)
theorem k0_mult16_dvd : ∀ (arg23 : BitVec 32) (arg24 : BitVec 32) (k0_hw5 : k0_chk5 arg23 arg24), 512 ∣ (k0_mult16 arg23 arg24).toNat := fun arg23 arg24 k0_hw5 => k0_hw5.1
theorem k0_off19_inb : ∀ (arg23 : BitVec 32) (arg24 : BitVec 32) (k0_hw5 : k0_chk5 arg23 arg24), ∀ a, (k0_off19 arg23 arg24) a + S1x512x192.size a ≤ S1x4096x192.size a := fun arg23 arg24 k0_hw5 => k0_hw5.2.1
theorem k0_mult18_dvd : ∀ (arg23 : BitVec 32) (arg24 : BitVec 32) (k0_hw5 : k0_chk5 arg23 arg24), 512 ∣ (k0_mult18 arg23 arg24).toNat := fun arg23 arg24 k0_hw5 => k0_hw5.2.2.1
theorem k0_off21_inb : ∀ (arg23 : BitVec 32) (arg24 : BitVec 32) (k0_hw5 : k0_chk5 arg23 arg24), ∀ a, (k0_off21 arg23 arg24) a + S512x128.size a ≤ S4096x128.size a := fun arg23 arg24 k0_hw5 => k0_hw5.2.2.2.1
theorem k0_off28_inb : ∀ (arg23 : BitVec 32) (arg24 : BitVec 32) (k0_hw5 : k0_chk5 arg23 arg24), ∀ a, (k0_off28 arg23 arg24) a + S1x1x1x512.size a ≤ S1x8x1x512.size a := fun arg23 arg24 k0_hw5 => k0_hw5.2.2.2.2.1
theorem k0_mult25_dvd : ∀ (arg23 : BitVec 32) (arg24 : BitVec 32) (k0_hw5 : k0_chk5 arg23 arg24), 512 ∣ (k0_mult25 arg23 arg24).toNat := fun arg23 arg24 k0_hw5 => k0_hw5.2.2.2.2.2.1
theorem k0_off29_inb : ∀ (arg23 : BitVec 32) (arg24 : BitVec 32) (k0_hw5 : k0_chk5 arg23 arg24), ∀ a, (k0_off29 arg23 arg24) a + S1x512x192.size a ≤ S1x4096x192.size a := fun arg23 arg24 k0_hw5 => k0_hw5.2.2.2.2.2.2.1
theorem k0_mult26_dvd : ∀ (arg23 : BitVec 32) (arg24 : BitVec 32) (k0_hw5 : k0_chk5 arg23 arg24), 512 ∣ (k0_mult26 arg23 arg24).toNat := fun arg23 arg24 k0_hw5 => k0_hw5.2.2.2.2.2.2.2.1
theorem k0_off30_inb : ∀ (arg23 : BitVec 32) (arg24 : BitVec 32) (k0_hw5 : k0_chk5 arg23 arg24), ∀ a, (k0_off30 arg23 arg24) a + S1x512x192.size a ≤ S1x4096x192.size a := fun arg23 arg24 k0_hw5 => k0_hw5.2.2.2.2.2.2.2.2.1
theorem k0_mult27_dvd : ∀ (arg23 : BitVec 32) (arg24 : BitVec 32) (k0_hw5 : k0_chk5 arg23 arg24), 512 ∣ (k0_mult27 arg23 arg24).toNat := fun arg23 arg24 k0_hw5 => k0_hw5.2.2.2.2.2.2.2.2.2.1
theorem k0_off31_inb : ∀ (arg23 : BitVec 32) (arg24 : BitVec 32) (k0_hw5 : k0_chk5 arg23 arg24), ∀ a, (k0_off31 arg23 arg24) a + S1x512x128.size a ≤ S1x4096x128.size a := fun arg23 arg24 k0_hw5 => k0_hw5.2.2.2.2.2.2.2.2.2.2.1
theorem k0_mult28_dvd : ∀ (arg23 : BitVec 32) (arg24 : BitVec 32) (k0_hw5 : k0_chk5 arg23 arg24), 512 ∣ (k0_mult28 arg23 arg24).toNat := fun arg23 arg24 k0_hw5 => k0_hw5.2.2.2.2.2.2.2.2.2.2.2.1
theorem k0_off32_inb : ∀ (arg23 : BitVec 32) (arg24 : BitVec 32) (k0_hw5 : k0_chk5 arg23 arg24), ∀ a, (k0_off32 arg23 arg24) a + S512x128.size a ≤ S4096x128.size a := fun arg23 arg24 k0_hw5 => k0_hw5.2.2.2.2.2.2.2.2.2.2.2.2

def k0_off33 (v127_2 : BitVec 32) (v127_3 : BitVec 32) : Fin 4 → Nat :=
  let c0_101 : Index := 0#32
  let v139 : BitVec 32 := Scalar.addi v127_2 v127_3
  let v140 : Index := Scalar.indexCast v139
  let c0_102 : Index := 0#32
  let c0_103 : Index := 0#32
  ![0, v140.toNat, 0, 0]

def k0_mult29 (v127_0 : BitVec 32) : BitVec 32 :=
  let c512_i32_118 : BitVec 32 := 512#32
  let v167 : BitVec 32 := Scalar.muli v127_0 c512_i32_118
  v167

def k0_off34 (v127_0 : BitVec 32) : Fin 2 → Nat :=
  let c512_i32_118 : BitVec 32 := 512#32
  let v167 : BitVec 32 := Scalar.muli v127_0 c512_i32_118
  let v168 : BitVec 32 := v167
  let v169 : Index := Scalar.indexCast v168
  let c0_119 : Index := 0#32
  ![v169.toNat, 0]
def k0_mult30 (v127_0 : BitVec 32) (v127_1 : BitVec 32) : BitVec 32 :=
  let v173 : BitVec 32 := Scalar.addi v127_0 v127_1
  let c512_i32_123 : BitVec 32 := 512#32
  let v174 : BitVec 32 := Scalar.muli v173 c512_i32_123
  v174

def k0_off35 (v127_0 : BitVec 32) (v127_1 : BitVec 32) : Fin 2 → Nat :=
  let v173 : BitVec 32 := Scalar.addi v127_0 v127_1
  let c512_i32_123 : BitVec 32 := 512#32
  let v174 : BitVec 32 := Scalar.muli v173 c512_i32_123
  let v175 : BitVec 32 := v174
  let v176 : Index := Scalar.indexCast v175
  let c0_124 : Index := 0#32
  ![v176.toNat, 0]
def k0_off36 (v127_0 : BitVec 32) : Fin 2 → Nat :=
  let c512_i32_118 : BitVec 32 := 512#32
  let v167 : BitVec 32 := Scalar.muli v127_0 c512_i32_118
  let v168 : BitVec 32 := v167
  let v181 : Index := Scalar.indexCast v168
  let c0_126 : Index := 0#32
  ![v181.toNat, 0]
def k0_mult31 (v127_0 : BitVec 32) : BitVec 32 :=
  let c512_i32_127 : BitVec 32 := 512#32
  let v185 : BitVec 32 := Scalar.muli v127_0 c512_i32_127
  v185
def k0_off37 (v127_0 : BitVec 32) : Fin 2 → Nat :=
  let c512_i32_127 : BitVec 32 := 512#32
  let v185 : BitVec 32 := Scalar.muli v127_0 c512_i32_127
  let v186 : BitVec 32 := v185
  let v187 : Index := Scalar.indexCast v186
  let c0_128 : Index := 0#32
  ![v187.toNat, 0]
def k0_mult32 (v127_0 : BitVec 32) (v127_1 : BitVec 32) : BitVec 32 :=
  let v191 : BitVec 32 := Scalar.addi v127_0 v127_1
  let c512_i32_132 : BitVec 32 := 512#32
  let v192 : BitVec 32 := Scalar.muli v191 c512_i32_132
  v192
def k0_off38 (v127_0 : BitVec 32) (v127_1 : BitVec 32) : Fin 3 → Nat :=
  let c0_133 : Index := 0#32
  let v191 : BitVec 32 := Scalar.addi v127_0 v127_1
  let c512_i32_132 : BitVec 32 := 512#32
  let v192 : BitVec 32 := Scalar.muli v191 c512_i32_132
  let v193 : BitVec 32 := v192
  let v194 : Index := Scalar.indexCast v193
  let c0_134 : Index := 0#32
  ![0, v194.toNat, 0]
def k0_mult33 (v127_0 : BitVec 32) (v127_1 : BitVec 32) : BitVec 32 :=
  let v203 : BitVec 32 := Scalar.addi v127_0 v127_1
  let c512_i32_137 : BitVec 32 := 512#32
  let v204 : BitVec 32 := Scalar.muli v203 c512_i32_137
  v204
def k0_off39 (v127_0 : BitVec 32) (v127_1 : BitVec 32) : Fin 2 → Nat :=
  let v203 : BitVec 32 := Scalar.addi v127_0 v127_1
  let c512_i32_137 : BitVec 32 := 512#32
  let v204 : BitVec 32 := Scalar.muli v203 c512_i32_137
  let v205 : BitVec 32 := v204
  let v206 : Index := Scalar.indexCast v205
  let c0_138 : Index := 0#32
  ![v206.toNat, 0]

def k0_chk9 (v127_0 : BitVec 32) (v127_1 : BitVec 32) : Prop :=
  (512 ∣ (k0_mult30 v127_0 v127_1).toNat) ∧
  (∀ a, (k0_off35 v127_0 v127_1) a + S512x128.size a ≤ S4096x128.size a) ∧
  (512 ∣ (k0_mult32 v127_0 v127_1).toNat) ∧
  (∀ a, (k0_off38 v127_0 v127_1) a + S1x512x192.size a ≤ S1x4096x192.size a) ∧
  (512 ∣ (k0_mult33 v127_0 v127_1).toNat) ∧
  (∀ a, (k0_off39 v127_0 v127_1) a + S512x192.size a ≤ S4096x192.size a)
theorem k0_mult30_dvd : ∀ (v127_0 : BitVec 32) (v127_1 : BitVec 32) (k0_hw9 : k0_chk9 v127_0 v127_1), 512 ∣ (k0_mult30 v127_0 v127_1).toNat := fun v127_0 v127_1 k0_hw9 => k0_hw9.1
theorem k0_off35_inb : ∀ (v127_0 : BitVec 32) (v127_1 : BitVec 32) (k0_hw9 : k0_chk9 v127_0 v127_1), ∀ a, (k0_off35 v127_0 v127_1) a + S512x128.size a ≤ S4096x128.size a := fun v127_0 v127_1 k0_hw9 => k0_hw9.2.1
theorem k0_mult32_dvd : ∀ (v127_0 : BitVec 32) (v127_1 : BitVec 32) (k0_hw9 : k0_chk9 v127_0 v127_1), 512 ∣ (k0_mult32 v127_0 v127_1).toNat := fun v127_0 v127_1 k0_hw9 => k0_hw9.2.2.1
theorem k0_off38_inb : ∀ (v127_0 : BitVec 32) (v127_1 : BitVec 32) (k0_hw9 : k0_chk9 v127_0 v127_1), ∀ a, (k0_off38 v127_0 v127_1) a + S1x512x192.size a ≤ S1x4096x192.size a := fun v127_0 v127_1 k0_hw9 => k0_hw9.2.2.2.1
theorem k0_mult33_dvd : ∀ (v127_0 : BitVec 32) (v127_1 : BitVec 32) (k0_hw9 : k0_chk9 v127_0 v127_1), 512 ∣ (k0_mult33 v127_0 v127_1).toNat := fun v127_0 v127_1 k0_hw9 => k0_hw9.2.2.2.2.1
theorem k0_off39_inb : ∀ (v127_0 : BitVec 32) (v127_1 : BitVec 32) (k0_hw9 : k0_chk9 v127_0 v127_1), ∀ a, (k0_off39 v127_0 v127_1) a + S512x192.size a ≤ S4096x192.size a := fun v127_0 v127_1 k0_hw9 => k0_hw9.2.2.2.2.2

def k0_mult34 (v127_0 : BitVec 32) : BitVec 32 :=
  let c512_i32_142 : BitVec 32 := 512#32
  let v210 : BitVec 32 := Scalar.muli v127_0 c512_i32_142
  v210
def k0_off40 (v127_0 : BitVec 32) : Fin 3 → Nat :=
  let c0_143 : Index := 0#32
  let c512_i32_142 : BitVec 32 := 512#32
  let v210 : BitVec 32 := Scalar.muli v127_0 c512_i32_142
  let v211 : BitVec 32 := v210
  let v212 : Index := Scalar.indexCast v211
  let c0_144 : Index := 0#32
  ![0, v212.toNat, 0]

def k0_chk8 (v127_0 : BitVec 32) : Prop :=
  (512 ∣ (k0_mult29 v127_0).toNat) ∧
  (∀ a, (k0_off34 v127_0) a + S512x128.size a ≤ S4096x128.size a) ∧
  (∀ a, (k0_off36 v127_0) a + S512x128.size a ≤ S4096x128.size a) ∧
  (512 ∣ (k0_mult31 v127_0).toNat) ∧
  (∀ a, (k0_off37 v127_0) a + S512x192.size a ≤ S4096x192.size a) ∧
  (512 ∣ (k0_mult34 v127_0).toNat) ∧
  (∀ a, (k0_off40 v127_0) a + S1x512x192.size a ≤ S1x4096x192.size a)
theorem k0_mult29_dvd : ∀ (v127_0 : BitVec 32) (k0_hw8 : k0_chk8 v127_0), 512 ∣ (k0_mult29 v127_0).toNat := fun v127_0 k0_hw8 => k0_hw8.1
theorem k0_off34_inb : ∀ (v127_0 : BitVec 32) (k0_hw8 : k0_chk8 v127_0), ∀ a, (k0_off34 v127_0) a + S512x128.size a ≤ S4096x128.size a := fun v127_0 k0_hw8 => k0_hw8.2.1
theorem k0_off36_inb : ∀ (v127_0 : BitVec 32) (k0_hw8 : k0_chk8 v127_0), ∀ a, (k0_off36 v127_0) a + S512x128.size a ≤ S4096x128.size a := fun v127_0 k0_hw8 => k0_hw8.2.2.1
theorem k0_mult31_dvd : ∀ (v127_0 : BitVec 32) (k0_hw8 : k0_chk8 v127_0), 512 ∣ (k0_mult31 v127_0).toNat := fun v127_0 k0_hw8 => k0_hw8.2.2.2.1
theorem k0_off37_inb : ∀ (v127_0 : BitVec 32) (k0_hw8 : k0_chk8 v127_0), ∀ a, (k0_off37 v127_0) a + S512x192.size a ≤ S4096x192.size a := fun v127_0 k0_hw8 => k0_hw8.2.2.2.2.1
theorem k0_mult34_dvd : ∀ (v127_0 : BitVec 32) (k0_hw8 : k0_chk8 v127_0), 512 ∣ (k0_mult34 v127_0).toNat := fun v127_0 k0_hw8 => k0_hw8.2.2.2.2.2.1
theorem k0_off40_inb : ∀ (v127_0 : BitVec 32) (k0_hw8 : k0_chk8 v127_0), ∀ a, (k0_off40 v127_0) a + S1x512x192.size a ≤ S1x4096x192.size a := fun v127_0 k0_hw8 => k0_hw8.2.2.2.2.2.2

def k0_mult35 (v127_2 : BitVec 32) : BitVec 32 :=
  let c512_i32_147 : BitVec 32 := 512#32
  let v221 : BitVec 32 := Scalar.muli v127_2 c512_i32_147
  v221

def k0_off41 (v127_2 : BitVec 32) : Fin 2 → Nat :=
  let c512_i32_147 : BitVec 32 := 512#32
  let v221 : BitVec 32 := Scalar.muli v127_2 c512_i32_147
  let v222 : BitVec 32 := v221
  let v223 : Index := Scalar.indexCast v222
  let c0_148 : Index := 0#32
  ![v223.toNat, 0]
def k0_mult36 (v127_2 : BitVec 32) (v127_3 : BitVec 32) : BitVec 32 :=
  let v227 : BitVec 32 := Scalar.addi v127_2 v127_3
  let c512_i32_152 : BitVec 32 := 512#32
  let v228 : BitVec 32 := Scalar.muli v227 c512_i32_152
  v228
def k0_off42 (v127_2 : BitVec 32) (v127_3 : BitVec 32) : Fin 2 → Nat :=
  let v227 : BitVec 32 := Scalar.addi v127_2 v127_3
  let c512_i32_152 : BitVec 32 := 512#32
  let v228 : BitVec 32 := Scalar.muli v227 c512_i32_152
  let v229 : BitVec 32 := v228
  let v230 : Index := Scalar.indexCast v229
  let c0_153 : Index := 0#32
  ![v230.toNat, 0]
def k0_mult37 (v127_2 : BitVec 32) : BitVec 32 :=
  let c512_i32_156 : BitVec 32 := 512#32
  let v239 : BitVec 32 := Scalar.muli v127_2 c512_i32_156
  v239
def k0_off43 (v127_2 : BitVec 32) : Fin 2 → Nat :=
  let c512_i32_156 : BitVec 32 := 512#32
  let v239 : BitVec 32 := Scalar.muli v127_2 c512_i32_156
  let v240 : BitVec 32 := v239
  let v241 : Index := Scalar.indexCast v240
  let c0_157 : Index := 0#32
  ![v241.toNat, 0]
def k0_mult38 (v127_2 : BitVec 32) (v127_3 : BitVec 32) : BitVec 32 :=
  let v245 : BitVec 32 := Scalar.addi v127_2 v127_3
  let c512_i32_161 : BitVec 32 := 512#32
  let v246 : BitVec 32 := Scalar.muli v245 c512_i32_161
  v246
def k0_off44 (v127_2 : BitVec 32) (v127_3 : BitVec 32) : Fin 3 → Nat :=
  let c0_162 : Index := 0#32
  let v245 : BitVec 32 := Scalar.addi v127_2 v127_3
  let c512_i32_161 : BitVec 32 := 512#32
  let v246 : BitVec 32 := Scalar.muli v245 c512_i32_161
  let v247 : BitVec 32 := v246
  let v248 : Index := Scalar.indexCast v247
  let c0_163 : Index := 0#32
  ![0, v248.toNat, 0]
def k0_mult39 (v127_2 : BitVec 32) (v127_3 : BitVec 32) : BitVec 32 :=
  let v257 : BitVec 32 := Scalar.addi v127_2 v127_3
  let c512_i32_166 : BitVec 32 := 512#32
  let v258 : BitVec 32 := Scalar.muli v257 c512_i32_166
  v258
def k0_off45 (v127_2 : BitVec 32) (v127_3 : BitVec 32) : Fin 2 → Nat :=
  let v257 : BitVec 32 := Scalar.addi v127_2 v127_3
  let c512_i32_166 : BitVec 32 := 512#32
  let v258 : BitVec 32 := Scalar.muli v257 c512_i32_166
  let v259 : BitVec 32 := v258
  let v260 : Index := Scalar.indexCast v259
  let c0_167 : Index := 0#32
  ![v260.toNat, 0]

def k0_chk7 (v127_2 : BitVec 32) (v127_3 : BitVec 32) : Prop :=
  (∀ a, (k0_off33 v127_2 v127_3) a + S1x1x1x512.size a ≤ S1x8x1x512.size a) ∧
  (512 ∣ (k0_mult36 v127_2 v127_3).toNat) ∧
  (∀ a, (k0_off42 v127_2 v127_3) a + S512x128.size a ≤ S4096x128.size a) ∧
  (512 ∣ (k0_mult38 v127_2 v127_3).toNat) ∧
  (∀ a, (k0_off44 v127_2 v127_3) a + S1x512x192.size a ≤ S1x4096x192.size a) ∧
  (512 ∣ (k0_mult39 v127_2 v127_3).toNat) ∧
  (∀ a, (k0_off45 v127_2 v127_3) a + S512x192.size a ≤ S4096x192.size a)
theorem k0_off33_inb : ∀ (v127_2 : BitVec 32) (v127_3 : BitVec 32) (k0_hw7 : k0_chk7 v127_2 v127_3), ∀ a, (k0_off33 v127_2 v127_3) a + S1x1x1x512.size a ≤ S1x8x1x512.size a := fun v127_2 v127_3 k0_hw7 => k0_hw7.1
theorem k0_mult36_dvd : ∀ (v127_2 : BitVec 32) (v127_3 : BitVec 32) (k0_hw7 : k0_chk7 v127_2 v127_3), 512 ∣ (k0_mult36 v127_2 v127_3).toNat := fun v127_2 v127_3 k0_hw7 => k0_hw7.2.1
theorem k0_off42_inb : ∀ (v127_2 : BitVec 32) (v127_3 : BitVec 32) (k0_hw7 : k0_chk7 v127_2 v127_3), ∀ a, (k0_off42 v127_2 v127_3) a + S512x128.size a ≤ S4096x128.size a := fun v127_2 v127_3 k0_hw7 => k0_hw7.2.2.1
theorem k0_mult38_dvd : ∀ (v127_2 : BitVec 32) (v127_3 : BitVec 32) (k0_hw7 : k0_chk7 v127_2 v127_3), 512 ∣ (k0_mult38 v127_2 v127_3).toNat := fun v127_2 v127_3 k0_hw7 => k0_hw7.2.2.2.1
theorem k0_off44_inb : ∀ (v127_2 : BitVec 32) (v127_3 : BitVec 32) (k0_hw7 : k0_chk7 v127_2 v127_3), ∀ a, (k0_off44 v127_2 v127_3) a + S1x512x192.size a ≤ S1x4096x192.size a := fun v127_2 v127_3 k0_hw7 => k0_hw7.2.2.2.2.1
theorem k0_mult39_dvd : ∀ (v127_2 : BitVec 32) (v127_3 : BitVec 32) (k0_hw7 : k0_chk7 v127_2 v127_3), 512 ∣ (k0_mult39 v127_2 v127_3).toNat := fun v127_2 v127_3 k0_hw7 => k0_hw7.2.2.2.2.2.1
theorem k0_off45_inb : ∀ (v127_2 : BitVec 32) (v127_3 : BitVec 32) (k0_hw7 : k0_chk7 v127_2 v127_3), ∀ a, (k0_off45 v127_2 v127_3) a + S512x192.size a ≤ S4096x192.size a := fun v127_2 v127_3 k0_hw7 => k0_hw7.2.2.2.2.2.2

def k0_mult40 (v127_2 : BitVec 32) : BitVec 32 :=
  let c512_i32_171 : BitVec 32 := 512#32
  let v264 : BitVec 32 := Scalar.muli v127_2 c512_i32_171
  v264
def k0_off46 (v127_2 : BitVec 32) : Fin 3 → Nat :=
  let c0_172 : Index := 0#32
  let c512_i32_171 : BitVec 32 := 512#32
  let v264 : BitVec 32 := Scalar.muli v127_2 c512_i32_171
  let v265 : BitVec 32 := v264
  let v266 : Index := Scalar.indexCast v265
  let c0_173 : Index := 0#32
  ![0, v266.toNat, 0]

def k0_chk10 (v127_2 : BitVec 32) : Prop :=
  (512 ∣ (k0_mult35 v127_2).toNat) ∧
  (∀ a, (k0_off41 v127_2) a + S512x128.size a ≤ S4096x128.size a) ∧
  (512 ∣ (k0_mult37 v127_2).toNat) ∧
  (∀ a, (k0_off43 v127_2) a + S512x192.size a ≤ S4096x192.size a) ∧
  (512 ∣ (k0_mult40 v127_2).toNat) ∧
  (∀ a, (k0_off46 v127_2) a + S1x512x192.size a ≤ S1x4096x192.size a)
theorem k0_mult35_dvd : ∀ (v127_2 : BitVec 32) (k0_hw10 : k0_chk10 v127_2), 512 ∣ (k0_mult35 v127_2).toNat := fun v127_2 k0_hw10 => k0_hw10.1
theorem k0_off41_inb : ∀ (v127_2 : BitVec 32) (k0_hw10 : k0_chk10 v127_2), ∀ a, (k0_off41 v127_2) a + S512x128.size a ≤ S4096x128.size a := fun v127_2 k0_hw10 => k0_hw10.2.1
theorem k0_mult37_dvd : ∀ (v127_2 : BitVec 32) (k0_hw10 : k0_chk10 v127_2), 512 ∣ (k0_mult37 v127_2).toNat := fun v127_2 k0_hw10 => k0_hw10.2.2.1
theorem k0_off43_inb : ∀ (v127_2 : BitVec 32) (k0_hw10 : k0_chk10 v127_2), ∀ a, (k0_off43 v127_2) a + S512x192.size a ≤ S4096x192.size a := fun v127_2 k0_hw10 => k0_hw10.2.2.2.1
theorem k0_mult40_dvd : ∀ (v127_2 : BitVec 32) (k0_hw10 : k0_chk10 v127_2), 512 ∣ (k0_mult40 v127_2).toNat := fun v127_2 k0_hw10 => k0_hw10.2.2.2.2.1
theorem k0_off46_inb : ∀ (v127_2 : BitVec 32) (k0_hw10 : k0_chk10 v127_2), ∀ a, (k0_off46 v127_2) a + S1x512x192.size a ≤ S1x4096x192.size a := fun v127_2 k0_hw10 => k0_hw10.2.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnBwdIdeal.lean ====
variable {F : FTy → Type} [FloatOps F] [Named F]
def κ : String → Option EReal := fun
  | "log2e" => some (((Real.log 2)⁻¹ : ℝ) : EReal)
  | "mask" => some ⊥
  | "scale" => some (((Real.sqrt 192)⁻¹ : ℝ) : EReal)
  | "scale_log2" => some (((Real.sqrt 192)⁻¹ * (Real.log 2)⁻¹ : ℝ) : EReal)
  | _ => none
-- ==== AttnRefIdeal.lean ====
abbrev S8x4096x192 : Shape := ⟨3, ![8, 4096, 192]⟩
abbrev S8x4096x128 : Shape := ⟨3, ![8, 4096, 128]⟩
abbrev S4096x1024 : Shape := ⟨2, ![4096, 1024]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩

abbrev nBuf : Space → Nat
  | .hbm => 116
  | .vmem => 0
  | .smem => 0
  | _ => 0

abbrev bufTy : (tb : Table) → Fin (tcTables nBuf tb) → BufTy
  | .hbm, ⟨0, _⟩ => ⟨S8x4096x192, .bf16⟩
  | .hbm, ⟨1, _⟩ => ⟨S8x4096x192, .bf16⟩
  | .hbm, ⟨2, _⟩ => ⟨S8x4096x128, .bf16⟩
  | .hbm, ⟨3, _⟩ => ⟨S4096x1024, .f32⟩
  | .hbm, ⟨4, _⟩ => ⟨S8x4096x192, .f32⟩
  | .hbm, ⟨5, _⟩ => ⟨S8x4096x192, .f32⟩
  | .hbm, ⟨6, _⟩ => ⟨S8x4096x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S1x4096x4096, .i1⟩
  | .hbm, ⟨39, _⟩ => ⟨S_, .f32⟩
  | .hbm, ⟨40, _⟩ => ⟨S_, .f32⟩
  | .hbm, ⟨41, _⟩ => ⟨S8x4096x4096, .i1⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .i1⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S_, .f32⟩
  | .hbm, ⟨55, _⟩ => ⟨S8x4096, .f32⟩
  | .hbm, ⟨56, _⟩ => ⟨S8x4096, .f32⟩
  | .hbm, ⟨57, _⟩ => ⟨S_, .f32⟩
  | .hbm, ⟨58, _⟩ => ⟨S8x4096, .f32⟩
  | .hbm, ⟨59, _⟩ => ⟨S8x4096, .i1⟩
  | .hbm, ⟨60, _⟩ => ⟨S_, .f32⟩
  | .hbm, ⟨61, _⟩ => ⟨S8x4096, .f32⟩
  | .hbm, ⟨62, _⟩ => ⟨S8x4096, .i1⟩
  | .hbm, ⟨63, _⟩ => ⟨S_, .f32⟩
  | .hbm, ⟨64, _⟩ => ⟨S8x4096, .f32⟩
  | .hbm, ⟨65, _⟩ => ⟨S_, .f32⟩
  | .hbm, ⟨66, _⟩ => ⟨S8x4096, .f32⟩
  | .hbm, ⟨67, _⟩ => ⟨S_, .f32⟩
  | .hbm, ⟨68, _⟩ => ⟨S8x4096, .f32⟩
  | .hbm, ⟨69, _⟩ => ⟨S8x4096, .f32⟩
  | .hbm, ⟨70, _⟩ => ⟨S8x4096, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S8x4096x4096, .f32⟩
  | .hbm, ⟨79, _⟩ => ⟨S8x4096x4096, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S8x128x4096, .f32⟩
  | .hbm, ⟨85, _⟩ => ⟨S4096x8x128, .f32⟩
  | .hbm, ⟨86, _⟩ => ⟨S4096x1024, .f32⟩
  | .hbm, ⟨87, _⟩ => ⟨S4096x8x128, .f32⟩
  | .hbm, ⟨88, _⟩ => ⟨S8x128x4096, .f32⟩
  | .hbm, ⟨89, _⟩ => ⟨S8x4096x4096, .f32⟩
  | .hbm, ⟨90, _⟩ => ⟨S8x128x4096, .f32⟩
  | .hbm, ⟨91, _⟩ => ⟨S8x4096x128, .f32⟩
  | .hbm, ⟨92, _⟩ => ⟨S8x4096x4096, .f32⟩
  | .hbm, ⟨93, _⟩ => ⟨S8x4096x4096, .f32⟩
  | .hbm, ⟨94, _⟩ => ⟨S8x4096x4096, .f32⟩
  | .hbm, ⟨95, _⟩ => ⟨S_, .f32⟩
  | .hbm, ⟨96, _⟩ => ⟨S8x4096, .f32⟩
  | .hbm, ⟨97, _⟩ => ⟨S8x4096x1, .f32⟩
  | .hbm, ⟨98, _⟩ => ⟨S8x4096x1, .f32⟩
  | .hbm, ⟨99, _⟩ => ⟨S8x4096x4096, .f32⟩
  | .hbm, ⟨100, _⟩ => ⟨S8x4096x4096, .f32⟩
  | .hbm, ⟨101, _⟩ => ⟨S_, .f32⟩
  | .hbm, ⟨102, _⟩ => ⟨S8x4096, .f32⟩
  | .hbm, ⟨103, _⟩ => ⟨S8x4096x4096, .f32⟩
  | .hbm, ⟨104, _⟩ => ⟨S8x4096x4096, .f32⟩
  | .hbm, ⟨105, _⟩ => ⟨S8x4096x4096, .f32⟩
  | .hbm, ⟨106, _⟩ => ⟨S_, .f32⟩
  | .hbm, ⟨107, _⟩ => ⟨S8x4096x4096, .f32⟩
  | .hbm, ⟨108, _⟩ => ⟨S8x4096x4096, .f32⟩
  | .hbm, ⟨109, _⟩ => ⟨S8x4096x4096, .f32⟩
  | .hbm, ⟨110, _⟩ => ⟨S8x4096x4096, .f32⟩
  | .hbm, ⟨111, _⟩ => ⟨S8x4096x192, .f32⟩
  | .hbm, ⟨112, _⟩ => ⟨S8x4096x192, .f32⟩
  | .hbm, ⟨113, _⟩ => ⟨S8x4096x128, .bf16⟩
  | .hbm, ⟨114, _⟩ => ⟨S8x4096x192, .bf16⟩
  | .hbm, ⟨115, _⟩ => ⟨S8x4096x192, .bf16⟩
  | _, _ => ⟨S8x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_call1_v0 : Ref sig .tc := ⟨.hbm, 40, rfl⟩
abbrev main_v16_1 : Ref sig .tc := ⟨.hbm, 41, rfl⟩
abbrev main_call1_v2 : Ref sig .tc := ⟨.hbm, 42, rfl⟩
abbrev main_v16_0 : Ref sig .tc := ⟨.hbm, 43, rfl⟩
abbrev main_call1_cst : Ref sig .tc := ⟨.hbm, 44, rfl⟩
abbrev main_v16_2 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_cst_8 : Ref sig .tc := ⟨.hbm, 65, rfl⟩
abbrev main_v30 : Ref sig .tc := ⟨.hbm, 66, rfl⟩
abbrev main_cst_9 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_11 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_12 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_13 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call2_cst : Ref sig .tc := ⟨.hbm, 106, rfl⟩
abbrev main_call2_v0 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩

abbrev nD : Nat := 1
abbrev τ : Topo := Topo.v7x

variable {F : FTy → Type} [FloatOps F]
-- ==== DownGrad.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x512x704 : Shape := ⟨3, ![4, 512, 704]⟩
abbrev S512x1024 : Shape := ⟨2, ![512, 1024]⟩
abbrev S1x704x1024 : Shape := ⟨3, ![1, 704, 1024]⟩
abbrev S704x1024 : Shape := ⟨2, ![704, 1024]⟩
abbrev S1x512x704 : Shape := ⟨3, ![1, 512, 704]⟩
abbrev S512x704 : Shape := ⟨2, ![512, 704]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x4x704, .bf16⟩
  | .hbm, ⟨3, _⟩ => ⟨S4x4096x704, .bf16⟩
  | .hbm, ⟨4, _⟩ => ⟨S4x704x1024, .bf16⟩
  | .local _ .vmem, ⟨0, _⟩ => ⟨S4x512x704, .bf16⟩
  | .local _ .vmem, ⟨1, _⟩ => ⟨S4x512x704, .bf16⟩
  | .local _ .vmem, ⟨2, _⟩ => ⟨S512x1024, .f32⟩
  | .local _ .vmem, ⟨3, _⟩ => ⟨S512x1024, .f32⟩
  | .local _ .vmem, ⟨4, _⟩ => ⟨S4x704x1024, .bf16⟩
  | .local _ .vmem, ⟨5, _⟩ => ⟨S4x704x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_38 : BitVec 32 := 0#32
  let v43 : BitVec 1 := Scalar.cmpi .ne v42 c0_i32_38
  v43

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .bf16⟩
  | .hbm, ⟨3, _⟩ => ⟨S2816x1024, .bf16⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpGrad.lean ====
abbrev S4096x1024 : Shape := ⟨2, ![4096, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x1024x704 : Shape := ⟨3, ![4, 1024, 704]⟩
abbrev S512x1024 : Shape := ⟨2, ![512, 1024]⟩
abbrev S4x512x704 : Shape := ⟨3, ![4, 512, 704]⟩
abbrev S1024x512 : Shape := ⟨2, ![1024, 512]⟩
abbrev S1x1024x704 : Shape := ⟨3, ![1, 1024, 704]⟩
abbrev S1024x704 : Shape := ⟨2, ![1024, 704]⟩
abbrev S1x512x704 : Shape := ⟨3, ![1, 512, 704]⟩
abbrev S512x704 : Shape := ⟨2, ![512, 704]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x4x704, .bf16⟩
  | .hbm, ⟨3, _⟩ => ⟨S4x4096x704, .bf16⟩
  | .hbm, ⟨4, _⟩ => ⟨S4x1024x704, .bf16⟩
  | .local _ .vmem, ⟨0, _⟩ => ⟨S512x1024, .bf16⟩
  | .local _ .vmem, ⟨1, _⟩ => ⟨S512x1024, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_38 : BitVec 32 := 0#32
  let v43 : BitVec 1 := Scalar.cmpi .ne v42 c0_i32_38
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== UpRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .bf16⟩
  | .hbm, ⟨3, _⟩ => ⟨S1024x2816, .bf16⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S1024x2816, .bf16⟩
  | .hbm, ⟨11, _⟩ => ⟨S1024x4x704, .bf16⟩
  | .hbm, ⟨12, _⟩ => ⟨S4x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== InGrad.lean ====
abbrev S4096x1024 : Shape := ⟨2, ![4096, 1024]⟩
abbrev S2x1024 : Shape := ⟨2, ![2, 1024]⟩
abbrev S2x1024x2816 : Shape := ⟨3, ![2, 1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2x1024x4x704 : Shape := ⟨4, ![2, 1024, 4, 704]⟩
abbrev S4x2x1024x704 : Shape := ⟨4, ![4, 2, 1024, 704]⟩
abbrev S4x2048x704 : Shape := ⟨3, ![4, 2048, 704]⟩
abbrev S1x1024 : Shape := ⟨2, ![1, 1024]⟩
abbrev S4x512x704 : Shape := ⟨3, ![4, 512, 704]⟩
abbrev S4x1024x704 : Shape := ⟨3, ![4, 1024, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024x2816, .bf16⟩
  | .hbm, ⟨3, _⟩ => ⟨S2x1024x2816, .bf16⟩
  | .hbm, ⟨4, _⟩ => ⟨S4096x1024, .f32⟩
  | .hbm, ⟨5, _⟩ => ⟨S4096x2816, .bf16⟩
  | .hbm, ⟨6, _⟩ => ⟨S4096x2816, .bf16⟩
  | .hbm, ⟨7, _⟩ => ⟨S4096x4x704, .bf16⟩
  | .hbm, ⟨8, _⟩ => ⟨S4x4096x704, .bf16⟩
  | .hbm, ⟨9, _⟩ => ⟨S4096x4x704, .bf16⟩
  | .hbm, ⟨10, _⟩ => ⟨S4x4096x704, .bf16⟩
  | .hbm, ⟨11, _⟩ => ⟨S2x1024x4x704, .bf16⟩
  | .hbm, ⟨12, _⟩ => ⟨S4x2x1024x704, .bf16⟩
  | .hbm, ⟨13, _⟩ => ⟨S4x2048x704, .bf16⟩
  | .hbm, ⟨14, _⟩ => ⟨S2x1024x4x704, .bf16⟩
  | .hbm, ⟨15, _⟩ => ⟨S4x2x1024x704, .bf16⟩
  | .hbm, ⟨16, _⟩ => ⟨S4x2048x704, .bf16⟩
  | .hbm, ⟨17, _⟩ => ⟨S1x1024, .f32⟩
  | .hbm, ⟨18, _⟩ => ⟨S4096x1024, .f32⟩
  | .hbm, ⟨19, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InRefIdeal.lean ====
abbrev S4096x1024 : Shape := ⟨2, ![4096, 1024]⟩
abbrev S2x1024 : Shape := ⟨2, ![2, 1024]⟩
abbrev S2x1024x2816 : Shape := ⟨3, ![2, 1024, 2816]⟩
abbrev S4096x2816 : Shape := ⟨2, ![4096, 2816]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x2816 : Shape := ⟨3, ![1, 1024, 2816]⟩
abbrev S1024x2816 : Shape := ⟨2, ![1024, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024x2816, .bf16⟩
  | .hbm, ⟨3, _⟩ => ⟨S2x1024x2816, .bf16⟩
  | .hbm, ⟨4, _⟩ => ⟨S4096x1024, .f32⟩
  | .hbm, ⟨5, _⟩ => ⟨S4096x2816, .bf16⟩
  | .hbm, ⟨6, _⟩ => ⟨S4096x2816, .bf16⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024x2816, .bf16⟩
  | .hbm, ⟨30, _⟩ => ⟨S1024x2816, .bf16⟩
  | .hbm, ⟨31, _⟩ => ⟨S1024x2816, .f32⟩
  | .hbm, ⟨32, _⟩ => ⟨S4096x2816, .f32⟩
  | .hbm, ⟨33, _⟩ => ⟨S1x1024x2816, .bf16⟩
  | .hbm, ⟨34, _⟩ => ⟨S1024x2816, .bf16⟩
  | .hbm, ⟨35, _⟩ => ⟨S1024x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== InFirstGrad.lean ====
abbrev S4096x1024 : Shape := ⟨2, ![4096, 1024]⟩
abbrev S2x1024 : Shape := ⟨2, ![2, 1024]⟩
abbrev S2x1024x2816 : Shape := ⟨3, ![2, 1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2x1024x4x704 : Shape := ⟨4, ![2, 1024, 4, 704]⟩
abbrev S4x2x1024x704 : Shape := ⟨4, ![4, 2, 1024, 704]⟩
abbrev S4x2048x704 : Shape := ⟨3, ![4, 2048, 704]⟩
abbrev S1x1024 : Shape := ⟨2, ![1, 1024]⟩
abbrev S4x512x704 : Shape := ⟨3, ![4, 512, 704]⟩
abbrev S4x1024x704 : Shape := ⟨3, ![4, 1024, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024x2816, .bf16⟩
  | .hbm, ⟨3, _⟩ => ⟨S2x1024x2816, .bf16⟩
  | .hbm, ⟨4, _⟩ => ⟨S4096x1024, .f32⟩
  | .hbm, ⟨5, _⟩ => ⟨S4096x2816, .bf16⟩
  | .hbm, ⟨6, _⟩ => ⟨S4096x2816, .bf16⟩
  | .hbm, ⟨7, _⟩ => ⟨S4096x4x704, .bf16⟩
  | .hbm, ⟨8, _⟩ => ⟨S4x4096x704, .bf16⟩
  | .hbm, ⟨9, _⟩ => ⟨S4096x4x704, .bf16⟩
  | .hbm, ⟨10, _⟩ => ⟨S4x4096x704, .bf16⟩
  | .hbm, ⟨11, _⟩ => ⟨S2x1024x4x704, .bf16⟩
  | .hbm, ⟨12, _⟩ => ⟨S4x2x1024x704, .bf16⟩
  | .hbm, ⟨13, _⟩ => ⟨S4x2048x704, .bf16⟩
  | .hbm, ⟨14, _⟩ => ⟨S2x1024x4x704, .bf16⟩
  | .hbm, ⟨15, _⟩ => ⟨S4x2x1024x704, .bf16⟩
  | .hbm, ⟨16, _⟩ => ⟨S4x2048x704, .bf16⟩
  | .hbm, ⟨17, _⟩ => ⟨S1x1024, .f32⟩
  | .hbm, ⟨18, _⟩ => ⟨S4096x1024, .f32⟩
  | .hbm, ⟨19, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InFirstRefIdeal.lean ====
abbrev S4096x1024 : Shape := ⟨2, ![4096, 1024]⟩
abbrev S2x1024 : Shape := ⟨2, ![2, 1024]⟩
abbrev S2x1024x2816 : Shape := ⟨3, ![2, 1024, 2816]⟩
abbrev S4096x2816 : Shape := ⟨2, ![4096, 2816]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x2816 : Shape := ⟨3, ![1, 1024, 2816]⟩
abbrev S1024x2816 : Shape := ⟨2, ![1024, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024x2816, .bf16⟩
  | .hbm, ⟨3, _⟩ => ⟨S2x1024x2816, .bf16⟩
  | .hbm, ⟨4, _⟩ => ⟨S4096x1024, .f32⟩
  | .hbm, ⟨5, _⟩ => ⟨S4096x2816, .bf16⟩
  | .hbm, ⟨6, _⟩ => ⟨S4096x2816, .bf16⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024x2816, .bf16⟩
  | .hbm, ⟨30, _⟩ => ⟨S1024x2816, .bf16⟩
  | .hbm, ⟨31, _⟩ => ⟨S1024x2816, .f32⟩
  | .hbm, ⟨32, _⟩ => ⟨S4096x2816, .f32⟩
  | .hbm, ⟨33, _⟩ => ⟨S1x1024x2816, .bf16⟩
  | .hbm, ⟨34, _⟩ => ⟨S1024x2816, .bf16⟩
  | .hbm, ⟨35, _⟩ => ⟨S1024x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== HidGrad.lean ====
abbrev S4096x2816 : Shape := ⟨2, ![4096, 2816]⟩
abbrev S2x2816x1024 : Shape := ⟨3, ![2, 2816, 1024]⟩
abbrev S4096x1024 : Shape := ⟨2, ![4096, 1024]⟩
abbrev S_ : Shape := ⟨0, ![]⟩
abbrev S2x4x704x1024 : Shape := ⟨4, ![2, 4, 704, 1024]⟩
abbrev S4x2x704x1024 : Shape := ⟨4, ![4, 2, 704, 1024]⟩
abbrev S4x1408x1024 : Shape := ⟨3, ![4, 1408, 1024]⟩
abbrev S4096x4x704 : Shape := ⟨3, ![4096, 4, 704]⟩
abbrev S4x4096x704 : Shape := ⟨3, ![4, 4096, 704]⟩
abbrev S512x1024 : Shape := ⟨2, ![512, 1024]⟩
abbrev S4x704x1024 : Shape := ⟨3, ![4, 704, 1024]⟩
abbrev S4x512x704 : Shape := ⟨3, ![4, 512, 704]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 37
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2x2816x1024, .bf16⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S2x4x704x1024, .bf16⟩
  | .hbm, ⟨27, _⟩ => ⟨S4x2x704x1024, .bf16⟩
  | .hbm, ⟨28, _⟩ => ⟨S4x1408x1024, .bf16⟩
  | .hbm, ⟨29, _⟩ => ⟨S4096x2816, .bf16⟩
  | .hbm, ⟨30, _⟩ => ⟨S4096x4x704, .bf16⟩
  | .hbm, ⟨31, _⟩ => ⟨S4x4096x704, .bf16⟩
  | .hbm, ⟨32, _⟩ => ⟨S4096x2816, .bf16⟩
  | .hbm, ⟨33, _⟩ => ⟨S4096x4x704, .bf16⟩
  | .hbm, ⟨34, _⟩ => ⟨S4x4096x704, .bf16⟩
  | .hbm, ⟨35, _⟩ => ⟨S4x4096x704, .bf16⟩
  | .hbm, ⟨36, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S4x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HidRefIdeal.lean ====
abbrev S4096x2816 : Shape := ⟨2, ![4096, 2816]⟩
abbrev S2x2816x1024 : Shape := ⟨3, ![2, 2816, 1024]⟩
abbrev S4096x1024 : Shape := ⟨2, ![4096, 1024]⟩
abbrev S_ : Shape := ⟨0, ![]⟩
abbrev S1x2816x1024 : Shape := ⟨3, ![1, 2816, 1024]⟩
abbrev S2816x1024 : Shape := ⟨2, ![2816, 1024]⟩
abbrev S4096x4x704 : Shape := ⟨3, ![4096, 4, 704]⟩
abbrev S4x4096x704 : Shape := ⟨3, ![4, 4096, 704]⟩

abbrev nBuf : Space → Nat
  | .hbm => 35
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2x2816x1024, .bf16⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S1x2816x1024, .bf16⟩
  | .hbm, ⟨19, _⟩ => ⟨S2816x1024, .bf16⟩
  | .hbm, ⟨20, _⟩ => ⟨S2816x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x4x704, .bf16⟩
  | .hbm, ⟨31, _⟩ => ⟨S4x4096x704, .bf16⟩
  | .hbm, ⟨32, _⟩ => ⟨S4096x2816, .bf16⟩
  | .hbm, ⟨33, _⟩ => ⟨S4096x4x704, .bf16⟩
  | .hbm, ⟨34, _⟩ => ⟨S4x4096x704, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== HidFirstGrad.lean ====
abbrev S4096x2816 : Shape := ⟨2, ![4096, 2816]⟩
abbrev S2x2816x1024 : Shape := ⟨3, ![2, 2816, 1024]⟩
abbrev S4096x1024 : Shape := ⟨2, ![4096, 1024]⟩
abbrev S_ : Shape := ⟨0, ![]⟩
abbrev S2x4x704x1024 : Shape := ⟨4, ![2, 4, 704, 1024]⟩
abbrev S4x2x704x1024 : Shape := ⟨4, ![4, 2, 704, 1024]⟩
abbrev S4x1408x1024 : Shape := ⟨3, ![4, 1408, 1024]⟩
abbrev S4096x4x704 : Shape := ⟨3, ![4096, 4, 704]⟩
abbrev S4x4096x704 : Shape := ⟨3, ![4, 4096, 704]⟩
abbrev S512x1024 : Shape := ⟨2, ![512, 1024]⟩
abbrev S4x704x1024 : Shape := ⟨3, ![4, 704, 1024]⟩
abbrev S4x512x704 : Shape := ⟨3, ![4, 512, 704]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 37
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2x2816x1024, .bf16⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S2x4x704x1024, .bf16⟩
  | .hbm, ⟨27, _⟩ => ⟨S4x2x704x1024, .bf16⟩
  | .hbm, ⟨28, _⟩ => ⟨S4x1408x1024, .bf16⟩
  | .hbm, ⟨29, _⟩ => ⟨S4096x2816, .bf16⟩
  | .hbm, ⟨30, _⟩ => ⟨S4096x4x704, .bf16⟩
  | .hbm, ⟨31, _⟩ => ⟨S4x4096x704, .bf16⟩
  | .hbm, ⟨32, _⟩ => ⟨S4096x2816, .bf16⟩
  | .hbm, ⟨33, _⟩ => ⟨S4096x4x704, .bf16⟩
  | .hbm, ⟨34, _⟩ => ⟨S4x4096x704, .bf16⟩
  | .hbm, ⟨35, _⟩ => ⟨S4x4096x704, .bf16⟩
  | .hbm, ⟨36, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S4x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HidFirstRefIdeal.lean ====
abbrev S4096x2816 : Shape := ⟨2, ![4096, 2816]⟩
abbrev S2x2816x1024 : Shape := ⟨3, ![2, 2816, 1024]⟩
abbrev S4096x1024 : Shape := ⟨2, ![4096, 1024]⟩
abbrev S_ : Shape := ⟨0, ![]⟩
abbrev S1x2816x1024 : Shape := ⟨3, ![1, 2816, 1024]⟩
abbrev S2816x1024 : Shape := ⟨2, ![2816, 1024]⟩
abbrev S4096x4x704 : Shape := ⟨3, ![4096, 4, 704]⟩
abbrev S4x4096x704 : Shape := ⟨3, ![4, 4096, 704]⟩

abbrev nBuf : Space → Nat
  | .hbm => 35
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2x2816x1024, .bf16⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S1x2816x1024, .bf16⟩
  | .hbm, ⟨19, _⟩ => ⟨S2816x1024, .bf16⟩
  | .hbm, ⟨20, _⟩ => ⟨S2816x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x4x704, .bf16⟩
  | .hbm, ⟨31, _⟩ => ⟨S4x4096x704, .bf16⟩
  | .hbm, ⟨32, _⟩ => ⟨S4096x2816, .bf16⟩
  | .hbm, ⟨33, _⟩ => ⟨S4096x4x704, .bf16⟩
  | .hbm, ⟨34, _⟩ => ⟨S4x4096x704, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Gates.lean ====
abbrev S4096x1024 : Shape := ⟨2, ![4096, 1024]⟩
abbrev S2x1024x2816 : Shape := ⟨3, ![2, 1024, 2816]⟩
abbrev S2x1024x4x704 : Shape := ⟨4, ![2, 1024, 4, 704]⟩
abbrev S4x2x1024x704 : Shape := ⟨4, ![4, 2, 1024, 704]⟩
abbrev S4x2048x704 : Shape := ⟨3, ![4, 2048, 704]⟩
abbrev S4x4096x704 : Shape := ⟨3, ![4, 4096, 704]⟩
abbrev S512x1024 : Shape := ⟨2, ![512, 1024]⟩
abbrev S4x1024x704 : Shape := ⟨3, ![4, 1024, 704]⟩
abbrev S4x512x704 : Shape := ⟨3, ![4, 512, 704]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S2x1024x2816, .bf16⟩
  | .hbm, ⟨2, _⟩ => ⟨S2x1024x2816, .bf16⟩
  | .hbm, ⟨3, _⟩ => ⟨S2x1024x4x704, .bf16⟩
  | .hbm, ⟨4, _⟩ => ⟨S4x2x1024x704, .bf16⟩
  | .hbm, ⟨5, _⟩ => ⟨S4x2048x704, .bf16⟩
  | .hbm, ⟨6, _⟩ => ⟨S2x1024x4x704, .bf16⟩
  | .hbm, ⟨7, _⟩ => ⟨S4x2x1024x704, .bf16⟩
  | .hbm, ⟨8, _⟩ => ⟨S4x2048x704, .bf16⟩
  | .hbm, ⟨9, _⟩ => ⟨S4x4096x704, .bf16⟩
  | .hbm, ⟨10, _⟩ => ⟨S4x4096x704, .bf16⟩
  | .hbm, ⟨11, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S4x1024x704, .bf16⟩
  | .local _ .vmem, ⟨3, _⟩ => ⟨S4x1024x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatesRefIdeal.lean ====
abbrev S4096x1024 : Shape := ⟨2, ![4096, 1024]⟩
abbrev S2x1024x2816 : Shape := ⟨3, ![2, 1024, 2816]⟩
abbrev S1x1024x2816 : Shape := ⟨3, ![1, 1024, 2816]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x2816, .bf16⟩
  | .hbm, ⟨2, _⟩ => ⟨S2x1024x2816, .bf16⟩
  | .hbm, ⟨3, _⟩ => ⟨S4096x1024, .f32⟩
  | .hbm, ⟨4, _⟩ => ⟨S1x1024x2816, .bf16⟩
  | .hbm, ⟨5, _⟩ => ⟨S1024x2816, .bf16⟩
  | .hbm, ⟨6, _⟩ => ⟨S1024x2816, .f32⟩
  | .hbm, ⟨7, _⟩ => ⟨S4096x2816, .f32⟩
  | .hbm, ⟨8, _⟩ => ⟨S1x1024x2816, .bf16⟩
  | .hbm, ⟨9, _⟩ => ⟨S1024x2816, .bf16⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S4096x4x704, .bf16⟩
  | .hbm, ⟨36, _⟩ => ⟨S4x4096x704, .bf16⟩
  | .hbm, ⟨37, _⟩ => ⟨S4096x2816, .bf16⟩
  | .hbm, ⟨38, _⟩ => ⟨S4096x4x704, .bf16⟩
  | .hbm, ⟨39, _⟩ => ⟨S4x4096x704, .bf16⟩
  | .hbm, ⟨40, _⟩ => ⟨S4096x2816, .bf16⟩
  | .hbm, ⟨41, _⟩ => ⟨S4096x4x704, .bf16⟩
  | .hbm, ⟨42, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v9_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v9_1 : Ref sig .tc := ⟨.hbm, 23, rfl⟩
abbrev main_v9_0 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== GatesFirst.lean ====
abbrev S4096x1024 : Shape := ⟨2, ![4096, 1024]⟩
abbrev S2x1024x2816 : Shape := ⟨3, ![2, 1024, 2816]⟩
abbrev S2x1024x4x704 : Shape := ⟨4, ![2, 1024, 4, 704]⟩
abbrev S4x2x1024x704 : Shape := ⟨4, ![4, 2, 1024, 704]⟩
abbrev S4x2048x704 : Shape := ⟨3, ![4, 2048, 704]⟩
abbrev S4x4096x704 : Shape := ⟨3, ![4, 4096, 704]⟩
abbrev S512x1024 : Shape := ⟨2, ![512, 1024]⟩
abbrev S4x1024x704 : Shape := ⟨3, ![4, 1024, 704]⟩
abbrev S4x512x704 : Shape := ⟨3, ![4, 512, 704]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S2x1024x2816, .bf16⟩
  | .hbm, ⟨2, _⟩ => ⟨S2x1024x2816, .bf16⟩
  | .hbm, ⟨3, _⟩ => ⟨S2x1024x4x704, .bf16⟩
  | .hbm, ⟨4, _⟩ => ⟨S4x2x1024x704, .bf16⟩
  | .hbm, ⟨5, _⟩ => ⟨S4x2048x704, .bf16⟩
  | .hbm, ⟨6, _⟩ => ⟨S2x1024x4x704, .bf16⟩
  | .hbm, ⟨7, _⟩ => ⟨S4x2x1024x704, .bf16⟩
  | .hbm, ⟨8, _⟩ => ⟨S4x2048x704, .bf16⟩
  | .hbm, ⟨9, _⟩ => ⟨S4x4096x704, .bf16⟩
  | .hbm, ⟨10, _⟩ => ⟨S4x4096x704, .bf16⟩
  | .hbm, ⟨11, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S4x1024x704, .bf16⟩
  | .local _ .vmem, ⟨3, _⟩ => ⟨S4x1024x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatesFirstRefIdeal.lean ====
abbrev S4096x1024 : Shape := ⟨2, ![4096, 1024]⟩
abbrev S2x1024x2816 : Shape := ⟨3, ![2, 1024, 2816]⟩
abbrev S1x1024x2816 : Shape := ⟨3, ![1, 1024, 2816]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x2816, .bf16⟩
  | .hbm, ⟨2, _⟩ => ⟨S2x1024x2816, .bf16⟩
  | .hbm, ⟨3, _⟩ => ⟨S4096x1024, .f32⟩
  | .hbm, ⟨4, _⟩ => ⟨S1x1024x2816, .bf16⟩
  | .hbm, ⟨5, _⟩ => ⟨S1024x2816, .bf16⟩
  | .hbm, ⟨6, _⟩ => ⟨S1024x2816, .f32⟩
  | .hbm, ⟨7, _⟩ => ⟨S4096x2816, .f32⟩
  | .hbm, ⟨8, _⟩ => ⟨S1x1024x2816, .bf16⟩
  | .hbm, ⟨9, _⟩ => ⟨S1024x2816, .bf16⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S4096x4x704, .bf16⟩
  | .hbm, ⟨36, _⟩ => ⟨S4x4096x704, .bf16⟩
  | .hbm, ⟨37, _⟩ => ⟨S4096x2816, .bf16⟩
  | .hbm, ⟨38, _⟩ => ⟨S4096x4x704, .bf16⟩
  | .hbm, ⟨39, _⟩ => ⟨S4x4096x704, .bf16⟩
  | .hbm, ⟨40, _⟩ => ⟨S4096x2816, .bf16⟩
  | .hbm, ⟨41, _⟩ => ⟨S4096x4x704, .bf16⟩
  | .hbm, ⟨42, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v9_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v9_1 : Ref sig .tc := ⟨.hbm, 23, rfl⟩
abbrev main_v9_0 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Proof.ConvSpec.lean ====
/- The gradient of the short gated convolution, written element by element over the extended reals: what both the
   kernel and the reference are shown to leave in their result arrays. -/
module

public import Idealize.ShloMosaic.Lib.Pointwise
public import Idealize.ShloMosaic.Lib.WordCmp

@[expose] public section

noncomputable section

namespace Cert.ConvSpec

open Idealize.ShloMosaic

/-- The three stacked inputs (gate, multiplier, value), token by channel. -/
abbrev Slabs : Shape := ⟨3, ![3, 4096, 1024]⟩
/-- The three filter taps, tap by channel. -/
abbrev Taps : Shape := ⟨2, ![3, 1024]⟩
/-- One value per token and channel. -/
abbrev Rows : Shape := ⟨2, ![4096, 1024]⟩

variable (X : Slabs.Idx → EReal) (W : Taps.Idx → EReal) (Y : Rows.Idx → EReal)

/-- The convolution's input: multiplier times value. -/
def mix (r : Fin 4096) (j : Fin 1024) : EReal := X (ix3 1 r j) * X (ix3 2 r j)

/-- The convolution's input `s` tokens earlier, zero before the first token. -/
def past (s : Nat) (r : Fin 4096) (j : Fin 1024) : EReal :=
  if s ≤ r.val then mix X ⟨r.val - s, by omega⟩ j else 0

/-- The cotangent of the convolution's output: incoming cotangent times gate. -/
def gate (r : Fin 4096) (j : Fin 1024) : EReal := Y (ix2 r j) * X (ix3 0 r j)

/-- That cotangent `s` tokens later, zero past the last token. -/
def future (s : Nat) (r : Fin 4096) (j : Fin 1024) : EReal :=
  if h : r.val + s < 4096 then gate X Y ⟨r.val + s, h⟩ j else 0

/-- The cotangent of the convolution's input: the filter applied backwards in time. -/
def gradMix (r : Fin 4096) (j : Fin 1024) : EReal :=
  W (ix2 2 j) * gate X Y r j + W (ix2 1 j) * future X Y 1 r j + W (ix2 0 j) * future X Y 2 r j

/-- The convolution's output. -/
def conv (r : Fin 4096) (j : Fin 1024) : EReal :=
  W (ix2 0 j) * past X 2 r j + W (ix2 1 j) * past X 1 r j + W (ix2 2 j) * mix X r j

/-- The gradient of slab `p`. -/
def slab : Fin 3 → Fin 4096 → Fin 1024 → EReal
  | ⟨0, _⟩, r, j => Y (ix2 r j) * conv X W r j
  | ⟨1, _⟩, r, j => gradMix X W Y r j * X (ix3 2 r j)
  | ⟨_ + 2, _⟩, r, j => gradMix X W Y r j * X (ix3 1 r j)

/-- The gradient of the stacked inputs. -/
def gradX : Slabs.Idx → EReal := fun y => slab X W Y (y 0) (y 1) (y 2)

/-- The gradient of the taps: tap `k` meets the input `2 - k` tokens earlier. -/
def gradW : Taps.Idx → EReal := fun y => ∑ r : Fin 4096, gate X Y r (y 1) * past X (2 - (y 0).val) r (y 1)

theorem past_zero (r : Fin 4096) (j : Fin 1024) : past X 0 r j = mix X r j := by
  unfold past; rw [if_pos (Nat.zero_le _)]; rfl

/-- A choice on the comparison word of a row number at least `s` is the choice on the numbers. -/
theorem select_sge (r : Fin 4096) (s : Nat) (hs : s < 4096) (a b : EReal) :
    Scalar.select (IntOp.cmpi .sge (BitVec.ofNat 32 r.val) (BitVec.ofNat 32 s)) a b = if s ≤ r.val then a else b := by
  have hr := r.isLt
  by_cases h : s ≤ r.val
  · rw [(WordCmp.cmpi_sge_ofNat_eq_one_iff (w := 32) (by omega) (by omega)).mpr h, if_pos h]; rfl
  · rw [(WordCmp.cmpi_sge_ofNat_eq_zero_iff (w := 32) (by omega) (by omega)).mpr h, if_neg h]; rfl

/-- A choice on the comparison word of a row number below `s` is the choice on the numbers. -/
theorem select_slt (r : Fin 4096) (s : Nat) (hs : s < 4096) (a b : EReal) :
    Scalar.select (IntOp.cmpi .slt (BitVec.ofNat 32 r.val) (BitVec.ofNat 32 s)) a b = if r.val < s then a else b := by
  have hr := r.isLt
  by_cases h : r.val < s
  · rw [(WordCmp.cmpi_slt_ofNat_eq_one_iff (w := 32) (by omega) (by omega)).mpr h, if_pos h]; rfl
  · rw [(WordCmp.cmpi_slt_ofNat_eq_zero_iff (w := 32) (by omega) (by omega)).mpr h, if_neg h]; rfl

/-- A rotation down by `s` rows, kept where the row has a predecessor, reads the input `s` tokens earlier. -/
theorem ite_past (s : Nat) (hs : s < 4096) (r : Fin 4096) (j : Fin 1024) (w : EReal) (h) :
    (if s ≤ r.val then w * (X (ix3 1 ⟨(r.val + 4096 - s) % 4096, h⟩ j) * X (ix3 2 ⟨(r.val + 4096 - s) % 4096, h⟩ j)) else 0)
      = w * past X s r j := by
  have hr := r.isLt
  unfold past mix
  by_cases hc : s ≤ r.val
  · have e : (⟨(r.val + 4096 - s) % 4096, h⟩ : Fin 4096) = ⟨r.val - s, by omega⟩ := Fin.ext (by
      show (r.val + 4096 - s) % 4096 = r.val - s
      rw [show r.val + 4096 - s = (r.val - s) + 4096 from by omega, Nat.add_mod_right, Nat.mod_eq_of_lt (by omega)])
    rw [if_pos hc, if_pos hc, e]
  · rw [if_neg hc, if_neg hc, mul_zero]

/-- A rotation up by `s` rows, kept where the row has a successor, reads the cotangent `s` tokens later. -/
theorem ite_future (s k : Nat) (hk : k + s = 4096) (hs : 0 < s) (r : Fin 4096) (j : Fin 1024) (w : EReal) (h) :
    (if r.val < k then w * (Y (ix2 ⟨(r.val + 4096 - k) % 4096, h⟩ j) * X (ix3 0 ⟨(r.val + 4096 - k) % 4096, h⟩ j)) else 0)
      = w * future X Y s r j := by
  have hr := r.isLt
  unfold future gate
  by_cases hc : r.val < k
  · have e : (⟨(r.val + 4096 - k) % 4096, h⟩ : Fin 4096) = ⟨r.val + s, by omega⟩ := Fin.ext (by
      show (r.val + 4096 - k) % 4096 = r.val + s
      rw [show r.val + 4096 - k = r.val + s from by omega, Nat.mod_eq_of_lt (by omega)])
    rw [if_pos hc, dif_pos (show r.val + s < 4096 by omega), e]
  · rw [if_neg hc, dif_neg (by omega), mul_zero]

end Cert.ConvSpec

end
-- ==== Proof.ConvValue.lean ====
/- The value of the short convolution's backward kernel, idealized: each grid point writes its 128 channels of the
   gradients `ConvSpec.gradX` and `ConvSpec.gradW`, and the points cover both result arrays. -/
module

public import proofs.«01_k».proof.Proof.ConvSpec
public import proofs.«01_k».proof.Proof.Gen.ConvBwdIdeal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvBwdIdeal.Hand

open Cert.ConvBwdIdeal Cert.ConvBwdIdeal.Gen Cert.ConvSpec

/-- Channel `l` of block `t`. -/
def col (t : Nat) (ht : t < 8) (l : Fin 128) : Fin 1024 := ⟨t * 128 + l.val, by omega⟩

section Payloads

variable (X : Slabs.Idx → EReal) (W : Taps.Idx → EReal) (Y : Rows.Idx → EReal) (t : Nat) (ht : t < 8)
variable (x0 x1 x2 : Vec Ideal S1x4096x128 .bf16) (x3 : Vec Ideal S3x128 .f32) (x4 : Vec Ideal S4096x128 .f32)
variable (h0 : ∀ r l, x0 (ix3 0 r l) = X (ix3 0 r (col t ht l))) (h1 : ∀ r l, x1 (ix3 0 r l) = X (ix3 1 r (col t ht l)))
variable (h2 : ∀ r l, x2 (ix3 0 r l) = X (ix3 2 r (col t ht l))) (h3 : ∀ k l, x3 (ix2 k l) = W (ix2 k (col t ht l)))
variable (h4 : ∀ r l, x4 (ix2 r l) = Y (ix2 r (col t ht l)))

include h1 h2 h3 h4 in
/-- The gate's gradient. -/
theorem pay_gate (y : S1x4096x128.Idx) :
    k0_pay8 (View.ld x1 r0_0) (View.ld x2 r0_0) (View.ld x4 r0_1) (View.ld x3 r0_2) (View.ld x3 r0_3) (View.ld x3 r0_4) y
      = slab X W Y 0 (y 1) (col t ht (y 2)) := by
  idx_vars y
  unfold_payloads
  unfold r0_0 r0_1 r0_2 r0_3 r0_4
  pointwise
  simp only [h1, h2, h3, h4]
  rw [select_sge y1 2 (by omega), select_sge y1 1 (by omega), ite_past X 2 (by omega), ite_past X 1 (by omega)]
  rfl

include h0 h1 h3 h4 in
set_option maxRecDepth 200000 in
/-- The value's gradient. -/
theorem pay_value (y : S1x4096x128.Idx) :
    k0_pay2 (k0_pay3 (View.ld x1 r0_0)) (k0_pay13 (View.ld x4 r0_1) (View.ld x3 r0_2) (View.ld x3 r0_3) (View.ld x3 r0_4) (View.ld x0 r0_0)) y
      = slab X W Y 2 (y 1) (col t ht (y 2)) := by
  idx_vars y
  unfold_payloads
  unfold r0_0 r0_1 r0_2 r0_3 r0_4
  pointwise
  simp only [h0, h1, h3, h4]
  rw [select_slt y1 4095 (by omega), select_slt y1 4094 (by omega), ite_future X Y 1 4095 (by omega) (by omega),
    ite_future X Y 2 4094 (by omega) (by omega)]
  rfl

include h0 h2 h3 h4 in
set_option maxRecDepth 200000 in
/-- The multiplier's gradient. -/
theorem pay_mult (y : S1x4096x128.Idx) :
    k0_pay1 (k0_pay14 (k0_pay4 (View.ld x2 r0_0)) (View.ld x4 r0_1) (View.ld x3 r0_2) (View.ld x3 r0_3) (View.ld x3 r0_4) (View.ld x0 r0_0)) y
      = slab X W Y 1 (y 1) (col t ht (y 2)) := by
  idx_vars y
  unfold_payloads
  unfold r0_0 r0_1 r0_2 r0_3 r0_4
  pointwise
  simp only [h0, h2, h3, h4]
  rw [select_slt y1 4095 (by omega), select_slt y1 4094 (by omega), ite_future X Y 1 4095 (by omega) (by omega),
    ite_future X Y 2 4094 (by omega) (by omega)]
  rfl

include h0 h1 h2 h4 in
/-- The first tap's gradient. -/
theorem pay_tap0 (y : S1x128.Idx) :
    k0_pay10 (View.ld x4 r0_1) (k0_pay7 (View.ld x1 r0_0) (View.ld x2 r0_0)) (View.ld x0 r0_0) y
      = gradW X Y (ix2 0 (col t ht (y 1))) := by
  idx_vars y
  unfold_payloads
  unfold r0_0 r0_1
  pointwise
  simp only [h0, h1, h2, h4]
  exact Finset.sum_congr rfl fun r _ => by rw [select_sge r 2 (by omega), ite_past X 2 (by omega)]; rfl

include h0 h1 h2 h4 in
/-- The second tap's gradient. -/
theorem pay_tap1 (y : S1x128.Idx) :
    k0_pay11 (View.ld x4 r0_1) (k0_pay6 (View.ld x1 r0_0) (View.ld x2 r0_0)) (View.ld x0 r0_0) y
      = gradW X Y (ix2 1 (col t ht (y 1))) := by
  idx_vars y
  unfold_payloads
  unfold r0_0 r0_1
  pointwise
  simp only [h0, h1, h2, h4]
  exact Finset.sum_congr rfl fun r _ => by rw [select_sge r 1 (by omega), ite_past X 1 (by omega)]; rfl

include h0 h1 h2 h4 in
/-- The third tap's gradient. -/
theorem pay_tap2 (y : S1x128.Idx) :
    k0_pay12 (View.ld x4 r0_1) (k0_pay5 (View.ld x1 r0_0) (View.ld x2 r0_0)) (View.ld x0 r0_0) y
      = gradW X Y (ix2 2 (col t ht (y 1))) := by
  idx_vars y
  unfold_payloads
  unfold r0_0 r0_1
  pointwise
  simp only [h0, h1, h2, h4]
  exact Finset.sum_congr rfl fun r _ => (congrArg (gate X Y r (col t ht y1) * ·) (past_zero X r (col t ht y1))).symm

include h0 h1 h2 h3 h4 in
/-- What the body leaves in the block of the stacked gradients. -/
theorem out5 (y : S3x4096x128.Idx) : out0_5 x0 x1 x2 x3 x4 y = slab X W Y (y 0) (y 1) (col t ht (y 2)) := by
  unfold out0_5
  refine View.canon_apply_of_pieces (Val := Elt Ideal) (fun y => slab X W Y (y 0) (y 1) (col t ht (y 2)) : S3x4096x128.Idx → Elt Ideal .bf16) _ ?_ y (cover0_5 _ _ _ y)
  intro pc hpc
  rcases List.mem_cons.mp hpc with rfl | hpc
  · intro x
    refine (pay_value X W Y t ht x0 x1 x3 x4 h0 h1 h3 h4 x).trans ?_
    have hx : (x 0).val < 1 := (x 0).isLt
    refine congrArg (fun y : S3x4096x128.Idx => slab X W Y (y 0) (y 1) (col t ht (y 2))) (a₁ := ix3 2 (x 1 : Fin 4096) (x 2 : Fin 128)) ?_
    funext a
    apply Fin.ext
    match a with
    | ⟨0, _⟩ => show 2 = 2 + 1 * (x 0).val; omega
    | ⟨1, _⟩ => show (x 1).val = 0 + 1 * (x 1).val; omega
    | ⟨2, _⟩ => show (x 2).val = 0 + 1 * (x 2).val; omega
  rcases List.mem_cons.mp hpc with rfl | hpc
  · intro x
    refine (pay_mult X W Y t ht x0 x2 x3 x4 h0 h2 h3 h4 x).trans ?_
    have hx : (x 0).val < 1 := (x 0).isLt
    refine congrArg (fun y : S3x4096x128.Idx => slab X W Y (y 0) (y 1) (col t ht (y 2))) (a₁ := ix3 1 (x 1 : Fin 4096) (x 2 : Fin 128)) ?_
    funext a
    apply Fin.ext
    match a with
    | ⟨0, _⟩ => show 1 = 1 + 1 * (x 0).val; omega
    | ⟨1, _⟩ => show (x 1).val = 0 + 1 * (x 1).val; omega
    | ⟨2, _⟩ => show (x 2).val = 0 + 1 * (x 2).val; omega
  rcases List.mem_cons.mp hpc with rfl | hpc
  · intro x
    refine (pay_gate X W Y t ht x1 x2 x3 x4 h1 h2 h3 h4 x).trans ?_
    have hx : (x 0).val < 1 := (x 0).isLt
    refine congrArg (fun y : S3x4096x128.Idx => slab X W Y (y 0) (y 1) (col t ht (y 2))) (a₁ := ix3 0 (x 1 : Fin 4096) (x 2 : Fin 128)) ?_
    funext a
    apply Fin.ext
    match a with
    | ⟨0, _⟩ => show 0 = 0 + 1 * (x 0).val; omega
    | ⟨1, _⟩ => show (x 1).val = 0 + 1 * (x 1).val; omega
    | ⟨2, _⟩ => show (x 2).val = 0 + 1 * (x 2).val; omega
  nomatch hpc

include h0 h1 h2 h4 in
/-- What the body leaves in the block of the taps' gradients. -/
theorem out6 (y : S3x128.Idx) : out0_6 x0 x1 x2 x3 x4 y = gradW X Y (ix2 (y 0) (col t ht (y 1))) := by
  unfold out0_6
  refine View.canon_apply_of_pieces (Val := Elt Ideal) (fun y => gradW X Y (ix2 (y 0) (col t ht (y 1))) : S3x128.Idx → Elt Ideal .f32) _ ?_ y (cover0_6 _ _ _ y)
  intro pc hpc
  rcases List.mem_cons.mp hpc with rfl | hpc
  · intro x
    refine (pay_tap2 X Y t ht x0 x1 x2 x4 h0 h1 h2 h4 x).trans ?_
    have hx : (x 0).val < 1 := (x 0).isLt
    refine congrArg (fun y : S3x128.Idx => gradW X Y (ix2 (y 0) (col t ht (y 1)))) (a₁ := ix2 2 (x 1 : Fin 128)) ?_
    funext a
    apply Fin.ext
    match a with
    | ⟨0, _⟩ => show 2 = 2 + 1 * (x 0).val; omega
    | ⟨1, _⟩ => show (x 1).val = 0 + 1 * (x 1).val; omega
  rcases List.mem_cons.mp hpc with rfl | hpc
  · intro x
    refine (pay_tap1 X Y t ht x0 x1 x2 x4 h0 h1 h2 h4 x).trans ?_
    have hx : (x 0).val < 1 := (x 0).isLt
    refine congrArg (fun y : S3x128.Idx => gradW X Y (ix2 (y 0) (col t ht (y 1)))) (a₁ := ix2 1 (x 1 : Fin 128)) ?_
    funext a
    apply Fin.ext
    match a with
    | ⟨0, _⟩ => show 1 = 1 + 1 * (x 0).val; omega
    | ⟨1, _⟩ => show (x 1).val = 0 + 1 * (x 1).val; omega
  rcases List.mem_cons.mp hpc with rfl | hpc
  · intro x
    refine (pay_tap0 X Y t ht x0 x1 x2 x4 h0 h1 h2 h4 x).trans ?_
    have hx : (x 0).val < 1 := (x 0).isLt
    refine congrArg (fun y : S3x128.Idx => gradW X Y (ix2 (y 0) (col t ht (y 1)))) (a₁ := ix2 0 (x 1 : Fin 128)) ?_
    funext a
    apply Fin.ext
    match a with
    | ⟨0, _⟩ => show 0 = 0 + 1 * (x 0).val; omega
    | ⟨1, _⟩ => show (x 1).val = 0 + 1 * (x 1).val; omega
  nomatch hpc

end Payloads

variable (m : (ℓ : Loc nD τ sig) → Buf (Elt Ideal) ℓ) (ρ : Dev nD → PrngReg)

/-- Where the windows' blocks lie, decided over the grid. -/
theorem idx_facts : ∀ t : Fin cfg0.N,
    (win0_0.index t 0 = 0 ∧ win0_0.index t 1 = 0 ∧ win0_0.index t 2 = t.val)
    ∧ (win0_1.index t 0 = 1 ∧ win0_1.index t 1 = 0 ∧ win0_1.index t 2 = t.val)
    ∧ (win0_2.index t 0 = 2 ∧ win0_2.index t 1 = 0 ∧ win0_2.index t 2 = t.val)
    ∧ (win0_3.index t 0 = 0 ∧ win0_3.index t 1 = t.val)
    ∧ (win0_4.index t 0 = 0 ∧ win0_4.index t 1 = t.val)
    ∧ (win0_5.index t 0 = 0 ∧ win0_5.index t 1 = 0 ∧ win0_5.index t 2 = t.val)
    ∧ (win0_6.index t 0 = 0 ∧ win0_6.index t 1 = t.val) :=
  (by decide +kernel : ∀ t : Fin grid0.N, _)

theorem lt8 (t : Fin cfg0.N) : t.val < 8 := lt_of_lt_of_eq t.isLt N_0

/-- The stacked inputs, the taps and the cotangent as launched. -/
abbrev argX (c : Dev nD) : Slabs.Idx → EReal := m ((c : Thread nD τ).loc main_arg0)
abbrev argW (c : Dev nD) : Taps.Idx → EReal := m ((c : Thread nD τ).loc main_arg1)
abbrev argY (c : Dev nD) : Rows.Idx → EReal := m ((c : Thread nD τ).loc main_arg2)

theorem blk0 (c : Dev nD) (t : Fin cfg0.N) (r : Fin 4096) (l : Fin 128) :
    (iblk m c 0 t : Vec Ideal S1x4096x128 .bf16) (ix3 0 r l) = argX m c (ix3 0 r (col t.val (lt8 t) l)) := by
  obtain ⟨⟨e0, e1, e2⟩, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1 + 1 * 0 = 0; rw [e0]
  | ⟨1, _⟩ => show win0_0.index t 1 * 4096 + 1 * r.val = r.val; rw [e1]; omega
  | ⟨2, _⟩ => show win0_0.index t 2 * 128 + 1 * l.val = t.val * 128 + l.val; rw [e2]; omega

theorem blk1 (c : Dev nD) (t : Fin cfg0.N) (r : Fin 4096) (l : Fin 128) :
    (iblk m c 1 t : Vec Ideal S1x4096x128 .bf16) (ix3 0 r l) = argX m c (ix3 1 r (col t.val (lt8 t) l)) := by
  obtain ⟨-, ⟨e0, e1, e2⟩, -⟩ := idx_facts t
  unfold iblk
  rw [View.read_apply]
  show V m c main_arg0 _ = m (c.tc.loc main_arg0) _
  unfold V
  congr 1
  funext a
  apply Fin.ext
  match a with
  | ⟨0, _⟩ => show win0_1.index t 0 * 1 + 1 * 0 = 1; rw [e0]
  | ⟨1, _⟩ => show win0_1.index t 1 * 4096 + 1 * r.val = r.val; rw [e1]; omega
  | ⟨2, _⟩ => show win0_1.index t 2 * 128 + 1 * l.val = t.val * 128 + l.val; rw [e2]; omega

theorem blk2 (c : Dev nD) (t : Fin cfg0.N) (r : Fin 4096) (l : Fin 128) :
    (iblk m c 2 t : Vec Ideal S1x4096x128 .bf16) (ix3 0 r l) = argX m c (ix3 2 r (col t.val (lt8 t) l)) := by
  obtain ⟨-, -, ⟨e0, e1, e2⟩, -⟩ := idx_facts t
  unfold iblk
  rw [View.read_apply]
  show V m c main_arg0 _ = m (c.tc.loc main_arg0) _
  unfold V
  congr 1
  funext a
  apply Fin.ext
  match a with
  | ⟨0, _⟩ => show win0_2.index t 0 * 1 + 1 * 0 = 2; rw [e0]
  | ⟨1, _⟩ => show win0_2.index t 1 * 4096 + 1 * r.val = r.val; rw [e1]; omega
  | ⟨2, _⟩ => show win0_2.index t 2 * 128 + 1 * l.val = t.val * 128 + l.val; rw [e2]; omega

theorem blk3 (c : Dev nD) (t : Fin cfg0.N) (k : Fin 3) (l : Fin 128) :
    (iblk m c 3 t : Vec Ideal S3x128 .f32) (ix2 k l) = argW m c (ix2 k (col t.val (lt8 t) l)) := by
  obtain ⟨-, -, -, ⟨e0, e1⟩, -⟩ := idx_facts t
  unfold iblk
  rw [View.read_apply]
  show V m c main_arg1 _ = m (c.tc.loc main_arg1) _
  unfold V
  congr 1
  funext a
  apply Fin.ext
  match a with
  | ⟨0, _⟩ => show win0_3.index t 0 * 3 + 1 * k.val = k.val; rw [e0]; omega
  | ⟨1, _⟩ => show win0_3.index t 1 * 128 + 1 * l.val = t.val * 128 + l.val; rw [e1]; omega

theorem blk4 (c : Dev nD) (t : Fin cfg0.N) (r : Fin 4096) (l : Fin 128) :
    (iblk m c 4 t : Vec Ideal S4096x128 .f32) (ix2 r l) = argY m c (ix2 r (col t.val (lt8 t) l)) := by
  obtain ⟨-, -, -, -, ⟨e0, e1⟩, -⟩ := idx_facts t
  unfold iblk
  rw [View.read_apply]
  show V m c main_arg2 _ = m (c.tc.loc main_arg2) _
  unfold V
  congr 1
  funext a
  apply Fin.ext
  match a with
  | ⟨0, _⟩ => show win0_4.index t 0 * 4096 + 1 * r.val = r.val; rw [e0]; omega
  | ⟨1, _⟩ => show win0_4.index t 1 * 128 + 1 * l.val = t.val * 128 + l.val; rw [e1]; omega

/-- Point `t` writes its channels of the stacked gradients. -/
theorem flushed5_eq (c : Dev nD) (t : Fin cfg0.N) :
    (dats m 0 c).flushed 5 t = ((cfg0.win 5).blk t).view.read (Elt Ideal) (gradX (argX m c) (argW m c) (argY m c)) := by
  obtain ⟨-, -, -, -, -, ⟨e0, e1, e2⟩, -⟩ := idx_facts t
  rw [Value.flushed5]
  funext y
  rw [View.read_apply]
  show out0_5 (iblk m c 0 t) (iblk m c 1 t) (iblk m c 2 t) (iblk m c 3 t) (iblk m c 4 t) (y : S3x4096x128.Idx) = _
  rw [out5 (argX m c) (argW m c) (argY m c) t.val (lt8 t) _ _ _ _ _ (blk0 m c t) (blk1 m c t) (blk2 m c t) (blk3 m c t) (blk4 m c t)]
  refine congrArg (gradX (argX m c) (argW m c) (argY m c)) (a₁ := ix3 (y 0 : Fin 3) (y 1 : Fin 4096) (col t.val (lt8 t) (y 2))) ?_
  funext a
  apply Fin.ext
  match a with
  | ⟨0, _⟩ => show (y 0).val = win0_5.index t 0 * 3 + 1 * (y 0).val; rw [e0]; omega
  | ⟨1, _⟩ => show (y 1).val = win0_5.index t 1 * 4096 + 1 * (y 1).val; rw [e1]; omega
  | ⟨2, _⟩ => show t.val * 128 + (y 2).val = win0_5.index t 2 * 128 + 1 * (y 2).val; rw [e2]; omega

/-- Point `t` writes its channels of the taps' gradients. -/
theorem flushed6_eq (c : Dev nD) (t : Fin cfg0.N) :
    (dats m 0 c).flushed 6 t = ((cfg0.win 6).blk t).view.read (Elt Ideal) (gradW (argX m c) (argY m c)) := by
  obtain ⟨-, -, -, -, -, -, ⟨e0, e1⟩⟩ := idx_facts t
  rw [Value.flushed6]
  funext y
  rw [View.read_apply]
  show out0_6 (iblk m c 0 t) (iblk m c 1 t) (iblk m c 2 t) (iblk m c 3 t) (iblk m c 4 t) (y : S3x128.Idx) = _
  rw [out6 (argX m c) (argY m c) t.val (lt8 t) _ _ _ _ _ (blk0 m c t) (blk1 m c t) (blk2 m c t) (blk4 m c t)]
  refine congrArg (gradW (argX m c) (argY m c)) ?_
  funext a
  apply Fin.ext
  match a with
  | ⟨0, _⟩ => show (y 0).val = win0_6.index t 0 * 3 + 1 * (y 0).val; rw [e0]; omega
  | ⟨1, _⟩ => show t.val * 128 + (y 1).val = win0_6.index t 1 * 128 + 1 * (y 1).val; rw [e1]; omega

/-- Every index of the stacked gradients lies in some point's block. -/
theorem cover5 (i : S3x4096x1024.Idx) : ∃ t : Fin cfg0.N, (cfg0.win 5).flush t = true ∧ i ∈ ((cfg0.win 5).blk t).view.set := by
  have h0 : (i 0 : Nat) < 3 := (i 0).isLt
  have h1 : (i 1 : Nat) < 4096 := (i 1).isLt
  have h2 : (i 2 : Nat) < 1024 := (i 2).isLt
  have hN : cfg0.N = 8 := N_0
  refine ⟨⟨(i 2 : Nat) / 128, by omega⟩, flush0_5 _, ?_⟩
  generalize ht : (⟨(i 2 : Nat) / 128, _⟩ : Fin cfg0.N) = t
  have hv : t.val = (i 2 : Nat) / 128 := by rw [← ht]
  obtain ⟨-, -, -, -, -, ⟨e0, e1, e2⟩, -⟩ := idx_facts t
  show i ∈ ((View.whole main_v0_0).slice (win0_5.rect t)).set
  rw [View.set_slice_whole, Rect.mem_set_unit]
  intro a
  match a with
  | ⟨0, _⟩ => show win0_5.index t 0 * 3 ≤ (i 0 : Nat) ∧ (i 0 : Nat) < win0_5.index t 0 * 3 + 3; rw [e0]; omega
  | ⟨1, _⟩ => show win0_5.index t 1 * 4096 ≤ (i 1 : Nat) ∧ (i 1 : Nat) < win0_5.index t 1 * 4096 + 4096; rw [e1]; omega
  | ⟨2, _⟩ => show win0_5.index t 2 * 128 ≤ (i 2 : Nat) ∧ (i 2 : Nat) < win0_5.index t 2 * 128 + 128; rw [e2]; omega

/-- Every index of the taps' gradients lies in some point's block. -/
theorem cover6 (i : S3x1024.Idx) : ∃ t : Fin cfg0.N, (cfg0.win 6).flush t = true ∧ i ∈ ((cfg0.win 6).blk t).view.set := by
  have h0 : (i 0 : Nat) < 3 := (i 0).isLt
  have h1 : (i 1 : Nat) < 1024 := (i 1).isLt
  have hN : cfg0.N = 8 := N_0
  refine ⟨⟨(i 1 : Nat) / 128, by omega⟩, flush0_6 _, ?_⟩
  generalize ht : (⟨(i 1 : Nat) / 128, _⟩ : Fin cfg0.N) = t
  have hv : t.val = (i 1 : Nat) / 128 := by rw [← ht]
  obtain ⟨-, -, -, -, -, -, ⟨e0, e1⟩⟩ := idx_facts t
  show i ∈ ((View.whole main_v0_1).slice (win0_6.rect t)).set
  rw [View.set_slice_whole, Rect.mem_set_unit]
  intro a
  match a with
  | ⟨0, _⟩ => show win0_6.index t 0 * 3 ≤ (i 0 : Nat) ∧ (i 0 : Nat) < win0_6.index t 0 * 3 + 3; rw [e0]; omega
  | ⟨1, _⟩ => show win0_6.index t 1 * 128 ≤ (i 1 : Nat) ∧ (i 1 : Nat) < win0_6.index t 1 * 128 + 128; rw [e1]; omega

/-- The run: both result arrays at the gradients, the arguments unchanged. -/
theorem run : θ_run defs (onTc (τ := τ) (main (F := Ideal))) ⟨m, fun _ => 0, ρ⟩ fun r => ∀ c : Dev nD,
      r.2.mem ((c : Thread nD τ).loc main_v0_0) = gradX (argX m c) (argW m c) (argY m c)
      ∧ r.2.mem ((c : Thread nD τ).loc main_v0_1) = gradW (argX m c) (argY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 5 _ (fun t _ => flushed5_eq m c t) cover5),
      (h c).2.1.trans ((dats m 0 c).arrAt_eq_of_cover 6 _ (fun t _ => flushed6_eq m c t) cover6), (h c).2.2⟩)
    (Value.run_blocks m ρ)

end Cert.ConvBwdIdeal.Hand
-- ==== Proof.ConvRef.lean ====
/- The reference for the short convolution's backward: differentiating the forward lines gives, element by element,
   the gradients `ConvSpec.gradX` and `ConvSpec.gradW`. -/
module

public import proofs.«01_k».proof.Proof.ConvSpec
public import proofs.«01_k».proof.Proof.Gen.ConvRefIdeal.Run
public import proofs.«01_k».proof.Proof.Gen.ConvRefIdeal.Read
public import Idealize.ShloMosaic.Lib.Pointwise

@[expose] public section

set_option maxRecDepth 16384

noncomputable section

open Idealize.ShloMosaic Idealize.ShloMosaic.TcCoe Idealize.SL.Sem

namespace Cert.ConvRefIdeal.Hand

open Cert.ConvRefIdeal Cert.ConvRefIdeal.Gen Cert.ConvRefIdeal.Read Cert.ConvSpec

variable (X : Slabs.Idx → EReal) (W : Taps.Idx → EReal) (Y : Rows.Idx → EReal)

/-- A read of the input two rows below the padded row `k + r` is the input `2 - k` tokens earlier. -/
theorem dite_past (k s : Nat) (hk : k + s = 2) (r : Fin 4096) (j : Fin 1024) (h : ¬k + r.val < 2 → k + r.val - 2 < 4096)
    (h' : ¬k + r.val < 2 → k + r.val - 2 < 4096) :
    (if hc : k + r.val < 2 then 0 else X (ix3 1 ⟨k + r.val - 2, h hc⟩ j) * X (ix3 2 ⟨k + r.val - 2, h' hc⟩ j)) = past X s r j := by
  unfold past mix
  by_cases hc : k + r.val < 2
  · rw [dif_pos hc, if_neg (by omega)]
  · have e : (⟨k + r.val - 2, h hc⟩ : Fin 4096) = ⟨r.val - s, by omega⟩ := Fin.ext (by show k + r.val - 2 = r.val - s; omega)
    rw [dif_neg hc, if_pos (by omega), e]

/-- The same at the row itself. -/
theorem dite_past_zero (r : Fin 4096) (j : Fin 1024) (h : ¬r.val < 2 → r.val - 2 < 4096) (h' : ¬r.val < 2 → r.val - 2 < 4096) :
    (if hc : r.val < 2 then 0 else X (ix3 1 ⟨r.val - 2, h hc⟩ j) * X (ix3 2 ⟨r.val - 2, h' hc⟩ j)) = past X 2 r j := by
  unfold past mix
  by_cases hc : r.val < 2
  · rw [dif_pos hc, if_neg (by omega)]
  · rw [dif_neg hc, if_pos (by omega)]

theorem gate_eq (r : Fin 4096) (j : Fin 1024) : X (ix3 0 r j) * Y (ix2 r j) = gate X Y r j := mul_comm _ _

/-- A read of the cotangent one row up, where there is one. -/
theorem dite_future_one (r : Fin 4096) (j : Fin 1024) (w : EReal) (h : 1 ≤ 2 + r.val ∧ 2 + r.val - 1 < 4096 → 2 + r.val - 1 < 4096) :
    (if hc : 1 ≤ 2 + r.val ∧ 2 + r.val - 1 < 4096 then w * gate X Y ⟨2 + r.val - 1, h hc⟩ j else 0) = w * future X Y 1 r j := by
  unfold future
  by_cases hc : r.val + 1 < 4096
  · have e : (⟨2 + r.val - 1, by omega⟩ : Fin 4096) = ⟨r.val + 1, hc⟩ := Fin.ext (by show 2 + r.val - 1 = r.val + 1; omega)
    rw [dif_pos (by omega), dif_pos hc, e]
  · rw [dif_neg (by omega), dif_neg hc, mul_zero]

/-- A read of the cotangent two rows up, where there is one. -/
theorem dite_future_two (r : Fin 4096) (j : Fin 1024) (w : EReal) (h : 2 + r.val < 4096 → 2 + r.val < 4096) :
    (if hc : 2 + r.val < 4096 then w * gate X Y ⟨2 + r.val, h hc⟩ j else 0) = w * future X Y 2 r j := by
  unfold future
  by_cases hc : r.val + 2 < 4096
  · have e : (⟨2 + r.val, by omega⟩ : Fin 4096) = ⟨r.val + 2, hc⟩ := Fin.ext (by show 2 + r.val = r.val + 2; omega)
    rw [dif_pos (by omega), dif_pos hc, e]
  · rw [dif_neg (by omega), dif_neg hc, mul_zero]

theorem dX (y : S3x4096x1024.Idx) : val_main_v69 (F := Ideal) X W Y y = gradX X W Y y := by
  idx_vars y
  simp only [val_main_v69, val_main_v68, val_main_v67, val_main_v66, val_main_v65, val_main_v64, val_main_v63, val_main_v62, val_main_v61, val_main_v60, val_main_v59, val_main_v58, val_main_v57, val_main_v56, val_main_v52, val_main_v51, val_main_v47, val_main_v46, val_main_v43, val_main_v42, val_main_v38, val_main_v37, val_main_v35, val_main_v31, val_main_v30, val_main_v29, val_main_v28, val_main_v26, val_main_v25, val_main_v24, val_main_v23, val_main_v22, val_main_v21, val_main_v20, val_main_v19, val_main_v18, val_main_v17, val_main_v16, val_main_v15, val_main_v14, val_main_v13, val_main_v11, val_main_v10, val_main_v9, val_main_v8, val_main_v7, val_main_v6, val_main_v5, val_main_v4, val_main_v3, val_main_v2, val_main_v1, val_main_v0,
    val_main_cst_12, val_main_cst_11, val_main_cst_10, val_main_cst_9, val_main_cst_8, val_main_cst_7, val_main_cst_6, val_main_cst_5, val_main_cst_4, val_main_cst_3, val_main_cst_2, val_main_cst_1, val_main_cst]
  pointwise
  unfold gradX
  show _ = slab X W Y y0 y1 y2
  simp only [gate_eq X Y, dite_future_one X Y, dite_future_two X Y, dite_past X 1 1 rfl, dite_past_zero X]
  fin_vals y0 with hy
  · obtain rfl : y0 = 0 := Fin.ext hy
    rw [dif_neg (by simp), dif_neg (by simp), dif_pos (by simp), zero_add, zero_add]
    rfl
  · obtain rfl : y0 = 1 := Fin.ext hy
    rw [dif_neg (by simp), dif_pos (by simp), dif_neg (by simp), zero_add, add_zero]
    rfl
  · obtain rfl : y0 = 2 := Fin.ext hy
    rw [dif_pos (by simp), dif_neg (by simp), dif_neg (by simp), add_zero, add_zero]
    exact mul_comm _ _

theorem dW (y : S3x1024.Idx) : val_main_v54 (F := Ideal) X Y y = gradW X Y y := by
  idx_vars y
  simp only [val_main_v54, val_main_v53, val_main_v45, val_main_v44, val_main_v36, val_main_v50, val_main_v41, val_main_v34, val_main_v33, val_main_v40, val_main_v49,
   val_main_v48, val_main_v39, val_main_v32, val_main_v28, val_main_v23, val_main_v18, val_main_v14, val_main_v11, val_main_v10, val_main_v9, val_main_v8, val_main_v7, val_main_v6, val_main_v5, val_main_v4, val_main_v3, val_main_v2, val_main_v1, val_main_v0,
   val_main_cst_9, val_main_cst_8, val_main_cst_7, val_main_cst_6, val_main_cst_5, val_main_cst_4, val_main_cst_3, val_main_cst_2, val_main_cst_1, val_main_cst]
  pointwise
  show _ = ∑ r : Fin 4096, gate X Y r y1 * past X (2 - y0.val) r y1
  simp only [gate_eq X Y, dite_past X 1 1 rfl]
  fin_vals y0 with hy
  · obtain rfl : y0 = 0 := Fin.ext hy
    rw [dif_neg (by simp), dif_neg (by simp), dif_pos (by simp), zero_add, zero_add, Fin.sum_univ_two_halves 2 4094 rfl]
    refine congrArg₂ (· + ·) (Finset.sum_congr rfl fun r _ => ?_) (Finset.sum_congr rfl fun r _ => ?_)
    · unfold past
      rw [if_neg (by show ¬2 ≤ r.val; omega)]
    · refine congrArg (gate X Y _ y1 * ·) ?_
      show _ = past X 2 ⟨2 + r.val, _⟩ y1
      unfold past
      rw [if_pos (show 2 ≤ 2 + r.val by omega)]
      unfold mix
      have e : r.val = 2 + r.val - 2 := by omega
      exact congrArg₂ (· * ·) (congrArg X (congrArg (ix3 1 · y1) (Fin.ext e))) (congrArg X (congrArg (ix3 2 · y1) (Fin.ext e)))
  · obtain rfl : y0 = 1 := Fin.ext hy
    rw [dif_neg (by simp), dif_pos (by simp), dif_neg (by simp), zero_add, add_zero]
    rfl
  · obtain rfl : y0 = 2 := Fin.ext hy
    rw [dif_pos (by simp), dif_neg (by simp), dif_neg (by simp), add_zero, add_zero]
    exact Finset.sum_congr rfl fun r _ => by rw [show (2 - (2 : Fin 3).val) = 0 from rfl, past_zero]; rfl

variable (m : (ℓ : Loc nD τ sig) → Buf (Elt Ideal) ℓ) (ρ : Dev nD → PrngReg)

/-- The run: both results at the gradients, the arguments unchanged. -/
theorem run : θ_run defs (onTc (τ := τ) (main (F := Ideal))) ⟨m, fun _ => 0, ρ⟩ fun r => ∀ c : Dev nD,
      r.2.mem ((c : Thread nD τ).loc main_v69) = gradX (m ((c : Thread nD τ).loc main_arg0)) (m ((c : Thread nD τ).loc main_arg1)) (m ((c : Thread nD τ).loc main_arg2))
      ∧ r.2.mem ((c : Thread nD τ).loc main_v54) = gradW (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((val_main_v69_eq m c).trans (funext (dX _ _ _))),
      (h c).2.1.trans ((val_main_v54_eq (F := Ideal) _ _).trans (funext (dW _ _))), (h c).2.2⟩)
    (Value.run (F := Ideal) m ρ)

end Cert.ConvRefIdeal.Hand
-- ==== Proof.AttnSpec.lean ====
module

public import proofs.«01_k».proof.Proof.Gen.AttnBwdIdeal.Skeleton
public import proofs.«01_k».proof.Proof.Gen.AttnBwdIdeal.Loops
public import proofs.«01_k».proof.Proof.Gen.AttnBwdIdeal.Frame
public import Idealize.ShloMosaic.Lib.Tactic
public import Idealize.ShloMosaic.Lib.VecWindow

@[expose] public section

set_option maxRecDepth 16384

noncomputable section

namespace Cert.AttnBwdIdeal.Hand

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The pair of block numbers that follows `(j, b)` in the walk over the blocks at or below the diagonal. -/
def nextJ (j b : BitVec 32) : BitVec 32 := Scalar.select (Scalar.cmpi .eq b (Scalar.subi 7#32 j)) (Scalar.addi j 1#32) j
def nextB (j b : BitVec 32) : BitVec 32 := Scalar.select (Scalar.cmpi .eq b (Scalar.subi 7#32 j)) 0#32 (Scalar.addi b 1#32)

/-! ## Windows of arrays at any offsets -/

section Win

variable {s : Shape} {e : EltTy} {Val : EltTy → Type} [∀ e, Nonempty (Val e)]

/-- The window of `x` of sizes `size` at offsets `off`, at offsets that stick out anything. -/
def winT (x : s.Idx → Val e) (off size : Fin s.rank → ℕ) : ((a : Fin s.rank) → Fin (size a)) → Val e :=
  fun y => if h : ∀ a, off a + size a ≤ s.size a then VecWindow.window x off size h y else Classical.arbitrary (Val e)

theorem winT_eq (x : s.Idx → Val e) (off size : Fin s.rank → ℕ) (h : ∀ a, off a + size a ≤ s.size a) :
    winT x off size = VecWindow.window x off size h := funext fun _ => dif_pos h

theorem winT_put_same (x : s.Idx → Val e) (off size : Fin s.rank → ℕ) (h : ∀ a, off a + size a ≤ s.size a) (w : ((a : Fin s.rank) → Fin (size a)) → Val e) :
    winT (VecWindow.put x off size w) off size = w := by
  rw [winT_eq _ _ _ h]; exact VecWindow.window_put_same x off size h w

theorem winT_put_disjoint (x : s.Idx → Val e) (off size off' size' : Fin s.rank → ℕ) (w : ((a : Fin s.rank) → Fin (size a)) → Val e)
    (a : Fin s.rank) (ha : off' a + size' a ≤ off a ∨ off a + size a ≤ off' a) :
    winT (VecWindow.put x off size w) off' size' = winT x off' size' := by
  by_cases h : ∀ a, off' a + size' a ≤ s.size a
  · rw [winT_eq _ _ _ h, winT_eq _ _ _ h]; exact VecWindow.window_put_of_disjoint x off size off' size' h w a ha
  · funext y; unfold winT; rw [dif_neg h, dif_neg h]

variable {sig : RefSig} {κ : Kind} {sp : Space}

theorem readAt_winT (v : View sig κ sp s e) (f : v.ty.Contents Val) {off size : Fin s.rank → ℕ} (inb : ∀ a, off a + size a ≤ s.size a) :
    v.readAt Val (Rect.unit off size inb).toLoadRect f = winT (v.read Val f) off size := by
  rw [View.readAt_unit v f inb rfl inb, winT_eq _ _ _ inb]

theorem readCov_winT (v : View sig κ sp s e) (L : List (View.Piece Val s e)) {off size : Fin s.rank → ℕ} (inb : ∀ a, off a + size a ≤ s.size a) :
    v.readCov L (Rect.unit off size inb).toLoadRect = winT (v.read Val (v.writes Val v.junk L)) off size := readAt_winT v _ inb

theorem read_put (v : View sig κ sp s e) (f : v.ty.Contents Val) {off size : Fin s.rank → ℕ}
    (inb : ∀ a, off a + size a ≤ s.size a) (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

end Win

/-! ## The two planes of a double buffer -/

section Plane

variable {e : EltTy} {Val : EltTy → Type} [∀ e, Nonempty (Val e)]

/-- Plane 0 and plane 1 of a double buffer. -/
abbrev pl0 (x : S2x512x512.Idx → Val e) : S1x512x512.Idx → Val e := winT x ![0, 0, 0] S1x512x512.size
abbrev pl1 (x : S2x512x512.Idx → Val e) : S1x512x512.Idx → Val e := winT x ![1, 0, 0] S1x512x512.size

theorem pl00 (x : S2x512x512.Idx → Val e) (w : ((a : Fin 3) → Fin ((![1, 512, 512] : Fin 3 → ℕ) a)) → Val e) : winT (s := S2x512x512) (VecWindow.put (s := S2x512x512) x ![0, 0, 0] ![1, 512, 512] w) ![0, 0, 0] ![1, 512, 512] = w :=
  winT_put_same x _ _ inb_S2x512x512_S1x512x512_0_0_0 w
theorem pl11 (x : S2x512x512.Idx → Val e) (w : ((a : Fin 3) → Fin ((![1, 512, 512] : Fin 3 → ℕ) a)) → Val e) : winT (s := S2x512x512) (VecWindow.put (s := S2x512x512) x ![1, 0, 0] ![1, 512, 512] w) ![1, 0, 0] ![1, 512, 512] = w :=
  winT_put_same x _ _ inb_S2x512x512_S1x512x512_1_0_0 w
theorem pl01 (x : S2x512x512.Idx → Val e) (w : ((a : Fin 3) → Fin ((![1, 512, 512] : Fin 3 → ℕ) a)) → Val e) : winT (s := S2x512x512) (VecWindow.put (s := S2x512x512) x ![1, 0, 0] ![1, 512, 512] w) ![0, 0, 0] ![1, 512, 512] = winT (s := S2x512x512) x ![0, 0, 0] ![1, 512, 512] :=
  winT_put_disjoint x _ _ _ _ w (0 : Fin 3) (Or.inl (by decide))
theorem pl10 (x : S2x512x512.Idx → Val e) (w : ((a : Fin 3) → Fin ((![1, 512, 512] : Fin 3 → ℕ) a)) → Val e) : winT (s := S2x512x512) (VecWindow.put (s := S2x512x512) x ![0, 0, 0] ![1, 512, 512] w) ![1, 0, 0] ![1, 512, 512] = winT (s := S2x512x512) x ![1, 0, 0] ![1, 512, 512] :=
  winT_put_disjoint x _ _ _ _ w (0 : Fin 3) (Or.inr (by decide))

/-! The whole of an array, read or written as a window. -/

theorem winB (x : S512x512.Idx → Val e) : winT (s := S512x512) x ![0, 0] ![512, 512] = x := by
  rw [winT_eq (s := S512x512) x ![0, 0] ![512, 512] (by decide)]
  funext y; unfold VecWindow.window; congr 1; funext a; apply Fin.ext; fin_cases a <;> simp
theorem putB (x : S512x512.Idx → Val e) (w : ((a : Fin 2) → Fin ((![512, 512] : Fin 2 → ℕ) a)) → Val e) : VecWindow.put (s := S512x512) x ![0, 0] ![512, 512] w = w := by
  rw [← winB (VecWindow.put (s := S512x512) x ![0, 0] ![512, 512] w)]
  exact winT_put_same (s := S512x512) x ![0, 0] ![512, 512] (by decide) w
theorem winQ (x : S4096x192.Idx → Val e) : winT (s := S4096x192) x ![0, 0] ![4096, 192] = x := by
  rw [winT_eq (s := S4096x192) x ![0, 0] ![4096, 192] (by decide)]
  funext y; unfold VecWindow.window; congr 1; funext a; apply Fin.ext; fin_cases a <;> simp
theorem putQ (x : S4096x192.Idx → Val e) (w : ((a : Fin 2) → Fin ((![4096, 192] : Fin 2 → ℕ) a)) → Val e) : VecWindow.put (s := S4096x192) x ![0, 0] ![4096, 192] w = w := by
  rw [← winQ (VecWindow.put (s := S4096x192) x ![0, 0] ![4096, 192] w)]
  exact winT_put_same (s := S4096x192) x ![0, 0] ![4096, 192] (by decide) w
theorem winV (x : S4096x128.Idx → Val e) : winT (s := S4096x128) x ![0, 0] ![4096, 128] = x := by
  rw [winT_eq (s := S4096x128) x ![0, 0] ![4096, 128] (by decide)]
  funext y; unfold VecWindow.window; congr 1; funext a; apply Fin.ext; fin_cases a <;> simp
theorem putV (x : S4096x128.Idx → Val e) (w : ((a : Fin 2) → Fin ((![4096, 128] : Fin 2 → ℕ) a)) → Val e) : VecWindow.put (s := S4096x128) x ![0, 0] ![4096, 128] w = w := by
  rw [← winV (VecWindow.put (s := S4096x128) x ![0, 0] ![4096, 128] w)]
  exact winT_put_same (s := S4096x128) x ![0, 0] ![4096, 128] (by decide) w
theorem winQo (x : S1x4096x192.Idx → Val e) : winT (s := S1x4096x192) x ![0, 0, 0] ![1, 4096, 192] = x := by
  rw [winT_eq (s := S1x4096x192) x ![0, 0, 0] ![1, 4096, 192] (by decide)]
  funext y; unfold VecWindow.window; congr 1; funext a; apply Fin.ext; fin_cases a <;> simp
theorem putQo (x : S1x4096x192.Idx → Val e) (w : ((a : Fin 3) → Fin ((![1, 4096, 192] : Fin 3 → ℕ) a)) → Val e) : VecWindow.put (s := S1x4096x192) x ![0, 0, 0] ![1, 4096, 192] w = w := by
  rw [← winQo (VecWindow.put (s := S1x4096x192) x ![0, 0, 0] ![1, 4096, 192] w)]
  exact winT_put_same (s := S1x4096x192) x ![0, 0, 0] ![1, 4096, 192] (by decide) w
theorem winVo (x : S1x4096x128.Idx → Val e) : winT (s := S1x4096x128) x ![0, 0, 0] ![1, 4096, 128] = x := by
  rw [winT_eq (s := S1x4096x128) x ![0, 0, 0] ![1, 4096, 128] (by decide)]
  funext y; unfold VecWindow.window; congr 1; funext a; apply Fin.ext; fin_cases a <;> simp
theorem putVo (x : S1x4096x128.Idx → Val e) (w : ((a : Fin 3) → Fin ((![1, 4096, 128] : Fin 3 → ℕ) a)) → Val e) : VecWindow.put (s := S1x4096x128) x ![0, 0, 0] ![1, 4096, 128] w = w := by
  rw [← winVo (VecWindow.put (s := S1x4096x128) x ![0, 0, 0] ![1, 4096, 128] w)]
  exact winT_put_same (s := S1x4096x128) x ![0, 0, 0] ![1, 4096, 128] (by decide) w

end Plane

/-! ## One pair of blocks: key block `j`, query block `j + b` -/

section Pair

variable (q k : Vec F S1x4096x192 .bf16) (v : Vec F S1x4096x128 .bf16) (dO : Vec F S4096x128 .f32) (lse dl : Vec F S1x8x1x512 .f32)
  (bias : Vec F S512x512 .f32) (j b : BitVec 32)

/-- The first row of key block `j`, of query block `j + b`, and the number of the latter. -/
abbrev rj : ℕ := BitVec.toNat (Scalar.indexCast (Scalar.muli j 512#32))
abbrev ri : ℕ := BitVec.toNat (Scalar.indexCast (Scalar.muli (Scalar.addi j b) 512#32))
abbrev nI : ℕ := BitVec.toNat (Scalar.indexCast (Scalar.addi j b))

/-- The scores of the pair, keys by queries. -/
def sB : FVec F S1x512x512 .f32 :=
  k0_pay37 (winT (Val := Elt F) (s := S1x4096x192) k ![0, rj j, 0] S1x512x192.size) (winT (Val := Elt F) (s := S1x4096x192) q ![0, ri j b, 0] S1x512x192.size)
/-- The products of the pair's values with the incoming gradient. -/
def dpB : FVec F S1x512x512 .f32 :=
  k0_pay38 (winT (Val := Elt F) (s := S1x4096x128) v ![0, rj j, 0] S1x512x128.size) (winT (Val := Elt F) (s := S4096x128) dO ![ri j b, 0] S512x128.size)
/-- The pair's weights. -/
def pB : FVec F S1x512x512 .bf16 :=
  k0_pay48 b (sB q k j b) bias (winT (Val := Elt F) (s := S1x8x1x512) lse ![0, nI j b, 0, 0] S1x1x1x512.size)
/-- The gradient of the pair's scores. -/
def dsB : FVec F S1x512x512 .bf16 :=
  k0_pay50 (k0_pay49 b (sB q k j b) bias (winT (Val := Elt F) (s := S1x8x1x512) lse ![0, nI j b, 0, 0] S1x1x1x512.size) (dpB v dO j b)
    (winT (Val := Elt F) (s := S1x8x1x512) dl ![0, nI j b, 0, 0] S1x1x1x512.size)) (Named.named κ "scale" 0x3D93CD3A#32)
/-- What the pair adds to the gradient of the values, of the keys and of the queries. -/
def dvS (X : Vec F S4096x128 .f32) : Vec F S4096x128 .f32 :=
  VecWindow.put (s := S4096x128) X ![rj j, 0] S512x128.size
    (k0_pay9 (winT (Val := Elt F) (s := S4096x128) X ![rj j, 0] S512x128.size) (pB q k lse bias j b) (winT (Val := Elt F) (s := S4096x128) dO ![ri j b, 0] S512x128.size))
def dkS (X : Vec F S4096x192 .f32) : Vec F S4096x192 .f32 :=
  VecWindow.put (s := S4096x192) X ![rj j, 0] S512x192.size
    (k0_pay24 (winT (Val := Elt F) (s := S4096x192) X ![rj j, 0] S512x192.size) (dsB q k v dO lse dl bias j b) (winT (Val := Elt F) (s := S1x4096x192) q ![0, ri j b, 0] S1x512x192.size))
def dqS (X : Vec F S4096x192 .f32) : Vec F S4096x192 .f32 :=
  VecWindow.put (s := S4096x192) X ![ri j b, 0] S512x192.size
    (k0_pay12 (winT (Val := Elt F) (s := S4096x192) X ![ri j b, 0] S512x192.size) (dsB q k v dO lse dl bias j b) (winT (Val := Elt F) (s := S1x4096x192) k ![0, rj j, 0] S1x512x192.size))

/-- The second spelling of the weights and of the scores' gradient. -/
theorem pB_alt : k0_pay17 (k0_pay13 b (sB q k j b) bias) (k0_pay14 (winT (Val := Elt F) (s := S1x8x1x512) lse ![0, nI j b, 0, 0] ![1, 1, 1, 512])) k0_pay15 = pB q k lse bias j b := rfl
theorem dsB_alt : k0_pay18 (k0_pay13 b (sB q k j b) bias) (k0_pay14 (winT (Val := Elt F) (s := S1x8x1x512) lse ![0, nI j b, 0, 0] ![1, 1, 1, 512])) k0_pay15 (dpB v dO j b)
    (winT (Val := Elt F) (s := S1x8x1x512) dl ![0, nI j b, 0, 0] ![1, 1, 1, 512]) = dsB q k v dO lse dl bias j b := rfl

/-- The three gradients after the first `n` pairs of the walk `w`. -/
def dvF (w : ℕ → BitVec 32 × BitVec 32) (n : ℕ) (X : Vec F S4096x128 .f32) : Vec F S4096x128 .f32 :=
  Nat.rec (motive := fun _ => Vec F S4096x128 .f32) X (fun n X => dvS q k dO lse bias (w n).1 (w n).2 X) n
def dkF (w : ℕ → BitVec 32 × BitVec 32) (n : ℕ) (X : Vec F S4096x192 .f32) : Vec F S4096x192 .f32 :=
  Nat.rec (motive := fun _ => Vec F S4096x192 .f32) X (fun n X => dkS q k v dO lse dl bias (w n).1 (w n).2 X) n
def dqF (w : ℕ → BitVec 32 × BitVec 32) (n : ℕ) (X : Vec F S4096x192 .f32) : Vec F S4096x192 .f32 :=
  Nat.rec (motive := fun _ => Vec F S4096x192 .f32) X (fun n X => dqS q k v dO lse dl bias (w n).1 (w n).2 X) n
theorem dvF_succ (w : ℕ → BitVec 32 × BitVec 32) (n : ℕ) (X : Vec F S4096x128 .f32) :
    dvF q k dO lse bias w (n + 1) X = dvS q k dO lse bias (w n).1 (w n).2 (dvF q k dO lse bias w n X) := rfl
theorem dkF_succ (w : ℕ → BitVec 32 × BitVec 32) (n : ℕ) (X : Vec F S4096x192 .f32) :
    dkF q k v dO lse dl bias w (n + 1) X = dkS q k v dO lse dl bias (w n).1 (w n).2 (dkF q k v dO lse dl bias w n X) := rfl
theorem dqF_succ (w : ℕ → BitVec 32 × BitVec 32) (n : ℕ) (X : Vec F S4096x192 .f32) :
    dqF q k v dO lse dl bias w (n + 1) X = dqS q k v dO lse dl bias (w n).1 (w n).2 (dqF q k v dO lse dl bias w n X) := rfl

end Pair

end Cert.AttnBwdIdeal.Hand

end
-- ==== Proof.AttnTrip.lean ====
module

public import proofs.«01_k».proof.Proof.Gen.AttnBwdIdeal.Skeleton
public import proofs.«01_k».proof.Proof.Gen.AttnBwdIdeal.Loops
public import proofs.«01_k».proof.Proof.Gen.AttnBwdIdeal.Frame
public import Idealize.ShloMosaic.Lib.Tactic
public import proofs.«01_k».proof.Proof.AttnSpec

@[expose] public section

set_option maxRecDepth 16384

noncomputable section

namespace Cert.AttnBwdIdeal.Hand

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Memref `M`'s buffer on core `c`: the type of its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- One trip of the loop over pairs of blocks, at any six carried words whose side conditions hold. -/
noncomputable def trip (c : Dev nD) (i : grid0.Coords) (arg1 : Memref sig .tc .vmem S1x4096x192 .bf16) (harg1 : arg1.IsWhole) (arg2 : Memref sig .tc .vmem S1x4096x192 .bf16) (harg2 : arg2.IsWhole) (arg3 : Memref sig .tc .vmem S1x4096x128 .bf16) (harg3 : arg3.IsWhole) (arg4 : Memref sig .tc .vmem S4096x128 .f32) (harg4 : arg4.IsWhole) (arg5 : Memref sig .tc .vmem S1x8x1x512 .f32) (harg5 : arg5.IsWhole) (arg6 : Memref sig .tc .vmem S1x8x1x512 .f32) (harg6 : arg6.IsWhole) (arg7 : Memref sig .tc .vmem S1x4096x192 .bf16) (harg7 : arg7.IsWhole) (arg8 : Memref sig .tc .vmem S1x4096x192 .bf16) (harg8 : arg8.IsWhole) (arg9 : Memref sig .tc .vmem S1x4096x128 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S512x512 .f32) (harg14 : arg14.IsWhole) (arg15 : Memref sig .tc .vmem S4096x192 .f32) (harg15 : arg15.IsWhole) (arg16 : Memref sig .tc .vmem S4096x192 .f32) (harg16 : arg16.IsWhole) (arg17 : Memref sig .tc .vmem S4096x128 .f32) (harg17 : arg17.IsWhole) (k : Fin k0_t1_loop.trips) (w19 w20 w21 w22 w23 w24 : BitVec 32) (h1 : k0_chk1 w19) (h2 : k0_chk2 w19 w20) (h3 : k0_chk3 w21 w22) (h4 : k0_chk4 w23) (h5 : k0_chk5 w23 w24) (h6 : k0_chk6 w21) (f1 : Bf (F := F) c arg1) (f2 : Bf (F := F) c arg2) (f3 : Bf (F := F) c arg3) (f4 : Bf (F := F) c arg4) (f5 : Bf (F := F) c arg5) (f6 : Bf (F := F) c arg6) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) :
    { W : Bf (F := F) c arg10 × Bf (F := F) c arg11 × Bf (F := F) c arg12 × Bf (F := F) c arg13 × Bf (F := F) c arg15 × Bf (F := F) c arg16 × Bf (F := F) c arg17 //
      ∀ (E : Set ℕ) (v48 v50 v123 v125 c0_i32_90 c0_i32_91 c0_i32_92 c1_i32_93 : BitVec 32),
        iprop(pt c arg1 f1 ∗ pt c arg2 f2 ∗ pt c arg3 f3 ∗ pt c arg4 f4 ∗ pt c arg5 f5 ∗ pt c arg6 f6 ∗ pt c arg10 f10 ∗ pt c arg11 f11 ∗ pt c arg12 f12 ∗ pt c arg13 f13 ∗ pt c arg14 f14 ∗ pt c arg15 f15 ∗ pt c arg16 f16 ∗ pt c arg17 f17) ⊢ wp frame (wpE (defs₀ (F := F)) Variants.none c none) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v50 v123 v125 c0_i32_90 c0_i32_91 c0_i32_92 c1_i32_93 k (w19, w20, w21, w22, w23, w24))
          (fun acc => iprop(⌜acc = (w23, w24, nextJ w23 w24, nextB w23 w24, nextJ (nextJ w23 w24) (nextB w23 w24), nextB (nextJ w23 w24) (nextB w23 w24))⌝ ∗ pt c arg1 f1 ∗ pt c arg2 f2 ∗ pt c arg3 f3 ∗ pt c arg4 f4 ∗ pt c arg5 f5 ∗ pt c arg6 f6 ∗ pt c arg10 (W.1) ∗ pt c arg11 (W.2.1) ∗ pt c arg12 (W.2.2.1) ∗ pt c arg13 (W.2.2.2.1) ∗ pt c arg14 f14 ∗ pt c arg15 (W.2.2.2.2.1) ∗ pt c arg16 (W.2.2.2.2.2.1) ∗ pt c arg17 (W.2.2.2.2.2.2))) } := by
  refine ⟨⟨?_, ?_, ?_, ?_, ?_, ?_, ?_⟩, fun E v48 v50 v123 v125 c90 c91 c92 c93 => ?run⟩
  case run =>
    unfold k0_t1_body
    iintro ⟨H1, H2, H3, H4, H5, H6, H10, H11, H12, H13, H14, H15, H16, H17⟩
    sl_exec_parts
    sl_step
    isplitr
    · ipureintro; rfl
    isplitl [H1]; · iexact H1
    isplitl [H2]; · iexact H2
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.AttnBwdIdeal.Hand

end
-- ==== Proof.AttnStep.lean ====
module

public import proofs.«01_k».proof.Proof.Gen.AttnBwdIdeal.Skeleton
public import proofs.«01_k».proof.Proof.Gen.AttnBwdIdeal.Loops
public import proofs.«01_k».proof.Proof.Gen.AttnBwdIdeal.Frame
public import Idealize.ShloMosaic.Lib.Tactic
public import proofs.«01_k».proof.Proof.AttnTrip

@[expose] public section

set_option maxRecDepth 16384

noncomputable section

namespace Cert.AttnBwdIdeal.Hand

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (E : Set ℕ) (i : grid0.Coords) (arg1 : Memref sig .tc .vmem S1x4096x192 .bf16) (harg1 : arg1.IsWhole) (arg2 : Memref sig .tc .vmem S1x4096x192 .bf16) (harg2 : arg2.IsWhole) (arg3 : Memref sig .tc .vmem S1x4096x128 .bf16) (harg3 : arg3.IsWhole) (arg4 : Memref sig .tc .vmem S4096x128 .f32) (harg4 : arg4.IsWhole) (arg5 : Memref sig .tc .vmem S1x8x1x512 .f32) (harg5 : arg5.IsWhole) (arg6 : Memref sig .tc .vmem S1x8x1x512 .f32) (harg6 : arg6.IsWhole) (arg7 : Memref sig .tc .vmem S1x4096x192 .bf16) (harg7 : arg7.IsWhole) (arg8 : Memref sig .tc .vmem S1x4096x192 .bf16) (harg8 : arg8.IsWhole) (arg9 : Memref sig .tc .vmem S1x4096x128 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S512x512 .f32) (harg14 : arg14.IsWhole) (arg15 : Memref sig .tc .vmem S4096x192 .f32) (harg15 : arg15.IsWhole) (arg16 : Memref sig .tc .vmem S4096x192 .f32) (harg16 : arg16.IsWhole) (arg17 : Memref sig .tc .vmem S4096x128 .f32) (harg17 : arg17.IsWhole)

include arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17

set_option backward.isDefEq.respectTransparency.types false in
set_option maxHeartbeats 4000000 in
theorem trip_s (k : Fin k0_t1_loop.trips) (w19 w20 w21 w22 w23 w24 : BitVec 32) (h1 : k0_chk1 w19) (h2 : k0_chk2 w19 w20) (h3 : k0_chk3 w21 w22) (h4 : k0_chk4 w23) (h5 : k0_chk5 w23 w24) (h6 : k0_chk6 w21) (f1 : Bf (F := F) c arg1) (f2 : Bf (F := F) c arg2) (f3 : Bf (F := F) c arg3) (f4 : Bf (F := F) c arg4) (f5 : Bf (F := F) c arg5) (f6 : Bf (F := F) c arg6) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17)
    (es : pl1 (arg10.view.read (Elt F) f10) = sB (arg1.view.read (Elt F) f1) (arg2.view.read (Elt F) f2) w21 w22) (ed : pl1 (arg11.view.read (Elt F) f11) = dpB (arg3.view.read (Elt F) f3) (arg4.view.read (Elt F) f4) w21 w22)
    (ep : pl0 (arg12.view.read (Elt F) f12) = pB (arg1.view.read (Elt F) f1) (arg2.view.read (Elt F) f2) (arg5.view.read (Elt F) f5) (arg14.view.read (Elt F) f14) w19 w20) (eg : pl0 (arg13.view.read (Elt F) f13) = dsB (arg1.view.read (Elt F) f1) (arg2.view.read (Elt F) f2) (arg3.view.read (Elt F) f3) (arg4.view.read (Elt F) f4) (arg5.view.read (Elt F) f5) (arg6.view.read (Elt F) f6) (arg14.view.read (Elt F) f14) w19 w20) :
    pl1 (arg10.view.read (Elt F) (((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w19 w20 w21 w22 w23 w24 h1 h2 h3 h4 h5 h6 f1 f2 f3 f4 f5 f6 f10 f11 f12 f13 f14 f15 f16 f17).1.1))) = sB (arg1.view.read (Elt F) f1) (arg2.view.read (Elt F) f2) (nextJ w23 w24) (nextB w23 w24) := by
  unfold trip
  dsimp only
  sl_unfold_words
  show winT _ _ _ = _
  simp only [View.writes_nil, readAt_winT, readCov_winT, read_put, pl00, pl11, pl01, pl10, winB, es, ed, ep, eg]
  rfl

set_option backward.isDefEq.respectTransparency.types false in
set_option maxHeartbeats 4000000 in
theorem trip_dp (k : Fin k0_t1_loop.trips) (w19 w20 w21 w22 w23 w24 : BitVec 32) (h1 : k0_chk1 w19) (h2 : k0_chk2 w19 w20) (h3 : k0_chk3 w21 w22) (h4 : k0_chk4 w23) (h5 : k0_chk5 w23 w24) (h6 : k0_chk6 w21) (f1 : Bf (F := F) c arg1) (f2 : Bf (F := F) c arg2) (f3 : Bf (F := F) c arg3) (f4 : Bf (F := F) c arg4) (f5 : Bf (F := F) c arg5) (f6 : Bf (F := F) c arg6) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17)
    (es : pl1 (arg10.view.read (Elt F) f10) = sB (arg1.view.read (Elt F) f1) (arg2.view.read (Elt F) f2) w21 w22) (ed : pl1 (arg11.view.read (Elt F) f11) = dpB (arg3.view.read (Elt F) f3) (arg4.view.read (Elt F) f4) w21 w22)
    (ep : pl0 (arg12.view.read (Elt F) f12) = pB (arg1.view.read (Elt F) f1) (arg2.view.read (Elt F) f2) (arg5.view.read (Elt F) f5) (arg14.view.read (Elt F) f14) w19 w20) (eg : pl0 (arg13.view.read (Elt F) f13) = dsB (arg1.view.read (Elt F) f1) (arg2.view.read (Elt F) f2) (arg3.view.read (Elt F) f3) (arg4.view.read (Elt F) f4) (arg5.view.read (Elt F) f5) (arg6.view.read (Elt F) f6) (arg14.view.read (Elt F) f14) w19 w20) :
    pl1 (arg11.view.read (Elt F) (((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w19 w20 w21 w22 w23 w24 h1 h2 h3 h4 h5 h6 f1 f2 f3 f4 f5 f6 f10 f11 f12 f13 f14 f15 f16 f17).1.2.1))) = dpB (arg3.view.read (Elt F) f3) (arg4.view.read (Elt F) f4) (nextJ w23 w24) (nextB w23 w24) := by
  unfold trip
  dsimp only
  sl_unfold_words
  show winT _ _ _ = _
  simp only [View.writes_nil, readAt_winT, readCov_winT, read_put, pl00, pl11, pl01, pl10, winB, es, ed, ep, eg]
  rfl

set_option backward.isDefEq.respectTransparency.types false in
set_option maxHeartbeats 4000000 in
theorem trip_p (k : Fin k0_t1_loop.trips) (w19 w20 w21 w22 w23 w24 : BitVec 32) (h1 : k0_chk1 w19) (h2 : k0_chk2 w19 w20) (h3 : k0_chk3 w21 w22) (h4 : k0_chk4 w23) (h5 : k0_chk5 w23 w24) (h6 : k0_chk6 w21) (f1 : Bf (F := F) c arg1) (f2 : Bf (F := F) c arg2) (f3 : Bf (F := F) c arg3) (f4 : Bf (F := F) c arg4) (f5 : Bf (F := F) c arg5) (f6 : Bf (F := F) c arg6) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17)
    (es : pl1 (arg10.view.read (Elt F) f10) = sB (arg1.view.read (Elt F) f1) (arg2.view.read (Elt F) f2) w21 w22) (ed : pl1 (arg11.view.read (Elt F) f11) = dpB (arg3.view.read (Elt F) f3) (arg4.view.read (Elt F) f4) w21 w22)
    (ep : pl0 (arg12.view.read (Elt F) f12) = pB (arg1.view.read (Elt F) f1) (arg2.view.read (Elt F) f2) (arg5.view.read (Elt F) f5) (arg14.view.read (Elt F) f14) w19 w20) (eg : pl0 (arg13.view.read (Elt F) f13) = dsB (arg1.view.read (Elt F) f1) (arg2.view.read (Elt F) f2) (arg3.view.read (Elt F) f3) (arg4.view.read (Elt F) f4) (arg5.view.read (Elt F) f5) (arg6.view.read (Elt F) f6) (arg14.view.read (Elt F) f14) w19 w20) :
    pl0 (arg12.view.read (Elt F) (((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w19 w20 w21 w22 w23 w24 h1 h2 h3 h4 h5 h6 f1 f2 f3 f4 f5 f6 f10 f11 f12 f13 f14 f15 f16 f17).1.2.2.1))) = pB (arg1.view.read (Elt F) f1) (arg2.view.read (Elt F) f2) (arg5.view.read (Elt F) f5) (arg14.view.read (Elt F) f14) w23 w24 := by
  unfold trip
  dsimp only
  sl_unfold_words
  show winT _ _ _ = _
  simp only [View.writes_nil, readAt_winT, readCov_winT, read_put, pl00, pl11, pl01, pl10, winB, es, ed, ep, eg]
  rfl

set_option backward.isDefEq.respectTransparency.types false in
set_option maxHeartbeats 4000000 in
theorem trip_ds (k : Fin k0_t1_loop.trips) (w19 w20 w21 w22 w23 w24 : BitVec 32) (h1 : k0_chk1 w19) (h2 : k0_chk2 w19 w20) (h3 : k0_chk3 w21 w22) (h4 : k0_chk4 w23) (h5 : k0_chk5 w23 w24) (h6 : k0_chk6 w21) (f1 : Bf (F := F) c arg1) (f2 : Bf (F := F) c arg2) (f3 : Bf (F := F) c arg3) (f4 : Bf (F := F) c arg4) (f5 : Bf (F := F) c arg5) (f6 : Bf (F := F) c arg6) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17)
    (es : pl1 (arg10.view.read (Elt F) f10) = sB (arg1.view.read (Elt F) f1) (arg2.view.read (Elt F) f2) w21 w22) (ed : pl1 (arg11.view.read (Elt F) f11) = dpB (arg3.view.read (Elt F) f3) (arg4.view.read (Elt F) f4) w21 w22)
    (ep : pl0 (arg12.view.read (Elt F) f12) = pB (arg1.view.read (Elt F) f1) (arg2.view.read (Elt F) f2) (arg5.view.read (Elt F) f5) (arg14.view.read (Elt F) f14) w19 w20) (eg : pl0 (arg13.view.read (Elt F) f13) = dsB (arg1.view.read (Elt F) f1) (arg2.view.read (Elt F) f2) (arg3.view.read (Elt F) f3) (arg4.view.read (Elt F) f4) (arg5.view.read (Elt F) f5) (arg6.view.read (Elt F) f6) (arg14.view.read (Elt F) f14) w19 w20) :
    pl0 (arg13.view.read (Elt F) (((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w19 w20 w21 w22 w23 w24 h1 h2 h3 h4 h5 h6 f1 f2 f3 f4 f5 f6 f10 f11 f12 f13 f14 f15 f16 f17).1.2.2.2.1))) = dsB (arg1.view.read (Elt F) f1) (arg2.view.read (Elt F) f2) (arg3.view.read (Elt F) f3) (arg4.view.read (Elt F) f4) (arg5.view.read (Elt F) f5) (arg6.view.read (Elt F) f6) (arg14.view.read (Elt F) f14) w23 w24 := by
  unfold trip
  dsimp only
  sl_unfold_words
  show winT _ _ _ = _
  simp only [View.writes_nil, readAt_winT, readCov_winT, read_put, pl00, pl11, pl01, pl10, winB, es, ed, ep, eg]
  rfl

set_option backward.isDefEq.respectTransparency.types false in
set_option maxHeartbeats 4000000 in
theorem trip_dq (k : Fin k0_t1_loop.trips) (w19 w20 w21 w22 w23 w24 : BitVec 32) (h1 : k0_chk1 w19) (h2 : k0_chk2 w19 w20) (h3 : k0_chk3 w21 w22) (h4 : k0_chk4 w23) (h5 : k0_chk5 w23 w24) (h6 : k0_chk6 w21) (f1 : Bf (F := F) c arg1) (f2 : Bf (F := F) c arg2) (f3 : Bf (F := F) c arg3) (f4 : Bf (F := F) c arg4) (f5 : Bf (F := F) c arg5) (f6 : Bf (F := F) c arg6) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17)
    (es : pl1 (arg10.view.read (Elt F) f10) = sB (arg1.view.read (Elt F) f1) (arg2.view.read (Elt F) f2) w21 w22) (ed : pl1 (arg11.view.read (Elt F) f11) = dpB (arg3.view.read (Elt F) f3) (arg4.view.read (Elt F) f4) w21 w22)
    (ep : pl0 (arg12.view.read (Elt F) f12) = pB (arg1.view.read (Elt F) f1) (arg2.view.read (Elt F) f2) (arg5.view.read (Elt F) f5) (arg14.view.read (Elt F) f14) w19 w20) (eg : pl0 (arg13.view.read (Elt F) f13) = dsB (arg1.view.read (Elt F) f1) (arg2.view.read (Elt F) f2) (arg3.view.read (Elt F) f3) (arg4.view.read (Elt F) f4) (arg5.view.read (Elt F) f5) (arg6.view.read (Elt F) f6) (arg14.view.read (Elt F) f14) w19 w20) :
     (arg15.view.read (Elt F) (((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w19 w20 w21 w22 w23 w24 h1 h2 h3 h4 h5 h6 f1 f2 f3 f4 f5 f6 f10 f11 f12 f13 f14 f15 f16 f17).1.2.2.2.2.1))) = dqS (arg1.view.read (Elt F) f1) (arg2.view.read (Elt F) f2) (arg3.view.read (Elt F) f3) (arg4.view.read (Elt F) f4) (arg5.view.read (Elt F) f5) (arg6.view.read (Elt F) f6) (arg14.view.read (Elt F) f14) w21 w22 (dqS (arg1.view.read (Elt F) f1) (arg2.view.read (Elt F) f2) (arg3.view.read (Elt F) f3) (arg4.view.read (Elt F) f4) (arg5.view.read (Elt F) f5) (arg6.view.read (Elt F) f6) (arg14.view.read (Elt F) f14) w19 w20 ((arg15.view.read (Elt F) f15))) := by
  unfold trip
  dsimp only
  sl_unfold_words

  simp only [View.writes_nil, readAt_winT, readCov_winT, read_put, pl00, pl11, pl01, pl10, winB, es, ed, ep, eg]
  rfl

set_option backward.isDefEq.respectTransparency.types false in
set_option maxHeartbeats 4000000 in
theorem trip_dk (k : Fin k0_t1_loop.trips) (w19 w20 w21 w22 w23 w24 : BitVec 32) (h1 : k0_chk1 w19) (h2 : k0_chk2 w19 w20) (h3 : k0_chk3 w21 w22) (h4 : k0_chk4 w23) (h5 : k0_chk5 w23 w24) (h6 : k0_chk6 w21) (f1 : Bf (F := F) c arg1) (f2 : Bf (F := F) c arg2) (f3 : Bf (F := F) c arg3) (f4 : Bf (F := F) c arg4) (f5 : Bf (F := F) c arg5) (f6 : Bf (F := F) c arg6) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17)
    (es : pl1 (arg10.view.read (Elt F) f10) = sB (arg1.view.read (Elt F) f1) (arg2.view.read (Elt F) f2) w21 w22) (ed : pl1 (arg11.view.read (Elt F) f11) = dpB (arg3.view.read (Elt F) f3) (arg4.view.read (Elt F) f4) w21 w22)
    (ep : pl0 (arg12.view.read (Elt F) f12) = pB (arg1.view.read (Elt F) f1) (arg2.view.read (Elt F) f2) (arg5.view.read (Elt F) f5) (arg14.view.read (Elt F) f14) w19 w20) (eg : pl0 (arg13.view.read (Elt F) f13) = dsB (arg1.view.read (Elt F) f1) (arg2.view.read (Elt F) f2) (arg3.view.read (Elt F) f3) (arg4.view.read (Elt F) f4) (arg5.view.read (Elt F) f5) (arg6.view.read (Elt F) f6) (arg14.view.read (Elt F) f14) w19 w20) :
     (arg16.view.read (Elt F) (((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w19 w20 w21 w22 w23 w24 h1 h2 h3 h4 h5 h6 f1 f2 f3 f4 f5 f6 f10 f11 f12 f13 f14 f15 f16 f17).1.2.2.2.2.2.1))) = dkS (arg1.view.read (Elt F) f1) (arg2.view.read (Elt F) f2) (arg3.view.read (Elt F) f3) (arg4.view.read (Elt F) f4) (arg5.view.read (Elt F) f5) (arg6.view.read (Elt F) f6) (arg14.view.read (Elt F) f14) w21 w22 (dkS (arg1.view.read (Elt F) f1) (arg2.view.read (Elt F) f2) (arg3.view.read (Elt F) f3) (arg4.view.read (Elt F) f4) (arg5.view.read (Elt F) f5) (arg6.view.read (Elt F) f6) (arg14.view.read (Elt F) f14) w19 w20 ((arg16.view.read (Elt F) f16))) := by
  unfold trip
  dsimp only
  sl_unfold_words

  simp only [View.writes_nil, readAt_winT, readCov_winT, read_put, pl00, pl11, pl01, pl10, winB, es, ed, ep, eg]
  rfl

set_option backward.isDefEq.respectTransparency.types false in
set_option maxHeartbeats 4000000 in
theorem trip_dv (k : Fin k0_t1_loop.trips) (w19 w20 w21 w22 w23 w24 : BitVec 32) (h1 : k0_chk1 w19) (h2 : k0_chk2 w19 w20) (h3 : k0_chk3 w21 w22) (h4 : k0_chk4 w23) (h5 : k0_chk5 w23 w24) (h6 : k0_chk6 w21) (f1 : Bf (F := F) c arg1) (f2 : Bf (F := F) c arg2) (f3 : Bf (F := F) c arg3) (f4 : Bf (F := F) c arg4) (f5 : Bf (F := F) c arg5) (f6 : Bf (F := F) c arg6) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17)
    (es : pl1 (arg10.view.read (Elt F) f10) = sB (arg1.view.read (Elt F) f1) (arg2.view.read (Elt F) f2) w21 w22) (ed : pl1 (arg11.view.read (Elt F) f11) = dpB (arg3.view.read (Elt F) f3) (arg4.view.read (Elt F) f4) w21 w22)
    (ep : pl0 (arg12.view.read (Elt F) f12) = pB (arg1.view.read (Elt F) f1) (arg2.view.read (Elt F) f2) (arg5.view.read (Elt F) f5) (arg14.view.read (Elt F) f14) w19 w20) (eg : pl0 (arg13.view.read (Elt F) f13) = dsB (arg1.view.read (Elt F) f1) (arg2.view.read (Elt F) f2) (arg3.view.read (Elt F) f3) (arg4.view.read (Elt F) f4) (arg5.view.read (Elt F) f5) (arg6.view.read (Elt F) f6) (arg14.view.read (Elt F) f14) w19 w20) :
     (arg17.view.read (Elt F) (((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w19 w20 w21 w22 w23 w24 h1 h2 h3 h4 h5 h6 f1 f2 f3 f4 f5 f6 f10 f11 f12 f13 f14 f15 f16 f17).1.2.2.2.2.2.2))) = dvS (arg1.view.read (Elt F) f1) (arg2.view.read (Elt F) f2) (arg4.view.read (Elt F) f4) (arg5.view.read (Elt F) f5) (arg14.view.read (Elt F) f14) w21 w22 (dvS (arg1.view.read (Elt F) f1) (arg2.view.read (Elt F) f2) (arg4.view.read (Elt F) f4) (arg5.view.read (Elt F) f5) (arg14.view.read (Elt F) f14) w19 w20 ((arg17.view.read (Elt F) f17))) := by
  unfold trip
  dsimp only
  sl_unfold_words

  simp only [View.writes_nil, readAt_winT, readCov_winT, read_put, pl00, pl11, pl01, pl10, winB, es, ed, ep, eg]
  rfl

end Cert.AttnBwdIdeal.Hand

end
-- ==== Proof.AttnLoop.lean ====
module

public import proofs.«01_k».proof.Proof.Gen.AttnBwdIdeal.Skeleton
public import proofs.«01_k».proof.Proof.Gen.AttnBwdIdeal.Loops
public import proofs.«01_k».proof.Proof.Gen.AttnBwdIdeal.Frame
public import Idealize.ShloMosaic.Lib.Tactic
public import proofs.«01_k».proof.Proof.AttnTrip

@[expose] public section

set_option maxRecDepth 16384

noncomputable section

namespace Cert.AttnBwdIdeal.Hand

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The pairs of block numbers in the order of the walk. -/
def pr : ℕ → BitVec 32 × BitVec 32
  | 0 => (0#32, 0#32)
  | n + 1 => (nextJ (pr n).1 (pr n).2, nextB (pr n).1 (pr n).2)

/-- The six words the loop carries into trip `n`: three successive pairs. -/
abbrev words (n : ℕ) : BitVec 32 × BitVec 32 × BitVec 32 × BitVec 32 × BitVec 32 × BitVec 32 :=
  ((pr (2*n)).1, (pr (2*n)).2, (pr (2*n+1)).1, (pr (2*n+1)).2, (pr (2*n+2)).1, (pr (2*n+2)).2)

theorem words_succ (n : ℕ) : words (n + 1) = ((pr (2*n+2)).1, (pr (2*n+2)).2, nextJ (pr (2*n+2)).1 (pr (2*n+2)).2, nextB (pr (2*n+2)).1 (pr (2*n+2)).2,
    nextJ (nextJ (pr (2*n+2)).1 (pr (2*n+2)).2) (nextB (pr (2*n+2)).1 (pr (2*n+2)).2), nextB (nextJ (pr (2*n+2)).1 (pr (2*n+2)).2) (nextB (pr (2*n+2)).1 (pr (2*n+2)).2)) := by
  have e0 : 2 * (n + 1) = 2 * n + 2 := by omega
  have e3 : pr (2 * n + 2 + 1) = (nextJ (pr (2 * n + 2)).1 (pr (2 * n + 2)).2, nextB (pr (2 * n + 2)).1 (pr (2 * n + 2)).2) := rfl
  have e4 : pr (2 * n + 2 + 2) = (nextJ (pr (2 * n + 2 + 1)).1 (pr (2 * n + 2 + 1)).2, nextB (pr (2 * n + 2 + 1)).1 (pr (2 * n + 2 + 1)).2) := rfl
  unfold words
  rw [e0, e4, e3]

/-- The side conditions of every trip hold at the walk's words. -/
theorem words_ok : ∀ n : Fin 17, k0_chk1 (pr (2*n.val)).1 ∧ k0_chk2 (pr (2*n.val)).1 (pr (2*n.val)).2 ∧ k0_chk3 (pr (2*n.val+1)).1 (pr (2*n.val+1)).2 ∧
    k0_chk4 (pr (2*n.val+2)).1 ∧ k0_chk5 (pr (2*n.val+2)).1 (pr (2*n.val+2)).2 ∧ k0_chk6 (pr (2*n.val+1)).1 := by
  decide +kernel
theorem trips_eq : k0_t1_loop.trips = 17 := by decide +kernel
/-- So do those after the loop. -/
theorem last_ok : k0_chk10 (pr 35).1 ∧ k0_chk9 (pr 34).1 (pr 34).2 ∧ k0_chk8 (pr 34).1 ∧ k0_chk7 (pr 35).1 (pr 35).2 := by decide +kernel

/-- The written buffers' contents, in the order of the scratch operands. -/
abbrev Wr (c : Dev nD) (arg10 : Memref sig .tc .vmem S2x512x512 .f32) (arg11 : Memref sig .tc .vmem S2x512x512 .f32) (arg12 : Memref sig .tc .vmem S2x512x512 .bf16) (arg13 : Memref sig .tc .vmem S2x512x512 .bf16) (arg15 : Memref sig .tc .vmem S4096x192 .f32) (arg16 : Memref sig .tc .vmem S4096x192 .f32) (arg17 : Memref sig .tc .vmem S4096x128 .f32) : Type :=
  Bf (F := F) c arg10 × Bf (F := F) c arg11 × Bf (F := F) c arg12 × Bf (F := F) c arg13 × Bf (F := F) c arg15 × Bf (F := F) c arg16 × Bf (F := F) c arg17

variable (c : Dev nD) (E : Set ℕ) (i : grid0.Coords) (arg1 : Memref sig .tc .vmem S1x4096x192 .bf16) (harg1 : arg1.IsWhole) (arg2 : Memref sig .tc .vmem S1x4096x192 .bf16) (harg2 : arg2.IsWhole) (arg3 : Memref sig .tc .vmem S1x4096x128 .bf16) (harg3 : arg3.IsWhole) (arg4 : Memref sig .tc .vmem S4096x128 .f32) (harg4 : arg4.IsWhole) (arg5 : Memref sig .tc .vmem S1x8x1x512 .f32) (harg5 : arg5.IsWhole) (arg6 : Memref sig .tc .vmem S1x8x1x512 .f32) (harg6 : arg6.IsWhole) (arg7 : Memref sig .tc .vmem S1x4096x192 .bf16) (harg7 : arg7.IsWhole) (arg8 : Memref sig .tc .vmem S1x4096x192 .bf16) (harg8 : arg8.IsWhole) (arg9 : Memref sig .tc .vmem S1x4096x128 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S512x512 .f32) (harg14 : arg14.IsWhole) (arg15 : Memref sig .tc .vmem S4096x192 .f32) (harg15 : arg15.IsWhole) (arg16 : Memref sig .tc .vmem S4096x192 .f32) (harg16 : arg16.IsWhole) (arg17 : Memref sig .tc .vmem S4096x128 .f32) (harg17 : arg17.IsWhole)

include arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17

/-- What trip `n` leaves in the written buffers, from what they held. -/
def stepG (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (n : ℕ) (h : n < k0_t1_loop.trips) (g : Wr (F := F) c arg10 arg11 arg12 arg13 arg15 arg16 arg17) : Wr (F := F) c arg10 arg11 arg12 arg13 arg15 arg16 arg17 :=
  have H := words_ok ⟨n, trips_eq ▸ h⟩
  (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, h⟩ (pr (2*n)).1 (pr (2*n)).2 (pr (2*n+1)).1 (pr (2*n+1)).2 (pr (2*n+2)).1 (pr (2*n+2)).2 H.1 H.2.1 H.2.2.1 H.2.2.2.1 H.2.2.2.2.1 H.2.2.2.2.2 f1 f2 f3 f4 f5 f6 (g.1) (g.2.1) (g.2.2.1) (g.2.2.2.1) f14 (g.2.2.2.2.1) (g.2.2.2.2.2.1) (g.2.2.2.2.2.2)).1

/-- The read and the written buffers, held. -/
abbrev own (c : Dev nD) (arg1 : Memref sig .tc .vmem S1x4096x192 .bf16) (harg1 : arg1.IsWhole) (arg2 : Memref sig .tc .vmem S1x4096x192 .bf16) (harg2 : arg2.IsWhole) (arg3 : Memref sig .tc .vmem S1x4096x128 .bf16) (harg3 : arg3.IsWhole) (arg4 : Memref sig .tc .vmem S4096x128 .f32) (harg4 : arg4.IsWhole) (arg5 : Memref sig .tc .vmem S1x8x1x512 .f32) (harg5 : arg5.IsWhole) (arg6 : Memref sig .tc .vmem S1x8x1x512 .f32) (harg6 : arg6.IsWhole) (arg7 : Memref sig .tc .vmem S1x4096x192 .bf16) (harg7 : arg7.IsWhole) (arg8 : Memref sig .tc .vmem S1x4096x192 .bf16) (harg8 : arg8.IsWhole) (arg9 : Memref sig .tc .vmem S1x4096x128 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S512x512 .f32) (harg14 : arg14.IsWhole) (arg15 : Memref sig .tc .vmem S4096x192 .f32) (harg15 : arg15.IsWhole) (arg16 : Memref sig .tc .vmem S4096x192 .f32) (harg16 : arg16.IsWhole) (arg17 : Memref sig .tc .vmem S4096x128 .f32) (harg17 : arg17.IsWhole) (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (g : Wr (F := F) c arg10 arg11 arg12 arg13 arg15 arg16 arg17) : sProp 𝕄 :=
  iprop(pt c arg1 f1 ∗ pt c arg2 f2 ∗ pt c arg3 f3 ∗ pt c arg4 f4 ∗ pt c arg5 f5 ∗ pt c arg6 f6 ∗ pt c arg10 (g.1) ∗ pt c arg11 (g.2.1) ∗ pt c arg12 (g.2.2.1) ∗ pt c arg13 (g.2.2.2.1) ∗ pt c arg14 f14 ∗ pt c arg15 (g.2.2.2.2.1) ∗ pt c arg16 (g.2.2.2.2.2.1) ∗ pt c arg17 (g.2.2.2.2.2.2))

theorem stepG_spec (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (n : ℕ) (h : n < k0_t1_loop.trips) (g : Wr (F := F) c arg10 arg11 arg12 arg13 arg15 arg16 arg17)
    (E : Set ℕ) (v48 v50 v123 v125 c90 c91 c92 c93 : BitVec 32) :
    own c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g ⊢ wp frame (wpE (defs₀ (F := F)) Variants.none c none) E
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v50 v123 v125 c90 c91 c92 c93 ⟨n, h⟩ (words n))
      (fun acc => iprop(⌜acc = words (n + 1)⌝ ∗ own c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 (stepG c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 n h g))) := by
  have H := words_ok ⟨n, trips_eq ▸ h⟩
  refine ((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, h⟩ (pr (2*n)).1 (pr (2*n)).2 (pr (2*n+1)).1 (pr (2*n+1)).2 (pr (2*n+2)).1 (pr (2*n+2)).2 H.1 H.2.1 H.2.2.1 H.2.2.2.1 H.2.2.2.2.1 H.2.2.2.2.2 f1 f2 f3 f4 f5 f6 (g.1) (g.2.1) (g.2.2.1) (g.2.2.2.1) f14 (g.2.2.2.2.1) (g.2.2.2.2.2.1) (g.2.2.2.2.2.2)).2 E v48 v50 v123 v125 c90 c91 c92 c93).trans
    (wp_mono Idealize.ShloMosaic.frame (wpE (defs₀ (F := F)) Variants.none (c : Thread nD τ) none) E fun acc => ?_)
  unfold stepG
  generalize (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, h⟩ (pr (2*n)).1 (pr (2*n)).2 (pr (2*n+1)).1 (pr (2*n+1)).2 (pr (2*n+2)).1 (pr (2*n+2)).2 H.1 H.2.1 H.2.2.1 H.2.2.2.1 H.2.2.2.2.1 H.2.2.2.2.2 f1 f2 f3 f4 f5 f6 (g.1) (g.2.1) (g.2.2.1) (g.2.2.2.1) f14 (g.2.2.2.2.1) (g.2.2.2.2.2.1) (g.2.2.2.2.2.2)).1 = G
  rw [words_succ]

/-- What the written buffers hold before trip `n`. -/
def loopState (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (g10 : Bf (F := F) c arg10) (g11 : Bf (F := F) c arg11) (g12 : Bf (F := F) c arg12) (g13 : Bf (F := F) c arg13) (g15 : Bf (F := F) c arg15) (g16 : Bf (F := F) c arg16) (g17 : Bf (F := F) c arg17) (n : ℕ) : Wr (F := F) c arg10 arg11 arg12 arg13 arg15 arg16 arg17 :=
  Nat.rec (motive := fun _ => Wr (F := F) c arg10 arg11 arg12 arg13 arg15 arg16 arg17) (g10, g11, g12, g13, g15, g16, g17) (fun n g => if h : n < k0_t1_loop.trips then stepG c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 n h g else g) n

theorem loopState_succ (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (g10 : Bf (F := F) c arg10) (g11 : Bf (F := F) c arg11) (g12 : Bf (F := F) c arg12) (g13 : Bf (F := F) c arg13) (g15 : Bf (F := F) c arg15) (g16 : Bf (F := F) c arg16) (g17 : Bf (F := F) c arg17) (n : ℕ) (h : n < k0_t1_loop.trips) :
    loopState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g10 g11 g12 g13 g15 g16 g17 (n + 1) = stepG c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 n h (loopState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g10 g11 g12 g13 g15 g16 g17 n) :=
  dif_pos h

set_option warn.classDefReducibility false in
/-- The loop's invariant: the walk's words, the read buffers unchanged, the written ones as the trips leave them. -/
def loopInv (v48 v50 v123 v125 c90 c91 c92 c93 : BitVec 32)
    (init : BitVec 32 × BitVec 32 × BitVec 32 × BitVec 32 × BitVec 32 × BitVec 32) (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (g10 : Bf (F := F) c arg10) (g11 : Bf (F := F) c arg11) (g12 : Bf (F := F) c arg12) (g13 : Bf (F := F) c arg13) (g15 : Bf (F := F) c arg15) (g16 : Bf (F := F) c arg16) (g17 : Bf (F := F) c arg17) :
    Gen.LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v50 v123 v125 c90 c91 c92 c93 init where
  inv n acc := iprop(⌜acc = words n⌝ ∗ own c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 (loopState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g10 g11 g12 g13 g15 g16 g17 n))
  step k acc := by
    rw [loopState_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g10 g11 g12 g13 g15 g16 g17 k.val k.isLt]
    generalize loopState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g10 g11 g12 g13 g15 g16 g17 k.val = G
    iintro ⟨%hw, H⟩
    subst hw
    iapply stepG_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 k.val k.isLt G E v48 v50 v123 v125 c90 c91 c92 c93
    iexact H

/-- Through the loop: from its buffers to the continuation at the words and contents it ends with. -/
theorem through_loop (v48 v50 v123 v125 c90 c91 c92 c93 : BitVec 32)
    (init : BitVec 32 × BitVec 32 × BitVec 32 × BitVec 32 × BitVec 32 × BitVec 32) (hi : init = words 0) (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (g10 : Bf (F := F) c arg10) (g11 : Bf (F := F) c arg11) (g12 : Bf (F := F) c arg12) (g13 : Bf (F := F) c arg13) (g15 : Bf (F := F) c arg15) (g16 : Bf (F := F) c arg16) (g17 : Bf (F := F) c arg17) {β : Type}
    (kk : BitVec 32 × BitVec 32 × BitVec 32 × BitVec 32 × BitVec 32 × BitVec 32 → Prog (TpuEff nD τ sig (Elt F) Λ₀ .tc) β) (Q : β → sProp 𝕄) :
    iprop(own c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 (g10, g11, g12, g13, g15, g16, g17) ∗
      (own c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 (loopState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g10 g11 g12 g13 g15 g16 g17 17) -∗
        wp Idealize.ShloMosaic.frame (wpE (defs₀ (F := F)) Variants.none (c : Thread nD τ) none) E (kk (words 17)) Q))
    ⊢ wp Idealize.ShloMosaic.frame (wpE (defs₀ (F := F)) Variants.none (c : Thread nD τ) none) E
        (k0_t1_loop.for k0_t1_ok init (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v50 v123 v125 c90 c91 c92 c93) >>= kk) Q := by
  have X := Scf.wp_for_bind Idealize.ShloMosaic.frame (wpE (defs₀ (F := F)) Variants.none (c : Thread nD τ) none) E _ _ _ k0_t1_ok init _
    (fun n acc => iprop(⌜acc = words n⌝ ∗ own c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 (loopState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g10 g11 g12 g13 g15 g16 g17 n)))
    (loopInv c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v50 v123 v125 c90 c91 c92 c93 init f1 f2 f3 f4 f5 f6 f14 g10 g11 g12 g13 g15 g16 g17).step (kk := kk) (Q := Q)
  beta_reduce at X
  rw [show Scf.trips k0_t1_loop.lb k0_t1_loop.ub k0_t1_loop.st = 17 from trips_eq] at X
  refine BI.Entails.trans (BI.sep_mono (?_ : own c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 (g10, g11, g12, g13, g15, g16, g17) ⊢ iprop(⌜init = words 0⌝ ∗ own c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 (g10, g11, g12, g13, g15, g16, g17))) ?_) (BI.wand_elim X)
  · iintro H
    isplitr; · ipureintro; exact hi
    iexact H
  · show (_ : sProp 𝕄) ⊢ (_ : sProp 𝕄)
    iintro K %acc HH
    icases HH with ⟨%ha, H⟩
    subst ha
    iapply K
    iexact H

end Cert.AttnBwdIdeal.Hand

end
-- ==== Proof.AttnVal.lean ====
module

public import proofs.«01_k».proof.Proof.Gen.AttnBwdIdeal.Skeleton
public import proofs.«01_k».proof.Proof.Gen.AttnBwdIdeal.Loops
public import proofs.«01_k».proof.Proof.Gen.AttnBwdIdeal.Frame
public import Idealize.ShloMosaic.Lib.Tactic
public import proofs.«01_k».proof.Proof.AttnStep
public import proofs.«01_k».proof.Proof.AttnLoop

@[expose] public section

set_option maxRecDepth 16384

noncomputable section

namespace Cert.AttnBwdIdeal.Hand

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

attribute [local irreducible] trip

variable (c : Dev nD) (E : Set ℕ) (i : grid0.Coords) (arg1 : Memref sig .tc .vmem S1x4096x192 .bf16) (harg1 : arg1.IsWhole) (arg2 : Memref sig .tc .vmem S1x4096x192 .bf16) (harg2 : arg2.IsWhole) (arg3 : Memref sig .tc .vmem S1x4096x128 .bf16) (harg3 : arg3.IsWhole) (arg4 : Memref sig .tc .vmem S4096x128 .f32) (harg4 : arg4.IsWhole) (arg5 : Memref sig .tc .vmem S1x8x1x512 .f32) (harg5 : arg5.IsWhole) (arg6 : Memref sig .tc .vmem S1x8x1x512 .f32) (harg6 : arg6.IsWhole) (arg7 : Memref sig .tc .vmem S1x4096x192 .bf16) (harg7 : arg7.IsWhole) (arg8 : Memref sig .tc .vmem S1x4096x192 .bf16) (harg8 : arg8.IsWhole) (arg9 : Memref sig .tc .vmem S1x4096x128 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S512x512 .f32) (harg14 : arg14.IsWhole) (arg15 : Memref sig .tc .vmem S4096x192 .f32) (harg15 : arg15.IsWhole) (arg16 : Memref sig .tc .vmem S4096x192 .f32) (harg16 : arg16.IsWhole) (arg17 : Memref sig .tc .vmem S4096x128 .f32) (harg17 : arg17.IsWhole)

include arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17

/-- What the written buffers hold before trip `n`, read: the scores and products of the pair under way, the weights of the pair before it, the gradients of all pairs before that. -/
def Facts (c : Dev nD) (arg1 : Memref sig .tc .vmem S1x4096x192 .bf16) (harg1 : arg1.IsWhole) (arg2 : Memref sig .tc .vmem S1x4096x192 .bf16) (harg2 : arg2.IsWhole) (arg3 : Memref sig .tc .vmem S1x4096x128 .bf16) (harg3 : arg3.IsWhole) (arg4 : Memref sig .tc .vmem S4096x128 .f32) (harg4 : arg4.IsWhole) (arg5 : Memref sig .tc .vmem S1x8x1x512 .f32) (harg5 : arg5.IsWhole) (arg6 : Memref sig .tc .vmem S1x8x1x512 .f32) (harg6 : arg6.IsWhole) (arg7 : Memref sig .tc .vmem S1x4096x192 .bf16) (harg7 : arg7.IsWhole) (arg8 : Memref sig .tc .vmem S1x4096x192 .bf16) (harg8 : arg8.IsWhole) (arg9 : Memref sig .tc .vmem S1x4096x128 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S512x512 .f32) (harg14 : arg14.IsWhole) (arg15 : Memref sig .tc .vmem S4096x192 .f32) (harg15 : arg15.IsWhole) (arg16 : Memref sig .tc .vmem S4096x192 .f32) (harg16 : arg16.IsWhole) (arg17 : Memref sig .tc .vmem S4096x128 .f32) (harg17 : arg17.IsWhole) (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (n : ℕ) (X15 X16 : Vec F S4096x192 .f32) (X17 : Vec F S4096x128 .f32) (g : Wr (F := F) c arg10 arg11 arg12 arg13 arg15 arg16 arg17) : Prop :=
  (pl1 (arg10.view.read (Elt F) (g.1)) = sB (arg1.view.read (Elt F) f1) (arg2.view.read (Elt F) f2) (pr (2 * n + 1)).1 (pr (2 * n + 1)).2 ) ∧ (pl1 (arg11.view.read (Elt F) (g.2.1)) = dpB (arg3.view.read (Elt F) f3) (arg4.view.read (Elt F) f4) (pr (2 * n + 1)).1 (pr (2 * n + 1)).2 ) ∧ (pl0 (arg12.view.read (Elt F) (g.2.2.1)) = pB (arg1.view.read (Elt F) f1) (arg2.view.read (Elt F) f2) (arg5.view.read (Elt F) f5) (arg14.view.read (Elt F) f14) (pr (2 * n)).1 (pr (2 * n)).2 ) ∧ (pl0 (arg13.view.read (Elt F) (g.2.2.2.1)) = dsB (arg1.view.read (Elt F) f1) (arg2.view.read (Elt F) f2) (arg3.view.read (Elt F) f3) (arg4.view.read (Elt F) f4) (arg5.view.read (Elt F) f5) (arg6.view.read (Elt F) f6) (arg14.view.read (Elt F) f14) (pr (2 * n)).1 (pr (2 * n)).2 ) ∧ ((arg15.view.read (Elt F) (g.2.2.2.2.1)) = dqF (arg1.view.read (Elt F) f1) (arg2.view.read (Elt F) f2) (arg3.view.read (Elt F) f3) (arg4.view.read (Elt F) f4) (arg5.view.read (Elt F) f5) (arg6.view.read (Elt F) f6) (arg14.view.read (Elt F) f14) pr (2 * n) X15 ) ∧ ((arg16.view.read (Elt F) (g.2.2.2.2.2.1)) = dkF (arg1.view.read (Elt F) f1) (arg2.view.read (Elt F) f2) (arg3.view.read (Elt F) f3) (arg4.view.read (Elt F) f4) (arg5.view.read (Elt F) f5) (arg6.view.read (Elt F) f6) (arg14.view.read (Elt F) f14) pr (2 * n) X16 ) ∧ ((arg17.view.read (Elt F) (g.2.2.2.2.2.2)) = dvF (arg1.view.read (Elt F) f1) (arg2.view.read (Elt F) f2) (arg4.view.read (Elt F) f4) (arg5.view.read (Elt F) f5) (arg14.view.read (Elt F) f14) pr (2 * n) X17)

/-- One step of the facts, for any contents that read as the trip's do. -/
theorem facts_of (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (n : ℕ) (X15 X16 : Vec F S4096x192 .f32) (X17 : Vec F S4096x128 .f32) (g G : Wr (F := F) c arg10 arg11 arg12 arg13 arg15 arg16 arg17)
    (H : Facts c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 n X15 X16 X17 g)
    (Ts : pl1 (arg10.view.read (Elt F) (G.1)) = sB (arg1.view.read (Elt F) f1) (arg2.view.read (Elt F) f2) (nextJ (pr (2 * n + 2)).1 (pr (2 * n + 2)).2) (nextB (pr (2 * n + 2)).1 (pr (2 * n + 2)).2)) (Tdp : pl1 (arg11.view.read (Elt F) (G.2.1)) = dpB (arg3.view.read (Elt F) f3) (arg4.view.read (Elt F) f4) (nextJ (pr (2 * n + 2)).1 (pr (2 * n + 2)).2) (nextB (pr (2 * n + 2)).1 (pr (2 * n + 2)).2)) (Tp : pl0 (arg12.view.read (Elt F) (G.2.2.1)) = pB (arg1.view.read (Elt F) f1) (arg2.view.read (Elt F) f2) (arg5.view.read (Elt F) f5) (arg14.view.read (Elt F) f14) (pr (2 * n + 2)).1 (pr (2 * n + 2)).2) (Tds : pl0 (arg13.view.read (Elt F) (G.2.2.2.1)) = dsB (arg1.view.read (Elt F) f1) (arg2.view.read (Elt F) f2) (arg3.view.read (Elt F) f3) (arg4.view.read (Elt F) f4) (arg5.view.read (Elt F) f5) (arg6.view.read (Elt F) f6) (arg14.view.read (Elt F) f14) (pr (2 * n + 2)).1 (pr (2 * n + 2)).2) (Tdq : arg15.view.read (Elt F) (G.2.2.2.2.1) = dqS (arg1.view.read (Elt F) f1) (arg2.view.read (Elt F) f2) (arg3.view.read (Elt F) f3) (arg4.view.read (Elt F) f4) (arg5.view.read (Elt F) f5) (arg6.view.read (Elt F) f6) (arg14.view.read (Elt F) f14) (pr (2 * n + 1)).1 (pr (2 * n + 1)).2 (dqS (arg1.view.read (Elt F) f1) (arg2.view.read (Elt F) f2) (arg3.view.read (Elt F) f3) (arg4.view.read (Elt F) f4) (arg5.view.read (Elt F) f5) (arg6.view.read (Elt F) f6) (arg14.view.read (Elt F) f14) (pr (2 * n)).1 (pr (2 * n)).2 (arg15.view.read (Elt F) (g.2.2.2.2.1)))) (Tdk : arg16.view.read (Elt F) (G.2.2.2.2.2.1) = dkS (arg1.view.read (Elt F) f1) (arg2.view.read (Elt F) f2) (arg3.view.read (Elt F) f3) (arg4.view.read (Elt F) f4) (arg5.view.read (Elt F) f5) (arg6.view.read (Elt F) f6) (arg14.view.read (Elt F) f14) (pr (2 * n + 1)).1 (pr (2 * n + 1)).2 (dkS (arg1.view.read (Elt F) f1) (arg2.view.read (Elt F) f2) (arg3.view.read (Elt F) f3) (arg4.view.read (Elt F) f4) (arg5.view.read (Elt F) f5) (arg6.view.read (Elt F) f6) (arg14.view.read (Elt F) f14) (pr (2 * n)).1 (pr (2 * n)).2 (arg16.view.read (Elt F) (g.2.2.2.2.2.1)))) (Tdv : arg17.view.read (Elt F) (G.2.2.2.2.2.2) = dvS (arg1.view.read (Elt F) f1) (arg2.view.read (Elt F) f2) (arg4.view.read (Elt F) f4) (arg5.view.read (Elt F) f5) (arg14.view.read (Elt F) f14) (pr (2 * n + 1)).1 (pr (2 * n + 1)).2 (dvS (arg1.view.read (Elt F) f1) (arg2.view.read (Elt F) f2) (arg4.view.read (Elt F) f4) (arg5.view.read (Elt F) f5) (arg14.view.read (Elt F) f14) (pr (2 * n)).1 (pr (2 * n)).2 (arg17.view.read (Elt F) (g.2.2.2.2.2.2)))) :
    Facts c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 (n + 1) X15 X16 X17 G := by
  obtain ⟨h10, h11, h12, h13, h15, h16, h17⟩ := H
  have e0 : 2 * (n + 1) = 2 * n + 2 := by omega
  have p1 : pr (2 * n + 2 + 1) = (nextJ (pr (2 * n + 2)).1 (pr (2 * n + 2)).2, nextB (pr (2 * n + 2)).1 (pr (2 * n + 2)).2) := rfl
  unfold Facts
  rw [e0, p1]
  dsimp only
  refine ⟨Ts, Tdp, Tp, Tds, Tdq.trans ?_, Tdk.trans ?_, Tdv.trans ?_⟩
  · rw [show 2 * n + 2 = 2 * n + 1 + 1 from rfl, dqF_succ, dqF_succ, h15]
  · rw [show 2 * n + 2 = 2 * n + 1 + 1 from rfl, dkF_succ, dkF_succ, h16]
  · rw [show 2 * n + 2 = 2 * n + 1 + 1 from rfl, dvF_succ, dvF_succ, h17]

set_option maxHeartbeats 1000000 in
theorem facts_succ (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (n : ℕ) (h : n < k0_t1_loop.trips) (X15 X16 : Vec F S4096x192 .f32) (X17 : Vec F S4096x128 .f32) (g : Wr (F := F) c arg10 arg11 arg12 arg13 arg15 arg16 arg17)
    (H : Facts c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 n X15 X16 X17 g) : Facts c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 (n + 1) X15 X16 X17 (stepG c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 n h g) := by
  have H' := H
  obtain ⟨h10, h11, h12, h13, h15, h16, h17⟩ := H'
  have K := words_ok ⟨n, trips_eq ▸ h⟩
  exact facts_of c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 n X15 X16 X17 g _ H
    (trip_s c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, h⟩ (pr (2*n)).1 (pr (2*n)).2 (pr (2*n+1)).1 (pr (2*n+1)).2 (pr (2*n+2)).1 (pr (2*n+2)).2 K.1 K.2.1 K.2.2.1 K.2.2.2.1 K.2.2.2.2.1 K.2.2.2.2.2 f1 f2 f3 f4 f5 f6 (g.1) (g.2.1) (g.2.2.1) (g.2.2.2.1) f14 (g.2.2.2.2.1) (g.2.2.2.2.2.1) (g.2.2.2.2.2.2) h10 h11 h12 h13)
    (trip_dp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, h⟩ (pr (2*n)).1 (pr (2*n)).2 (pr (2*n+1)).1 (pr (2*n+1)).2 (pr (2*n+2)).1 (pr (2*n+2)).2 K.1 K.2.1 K.2.2.1 K.2.2.2.1 K.2.2.2.2.1 K.2.2.2.2.2 f1 f2 f3 f4 f5 f6 (g.1) (g.2.1) (g.2.2.1) (g.2.2.2.1) f14 (g.2.2.2.2.1) (g.2.2.2.2.2.1) (g.2.2.2.2.2.2) h10 h11 h12 h13)
    (trip_p c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, h⟩ (pr (2*n)).1 (pr (2*n)).2 (pr (2*n+1)).1 (pr (2*n+1)).2 (pr (2*n+2)).1 (pr (2*n+2)).2 K.1 K.2.1 K.2.2.1 K.2.2.2.1 K.2.2.2.2.1 K.2.2.2.2.2 f1 f2 f3 f4 f5 f6 (g.1) (g.2.1) (g.2.2.1) (g.2.2.2.1) f14 (g.2.2.2.2.1) (g.2.2.2.2.2.1) (g.2.2.2.2.2.2) h10 h11 h12 h13)
    (trip_ds c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, h⟩ (pr (2*n)).1 (pr (2*n)).2 (pr (2*n+1)).1 (pr (2*n+1)).2 (pr (2*n+2)).1 (pr (2*n+2)).2 K.1 K.2.1 K.2.2.1 K.2.2.2.1 K.2.2.2.2.1 K.2.2.2.2.2 f1 f2 f3 f4 f5 f6 (g.1) (g.2.1) (g.2.2.1) (g.2.2.2.1) f14 (g.2.2.2.2.1) (g.2.2.2.2.2.1) (g.2.2.2.2.2.2) h10 h11 h12 h13)
    (trip_dq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, h⟩ (pr (2*n)).1 (pr (2*n)).2 (pr (2*n+1)).1 (pr (2*n+1)).2 (pr (2*n+2)).1 (pr (2*n+2)).2 K.1 K.2.1 K.2.2.1 K.2.2.2.1 K.2.2.2.2.1 K.2.2.2.2.2 f1 f2 f3 f4 f5 f6 (g.1) (g.2.1) (g.2.2.1) (g.2.2.2.1) f14 (g.2.2.2.2.1) (g.2.2.2.2.2.1) (g.2.2.2.2.2.2) h10 h11 h12 h13)
    (trip_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, h⟩ (pr (2*n)).1 (pr (2*n)).2 (pr (2*n+1)).1 (pr (2*n+1)).2 (pr (2*n+2)).1 (pr (2*n+2)).2 K.1 K.2.1 K.2.2.1 K.2.2.2.1 K.2.2.2.2.1 K.2.2.2.2.2 f1 f2 f3 f4 f5 f6 (g.1) (g.2.1) (g.2.2.1) (g.2.2.2.1) f14 (g.2.2.2.2.1) (g.2.2.2.2.2.1) (g.2.2.2.2.2.2) h10 h11 h12 h13)
    (trip_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ⟨n, h⟩ (pr (2*n)).1 (pr (2*n)).2 (pr (2*n+1)).1 (pr (2*n+1)).2 (pr (2*n+2)).1 (pr (2*n+2)).2 K.1 K.2.1 K.2.2.1 K.2.2.2.1 K.2.2.2.2.1 K.2.2.2.2.2 f1 f2 f3 f4 f5 f6 (g.1) (g.2.1) (g.2.2.1) (g.2.2.2.1) f14 (g.2.2.2.2.1) (g.2.2.2.2.2.1) (g.2.2.2.2.2.2) h10 h11 h12 h13)

theorem facts_loop (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (X15 X16 : Vec F S4096x192 .f32) (X17 : Vec F S4096x128 .f32) (g10 : Bf (F := F) c arg10) (g11 : Bf (F := F) c arg11) (g12 : Bf (F := F) c arg12) (g13 : Bf (F := F) c arg13) (g15 : Bf (F := F) c arg15) (g16 : Bf (F := F) c arg16) (g17 : Bf (F := F) c arg17) (H : Facts c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 0 X15 X16 X17 (g10, g11, g12, g13, g15, g16, g17)) :
    ∀ n, n ≤ 17 → Facts c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 n X15 X16 X17 (loopState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g10 g11 g12 g13 g15 g16 g17 n)
  | 0, _ => H
  | n + 1, h => by
    rw [loopState_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g10 g11 g12 g13 g15 g16 g17 n (by rw [trips_eq]; omega)]
    exact facts_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 n _ X15 X16 X17 _ (facts_loop f1 f2 f3 f4 f5 f6 f14 X15 X16 X17 g10 g11 g12 g13 g15 g16 g17 H n (by omega))

/-- Through the loop with what it computes: the contents themselves are left open, their readings are stated. -/
theorem through_loop_facts (v48 v50 v123 v125 c90 c91 c92 c93 : BitVec 32)
    (init : BitVec 32 × BitVec 32 × BitVec 32 × BitVec 32 × BitVec 32 × BitVec 32) (hi : init = words 0) (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (X15 X16 : Vec F S4096x192 .f32) (X17 : Vec F S4096x128 .f32) (g10 : Bf (F := F) c arg10) (g11 : Bf (F := F) c arg11) (g12 : Bf (F := F) c arg12) (g13 : Bf (F := F) c arg13) (g15 : Bf (F := F) c arg15) (g16 : Bf (F := F) c arg16) (g17 : Bf (F := F) c arg17) {β : Type}
    (kk : BitVec 32 × BitVec 32 × BitVec 32 × BitVec 32 × BitVec 32 × BitVec 32 → Prog (TpuEff nD τ sig (Elt F) Λ₀ .tc) β) (Q : β → sProp 𝕄) :
    iprop(own c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 (g10, g11, g12, g13, g15, g16, g17) ∗ ⌜Facts c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 0 X15 X16 X17 (g10, g11, g12, g13, g15, g16, g17)⌝ ∗
      (∀ g : Wr (F := F) c arg10 arg11 arg12 arg13 arg15 arg16 arg17, ⌜Facts c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 17 X15 X16 X17 g⌝ -∗ own c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g -∗
        wp Idealize.ShloMosaic.frame (wpE (defs₀ (F := F)) Variants.none (c : Thread nD τ) none) E (kk (words 17)) Q))
    ⊢ wp Idealize.ShloMosaic.frame (wpE (defs₀ (F := F)) Variants.none (c : Thread nD τ) none) E
        (k0_t1_loop.for k0_t1_ok init (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v50 v123 v125 c90 c91 c92 c93) >>= kk) Q := by
  iintro ⟨H, %HF, K⟩
  have HL := facts_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 X15 X16 X17 g10 g11 g12 g13 g15 g16 g17 HF 17 le_rfl
  iapply (through_loop c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v48 v50 v123 v125 c90 c91 c92 c93 init hi f1 f2 f3 f4 f5 f6 f14 g10 g11 g12 g13 g15 g16 g17 kk Q)
  isplitl [H]; · iexact H
  revert HL
  generalize loopState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f14 g10 g11 g12 g13 g15 g16 g17 17 = G
  intro HL
  iintro H
  ispecialize K $$ %G
  iapply K
  · ipureintro; exact HL
  iexact H

end Cert.AttnBwdIdeal.Hand

end
-- ==== Proof.AttnBody.lean ====
module

public import proofs.«01_k».proof.Proof.Gen.AttnBwdIdeal.Skeleton
public import proofs.«01_k».proof.Proof.Gen.AttnBwdIdeal.Loops
public import proofs.«01_k».proof.Proof.Gen.AttnBwdIdeal.Frame
public import Idealize.ShloMosaic.Lib.Tactic
public import proofs.«01_k».proof.Proof.AttnVal

@[expose] public section

set_option maxRecDepth 16384

noncomputable section

namespace Cert.AttnBwdIdeal.Hand

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The last two pairs of the walk, and their rows. -/
theorem j34 : (pr (2 * 17)).1 = 6#32 := by decide +kernel
theorem b34 : (pr (2 * 17)).2 = 1#32 := by decide +kernel
theorem j35 : (pr (2 * 17 + 1)).1 = 7#32 := by decide +kernel
theorem b35 : (pr (2 * 17 + 1)).2 = 0#32 := by decide +kernel
theorem row6 : BitVec.toNat (Scalar.indexCast (Scalar.muli 6#32 512#32)) = 3072 := by decide +kernel
theorem row7 : BitVec.toNat (Scalar.indexCast (Scalar.muli 7#32 512#32)) = 3584 := by decide +kernel
theorem row61 : BitVec.toNat (Scalar.indexCast (Scalar.muli (Scalar.addi 6#32 1#32) 512#32)) = 3584 := by decide +kernel
theorem row70 : BitVec.toNat (Scalar.indexCast (Scalar.muli (Scalar.addi 7#32 0#32) 512#32)) = 3584 := by decide +kernel
theorem num61 : BitVec.toNat (Scalar.indexCast (Scalar.addi 6#32 1#32)) = 7 := by decide +kernel
theorem num70 : BitVec.toNat (Scalar.indexCast (Scalar.addi 7#32 0#32)) = 7 := by decide +kernel
theorem dis67 {e : EltTy} {Val : EltTy → Type} [∀ e, Nonempty (Val e)] (x : S4096x192.Idx → Val e) (w : ((a : Fin 2) → Fin ((![512, 192] : Fin 2 → ℕ) a)) → Val e) :
    winT (s := S4096x192) (VecWindow.put (s := S4096x192) x ![3072, 0] ![512, 192] w) ![3584, 0] ![512, 192] = winT (s := S4096x192) x ![3584, 0] ![512, 192] :=
  winT_put_disjoint (s := S4096x192) x ![3072, 0] ![512, 192] ![3584, 0] ![512, 192] w (0 : Fin 2) (Or.inr (by decide))
theorem dis67v {e : EltTy} {Val : EltTy → Type} [∀ e, Nonempty (Val e)] (x : S4096x128.Idx → Val e) (w : ((a : Fin 2) → Fin ((![512, 128] : Fin 2 → ℕ) a)) → Val e) :
    winT (s := S4096x128) (VecWindow.put (s := S4096x128) x ![3072, 0] ![512, 128] w) ![3584, 0] ![512, 128] = winT (s := S4096x128) x ![3584, 0] ![512, 128] :=
  winT_put_disjoint (s := S4096x128) x ![3072, 0] ![512, 128] ![3584, 0] ![512, 128] w (0 : Fin 2) (Or.inr (by decide))
theorem same7 {e : EltTy} {Val : EltTy → Type} [∀ e, Nonempty (Val e)] (x : S4096x192.Idx → Val e) (w : ((a : Fin 2) → Fin ((![512, 192] : Fin 2 → ℕ) a)) → Val e) :
    winT (s := S4096x192) (VecWindow.put (s := S4096x192) x ![3584, 0] ![512, 192] w) ![3584, 0] ![512, 192] = w :=
  winT_put_same (s := S4096x192) x ![3584, 0] ![512, 192] (by decide) w
/-- The grid point is the first. -/
abbrev cond0 (i : grid0.Coords) : Prop := Scalar.cmpi .ne (Scalar.extui (Scalar.cmpi .eq (BitVec.ofNat 32 (i 0).val) 0#32)) 0#32 = 1#1
/-- The mask, and the zeros the gradients start from. -/
def bias0 : Vec F S512x512 .f32 := k0_pay33 k0_pay5 k0_pay6 64#32 k0_pay7 k0_pay8
def zeroQ : Vec F S4096x192 .f32 := k0_pay34
def zeroV : Vec F S4096x128 .f32 := k0_pay36

set_option backward.isDefEq.respectTransparency.types false in
set_option maxHeartbeats 4000000 in
/-- The body of the kernel at a later grid point, where the mask is kept. -/
theorem kernelRunB (c : Dev nD) (i : grid0.Coords) (arg1 : Memref sig .tc .vmem S1x4096x192 .bf16) (harg1 : arg1.IsWhole) (arg2 : Memref sig .tc .vmem S1x4096x192 .bf16) (harg2 : arg2.IsWhole) (arg3 : Memref sig .tc .vmem S1x4096x128 .bf16) (harg3 : arg3.IsWhole) (arg4 : Memref sig .tc .vmem S4096x128 .f32) (harg4 : arg4.IsWhole) (arg5 : Memref sig .tc .vmem S1x8x1x512 .f32) (harg5 : arg5.IsWhole) (arg6 : Memref sig .tc .vmem S1x8x1x512 .f32) (harg6 : arg6.IsWhole) (arg7 : Memref sig .tc .vmem S1x4096x192 .bf16) (harg7 : arg7.IsWhole) (arg8 : Memref sig .tc .vmem S1x4096x192 .bf16) (harg8 : arg8.IsWhole) (arg9 : Memref sig .tc .vmem S1x4096x128 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S512x512 .f32) (harg14 : arg14.IsWhole) (arg15 : Memref sig .tc .vmem S4096x192 .f32) (harg15 : arg15.IsWhole) (arg16 : Memref sig .tc .vmem S4096x192 .f32) (harg16 : arg16.IsWhole) (arg17 : Memref sig .tc .vmem S4096x128 .f32) (harg17 : arg17.IsWhole) (hc : ¬cond0 i) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (E : Set ℕ) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17) ⊢ wp frame (wpE (defs₀ (F := F)) Variants.none c none) E
          (cc0_attention_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => iprop(∃ g7 : Bf (F := F) c arg7, ∃ g8 : Bf (F := F) c arg8, ∃ g9 : Bf (F := F) c arg9, ∃ g10 : Bf (F := F) c arg10, ∃ g11 : Bf (F := F) c arg11, ∃ g12 : Bf (F := F) c arg12, ∃ g13 : Bf (F := F) c arg13, ∃ g15 : Bf (F := F) c arg15, ∃ g16 : Bf (F := F) c arg16, ∃ g17 : Bf (F := F) c arg17, pt c arg1 f1 ∗ pt c arg2 f2 ∗ pt c arg3 f3 ∗ pt c arg4 f4 ∗ pt c arg5 f5 ∗ pt c arg6 f6 ∗ pt c arg7 g7 ∗ pt c arg8 g8 ∗ pt c arg9 g9 ∗ pt c arg10 g10 ∗ pt c arg11 g11 ∗ pt c arg12 g12 ∗ pt c arg13 g13 ∗ pt c arg14 f14 ∗ pt c arg15 g15 ∗ pt c arg16 g16 ∗ pt c arg17 g17 ∗ ⌜arg7.view.read (Elt F) g7 = k0_pay2 (dqF (arg1.view.read (Elt F) f1) (arg2.view.read (Elt F) f2) (arg3.view.read (Elt F) f3) (arg4.view.read (Elt F) f4) (arg5.view.read (Elt F) f5) (arg6.view.read (Elt F) f6) (arg14.view.read (Elt F) f14) pr 36 zeroQ) ∧ arg8.view.read (Elt F) g8 = k0_pay3 (dkF (arg1.view.read (Elt F) f1) (arg2.view.read (Elt F) f2) (arg3.view.read (Elt F) f3) (arg4.view.read (Elt F) f4) (arg5.view.read (Elt F) f5) (arg6.view.read (Elt F) f6) (arg14.view.read (Elt F) f14) pr 36 zeroQ) ∧ arg9.view.read (Elt F) g9 = k0_pay4 (dvF (arg1.view.read (Elt F) f1) (arg2.view.read (Elt F) f2) (arg4.view.read (Elt F) f4) (arg5.view.read (Elt F) f5) (arg14.view.read (Elt F) f14) pr 36 zeroV)⌝)) := by
  have L := last_ok
  iintro ⟨H1, H2, H3, H4, H5, H6, H7, H8, H9, H10, H11, H12, H13, H14, H15, H16, H17⟩
  sl_unfold [cc0_attention_bwd]
  sl_exec_parts
  generalize hg10 : View.writes arg10.view (Elt F) _ _ = g10
  generalize hg11 : View.writes arg11.view (Elt F) _ _ = g11
  generalize hg12 : View.writes arg12.view (Elt F) _ _ = g12
  generalize hg13 : View.writes arg13.view (Elt F) _ _ = g13
  generalize hg15 : View.writes arg15.view (Elt F) _ _ = g15
  generalize hg16 : View.writes arg16.view (Elt F) _ _ = g16
  generalize hg17 : View.writes arg17.view (Elt F) _ _ = g17
  iapply (through_loop_facts c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0#32 1#32 0#32 2#32 0#32 0#32 0#32 1#32 (0#32, 0#32, 0#32, 1#32, 0#32, 2#32) (by decide +kernel) f1 f2 f3 f4 f5 f6 _ zeroQ zeroQ zeroV g10 g11 g12 g13 g15 g16 g17)
  isplitl [H1 H2 H3 H4 H5 H6 H10 H11 H12 H13 H14 H15 H16 H17]
  · isplitl [H1]; · iexact H1
    isplitl [H2]; · iexact H2
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitr
  · ipureintro
    unfold Facts
    dsimp only
    subst hg10 hg11 hg12 hg13 hg15 hg16 hg17
    sl_unfold_words
    refine ⟨?_, ?_, ?_, ?_, ?_, ?_, ?_⟩
    · show winT _ _ _ = _
      simp only [View.writes_nil, readAt_winT, readCov_winT, read_put, pl00, pl11, pl01, pl10, winB, winQ, winV, putB, putQ, putV, putQo, putVo]
      rfl
    · show winT _ _ _ = _
      simp only [View.writes_nil, readAt_winT, readCov_winT, read_put, pl00, pl11, pl01, pl10, winB, winQ, winV, putB, putQ, putV, putQo, putVo]
      rfl
    · show winT _ _ _ = _
      simp only [View.writes_nil, readAt_winT, readCov_winT, read_put, pl00, pl11, pl01, pl10, winB, winQ, winV, putB, putQ, putV, putQo, putVo]
      rfl
    · show winT _ _ _ = _
      simp only [View.writes_nil, readAt_winT, readCov_winT, read_put, pl00, pl11, pl01, pl10, winB, winQ, winV, putB, putQ, putV, putQo, putVo]
      rfl
    · simp only [View.writes_nil, readAt_winT, readCov_winT, read_put, pl00, pl11, pl01, pl10, winB, winQ, winV, putB, putQ, putV, putQo, putVo]
      rfl
    · simp only [View.writes_nil, readAt_winT, readCov_winT, read_put, pl00, pl11, pl01, pl10, winB, winQ, winV, putB, putQ, putV, putQo, putVo]
      rfl
    · simp only [View.writes_nil, readAt_winT, readCov_winT, read_put, pl00, pl11, pl01, pl10, winB, winQ, winV, putB, putQ, putV, putQo, putVo]
      rfl
  iintro %G %HG ⟨H1, H2, H3, H4, H5, H6, H10, H11, H12, H13, H14, H15, H16, H17⟩
  obtain ⟨g10, g11, g12, g13, g15, g16, g17⟩ := G
  obtain ⟨e10, e11, e12, e13, e15, e16, e17⟩ := HG
  sl_exec_parts
  sl_step
  iexists _
  iexists _
  iexists _
  iexists _
  iexists _
  iexists _
  iexists _
  iexists _
  iexists _
  iexists _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  ipureintro
  dsimp only at e10 e11 e12 e13 e15 e16 e17
  sl_unfold_words
  refine ⟨?_, ?_, ?_⟩
  · rw [show (36 : ℕ) = 2 * 17 + 1 + 1 from rfl, dqF_succ, dqF_succ]
    simp only [View.writes_nil, readAt_winT, readCov_winT, read_put, pl00, pl11, pl01, pl10, winB, winQ, winV, putB, putQ, putV, putQo, putVo, e10, e11, e12, e13, e15, e16, e17, dqS, rj, ri, nI, j34, b34, j35, b35, row6, row7, row61, row70, num61, num70, same7, dis67, dis67v]
    rfl
  · rw [show (36 : ℕ) = 2 * 17 + 1 + 1 from rfl, dkF_succ, dkF_succ]
    simp only [View.writes_nil, readAt_winT, readCov_winT, read_put, pl00, pl11, pl01, pl10, winB, winQ, winV, putB, putQ, putV, putQo, putVo, e10, e11, e12, e13, e15, e16, e17, dkS, rj, ri, nI, j34, b34, j35, b35, row6, row7, row61, row70, num61, num70, same7, dis67, dis67v]
    rfl
  · rw [show (36 : ℕ) = 2 * 17 + 1 + 1 from rfl, dvF_succ, dvF_succ]
    simp only [View.writes_nil, readAt_winT, readCov_winT, read_put, pl00, pl11, pl01, pl10, winB, winQ, winV, putB, putQ, putV, putQo, putVo, e10, e11, e12, e13, e15, e16, e17, dvS, rj, ri, nI, j34, b34, j35, b35, row6, row7, row61, row70, num61, num70, same7, dis67, dis67v]
    rfl

set_option backward.isDefEq.respectTransparency.types false in
set_option maxHeartbeats 4000000 in
/-- The body of the kernel at the first grid point, where the mask is written. -/
theorem kernelRunA (c : Dev nD) (i : grid0.Coords) (arg1 : Memref sig .tc .vmem S1x4096x192 .bf16) (harg1 : arg1.IsWhole) (arg2 : Memref sig .tc .vmem S1x4096x192 .bf16) (harg2 : arg2.IsWhole) (arg3 : Memref sig .tc .vmem S1x4096x128 .bf16) (harg3 : arg3.IsWhole) (arg4 : Memref sig .tc .vmem S4096x128 .f32) (harg4 : arg4.IsWhole) (arg5 : Memref sig .tc .vmem S1x8x1x512 .f32) (harg5 : arg5.IsWhole) (arg6 : Memref sig .tc .vmem S1x8x1x512 .f32) (harg6 : arg6.IsWhole) (arg7 : Memref sig .tc .vmem S1x4096x192 .bf16) (harg7 : arg7.IsWhole) (arg8 : Memref sig .tc .vmem S1x4096x192 .bf16) (harg8 : arg8.IsWhole) (arg9 : Memref sig .tc .vmem S1x4096x128 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S512x512 .f32) (harg14 : arg14.IsWhole) (arg15 : Memref sig .tc .vmem S4096x192 .f32) (harg15 : arg15.IsWhole) (arg16 : Memref sig .tc .vmem S4096x192 .f32) (harg16 : arg16.IsWhole) (arg17 : Memref sig .tc .vmem S4096x128 .f32) (harg17 : arg17.IsWhole) (hc : cond0 i) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (E : Set ℕ) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17) ⊢ wp frame (wpE (defs₀ (F := F)) Variants.none c none) E
          (cc0_attention_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => iprop(∃ g7 : Bf (F := F) c arg7, ∃ g8 : Bf (F := F) c arg8, ∃ g9 : Bf (F := F) c arg9, ∃ g10 : Bf (F := F) c arg10, ∃ g11 : Bf (F := F) c arg11, ∃ g12 : Bf (F := F) c arg12, ∃ g13 : Bf (F := F) c arg13, ∃ g14 : Bf (F := F) c arg14, ∃ g15 : Bf (F := F) c arg15, ∃ g16 : Bf (F := F) c arg16, ∃ g17 : Bf (F := F) c arg17, pt c arg1 f1 ∗ pt c arg2 f2 ∗ pt c arg3 f3 ∗ pt c arg4 f4 ∗ pt c arg5 f5 ∗ pt c arg6 f6 ∗ pt c arg7 g7 ∗ pt c arg8 g8 ∗ pt c arg9 g9 ∗ pt c arg10 g10 ∗ pt c arg11 g11 ∗ pt c arg12 g12 ∗ pt c arg13 g13 ∗ pt c arg14 g14 ∗ pt c arg15 g15 ∗ pt c arg16 g16 ∗ pt c arg17 g17 ∗ ⌜arg7.view.read (Elt F) g7 = k0_pay2 (dqF (arg1.view.read (Elt F) f1) (arg2.view.read (Elt F) f2) (arg3.view.read (Elt F) f3) (arg4.view.read (Elt F) f4) (arg5.view.read (Elt F) f5) (arg6.view.read (Elt F) f6) bias0 pr 36 zeroQ) ∧ arg8.view.read (Elt F) g8 = k0_pay3 (dkF (arg1.view.read (Elt F) f1) (arg2.view.read (Elt F) f2) (arg3.view.read (Elt F) f3) (arg4.view.read (Elt F) f4) (arg5.view.read (Elt F) f5) (arg6.view.read (Elt F) f6) bias0 pr 36 zeroQ) ∧ arg9.view.read (Elt F) g9 = k0_pay4 (dvF (arg1.view.read (Elt F) f1) (arg2.view.read (Elt F) f2) (arg4.view.read (Elt F) f4) (arg5.view.read (Elt F) f5) bias0 pr 36 zeroV) ∧ arg14.view.read (Elt F) g14 = bias0⌝)) := by
  have L := last_ok
  iintro ⟨H1, H2, H3, H4, H5, H6, H7, H8, H9, H10, H11, H12, H13, H14, H15, H16, H17⟩
  sl_unfold [cc0_attention_bwd]
  sl_exec_parts
  generalize hg10 : View.writes arg10.view (Elt F) _ _ = g10
  generalize hg11 : View.writes arg11.view (Elt F) _ _ = g11
  generalize hg12 : View.writes arg12.view (Elt F) _ _ = g12
  generalize hg13 : View.writes arg13.view (Elt F) _ _ = g13
  generalize hg15 : View.writes arg15.view (Elt F) _ _ = g15
  generalize hg16 : View.writes arg16.view (Elt F) _ _ = g16
  generalize hg17 : View.writes arg17.view (Elt F) _ _ = g17
  generalize hg14 : View.writes arg14.view (Elt F) _ _ = g14
  have hb : arg14.view.read (Elt F) g14 = bias0 := by
    subst hg14
    sl_unfold_words
    simp only [View.writes_nil, read_put, putB]
    rfl
  iapply (through_loop_facts c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0#32 1#32 0#32 2#32 0#32 0#32 0#32 1#32 (0#32, 0#32, 0#32, 1#32, 0#32, 2#32) (by decide +kernel) f1 f2 f3 f4 f5 f6 _ zeroQ zeroQ zeroV g10 g11 g12 g13 g15 g16 g17)
  isplitl [H1 H2 H3 H4 H5 H6 H10 H11 H12 H13 H14 H15 H16 H17]
  · isplitl [H1]; · iexact H1
    isplitl [H2]; · iexact H2
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitr
  · ipureintro
    unfold Facts
    dsimp only
    subst hg10 hg11 hg12 hg13 hg15 hg16 hg17 hg14
    sl_unfold_words
    refine ⟨?_, ?_, ?_, ?_, ?_, ?_, ?_⟩
    · show winT _ _ _ = _
      simp only [View.writes_nil, readAt_winT, readCov_winT, read_put, pl00, pl11, pl01, pl10, winB, winQ, winV, putB, putQ, putV, putQo, putVo]
      rfl
    · show winT _ _ _ = _
      simp only [View.writes_nil, readAt_winT, readCov_winT, read_put, pl00, pl11, pl01, pl10, winB, winQ, winV, putB, putQ, putV, putQo, putVo]
      rfl
    · show winT _ _ _ = _
      simp only [View.writes_nil, readAt_winT, readCov_winT, read_put, pl00, pl11, pl01, pl10, winB, winQ, winV, putB, putQ, putV, putQo, putVo]
      rfl
    · show winT _ _ _ = _
      simp only [View.writes_nil, readAt_winT, readCov_winT, read_put, pl00, pl11, pl01, pl10, winB, winQ, winV, putB, putQ, putV, putQo, putVo]
      rfl
    · simp only [View.writes_nil, readAt_winT, readCov_winT, read_put, pl00, pl11, pl01, pl10, winB, winQ, winV, putB, putQ, putV, putQo, putVo]
      rfl
    · simp only [View.writes_nil, readAt_winT, readCov_winT, read_put, pl00, pl11, pl01, pl10, winB, winQ, winV, putB, putQ, putV, putQo, putVo]
      rfl
    · simp only [View.writes_nil, readAt_winT, readCov_winT, read_put, pl00, pl11, pl01, pl10, winB, winQ, winV, putB, putQ, putV, putQo, putVo]
      rfl
  iintro %G %HG ⟨H1, H2, H3, H4, H5, H6, H10, H11, H12, H13, H14, H15, H16, H17⟩
  obtain ⟨g10, g11, g12, g13, g15, g16, g17⟩ := G
  obtain ⟨e10, e11, e12, e13, e15, e16, e17⟩ := HG
  sl_exec_parts
  sl_step
  iexists _
  iexists _
  iexists _
  iexists _
  iexists _
  iexists _
  iexists _
  iexists _
  iexists _
  iexists _
  iexists _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  ipureintro
  dsimp only at e10 e11 e12 e13 e15 e16 e17
  rw [hb] at e12 e13 e15 e16 e17
  sl_unfold_words
  refine ⟨?_, ?_, ?_, ?_⟩
  · rw [show (36 : ℕ) = 2 * 17 + 1 + 1 from rfl, dqF_succ, dqF_succ]
    simp only [View.writes_nil, readAt_winT, readCov_winT, read_put, pl00, pl11, pl01, pl10, winB, winQ, winV, putB, putQ, putV, putQo, putVo, e10, e11, e12, e13, e15, e16, e17, dqS, rj, ri, nI, j34, b34, j35, b35, row6, row7, row61, row70, num61, num70, same7, dis67, dis67v, hb]
    rfl
  · rw [show (36 : ℕ) = 2 * 17 + 1 + 1 from rfl, dkF_succ, dkF_succ]
    simp only [View.writes_nil, readAt_winT, readCov_winT, read_put, pl00, pl11, pl01, pl10, winB, winQ, winV, putB, putQ, putV, putQo, putVo, e10, e11, e12, e13, e15, e16, e17, dkS, rj, ri, nI, j34, b34, j35, b35, row6, row7, row61, row70, num61, num70, same7, dis67, dis67v, hb]
    rfl
  · rw [show (36 : ℕ) = 2 * 17 + 1 + 1 from rfl, dvF_succ, dvF_succ]
    simp only [View.writes_nil, readAt_winT, readCov_winT, read_put, pl00, pl11, pl01, pl10, winB, winQ, winV, putB, putQ, putV, putQo, putVo, e10, e11, e12, e13, e15, e16, e17, dvS, rj, ri, nI, j34, b34, j35, b35, row6, row7, row61, row70, num61, num70, same7, dis67, dis67v, hb]
    rfl
  · exact hb

end Cert.AttnBwdIdeal.Hand

end
-- ==== Proof.AttnRun.lean ====
module

public import proofs.«01_k».proof.Proof.Gen.AttnBwdIdeal.Skeleton
public import proofs.«01_k».proof.Proof.Gen.AttnBwdIdeal.Loops
public import proofs.«01_k».proof.Proof.Gen.AttnBwdIdeal.Frame
public import Idealize.ShloMosaic.Lib.Tactic
public import proofs.«01_k».proof.Proof.AttnBody

@[expose] public section

set_option maxRecDepth 16384

noncomputable section

namespace Cert.AttnBwdIdeal.Hand

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf ΦA)

variable {F : FTy → Type} [FloatOps F] [Named F]

local notation "𝕄" => MT nD τ sig Unit (Elt F) ℕ (UR sig nD τ) ℕ

/-- A whole memref is owned at `x` when its buffer is held at contents that read as `x`. -/
theorem owns_pt (c : Dev nD) {sp : Space} {S : Shape} {e : EltTy} (M : Memref sig .tc sp S e) (h : M.IsWhole) (x : Vec F S e) :
    (owns (c : Thread nD τ) M fullShare x : sProp 𝕄) = iprop(∃ f : Bf (F := F) c M, ⌜M.view.read (Elt F) f = x⌝ ∗ pt c M f) := by
  unfold owns; rw [h.set_eq_univ]

set_option maxHeartbeats 4000000 in
/-- The body at a grid point: from the operands' blocks, and the mask in its scratch unless the point is the first, to the
    three gradients and the mask. -/
theorem kernelPoint (c : Dev nD) (i : grid0.Coords) (arg1 : Memref sig .tc .vmem S1x4096x192 .bf16) (harg1 : arg1.IsWhole) (arg2 : Memref sig .tc .vmem S1x4096x192 .bf16) (harg2 : arg2.IsWhole) (arg3 : Memref sig .tc .vmem S1x4096x128 .bf16) (harg3 : arg3.IsWhole) (arg4 : Memref sig .tc .vmem S4096x128 .f32) (harg4 : arg4.IsWhole) (arg5 : Memref sig .tc .vmem S1x8x1x512 .f32) (harg5 : arg5.IsWhole) (arg6 : Memref sig .tc .vmem S1x8x1x512 .f32) (harg6 : arg6.IsWhole) (arg7 : Memref sig .tc .vmem S1x4096x192 .bf16) (harg7 : arg7.IsWhole) (arg8 : Memref sig .tc .vmem S1x4096x192 .bf16) (harg8 : arg8.IsWhole) (arg9 : Memref sig .tc .vmem S1x4096x128 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .bf16) (harg12 : arg12.IsWhole) (arg13 : Memref sig .tc .vmem S2x512x512 .bf16) (harg13 : arg13.IsWhole) (arg14 : Memref sig .tc .vmem S512x512 .f32) (harg14 : arg14.IsWhole) (arg15 : Memref sig .tc .vmem S4096x192 .f32) (harg15 : arg15.IsWhole) (arg16 : Memref sig .tc .vmem S4096x192 .f32) (harg16 : arg16.IsWhole) (arg17 : Memref sig .tc .vmem S4096x128 .f32) (harg17 : arg17.IsWhole) (x1 : Vec F S1x4096x192 .bf16) (x2 : Vec F S1x4096x192 .bf16) (x3 : Vec F S1x4096x128 .bf16) (x4 : Vec F S4096x128 .f32) (x5 : Vec F S1x8x1x512 .f32) (x6 : Vec F S1x8x1x512 .f32) (E : Set ℕ) (K : PUnit → sProp 𝕄) :
    iprop(owns (c : Thread nD τ) arg1 fullShare (x1) ∗ owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ (∃ d, owns (c : Thread nD τ) arg7 fullShare (d)) ∗ (∃ d, owns (c : Thread nD τ) arg8 fullShare (d)) ∗ (∃ d, owns (c : Thread nD τ) arg9 fullShare (d)) ∗ (∃ f : Bf (F := F) c arg10, pt c arg10 f) ∗ (∃ f : Bf (F := F) c arg11, pt c arg11 f) ∗ (∃ f : Bf (F := F) c arg12, pt c arg12 f) ∗ (∃ f : Bf (F := F) c arg13, pt c arg13 f) ∗ (∃ f : Bf (F := F) c arg14, ⌜¬cond0 i → arg14.view.read (Elt F) f = bias0⌝ ∗ pt c arg14 f) ∗ (∃ f : Bf (F := F) c arg15, pt c arg15 f) ∗ (∃ f : Bf (F := F) c arg16, pt c arg16 f) ∗ (∃ f : Bf (F := F) c arg17, pt c arg17 f) ∗ (iprop(owns (c : Thread nD τ) arg1 fullShare (x1) ∗ owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (k0_pay2 (dqF x1 x2 x3 x4 x5 x6 bias0 pr 36 zeroQ)) ∗ owns (c : Thread nD τ) arg8 fullShare (k0_pay3 (dkF x1 x2 x3 x4 x5 x6 bias0 pr 36 zeroQ)) ∗ owns (c : Thread nD τ) arg9 fullShare (k0_pay4 (dvF x1 x2 x4 x5 bias0 pr 36 zeroV)) ∗ (∃ f : Bf (F := F) c arg10, pt c arg10 f) ∗ (∃ f : Bf (F := F) c arg11, pt c arg11 f) ∗ (∃ f : Bf (F := F) c arg12, pt c arg12 f) ∗ (∃ f : Bf (F := F) c arg13, pt c arg13 f) ∗ (∃ f : Bf (F := F) c arg14, ⌜arg14.view.read (Elt F) f = bias0⌝ ∗ pt c arg14 f) ∗ (∃ f : Bf (F := F) c arg15, pt c arg15 f) ∗ (∃ f : Bf (F := F) c arg16, pt c arg16 f) ∗ (∃ f : Bf (F := F) c arg17, pt c arg17 f)) -∗ K ⟨⟩))
      ⊢ wp frame (wpE (defs₀ (F := F)) Variants.none c none) E (cc0_attention_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [owns_pt c arg1 harg1, owns_pt c arg2 harg2, owns_pt c arg3 harg3, owns_pt c arg4 harg4, owns_pt c arg5 harg5, owns_pt c arg6 harg6]
  simp only [owns_pt c arg7 harg7, owns_pt c arg8 harg8, owns_pt c arg9 harg9]
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%f10, H10⟩, ⟨%f11, H11⟩, ⟨%f12, H12⟩, ⟨%f13, H13⟩, ⟨%f14, %h14, H14⟩, ⟨%f15, H15⟩, ⟨%f16, H16⟩, ⟨%f17, H17⟩, Hk⟩
  subst h1 h2 h3 h4 h5 h6
  by_cases hc : cond0 i
  ·
    iapply (wp_wand_r (wpE := wpE (defs₀ (F := F)) Variants.none (c : Thread nD τ) none))
    isplitl [H1 H2 H3 H4 H5 H6 H7 H8 H9 H10 H11 H12 H13 H14 H15 H16 H17]
    · iapply (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f2 f3 f4 f5 f6 f7 f8 f9 f10 f11 f12 f13 f14 f15 f16 f17 E)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    iintro %_ ⟨%g7, %g8, %g9, %g10, %g11, %g12, %g13, %g14, %g15, %g16, %g17, H1, H2, H3, H4, H5, H6, H7, H8, H9, H10, H11, H12, H13, H14, H15, H16, H17, %hr⟩
    obtain ⟨e7, e8, e9, e14⟩ := hr
    iapply Hk
    isplitl [H1]
    · iexists f1
      isplitr
      · ipureintro; rfl
      · iexact H1
    isplitl [H2]
    · iexists f2
      isplitr
      · ipureintro; rfl
      · iexact H2
    isplitl [H3]
    · iexists f3
      isplitr
      · ipureintro; rfl
      · iexact H3
    isplitl [H4]
    · iexists f4
      isplitr
      · ipureintro; rfl
      · iexact H4
    isplitl [H5]
    · iexists f5
      isplitr
      · ipureintro; rfl
      · iexact H5
    isplitl [H6]
    · iexists f6
      isplitr
      · ipureintro; rfl
      · iexact H6
    isplitl [H7]
    · iexists g7
      isplitr
      · ipureintro; exact e7
      · iexact H7
    isplitl [H8]
    · iexists g8
      isplitr
      · ipureintro; exact e8
      · iexact H8
    isplitl [H9]
    · iexists g9
      isplitr
      · ipureintro; exact e9
      · iexact H9
    isplitl [H10]; · iexists g10; iexact H10
    isplitl [H11]; · iexists g11; iexact H11
    isplitl [H12]; · iexists g12; iexact H12
    isplitl [H13]; · iexists g13; iexact H13
    isplitl [H14]
    · iexists g14
      isplitr
      · ipureintro; exact e14
      · iexact H14
    isplitl [H15]; · iexists g15; iexact H15
    isplitl [H16]; · iexists g16; iexact H16
    iexists g17; iexact H17
  ·
    iapply (wp_wand_r (wpE := wpE (defs₀ (F := F)) Variants.none (c : Thread nD τ) none))
    isplitl [H1 H2 H3 H4 H5 H6 H7 H8 H9 H10 H11 H12 H13 H14 H15 H16 H17]
    · iapply (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f1 f2 f3 f4 f5 f6 f7 f8 f9 f10 f11 f12 f13 f14 f15 f16 f17 E)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    iintro %_ ⟨%g7, %g8, %g9, %g10, %g11, %g12, %g13, %g15, %g16, %g17, H1, H2, H3, H4, H5, H6, H7, H8, H9, H10, H11, H12, H13, H14, H15, H16, H17, %hr⟩
    obtain ⟨e7, e8, e9⟩ := hr
    have e14 := h14 hc
    rw [e14] at e7 e8 e9
    iapply Hk
    isplitl [H1]
    · iexists f1
      isplitr
      · ipureintro; rfl
      · iexact H1
    isplitl [H2]
    · iexists f2
      isplitr
      · ipureintro; rfl
      · iexact H2
    isplitl [H3]
    · iexists f3
      isplitr
      · ipureintro; rfl
      · iexact H3
    isplitl [H4]
    · iexists f4
      isplitr
      · ipureintro; rfl
      · iexact H4
    isplitl [H5]
    · iexists f5
      isplitr
      · ipureintro; rfl
      · iexact H5
    isplitl [H6]
    · iexists f6
      isplitr
      · ipureintro; rfl
      · iexact H6
    isplitl [H7]
    · iexists g7
      isplitr
      · ipureintro; exact e7
      · iexact H7
    isplitl [H8]
    · iexists g8
      isplitr
      · ipureintro; exact e8
      · iexact H8
    isplitl [H9]
    · iexists g9
      isplitr
      · ipureintro; exact e9
      · iexact H9
    isplitl [H10]; · iexists g10; iexact H10
    isplitl [H11]; · iexists g11; iexact H11
    isplitl [H12]; · iexists g12; iexact H12
    isplitl [H13]; · iexists g13; iexact H13
    isplitl [H14]
    · iexists f14
      isplitr
      · ipureintro; exact e14
      · iexact H14
    isplitl [H15]; · iexists g15; iexact H15
    isplitl [H16]; · iexists g16; iexact H16
    iexists g17; iexact H17

variable (m : (ℓ : Loc nD τ sig) → Buf (Elt F) ℓ) (ρ : Dev nD → PrngReg)

abbrev 𝒱₀ : Variants := Variants.none

/-- The three gradients of the head at grid point `t`, from the blocks of that head. -/
def dqAt (c : Dev nD) (t : Fin cfg0.N) : Vec F S1x4096x192 .bf16 := k0_pay2 (dqF (iblk m c 0 t) (iblk m c 1 t) (iblk m c 2 t) (iblk m c 3 t) (iblk m c 4 t) (iblk m c 5 t) bias0 pr 36 zeroQ)
def dkAt (c : Dev nD) (t : Fin cfg0.N) : Vec F S1x4096x192 .bf16 := k0_pay3 (dkF (iblk m c 0 t) (iblk m c 1 t) (iblk m c 2 t) (iblk m c 3 t) (iblk m c 4 t) (iblk m c 5 t) bias0 pr 36 zeroQ)
def dvAt (c : Dev nD) (t : Fin cfg0.N) : Vec F S1x4096x128 .bf16 := k0_pay4 (dvF (iblk m c 0 t) (iblk m c 1 t) (iblk m c 3 t) (iblk m c 4 t) bias0 pr 36 zeroV)

/-- Between grid points: the scratch at any contents, but for the mask, which is in place once a point has run. -/
def inv (c : Dev nD) (t : ℕ) : sProp 𝕄 := iprop(((∃ f : Bf (F := F) c (Memref.whole cc0_scratch0), pt c (Memref.whole cc0_scratch0) f) ∗ (∃ f : Bf (F := F) c (Memref.whole cc0_scratch1), pt c (Memref.whole cc0_scratch1) f) ∗ (∃ f : Bf (F := F) c (Memref.whole cc0_scratch2), pt c (Memref.whole cc0_scratch2) f) ∗ (∃ f : Bf (F := F) c (Memref.whole cc0_scratch3), pt c (Memref.whole cc0_scratch3) f) ∗ (∃ f : Bf (F := F) c (Memref.whole cc0_scratch4), ⌜0 < t → (Memref.whole cc0_scratch4).view.read (Elt F) f = bias0⌝ ∗ pt c (Memref.whole cc0_scratch4) f) ∗ (∃ f : Bf (F := F) c (Memref.whole cc0_scratch5), pt c (Memref.whole cc0_scratch5) f) ∗ (∃ f : Bf (F := F) c (Memref.whole cc0_scratch6), pt c (Memref.whole cc0_scratch6) f) ∗ (∃ f : Bf (F := F) c (Memref.whole cc0_scratch7), pt c (Memref.whole cc0_scratch7) f)) ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => dkAt m c t
    | ⟨8, _⟩ => dvAt m c t
  Φ t := inv c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t := by dsimp only [dats]
theorem after0_7 (c : Dev nD) (t : Fin cfg0.N) : (dats m 0 c).after 7 t = dkAt m c t := by dsimp only [dats]
theorem after0_8 (c : Dev nD) (t : Fin cfg0.N) : (dats m 0 c).after 8 t = dvAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The first grid point takes the branch that makes the mask. -/
theorem first_cond (t : Fin cfg0.N) (h : ¬ 0 < t.val) : cond0 (grid0.coords t) := by
  have e : t = t0_0 := Fin.ext (by have : t.val = 0 := by omega
                                   rw [this]; rfl)
  subst e
  decide +kernel

set_option maxHeartbeats 4000000 in
/-- The body obligation of the pipeline. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.castSucc = inv c t.val from rfl, show (dats m 0 c).Φ t.succ = inv c (t.val + 1) from rfl,
    show (dats m 0 c).owesAt () t.succ = (dats m 0 c).owesAt () t.castSucc from rfl, after0_0, after0_1, after0_2, after0_3, after0_4, after0_5, after0_6, after0_7, after0_8]
  unfold inv dqAt dkAt dvAt
  iintro ⟨⟨⟨S0, S1, S2, S3, ⟨%f4, %h4, S4⟩, S5, S6, S7⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelPoint c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  isplitl [S4]
  · iexists f4
    isplitr
    · ipureintro; exact fun hc => h4 (by by_contra hn; exact hc (first_cond t hn))
    · iexact S4
  isplitl [S5]; · iexact S5
  isplitl [S6]; · iexact S6
  isplitl [S7]; · iexact S7
  iintro ⟨H0, H1, H2, H3, H4, H5, H6, H7, H8, S0, S1, S2, S3, ⟨%f4', %h4', S4⟩, S5, S6, S7⟩
  isplitl [S0 S1 S2 S3 S4 S5 S6 S7 Hp]
  · isplitr [Hp]
    · isplitl [S0]; · iexact S0
      isplitl [S1]; · iexact S1
      isplitl [S2]; · iexact S2
      isplitl [S3]; · iexact S3
      isplitl [S4]
      · iexists f4'
        isplitr
        · ipureintro; exact fun _ => h4'
        · iexact S4
      isplitl [S5]; · iexact S5
      isplitl [S6]; · iexact S6
      iexact S7
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 8000000 in
/-- Before the first point the scratch may hold anything; after the last it is given back. -/
theorem inv_in (c : Dev nD) : (Pipeline.ΦA spec0 c : sProp 𝕄) ⊢ inv (F := F) c 0 := by
  unfold Pipeline.ΦA inv
  rw [scopedRest0_eq]
  iintro ⟨⟨S0, S1, S2, S3, ⟨%f4, S4⟩, S5, S6, S7⟩, Hp⟩
  isplitr [Hp]
  · isplitl [S0]; · iexact S0
    isplitl [S1]; · iexact S1
    isplitl [S2]; · iexact S2
    isplitl [S3]; · iexact S3
    isplitl [S4]
    · iexists f4
      isplitr
      · ipureintro; exact fun h => absurd h (Nat.lt_irrefl 0)
      · iexact S4
    isplitl [S5]; · iexact S5
    isplitl [S6]; · iexact S6
    iexact S7
  iexact Hp
set_option maxHeartbeats 8000000 in
theorem inv_out (c : Dev nD) (t : ℕ) : inv (F := F) c t ⊢ (Pipeline.ΦA spec0 c : sProp 𝕄) := by
  unfold Pipeline.ΦA inv
  rw [scopedRest0_eq]
  iintro ⟨⟨S0, S1, S2, S3, ⟨%f4, -, S4⟩, S5, S6, S7⟩, Hp⟩
  isplitr [Hp]
  · isplitl [S0]; · iexact S0
    isplitl [S1]; · iexact S1
    isplitl [S2]; · iexact S2
    isplitl [S3]; · iexact S3
    isplitl [S4]; · iexists f4; iexact S4
    isplitl [S5]; · iexact S5
    isplitl [S6]; · iexact S6
    iexact S7
  iexact Hp

set_option backward.isDefEq.respectTransparency.types false in
/-- Every run of the program ends, with every array at what the pipeline leaves in it and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => inv_in c) (hout := fun c => inv_out c _)

end Cert.AttnBwdIdeal.Hand

end
-- ==== Proof.AttnFrames.lean ====
module

public import proofs.«01_k».proof.Defs
public import proofs.«01_k».proof.Proof.BitsRun
public import proofs.«01_k».proof.Proof.AttnRun

@[expose] public section

set_option maxRecDepth 16384

noncomputable section

namespace Cert.AttnBwd.Hand

open Idealize.ShloMosaic Idealize.ShloMosaic.TcCoe Idealize.SL.Sem
open Cert.AttnBwd.Gen

theorem frame_bits (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main (F := Bits) m ρ)

end Cert.AttnBwd.Hand

namespace Cert.AttnBwdIdeal.Hand

open Idealize.ShloMosaic Idealize.ShloMosaic.TcCoe Idealize.SL.Sem
open Cert.AttnBwdIdeal.Gen

theorem frame_ideal (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main (F := Ideal) m ρ)

theorem frame_words : Cert.quiescent_AttnBwd (hAttnBwd := Cert.AttnBwd.Gen.facts) := fun m ρ _ => Cert.AttnBwd.Hand.frame_bits m ρ

theorem frame_idealized : Cert.quiescent_AttnBwdIdeal (hAttnBwdIdeal := Cert.AttnBwdIdeal.Gen.facts) := fun m ρ _ => frame_ideal m ρ

end Cert.AttnBwdIdeal.Hand

end
-- ==== Proof.AttnMath.lean ====
/- The gradient of one head of chunk-masked softmax attention over the reals, with no program in sight: the weights, their
   gradient in the two forms the two programs compute, and sums over blocks of rows. -/
module

public import Mathlib.Analysis.SpecialFunctions.Pow.Real
public import Mathlib.Analysis.SpecialFunctions.Log.Basic
public import Mathlib.Data.EReal.Operations
public import Mathlib.Algebra.BigOperators.Fin

@[expose] public section

noncomputable section

namespace Cert.AttnMath

/-- A real sum read as an extended real is the sum of the terms read so. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Head

variable (q k : Fin 4096 → Fin 192 → ℝ) (v d : Fin 4096 → Fin 128 → ℝ) (c : ℝ) (mx : Fin 4096 → ℝ)

/-- The score of query row `i` with key row `j`. -/
def sc (i j : Fin 4096) : ℝ := (∑ e, q i e * k j e) * c
/-- The exponential of the score less the row's `mx`, zero where the key's chunk of 64 rows comes after the query's. -/
def ex (i j : Fin 4096) : ℝ := if j.val / 64 ≤ i.val / 64 then Real.exp (sc q k c i j - mx i) else 0
/-- A row's sum of exponentials. -/
def tot (i : Fin 4096) : ℝ := ∑ j, ex q k c mx i j
/-- The attention weights. -/
def wt (i j : Fin 4096) : ℝ := ex q k c mx i j / tot q k c mx i
/-- The products of the incoming gradient's rows with the values' rows. -/
def dp (i j : Fin 4096) : ℝ := ∑ e, d i e * v j e
/-- A row's weighted sum of those products. -/
def del (i : Fin 4096) : ℝ := ∑ j, wt q k c mx i j * dp v d i j
/-- The gradient of the scores, before the scale is taken out of them. -/
def ds (i j : Fin 4096) : ℝ := wt q k c mx i j * (dp v d i j - del q k v d c mx i) * c

theorem ex_nonneg (i j : Fin 4096) : 0 ≤ ex q k c mx i j := by
  unfold ex; split
  · exact (Real.exp_pos _).le
  · exact le_refl 0

theorem tot_pos (i : Fin 4096) : 0 < tot q k c mx i := by
  refine Finset.sum_pos' (fun j _ => ex_nonneg q k c mx i j) ⟨i, Finset.mem_univ i, ?_⟩
  unfold ex; rw [if_pos (le_refl _)]; exact Real.exp_pos _

/-- Where the key is seen, the weight is the exponential of the score less the row's log-sum. -/
theorem exp_sub_lse (i j : Fin 4096) (h : j.val / 64 ≤ i.val / 64) :
    Real.exp (sc q k c i j - (mx i + Real.log (tot q k c mx i))) = wt q k c mx i j := by
  unfold wt ex
  rw [if_pos h, show sc q k c i j - (mx i + Real.log (tot q k c mx i)) = (sc q k c i j - mx i) - Real.log (tot q k c mx i) by ring,
    Real.exp_sub, Real.exp_log (tot_pos q k c mx i)]

theorem wt_masked (i j : Fin 4096) (h : ¬j.val / 64 ≤ i.val / 64) : wt q k c mx i j = 0 := by
  unfold wt ex; rw [if_neg h, zero_div]

theorem ds_masked (i j : Fin 4096) (h : ¬j.val / 64 ≤ i.val / 64) : ds q k v d c mx i j = 0 := by
  unfold ds; rw [wt_masked q k c mx i j h, zero_mul, zero_mul]

/-- The weighted sum of the products is the incoming gradient's row times the output's row. -/
theorem del_eq (i : Fin 4096) : (∑ e, d i e * ∑ j, wt q k c mx i j * v j e) = del q k v d c mx i := by
  unfold del dp
  simp only [Finset.mul_sum]
  rw [Finset.sum_comm]
  exact Finset.sum_congr rfl fun j _ => Finset.sum_congr rfl fun e _ => by ring

/-- The scores' gradient as the chain rule through the quotient writes it. -/
theorem ds_chain (i j : Fin 4096) :
    (dp v d i j * (1 / tot q k c mx i) + -∑ j', dp v d i j' * (1 * (1 / (tot q k c mx i * tot q k c mx i))) * ex q k c mx i j') * ex q k c mx i j * c
      = ds q k v d c mx i j := by
  have ht := (tot_pos q k c mx i).ne'
  have e : (∑ j', dp v d i j' * (1 * (1 / (tot q k c mx i * tot q k c mx i))) * ex q k c mx i j') = del q k v d c mx i * (1 / tot q k c mx i) := by
    unfold del
    rw [Finset.sum_mul]
    refine Finset.sum_congr rfl fun j' _ => ?_
    unfold wt
    field_simp
  rw [e]
  unfold ds wt
  field_simp
  ring

/-- A power of two, its exponent turned from natural units. -/
theorem two_rpow (x : ℝ) : Real.rpow 2 (x * (Real.log 2)⁻¹) = Real.exp x := by
  have h : Real.log 2 ≠ 0 := (Real.log_pos (by norm_num)).ne'
  show (2 : ℝ) ^ (x * (Real.log 2)⁻¹) = Real.exp x
  rw [Real.rpow_def_of_pos (by norm_num)]
  congr 1
  field_simp

end Head

/-! ## Sums over blocks -/

/-- Row `r` of block `J`. -/
def row (J : Fin 8) (r : Fin 512) : Fin 4096 := ⟨512 * J.val + r.val, by omega⟩
/-- The block of a row, and the row's place in it. -/
def blk (i : Fin 4096) : Fin 8 := ⟨i.val / 512, by omega⟩
def off (i : Fin 4096) : Fin 512 := ⟨i.val % 512, by omega⟩

theorem row_blk_off (i : Fin 4096) : row (blk i) (off i) = i := by
  apply Fin.ext; show 512 * (i.val / 512) + i.val % 512 = i.val; omega
theorem blk_row (J : Fin 8) (r : Fin 512) : blk (row J r) = J := by
  apply Fin.ext; show (512 * J.val + r.val) / 512 = J.val; omega
theorem off_row (J : Fin 8) (r : Fin 512) : off (row J r) = r := by
  apply Fin.ext; show (512 * J.val + r.val) % 512 = r.val; omega

/-- A sum over the rows is a sum over the blocks of the sums over their rows. -/
theorem sum_rows (f : Fin 4096 → ℝ) : ∑ J : Fin 8, ∑ r : Fin 512, f (row J r) = ∑ i, f i := by
  rw [← Finset.sum_product' (s := Finset.univ) (t := Finset.univ) (f := fun J r => f (row J r))]
  refine Finset.sum_bij' (fun x _ => row x.1 x.2) (fun i _ => (blk i, off i)) ?_ ?_ ?_ ?_ ?_
  · intros; exact Finset.mem_univ _
  · intros; simp
  · rintro ⟨J, r⟩ _; simp only [blk_row, off_row]
  · intro i _; exact row_blk_off i
  · intros; rfl

/-- Of a walk over pairs of blocks: the sum, over the steps at one block on one side, of a function of the block on the other,
    when each block of the other side up to a bound (`P`) is met once there and no other. -/
theorem sum_walk {N : ℕ} (a b : Fin N → Fin 8) (P : Fin 8 → Fin 8 → Prop) [∀ R J, Decidable (P R J)]
    (h : ∀ R J, (Finset.univ.filter fun n => a n = R ∧ b n = J).card = if P R J then 1 else 0) (R : Fin 8) (G : Fin 8 → ℝ) :
    (∑ n, if a n = R then G (b n) else 0) = ∑ J, if P R J then G J else 0 := by
  have e : ∀ n, (if a n = R then G (b n) else 0) = ∑ J, if a n = R ∧ b n = J then G J else 0 := by
    intro n
    by_cases ha : a n = R
    · simp [ha]
    · simp [ha]
  rw [Finset.sum_congr rfl fun n _ => e n, Finset.sum_comm]
  refine Finset.sum_congr rfl fun J _ => ?_
  rw [← Finset.sum_filter, Finset.sum_const, h R J]
  split <;> simp

/-- The walk's sum of block sums is the sum over all rows, when the rows of the blocks it leaves out count nothing. -/
theorem sum_walk_rows {N : ℕ} (a b : Fin N → Fin 8) (P : Fin 8 → Fin 8 → Prop) [∀ R J, Decidable (P R J)]
    (h : ∀ R J, (Finset.univ.filter fun n => a n = R ∧ b n = J).card = if P R J then 1 else 0) (R : Fin 8) (f : Fin 4096 → ℝ)
    (hf : ∀ i, ¬P R (blk i) → f i = 0) :
    (∑ n, if a n = R then ∑ r, f (row (b n) r) else 0) = ∑ i, f i := by
  rw [sum_walk a b P h R fun J => ∑ r, f (row J r), ← sum_rows f]
  refine Finset.sum_congr rfl fun J _ => ?_
  by_cases hp : P R J
  · rw [if_pos hp]
  · rw [if_neg hp]
    exact (Finset.sum_eq_zero fun r _ => hf _ (by rw [blk_row]; exact hp)).symm

end Cert.AttnMath

end
-- ==== Proof.AttnRef.lean ====
/- The value of the attention reference over the extended reals: at arguments that are real numbers, each of its three results
   is the head's gradient as `AttnMath` writes it. -/
module

public import proofs.«01_k».proof.Proof.AttnMath
public import proofs.«01_k».proof.Proof.Gen.AttnRefIdeal.Read
public import Idealize.ShloMosaic.Lib.Pointwise

@[expose] public section

set_option maxRecDepth 16384

noncomputable section

namespace Cert.AttnRefIdeal.Hand

open Cert.AttnRefIdeal Cert.AttnRefIdeal.Gen Cert.AttnRefIdeal.Read Cert.AttnMath
open Idealize.ShloMosaic Idealize.ShloMosaic.TcCoe

/-- Column `e` of head `h`. -/
def hcol (h : Fin 8) (e : Fin 128) : Fin 1024 := ⟨h.val * 128 + e.val, by omega⟩

/-- The scale. -/
abbrev cR : ℝ := (Real.sqrt 192)⁻¹

theorem bits_192 : Ideal.ofBits .f32 0x43400000#32 = ((192 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_ninf : Ideal.ofBits .f32 0xFF800000#32 = (⊥ : EReal) := by
  simp [Ideal.ofBits, Ideal.ieee]

/-! ## The mask -/

/-- A row's chunk of 64 rows, as the host works it out in words. -/
def chunkH (x : BitVec 32) : BitVec 32 :=
  Scalar.select
    (IntOp.andi (IntOp.cmpi CmpIPredicate.ne (if x = 0 then (0 : BitVec 32) else if x.msb = true then -1 else 1) (if (64#32 : BitVec 32) = 0 then (0 : BitVec 32) else if BitVec.msb (64#32 : BitVec 32) = true then -1 else 1))
      (IntOp.cmpi CmpIPredicate.ne (IntOp.remsi ArithUnit.host x 64#32) 0#32))
    (IntOp.subi (IntOp.divsi ArithUnit.host x 64#32) 1#32) (IntOp.divsi ArithUnit.host x 64#32)

set_option maxRecDepth 1000000 in
theorem chunkH_eq : ∀ i : Fin 4096, chunkH (BitVec.ofNat 32 i.val) = BitVec.ofNat 32 (i.val / 64) := by decide +kernel

theorem sle_small : ∀ a b : Fin 64, IntOp.cmpi .sle (BitVec.ofNat 32 a.val) (BitVec.ofNat 32 b.val) = if a.val ≤ b.val then 1#1 else 0#1 := by decide +kernel

theorem v9_at (i : Fin 4096) : (val_main_v9 (F := Ideal)) (ix1 i) = BitVec.ofNat 32 (i.val / 64) := by
  unfold val_main_v9 val_main_call0_v11 val_main_call0_v13 val_main_call0_v2 val_main_call0_v6 val_main_call0_v10 val_main_call0_v3 val_main_call0_v5 val_main_call0_v8 val_main_call0_v9 val_main_call0_v12 val_main_call0_v1 val_main_call0_v4 val_main_call0_v7 val_main_call0_v0 val_main_call0_c val_main_call0_c_0 val_main_c val_main_v8
  pointwise
  exact chunkH_eq i

theorem v4_at (i : S_.Idx) : (val_main_v4 (F := Ideal)) i = (cR : EReal) := by
  unfold val_main_v4 val_main_cst_0 val_main_v3 val_main_cst
  pointwise
  rw [bits_192, ← EReal.coe_one, Ideal.sqrt_coe, if_neg (by norm_num), Ideal.div_coe (by positivity), ← EReal.coe_mul]
  norm_num

section Args

variable (x0 x1 : Vec Ideal S8x4096x192 .bf16) (x2 : Vec Ideal S8x4096x128 .bf16) (x3 : Vec Ideal S4096x1024 .f32)
  (q k : Fin 8 → Fin 4096 → Fin 192 → ℝ) (v d : Fin 8 → Fin 4096 → Fin 128 → ℝ)

/-- A row's largest score. -/
def mxR (h : Fin 8) (i : Fin 4096) : ℝ := (val_main_v17 (F := Ideal) x0 x1 (ix2 h i) : EReal).toReal

/-- The arguments are the reals `q`, `k`, `v`, `d`. -/
structure Args : Prop where
  hq : ∀ h r e, x0 (ix3 h r e) = (q h r e : EReal)
  hk : ∀ h r e, x1 (ix3 h r e) = (k h r e : EReal)
  hv : ∀ h r e, x2 (ix3 h r e) = (v h r e : EReal)
  hd : ∀ h r e, x3 (ix2 r (hcol h e)) = (d h r e : EReal)

theorem mask_at (h : Fin 8) (i j : Fin 4096) : (val_main_v16_1 (F := Ideal)) (ix3 h i j) = if j.val / 64 ≤ i.val / 64 then 1#1 else 0#1 := by
  have e : (val_main_v16_1 (F := Ideal)) (ix3 h i j) = IntOp.cmpi .sle ((val_main_v9 (F := Ideal)) (ix1 j)) ((val_main_v9 (F := Ideal)) (ix1 i)) := by
    unfold val_main_v16_1 val_main_v15 val_main_v14 val_main_v12 val_main_v13 val_main_v10 val_main_v11
    generalize val_main_v9 (F := Ideal) = y
    pointwise
  rw [e, v9_at, v9_at]
  exact sle_small ⟨j.val / 64, by omega⟩ ⟨i.val / 64, by omega⟩

variable {x0 x1 x2 x3 q k v d} (H : Args x0 x1 x2 x3 q k v d)
include H

theorem v7_at (h : Fin 8) (i j : Fin 4096) : val_main_v7 (F := Ideal) x0 x1 (ix3 h i j) = (sc (q h) (k h) cR i j : EReal) := by
  have e : val_main_v7 (F := Ideal) x0 x1 (ix3 h i j) = (∑ e : Fin 192, x0 (ix3 h i e) * x1 (ix3 h j e)) * (val_main_v4 (F := Ideal)) ix0 := by
    unfold val_main_v7 val_main_v6 val_main_v5 val_main_v0 val_main_v1
    generalize val_main_v4 (F := Ideal) = y
    pointwise
  rw [e, v4_at]
  unfold sc
  rw [EReal.coe_mul, coe_sum]
  simp only [H.hq, H.hk, EReal.coe_mul]

theorem v16_at (h : Fin 8) (i j : Fin 4096) :
    val_main_v16_0 (F := Ideal) x0 x1 (ix3 h i j) = if j.val / 64 ≤ i.val / 64 then (sc (q h) (k h) cR i j : EReal) else ⊥ := by
  have e : val_main_v16_0 (F := Ideal) x0 x1 (ix3 h i j) = Scalar.select ((val_main_v16_1 (F := Ideal)) (ix3 h i j)) (val_main_v7 (F := Ideal) x0 x1 (ix3 h i j)) (Ideal.ofBits .f32 0xFF800000#32) := by
    unfold val_main_v16_0 val_main_call1_v2 val_main_call1_v0 val_main_cst_1
    generalize val_main_v16_1 (F := Ideal) = y, val_main_v7 (F := Ideal) x0 x1 = z
    pointwise
    rfl
  rw [e, mask_at, v7_at H, bits_ninf]
  split <;> rfl

theorem v17_at (h : Fin 8) (i : Fin 4096) : val_main_v17 (F := Ideal) x0 x1 (ix2 h i) = (mxR x0 x1 h i : EReal) := by
  have e : val_main_v17 (F := Ideal) x0 x1 (ix2 h i) = Finset.univ.fold max (⊥ : EReal) fun j : Fin 4096 => val_main_v16_0 (F := Ideal) x0 x1 (ix3 h i j) := by
    unfold val_main_v17 val_main_cst_2
    generalize val_main_v16_0 (F := Ideal) x0 x1 = z
    pointwise
    rw [bits_ninf]
  unfold mxR
  refine (EReal.coe_toReal ?_ ?_).symm
  · rw [e]
    refine ne_of_lt ?_
    rw [Finset.fold_max_lt]
    refine ⟨bot_lt_top, fun j _ => ?_⟩
    rw [v16_at H]
    split
    · exact EReal.coe_lt_top _
    · exact bot_lt_top
  · rw [e]
    refine ne_of_gt ?_
    rw [Finset.lt_fold_max]
    refine Or.inr ⟨i, Finset.mem_univ i, ?_⟩
    rw [v16_at H, if_pos (le_refl _)]
    exact EReal.bot_lt_coe _

omit H in
theorem v37_eq (h : Fin 8) (i j : Fin 4096) :
    val_main_v37 (F := Ideal) x0 x1 (ix3 h i j) = Ideal.exp (val_main_v16_0 (F := Ideal) x0 x1 (ix3 h i j) - max (Ideal.ofBits .f32 0xFF800000#32) (val_main_v17 (F := Ideal) x0 x1 (ix2 h i))) := by
  rw [val_main_v37_apply, val_main_v36_apply, val_main_v35_apply, val_main_v34_apply, val_main_v24_apply, val_main_v23_apply, val_main_cst_4_apply,
    show idx_main_v34 (idx_main_v35 (ix3 h i j)) = (ix2 h i : S8x4096.Idx) from by funext a; fin_cases a <;> rfl]
  rfl

theorem v37_at (h : Fin 8) (i j : Fin 4096) :
    val_main_v37 (F := Ideal) x0 x1 (ix3 h i j) = (ex (q h) (k h) cR (mxR x0 x1 h) i j : EReal) := by
  rw [v37_eq, v16_at H, v17_at H, bits_ninf, max_eq_right bot_le]
  generalize mxR x0 x1 h = w
  unfold ex
  split
  · rw [← EReal.coe_sub, Ideal.exp_coe]
  · rw [EReal.bot_sub]; exact Ideal.exp_bot

theorem v38_at (h : Fin 8) (i : Fin 4096) : val_main_v38 (F := Ideal) x0 x1 (ix2 h i) = (tot (q h) (k h) cR (mxR x0 x1 h) i : EReal) := by
  have e : val_main_v38 (F := Ideal) x0 x1 (ix2 h i) = ∑ j : Fin 4096, val_main_v37 (F := Ideal) x0 x1 (ix3 h i j) := by
    unfold val_main_v38 val_main_cst_10
    generalize val_main_v37 (F := Ideal) x0 x1 = y
    pointwise
  rw [e]
  unfold tot
  rw [coe_sum]
  exact Finset.sum_congr rfl fun j _ => v37_at H h i j

theorem v41_at (h : Fin 8) (i j : Fin 4096) : val_main_v41 (F := Ideal) x0 x1 (ix3 h i j) = (wt (q h) (k h) cR (mxR x0 x1 h) i j : EReal) := by
  have e : val_main_v41 (F := Ideal) x0 x1 (ix3 h i j) = Ideal.div (val_main_v37 (F := Ideal) x0 x1 (ix3 h i j)) (val_main_v38 (F := Ideal) x0 x1 (ix2 h i)) := by
    unfold val_main_v41 val_main_v40 val_main_v39
    generalize val_main_v37 (F := Ideal) x0 x1 = y, val_main_v38 (F := Ideal) x0 x1 = z
    pointwise
  rw [e, v37_at H, v38_at H, Ideal.div_coe (tot_pos _ _ _ _ i).ne', ← EReal.coe_mul, mul_one_div]
  rfl

theorem v49_at (h : Fin 8) (i : Fin 4096) (e : Fin 128) : val_main_v49 (F := Ideal) x3 (ix3 h e i) = (d h i e : EReal) := by
  rw [← H.hd]
  unfold val_main_v49 val_main_v48
  pointwise
  rfl

theorem v50_at (h : Fin 8) (i j : Fin 4096) : val_main_v50 (F := Ideal) x2 x3 (ix3 h i j) = (dp (v h) (d h) i j : EReal) := by
  have e : val_main_v50 (F := Ideal) x2 x3 (ix3 h i j) = ∑ e : Fin 128, val_main_v49 (F := Ideal) x3 (ix3 h e i) * x2 (ix3 h j e) := by
    unfold val_main_v50 val_main_v2
    generalize val_main_v49 (F := Ideal) x3 = y
    pointwise
  rw [e]
  unfold dp
  rw [coe_sum]
  simp only [v49_at H, H.hv, EReal.coe_mul]

/-- The values' gradient. -/
theorem v70_at (h : Fin 8) (j : Fin 4096) (e : Fin 128) :
    val_main_v70 (F := Ideal) x0 x1 x3 (ix3 h j e) = ((∑ i, wt (q h) (k h) cR (mxR x0 x1 h) i j * d h i e : ℝ) : EReal) := by
  have e : val_main_v70 (F := Ideal) x0 x1 x3 (ix3 h j e) = ∑ i : Fin 4096, val_main_v49 (F := Ideal) x3 (ix3 h e i) * val_main_v41 (F := Ideal) x0 x1 (ix3 h i j) := by
    unfold val_main_v70 val_main_v52 val_main_v51
    generalize val_main_v49 (F := Ideal) x3 = y, val_main_v41 (F := Ideal) x0 x1 = z
    pointwise
  rw [e, coe_sum]
  refine Finset.sum_congr rfl fun i _ => ?_
  rw [v49_at H, v41_at H, ← EReal.coe_mul, mul_comm]

theorem v56_at (h : Fin 8) (i : Fin 4096) :
    val_main_v56 (F := Ideal) x0 x1 x2 x3 (ix2 h i) = ((∑ j, dp (v h) (d h) i j * (1 * (1 / (tot (q h) (k h) cR (mxR x0 x1 h) i * tot (q h) (k h) cR (mxR x0 x1 h) i))) * ex (q h) (k h) cR (mxR x0 x1 h) i j : ℝ) : EReal) := by
  have e : val_main_v56 (F := Ideal) x0 x1 x2 x3 (ix2 h i) = ∑ j : Fin 4096, val_main_v50 (F := Ideal) x2 x3 (ix3 h i j) *
      Ideal.div ((1 : ℝ) : EReal) (val_main_v38 (F := Ideal) x0 x1 (ix2 h i) * val_main_v38 (F := Ideal) x0 x1 (ix2 h i)) * val_main_v37 (F := Ideal) x0 x1 (ix3 h i j) := by
    unfold val_main_v56 val_main_v55 val_main_v54 val_main_v53 val_main_v44 val_main_v43 val_main_v42 val_main_v39 val_main_cst_11 val_main_cst_12
    generalize val_main_v50 (F := Ideal) x2 x3 = y, val_main_v37 (F := Ideal) x0 x1 = z, val_main_v38 (F := Ideal) x0 x1 = w
    pointwise
    rw [EReal.coe_one]
  have ht := (tot_pos (q h) (k h) cR (mxR x0 x1 h) i).ne'
  rw [e, coe_sum]
  refine Finset.sum_congr rfl fun j _ => ?_
  rw [v50_at H, v37_at H, v38_at H, ← EReal.coe_mul, Ideal.div_coe (mul_ne_zero ht ht), ← EReal.coe_mul, ← EReal.coe_mul, ← EReal.coe_mul]

/-- The scores' gradient. -/
theorem v67_at (h : Fin 8) (i j : Fin 4096) :
    val_main_v67 (F := Ideal) x0 x1 x2 x3 (ix3 h i j) = (ds (q h) (k h) (v h) (d h) cR (mxR x0 x1 h) i j : EReal) := by
  have e : val_main_v67 (F := Ideal) x0 x1 x2 x3 (ix3 h i j) = Scalar.select ((val_main_v16_1 (F := Ideal)) (ix3 h i j))
      ((Ideal.div (val_main_v50 (F := Ideal) x2 x3 (ix3 h i j)) (val_main_v38 (F := Ideal) x0 x1 (ix2 h i)) + -(val_main_v56 (F := Ideal) x0 x1 x2 x3 (ix2 h i))) * val_main_v37 (F := Ideal) x0 x1 (ix3 h i j)) 0 * (val_main_v4 (F := Ideal)) ix0 := by
    unfold val_main_v67 val_main_v66 val_main_v65 val_main_v64 val_main_v63 val_main_v62 val_main_v61 val_main_v60 val_main_v59 val_main_v58 val_main_v57 val_main_v39 val_main_call2_v0 val_main_call2_cst val_main_cst_13
    generalize val_main_v50 (F := Ideal) x2 x3 = y, val_main_v37 (F := Ideal) x0 x1 = z, val_main_v38 (F := Ideal) x0 x1 = w, val_main_v56 (F := Ideal) x0 x1 x2 x3 = u, val_main_v16_1 (F := Ideal) = b, val_main_v4 (F := Ideal) = c
    pointwise
    rw [Fin.sum_univ_one]
  have ht := (tot_pos (q h) (k h) cR (mxR x0 x1 h) i).ne'
  rw [e, mask_at, v4_at]
  by_cases hm : j.val / 64 ≤ i.val / 64
  · rw [if_pos hm]
    show _ * _ * _ = _
    rw [v50_at H, v37_at H, v38_at H, v56_at H, Ideal.div_coe ht, ← EReal.coe_mul, ← EReal.coe_neg, ← EReal.coe_add, ← EReal.coe_mul, ← EReal.coe_mul]
    exact congrArg _ (ds_chain (q h) (k h) (v h) (d h) cR (mxR x0 x1 h) i j)
  · rw [if_neg hm]
    show (0 : EReal) * _ = _
    rw [zero_mul, ds_masked _ _ _ _ _ _ i j hm, EReal.coe_zero]

/-- The keys' gradient. -/
theorem v71_at (h : Fin 8) (j : Fin 4096) (e : Fin 192) :
    val_main_v71 (F := Ideal) x0 x1 x2 x3 (ix3 h j e) = ((∑ i, ds (q h) (k h) (v h) (d h) cR (mxR x0 x1 h) i j * q h i e : ℝ) : EReal) := by
  have e : val_main_v71 (F := Ideal) x0 x1 x2 x3 (ix3 h j e) = ∑ i : Fin 4096, val_main_v67 (F := Ideal) x0 x1 x2 x3 (ix3 h i j) * x0 (ix3 h i e) := by
    unfold val_main_v71 val_main_v68 val_main_v0
    generalize val_main_v67 (F := Ideal) x0 x1 x2 x3 = y
    pointwise
  rw [e, coe_sum]
  refine Finset.sum_congr rfl fun i _ => ?_
  rw [v67_at H, H.hq, ← EReal.coe_mul]

/-- The queries' gradient. -/
theorem v72_at (h : Fin 8) (i : Fin 4096) (e : Fin 192) :
    val_main_v72 (F := Ideal) x0 x1 x2 x3 (ix3 h i e) = ((∑ j, ds (q h) (k h) (v h) (d h) cR (mxR x0 x1 h) i j * k h j e : ℝ) : EReal) := by
  have e : val_main_v72 (F := Ideal) x0 x1 x2 x3 (ix3 h i e) = ∑ j : Fin 4096, val_main_v67 (F := Ideal) x0 x1 x2 x3 (ix3 h i j) * x1 (ix3 h j e) := by
    unfold val_main_v72 val_main_v69 val_main_v1
    generalize val_main_v67 (F := Ideal) x0 x1 x2 x3 = y
    pointwise
  rw [e, coe_sum]
  refine Finset.sum_congr rfl fun j _ => ?_
  rw [v67_at H, H.hk, ← EReal.coe_mul]

end Args

end Cert.AttnRefIdeal.Hand

end
-- ==== Proof.AttnFinite.lean ====
/- Arrays whose elements are finite, read as real arrays. -/
module

public import proofs.«01_k».proof.Pre_finite
public import proofs.«01_k».proof.Proof.AttnRef

@[expose] public section

noncomputable section

namespace Cert.Pre_finite.Hand

open Idealize.ShloMosaic Cert.Pre_finite
open Cert.AttnRefIdeal.Hand (Args hcol)

theorem facts : Cert.Pre_finite.Facts where
  bcast_S_S8x4096x192 := by decide
  bcast_S_S8x4096x128 := by decide
  bcast_S_S4096x1024 := by decide

theorem bits_inf16 : Ideal.ofBits .bf16 0x7F80#16 = (⊤ : EReal) := by
  simp [Ideal.ofBits, Ideal.ieee]
theorem bits_inf32 : Ideal.ofBits .f32 0x7F800000#32 = (⊤ : EReal) := by
  simp [Ideal.ofBits, Ideal.ieee]

/-- What lies below infinity in absolute value is real. -/
theorem coe_of_abs_lt (x : EReal) (h : max x (-x) < ⊤) : x = (x.toReal : EReal) := by
  refine (EReal.coe_toReal ?_ ?_).symm
  · rintro rfl
    simp at h
  · rintro rfl
    simp at h

theorem of_bool {p : Prop} [Decidable p] (h : BitVec.ofBool (decide p) = 1#1) : p := by
  by_contra hp
  simp [hp] at h

variable [Cert.Pre_finite.Facts]

/-- Arguments found finite are real arrays. -/
theorem args (x0 x1 : FVec Ideal S8x4096x192 .bf16) (x2 : FVec Ideal S8x4096x128 .bf16) (x3 : FVec Ideal S4096x1024 .f32)
    (h : (fn (F := Ideal) x0 x1 x2 x3).1 = (fun _ => 1#1) ∧ (fn (F := Ideal) x0 x1 x2 x3).2.1 = (fun _ => 1#1)
      ∧ (fn (F := Ideal) x0 x1 x2 x3).2.2.1 = (fun _ => 1#1) ∧ (fn (F := Ideal) x0 x1 x2 x3).2.2.2 = (fun _ => 1#1)) :
    ∃ q k v d, Args x0 x1 x2 x3 q k v d := by
  obtain ⟨h0, h1, h2, h3⟩ := h
  refine ⟨fun h r e => (x0 (ix3 h r e) : EReal).toReal, fun h r e => (x1 (ix3 h r e) : EReal).toReal, fun h r e => (x2 (ix3 h r e) : EReal).toReal,
    fun h r e => (x3 (ix2 r (hcol h e)) : EReal).toReal, ?_, ?_, ?_, ?_⟩
  · intro h r e
    have g : BitVec.ofBool (decide (max (x0 (ix3 h r e) : EReal) (-x0 (ix3 h r e)) < Ideal.ofBits .bf16 0x7F80#16)) = 1#1 := congrFun h0 (ix3 h r e)
    exact coe_of_abs_lt _ (bits_inf16 ▸ of_bool g)
  · intro h r e
    have g : BitVec.ofBool (decide (max (x1 (ix3 h r e) : EReal) (-x1 (ix3 h r e)) < Ideal.ofBits .bf16 0x7F80#16)) = 1#1 := congrFun h1 (ix3 h r e)
    exact coe_of_abs_lt _ (bits_inf16 ▸ of_bool g)
  · intro h r e
    have g : BitVec.ofBool (decide (max (x2 (ix3 h r e) : EReal) (-x2 (ix3 h r e)) < Ideal.ofBits .bf16 0x7F80#16)) = 1#1 := congrFun h2 (ix3 h r e)
    exact coe_of_abs_lt _ (bits_inf16 ▸ of_bool g)
  · intro h r e
    have g : BitVec.ofBool (decide (max (x3 (ix2 r (hcol h e)) : EReal) (-x3 (ix2 r (hcol h e))) < Ideal.ofBits .f32 0x7F800000#32)) = 1#1 := congrFun h3 (ix2 r (hcol h e))
    exact coe_of_abs_lt _ (bits_inf32 ▸ of_bool g)

end Cert.Pre_finite.Hand

end
-- ==== Proof.AttnPay.lean ====
/- The arithmetic of one pair of blocks, read at an index over the extended reals. -/
module

public import proofs.«01_k».proof.Proof.AttnSpec
public import proofs.«01_k».proof.Proof.AttnMath
public import Idealize.ShloMosaic.Lib.Pointwise

@[expose] public section

set_option maxRecDepth 16384

noncomputable section

namespace Cert.AttnBwdIdeal.Hand

open Cert.AttnBwdIdeal Cert.AttnBwdIdeal.Gen
open Idealize.ShloMosaic Idealize.ShloMosaic.TcCoe

theorem pay37_apply (a b : Vec Ideal S1x512x192 .bf16) (r s : Fin 512) :
    k0_pay37 a b (ix3 0 r s) = ∑ e : Fin 192, a (ix3 0 r e) * b (ix3 0 s e) := by
  unfold_payloads
  pointwise

theorem pay38_apply (a : Vec Ideal S1x512x128 .bf16) (b : Vec Ideal S512x128 .f32) (r s : Fin 512) :
    k0_pay38 a b (ix3 0 r s) = ∑ e : Fin 128, a (ix3 0 r e) * b (ix2 s e) := by
  unfold_payloads
  pointwise

theorem pay9_apply (a : Vec Ideal S512x128 .f32) (p : Vec Ideal S1x512x512 .bf16) (o : Vec Ideal S512x128 .f32) (r : Fin 512) (e : Fin 128) :
    k0_pay9 a p o (ix2 r e) = a (ix2 r e) + ∑ s : Fin 512, p (ix3 0 r s) * o (ix2 s e) := by
  unfold_payloads
  pointwise

theorem pay24_apply (a : Vec Ideal S512x192 .f32) (p : Vec Ideal S1x512x512 .bf16) (o : Vec Ideal S1x512x192 .bf16) (r : Fin 512) (e : Fin 192) :
    k0_pay24 a p o (ix2 r e) = a (ix2 r e) + ∑ s : Fin 512, p (ix3 0 r s) * o (ix3 0 s e) := by
  unfold_payloads
  pointwise

theorem pay12_apply (a : Vec Ideal S512x192 .f32) (p : Vec Ideal S1x512x512 .bf16) (o : Vec Ideal S1x512x192 .bf16) (s : Fin 512) (e : Fin 192) :
    k0_pay12 a p o (ix2 s e) = a (ix2 s e) + ∑ r : Fin 512, p (ix3 0 r s) * o (ix3 0 r e) := by
  unfold_payloads
  pointwise

/-- The weight of a pair of rows: the kernel's power of two. -/
def pw (b : BitVec 32) (s bias lse : EReal) : EReal :=
  Ideal.exp2 ((s + bias * (((Scalar.extui (Scalar.cmpi .eq b 0#32) : BitVec 32).toInt : ℝ) : EReal)) * Named.named (F := Ideal) (φ := .f32) κ "scale_log2" 0x3DD53B95#32
    - lse * Named.named (F := Ideal) (φ := .f32) κ "log2e" 0x3FB8AA3B#32)

theorem pay47_apply (b : BitVec 32) (x : Vec Ideal S1x512x512 .f32) (y : Vec Ideal S512x512 .f32) (l : Vec Ideal S1x1x1x512 .f32) (r s : Fin 512) :
    k0_pay47 b x y l (ix2 r s) = pw b (x (ix3 0 r s)) (y (ix2 r s)) (l (ix4 0 0 0 s)) := by
  unfold_payloads
  pointwise
  rfl

theorem pay48_apply (b : BitVec 32) (x : Vec Ideal S1x512x512 .f32) (y : Vec Ideal S512x512 .f32) (l : Vec Ideal S1x1x1x512 .f32) (r s : Fin 512) :
    k0_pay48 b x y l (ix3 0 r s) = pw b (x (ix3 0 r s)) (y (ix2 r s)) (l (ix4 0 0 0 s)) := by
  rw [← pay47_apply]
  unfold k0_pay48
  generalize k0_pay47 b x y l = z
  pointwise

theorem pay50_apply (b : BitVec 32) (x : Vec Ideal S1x512x512 .f32) (y : Vec Ideal S512x512 .f32) (l : Vec Ideal S1x1x1x512 .f32)
    (u : Vec Ideal S1x512x512 .f32) (w : Vec Ideal S1x1x1x512 .f32) (z : Ideal .f32) (r s : Fin 512) :
    k0_pay50 (k0_pay49 b x y l u w) z (ix3 0 r s) = pw b (x (ix3 0 r s)) (y (ix2 r s)) (l (ix4 0 0 0 s)) * (u (ix3 0 r s) - w (ix4 0 0 0 s)) * z := by
  rw [← pay47_apply]
  unfold k0_pay50 k0_pay49
  generalize k0_pay47 b x y l = z
  pointwise

theorem pay2_apply (x : Vec Ideal S4096x192 .f32) (r : Fin 4096) (e : Fin 192) : k0_pay2 x (ix3 0 r e) = x (ix2 r e) := by
  unfold_payloads
  pointwise
theorem pay3_apply (x : Vec Ideal S4096x192 .f32) (r : Fin 4096) (e : Fin 192) : k0_pay3 x (ix3 0 r e) = x (ix2 r e) := by
  unfold_payloads
  pointwise
theorem pay4_apply (x : Vec Ideal S4096x128 .f32) (r : Fin 4096) (e : Fin 128) : k0_pay4 x (ix3 0 r e) = x (ix2 r e) := by
  unfold_payloads
  pointwise

/-- A row's chunk of 64 rows, as the kernel works it out in words. -/
def chunkW (x : BitVec 32) : BitVec 32 :=
  Scalar.select
    (IntOp.andi
      (IntOp.cmpi .ne (IntOp.subi (BitVec.setWidth 32 (IntOp.cmpi .sgt (IntOp.addi 0#32 x) 0#32)) (BitVec.setWidth 32 (IntOp.cmpi .slt (IntOp.addi 0#32 x) 0#32)))
        (Scalar.subi (Scalar.extui (Scalar.cmpi .sgt 64#32 0#32)) (Scalar.extui (Scalar.cmpi .slt 64#32 0#32))))
      (IntOp.cmpi .ne (IntOp.remsi ArithUnit.vector (IntOp.addi 0#32 x) 64#32) 0#32))
    (IntOp.subi (IntOp.divsi ArithUnit.vector (IntOp.addi 0#32 x) 64#32) 1#32) (IntOp.divsi ArithUnit.vector (IntOp.addi 0#32 x) 64#32)

set_option maxRecDepth 100000 in
theorem chunkW_eq : ∀ r : Fin 512, chunkW (BitVec.ofNat 32 r.val) = BitVec.ofNat 32 (r.val / 64) := by decide +kernel

theorem sle_small : ∀ a b : Fin 64, IntOp.cmpi .sle (BitVec.ofNat 32 a.val) (BitVec.ofNat 32 b.val) = if a.val ≤ b.val then 1#1 else 0#1 := by decide +kernel

/-- The bias added on the diagonal: nothing where the key is seen, `⊥` where it is not. -/
theorem bias_apply (r s : Fin 512) :
    (k0_pay33 (F := Ideal) k0_pay5 k0_pay6 64#32 k0_pay7 k0_pay8) (ix2 r s) = if r.val / 64 ≤ s.val / 64 then 0 else ⊥ := by
  unfold_payloads
  pointwise
  show Scalar.select (IntOp.cmpi .sle (chunkW (BitVec.ofNat 32 r.val)) (chunkW (BitVec.ofNat 32 s.val))) (0 : EReal) (Named.named (F := Ideal) (φ := .f32) κ "mask" 0xF149F2CA#32) = _
  rw [chunkW_eq, chunkW_eq, sle_small ⟨r.val / 64, by omega⟩ ⟨s.val / 64, by omega⟩,
    show Named.named (F := Ideal) (φ := .f32) κ "mask" 0xF149F2CA#32 = (⊥ : EReal) from IdealRules.named_const.ideal_named_scalar _ _ _ _ rfl]
  show Scalar.select (if r.val / 64 ≤ s.val / 64 then 1#1 else 0#1) (0 : EReal) ⊥ = _
  split <;> rfl

theorem scale_named : Named.named (F := Ideal) (φ := .f32) κ "scale" 0x3D93CD3A#32 = (((Real.sqrt 192)⁻¹ : ℝ) : EReal) :=
  IdealRules.named_const.ideal_named_scalar _ _ _ _ rfl
theorem scale_log2_named : Named.named (F := Ideal) (φ := .f32) κ "scale_log2" 0x3DD53B95#32 = (((Real.sqrt 192)⁻¹ * (Real.log 2)⁻¹ : ℝ) : EReal) :=
  IdealRules.named_const.ideal_named_scalar _ _ _ _ rfl
theorem log2e_named : Named.named (F := Ideal) (φ := .f32) κ "log2e" 0x3FB8AA3B#32 = (((Real.log 2)⁻¹ : ℝ) : EReal) :=
  IdealRules.named_const.ideal_named_scalar _ _ _ _ rfl

/-- The kernel's power of two on real scores, where the bias counts nothing: the exponential of the score less the row's log-sum. -/
theorem pw_seen (b : BitVec 32) (s l : ℝ) (y : EReal) (h : b ≠ 0#32 ∨ y = 0) :
    pw b (s : EReal) y (l : EReal) = (Real.exp (s * (Real.sqrt 192)⁻¹ - l) : EReal) := by
  have hz : y * (((Scalar.extui (Scalar.cmpi .eq b 0#32) : BitVec 32).toInt : ℝ) : EReal) = 0 := by
    rcases h with h | h
    · have e : (Scalar.cmpi .eq b 0#32) = 0#1 := by
        show BitVec.ofBool (b == 0#32) = 0#1
        rw [beq_eq_false_iff_ne.mpr h]; rfl
      rw [e]
      show y * (((0 : ℤ) : ℝ) : EReal) = 0
      simp
    · rw [h, zero_mul]
  unfold pw
  rw [hz, add_zero, scale_log2_named, log2e_named, ← EReal.coe_mul, ← EReal.coe_mul, ← EReal.coe_sub, Ideal.exp2_coe]
  refine congrArg _ ?_
  rw [← Cert.AttnMath.two_rpow]
  congr 1
  ring

/-- On the diagonal, where the bias is `⊥`, the weight is zero. -/
theorem pw_masked (s l : ℝ) : pw 0#32 (s : EReal) ⊥ (l : EReal) = 0 := by
  have e : ((((Scalar.extui (Scalar.cmpi .eq 0#32 0#32) : BitVec 32).toInt : ℝ)) : EReal) = ((1 : ℝ) : EReal) := by
    show (((1 : ℤ) : ℝ) : EReal) = _; simp
  unfold pw
  rw [e, EReal.coe_one, mul_one, EReal.add_bot, scale_log2_named, log2e_named, ← EReal.coe_mul,
    EReal.bot_mul_coe_of_pos (mul_pos (inv_pos.mpr (Real.sqrt_pos.mpr (by norm_num))) (inv_pos.mpr (Real.log_pos (by norm_num)))), EReal.bot_sub]
  exact Ideal.exp2_bot

end Cert.AttnBwdIdeal.Hand

end
-- ==== Proof.AttnPair.lean ====
/- The walk over the pairs of blocks computes one head's three gradients: the operands' entries being real numbers, what the walk
   leaves is the sum over all rows. -/
module

public import proofs.«01_k».proof.Proof.AttnPay
public import proofs.«01_k».proof.Proof.AttnLoop
public import proofs.«01_k».proof.Proof.AttnBody

@[expose] public section

set_option maxRecDepth 16384

noncomputable section

namespace Cert.AttnBwdIdeal.Hand

open Cert.AttnBwdIdeal Cert.AttnBwdIdeal.Gen Cert.AttnMath
open Idealize.ShloMosaic Idealize.ShloMosaic.TcCoe

/-! ## Windows of 512 rows -/

section Win

variable {α : Type} [Nonempty α]

theorem win_q {e' : EltTy} {Val : EltTy → Type} [∀ e, Nonempty (Val e)] (x : S1x4096x192.Idx → Val e') (n : ℕ) (J : Fin 8) (hn : n = 512 * J.val) (r : Fin 512) (e : Fin 192) :
    winT (s := S1x4096x192) x ![0, n, 0] S1x512x192.size (ix3 0 r e) = x (ix3 0 (row J r) e) := by
  subst hn
  rw [winT_eq (s := S1x4096x192) x ![0, 512 * J.val, 0] S1x512x192.size (by
    intro a; fin_cases a
    · show 0 + 1 ≤ 1; omega
    · show 512 * J.val + 512 ≤ 4096; omega
    · show 0 + 192 ≤ 192; omega)]
  unfold VecWindow.window
  refine congrArg x (funext fun a => Fin.ext ?_)
  fin_cases a
  · rfl
  · show 512 * J.val + 1 * r.val = 512 * J.val + r.val; omega
  · show 0 + 1 * e.val = e.val; omega

theorem win_v {e' : EltTy} {Val : EltTy → Type} [∀ e, Nonempty (Val e)] (x : S1x4096x128.Idx → Val e') (n : ℕ) (J : Fin 8) (hn : n = 512 * J.val) (r : Fin 512) (e : Fin 128) :
    winT (s := S1x4096x128) x ![0, n, 0] S1x512x128.size (ix3 0 r e) = x (ix3 0 (row J r) e) := by
  subst hn
  rw [winT_eq (s := S1x4096x128) x ![0, 512 * J.val, 0] S1x512x128.size (by
    intro a; fin_cases a
    · show 0 + 1 ≤ 1; omega
    · show 512 * J.val + 512 ≤ 4096; omega
    · show 0 + 128 ≤ 128; omega)]
  unfold VecWindow.window
  refine congrArg x (funext fun a => Fin.ext ?_)
  fin_cases a
  · rfl
  · show 512 * J.val + 1 * r.val = 512 * J.val + r.val; omega
  · show 0 + 1 * e.val = e.val; omega

theorem win_d {e' : EltTy} {Val : EltTy → Type} [∀ e, Nonempty (Val e)] (x : S4096x128.Idx → Val e') (n : ℕ) (J : Fin 8) (hn : n = 512 * J.val) (r : Fin 512) (e : Fin 128) :
    winT (s := S4096x128) x ![n, 0] S512x128.size (ix2 r e) = x (ix2 (row J r) e) := by
  subst hn
  rw [winT_eq (s := S4096x128) x ![512 * J.val, 0] S512x128.size (by
    intro a; fin_cases a
    · show 512 * J.val + 512 ≤ 4096; omega
    · show 0 + 128 ≤ 128; omega)]
  unfold VecWindow.window
  refine congrArg x (funext fun a => Fin.ext ?_)
  fin_cases a
  · show 512 * J.val + 1 * r.val = 512 * J.val + r.val; omega
  · show 0 + 1 * e.val = e.val; omega

theorem win_g {e' : EltTy} {Val : EltTy → Type} [∀ e, Nonempty (Val e)] (x : S4096x192.Idx → Val e') (n : ℕ) (J : Fin 8) (hn : n = 512 * J.val) (r : Fin 512) (e : Fin 192) :
    winT (s := S4096x192) x ![n, 0] S512x192.size (ix2 r e) = x (ix2 (row J r) e) := by
  subst hn
  rw [winT_eq (s := S4096x192) x ![512 * J.val, 0] S512x192.size (by
    intro a; fin_cases a
    · show 512 * J.val + 512 ≤ 4096; omega
    · show 0 + 192 ≤ 192; omega)]
  unfold VecWindow.window
  refine congrArg x (funext fun a => Fin.ext ?_)
  fin_cases a
  · show 512 * J.val + 1 * r.val = 512 * J.val + r.val; omega
  · show 0 + 1 * e.val = e.val; omega

theorem win_l {e' : EltTy} {Val : EltTy → Type} [∀ e, Nonempty (Val e)] (x : S1x8x1x512.Idx → Val e') (n : ℕ) (J : Fin 8) (hn : n = J.val) (s : Fin 512) :
    winT (s := S1x8x1x512) x ![0, n, 0, 0] S1x1x1x512.size (ix4 0 0 0 s : S1x1x1x512.Idx) = x (ix4 0 J 0 s : S1x8x1x512.Idx) := by
  subst hn
  rw [winT_eq (s := S1x8x1x512) x ![0, J.val, 0, 0] S1x1x1x512.size (by
    intro a; fin_cases a
    · show 0 + 1 ≤ 1; omega
    · show J.val + 1 ≤ 8; omega
    · show 0 + 1 ≤ 1; omega
    · show 0 + 512 ≤ 512; omega)]
  unfold VecWindow.window
  refine congrArg x (funext fun a => Fin.ext ?_)
  fin_cases a
  · rfl
  · show J.val + 1 * 0 = J.val; omega
  · rfl
  · show 0 + 1 * s.val = s.val; omega

theorem put_g (x : S4096x192.Idx → α) (n : ℕ) (J : Fin 8) (hn : n = 512 * J.val) (w : S512x192.Idx → α) (i : Fin 4096) (e : Fin 192) :
    VecWindow.put (s := S4096x192) x ![n, 0] S512x192.size w (ix2 i e) = if J = blk i then w (ix2 (off i) e) else x (ix2 i e) := by
  subst hn
  unfold VecWindow.put
  by_cases h : J = blk i
  · have hv : J.val = i.val / 512 := congrArg Fin.val h
    rw [if_pos h, dif_pos (show ∀ a, _ from by
      intro a; fin_cases a
      · show 512 * J.val ≤ i.val ∧ i.val < 512 * J.val + 512; omega
      · show 0 ≤ e.val ∧ e.val < 0 + 192; omega)]
    refine congrArg w (funext fun a => Fin.ext ?_)
    fin_cases a
    · show i.val - 512 * J.val = i.val % 512; omega
    · show e.val - 0 = e.val; omega
  · rw [if_neg h, dif_neg]
    intro hh
    have h0 : 512 * J.val ≤ i.val ∧ i.val < 512 * J.val + 512 := hh 0
    exact h (Fin.ext (by show J.val = i.val / 512; omega))

theorem put_v (x : S4096x128.Idx → α) (n : ℕ) (J : Fin 8) (hn : n = 512 * J.val) (w : S512x128.Idx → α) (i : Fin 4096) (e : Fin 128) :
    VecWindow.put (s := S4096x128) x ![n, 0] S512x128.size w (ix2 i e) = if J = blk i then w (ix2 (off i) e) else x (ix2 i e) := by
  subst hn
  unfold VecWindow.put
  by_cases h : J = blk i
  · have hv : J.val = i.val / 512 := congrArg Fin.val h
    rw [if_pos h, dif_pos (show ∀ a, _ from by
      intro a; fin_cases a
      · show 512 * J.val ≤ i.val ∧ i.val < 512 * J.val + 512; omega
      · show 0 ≤ e.val ∧ e.val < 0 + 128; omega)]
    refine congrArg w (funext fun a => Fin.ext ?_)
    fin_cases a
    · show i.val - 512 * J.val = i.val % 512; omega
    · show e.val - 0 = e.val; omega
  · rw [if_neg h, dif_neg]
    intro hh
    have h0 : 512 * J.val ≤ i.val ∧ i.val < 512 * J.val + 512 := hh 0
    exact h (Fin.ext (by show J.val = i.val / 512; omega))

end Win

/-! ## The walk in numbers -/

/-- The words `j`, `b` stand for the key block `J` and the query block `I`, at or after it. -/
structure Pair (j b : BitVec 32) (I J : Fin 8) : Prop where
  key : rj j = 512 * J.val
  qry : ri j b = 512 * I.val
  num : nI j b = I.val
  le : J.val ≤ I.val
  diag : b = 0#32 ↔ I = J

/-- The key block and the query block of a step. -/
def jN (n : ℕ) : Fin 8 := ⟨(pr n).1.toNat % 8, Nat.mod_lt _ (by decide)⟩
def iN (n : ℕ) : Fin 8 := ⟨((pr n).1 + (pr n).2).toNat % 8, Nat.mod_lt _ (by decide)⟩

theorem pair_facts : ∀ n : Fin 36, (rj (pr n.val).1 = 512 * (jN n.val).val ∧ ri (pr n.val).1 (pr n.val).2 = 512 * (iN n.val).val ∧
    nI (pr n.val).1 (pr n.val).2 = (iN n.val).val) ∧ (jN n.val).val ≤ (iN n.val).val ∧ ((pr n.val).2 = 0#32 ↔ iN n.val = jN n.val) := by decide +kernel

theorem pair_of (n : ℕ) (h : n < 36) : Pair (pr n).1 (pr n).2 (iN n) (jN n) :=
  have F := pair_facts ⟨n, h⟩
  ⟨F.1.1, F.1.2.1, F.1.2.2, F.2.1, F.2.2⟩

theorem card_query : ∀ R J : Fin 8, (Finset.univ.filter fun n : Fin 36 => iN n.val = R ∧ jN n.val = J).card = if J.val ≤ R.val then 1 else 0 := by decide +kernel
theorem card_key : ∀ R I : Fin 8, (Finset.univ.filter fun n : Fin 36 => jN n.val = R ∧ iN n.val = I).card = if R.val ≤ I.val then 1 else 0 := by decide +kernel

/-! ## One pair of blocks, and the walk -/

section Head

variable (x1 x2 : Vec Ideal S1x4096x192 .bf16) (x3 : Vec Ideal S1x4096x128 .bf16) (x4 : Vec Ideal S4096x128 .f32) (x5 x6 : Vec Ideal S1x8x1x512 .f32)
  (q k : Fin 4096 → Fin 192 → ℝ) (v d : Fin 4096 → Fin 128 → ℝ) (mx : Fin 4096 → ℝ)

/-- The scale. -/
abbrev cS : ℝ := (Real.sqrt 192)⁻¹

/-- The operands of one head are the reals `q`, `k`, `v`, `d`, and each row's log-sum and weighted sum of products. -/
structure Reals : Prop where
  hq : ∀ r e, x1 (ix3 0 r e) = (q r e : EReal)
  hk : ∀ r e, x2 (ix3 0 r e) = (k r e : EReal)
  hv : ∀ r e, x3 (ix3 0 r e) = (v r e : EReal)
  hd : ∀ r e, x4 (ix2 r e) = (d r e : EReal)
  hlse : ∀ n s, x5 (ix4 0 n 0 s) = ((mx (row n s) + Real.log (tot q k cS mx (row n s)) : ℝ) : EReal)
  hdel : ∀ n s, x6 (ix4 0 n 0 s) = (del q k v d cS mx (row n s) : EReal)

variable {x1 x2 x3 x4 x5 x6 q k v d mx} (H : Reals x1 x2 x3 x4 x5 x6 q k v d mx) {j b : BitVec 32} {I J : Fin 8} (P : Pair j b I J)
include H P

theorem sB_real (r s : Fin 512) : sB x1 x2 j b (ix3 0 r s) = ((∑ e, q (row I s) e * k (row J r) e : ℝ) : EReal) := by
  unfold sB
  rw [pay37_apply, coe_sum]
  refine Finset.sum_congr rfl fun e _ => ?_
  rw [win_q x2 _ J P.key, win_q x1 _ I P.qry, H.hq, H.hk, mul_comm, EReal.coe_mul]

theorem dpB_real (r s : Fin 512) : dpB x3 x4 j b (ix3 0 r s) = (dp v d (row I s) (row J r) : EReal) := by
  unfold dpB dp
  rw [pay38_apply, coe_sum]
  refine Finset.sum_congr rfl fun e _ => ?_
  rw [win_v x3 _ J P.key, win_d x4 _ I P.qry, H.hv, H.hd, mul_comm, EReal.coe_mul]

theorem pw_real (r s : Fin 512) : pw b (sB x1 x2 j b (ix3 0 r s)) ((bias0 (F := Ideal)) (ix2 r s)) (x5 (ix4 0 I 0 s)) = (wt q k cS mx (row I s) (row J r) : EReal) := by
  rw [sB_real H P, H.hlse, show (bias0 (F := Ideal)) (ix2 r s) = _ from bias_apply r s]
  have hI : (row I s).val = 512 * I.val + s.val := rfl
  have hJ : (row J r).val = 512 * J.val + r.val := rfl
  have hle := P.le
  by_cases hb : b = 0#32
  · have e : I.val = J.val := congrArg Fin.val (P.diag.mp hb)
    by_cases hs : r.val / 64 ≤ s.val / 64
    · rw [if_pos hs, pw_seen _ _ _ _ (Or.inr rfl), ← exp_sub_lse q k cS mx _ _ (by omega)]
      rfl
    · rw [if_neg hs, hb, pw_masked, wt_masked q k cS mx _ _ (by omega), EReal.coe_zero]
  · have ne : I.val ≠ J.val := fun e => hb (P.diag.mpr (Fin.ext e))
    rw [pw_seen _ _ _ _ (Or.inl hb), ← exp_sub_lse q k cS mx _ _ (by omega)]
    rfl

theorem pB_real (r s : Fin 512) : pB x1 x2 x5 bias0 j b (ix3 0 r s) = (wt q k cS mx (row I s) (row J r) : EReal) := by
  unfold pB
  rw [pay48_apply, win_l x5 _ I P.num]
  exact pw_real H P r s

theorem dsB_real (r s : Fin 512) : dsB x1 x2 x3 x4 x5 x6 bias0 j b (ix3 0 r s) = (ds q k v d cS mx (row I s) (row J r) : EReal) := by
  unfold dsB
  rw [pay50_apply, win_l x5 _ I P.num, win_l x6 _ I P.num, pw_real H P r s, dpB_real H P, H.hdel, scale_named, ← EReal.coe_sub, ← EReal.coe_mul, ← EReal.coe_mul]
  rfl

theorem dvS_real (X : Vec Ideal S4096x128 .f32) (i : Fin 4096) (e : Fin 128) :
    dvS x1 x2 x4 x5 bias0 j b X (ix2 i e) =
      if J = blk i then X (ix2 i e) + ((∑ s, wt q k cS mx (row I s) i * d (row I s) e : ℝ) : EReal) else X (ix2 i e) := by
  unfold dvS
  rw [put_v X _ J P.key]
  by_cases h : J = blk i
  · rw [if_pos h, if_pos h, pay9_apply, win_d X _ J P.key, coe_sum, h, row_blk_off]
    refine congrArg _ (Finset.sum_congr rfl fun s _ => ?_)
    rw [pB_real H P, win_d x4 _ I P.qry, H.hd, h, row_blk_off, EReal.coe_mul]
  · rw [if_neg h, if_neg h]

theorem dkS_real (X : Vec Ideal S4096x192 .f32) (i : Fin 4096) (e : Fin 192) :
    dkS x1 x2 x3 x4 x5 x6 bias0 j b X (ix2 i e) =
      if J = blk i then X (ix2 i e) + ((∑ s, ds q k v d cS mx (row I s) i * q (row I s) e : ℝ) : EReal) else X (ix2 i e) := by
  unfold dkS
  rw [put_g X _ J P.key]
  by_cases h : J = blk i
  · rw [if_pos h, if_pos h, pay24_apply, win_g X _ J P.key, coe_sum, h, row_blk_off]
    refine congrArg _ (Finset.sum_congr rfl fun s _ => ?_)
    rw [dsB_real H P, win_q x1 _ I P.qry, H.hq, h, row_blk_off, EReal.coe_mul]
  · rw [if_neg h, if_neg h]

theorem dqS_real (X : Vec Ideal S4096x192 .f32) (i : Fin 4096) (e : Fin 192) :
    dqS x1 x2 x3 x4 x5 x6 bias0 j b X (ix2 i e) =
      if I = blk i then X (ix2 i e) + ((∑ r, ds q k v d cS mx i (row J r) * k (row J r) e : ℝ) : EReal) else X (ix2 i e) := by
  unfold dqS
  rw [put_g X _ I P.qry]
  by_cases h : I = blk i
  · rw [if_pos h, if_pos h, pay12_apply, win_g X _ I P.qry, coe_sum, h, row_blk_off]
    refine congrArg _ (Finset.sum_congr rfl fun s _ => ?_)
    rw [dsB_real H P, win_q x2 _ J P.key, H.hk, h, row_blk_off, EReal.coe_mul]
  · rw [if_neg h, if_neg h]

omit P

theorem dvF_real (i : Fin 4096) (e : Fin 128) (n : ℕ) (hn : n ≤ 36) :
    dvF x1 x2 x4 x5 bias0 pr n zeroV (ix2 i e) =
      ((∑ m : Fin n, if jN m.val = blk i then ∑ s, wt q k cS mx (row (iN m.val) s) i * d (row (iN m.val) s) e else 0 : ℝ) : EReal) := by
  induction n with
  | zero => rw [Finset.univ_eq_empty, Finset.sum_empty]; show (zeroV (F := Ideal)) (ix2 i e) = _; unfold zeroV k0_pay36; pointwise; exact EReal.coe_zero.symm
  | succ n ih =>
    rw [dvF_succ, dvS_real H (pair_of n (by omega)), ih (by omega), Fin.sum_univ_castSucc (n := n)]
    show _ = (((∑ m : Fin n, if jN m.val = blk i then _ else 0) + if jN n = blk i then _ else 0 : ℝ) : EReal)
    split
    · rw [EReal.coe_add]; rfl
    · rw [add_zero]; rfl

theorem dkF_real (i : Fin 4096) (e : Fin 192) (n : ℕ) (hn : n ≤ 36) :
    dkF x1 x2 x3 x4 x5 x6 bias0 pr n zeroQ (ix2 i e) =
      ((∑ m : Fin n, if jN m.val = blk i then ∑ s, ds q k v d cS mx (row (iN m.val) s) i * q (row (iN m.val) s) e else 0 : ℝ) : EReal) := by
  induction n with
  | zero => rw [Finset.univ_eq_empty, Finset.sum_empty]; show (zeroQ (F := Ideal)) (ix2 i e) = _; unfold zeroQ k0_pay34; pointwise; exact EReal.coe_zero.symm
  | succ n ih =>
    rw [dkF_succ, dkS_real H (pair_of n (by omega)), ih (by omega), Fin.sum_univ_castSucc (n := n)]
    show _ = (((∑ m : Fin n, if jN m.val = blk i then _ else 0) + if jN n = blk i then _ else 0 : ℝ) : EReal)
    split
    · rw [EReal.coe_add]; rfl
    · rw [add_zero]; rfl

theorem dqF_real (i : Fin 4096) (e : Fin 192) (n : ℕ) (hn : n ≤ 36) :
    dqF x1 x2 x3 x4 x5 x6 bias0 pr n zeroQ (ix2 i e) =
      ((∑ m : Fin n, if iN m.val = blk i then ∑ r, ds q k v d cS mx i (row (jN m.val) r) * k (row (jN m.val) r) e else 0 : ℝ) : EReal) := by
  induction n with
  | zero => rw [Finset.univ_eq_empty, Finset.sum_empty]; show (zeroQ (F := Ideal)) (ix2 i e) = _; unfold zeroQ k0_pay34; pointwise; exact EReal.coe_zero.symm
  | succ n ih =>
    rw [dqF_succ, dqS_real H (pair_of n (by omega)), ih (by omega), Fin.sum_univ_castSucc (n := n)]
    show _ = (((∑ m : Fin n, if iN m.val = blk i then _ else 0) + if iN n = blk i then _ else 0 : ℝ) : EReal)
    split
    · rw [EReal.coe_add]; rfl
    · rw [add_zero]; rfl

/-- The gradient of the values, of the keys and of the queries of one head. -/
theorem dv_real (i : Fin 4096) (e : Fin 128) :
    k0_pay4 (dvF x1 x2 x4 x5 bias0 pr 36 zeroV) (ix3 0 i e) = ((∑ j, wt q k cS mx j i * d j e : ℝ) : EReal) := by
  rw [pay4_apply, dvF_real H i e 36 (le_refl _)]
  refine congrArg _ (sum_walk_rows (fun m : Fin 36 => jN m.val) (fun m => iN m.val) (fun R J => R.val ≤ J.val) card_key (blk i) (fun j => wt q k cS mx j i * d j e) fun j hj => ?_)
  have hj' : ¬ i.val / 512 ≤ j.val / 512 := hj
  rw [wt_masked q k cS mx _ _ (by omega), zero_mul]

theorem dk_real (i : Fin 4096) (e : Fin 192) :
    k0_pay3 (dkF x1 x2 x3 x4 x5 x6 bias0 pr 36 zeroQ) (ix3 0 i e) = ((∑ j, ds q k v d cS mx j i * q j e : ℝ) : EReal) := by
  rw [pay3_apply, dkF_real H i e 36 (le_refl _)]
  refine congrArg _ (sum_walk_rows (fun m : Fin 36 => jN m.val) (fun m => iN m.val) (fun R J => R.val ≤ J.val) card_key (blk i) (fun j => ds q k v d cS mx j i * q j e) fun j hj => ?_)
  have hj' : ¬ i.val / 512 ≤ j.val / 512 := hj
  rw [ds_masked q k v d cS mx _ _ (by omega), zero_mul]

theorem dq_real (i : Fin 4096) (e : Fin 192) :
    k0_pay2 (dqF x1 x2 x3 x4 x5 x6 bias0 pr 36 zeroQ) (ix3 0 i e) = ((∑ j, ds q k v d cS mx i j * k j e : ℝ) : EReal) := by
  rw [pay2_apply, dqF_real H i e 36 (le_refl _)]
  refine congrArg _ (sum_walk_rows (fun m : Fin 36 => iN m.val) (fun m => jN m.val) (fun R J => J.val ≤ R.val) card_query (blk i) (fun j => ds q k v d cS mx i j * k j e) fun j hj => ?_)
  have hj' : ¬ j.val / 512 ≤ i.val / 512 := hj
  rw [ds_masked q k v d cS mx _ _ (by omega), zero_mul]

end Head

end Cert.AttnBwdIdeal.Hand

end
-- ==== Proof.AttnHost.lean ====
/- What the host lines before the attention kernel hand it: each row's log-sum and weighted sum of products. -/
module

public import proofs.«01_k».proof.Proof.AttnRef
public import proofs.«01_k».proof.Proof.AttnPair
public import Idealize.ShloMosaic.Lib.StableHlo.RunRead
public import Idealize.ShloMosaic.Lib.Claim

@[expose] public section

set_option maxRecDepth 16384

noncomputable section

namespace Cert.AttnBwdIdeal.Hand

open Cert.AttnBwdIdeal Cert.AttnBwdIdeal.Gen Cert.AttnMath Cert.AttnRefIdeal.Hand
open Idealize.ShloMosaic Idealize.ShloMosaic.TcCoe Idealize.SL.Sem Idealize.ShloMosaic.StableHlo

/-- The scores masked, and each row's largest, in the reference's words. -/
abbrev msk (x0 x1 : Vec Ideal S8x4096x192 .bf16) : FVec Ideal S8x4096x4096 .f32 := Cert.AttnRefIdeal.Read.val_main_v16_0 (F := Ideal) x0 x1
abbrev big (x0 x1 : Vec Ideal S8x4096x192 .bf16) : FVec Ideal S8x4096 .f32 := Cert.AttnRefIdeal.Read.val_main_v17 (F := Ideal) x0 x1

/-- The exponentials and their sums, of masked scores `y` and largest scores `z`. -/
def hExp (y : FVec Ideal S8x4096x4096 .f32) (z : FVec Ideal S8x4096 .f32) : FVec Ideal S8x4096x4096 .f32 :=
  Host.exp (subf y (broadcastInDim S8x4096x4096 ![0, 1, 2] bcast_S8x4096x1_S8x4096x4096_0_1_2 (broadcastInDim S8x4096x1 ![0, 1] bcast_S8x4096_S8x4096x1_0_1 z)))
def hSum (y : FVec Ideal S8x4096x4096 .f32) (z : FVec Ideal S8x4096 .f32) : FVec Ideal S8x4096x1 .f32 :=
  broadcastInDim S8x4096x1 ![0, 1] bcast_S8x4096_S8x4096x1_0_1 (Host.reduceAdd (hExp y z) (constant S_ .f32 0x00000000#32) reducesTo_S8x4096x4096_S8x4096_d2 h_S_)
/-- The log-sums, and the weighted sums of products. -/
def hLse (y : FVec Ideal S8x4096x4096 .f32) (z : FVec Ideal S8x4096 .f32) : FVec Ideal S8x8x1x512 .f32 :=
  shapeCast S8x8x1x512 (addf (broadcastInDim S8x4096x1 ![0, 1] bcast_S8x4096_S8x4096x1_0_1 z) (Host.log (hSum y z))) shapeCasts_S8x4096x1_S8x8x1x512
def hOut (y : FVec Ideal S8x4096x4096 .f32) (z : FVec Ideal S8x4096 .f32) (x2 : FVec Ideal S8x4096x128 .bf16) : FVec Ideal S8x4096x128 .f32 :=
  Host.dotGeneral dot_S8x4096x4096_S8x4096x128_S8x4096x128_2_1_1_2_0_0 none
    (Host.divf (hExp y z) (broadcastInDim S8x4096x4096 ![0, 1, 2] bcast_S8x4096x1_S8x4096x4096_0_1_2 (hSum y z))) (extf (φ := .bf16) .f32 x2 bitsLt_bf16_f32)
def hDel (o : FVec Ideal S8x4096x128 .f32) (x3 : FVec Ideal S4096x1024 .f32) : FVec Ideal S8x8x1x512 .f32 :=
  shapeCast S8x8x1x512 (Host.reduceAdd (mulf (transpose S8x4096x128 [1, 0, 2] (shapeCast S4096x8x128 x3 shapeCasts_S4096x1024_S4096x8x128) transposes_S4096x8x128_S8x4096x128_1_0_2) o)
    (constant S_ .f32 0x00000000#32) reducesTo_S8x4096x128_S8x4096_d2 h_S_) shapeCasts_S8x4096_S8x8x1x512

variable (m : (ℓ : Loc nD τ sig) → Buf (Elt Ideal) ℓ)

abbrev argQ (c : Dev nD) : Vec Ideal S8x4096x192 .bf16 := m ((c : Thread nD τ).loc main_arg0)
abbrev argK (c : Dev nD) : Vec Ideal S8x4096x192 .bf16 := m ((c : Thread nD τ).loc main_arg1)
abbrev argV (c : Dev nD) : Vec Ideal S8x4096x128 .bf16 := m ((c : Thread nD τ).loc main_arg2)
abbrev argD (c : Dev nD) : FVec Ideal S4096x1024 .f32 := m ((c : Thread nD τ).loc main_arg3)

set_option maxHeartbeats 4000000 in
theorem V_v26 (c : Dev nD) : V (F := Ideal) m c main_v26 = hLse (msk (argQ m c) (argK m c)) (big (argQ m c) (argK m c)) := by
  unfold_abbrev_sides
  after_reads_simp
  rfl

set_option maxHeartbeats 4000000 in
theorem V_v34 (c : Dev nD) : V (F := Ideal) m c main_v34 = hDel (hOut (msk (argQ m c) (argK m c)) (big (argQ m c) (argK m c)) (argV m c)) (argD m c) := by
  unfold_abbrev_sides
  after_reads_simp
  rfl

/-- The row as a reshape counts it. -/
theorem row_eq (n : Fin 8) (s : Fin 512) (p : n.val * 512 + s.val < 4096) : (⟨n.val * 512 + s.val, p⟩ : Fin 4096) = row n s := by
  apply Fin.ext; show n.val * 512 + s.val = 512 * n.val + s.val; omega

theorem hExp_at (y : FVec Ideal S8x4096x4096 .f32) (z : FVec Ideal S8x4096 .f32) (h : Fin 8) (i j : Fin 4096) :
    hExp y z (ix3 h i j) = Ideal.exp (y (ix3 h i j) - z (ix2 h i)) := by
  unfold hExp
  pointwise

theorem hSum_at (y : FVec Ideal S8x4096x4096 .f32) (z : FVec Ideal S8x4096 .f32) (h : Fin 8) (i : Fin 4096) :
    hSum y z (ix3 h i 0) = ∑ j : Fin 4096, hExp y z (ix3 h i j) := by
  unfold hSum
  generalize hExp y z = e
  pointwise

theorem hLse_at (y : FVec Ideal S8x4096x4096 .f32) (z : FVec Ideal S8x4096 .f32) (h n : Fin 8) (s : Fin 512) :
    hLse y z (ix4 h n 0 s) = z (ix2 h (row n s)) + Ideal.log (hSum y z (ix3 h (row n s) 0)) := by
  unfold hLse
  generalize hSum y z = e
  pointwise
  rw [row_eq]

theorem hOut_at (y : FVec Ideal S8x4096x4096 .f32) (z : FVec Ideal S8x4096 .f32) (x2 : FVec Ideal S8x4096x128 .bf16) (h : Fin 8) (i : Fin 4096) (e : Fin 128) :
    hOut y z x2 (ix3 h i e) = ∑ j : Fin 4096, Ideal.div (hExp y z (ix3 h i j)) (hSum y z (ix3 h i 0)) * x2 (ix3 h j e) := by
  unfold hOut
  generalize hExp y z = a
  generalize hSum y z = b
  pointwise

theorem hDel_at (o : FVec Ideal S8x4096x128 .f32) (x3 : FVec Ideal S4096x1024 .f32) (h n : Fin 8) (s : Fin 512) :
    hDel o x3 (ix4 h n 0 s) = ∑ e : Fin 128, x3 (ix2 (row n s) (hcol h e)) * o (ix3 h (row n s) e) := by
  unfold hDel
  pointwise
  simp only [row_eq]
  rfl

/-! ## Of real arrays -/

variable {x0 x1 : Vec Ideal S8x4096x192 .bf16} {x2 : Vec Ideal S8x4096x128 .bf16} {x3 : Vec Ideal S4096x1024 .f32}
variable {q k : Fin 8 → Fin 4096 → Fin 192 → ℝ} {v d : Fin 8 → Fin 4096 → Fin 128 → ℝ}
variable (H : Args x0 x1 x2 x3 q k v d)

include H in
theorem hExp_real (h : Fin 8) (i j : Fin 4096) : hExp (msk x0 x1) (big x0 x1) (ix3 h i j) = (ex (q h) (k h) cS (mxR x0 x1 h) i j : EReal) := by
  rw [hExp_at, msk, big, v16_at H, v17_at H]
  generalize mxR x0 x1 h = w
  unfold ex
  split
  · rw [← EReal.coe_sub, Ideal.exp_coe]
  · rw [EReal.bot_sub]; exact Ideal.exp_bot

include H in
theorem hSum_real (h : Fin 8) (i : Fin 4096) : hSum (msk x0 x1) (big x0 x1) (ix3 h i 0) = (tot (q h) (k h) cS (mxR x0 x1 h) i : EReal) := by
  rw [hSum_at]
  unfold tot
  rw [coe_sum]
  exact Finset.sum_congr rfl fun j _ => hExp_real H h i j

include H in
theorem hLse_real (h n : Fin 8) (s : Fin 512) : hLse (msk x0 x1) (big x0 x1) (ix4 h n 0 s)
    = ((mxR x0 x1 h (row n s) + Real.log (tot (q h) (k h) cS (mxR x0 x1 h) (row n s)) : ℝ) : EReal) := by
  rw [hLse_at, hSum_real H, big, v17_at H, Ideal.log_coe, if_neg (not_le.mpr (tot_pos _ _ _ _ _)), EReal.coe_add]

include H in
theorem hOut_real (h : Fin 8) (i : Fin 4096) (e : Fin 128) : hOut (msk x0 x1) (big x0 x1) x2 (ix3 h i e)
    = ((∑ j, wt (q h) (k h) cS (mxR x0 x1 h) i j * v h j e : ℝ) : EReal) := by
  rw [hOut_at, coe_sum]
  refine Finset.sum_congr rfl fun j _ => ?_
  rw [hExp_real H, hSum_real H, H.hv, Ideal.div_coe (tot_pos _ _ _ _ i).ne', ← EReal.coe_mul, ← EReal.coe_mul, mul_one_div]
  rfl

include H in
theorem hDel_real (h n : Fin 8) (s : Fin 512) : hDel (hOut (msk x0 x1) (big x0 x1) x2) x3 (ix4 h n 0 s)
    = (del (q h) (k h) (v h) (d h) cS (mxR x0 x1 h) (row n s) : EReal) := by
  rw [hDel_at, ← del_eq, coe_sum]
  refine Finset.sum_congr rfl fun e _ => ?_
  rw [hOut_real H, H.hd, EReal.coe_mul]

end Cert.AttnBwdIdeal.Hand

end
-- ==== Proof.AttnValue.lean ====
/- The value of the attention's backward kernel, idealized: each grid point writes its head's part of the three
   gradients, and the points cover the result arrays. -/
module

public import proofs.«01_k».proof.Proof.AttnHost
public import proofs.«01_k».proof.Proof.AttnRun
public import Idealize.ShloMosaic.Lib.Pipeline.Value

@[expose] public section

set_option maxRecDepth 16384

noncomputable section

namespace Cert.AttnBwdIdeal.Hand

open Cert.AttnBwdIdeal Cert.AttnBwdIdeal.Gen Cert.AttnMath
open Cert.AttnRefIdeal.Hand (Args mxR hcol v70_at v71_at v72_at)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's three gradients, of the arguments as launched. -/
def gradQ (c : Dev nD) : Vec Ideal S8x4096x192 .bf16 := Cert.AttnRefIdeal.Read.val_main_v72 (F := Ideal) (argQ m c) (argK m c) (argV m c) (argD m c)
def gradK (c : Dev nD) : Vec Ideal S8x4096x192 .bf16 := Cert.AttnRefIdeal.Read.val_main_v71 (F := Ideal) (argQ m c) (argK m c) (argV m c) (argD m c)
def gradV (c : Dev nD) : Vec Ideal S8x4096x128 .bf16 := Cert.AttnRefIdeal.Read.val_main_v70 (F := Ideal) (argQ m c) (argK m c) (argD m c)

/-- Where the windows' blocks lie, decided over the grid. -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = 0 ∧ win0_3.index t 1 = t.val)
    ∧ (win0_4.index t 0 = t.val ∧ win0_4.index t 1 = 0 ∧ win0_4.index t 2 = 0 ∧ win0_4.index t 3 = 0)
    ∧ (win0_5.index t 0 = t.val ∧ win0_5.index t 1 = 0 ∧ win0_5.index t 2 = 0 ∧ win0_5.index t 3 = 0)
    ∧ (win0_6.index t 0 = t.val ∧ win0_6.index t 1 = 0 ∧ win0_6.index t 2 = 0)
    ∧ (win0_7.index t 0 = t.val ∧ win0_7.index t 1 = 0 ∧ win0_7.index t 2 = 0)
    ∧ (win0_8.index t 0 = t.val ∧ win0_8.index t 1 = 0 ∧ win0_8.index t 2 = 0) :=
  (by decide +kernel : ∀ t : Fin grid0.N, _)

/-- The head of a grid point. -/
def hd (t : Fin cfg0.N) : Fin 8 := ⟨t.val, lt_of_lt_of_eq t.isLt N_0⟩

theorem blk0 (c : Dev nD) (t : Fin cfg0.N) (r : Fin 4096) (e : Fin 192) :
    (iblk m c 0 t : Vec Ideal S1x4096x192 .bf16) (ix3 0 r e) = argQ m c (ix3 (hd t) r e) := by
  obtain ⟨⟨e0, e1, e2⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val; rw [e0]; omega
  | ⟨1, _⟩ => show win0_0.index t 1 * 4096 + 1 * r.val = r.val; rw [e1]; omega
  | ⟨2, _⟩ => show win0_0.index t 2 * 192 + 1 * e.val = e.val; rw [e2]; omega

theorem blk1 (c : Dev nD) (t : Fin cfg0.N) (r : Fin 4096) (e : Fin 192) :
    (iblk m c 1 t : Vec Ideal S1x4096x192 .bf16) (ix3 0 r e) = argK m c (ix3 (hd t) r e) := by
  obtain ⟨-, ⟨e0, e1, e2⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val; rw [e0]; omega
  | ⟨1, _⟩ => show win0_1.index t 1 * 4096 + 1 * r.val = r.val; rw [e1]; omega
  | ⟨2, _⟩ => show win0_1.index t 2 * 192 + 1 * e.val = e.val; rw [e2]; omega

theorem blk2 (c : Dev nD) (t : Fin cfg0.N) (r : Fin 4096) (e : Fin 128) :
    (iblk m c 2 t : Vec Ideal S1x4096x128 .bf16) (ix3 0 r e) = argV m c (ix3 (hd t) r e) := by
  obtain ⟨-, -, ⟨e0, e1, e2⟩, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = t.val; rw [e0]; omega
  | ⟨1, _⟩ => show win0_2.index t 1 * 4096 + 1 * r.val = r.val; rw [e1]; omega
  | ⟨2, _⟩ => show win0_2.index t 2 * 128 + 1 * e.val = e.val; rw [e2]; omega

theorem blk3 (c : Dev nD) (t : Fin cfg0.N) (r : Fin 4096) (e : Fin 128) :
    (iblk m c 3 t : Vec Ideal S4096x128 .f32) (ix2 r e) = argD m c (ix2 r (hcol (hd t) e)) := by
  obtain ⟨-, -, -, ⟨e0, e1⟩, -⟩ := idx_facts t
  unfold iblk
  rw [View.read_apply]
  show V m c main_arg3 _ = m (c.tc.loc main_arg3) _
  rw [V_main_arg3]
  congr 1
  funext a
  apply Fin.ext
  match a with
  | ⟨0, _⟩ => show win0_3.index t 0 * 4096 + 1 * r.val = r.val; rw [e0]; omega
  | ⟨1, _⟩ => show win0_3.index t 1 * 128 + 1 * e.val = t.val * 128 + e.val; rw [e1]; omega

theorem at4 (g : (b : Ref sig .tc) → Buf (Elt Ideal) (((0 : Dev nD).tc : Thread nD τ).loc b)) (t : Fin cfg0.N) (n : Fin 8) (s : Fin 512) :
    (((cfg0.win 4).blk t).view.read (Elt Ideal) (g (Pipeline.arrRef spec0 4)) : Vec Ideal S1x8x1x512 .f32) (ix4 0 n 0 s) = (g main_v26 : Vec Ideal S8x8x1x512 .f32) (ix4 (hd t) n 0 s) := by
  obtain ⟨-, -, -, -, ⟨e0, e1, e2, e3⟩, -⟩ := idx_facts t
  rw [View.read_apply]
  show g main_v26 _ = g main_v26 _
  congr 1
  funext a
  apply Fin.ext
  match a with
  | ⟨0, _⟩ => show win0_4.index t 0 * 1 + 1 * 0 = t.val; rw [e0]; omega
  | ⟨1, _⟩ => show win0_4.index t 1 * 8 + 1 * n.val = n.val; rw [e1]; omega
  | ⟨2, _⟩ => show win0_4.index t 2 * 1 + 1 * 0 = 0; rw [e2]
  | ⟨3, _⟩ => show win0_4.index t 3 * 512 + 1 * s.val = s.val; rw [e3]; omega

theorem blk4 (c : Dev nD) (t : Fin cfg0.N) (n : Fin 8) (s : Fin 512) :
    (iblk m c 4 t : Vec Ideal S1x8x1x512 .f32) (ix4 0 n 0 s) = hLse (msk (argQ m c) (argK m c)) (big (argQ m c) (argK m c)) (ix4 (hd t) n 0 s) :=
  (at4 (V (F := Ideal) m c) t n s).trans (congrFun (V_v26 m c) _)

theorem at5 (g : (b : Ref sig .tc) → Buf (Elt Ideal) (((0 : Dev nD).tc : Thread nD τ).loc b)) (t : Fin cfg0.N) (n : Fin 8) (s : Fin 512) :
    (((cfg0.win 5).blk t).view.read (Elt Ideal) (g (Pipeline.arrRef spec0 5)) : Vec Ideal S1x8x1x512 .f32) (ix4 0 n 0 s) = (g main_v34 : Vec Ideal S8x8x1x512 .f32) (ix4 (hd t) n 0 s) := by
  obtain ⟨-, -, -, -, -, ⟨e0, e1, e2, e3⟩, -⟩ := idx_facts t
  rw [View.read_apply]
  show g main_v34 _ = g main_v34 _
  congr 1
  funext a
  apply Fin.ext
  match a with
  | ⟨0, _⟩ => show win0_5.index t 0 * 1 + 1 * 0 = t.val; rw [e0]; omega
  | ⟨1, _⟩ => show win0_5.index t 1 * 8 + 1 * n.val = n.val; rw [e1]; omega
  | ⟨2, _⟩ => show win0_5.index t 2 * 1 + 1 * 0 = 0; rw [e2]
  | ⟨3, _⟩ => show win0_5.index t 3 * 512 + 1 * s.val = s.val; rw [e3]; omega

theorem blk5 (c : Dev nD) (t : Fin cfg0.N) (n : Fin 8) (s : Fin 512) :
    (iblk m c 5 t : Vec Ideal S1x8x1x512 .f32) (ix4 0 n 0 s) = hDel (hOut (msk (argQ m c) (argK m c)) (big (argQ m c) (argK m c)) (argV m c)) (argD m c) (ix4 (hd t) n 0 s) :=
  (at5 (V (F := Ideal) m c) t n s).trans (congrFun (V_v34 m c) _)

section

variable {m}
variable {c : Dev nD} {q k : Fin 8 → Fin 4096 → Fin 192 → ℝ} {v d : Fin 8 → Fin 4096 → Fin 128 → ℝ}
variable (H : Args (argQ m c) (argK m c) (argV m c) (argD m c) q k v d)

include H in
/-- A grid point's blocks, of real arguments: its head's rows, and their log-sums and weighted sums of products. -/
theorem blocks_real (t : Fin cfg0.N) : Reals (iblk m c 0 t) (iblk m c 1 t) (iblk m c 2 t) (iblk m c 3 t) (iblk m c 4 t) (iblk m c 5 t)
    (q (hd t)) (k (hd t)) (v (hd t)) (d (hd t)) (mxR (argQ m c) (argK m c) (hd t)) where
  hq r e := (blk0 m c t r e).trans (H.hq _ _ _)
  hk r e := (blk1 m c t r e).trans (H.hk _ _ _)
  hv r e := (blk2 m c t r e).trans (H.hv _ _ _)
  hd r e := (blk3 m c t r e).trans (H.hd _ _ _)
  hlse n s := (blk4 m c t n s).trans (hLse_real H _ _ _)
  hdel n s := (blk5 m c t n s).trans (hDel_real H _ _ _)

include H in
theorem dqAt_eq (t : Fin cfg0.N) (i : Fin 4096) (e : Fin 192) : dqAt m c t (ix3 0 i e) = gradQ m c (ix3 (hd t) i e) :=
  (dq_real (blocks_real H t) i e).trans (v72_at H (hd t) i e).symm

include H in
/-- Point `t` writes its head of the queries' gradient. -/
theorem flushed6_eq (t : Fin cfg0.N) : (dats m 0 c).flushed 6 t = ((cfg0.win 6).blk t).view.read (Elt Ideal) (gradQ m c) := by
  obtain ⟨-, -, -, -, -, -, ⟨e0, e1, e2⟩, -⟩ := idx_facts t
  show (cfg0.win 6).cut (grid0.coords t) ((dats m 0 c).after 6 t) = _
  rw [after0_6]
  funext y
  rw [View.read_apply]
  show dqAt m c t (y : S1x4096x192.Idx) = _
  have y0 : (y 0).val < 1 := (y 0).isLt
  have ey : (y : S1x4096x192.Idx) = ix3 0 (y 1 : Fin 4096) (y 2 : Fin 192) := by
    funext a
    apply Fin.ext
    match a with
    | ⟨0, _⟩ => show (y 0).val = 0; omega
    | ⟨1, _⟩ => rfl
    | ⟨2, _⟩ => rfl
  refine (congrArg (dqAt m c t) ey).trans ((dqAt_eq H t (y 1 : Fin 4096) (y 2 : Fin 192)).trans ?_)
  generalize gradQ m c = g
  refine congrArg g ?_
  funext a
  apply Fin.ext
  match a with
  | ⟨0, _⟩ => show t.val = win0_6.index t 0 * 1 + 1 * (y 0).val; rw [e0]; omega
  | ⟨1, _⟩ => show (y 1).val = win0_6.index t 1 * 4096 + 1 * (y 1).val; rw [e1]; omega
  | ⟨2, _⟩ => show (y 2).val = win0_6.index t 2 * 192 + 1 * (y 2).val; rw [e2]; omega

include H in
theorem dkAt_eq (t : Fin cfg0.N) (i : Fin 4096) (e : Fin 192) : dkAt m c t (ix3 0 i e) = gradK m c (ix3 (hd t) i e) :=
  (dk_real (blocks_real H t) i e).trans (v71_at H (hd t) i e).symm

include H in
/-- Point `t` writes its head of the keys' gradient. -/
theorem flushed7_eq (t : Fin cfg0.N) : (dats m 0 c).flushed 7 t = ((cfg0.win 7).blk t).view.read (Elt Ideal) (gradK m c) := by
  obtain ⟨-, -, -, -, -, -, -, ⟨e0, e1, e2⟩, -⟩ := idx_facts t
  show (cfg0.win 7).cut (grid0.coords t) ((dats m 0 c).after 7 t) = _
  rw [after0_7]
  funext y
  rw [View.read_apply]
  show dkAt m c t (y : S1x4096x192.Idx) = _
  have y0 : (y 0).val < 1 := (y 0).isLt
  have ey : (y : S1x4096x192.Idx) = ix3 0 (y 1 : Fin 4096) (y 2 : Fin 192) := by
    funext a
    apply Fin.ext
    match a with
    | ⟨0, _⟩ => show (y 0).val = 0; omega
    | ⟨1, _⟩ => rfl
    | ⟨2, _⟩ => rfl
  refine (congrArg (dkAt m c t) ey).trans ((dkAt_eq H t (y 1 : Fin 4096) (y 2 : Fin 192)).trans ?_)
  generalize gradK m c = g
  refine congrArg g ?_
  funext a
  apply Fin.ext
  match a with
  | ⟨0, _⟩ => show t.val = win0_7.index t 0 * 1 + 1 * (y 0).val; rw [e0]; omega
  | ⟨1, _⟩ => show (y 1).val = win0_7.index t 1 * 4096 + 1 * (y 1).val; rw [e1]; omega
  | ⟨2, _⟩ => show (y 2).val = win0_7.index t 2 * 192 + 1 * (y 2).val; rw [e2]; omega

include H in
theorem dvAt_eq (t : Fin cfg0.N) (i : Fin 4096) (e : Fin 128) : dvAt m c t (ix3 0 i e) = gradV m c (ix3 (hd t) i e) :=
  (dv_real (blocks_real H t) i e).trans (v70_at H (hd t) i e).symm

include H in
/-- Point `t` writes its head of the values' gradient. -/
theorem flushed8_eq (t : Fin cfg0.N) : (dats m 0 c).flushed 8 t = ((cfg0.win 8).blk t).view.read (Elt Ideal) (gradV m c) := by
  obtain ⟨-, -, -, -, -, -, -, -, ⟨e0, e1, e2⟩⟩ := idx_facts t
  show (cfg0.win 8).cut (grid0.coords t) ((dats m 0 c).after 8 t) = _
  rw [after0_8]
  funext y
  rw [View.read_apply]
  show dvAt m c t (y : S1x4096x128.Idx) = _
  have y0 : (y 0).val < 1 := (y 0).isLt
  have ey : (y : S1x4096x128.Idx) = ix3 0 (y 1 : Fin 4096) (y 2 : Fin 128) := by
    funext a
    apply Fin.ext
    match a with
    | ⟨0, _⟩ => show (y 0).val = 0; omega
    | ⟨1, _⟩ => rfl
    | ⟨2, _⟩ => rfl
  refine (congrArg (dvAt m c t) ey).trans ((dvAt_eq H t (y 1 : Fin 4096) (y 2 : Fin 128)).trans ?_)
  generalize gradV m c = g
  refine congrArg g ?_
  funext a
  apply Fin.ext
  match a with
  | ⟨0, _⟩ => show t.val = win0_8.index t 0 * 1 + 1 * (y 0).val; rw [e0]; omega
  | ⟨1, _⟩ => show (y 1).val = win0_8.index t 1 * 4096 + 1 * (y 1).val; rw [e1]; omega
  | ⟨2, _⟩ => show (y 2).val = win0_8.index t 2 * 128 + 1 * (y 2).val; rw [e2]; omega

end

/-- Every index of the queries' gradient lies in its head's block. -/
theorem cover6 (i : S8x4096x192.Idx) : ∃ t : Fin cfg0.N, (cfg0.win 6).flush t = true ∧ i ∈ ((cfg0.win 6).blk t).view.set := by
  have h0 : (i 0 : Nat) < 8 := (i 0).isLt
  have h1 : (i 1 : Nat) < 4096 := (i 1).isLt
  have h2 : (i 2 : Nat) < 192 := (i 2).isLt
  have hN : cfg0.N = 8 := N_0
  refine ⟨⟨(i 0 : Nat), by omega⟩, flush0_6 _, ?_⟩
  generalize ht : (⟨(i 0 : Nat), _⟩ : Fin cfg0.N) = t
  have hv : t.val = (i 0 : Nat) := by rw [← ht]
  obtain ⟨-, -, -, -, -, -, ⟨e0, e1, e2⟩, -⟩ := idx_facts t
  show i ∈ ((View.whole main_v35_0).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1; rw [e0]; omega
  | ⟨1, _⟩ => show win0_6.index t 1 * 4096 ≤ (i 1 : Nat) ∧ (i 1 : Nat) < win0_6.index t 1 * 4096 + 4096; rw [e1]; omega
  | ⟨2, _⟩ => show win0_6.index t 2 * 192 ≤ (i 2 : Nat) ∧ (i 2 : Nat) < win0_6.index t 2 * 192 + 192; rw [e2]; omega

/-- Every index of the keys' gradient lies in its head's block. -/
theorem cover7 (i : S8x4096x192.Idx) : ∃ t : Fin cfg0.N, (cfg0.win 7).flush t = true ∧ i ∈ ((cfg0.win 7).blk t).view.set := by
  have h0 : (i 0 : Nat) < 8 := (i 0).isLt
  have h1 : (i 1 : Nat) < 4096 := (i 1).isLt
  have h2 : (i 2 : Nat) < 192 := (i 2).isLt
  have hN : cfg0.N = 8 := N_0
  refine ⟨⟨(i 0 : Nat), by omega⟩, flush0_7 _, ?_⟩
  generalize ht : (⟨(i 0 : Nat), _⟩ : Fin cfg0.N) = t
  have hv : t.val = (i 0 : Nat) := by rw [← ht]
  obtain ⟨-, -, -, -, -, -, -, ⟨e0, e1, e2⟩, -⟩ := idx_facts t
  show i ∈ ((View.whole main_v35_1).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1; rw [e0]; omega
  | ⟨1, _⟩ => show win0_7.index t 1 * 4096 ≤ (i 1 : Nat) ∧ (i 1 : Nat) < win0_7.index t 1 * 4096 + 4096; rw [e1]; omega
  | ⟨2, _⟩ => show win0_7.index t 2 * 192 ≤ (i 2 : Nat) ∧ (i 2 : Nat) < win0_7.index t 2 * 192 + 192; rw [e2]; omega

/-- Every index of the values' gradient lies in its head's block. -/
theorem cover8 (i : S8x4096x128.Idx) : ∃ t : Fin cfg0.N, (cfg0.win 8).flush t = true ∧ i ∈ ((cfg0.win 8).blk t).view.set := by
  have h0 : (i 0 : Nat) < 8 := (i 0).isLt
  have h1 : (i 1 : Nat) < 4096 := (i 1).isLt
  have h2 : (i 2 : Nat) < 128 := (i 2).isLt
  have hN : cfg0.N = 8 := N_0
  refine ⟨⟨(i 0 : Nat), by omega⟩, flush0_8 _, ?_⟩
  generalize ht : (⟨(i 0 : Nat), _⟩ : Fin cfg0.N) = t
  have hv : t.val = (i 0 : Nat) := by rw [← ht]
  obtain ⟨-, -, -, -, -, -, -, -, ⟨e0, e1, e2⟩⟩ := idx_facts t
  show i ∈ ((View.whole main_v35_2).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1; rw [e0]; omega
  | ⟨1, _⟩ => show win0_8.index t 1 * 4096 ≤ (i 1 : Nat) ∧ (i 1 : Nat) < win0_8.index t 1 * 4096 + 4096; rw [e1]; omega
  | ⟨2, _⟩ => show win0_8.index t 2 * 128 ≤ (i 2 : Nat) ∧ (i 2 : Nat) < win0_8.index t 2 * 128 + 128; rw [e2]; omega

theorem entry (c : Dev nD) (w : Fin cfg0.W) : (dats (F := Ideal) m 0 c).A w = V m c (Pipeline.arrRef spec0 w) := rfl

theorem post6 (r : PUnit × MemSt nD τ sig (Elt Ideal)) (h : Pipeline.FramePost cfgs (dats m) 0 (V m) r) (c : Dev nD) :
    r.2.mem ((c : Thread nD τ).loc main_v35_0) = (dats m 0 c).arrAt 6 cfg0.N := (h c).1 6

theorem final6 {m} {c : Dev nD} {q k : Fin 8 → Fin 4096 → Fin 192 → ℝ} {v d : Fin 8 → Fin 4096 → Fin 128 → ℝ}
    (H : Args (argQ m c) (argK m c) (argV m c) (argD m c) q k v d) : (dats m 0 c).arrAt 6 cfg0.N = gradQ m c :=
  (dats m 0 c).arrAt_eq_of_cover 6 _ (fun t _ => flushed6_eq H t) cover6

theorem post7 (r : PUnit × MemSt nD τ sig (Elt Ideal)) (h : Pipeline.FramePost cfgs (dats m) 0 (V m) r) (c : Dev nD) :
    r.2.mem ((c : Thread nD τ).loc main_v35_1) = (dats m 0 c).arrAt 7 cfg0.N := (h c).1 7

theorem final7 {m} {c : Dev nD} {q k : Fin 8 → Fin 4096 → Fin 192 → ℝ} {v d : Fin 8 → Fin 4096 → Fin 128 → ℝ}
    (H : Args (argQ m c) (argK m c) (argV m c) (argD m c) q k v d) : (dats m 0 c).arrAt 7 cfg0.N = gradK m c :=
  (dats m 0 c).arrAt_eq_of_cover 7 _ (fun t _ => flushed7_eq H t) cover7

theorem post8 (r : PUnit × MemSt nD τ sig (Elt Ideal)) (h : Pipeline.FramePost cfgs (dats m) 0 (V m) r) (c : Dev nD) :
    r.2.mem ((c : Thread nD τ).loc main_v35_2) = (dats m 0 c).arrAt 8 cfg0.N := (h c).1 8

theorem final8 {m} {c : Dev nD} {q k : Fin 8 → Fin 4096 → Fin 192 → ℝ} {v d : Fin 8 → Fin 4096 → Fin 128 → ℝ}
    (H : Args (argQ m c) (argK m c) (argV m c) (argD m c) q k v d) : (dats m 0 c).arrAt 8 cfg0.N = gradV m c :=
  (dats m 0 c).arrAt_eq_of_cover 8 _ (fun t _ => flushed8_eq H t) cover8

/-- The run, of real arguments: the three results at the reference's gradients, the arguments unchanged. -/
theorem run_grads (H : ∀ c, ∃ q k v d, Args (argQ m c) (argK m c) (argV m c) (argD m c) q k v d) :
    θ_run defs (onTc (τ := τ) (main (F := Ideal))) ⟨m, fun _ => 0, ρ⟩ fun r => ∀ c : Dev nD,
      r.2.mem ((c : Thread nD τ).loc main_v35_0) = (gradQ m c)
      ∧ r.2.mem ((c : Thread nD τ).loc main_v35_1) = (gradK m c)
      ∧ r.2.mem ((c : Thread nD τ).loc main_v35_2) = (gradV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r hr c => ?_) (run_main (F := Ideal) m ρ)
  obtain ⟨q, k, v, d, Hc⟩ := H c
  refine ⟨?_, ?_, ?_, ?_, ?_, ?_, ?_⟩
  · exact (post6 m r hr.1 c).trans (final6 Hc)
  · exact (post7 m r hr.1 c).trans (final7 Hc)
  · exact (post8 m r hr.1 c).trans (final8 Hc)
  · exact ((hr.1 c).1 0).trans (((dats m 0 c).arrAt_in 0 rfl _).trans ((entry m c 0).trans (V_main_arg0 m c)))
  · exact ((hr.1 c).1 1).trans (((dats m 0 c).arrAt_in 1 rfl _).trans ((entry m c 1).trans (V_main_arg1 m c)))
  · exact ((hr.1 c).1 2).trans (((dats m 0 c).arrAt_in 2 rfl _).trans ((entry m c 2).trans (V_main_arg2 m c)))
  · exact ((hr.1 c).1 3).trans (((dats m 0 c).arrAt_in 3 rfl _).trans ((entry m c 3).trans (V_main_arg3 m c)))

end Cert.AttnBwdIdeal.Hand

end
-- ==== Proof.DownStep.lean ====
/- One grid point of the kernel for the gradient of the feed-forward's second matrix, idealized: what it leaves in the
   running sum it carries, and what the last point writes out. -/
module

public import proofs.«01_k».proof.Proof.Gen.DownGradIdeal.Value
public import Idealize.ShloMosaic.Lib.Pipeline.Value
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.DownGradIdeal.Hand

open Cert.DownGradIdeal Cert.DownGradIdeal.Gen

/-- The product of 512 rows. -/
def prod (x0 : Vec Ideal S4x512x704 .bf16) (x1 : Vec Ideal S512x1024 .f32) (y : S4x704x1024.Idx) : EReal :=
  ∑ s : Fin 512, x0 (ix3 (y 0 : Fin 4) s (y 1 : Fin 704)) * x1 (ix2 s (y 2 : Fin 1024))

/-- The running sum with that product added. -/
def stepAt (x0 : Vec Ideal S4x512x704 .bf16) (x1 : Vec Ideal S512x1024 .f32) (P : S4x704x1024.Idx → EReal) (y : S4x704x1024.Idx) : EReal :=
  P y + prod x0 x1 y

/-- One chip's stored payload, read at an index. -/
theorem pay_at (q : Vec Ideal S512x1024 .f32) (p : Vec Ideal S1x704x1024 .f32) (w : Vec Ideal S1x512x704 .bf16) (r : Fin 704) (l : Fin 1024) :
    k0_pay6 q p w (ix3 0 r l) = p (ix3 0 r l) + ∑ s : Fin 512, w (ix3 0 s r) * q (ix2 s l) := by
  unfold_payloads
  pointwise

theorem pay7_eq (q : Vec Ideal S512x1024 .f32) (p : Vec Ideal S1x704x1024 .f32) (w : Vec Ideal S1x512x704 .bf16) : k0_pay7 q p w = k0_pay6 q p w := rfl
theorem pay1_eq (q : Vec Ideal S512x1024 .f32) (p : Vec Ideal S1x704x1024 .f32) (w : Vec Ideal S1x512x704 .bf16) : k0_pay1 (k0_pay5 q) (k0_pay8 p) w = k0_pay6 q p w := rfl
theorem pay2_eq (q : Vec Ideal S512x1024 .f32) (p : Vec Ideal S1x704x1024 .f32) (w : Vec Ideal S1x512x704 .bf16) : k0_pay2 (k0_pay5 q) p w = k0_pay6 q p w := rfl

/-- The place of chip `k`'s index. -/
theorem emb_eq (k : Fin 4) {off : Fin 3 → ℕ} (hoff : off = ![k.val, 0, 0]) (inb : ∀ a, off a + ![1, 704, 1024] a ≤ S4x704x1024.size a) (x : S1x704x1024.Idx) :
    (Rect.unit (s := S4x704x1024) off ![1, 704, 1024] inb).emb x = ix3 k (x 1 : Fin 704) (x 2 : Fin 1024) := by
  subst hoff
  have hx : (x 0).val < 1 := (x 0).isLt
  funext a
  apply Fin.ext
  match a with
  | ⟨0, _⟩ => show k.val + 1 * (x 0).val = k.val; omega
  | ⟨1, _⟩ => show 0 + 1 * (x 1).val = (x 1).val; omega
  | ⟨2, _⟩ => show 0 + 1 * (x 2).val = (x 2).val; omega

theorem emb_x (k : Fin 4) {off : Fin 3 → ℕ} (hoff : off = ![k.val, 0, 0]) (inb : ∀ a, off a + ![1, 512, 704] a ≤ S4x512x704.size a) (s : Fin 512) (r : Fin 704) :
    (Rect.unit (s := S4x512x704) off ![1, 512, 704] inb).emb (ix3 0 s r : S1x512x704.Idx) = ix3 k s r := by
  subst hoff
  funext a
  apply Fin.ext
  match a with
  | ⟨0, _⟩ => show k.val + 1 * 0 = k.val; omega
  | ⟨1, _⟩ => show 0 + 1 * s.val = s.val; omega
  | ⟨2, _⟩ => show 0 + 1 * r.val = r.val; omega

theorem ld_whole (x1 : Vec Ideal S512x1024 .f32) (inb : ∀ a, (![0, 0] : Fin 2 → ℕ) a + ![512, 1024] a ≤ S512x1024.size a) :
    View.ld x1 (Rect.unit (s := S512x1024) ![0, 0] ![512, 1024] inb) = x1 := by
  funext y
  show x1 _ = x1 y
  congr 1
  funext a
  apply Fin.ext
  match a with
  | ⟨0, _⟩ => show 0 + 1 * (y 0).val = (y 0).val; omega
  | ⟨1, _⟩ => show 0 + 1 * (y 1).val = (y 1).val; omega

/-- A stored piece is the step's value at its place, whatever the running sum was read from. -/
theorem piece (x0 : Vec Ideal S4x512x704 .bf16) (x1 : Vec Ideal S512x1024 .f32) (P : S4x704x1024.Idx → EReal) (k : Fin 4) {off : Fin 3 → ℕ} (hoff : off = ![k.val, 0, 0])
    (inb : ∀ a, off a + ![1, 704, 1024] a ≤ S4x704x1024.size a) (inb' : ∀ a, off a + ![1, 512, 704] a ≤ S4x512x704.size a)
    (p : Vec Ideal S1x704x1024 .f32) (hp : ∀ x, p x = P ((Rect.unit (s := S4x704x1024) off ![1, 704, 1024] inb).emb x)) (x : S1x704x1024.Idx) :
    k0_pay6 x1 p (View.ld x0 (Rect.unit (s := S4x512x704) off ![1, 512, 704] inb')) x
      = stepAt x0 x1 P ((Rect.unit (s := S4x704x1024) off ![1, 704, 1024] inb).emb x) := by
  have hx : x = ix3 0 (x 1 : Fin 704) (x 2 : Fin 1024) := by
    have h0 : (x 0).val < 1 := (x 0).isLt
    funext a
    match a with
    | ⟨0, _⟩ => exact Fin.ext (show (x 0).val = 0 by omega)
    | ⟨1, _⟩ => rfl
    | ⟨2, _⟩ => rfl
  rw [hx]
  refine (pay_at x1 p _ (x 1) (x 2)).trans ?_
  rw [hp]
  have he := emb_eq k hoff inb (ix3 0 (x 1 : Fin 704) (x 2 : Fin 1024) : S1x704x1024.Idx)
  refine congrArg₂ (· + ·) rfl ?_
  refine (Finset.sum_congr rfl fun s _ => congrArg (· * _) (congrArg x0 (emb_x k hoff inb' s (x 1)))).trans ?_
  exact (congrArg (prod x0 x1) he).symm

variable (c : Dev nD) (i : grid0.Coords) (arg1 : Memref sig .tc .vmem S4x512x704 .bf16) (harg1 : arg1.IsWhole) (arg2 : Memref sig .tc .vmem S512x1024 .f32) (harg2 : arg2.IsWhole) (arg3 : Memref sig .tc .vmem S4x704x1024 .bf16) (harg3 : arg3.IsWhole) (arg4 : Memref sig .tc .vmem S4x704x1024 .f32) (harg4 : arg4.IsWhole)
  (x0 : Vec Ideal S4x512x704 .bf16) (x1 : Vec Ideal S512x1024 .f32) (xs0 : Vec Ideal S4x704x1024 .f32)

theorem sout_B (hc0 : ¬cond0_0 i) (hc1 : ¬cond0_1 i) (y : S4x704x1024.Idx) :
    sout0_B_0 c i arg1 harg1 arg2 harg2 arg3 harg3 arg4 harg4 hc0 hc1 x0 x1 xs0 y = stepAt x0 x1 xs0 y := by
  unfold sout0_B_0
  refine View.read_writes_apply_of_pieces (Val := Elt Ideal) _ _ (stepAt x0 x1 xs0 : S4x704x1024.Idx → Elt Ideal .f32) _ (View.PiecesOf.mem ?_) y (scover0_B_0 c i arg1 harg1 arg2 harg2 arg3 harg3 arg4 harg4 hc0 hc1 x0 x1 xs0 y)
  unfold kernelRun0_B
  dsimp only
  sl_unfold_run_names
  simp only [View.readAt_eq_ld, harg1.read_unread, harg2.read_unread, harg4.read_unread, pay7_eq, pay1_eq, pay2_eq, ld_whole]
  exact ⟨piece x0 x1 xs0 3 rfl _ _ _ fun _ => rfl, piece x0 x1 xs0 2 rfl _ _ _ fun _ => rfl, piece x0 x1 xs0 1 rfl _ _ _ fun _ => rfl,
    piece x0 x1 xs0 0 rfl _ _ _ fun _ => rfl, trivial⟩

theorem out_C (hc0 : ¬cond0_0 i) (hc1 : cond0_1 i) (y : S4x704x1024.Idx) :
    out0_C_2 c i arg1 harg1 arg2 harg2 arg3 harg3 arg4 harg4 hc0 hc1 x0 x1 xs0 y = stepAt x0 x1 xs0 y := by
  unfold out0_C_2
  refine View.read_writes_apply_of_pieces (Val := Elt Ideal) _ _ (stepAt x0 x1 xs0 : S4x704x1024.Idx → Elt Ideal .bf16) _ (View.PiecesOf.mem ?_) y (cover0_C_2 c i arg1 harg1 arg2 harg2 arg3 harg3 arg4 harg4 hc0 hc1 x0 x1 xs0 y)
  have hcov := scover0_C_0 c i arg1 harg1 arg2 harg2 arg3 harg3 arg4 harg4 hc0 hc1 x0 x1 xs0
  unfold kernelRun0_C at hcov ⊢
  dsimp only at hcov ⊢
  refine ⟨fun x => ?_, trivial⟩
  refine View.read_writes_apply_of_pieces (Val := Elt Ideal) _ _ (stepAt x0 x1 xs0 : S4x704x1024.Idx → Elt Ideal .f32) _ (View.PiecesOf.mem ?_) _ (hcov _)
  sl_unfold_run_names
  simp only [View.readAt_eq_ld, harg1.read_unread, harg2.read_unread, harg4.read_unread, pay7_eq, pay1_eq, pay2_eq, ld_whole]
  exact ⟨piece x0 x1 xs0 3 rfl _ _ _ fun _ => rfl, piece x0 x1 xs0 2 rfl _ _ _ fun _ => rfl, piece x0 x1 xs0 1 rfl _ _ _ fun _ => rfl,
    piece x0 x1 xs0 0 rfl _ _ _ fun _ => rfl, trivial⟩

theorem fill_eq (y : S4x704x1024.Idx) : k0_pay4 (F := Ideal) y = 0 := by
  idx_vars y
  unfold_payloads
  pointwise

/-- The four chips' boxes cover the running sum. -/
theorem cover4 (y : S4x704x1024.Idx) (w3 w2 w1 w0 : S1x704x1024.Idx → Elt Ideal .f32) :
    ∃ p ∈ ([⟨Rect.unit ![3, 0, 0] ![1, 704, 1024] inb_S4x704x1024_S1x704x1024_3_0_0, w3⟩, ⟨Rect.unit ![2, 0, 0] ![1, 704, 1024] inb_S4x704x1024_S1x704x1024_2_0_0, w2⟩,
      ⟨Rect.unit ![1, 0, 0] ![1, 704, 1024] inb_S4x704x1024_S1x704x1024_1_0_0, w1⟩, ⟨Rect.unit ![0, 0, 0] ![1, 704, 1024] inb_S4x704x1024_S1x704x1024_0_0_0, w0⟩] : List (View.Piece (Elt Ideal) S4x704x1024 .f32)), y ∈ p.1.set := by
  have h0 : (y 0).val < 4 := (y 0).isLt
  have key : ∀ (k : ℕ) (off : Fin 3 → ℕ) (inb : ∀ a, off a + ![1, 704, 1024] a ≤ S4x704x1024.size a), off = ![k, 0, 0] → (y 0).val = k →
      y ∈ (Rect.unit (s := S4x704x1024) off ![1, 704, 1024] inb).set := by
    rintro k off inb rfl hk
    refine Rect.mem_set_unit.mpr fun a => ?_
    match a with
    | ⟨0, _⟩ => exact ⟨show k ≤ (y 0).val by omega, show (y 0).val < k + 1 by omega⟩
    | ⟨1, _⟩ => exact ⟨Nat.zero_le _, show (y 1).val < 0 + 704 by have := (y 1).isLt; change (y 1).val < 704 at this; omega⟩
    | ⟨2, _⟩ => exact ⟨Nat.zero_le _, show (y 2).val < 0 + 1024 by have := (y 2).isLt; change (y 2).val < 1024 at this; omega⟩
  rcases (by omega : (y 0).val = 3 ∨ (y 0).val = 2 ∨ (y 0).val = 1 ∨ (y 0).val = 0) with h | h | h | h
  · exact ⟨_, List.mem_cons_self, key 3 _ inb_S4x704x1024_S1x704x1024_3_0_0 rfl h⟩
  · exact ⟨_, List.mem_cons_of_mem _ List.mem_cons_self, key 2 _ inb_S4x704x1024_S1x704x1024_2_0_0 rfl h⟩
  · exact ⟨_, List.mem_cons_of_mem _ (List.mem_cons_of_mem _ List.mem_cons_self), key 1 _ inb_S4x704x1024_S1x704x1024_1_0_0 rfl h⟩
  · exact ⟨_, List.mem_cons_of_mem _ (List.mem_cons_of_mem _ (List.mem_cons_of_mem _ List.mem_cons_self)), key 0 _ inb_S4x704x1024_S1x704x1024_0_0_0 rfl h⟩

theorem sout_A (hc0 : cond0_0 i) (hc1 : ¬cond0_1 i) (y : S4x704x1024.Idx) :
    sout0_A_0 c i arg1 harg1 arg2 harg2 arg3 harg3 arg4 harg4 hc0 hc1 x0 x1 y = stepAt x0 x1 (fun _ => 0) y := by
  unfold sout0_A_0
  rw [View.read_writes_junk_apply_eq_canon]
  unfold kernelRun0_A
  dsimp only
  sl_unfold_run_names
  simp (disch := decide) only [↓View.readCov_skip, ↓View.readCov_fill]
  simp only [View.readAt_eq_ld, harg1.read_unread, harg2.read_unread, harg4.read_unread, pay7_eq, pay1_eq, pay2_eq, ld_whole]
  refine View.canon_append_of_piecesOf (Val := Elt Ideal) (stepAt x0 x1 (fun _ => 0) : S4x704x1024.Idx → Elt Ideal .f32) [_] [_, _, _, _] ?_ y (cover4 y _ _ _ _)
  exact ⟨piece x0 x1 (fun _ => 0) 3 rfl inb_S4x704x1024_S1x704x1024_3_0_0 inb_S4x512x704_S1x512x704_3_0_0 _ fun _ => fill_eq _, piece x0 x1 (fun _ => 0) 2 rfl inb_S4x704x1024_S1x704x1024_2_0_0 inb_S4x512x704_S1x512x704_2_0_0 _ fun _ => fill_eq _, piece x0 x1 (fun _ => 0) 1 rfl inb_S4x704x1024_S1x704x1024_1_0_0 inb_S4x512x704_S1x512x704_1_0_0 _ fun _ => fill_eq _,
    piece x0 x1 (fun _ => 0) 0 rfl inb_S4x704x1024_S1x704x1024_0_0_0 inb_S4x512x704_S1x512x704_0_0_0 _ fun _ => fill_eq _, trivial⟩

end Cert.DownGradIdeal.Hand
-- ==== Proof.FfnSum.lean ====
/- A matrix's gradient summed over tokens a block of rows at a time, with no program in sight: the running sum after each
   block, and that after the last block it is the sum over all the tokens. -/
module

public import Idealize.ShloMosaic.Lib.Pointwise
public import proofs.«01_k».proof.Proof.AttnMath

@[expose] public section

noncomputable section

namespace Cert.FfnSum

open Idealize.ShloMosaic Cert.AttnMath

/-- The hidden values and the rows, token by column; the two stacked results, one slab per chip. -/
abbrev Hidden : Shape := ⟨2, ![4096, 2816]⟩
abbrev Rows : Shape := ⟨2, ![4096, 1024]⟩
abbrev Down : Shape := ⟨3, ![4, 704, 1024]⟩
abbrev Up : Shape := ⟨3, ![4, 1024, 704]⟩

/-- Hidden column `r` of chip `k`'s share. -/
def hid (k : Fin 4) (r : Fin 704) : Fin 2816 := ⟨k.val * 704 + r.val, by omega⟩

/-- One token's part of the second matrix's gradient, and the gradient: hidden value times cotangent, summed over tokens. -/
def downTok (Z : Hidden.Idx → EReal) (H : Rows.Idx → EReal) (y : Down.Idx) (i : Fin 4096) : EReal :=
  Z (ix2 i (hid (y 0 : Fin 4) (y 1 : Fin 704))) * H (ix2 i (y 2 : Fin 1024))
def downGrad (Z : Hidden.Idx → EReal) (H : Rows.Idx → EReal) (y : Down.Idx) : EReal := ∑ i : Fin 4096, downTok Z H y i

/-- The same of a first matrix: input times the hidden values' cotangent. -/
def upTok (A : Rows.Idx → EReal) (Y : Hidden.Idx → EReal) (y : Up.Idx) (i : Fin 4096) : EReal :=
  A (ix2 i (y 1 : Fin 1024)) * Y (ix2 i (hid (y 0 : Fin 4) (y 2 : Fin 704)))
def upGrad (A : Rows.Idx → EReal) (Y : Hidden.Idx → EReal) (y : Up.Idx) : EReal := ∑ i : Fin 4096, upTok A Y y i

/-- The block of rows that `n` counts, kept inside the eight. -/
def blockOf (n : ℕ) : Fin 8 := ⟨n % 8, Nat.mod_lt _ (by decide)⟩

/-- The sum of `f` over the rows of the blocks before `n`, the newest block added last. -/
def upto (f : Fin 4096 → EReal) : ℕ → EReal
  | 0 => 0
  | n + 1 => upto f n + ∑ s : Fin 512, f (row (blockOf n) s)

theorem upto_succ (f : Fin 4096 → EReal) (n : ℕ) : upto f (n + 1) = upto f n + ∑ s : Fin 512, f (row (blockOf n) s) := rfl

theorem upto_eq (f : Fin 4096 → EReal) (n : ℕ) : upto f n = ∑ j ∈ Finset.range n, ∑ s : Fin 512, f (row (blockOf j) s) := by
  induction n with
  | zero => rfl
  | succ n ih => rw [Finset.sum_range_succ, ← ih]; rfl

/-- All eight blocks are all the rows. -/
theorem upto_all (f : Fin 4096 → EReal) : upto f 8 = ∑ i : Fin 4096, f i := by
  rw [upto_eq, Finset.sum_range, ← Fintype.sum_prod_type']
  refine Fintype.sum_bijective (fun p : Fin 8 × Fin 512 => row (blockOf p.1.val) p.2) ⟨?_, ?_⟩ _ _ fun _ => rfl
  · rintro ⟨J, r⟩ ⟨J', r'⟩ h
    have h := congrArg Fin.val h
    change 512 * (J.val % 8) + r.val = 512 * (J'.val % 8) + r'.val at h
    exact Prod.ext (Fin.ext (show J.val = J'.val by omega)) (Fin.ext (show r.val = r'.val by omega))
  · intro i
    refine ⟨(⟨i.val / 512, by omega⟩, ⟨i.val % 512, by omega⟩), Fin.ext ?_⟩
    show 512 * (i.val / 512 % 8) + i.val % 512 = i.val
    omega

end Cert.FfnSum
-- ==== Proof.DownValue.lean ====
/- The kernel for the gradient of the feed-forward's second matrix, idealized: after the eight blocks of rows its result is
   the sum over all the tokens. -/
module

public import proofs.«01_k».proof.Proof.DownStep
public import proofs.«01_k».proof.Proof.FfnSum
public import Idealize.ShloMosaic.Lib.StableHlo.RunRead
public import Idealize.ShloMosaic.Lib.Claim

@[expose] public section

set_option maxRecDepth 16384

noncomputable section

namespace Cert.DownGradIdeal.Hand

open Cert.DownGradIdeal Cert.DownGradIdeal.Gen Cert.FfnSum Cert.AttnMath
open Idealize.ShloMosaic Idealize.ShloMosaic.TcCoe Idealize.SL.Sem Idealize.ShloMosaic.StableHlo

/-- The hidden values, one slab per chip. -/
def byChip (z : FVec Ideal S4096x2816 .bf16) : FVec Ideal S4x4096x704 .bf16 :=
  transpose S4x4096x704 [1, 0, 2] (shapeCast S4096x4x704 z shapeCasts_S4096x2816_S4096x4x704) transposes_S4096x4x704_S4x4096x704_1_0_2

theorem byChip_at (z : FVec Ideal S4096x2816 .bf16) (k : Fin 4) (i : Fin 4096) (r : Fin 704) : byChip z (ix3 k i r) = z (ix2 i (hid k r)) := by
  unfold byChip
  pointwise
  try rfl

variable (m : (ℓ : Loc nD τ sig) → Buf (Elt Ideal) ℓ) (ρ : Dev nD → PrngReg)

/-- The hidden values and the cotangent as launched. -/
abbrev argZ (c : Dev nD) : FVec Ideal S4096x2816 .bf16 := m ((c : Thread nD τ).loc main_arg0)
abbrev argH (c : Dev nD) : FVec Ideal S4096x1024 .f32 := m ((c : Thread nD τ).loc main_arg1)

theorem V_chips (c : Dev nD) : V (F := Ideal) m c main_v1 = byChip (argZ m c) := by
  unfold_abbrev_sides
  after_reads_simp
  rfl

/-- Where the windows' blocks lie, decided over the grid. -/
theorem idx_facts : ∀ t : Fin cfg0.N,
    (win0_0.index t 0 = 0 ∧ win0_0.index t 1 = t.val ∧ win0_0.index t 2 = 0)
    ∧ (win0_1.index t 0 = t.val ∧ win0_1.index t 1 = 0) :=
  (by decide +kernel : ∀ t : Fin grid0.N, _)

theorem lt8 (t : Fin cfg0.N) : t.val < 8 := lt_of_lt_of_eq t.isLt N_0

theorem at0 (g : (b : Ref sig .tc) → Buf (Elt Ideal) (((0 : Dev nD).tc : Thread nD τ).loc b)) (t : Fin cfg0.N) (k : Fin 4) (s : Fin 512) (r : Fin 704) :
    (((cfg0.win 0).blk t).view.read (Elt Ideal) (g (Pipeline.arrRef spec0 0)) : Vec Ideal S4x512x704 .bf16) (ix3 k s r)
      = (g main_v1 : Vec Ideal S4x4096x704 .bf16) (ix3 k (row (blockOf t.val) s) r) := by
  obtain ⟨⟨e0, e1, e2⟩, -⟩ := idx_facts t
  have h8 := lt8 t
  rw [View.read_apply]
  show g main_v1 _ = g main_v1 _
  congr 1
  funext a
  apply Fin.ext
  match a with
  | ⟨0, _⟩ => show win0_0.index t 0 * 4 + 1 * k.val = k.val; rw [e0]; omega
  | ⟨1, _⟩ => show win0_0.index t 1 * 512 + 1 * s.val = 512 * (t.val % 8) + s.val; rw [e1]; omega
  | ⟨2, _⟩ => show win0_0.index t 2 * 704 + 1 * r.val = r.val; rw [e2]; omega

theorem blk0 (c : Dev nD) (t : Fin cfg0.N) (k : Fin 4) (s : Fin 512) (r : Fin 704) :
    (iblk m c 0 t : Vec Ideal S4x512x704 .bf16) (ix3 k s r) = argZ m c (ix2 (row (blockOf t.val) s) (hid k r)) :=
  (at0 (V (F := Ideal) m c) t k s r).trans ((congrFun (V_chips m c) _).trans (byChip_at _ _ _ _))

theorem blk1 (c : Dev nD) (t : Fin cfg0.N) (s : Fin 512) (l : Fin 1024) :
    (iblk m c 1 t : Vec Ideal S512x1024 .f32) (ix2 s l) = argH m c (ix2 (row (blockOf t.val) s) l) := by
  obtain ⟨-, ⟨e0, e1⟩⟩ := idx_facts t
  have h8 := lt8 t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * s.val = 512 * (t.val % 8) + s.val; rw [e0]; omega
  | ⟨1, _⟩ => show win0_1.index t 1 * 1024 + 1 * l.val = l.val; rw [e1]; omega

/-- A point's product is its block's part of the sum over tokens. -/
theorem prod_at (c : Dev nD) (t : Fin cfg0.N) (y : S4x704x1024.Idx) :
    prod (iblk m c 0 t) (iblk m c 1 t) y = ∑ s : Fin 512, downTok (argZ m c) (argH m c) y (row (blockOf t.val) s) :=
  Finset.sum_congr rfl fun s _ => congrArg₂ (· * ·) (blk0 m c t _ s _) (blk1 m c t s _)

/-- What the first point, a middle point and the last point leave. -/
theorem stA (c : Dev nD) (t : Fin cfg0.N) (h0 : t.val % 8 = 0) (h1 : ¬t.val % 8 = 7) (acc : Vec Ideal S4x704x1024 .bf16 × Vec Ideal S4x704x1024 .f32) (y : S4x704x1024.Idx) :
    (Value.stAt0 m c t.val t.isLt acc).2 y = 0 + ∑ s : Fin 512, downTok (argZ m c) (argH m c) y (row (blockOf t.val) s) := by
  rw [Value.stAt0_A m c t _ h0 h1]
  dsimp only
  rw [sout_A]
  exact congrArg (0 + ·) (prod_at m c t y)

theorem stB (c : Dev nD) (t : Fin cfg0.N) (h0 : ¬t.val % 8 = 0) (h1 : ¬t.val % 8 = 7) (acc : Vec Ideal S4x704x1024 .bf16 × Vec Ideal S4x704x1024 .f32) (y : S4x704x1024.Idx) :
    (Value.stAt0 m c t.val t.isLt acc).2 y = acc.2 y + ∑ s : Fin 512, downTok (argZ m c) (argH m c) y (row (blockOf t.val) s) := by
  rw [Value.stAt0_B m c t _ h0 h1]
  dsimp only
  rw [sout_B]
  exact congrArg (acc.2 y + ·) (prod_at m c t y)

theorem stC (c : Dev nD) (t : Fin cfg0.N) (h0 : ¬t.val % 8 = 0) (h1 : t.val % 8 = 7) (acc : Vec Ideal S4x704x1024 .bf16 × Vec Ideal S4x704x1024 .f32) (y : S4x704x1024.Idx) :
    (Value.stAt0 m c t.val t.isLt acc).1 y = acc.2 y + ∑ s : Fin 512, downTok (argZ m c) (argH m c) y (row (blockOf t.val) s) := by
  rw [Value.stAt0_C m c t _ h0 h1]
  dsimp only
  rw [out_C]
  exact congrArg (acc.2 y + ·) (prod_at m c t y)

/-- The points' state after point `n`. -/
def state (c : Dev nD) (n : ℕ) (hn : 0 + n < cfg0.N) : Vec Ideal S4x704x1024 .bf16 × Vec Ideal S4x704x1024 .f32 :=
  Pipeline.accAt (fun n h => Value.stAt0 m c n h Value.junk0) (Value.stAt0 m c) 0 n hn

theorem state_zero (c : Dev nD) (hn : 0 + 0 < cfg0.N) : state m c 0 hn = Value.stAt0 m c (⟨0, hn⟩ : Fin cfg0.N).val hn Value.junk0 := rfl

theorem state_succ (c : Dev nD) (n : ℕ) (hn : 0 + (n + 1) < cfg0.N) (hn' : 0 + n < cfg0.N) :
    state m c (n + 1) hn = Value.stAt0 m c (⟨0 + (n + 1), hn⟩ : Fin cfg0.N).val hn (state m c n hn') := rfl

/-- The running sum after point `n`. -/
theorem carried (c : Dev nD) (y : S4x704x1024.Idx) : ∀ (n : ℕ) (hn : 0 + n < cfg0.N), n < 7 →
    (state m c n hn).2 y = upto (downTok (argZ m c) (argH m c) y) (n + 1)
  | 0, hn, _ => by
    rw [state_zero]
    exact stA m c ⟨0, hn⟩ (by dsimp only) (by dsimp only; omega) _ y
  | n + 1, hn, h7 => by
    have hn' : 0 + n < cfg0.N := by omega
    rw [state_succ m c n hn hn', stB m c ⟨0 + (n + 1), hn⟩ (by dsimp only; omega) (by dsimp only; omega), carried c y n hn' (by omega)]
    have e : (⟨0 + (n + 1), hn⟩ : Fin cfg0.N).val = n + 1 := Nat.zero_add _
    rw [e]
    rfl

theorem last (c : Dev nD) (y : S4x704x1024.Idx) (h7 : 0 + (6 + 1) < cfg0.N) (h6 : 0 + 6 < cfg0.N) : (state m c (6 + 1) h7).1 y = downGrad (argZ m c) (argH m c) y := by
  rw [state_succ m c 6 h7 h6, stC m c ⟨0 + (6 + 1), h7⟩ (by dsimp only; omega) (by dsimp only), carried m c y 6 h6 (by omega)]
  have e : (⟨0 + (6 + 1), h7⟩ : Fin cfg0.N).val = 7 := rfl
  rw [e]
  unfold downGrad
  rw [← upto_all, upto_succ _ 7]

/-- The result: the gradient. -/
theorem result (c : Dev nD) : Value.G2 (F := Ideal) m c = downGrad (argZ m c) (argH m c) :=
  (Value.G2_last m c).trans (funext fun y => last m c y _ (lt_of_lt_of_eq (by decide) N_0.symm))

/-- The run: the result at the gradient, the arguments unchanged. -/
theorem run : θ_run defs (onTc (τ := τ) (main (F := Ideal))) ⟨m, fun _ => 0, ρ⟩ fun r => ∀ c : Dev nD,
      r.2.mem ((c : Thread nD τ).loc main_v2) = downGrad (argZ m c) (argH m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result m c), (h c).2⟩) (Value.run m ρ)

end Cert.DownGradIdeal.Hand
-- ==== Proof.DownRef.lean ====
/- The reference for the gradient of the feed-forward's second matrix: differentiating the product gives the sum over the tokens. -/
module

public import proofs.«01_k».proof.Proof.FfnSum
public import proofs.«01_k».proof.Proof.Gen.DownRefIdeal.Run
public import proofs.«01_k».proof.Proof.Gen.DownRefIdeal.Read
public import Idealize.ShloMosaic.Lib.Pointwise

@[expose] public section

set_option maxRecDepth 16384

noncomputable section

open Idealize.ShloMosaic Idealize.ShloMosaic.TcCoe Idealize.SL.Sem

namespace Cert.DownRefIdeal.Hand

open Cert.DownRefIdeal Cert.DownRefIdeal.Gen Cert.DownRefIdeal.Read Cert.FfnSum

theorem grad (Z : FVec Ideal S4096x2816 .bf16) (H : FVec Ideal S4096x1024 .f32) (y : S4x704x1024.Idx) : val_main_v7 (F := Ideal) Z H y = downGrad Z H y := by
  idx_vars y
  simp only [val_main_v7, val_main_v6, val_main_v5, val_main_v4, val_main_v1]
  pointwise
  exact Finset.sum_congr rfl fun i _ => mul_comm _ _

variable (m : (ℓ : Loc nD τ sig) → Buf (Elt Ideal) ℓ) (ρ : Dev nD → PrngReg)

/-- The run: the result at the gradient, the arguments unchanged. -/
theorem run : θ_run defs (onTc (τ := τ) (main (F := Ideal))) ⟨m, fun _ => 0, ρ⟩ fun r => ∀ c : Dev nD,
      r.2.mem ((c : Thread nD τ).loc main_v7) = downGrad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((val_main_v7_eq (F := Ideal) _ _).trans (funext (grad _ _))), (h c).2⟩)
    (Value.run (F := Ideal) m ρ)

end Cert.DownRefIdeal.Hand
-- ==== Proof.UpStep.lean ====
/- One grid point of the kernel for the gradient of the feed-forward's first matrices, idealized: what it leaves in the
   running sum it carries, and what the last point writes out. -/
module

public import proofs.«01_k».proof.Proof.Gen.UpGradIdeal.Value
public import Idealize.ShloMosaic.Lib.Pipeline.Value
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.UpGradIdeal.Hand

open Cert.UpGradIdeal Cert.UpGradIdeal.Gen

/-- The product of 512 rows. -/
def prod (x0 : Vec Ideal S4x512x704 .bf16) (x1 : Vec Ideal S512x1024 .bf16) (y : S4x1024x704.Idx) : EReal :=
  ∑ s : Fin 512, x1 (ix2 s (y 1 : Fin 1024)) * x0 (ix3 (y 0 : Fin 4) s (y 2 : Fin 704))

/-- The running sum with that product added. -/
def stepAt (x0 : Vec Ideal S4x512x704 .bf16) (x1 : Vec Ideal S512x1024 .bf16) (P : S4x1024x704.Idx → EReal) (y : S4x1024x704.Idx) : EReal :=
  P y + prod x0 x1 y

/-- One chip's stored payload, read at an index. -/
theorem pay_at (q : Vec Ideal S512x1024 .bf16) (p : Vec Ideal S1x1024x704 .f32) (w : Vec Ideal S1x512x704 .bf16) (r : Fin 1024) (l : Fin 704) :
    k0_pay6 q p w (ix3 0 r l) = p (ix3 0 r l) + ∑ s : Fin 512, q (ix2 s r) * w (ix3 0 s l) := by
  unfold_payloads
  pointwise

theorem pay7_eq (q : Vec Ideal S512x1024 .bf16) (p : Vec Ideal S1x1024x704 .f32) (w : Vec Ideal S1x512x704 .bf16) : k0_pay7 q p w = k0_pay6 q p w := rfl
theorem pay1_eq (q : Vec Ideal S512x1024 .bf16) (p : Vec Ideal S1x1024x704 .f32) (w : Vec Ideal S1x512x704 .bf16) : k0_pay1 (k0_pay5 q) (k0_pay8 p) w = k0_pay6 q p w := rfl
theorem pay2_eq (q : Vec Ideal S512x1024 .bf16) (p : Vec Ideal S1x1024x704 .f32) (w : Vec Ideal S1x512x704 .bf16) : k0_pay2 (k0_pay5 q) p w = k0_pay6 q p w := rfl

/-- The place of chip `k`'s index. -/
theorem emb_eq (k : Fin 4) {off : Fin 3 → ℕ} (hoff : off = ![k.val, 0, 0]) (inb : ∀ a, off a + ![1, 1024, 704] a ≤ S4x1024x704.size a) (x : S1x1024x704.Idx) :
    (Rect.unit (s := S4x1024x704) off ![1, 1024, 704] inb).emb x = ix3 k (x 1 : Fin 1024) (x 2 : Fin 704) := by
  subst hoff
  have hx : (x 0).val < 1 := (x 0).isLt
  funext a
  apply Fin.ext
  match a with
  | ⟨0, _⟩ => show k.val + 1 * (x 0).val = k.val; omega
  | ⟨1, _⟩ => show 0 + 1 * (x 1).val = (x 1).val; omega
  | ⟨2, _⟩ => show 0 + 1 * (x 2).val = (x 2).val; omega

theorem emb_x (k : Fin 4) {off : Fin 3 → ℕ} (hoff : off = ![k.val, 0, 0]) (inb : ∀ a, off a + ![1, 512, 704] a ≤ S4x512x704.size a) (s : Fin 512) (r : Fin 704) :
    (Rect.unit (s := S4x512x704) off ![1, 512, 704] inb).emb (ix3 0 s r : S1x512x704.Idx) = ix3 k s r := by
  subst hoff
  funext a
  apply Fin.ext
  match a with
  | ⟨0, _⟩ => show k.val + 1 * 0 = k.val; omega
  | ⟨1, _⟩ => show 0 + 1 * s.val = s.val; omega
  | ⟨2, _⟩ => show 0 + 1 * r.val = r.val; omega

theorem ld_whole (x1 : Vec Ideal S512x1024 .bf16) (inb : ∀ a, (![0, 0] : Fin 2 → ℕ) a + ![512, 1024] a ≤ S512x1024.size a) :
    View.ld x1 (Rect.unit (s := S512x1024) ![0, 0] ![512, 1024] inb) = x1 := by
  funext y
  show x1 _ = x1 y
  congr 1
  funext a
  apply Fin.ext
  match a with
  | ⟨0, _⟩ => show 0 + 1 * (y 0).val = (y 0).val; omega
  | ⟨1, _⟩ => show 0 + 1 * (y 1).val = (y 1).val; omega

/-- A stored piece is the step's value at its place, whatever the running sum was read from. -/
theorem piece (x0 : Vec Ideal S4x512x704 .bf16) (x1 : Vec Ideal S512x1024 .bf16) (P : S4x1024x704.Idx → EReal) (k : Fin 4) {off : Fin 3 → ℕ} (hoff : off = ![k.val, 0, 0])
    (inb : ∀ a, off a + ![1, 1024, 704] a ≤ S4x1024x704.size a) (inb' : ∀ a, off a + ![1, 512, 704] a ≤ S4x512x704.size a)
    (p : Vec Ideal S1x1024x704 .f32) (hp : ∀ x, p x = P ((Rect.unit (s := S4x1024x704) off ![1, 1024, 704] inb).emb x)) (x : S1x1024x704.Idx) :
    k0_pay6 x1 p (View.ld x0 (Rect.unit (s := S4x512x704) off ![1, 512, 704] inb')) x
      = stepAt x0 x1 P ((Rect.unit (s := S4x1024x704) off ![1, 1024, 704] inb).emb x) := by
  have hx : x = ix3 0 (x 1 : Fin 1024) (x 2 : Fin 704) := by
    have h0 : (x 0).val < 1 := (x 0).isLt
    funext a
    match a with
    | ⟨0, _⟩ => exact Fin.ext (show (x 0).val = 0 by omega)
    | ⟨1, _⟩ => rfl
    | ⟨2, _⟩ => rfl
  rw [hx]
  refine (pay_at x1 p _ (x 1) (x 2)).trans ?_
  rw [hp]
  have he := emb_eq k hoff inb (ix3 0 (x 1 : Fin 1024) (x 2 : Fin 704) : S1x1024x704.Idx)
  refine congrArg₂ (· + ·) rfl ?_
  refine (Finset.sum_congr rfl fun s _ => congrArg (_ * ·) (congrArg x0 (emb_x k hoff inb' s (x 2)))).trans ?_
  exact (congrArg (prod x0 x1) he).symm

variable (c : Dev nD) (i : grid0.Coords) (arg1 : Memref sig .tc .vmem S512x1024 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .f32) (harg4 : arg4.IsWhole)
  (x0 : Vec Ideal S4x512x704 .bf16) (x1 : Vec Ideal S512x1024 .bf16) (xs0 : Vec Ideal S4x1024x704 .f32)

theorem sout_B (hc0 : ¬cond0_0 i) (hc1 : ¬cond0_1 i) (y : S4x1024x704.Idx) :
    sout0_B_0 c i arg1 harg1 arg2 harg2 arg3 harg3 arg4 harg4 hc0 hc1 x1 x0 xs0 y = stepAt x0 x1 xs0 y := by
  unfold sout0_B_0
  refine View.read_writes_apply_of_pieces (Val := Elt Ideal) _ _ (stepAt x0 x1 xs0 : S4x1024x704.Idx → Elt Ideal .f32) _ (View.PiecesOf.mem ?_) y (scover0_B_0 c i arg1 harg1 arg2 harg2 arg3 harg3 arg4 harg4 hc0 hc1 x1 x0 xs0 y)
  unfold kernelRun0_B
  dsimp only
  sl_unfold_run_names
  simp only [View.readAt_eq_ld, harg1.read_unread, harg2.read_unread, harg4.read_unread, pay7_eq, pay1_eq, pay2_eq, ld_whole]
  exact ⟨piece x0 x1 xs0 3 rfl _ _ _ fun _ => rfl, piece x0 x1 xs0 2 rfl _ _ _ fun _ => rfl, piece x0 x1 xs0 1 rfl _ _ _ fun _ => rfl,
    piece x0 x1 xs0 0 rfl _ _ _ fun _ => rfl, trivial⟩

theorem out_C (hc0 : ¬cond0_0 i) (hc1 : cond0_1 i) (y : S4x1024x704.Idx) :
    out0_C_2 c i arg1 harg1 arg2 harg2 arg3 harg3 arg4 harg4 hc0 hc1 x1 x0 xs0 y = stepAt x0 x1 xs0 y := by
  unfold out0_C_2
  refine View.read_writes_apply_of_pieces (Val := Elt Ideal) _ _ (stepAt x0 x1 xs0 : S4x1024x704.Idx → Elt Ideal .bf16) _ (View.PiecesOf.mem ?_) y (cover0_C_2 c i arg1 harg1 arg2 harg2 arg3 harg3 arg4 harg4 hc0 hc1 x1 x0 xs0 y)
  have hcov := scover0_C_0 c i arg1 harg1 arg2 harg2 arg3 harg3 arg4 harg4 hc0 hc1 x1 x0 xs0
  unfold kernelRun0_C at hcov ⊢
  dsimp only at hcov ⊢
  refine ⟨fun x => ?_, trivial⟩
  refine View.read_writes_apply_of_pieces (Val := Elt Ideal) _ _ (stepAt x0 x1 xs0 : S4x1024x704.Idx → Elt Ideal .f32) _ (View.PiecesOf.mem ?_) _ (hcov _)
  sl_unfold_run_names
  simp only [View.readAt_eq_ld, harg1.read_unread, harg2.read_unread, harg4.read_unread, pay7_eq, pay1_eq, pay2_eq, ld_whole]
  exact ⟨piece x0 x1 xs0 3 rfl _ _ _ fun _ => rfl, piece x0 x1 xs0 2 rfl _ _ _ fun _ => rfl, piece x0 x1 xs0 1 rfl _ _ _ fun _ => rfl,
    piece x0 x1 xs0 0 rfl _ _ _ fun _ => rfl, trivial⟩

theorem fill_eq (y : S4x1024x704.Idx) : k0_pay4 (F := Ideal) y = 0 := by
  idx_vars y
  unfold_payloads
  pointwise

/-- The four chips' boxes cover the running sum. -/
theorem cover4 (y : S4x1024x704.Idx) (w3 w2 w1 w0 : S1x1024x704.Idx → Elt Ideal .f32) :
    ∃ p ∈ ([⟨Rect.unit ![3, 0, 0] ![1, 1024, 704] inb_S4x1024x704_S1x1024x704_3_0_0, w3⟩, ⟨Rect.unit ![2, 0, 0] ![1, 1024, 704] inb_S4x1024x704_S1x1024x704_2_0_0, w2⟩,
      ⟨Rect.unit ![1, 0, 0] ![1, 1024, 704] inb_S4x1024x704_S1x1024x704_1_0_0, w1⟩, ⟨Rect.unit ![0, 0, 0] ![1, 1024, 704] inb_S4x1024x704_S1x1024x704_0_0_0, w0⟩] : List (View.Piece (Elt Ideal) S4x1024x704 .f32)), y ∈ p.1.set := by
  have h0 : (y 0).val < 4 := (y 0).isLt
  have key : ∀ (k : ℕ) (off : Fin 3 → ℕ) (inb : ∀ a, off a + ![1, 1024, 704] a ≤ S4x1024x704.size a), off = ![k, 0, 0] → (y 0).val = k →
      y ∈ (Rect.unit (s := S4x1024x704) off ![1, 1024, 704] inb).set := by
    rintro k off inb rfl hk
    refine Rect.mem_set_unit.mpr fun a => ?_
    match a with
    | ⟨0, _⟩ => exact ⟨show k ≤ (y 0).val by omega, show (y 0).val < k + 1 by omega⟩
    | ⟨1, _⟩ => exact ⟨Nat.zero_le _, show (y 1).val < 0 + 1024 by have := (y 1).isLt; change (y 1).val < 1024 at this; omega⟩
    | ⟨2, _⟩ => exact ⟨Nat.zero_le _, show (y 2).val < 0 + 704 by have := (y 2).isLt; change (y 2).val < 704 at this; omega⟩
  rcases (by omega : (y 0).val = 3 ∨ (y 0).val = 2 ∨ (y 0).val = 1 ∨ (y 0).val = 0) with h | h | h | h
  · exact ⟨_, List.mem_cons_self, key 3 _ inb_S4x1024x704_S1x1024x704_3_0_0 rfl h⟩
  · exact ⟨_, List.mem_cons_of_mem _ List.mem_cons_self, key 2 _ inb_S4x1024x704_S1x1024x704_2_0_0 rfl h⟩
  · exact ⟨_, List.mem_cons_of_mem _ (List.mem_cons_of_mem _ List.mem_cons_self), key 1 _ inb_S4x1024x704_S1x1024x704_1_0_0 rfl h⟩
  · exact ⟨_, List.mem_cons_of_mem _ (List.mem_cons_of_mem _ (List.mem_cons_of_mem _ List.mem_cons_self)), key 0 _ inb_S4x1024x704_S1x1024x704_0_0_0 rfl h⟩

theorem sout_A (hc0 : cond0_0 i) (hc1 : ¬cond0_1 i) (y : S4x1024x704.Idx) :
    sout0_A_0 c i arg1 harg1 arg2 harg2 arg3 harg3 arg4 harg4 hc0 hc1 x1 x0 y = stepAt x0 x1 (fun _ => 0) y := by
  unfold sout0_A_0
  rw [View.read_writes_junk_apply_eq_canon]
  unfold kernelRun0_A
  dsimp only
  sl_unfold_run_names
  simp (disch := decide) only [↓View.readCov_skip, ↓View.readCov_fill]
  simp only [View.readAt_eq_ld, harg1.read_unread, harg2.read_unread, harg4.read_unread, pay7_eq, pay1_eq, pay2_eq, ld_whole]
  refine View.canon_append_of_piecesOf (Val := Elt Ideal) (stepAt x0 x1 (fun _ => 0) : S4x1024x704.Idx → Elt Ideal .f32) [_] [_, _, _, _] ?_ y (cover4 y _ _ _ _)
  exact ⟨piece x0 x1 (fun _ => 0) 3 rfl inb_S4x1024x704_S1x1024x704_3_0_0 inb_S4x512x704_S1x512x704_3_0_0 _ fun _ => fill_eq _, piece x0 x1 (fun _ => 0) 2 rfl inb_S4x1024x704_S1x1024x704_2_0_0 inb_S4x512x704_S1x512x704_2_0_0 _ fun _ => fill_eq _, piece x0 x1 (fun _ => 0) 1 rfl inb_S4x1024x704_S1x1024x704_1_0_0 inb_S4x512x704_S1x512x704_1_0_0 _ fun _ => fill_eq _,
    piece x0 x1 (fun _ => 0) 0 rfl inb_S4x1024x704_S1x1024x704_0_0_0 inb_S4x512x704_S1x512x704_0_0_0 _ fun _ => fill_eq _, trivial⟩

end Cert.UpGradIdeal.Hand
-- ==== Proof.UpValue.lean ====
/- The kernel for the gradient of the feed-forward's first matrices, idealized: after the eight blocks of rows its result is
   the sum over all the tokens. -/
module

public import proofs.«01_k».proof.Proof.UpStep
public import proofs.«01_k».proof.Proof.FfnSum
public import Idealize.ShloMosaic.Lib.StableHlo.RunRead
public import Idealize.ShloMosaic.Lib.Claim

@[expose] public section

set_option maxRecDepth 16384

noncomputable section

namespace Cert.UpGradIdeal.Hand

open Cert.UpGradIdeal Cert.UpGradIdeal.Gen Cert.FfnSum Cert.AttnMath
open Idealize.ShloMosaic Idealize.ShloMosaic.TcCoe Idealize.SL.Sem Idealize.ShloMosaic.StableHlo

/-- The hidden values' cotangent, one slab per chip. -/
def byChip (z : FVec Ideal S4096x2816 .bf16) : FVec Ideal S4x4096x704 .bf16 :=
  transpose S4x4096x704 [1, 0, 2] (shapeCast S4096x4x704 z shapeCasts_S4096x2816_S4096x4x704) transposes_S4096x4x704_S4x4096x704_1_0_2

theorem byChip_at (z : FVec Ideal S4096x2816 .bf16) (k : Fin 4) (i : Fin 4096) (r : Fin 704) : byChip z (ix3 k i r) = z (ix2 i (hid k r)) := by
  unfold byChip
  pointwise
  try rfl

variable (m : (ℓ : Loc nD τ sig) → Buf (Elt Ideal) ℓ) (ρ : Dev nD → PrngReg)

/-- The input rows and the hidden values' cotangent as launched. -/
abbrev argY (c : Dev nD) : FVec Ideal S4096x2816 .bf16 := m ((c : Thread nD τ).loc main_arg1)
abbrev argA (c : Dev nD) : FVec Ideal S4096x1024 .bf16 := m ((c : Thread nD τ).loc main_arg0)

theorem V_chips (c : Dev nD) : V (F := Ideal) m c main_v1 = byChip (argY m c) := by
  unfold_abbrev_sides
  after_reads_simp
  rfl

/-- Where the windows' blocks lie, decided over the grid. -/
theorem idx_facts : ∀ t : Fin cfg0.N,
    (win0_0.index t 0 = t.val ∧ win0_0.index t 1 = 0)
    ∧ (win0_1.index t 0 = 0 ∧ win0_1.index t 1 = t.val ∧ win0_1.index t 2 = 0) :=
  (by decide +kernel : ∀ t : Fin grid0.N, _)

theorem lt8 (t : Fin cfg0.N) : t.val < 8 := lt_of_lt_of_eq t.isLt N_0

theorem at1 (g : (b : Ref sig .tc) → Buf (Elt Ideal) (((0 : Dev nD).tc : Thread nD τ).loc b)) (t : Fin cfg0.N) (k : Fin 4) (s : Fin 512) (r : Fin 704) :
    (((cfg0.win 1).blk t).view.read (Elt Ideal) (g (Pipeline.arrRef spec0 1)) : Vec Ideal S4x512x704 .bf16) (ix3 k s r)
      = (g main_v1 : Vec Ideal S4x4096x704 .bf16) (ix3 k (row (blockOf t.val) s) r) := by
  obtain ⟨-, ⟨e0, e1, e2⟩⟩ := idx_facts t
  have h8 := lt8 t
  rw [View.read_apply]
  show g main_v1 _ = g main_v1 _
  congr 1
  funext a
  apply Fin.ext
  match a with
  | ⟨0, _⟩ => show win0_1.index t 0 * 4 + 1 * k.val = k.val; rw [e0]; omega
  | ⟨1, _⟩ => show win0_1.index t 1 * 512 + 1 * s.val = 512 * (t.val % 8) + s.val; rw [e1]; omega
  | ⟨2, _⟩ => show win0_1.index t 2 * 704 + 1 * r.val = r.val; rw [e2]; omega

theorem blk1 (c : Dev nD) (t : Fin cfg0.N) (k : Fin 4) (s : Fin 512) (r : Fin 704) :
    (iblk m c 1 t : Vec Ideal S4x512x704 .bf16) (ix3 k s r) = argY m c (ix2 (row (blockOf t.val) s) (hid k r)) :=
  (at1 (V (F := Ideal) m c) t k s r).trans ((congrFun (V_chips m c) _).trans (byChip_at _ _ _ _))

theorem blk0 (c : Dev nD) (t : Fin cfg0.N) (s : Fin 512) (l : Fin 1024) :
    (iblk m c 0 t : Vec Ideal S512x1024 .bf16) (ix2 s l) = argA m c (ix2 (row (blockOf t.val) s) l) := by
  obtain ⟨⟨e0, e1⟩, -⟩ := idx_facts t
  have h8 := lt8 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * s.val = 512 * (t.val % 8) + s.val; rw [e0]; omega
  | ⟨1, _⟩ => show win0_0.index t 1 * 1024 + 1 * l.val = l.val; rw [e1]; omega

/-- A point's product is its block's part of the sum over tokens. -/
theorem prod_at (c : Dev nD) (t : Fin cfg0.N) (y : S4x1024x704.Idx) :
    prod (iblk m c 1 t) (iblk m c 0 t) y = ∑ s : Fin 512, upTok (argA m c) (argY m c) y (row (blockOf t.val) s) :=
  Finset.sum_congr rfl fun s _ => congrArg₂ (· * ·) (blk0 m c t s _) (blk1 m c t _ s _)

/-- What the first point, a middle point and the last point leave. -/
theorem stA (c : Dev nD) (t : Fin cfg0.N) (h0 : t.val % 8 = 0) (h1 : ¬t.val % 8 = 7) (acc : Vec Ideal S4x1024x704 .bf16 × Vec Ideal S4x1024x704 .f32) (y : S4x1024x704.Idx) :
    (Value.stAt0 m c t.val t.isLt acc).2 y = 0 + ∑ s : Fin 512, upTok (argA m c) (argY m c) y (row (blockOf t.val) s) := by
  rw [Value.stAt0_A m c t _ h0 h1]
  dsimp only
  rw [sout_A]
  exact congrArg (0 + ·) (prod_at m c t y)

theorem stB (c : Dev nD) (t : Fin cfg0.N) (h0 : ¬t.val % 8 = 0) (h1 : ¬t.val % 8 = 7) (acc : Vec Ideal S4x1024x704 .bf16 × Vec Ideal S4x1024x704 .f32) (y : S4x1024x704.Idx) :
    (Value.stAt0 m c t.val t.isLt acc).2 y = acc.2 y + ∑ s : Fin 512, upTok (argA m c) (argY m c) y (row (blockOf t.val) s) := by
  rw [Value.stAt0_B m c t _ h0 h1]
  dsimp only
  rw [sout_B]
  exact congrArg (acc.2 y + ·) (prod_at m c t y)

theorem stC (c : Dev nD) (t : Fin cfg0.N) (h0 : ¬t.val % 8 = 0) (h1 : t.val % 8 = 7) (acc : Vec Ideal S4x1024x704 .bf16 × Vec Ideal S4x1024x704 .f32) (y : S4x1024x704.Idx) :
    (Value.stAt0 m c t.val t.isLt acc).1 y = acc.2 y + ∑ s : Fin 512, upTok (argA m c) (argY m c) y (row (blockOf t.val) s) := by
  rw [Value.stAt0_C m c t _ h0 h1]
  dsimp only
  rw [out_C]
  exact congrArg (acc.2 y + ·) (prod_at m c t y)

/-- The points' state after point `n`. -/
def state (c : Dev nD) (n : ℕ) (hn : 0 + n < cfg0.N) : Vec Ideal S4x1024x704 .bf16 × Vec Ideal S4x1024x704 .f32 :=
  Pipeline.accAt (fun n h => Value.stAt0 m c n h Value.junk0) (Value.stAt0 m c) 0 n hn

theorem state_zero (c : Dev nD) (hn : 0 + 0 < cfg0.N) : state m c 0 hn = Value.stAt0 m c (⟨0, hn⟩ : Fin cfg0.N).val hn Value.junk0 := rfl

theorem state_succ (c : Dev nD) (n : ℕ) (hn : 0 + (n + 1) < cfg0.N) (hn' : 0 + n < cfg0.N) :
    state m c (n + 1) hn = Value.stAt0 m c (⟨0 + (n + 1), hn⟩ : Fin cfg0.N).val hn (state m c n hn') := rfl

/-- The running sum after point `n`. -/
theorem carried (c : Dev nD) (y : S4x1024x704.Idx) : ∀ (n : ℕ) (hn : 0 + n < cfg0.N), n < 7 →
    (state m c n hn).2 y = upto (upTok (argA m c) (argY m c) y) (n + 1)
  | 0, hn, _ => by
    rw [state_zero]
    exact stA m c ⟨0, hn⟩ (by dsimp only) (by dsimp only; omega) _ y
  | n + 1, hn, h7 => by
    have hn' : 0 + n < cfg0.N := by omega
    rw [state_succ m c n hn hn', stB m c ⟨0 + (n + 1), hn⟩ (by dsimp only; omega) (by dsimp only; omega), carried c y n hn' (by omega)]
    have e : (⟨0 + (n + 1), hn⟩ : Fin cfg0.N).val = n + 1 := Nat.zero_add _
    rw [e]
    rfl

theorem last (c : Dev nD) (y : S4x1024x704.Idx) (h7 : 0 + (6 + 1) < cfg0.N) (h6 : 0 + 6 < cfg0.N) : (state m c (6 + 1) h7).1 y = upGrad (argA m c) (argY m c) y := by
  rw [state_succ m c 6 h7 h6, stC m c ⟨0 + (6 + 1), h7⟩ (by dsimp only; omega) (by dsimp only), carried m c y 6 h6 (by omega)]
  have e : (⟨0 + (6 + 1), h7⟩ : Fin cfg0.N).val = 7 := rfl
  rw [e]
  unfold upGrad
  rw [← upto_all, upto_succ _ 7]

/-- The result: the gradient. -/
theorem result (c : Dev nD) : Value.G2 (F := Ideal) m c = upGrad (argA m c) (argY m c) :=
  (Value.G2_last m c).trans (funext fun y => last m c y _ (lt_of_lt_of_eq (by decide) N_0.symm))

/-- The run: the result at the gradient, the arguments unchanged. -/
theorem run : θ_run defs (onTc (τ := τ) (main (F := Ideal))) ⟨m, fun _ => 0, ρ⟩ fun r => ∀ c : Dev nD,
      r.2.mem ((c : Thread nD τ).loc main_v2) = upGrad (argA m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result m c), (h c).2⟩) (Value.run m ρ)

end Cert.UpGradIdeal.Hand
-- ==== Proof.UpRef.lean ====
/- The reference for the gradient of the feed-forward's first matrices: differentiating the product gives the sum over the tokens. -/
module

public import proofs.«01_k».proof.Proof.FfnSum
public import proofs.«01_k».proof.Proof.Gen.UpRefIdeal.Run
public import proofs.«01_k».proof.Proof.Gen.UpRefIdeal.Read
public import Idealize.ShloMosaic.Lib.Pointwise

@[expose] public section

set_option maxRecDepth 16384

noncomputable section

open Idealize.ShloMosaic Idealize.ShloMosaic.TcCoe Idealize.SL.Sem

namespace Cert.UpRefIdeal.Hand

open Cert.UpRefIdeal Cert.UpRefIdeal.Gen Cert.UpRefIdeal.Read Cert.FfnSum

theorem grad (A : FVec Ideal S4096x1024 .bf16) (Y : FVec Ideal S4096x2816 .bf16) (y : S4x1024x704.Idx) : val_main_v9 (F := Ideal) A Y y = upGrad A Y y := by
  idx_vars y
  simp only [val_main_v9, val_main_v8, val_main_v7, val_main_v6, val_main_v5, val_main_v4, val_main_v1]
  pointwise
  exact Finset.sum_congr rfl fun i _ => mul_comm _ _

variable (m : (ℓ : Loc nD τ sig) → Buf (Elt Ideal) ℓ) (ρ : Dev nD → PrngReg)

/-- The run: the result at the gradient, the arguments unchanged. -/
theorem run : θ_run defs (onTc (τ := τ) (main (F := Ideal))) ⟨m, fun _ => 0, ρ⟩ fun r => ∀ c : Dev nD,
      r.2.mem ((c : Thread nD τ).loc main_v9) = upGrad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((val_main_v9_eq (F := Ideal) _ _).trans (funext (grad _ _))), (h c).2⟩)
    (Value.run (F := Ideal) m ρ)

end Cert.UpRefIdeal.Hand
-- ==== Proof.HidStep.lean ====
/- One grid point of the kernel for the feed-forward's hidden gradients, idealized: each chip's slab is the block's product with
   the second matrix, times the saved derivative. The two layers' programs have one body. -/
module

public import proofs.«01_k».proof.Proof.DownStep
public import proofs.«01_k».proof.Proof.Gen.HidGradIdeal.Value
public import proofs.«01_k».proof.Proof.Gen.HidFirstGradIdeal.Value

@[expose] public section

set_option maxRecDepth 16384

noncomputable section

open Idealize.ShloMosaic Idealize.ShloMosaic.TcCoe Idealize.SL.Sem

namespace Cert.HidGradIdeal.Hand

open Cert.HidGradIdeal Cert.HidGradIdeal.Gen
open Cert.DownGradIdeal.Hand (emb_x ld_whole)

/-- The block's product times the saved derivative `z`. -/
def hidBlk (x0 : Vec Ideal S512x1024 .f32) (x1 : Vec Ideal S4x704x1024 .bf16) (z : Vec Ideal S4x512x704 .bf16) (y : S4x512x704.Idx) : EReal :=
  (∑ l : Fin 1024, x0 (ix2 (y 1 : Fin 512) l) * x1 (ix3 (y 0 : Fin 4) (y 2 : Fin 704) l)) * z y

/-- One chip's stored payload, read at an index. -/
theorem pay_at (q : Vec Ideal S512x1024 .f32) (w : Vec Ideal S1x704x1024 .bf16) (z : Vec Ideal S1x512x704 .bf16) (s : Fin 512) (r : Fin 704) :
    k0_pay6 q w z (ix3 0 s r) = (∑ l : Fin 1024, q (ix2 s l) * w (ix3 0 r l)) * z (ix3 0 s r) := by
  unfold_payloads
  pointwise

variable (q : Vec Ideal S512x1024 .f32) (w : Vec Ideal S1x704x1024 .bf16) (z : Vec Ideal S1x512x704 .bf16)

theorem pay7_eq : k0_pay7 q w z = k0_pay6 q w z := rfl
theorem pay10_eq : k0_pay10 (k0_pay9 q w z) = k0_pay6 q w z := rfl
theorem pay11_eq : k0_pay11 (k0_pay8 q w) z = k0_pay6 q w z := rfl
theorem pay13_eq : k0_pay13 (k0_pay4 q) w z = k0_pay6 q w z := rfl
theorem pay14_eq : k0_pay14 (k0_pay4 q) w z = k0_pay6 q w z := rfl
theorem pay2_eq : k0_pay2 (k0_pay4 q) w z = k0_pay6 q w z := rfl
theorem pay3_eq : k0_pay3 (k0_pay4 q) w z = k0_pay6 q w z := rfl

/-- The place of chip `k`'s row of the matrix. -/
theorem emb_w (k : Fin 4) {off : Fin 3 → ℕ} (hoff : off = ![k.val, 0, 0]) (inb : ∀ a, off a + ![1, 704, 1024] a ≤ S4x704x1024.size a) (r : Fin 704) (l : Fin 1024) :
    (Rect.unit (s := S4x704x1024) off ![1, 704, 1024] inb).emb (ix3 0 r l : S1x704x1024.Idx) = ix3 k r l :=
  Cert.DownGradIdeal.Hand.emb_eq k hoff inb (ix3 0 r l)

/-- A stored piece is the block's value at its place. -/
theorem piece (x0 : Vec Ideal S512x1024 .f32) (x1 : Vec Ideal S4x704x1024 .bf16) (x2 : Vec Ideal S4x512x704 .bf16) (k : Fin 4) {off : Fin 3 → ℕ} (hoff : off = ![k.val, 0, 0])
    (inb : ∀ a, off a + ![1, 704, 1024] a ≤ S4x704x1024.size a) (inb' : ∀ a, off a + ![1, 512, 704] a ≤ S4x512x704.size a) (x : S1x512x704.Idx) :
    k0_pay6 x0 (View.ld x1 (Rect.unit (s := S4x704x1024) off ![1, 704, 1024] inb)) (View.ld x2 (Rect.unit (s := S4x512x704) off ![1, 512, 704] inb')) x
      = hidBlk x0 x1 x2 ((Rect.unit (s := S4x512x704) off ![1, 512, 704] inb').emb x) := by
  obtain ⟨s, r, rfl⟩ : ∃ (s : Fin 512) (r : Fin 704), x = ix3 0 s r := ⟨x 1, x 2, by
    have h0 : (x 0).val < 1 := (x 0).isLt
    funext a
    match a with
    | ⟨0, _⟩ => exact Fin.ext (show (x 0).val = 0 by omega)
    | ⟨1, _⟩ => rfl
    | ⟨2, _⟩ => rfl⟩
  refine (pay_at x0 _ _ s r).trans ?_
  have he := emb_x k hoff inb' s r
  refine Eq.trans ?_ (congrArg (hidBlk x0 x1 x2) he).symm
  refine congrArg₂ (fun a b : EReal => a * b) (Finset.sum_congr rfl fun l _ => congrArg (x0 (ix2 s l) * ·) ?_) (congrArg x2 he)
  exact congrArg x1 (emb_w k hoff inb r l)

variable (x0 : Vec Ideal S512x1024 .f32) (x1 : Vec Ideal S4x704x1024 .bf16) (x2 x3 : Vec Ideal S4x512x704 .bf16)

theorem out4_eq : out0_4 x0 x1 x2 x3 = hidBlk x0 x1 x2 := by
  funext y
  unfold out0_4 k0_pay15
  refine View.canon_apply_of_pieces (Val := Elt Ideal) (hidBlk x0 x1 x2 : S4x512x704.Idx → Elt Ideal .bf16) _ (View.PiecesOf.mem ?_) y (cover0_4 _ _ _ _ y)
  simp only [r0_0, ld_whole, pay10_eq, pay13_eq, pay2_eq]
  exact ⟨piece x0 x1 x2 3 rfl _ _, piece x0 x1 x2 2 rfl _ _, piece x0 x1 x2 1 rfl _ _, piece x0 x1 x2 0 rfl _ _, trivial⟩

theorem out5_eq : out0_5 x0 x1 x2 x3 = hidBlk x0 x1 x3 := by
  funext y
  unfold out0_5 k0_pay15
  refine View.canon_apply_of_pieces (Val := Elt Ideal) (hidBlk x0 x1 x3 : S4x512x704.Idx → Elt Ideal .bf16) _ (View.PiecesOf.mem ?_) y (cover0_5 _ _ _ _ y)
  simp only [r0_0, ld_whole, pay7_eq, pay11_eq, pay14_eq, pay3_eq]
  exact ⟨piece x0 x1 x3 3 rfl _ _, piece x0 x1 x3 2 rfl _ _, piece x0 x1 x3 1 rfl _ _, piece x0 x1 x3 0 rfl _ _, trivial⟩

theorem first4_eq : Cert.HidFirstGradIdeal.Gen.out0_4 x0 x1 x2 x3 = hidBlk x0 x1 x2 := out4_eq x0 x1 x2 x3
theorem first5_eq : Cert.HidFirstGradIdeal.Gen.out0_5 x0 x1 x2 x3 = hidBlk x0 x1 x3 := out5_eq x0 x1 x2 x3

end Cert.HidGradIdeal.Hand
-- ==== Proof.Swiglu.lean ====
/- The gated hidden layer of the feed-forward and its derivative, with no program in sight: the gate is `x` times its logistic,
   and the derivative as the chain rule writes it is the derivative as the kernels factor it, at any gate and a real second factor. -/
module

public import proofs.«01_k».proof.Proof.FfnSum
public import Mathlib.Analysis.SpecialFunctions.Trigonometric.DerivHyp

@[expose] public section

noncomputable section

namespace Cert.Swiglu

open Idealize.ShloMosaic Cert.AttnMath Cert.FfnSum

/-- The matrices of both layers, the stacked hidden values, one half. -/
abbrev Downs : Shape := ⟨3, ![2, 2816, 1024]⟩
abbrev Ups : Shape := ⟨3, ![2, 1024, 2816]⟩
abbrev Slabs : Shape := ⟨3, ![4, 4096, 704]⟩
def half : EReal := Ideal.ofBits .f32 0x3F000000#32

theorem half_eq : half = ((1 / 2 : ℝ) : EReal) := by
  unfold half
  simp [Ideal.ofBits, Ideal.ieee, -EReal.coe_mul]; norm_num

/-- The logistic as a quotient, and as the hyperbolic tangent gives it. -/
def lgs (x : EReal) : EReal := Ideal.div 1 (1 + Ideal.exp (-x))
def lgsTanh (x : EReal) : EReal := half * Ideal.tanh (half * x) + half

/-- The derivative to the gate's argument by the chain rule, and as a kernel factors it. -/
def chain (d g u : EReal) : EReal := d * u * lgs g + g * (d * u) * (lgs g * (1 - lgs g))
def factored (g u : EReal) : EReal := u * (lgsTanh g * (1 + g * (1 - lgsTanh g)))

/-- Being a real number, and what keeps it. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem lgs_coe (r : ℝ) : lgs r = (((1 + Real.exp (-r))⁻¹ : ℝ) : EReal) := by
  have h := Ideal.logistic_coe (r := r)
  exact h

/-- The two logistics agree at a real argument. -/
theorem lgsTanh_coe (r : ℝ) : lgsTanh r = lgs r := by
  rw [lgs_coe]
  unfold lgsTanh
  rw [half_eq, ← EReal.coe_mul, Ideal.tanh_coe, ← EReal.coe_mul, ← EReal.coe_add]
  refine congrArg _ ?_
  have hp : 0 < Real.exp (1 / 2 * r) := Real.exp_pos _
  have e : Real.exp (-r) = (Real.exp (1 / 2 * r))⁻¹ * (Real.exp (1 / 2 * r))⁻¹ := by
    rw [← Real.exp_neg, ← Real.exp_add]
    refine congrArg _ ?_
    ring
  rw [e, Real.tanh_eq_sinh_div_cosh, Real.sinh_eq, Real.cosh_eq, Real.exp_neg (1 / 2 * r)]
  generalize Real.exp (1 / 2 * r) = p at hp
  field_simp
  ring

theorem one_sub_one : (1 : EReal) - 1 = 0 := by
  rw [← EReal.coe_one, ← EReal.coe_sub, sub_self, EReal.coe_zero]

/-- At the infinities both logistics are one and zero. -/
theorem lgs_top : lgs ⊤ = 1 := by
  unfold lgs
  rw [EReal.neg_top, show Ideal.exp ⊥ = 0 from rfl, add_zero]
  unfold Ideal.div
  rw [if_neg one_ne_zero, one_mul, ← EReal.coe_one, ← EReal.coe_inv, inv_one]
theorem lgs_bot : lgs ⊥ = 0 := by
  unfold lgs
  rw [EReal.neg_bot, show Ideal.exp ⊤ = ⊤ from rfl, ← EReal.coe_one, EReal.coe_add_top]
  unfold Ideal.div
  rw [if_neg EReal.top_ne_zero, EReal.inv_top, mul_zero]
theorem lgsTanh_top : lgsTanh ⊤ = 1 := by
  unfold lgsTanh
  rw [half_eq, EReal.coe_mul_top_of_pos (by norm_num), show Ideal.tanh ⊤ = 1 from rfl, mul_one, ← EReal.coe_add, ← EReal.coe_one]
  norm_num
theorem lgsTanh_bot : lgsTanh ⊥ = 0 := by
  unfold lgsTanh
  rw [half_eq, EReal.coe_mul_bot_of_pos (by norm_num), show Ideal.tanh ⊥ = -1 from rfl, ← EReal.coe_one, ← EReal.coe_neg, ← EReal.coe_mul, ← EReal.coe_add, ← EReal.coe_zero]
  norm_num

/-- The two logistics agree everywhere. -/
theorem lgsTanh_eq (x : EReal) : lgsTanh x = lgs x := by
  induction x using EReal.rec with
  | bot => rw [lgsTanh_bot, lgs_bot]
  | coe r => exact lgsTanh_coe r
  | top => rw [lgsTanh_top, lgs_top]

/-- A real gradient times the derivative at one is the chain rule at that gradient, whatever the gate. -/
theorem chain_eq {d u : EReal} (g : EReal) (hd : IsReal d) (hu : IsReal u) : d * chain 1 g u = chain d g u := by
  obtain ⟨d, rfl⟩ := hd
  obtain ⟨u, rfl⟩ := hu
  unfold chain
  induction g using EReal.rec with
  | bot => simp only [lgs_bot, mul_zero, zero_mul, add_zero]
  | coe g =>
    rw [lgs_coe]
    generalize (1 + Real.exp (-g))⁻¹ = s
    norm_cast
    ring
  | top => simp only [lgs_top, one_sub_one, mul_one, mul_zero, one_mul, add_zero]

theorem factored_eq {u : EReal} (g : EReal) (hu : IsReal u) : factored g u = chain 1 g u := by
  obtain ⟨u, rfl⟩ := hu
  unfold factored chain
  rw [lgsTanh_eq]
  induction g using EReal.rec with
  | bot => simp only [lgs_bot, mul_zero, zero_mul, add_zero]
  | coe g =>
    rw [lgs_coe]
    generalize (1 + Real.exp (-g))⁻¹ = s
    norm_cast
    ring
  | top => simp only [lgs_top, one_sub_one, mul_one, mul_zero, one_mul, add_zero]

theorem chain_one (g u : EReal) : chain 1 g u = u * lgs g + g * u * (lgs g * (1 - lgs g)) := by
  unfold chain
  rw [one_mul]

/-- The gradient at the hidden values, and the two factors' gradients, one slab per chip. -/
def back (W : Downs.Idx → EReal) (H : Rows.Idx → EReal) (L : Fin 2) (i : Fin 4096) (f : Fin 2816) : EReal :=
  ∑ l : Fin 1024, H (ix2 i l) * W (ix3 L f l)
def gateGrad (G U : Hidden.Idx → EReal) (W : Downs.Idx → EReal) (H : Rows.Idx → EReal) (L : Fin 2) (y : Slabs.Idx) : EReal :=
  chain (back W H L (y 1 : Fin 4096) (hid (y 0 : Fin 4) (y 2 : Fin 704))) (G (ix2 (y 1 : Fin 4096) (hid (y 0 : Fin 4) (y 2 : Fin 704)))) (U (ix2 (y 1 : Fin 4096) (hid (y 0 : Fin 4) (y 2 : Fin 704))))
def linGrad (G : Hidden.Idx → EReal) (W : Downs.Idx → EReal) (H : Rows.Idx → EReal) (L : Fin 2) (y : Slabs.Idx) : EReal :=
  G (ix2 (y 1 : Fin 4096) (hid (y 0 : Fin 4) (y 2 : Fin 704))) * lgs (G (ix2 (y 1 : Fin 4096) (hid (y 0 : Fin 4) (y 2 : Fin 704))))
    * back W H L (y 1 : Fin 4096) (hid (y 0 : Fin 4) (y 2 : Fin 704))

theorem back_real {W : Downs.Idx → EReal} {H : Rows.Idx → EReal} (hW : ∀ y, IsReal (W y)) (hH : ∀ y, IsReal (H y)) (L : Fin 2) (i : Fin 4096) (f : Fin 2816) :
    IsReal (back W H L i f) :=
  IsReal.sum _ _ fun _ => (hH _).mul (hW _)

/-- A product with a layer's first matrix; the hidden values and their two derivatives, one slab per chip. -/
def lin (A : Rows.Idx → EReal) (W : Ups.Idx → EReal) (L : Fin 2) (i : Fin 4096) (f : Fin 2816) : EReal :=
  ∑ l : Fin 1024, A (ix2 i l) * W (ix3 L l f)
def slopeGate (A : Rows.Idx → EReal) (W V : Ups.Idx → EReal) (L : Fin 2) (y : Slabs.Idx) : EReal :=
  chain 1 (lin A W L (y 1 : Fin 4096) (hid (y 0 : Fin 4) (y 2 : Fin 704))) (lin A V L (y 1 : Fin 4096) (hid (y 0 : Fin 4) (y 2 : Fin 704)))
def slopeLin (A : Rows.Idx → EReal) (W : Ups.Idx → EReal) (L : Fin 2) (y : Slabs.Idx) : EReal :=
  lin A W L (y 1 : Fin 4096) (hid (y 0 : Fin 4) (y 2 : Fin 704)) * lgs (lin A W L (y 1 : Fin 4096) (hid (y 0 : Fin 4) (y 2 : Fin 704)))
def hidden (A : Rows.Idx → EReal) (W V : Ups.Idx → EReal) (L : Fin 2) (y : Slabs.Idx) : EReal :=
  slopeLin A W L y * lin A V L (y 1 : Fin 4096) (hid (y 0 : Fin 4) (y 2 : Fin 704))

theorem lin_real {A : Rows.Idx → EReal} {W : Ups.Idx → EReal} (hA : ∀ y, IsReal (A y)) (hW : ∀ y, IsReal (W y)) (L : Fin 2) (i : Fin 4096) (f : Fin 2816) :
    IsReal (lin A W L i f) :=
  IsReal.sum _ _ fun _ => (hA _).mul (hW _)

/-- What lies below infinity in absolute value is real, as a flag says it. -/
theorem real_of_flag {x t : EReal} (ht : t = ⊤) (h : BitVec.ofBool (decide (max x (-x) < t)) = 1#1) : IsReal x := by
  have hx : max x (-x) < t := by
    by_contra hp
    simp [hp] at h
  rw [ht] at hx
  refine ⟨x.toReal, (EReal.coe_toReal ?_ ?_).symm⟩
  · rintro rfl
    simp at hx
  · rintro rfl
    simp at hx

end Cert.Swiglu
-- ==== Proof.HidValue.lean ====
/- The kernel for the feed-forward's hidden gradients, layer 1, idealized: each of the eight blocks of rows writes its rows of the
   two gradients, the host having worked out the derivatives of the gate. -/
module

public import proofs.«01_k».proof.Proof.HidStep
public import proofs.«01_k».proof.Proof.Swiglu
public import Idealize.ShloMosaic.Lib.StableHlo.RunRead
public import Idealize.ShloMosaic.Lib.Claim

@[expose] public section

set_option maxRecDepth 16384

noncomputable section

namespace Cert.HidGradIdeal.Hand

open Cert.HidGradIdeal Cert.HidGradIdeal.Gen Cert.Swiglu Cert.FfnSum Cert.AttnMath
open Idealize.ShloMosaic Idealize.ShloMosaic.TcCoe Idealize.SL.Sem Idealize.ShloMosaic.StableHlo
open Idealize.ShloMosaic.Pipeline (Dat)

/-- The host's ones, logistic and two derivatives of the gate. -/
def ones : FVec Ideal S4096x2816 .f32 := broadcastInDim S4096x2816 ![] bcast_S_S4096x2816 (constant (F := Ideal) S_ .f32 0x3F800000#32)
def logi (g : FVec Ideal S4096x2816 .f32) : FVec Ideal S4096x2816 .f32 := Host.divf ones (addf ones (Host.exp (Host.negf g)))
def slopeG (g u : FVec Ideal S4096x2816 .f32) : FVec Ideal S4096x2816 .f32 :=
  addf (mulf (mulf ones u) (logi g)) (mulf (mulf g (mulf ones u)) (mulf (logi g) (subf ones (logi g))))
def slopeU (g : FVec Ideal S4096x2816 .f32) : FVec Ideal S4096x2816 .f32 := mulf (mulf g (logi g)) ones

/-- Rounded, one slab per chip; a second matrix of both layers, one slab per chip. -/
def byChip (z : FVec Ideal S4096x2816 .f32) : FVec Ideal S4x4096x704 .bf16 :=
  transpose S4x4096x704 [1, 0, 2] (shapeCast S4096x4x704 (truncf .bf16 z bitsLt_bf16_f32) shapeCasts_S4096x2816_S4096x4x704) transposes_S4096x4x704_S4x4096x704_1_0_2
def stacked (w : FVec Ideal S2x2816x1024 .bf16) : FVec Ideal S4x1408x1024 .bf16 :=
  shapeCast S4x1408x1024 (transpose S4x2x704x1024 [1, 0, 2, 3] (shapeCast S2x4x704x1024 w shapeCasts_S2x2816x1024_S2x4x704x1024) transposes_S2x4x704x1024_S4x2x704x1024_1_0_2_3)
    shapeCasts_S4x2x704x1024_S4x1408x1024

theorem slopeG_at (g u : FVec Ideal S4096x2816 .f32) (i : Fin 4096) (f : Fin 2816) : slopeG g u (ix2 i f) = chain 1 (g (ix2 i f)) (u (ix2 i f)) := by
  rw [chain_one]
  unfold slopeG logi ones
  pointwise
  rfl

theorem slopeU_at (g : FVec Ideal S4096x2816 .f32) (i : Fin 4096) (f : Fin 2816) : slopeU g (ix2 i f) = g (ix2 i f) * lgs (g (ix2 i f)) := by
  unfold slopeU logi ones
  pointwise
  rfl

theorem byChip_at (z : FVec Ideal S4096x2816 .f32) (k : Fin 4) (i : Fin 4096) (r : Fin 704) : byChip z (ix3 k i r) = z (ix2 i (hid k r)) := by
  unfold byChip
  pointwise
  try rfl

/-- Row `r` of the layer among both layers' rows. -/
def lrow (r : Fin 704) : Fin 1408 := ⟨704 + r.val, by omega⟩

theorem stacked_at (w : FVec Ideal S2x2816x1024 .bf16) (k : Fin 4) (r : Fin 704) (l : Fin 1024) : stacked w (ix3 k (lrow r) l) = w (ix3 1 (hid k r) l) := by
  unfold stacked lrow
  pointwise
  refine congrArg (fun k' : Fin 2 => w (ix3 k' (hid k r) l)) (Fin.ext ?_)
  dsimp only
  omega

variable (m : (ℓ : Loc nD τ sig) → Buf (Elt Ideal) ℓ) (ρ : Dev nD → PrngReg)

/-- The arguments as launched. -/
abbrev argG (c : Dev nD) : FVec Ideal S4096x2816 .f32 := m ((c : Thread nD τ).loc main_arg0)
abbrev argU (c : Dev nD) : FVec Ideal S4096x2816 .f32 := m ((c : Thread nD τ).loc main_arg1)
abbrev argW (c : Dev nD) : FVec Ideal S2x2816x1024 .bf16 := m ((c : Thread nD τ).loc main_arg2)
abbrev argH (c : Dev nD) : FVec Ideal S4096x1024 .f32 := m ((c : Thread nD τ).loc main_arg3)

theorem V_w (c : Dev nD) : V (F := Ideal) m c main_v8 = stacked (argW m c) := by
  unfold_abbrev_sides
  after_reads_simp
  rfl

theorem V_g (c : Dev nD) : V (F := Ideal) m c main_v11 = byChip (slopeG (argG m c) (argU m c)) := by
  unfold_abbrev_sides
  after_reads_simp
  rfl

theorem V_u (c : Dev nD) : V (F := Ideal) m c main_v14 = byChip (slopeU (argG m c)) := by
  unfold_abbrev_sides
  after_reads_simp
  rfl

/-- Where the windows' blocks lie, decided over the grid. -/
theorem idx_facts : ∀ t : Fin cfg0.N,
    (win0_0.index t 0 = t.val ∧ win0_0.index t 1 = 0)
    ∧ (win0_1.index t 0 = 0 ∧ win0_1.index t 1 = 1 ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0) :=
  (by decide +kernel : ∀ t : Fin grid0.N, _)

theorem lt8 (t : Fin cfg0.N) : t.val < 8 := lt_of_lt_of_eq t.isLt N_0

section Blocks

variable (g : (b : Ref sig .tc) → Buf (Elt Ideal) (((0 : Dev nD).tc : Thread nD τ).loc b)) (t : Fin cfg0.N)

theorem at1 (k : Fin 4) (r : Fin 704) (l : Fin 1024) :
    (((cfg0.win 1).blk t).view.read (Elt Ideal) (g (Pipeline.arrRef spec0 1)) : Vec Ideal S4x704x1024 .bf16) (ix3 k r l)
      = (g main_v8 : Vec Ideal S4x1408x1024 .bf16) (ix3 k (lrow r) l) := by
  obtain ⟨-, ⟨e0, e1, e2⟩, -⟩ := idx_facts t
  rw [View.read_apply]
  show g main_v8 _ = g main_v8 _
  congr 1
  funext a
  apply Fin.ext
  match a with
  | ⟨0, _⟩ => show win0_1.index t 0 * 4 + 1 * k.val = k.val; rw [e0]; omega
  | ⟨1, _⟩ => show win0_1.index t 1 * 704 + 1 * r.val = 704 + r.val; rw [e1]; omega
  | ⟨2, _⟩ => show win0_1.index t 2 * 1024 + 1 * l.val = l.val; rw [e2]; omega

theorem at2 (k : Fin 4) (s : Fin 512) (r : Fin 704) :
    (((cfg0.win 2).blk t).view.read (Elt Ideal) (g (Pipeline.arrRef spec0 2)) : Vec Ideal S4x512x704 .bf16) (ix3 k s r)
      = (g main_v11 : Vec Ideal S4x4096x704 .bf16) (ix3 k (row (blockOf t.val) s) r) := by
  obtain ⟨-, -, ⟨e0, e1, e2⟩, -⟩ := idx_facts t
  have h8 := lt8 t
  rw [View.read_apply]
  show g main_v11 _ = g main_v11 _
  congr 1
  funext a
  apply Fin.ext
  match a with
  | ⟨0, _⟩ => show win0_2.index t 0 * 4 + 1 * k.val = k.val; rw [e0]; omega
  | ⟨1, _⟩ => show win0_2.index t 1 * 512 + 1 * s.val = 512 * (t.val % 8) + s.val; rw [e1]; omega
  | ⟨2, _⟩ => show win0_2.index t 2 * 704 + 1 * r.val = r.val; rw [e2]; omega

theorem at3 (k : Fin 4) (s : Fin 512) (r : Fin 704) :
    (((cfg0.win 3).blk t).view.read (Elt Ideal) (g (Pipeline.arrRef spec0 3)) : Vec Ideal S4x512x704 .bf16) (ix3 k s r)
      = (g main_v14 : Vec Ideal S4x4096x704 .bf16) (ix3 k (row (blockOf t.val) s) r) := by
  obtain ⟨-, -, -, ⟨e0, e1, e2⟩, -⟩ := idx_facts t
  have h8 := lt8 t
  rw [View.read_apply]
  show g main_v14 _ = g main_v14 _
  congr 1
  funext a
  apply Fin.ext
  match a with
  | ⟨0, _⟩ => show win0_3.index t 0 * 4 + 1 * k.val = k.val; rw [e0]; omega
  | ⟨1, _⟩ => show win0_3.index t 1 * 512 + 1 * s.val = 512 * (t.val % 8) + s.val; rw [e1]; omega
  | ⟨2, _⟩ => show win0_3.index t 2 * 704 + 1 * r.val = r.val; rw [e2]; omega

end Blocks

variable (c : Dev nD) (t : Fin cfg0.N)

theorem blk0 (s : Fin 512) (l : Fin 1024) : (iblk m c 0 t : Vec Ideal S512x1024 .f32) (ix2 s l) = argH m c (ix2 (row (blockOf t.val) s) l) := by
  obtain ⟨⟨e0, e1⟩, -⟩ := idx_facts t
  have h8 := lt8 t
  unfold iblk
  rw [View.read_apply]
  show V m c main_arg3 _ = m (c.tc.loc main_arg3) _
  rw [V_main_arg3]
  congr 1
  funext a
  apply Fin.ext
  match a with
  | ⟨0, _⟩ => show win0_0.index t 0 * 512 + 1 * s.val = 512 * (t.val % 8) + s.val; rw [e0]; omega
  | ⟨1, _⟩ => show win0_0.index t 1 * 1024 + 1 * l.val = l.val; rw [e1]; omega

theorem blk1 (k : Fin 4) (r : Fin 704) (l : Fin 1024) : (iblk m c 1 t : Vec Ideal S4x704x1024 .bf16) (ix3 k r l) = argW m c (ix3 1 (hid k r) l) :=
  (at1 (V (F := Ideal) m c) t k r l).trans ((congrFun (V_w m c) _).trans (stacked_at _ _ _ _))

theorem blk2 (k : Fin 4) (s : Fin 512) (r : Fin 704) : (iblk m c 2 t : Vec Ideal S4x512x704 .bf16) (ix3 k s r)
    = chain 1 (argG m c (ix2 (row (blockOf t.val) s) (hid k r))) (argU m c (ix2 (row (blockOf t.val) s) (hid k r))) :=
  (at2 (V (F := Ideal) m c) t k s r).trans ((congrFun (V_g m c) _).trans ((byChip_at _ _ _ _).trans (slopeG_at _ _ _ _)))

theorem blk3 (k : Fin 4) (s : Fin 512) (r : Fin 704) : (iblk m c 3 t : Vec Ideal S4x512x704 .bf16) (ix3 k s r)
    = argG m c (ix2 (row (blockOf t.val) s) (hid k r)) * lgs (argG m c (ix2 (row (blockOf t.val) s) (hid k r))) :=
  (at3 (V (F := Ideal) m c) t k s r).trans ((congrFun (V_u m c) _).trans ((byChip_at _ _ _ _).trans (slopeU_at _ _ _)))

/-- The block's product is its rows' gradient at the hidden values. -/
theorem back_blk (k : Fin 4) (s : Fin 512) (r : Fin 704) (z : Vec Ideal S4x512x704 .bf16) :
    hidBlk (iblk m c 0 t) (iblk m c 1 t) z (ix3 k s r) = back (argW m c) (argH m c) 1 (row (blockOf t.val) s) (hid k r) * z (ix3 k s r) :=
  congrArg (· * z (ix3 k s r)) (Finset.sum_congr rfl fun l _ => congrArg₂ (fun a b : EReal => a * b) (blk0 m c t s l) (blk1 m c t k r l))

/-- Every argument but the gate's is real. -/
def Real : Prop := (∀ y, IsReal (argU m c y)) ∧ (∀ y, IsReal (argW m c y)) ∧ ∀ y, IsReal (argH m c y)

/-- Point `t` writes its rows of the two gradients. -/
theorem flushed4_eq (h : Real m c) : (dats m 0 c).flushed 4 t = ((cfg0.win 4).blk t).view.read (Elt Ideal) (gateGrad (argG m c) (argU m c) (argW m c) (argH m c) 1) := by
  obtain ⟨-, -, -, -, ⟨e0, e1, e2⟩, -⟩ := idx_facts t
  have h8 := lt8 t
  rw [Value.flushed4]
  funext y
  rw [View.read_apply]
  show out0_4 (iblk m c 0 t) (iblk m c 1 t) (iblk m c 2 t) (iblk m c 3 t) (y : S4x512x704.Idx) = _
  rw [out4_eq]
  have hy : (y : S4x512x704.Idx) = ix3 (y 0 : Fin 4) (y 1 : Fin 512) (y 2 : Fin 704) := by
    funext a
    match a with
    | ⟨0, _⟩ => rfl
    | ⟨1, _⟩ => rfl
    | ⟨2, _⟩ => rfl
  refine (congrArg _ hy).trans ((back_blk m c t (y 0) (y 1) (y 2) _).trans ?_)
  refine (congrArg (_ * ·) (blk2 m c t (y 0) (y 1) (y 2))).trans ?_
  refine (chain_eq _ (back_real h.2.1 h.2.2 _ _ _) (h.1 _)).trans ?_
  refine congrArg (gateGrad (argG m c) (argU m c) (argW m c) (argH m c) 1) (a₁ := ix3 (y 0 : Fin 4) (row (blockOf t.val) (y 1)) (y 2 : Fin 704)) ?_
  funext a
  apply Fin.ext
  match a with
  | ⟨0, _⟩ => show (y 0).val = win0_4.index t 0 * 4 + 1 * (y 0).val; rw [e0]; omega
  | ⟨1, _⟩ => show 512 * (t.val % 8) + (y 1).val = win0_4.index t 1 * 512 + 1 * (y 1).val; rw [e1]; omega
  | ⟨2, _⟩ => show (y 2).val = win0_4.index t 2 * 704 + 1 * (y 2).val; rw [e2]; omega

theorem flushed5_eq : (dats m 0 c).flushed 5 t = ((cfg0.win 5).blk t).view.read (Elt Ideal) (linGrad (argG m c) (argW m c) (argH m c) 1) := by
  obtain ⟨-, -, -, -, -, ⟨e0, e1, e2⟩⟩ := idx_facts t
  have h8 := lt8 t
  rw [Value.flushed5]
  funext y
  rw [View.read_apply]
  show out0_5 (iblk m c 0 t) (iblk m c 1 t) (iblk m c 2 t) (iblk m c 3 t) (y : S4x512x704.Idx) = _
  rw [out5_eq]
  have hy : (y : S4x512x704.Idx) = ix3 (y 0 : Fin 4) (y 1 : Fin 512) (y 2 : Fin 704) := by
    funext a
    match a with
    | ⟨0, _⟩ => rfl
    | ⟨1, _⟩ => rfl
    | ⟨2, _⟩ => rfl
  refine (congrArg _ hy).trans ((back_blk m c t (y 0) (y 1) (y 2) _).trans ?_)
  refine (congrArg (_ * ·) (blk3 m c t (y 0) (y 1) (y 2))).trans ?_
  refine (mul_comm _ _).trans ?_
  refine congrArg (linGrad (argG m c) (argW m c) (argH m c) 1) (a₁ := ix3 (y 0 : Fin 4) (row (blockOf t.val) (y 1)) (y 2 : Fin 704)) ?_
  funext a
  apply Fin.ext
  match a with
  | ⟨0, _⟩ => show (y 0).val = win0_5.index t 0 * 4 + 1 * (y 0).val; rw [e0]; omega
  | ⟨1, _⟩ => show 512 * (t.val % 8) + (y 1).val = win0_5.index t 1 * 512 + 1 * (y 1).val; rw [e1]; omega
  | ⟨2, _⟩ => show (y 2).val = win0_5.index t 2 * 704 + 1 * (y 2).val; rw [e2]; omega

omit c t in
/-- Every index lies in some writing point's block. -/
theorem cover4 (i : S4x4096x704.Idx) : ∃ t : Fin cfg0.N, (cfg0.win 4).flush t = true ∧ i ∈ ((cfg0.win 4).blk t).view.set := by
  have h0 : (i 0 : Nat) < 4 := (i 0).isLt
  have h1 : (i 1 : Nat) < 4096 := (i 1).isLt
  have h2 : (i 2 : Nat) < 704 := (i 2).isLt
  have hN : cfg0.N = 8 := N_0
  refine ⟨⟨(i 1 : Nat) / 512, by omega⟩, flush0_4 _, ?_⟩
  generalize ht : (⟨(i 1 : Nat) / 512, _⟩ : Fin cfg0.N) = t
  have hv : t.val = (i 1 : Nat) / 512 := by rw [← ht]
  obtain ⟨-, -, -, -, ⟨e0, e1, e2⟩, -⟩ := idx_facts t
  show i ∈ ((View.whole main_v15_0).slice (win0_4.rect t)).set
  rw [View.set_slice_whole, Rect.mem_set_unit]
  intro a
  match a with
  | ⟨0, _⟩ => show win0_4.index t 0 * 4 ≤ (i 0 : Nat) ∧ (i 0 : Nat) < win0_4.index t 0 * 4 + 4; rw [e0]; omega
  | ⟨1, _⟩ => show win0_4.index t 1 * 512 ≤ (i 1 : Nat) ∧ (i 1 : Nat) < win0_4.index t 1 * 512 + 512; rw [e1]; omega
  | ⟨2, _⟩ => show win0_4.index t 2 * 704 ≤ (i 2 : Nat) ∧ (i 2 : Nat) < win0_4.index t 2 * 704 + 704; rw [e2]; omega

omit c t in
theorem cover5 (i : S4x4096x704.Idx) : ∃ t : Fin cfg0.N, (cfg0.win 5).flush t = true ∧ i ∈ ((cfg0.win 5).blk t).view.set := by
  obtain ⟨t, -, h⟩ := cover4 i
  exact ⟨t, flush0_5 t, h⟩

omit c t in
/-- The run at such arguments: the results at the gradients, the arguments unchanged. -/
theorem run (hr : ∀ c : Dev nD, Real m c) : θ_run defs (onTc (τ := τ) (main (F := Ideal))) ⟨m, fun _ => 0, ρ⟩ fun r => ∀ c : Dev nD,
      r.2.mem ((c : Thread nD τ).loc main_v15_0) = gateGrad (argG m c) (argU m c) (argW m c) (argH m c) 1
      ∧ r.2.mem ((c : Thread nD τ).loc main_v15_1) = linGrad (argG m c) (argW m c) (argH m c) 1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 _ (fun t _ => flushed4_eq m c t (hr c)) cover4),
      (h c).2.1.trans ((dats m 0 c).arrAt_eq_of_cover 5 _ (fun t _ => flushed5_eq m c t) cover5), (h c).2.2⟩)
    (Value.run_blocks m ρ)

end Cert.HidGradIdeal.Hand
-- ==== Proof.HidRef.lean ====
/- The reference for the feed-forward's hidden gradients, layer 1: the gradient at the hidden values is the product with the
   second matrix, and the chain rule takes it to the two factors. -/
module

public import proofs.«01_k».proof.Proof.Swiglu
public import proofs.«01_k».proof.Proof.Gen.HidRefIdeal.Run
public import proofs.«01_k».proof.Proof.Gen.HidRefIdeal.Read

@[expose] public section

set_option maxRecDepth 16384

noncomputable section

open Idealize.ShloMosaic Idealize.ShloMosaic.TcCoe Idealize.SL.Sem

namespace Cert.HidRefIdeal.Hand

open Cert.HidRefIdeal Cert.HidRefIdeal.Gen Cert.HidRefIdeal.Read Cert.Swiglu Cert.FfnSum

variable (G U : FVec Ideal S4096x2816 .f32) (W : FVec Ideal S2x2816x1024 .bf16) (H : FVec Ideal S4096x1024 .f32)

/-- The gradient at the hidden values. -/
theorem back_at (i : Fin 4096) (f : Fin 2816) : val_main_v6 (F := Ideal) W H (ix2 i f) = back W H 1 i f := by
  simp only [val_main_v6, val_main_v4, val_main_v3, val_main_v2]
  pointwise
  rfl

theorem gate_at (i : Fin 4096) (f : Fin 2816) : val_main_v9 (F := Ideal) G U W H (ix2 i f) = chain (back W H 1 i f) (G (ix2 i f)) (U (ix2 i f)) := by
  have hd := back_at W H i f
  simp only [val_main_v9, val_main_call1_v2, val_main_call1_v1, val_main_call1_v0, val_main_v8, val_main_v0_1, val_main_call0_v7, val_main_call0_v6, val_main_call0_cst_1, val_main_v0_2, val_main_call0_v4, val_main_call0_cst_0, val_main_call0_v3, val_main_call0_v2, val_main_call0_cst, val_main_call0_v1, val_main_call0_v0]
  generalize val_main_v6 (F := Ideal) W H = d at hd ⊢
  pointwise
  rw [hd]
  rfl

theorem lin_at (i : Fin 4096) (f : Fin 2816) : val_main_v7 (F := Ideal) G W H (ix2 i f) = G (ix2 i f) * lgs (G (ix2 i f)) * back W H 1 i f := by
  have hd := back_at W H i f
  simp only [val_main_v7, val_main_v0_0, val_main_v0_2, val_main_call0_v4, val_main_call0_cst_0, val_main_call0_v3, val_main_call0_v2, val_main_call0_cst, val_main_call0_v1, val_main_call0_v0]
  generalize val_main_v6 (F := Ideal) W H = d at hd ⊢
  pointwise
  rw [hd]
  rfl

/-- The two results, one slab per chip. -/
theorem gate_eq : val_main_v12 (F := Ideal) G U W H = gateGrad G U W H 1 := by
  funext y
  idx_vars y
  refine Eq.trans ?_ (gate_at G U W H _ _)
  simp only [val_main_v12, val_main_v11, val_main_v10]
  generalize val_main_v9 (F := Ideal) G U W H = d
  pointwise
  try rfl

theorem lin_eq : val_main_v15 (F := Ideal) G W H = linGrad G W H 1 := by
  funext y
  idx_vars y
  refine Eq.trans ?_ (lin_at G W H _ _)
  simp only [val_main_v15, val_main_v14, val_main_v13]
  generalize val_main_v7 (F := Ideal) G W H = d
  pointwise
  try rfl

variable (m : (ℓ : Loc nD τ sig) → Buf (Elt Ideal) ℓ) (ρ : Dev nD → PrngReg)

/-- The run: the results at the gradients, the arguments unchanged. -/
theorem run : θ_run defs (onTc (τ := τ) (main (F := Ideal))) ⟨m, fun _ => 0, ρ⟩ fun r => ∀ c : Dev nD,
      r.2.mem ((c : Thread nD τ).loc main_v12) = gateGrad (m ((c : Thread nD τ).loc main_arg0)) (m ((c : Thread nD τ).loc main_arg1)) (m ((c : Thread nD τ).loc main_arg2)) (m ((c : Thread nD τ).loc main_arg3)) 1
      ∧ r.2.mem ((c : Thread nD τ).loc main_v15) = linGrad (m ((c : Thread nD τ).loc main_arg0)) (m ((c : Thread nD τ).loc main_arg2)) (m ((c : Thread nD τ).loc main_arg3)) 1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v12_eq (F := Ideal) _ _ _ _).trans (gate_eq _ _ _ _)),
    (h c).2.1.trans ((val_main_v15_eq (F := Ideal) _ _ _).trans (lin_eq _ _ _)), (h c).2.2⟩) (Value.run (F := Ideal) m ρ)

end Cert.HidRefIdeal.Hand
-- ==== Proof.HidFirstValue.lean ====
/- The kernel for the feed-forward's hidden gradients, layer 0, idealized: each of the eight blocks of rows writes its rows of the
   two gradients, the host having worked out the derivatives of the gate. -/
module

public import proofs.«01_k».proof.Proof.HidValue
public import proofs.«01_k».proof.Proof.Swiglu
public import Idealize.ShloMosaic.Lib.StableHlo.RunRead
public import Idealize.ShloMosaic.Lib.Claim

@[expose] public section

set_option maxRecDepth 16384

noncomputable section

namespace Cert.HidFirstGradIdeal.Hand

open Cert.HidGradIdeal.Hand (slopeG slopeU byChip stacked slopeG_at slopeU_at byChip_at hidBlk first4_eq first5_eq)
open Cert.HidFirstGradIdeal Cert.HidFirstGradIdeal.Gen Cert.Swiglu Cert.FfnSum Cert.AttnMath
open Idealize.ShloMosaic Idealize.ShloMosaic.TcCoe Idealize.SL.Sem Idealize.ShloMosaic.StableHlo
open Idealize.ShloMosaic.Pipeline (Dat)

/-- Row `r` of the layer among both layers' rows. -/
def lrow (r : Fin 704) : Fin 1408 := ⟨r.val, by omega⟩

theorem stacked_at (w : FVec Ideal S2x2816x1024 .bf16) (k : Fin 4) (r : Fin 704) (l : Fin 1024) : stacked w (ix3 k (lrow r) l) = w (ix3 0 (hid k r) l) := by
  unfold stacked lrow
  pointwise
  refine congrArg₂ (fun (k' : Fin 2) (r' : Fin 2816) => w (ix3 k' r' l)) (Fin.ext ?_) (Fin.ext ?_) <;> simp [hid] <;> omega

variable (m : (ℓ : Loc nD τ sig) → Buf (Elt Ideal) ℓ) (ρ : Dev nD → PrngReg)

/-- The arguments as launched. -/
abbrev argG (c : Dev nD) : FVec Ideal S4096x2816 .f32 := m ((c : Thread nD τ).loc main_arg0)
abbrev argU (c : Dev nD) : FVec Ideal S4096x2816 .f32 := m ((c : Thread nD τ).loc main_arg1)
abbrev argW (c : Dev nD) : FVec Ideal S2x2816x1024 .bf16 := m ((c : Thread nD τ).loc main_arg2)
abbrev argH (c : Dev nD) : FVec Ideal S4096x1024 .f32 := m ((c : Thread nD τ).loc main_arg3)

theorem V_w (c : Dev nD) : V (F := Ideal) m c main_v8 = stacked (argW m c) := by
  unfold_abbrev_sides
  after_reads_simp
  rfl

theorem V_g (c : Dev nD) : V (F := Ideal) m c main_v11 = byChip (slopeG (argG m c) (argU m c)) := by
  unfold_abbrev_sides
  after_reads_simp
  rfl

theorem V_u (c : Dev nD) : V (F := Ideal) m c main_v14 = byChip (slopeU (argG m c)) := by
  unfold_abbrev_sides
  after_reads_simp
  rfl

/-- Where the windows' blocks lie, decided over the grid. -/
theorem idx_facts : ∀ t : Fin cfg0.N,
    (win0_0.index t 0 = t.val ∧ win0_0.index t 1 = 0)
    ∧ (win0_1.index t 0 = 0 ∧ win0_1.index t 1 = 0 ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0) :=
  (by decide +kernel : ∀ t : Fin grid0.N, _)

theorem lt8 (t : Fin cfg0.N) : t.val < 8 := lt_of_lt_of_eq t.isLt N_0

section Blocks

variable (g : (b : Ref sig .tc) → Buf (Elt Ideal) (((0 : Dev nD).tc : Thread nD τ).loc b)) (t : Fin cfg0.N)

theorem at1 (k : Fin 4) (r : Fin 704) (l : Fin 1024) :
    (((cfg0.win 1).blk t).view.read (Elt Ideal) (g (Pipeline.arrRef spec0 1)) : Vec Ideal S4x704x1024 .bf16) (ix3 k r l)
      = (g main_v8 : Vec Ideal S4x1408x1024 .bf16) (ix3 k (lrow r) l) := by
  obtain ⟨-, ⟨e0, e1, e2⟩, -⟩ := idx_facts t
  rw [View.read_apply]
  show g main_v8 _ = g main_v8 _
  congr 1
  funext a
  apply Fin.ext
  match a with
  | ⟨0, _⟩ => show win0_1.index t 0 * 4 + 1 * k.val = k.val; rw [e0]; omega
  | ⟨1, _⟩ => show win0_1.index t 1 * 704 + 1 * r.val = r.val; rw [e1]; omega
  | ⟨2, _⟩ => show win0_1.index t 2 * 1024 + 1 * l.val = l.val; rw [e2]; omega

theorem at2 (k : Fin 4) (s : Fin 512) (r : Fin 704) :
    (((cfg0.win 2).blk t).view.read (Elt Ideal) (g (Pipeline.arrRef spec0 2)) : Vec Ideal S4x512x704 .bf16) (ix3 k s r)
      = (g main_v11 : Vec Ideal S4x4096x704 .bf16) (ix3 k (row (blockOf t.val) s) r) := by
  obtain ⟨-, -, ⟨e0, e1, e2⟩, -⟩ := idx_facts t
  have h8 := lt8 t
  rw [View.read_apply]
  show g main_v11 _ = g main_v11 _
  congr 1
  funext a
  apply Fin.ext
  match a with
  | ⟨0, _⟩ => show win0_2.index t 0 * 4 + 1 * k.val = k.val; rw [e0]; omega
  | ⟨1, _⟩ => show win0_2.index t 1 * 512 + 1 * s.val = 512 * (t.val % 8) + s.val; rw [e1]; omega
  | ⟨2, _⟩ => show win0_2.index t 2 * 704 + 1 * r.val = r.val; rw [e2]; omega

theorem at3 (k : Fin 4) (s : Fin 512) (r : Fin 704) :
    (((cfg0.win 3).blk t).view.read (Elt Ideal) (g (Pipeline.arrRef spec0 3)) : Vec Ideal S4x512x704 .bf16) (ix3 k s r)
      = (g main_v14 : Vec Ideal S4x4096x704 .bf16) (ix3 k (row (blockOf t.val) s) r) := by
  obtain ⟨-, -, -, ⟨e0, e1, e2⟩, -⟩ := idx_facts t
  have h8 := lt8 t
  rw [View.read_apply]
  show g main_v14 _ = g main_v14 _
  congr 1
  funext a
  apply Fin.ext
  match a with
  | ⟨0, _⟩ => show win0_3.index t 0 * 4 + 1 * k.val = k.val; rw [e0]; omega
  | ⟨1, _⟩ => show win0_3.index t 1 * 512 + 1 * s.val = 512 * (t.val % 8) + s.val; rw [e1]; omega
  | ⟨2, _⟩ => show win0_3.index t 2 * 704 + 1 * r.val = r.val; rw [e2]; omega

end Blocks

variable (c : Dev nD) (t : Fin cfg0.N)

theorem blk0 (s : Fin 512) (l : Fin 1024) : (iblk m c 0 t : Vec Ideal S512x1024 .f32) (ix2 s l) = argH m c (ix2 (row (blockOf t.val) s) l) := by
  obtain ⟨⟨e0, e1⟩, -⟩ := idx_facts t
  have h8 := lt8 t
  unfold iblk
  rw [View.read_apply]
  show V m c main_arg3 _ = m (c.tc.loc main_arg3) _
  rw [V_main_arg3]
  congr 1
  funext a
  apply Fin.ext
  match a with
  | ⟨0, _⟩ => show win0_0.index t 0 * 512 + 1 * s.val = 512 * (t.val % 8) + s.val; rw [e0]; omega
  | ⟨1, _⟩ => show win0_0.index t 1 * 1024 + 1 * l.val = l.val; rw [e1]; omega

theorem blk1 (k : Fin 4) (r : Fin 704) (l : Fin 1024) : (iblk m c 1 t : Vec Ideal S4x704x1024 .bf16) (ix3 k r l) = argW m c (ix3 0 (hid k r) l) :=
  (at1 (V (F := Ideal) m c) t k r l).trans ((congrFun (V_w m c) _).trans (stacked_at _ _ _ _))

theorem blk2 (k : Fin 4) (s : Fin 512) (r : Fin 704) : (iblk m c 2 t : Vec Ideal S4x512x704 .bf16) (ix3 k s r)
    = chain 1 (argG m c (ix2 (row (blockOf t.val) s) (hid k r))) (argU m c (ix2 (row (blockOf t.val) s) (hid k r))) :=
  (at2 (V (F := Ideal) m c) t k s r).trans ((congrFun (V_g m c) _).trans ((byChip_at _ _ _ _).trans (slopeG_at _ _ _ _)))

theorem blk3 (k : Fin 4) (s : Fin 512) (r : Fin 704) : (iblk m c 3 t : Vec Ideal S4x512x704 .bf16) (ix3 k s r)
    = argG m c (ix2 (row (blockOf t.val) s) (hid k r)) * lgs (argG m c (ix2 (row (blockOf t.val) s) (hid k r))) :=
  (at3 (V (F := Ideal) m c) t k s r).trans ((congrFun (V_u m c) _).trans ((byChip_at _ _ _ _).trans (slopeU_at _ _ _)))

/-- The block's product is its rows' gradient at the hidden values. -/
theorem back_blk (k : Fin 4) (s : Fin 512) (r : Fin 704) (z : Vec Ideal S4x512x704 .bf16) :
    hidBlk (iblk m c 0 t) (iblk m c 1 t) z (ix3 k s r) = back (argW m c) (argH m c) 0 (row (blockOf t.val) s) (hid k r) * z (ix3 k s r) :=
  congrArg (· * z (ix3 k s r)) (Finset.sum_congr rfl fun l _ => congrArg₂ (fun a b : EReal => a * b) (blk0 m c t s l) (blk1 m c t k r l))

/-- Every argument but the gate's is real. -/
def Real : Prop := (∀ y, IsReal (argU m c y)) ∧ (∀ y, IsReal (argW m c y)) ∧ ∀ y, IsReal (argH m c y)

/-- Point `t` writes its rows of the two gradients. -/
theorem flushed4_eq (h : Real m c) : (dats m 0 c).flushed 4 t = ((cfg0.win 4).blk t).view.read (Elt Ideal) (gateGrad (argG m c) (argU m c) (argW m c) (argH m c) 0) := by
  obtain ⟨-, -, -, -, ⟨e0, e1, e2⟩, -⟩ := idx_facts t
  have h8 := lt8 t
  rw [Value.flushed4]
  funext y
  rw [View.read_apply]
  show out0_4 (iblk m c 0 t) (iblk m c 1 t) (iblk m c 2 t) (iblk m c 3 t) (y : S4x512x704.Idx) = _
  rw [first4_eq]
  have hy : (y : S4x512x704.Idx) = ix3 (y 0 : Fin 4) (y 1 : Fin 512) (y 2 : Fin 704) := by
    funext a
    match a with
    | ⟨0, _⟩ => rfl
    | ⟨1, _⟩ => rfl
    | ⟨2, _⟩ => rfl
  refine (congrArg _ hy).trans ((back_blk m c t (y 0) (y 1) (y 2) _).trans ?_)
  refine (congrArg (_ * ·) (blk2 m c t (y 0) (y 1) (y 2))).trans ?_
  refine (chain_eq _ (back_real h.2.1 h.2.2 _ _ _) (h.1 _)).trans ?_
  refine congrArg (gateGrad (argG m c) (argU m c) (argW m c) (argH m c) 0) (a₁ := ix3 (y 0 : Fin 4) (row (blockOf t.val) (y 1)) (y 2 : Fin 704)) ?_
  funext a
  apply Fin.ext
  match a with
  | ⟨0, _⟩ => show (y 0).val = win0_4.index t 0 * 4 + 1 * (y 0).val; rw [e0]; omega
  | ⟨1, _⟩ => show 512 * (t.val % 8) + (y 1).val = win0_4.index t 1 * 512 + 1 * (y 1).val; rw [e1]; omega
  | ⟨2, _⟩ => show (y 2).val = win0_4.index t 2 * 704 + 1 * (y 2).val; rw [e2]; omega

theorem flushed5_eq : (dats m 0 c).flushed 5 t = ((cfg0.win 5).blk t).view.read (Elt Ideal) (linGrad (argG m c) (argW m c) (argH m c) 0) := by
  obtain ⟨-, -, -, -, -, ⟨e0, e1, e2⟩⟩ := idx_facts t
  have h8 := lt8 t
  rw [Value.flushed5]
  funext y
  rw [View.read_apply]
  show out0_5 (iblk m c 0 t) (iblk m c 1 t) (iblk m c 2 t) (iblk m c 3 t) (y : S4x512x704.Idx) = _
  rw [first5_eq]
  have hy : (y : S4x512x704.Idx) = ix3 (y 0 : Fin 4) (y 1 : Fin 512) (y 2 : Fin 704) := by
    funext a
    match a with
    | ⟨0, _⟩ => rfl
    | ⟨1, _⟩ => rfl
    | ⟨2, _⟩ => rfl
  refine (congrArg _ hy).trans ((back_blk m c t (y 0) (y 1) (y 2) _).trans ?_)
  refine (congrArg (_ * ·) (blk3 m c t (y 0) (y 1) (y 2))).trans ?_
  refine (mul_comm _ _).trans ?_
  refine congrArg (linGrad (argG m c) (argW m c) (argH m c) 0) (a₁ := ix3 (y 0 : Fin 4) (row (blockOf t.val) (y 1)) (y 2 : Fin 704)) ?_
  funext a
  apply Fin.ext
  match a with
  | ⟨0, _⟩ => show (y 0).val = win0_5.index t 0 * 4 + 1 * (y 0).val; rw [e0]; omega
  | ⟨1, _⟩ => show 512 * (t.val % 8) + (y 1).val = win0_5.index t 1 * 512 + 1 * (y 1).val; rw [e1]; omega
  | ⟨2, _⟩ => show (y 2).val = win0_5.index t 2 * 704 + 1 * (y 2).val; rw [e2]; omega

omit c t in
/-- Every index lies in some writing point's block. -/
theorem cover4 (i : S4x4096x704.Idx) : ∃ t : Fin cfg0.N, (cfg0.win 4).flush t = true ∧ i ∈ ((cfg0.win 4).blk t).view.set := by
  have h0 : (i 0 : Nat) < 4 := (i 0).isLt
  have h1 : (i 1 : Nat) < 4096 := (i 1).isLt
  have h2 : (i 2 : Nat) < 704 := (i 2).isLt
  have hN : cfg0.N = 8 := N_0
  refine ⟨⟨(i 1 : Nat) / 512, by omega⟩, flush0_4 _, ?_⟩
  generalize ht : (⟨(i 1 : Nat) / 512, _⟩ : Fin cfg0.N) = t
  have hv : t.val = (i 1 : Nat) / 512 := by rw [← ht]
  obtain ⟨-, -, -, -, ⟨e0, e1, e2⟩, -⟩ := idx_facts t
  show i ∈ ((View.whole main_v15_0).slice (win0_4.rect t)).set
  rw [View.set_slice_whole, Rect.mem_set_unit]
  intro a
  match a with
  | ⟨0, _⟩ => show win0_4.index t 0 * 4 ≤ (i 0 : Nat) ∧ (i 0 : Nat) < win0_4.index t 0 * 4 + 4; rw [e0]; omega
  | ⟨1, _⟩ => show win0_4.index t 1 * 512 ≤ (i 1 : Nat) ∧ (i 1 : Nat) < win0_4.index t 1 * 512 + 512; rw [e1]; omega
  | ⟨2, _⟩ => show win0_4.index t 2 * 704 ≤ (i 2 : Nat) ∧ (i 2 : Nat) < win0_4.index t 2 * 704 + 704; rw [e2]; omega

omit c t in
theorem cover5 (i : S4x4096x704.Idx) : ∃ t : Fin cfg0.N, (cfg0.win 5).flush t = true ∧ i ∈ ((cfg0.win 5).blk t).view.set := by
  obtain ⟨t, -, h⟩ := cover4 i
  exact ⟨t, flush0_5 t, h⟩

omit c t in
/-- The run at such arguments: the results at the gradients, the arguments unchanged. -/
theorem run (hr : ∀ c : Dev nD, Real m c) : θ_run defs (onTc (τ := τ) (main (F := Ideal))) ⟨m, fun _ => 0, ρ⟩ fun r => ∀ c : Dev nD,
      r.2.mem ((c : Thread nD τ).loc main_v15_0) = gateGrad (argG m c) (argU m c) (argW m c) (argH m c) 0
      ∧ r.2.mem ((c : Thread nD τ).loc main_v15_1) = linGrad (argG m c) (argW m c) (argH m c) 0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 _ (fun t _ => flushed4_eq m c t (hr c)) cover4),
      (h c).2.1.trans ((dats m 0 c).arrAt_eq_of_cover 5 _ (fun t _ => flushed5_eq m c t) cover5), (h c).2.2⟩)
    (Value.run_blocks m ρ)

end Cert.HidFirstGradIdeal.Hand
-- ==== Proof.HidFirstRef.lean ====
/- The reference for the feed-forward's hidden gradients, layer 0: the gradient at the hidden values is the product with the
   second matrix, and the chain rule takes it to the two factors. -/
module

public import proofs.«01_k».proof.Proof.Swiglu
public import proofs.«01_k».proof.Proof.Gen.HidFirstRefIdeal.Run
public import proofs.«01_k».proof.Proof.Gen.HidFirstRefIdeal.Read

@[expose] public section

set_option maxRecDepth 16384

noncomputable section

open Idealize.ShloMosaic Idealize.ShloMosaic.TcCoe Idealize.SL.Sem

namespace Cert.HidFirstRefIdeal.Hand

open Cert.HidFirstRefIdeal Cert.HidFirstRefIdeal.Gen Cert.HidFirstRefIdeal.Read Cert.Swiglu Cert.FfnSum

variable (G U : FVec Ideal S4096x2816 .f32) (W : FVec Ideal S2x2816x1024 .bf16) (H : FVec Ideal S4096x1024 .f32)

/-- The gradient at the hidden values. -/
theorem back_at (i : Fin 4096) (f : Fin 2816) : val_main_v6 (F := Ideal) W H (ix2 i f) = back W H 0 i f := by
  simp only [val_main_v6, val_main_v4, val_main_v3, val_main_v2]
  pointwise
  rfl

theorem gate_at (i : Fin 4096) (f : Fin 2816) : val_main_v9 (F := Ideal) G U W H (ix2 i f) = chain (back W H 0 i f) (G (ix2 i f)) (U (ix2 i f)) := by
  have hd := back_at W H i f
  simp only [val_main_v9, val_main_call1_v2, val_main_call1_v1, val_main_call1_v0, val_main_v8, val_main_v0_1, val_main_call0_v7, val_main_call0_v6, val_main_call0_cst_1, val_main_v0_2, val_main_call0_v4, val_main_call0_cst_0, val_main_call0_v3, val_main_call0_v2, val_main_call0_cst, val_main_call0_v1, val_main_call0_v0]
  generalize val_main_v6 (F := Ideal) W H = d at hd ⊢
  pointwise
  rw [hd]
  rfl

theorem lin_at (i : Fin 4096) (f : Fin 2816) : val_main_v7 (F := Ideal) G W H (ix2 i f) = G (ix2 i f) * lgs (G (ix2 i f)) * back W H 0 i f := by
  have hd := back_at W H i f
  simp only [val_main_v7, val_main_v0_0, val_main_v0_2, val_main_call0_v4, val_main_call0_cst_0, val_main_call0_v3, val_main_call0_v2, val_main_call0_cst, val_main_call0_v1, val_main_call0_v0]
  generalize val_main_v6 (F := Ideal) W H = d at hd ⊢
  pointwise
  rw [hd]
  rfl

/-- The two results, one slab per chip. -/
theorem gate_eq : val_main_v12 (F := Ideal) G U W H = gateGrad G U W H 0 := by
  funext y
  idx_vars y
  refine Eq.trans ?_ (gate_at G U W H _ _)
  simp only [val_main_v12, val_main_v11, val_main_v10]
  generalize val_main_v9 (F := Ideal) G U W H = d
  pointwise
  try rfl

theorem lin_eq : val_main_v15 (F := Ideal) G W H = linGrad G W H 0 := by
  funext y
  idx_vars y
  refine Eq.trans ?_ (lin_at G W H _ _)
  simp only [val_main_v15, val_main_v14, val_main_v13]
  generalize val_main_v7 (F := Ideal) G W H = d
  pointwise
  try rfl

variable (m : (ℓ : Loc nD τ sig) → Buf (Elt Ideal) ℓ) (ρ : Dev nD → PrngReg)

/-- The run: the results at the gradients, the arguments unchanged. -/
theorem run : θ_run defs (onTc (τ := τ) (main (F := Ideal))) ⟨m, fun _ => 0, ρ⟩ fun r => ∀ c : Dev nD,
      r.2.mem ((c : Thread nD τ).loc main_v12) = gateGrad (m ((c : Thread nD τ).loc main_arg0)) (m ((c : Thread nD τ).loc main_arg1)) (m ((c : Thread nD τ).loc main_arg2)) (m ((c : Thread nD τ).loc main_arg3)) 0
      ∧ r.2.mem ((c : Thread nD τ).loc main_v15) = linGrad (m ((c : Thread nD τ).loc main_arg0)) (m ((c : Thread nD τ).loc main_arg2)) (m ((c : Thread nD τ).loc main_arg3)) 0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v12_eq (F := Ideal) _ _ _ _).trans (gate_eq _ _ _ _)),
    (h c).2.1.trans ((val_main_v15_eq (F := Ideal) _ _ _).trans (lin_eq _ _ _)), (h c).2.2⟩) (Value.run (F := Ideal) m ρ)

end Cert.HidFirstRefIdeal.Hand
-- ==== Proof.NormGrad.lean ====
/- The gradient of a row's scaling to unit mean square and of the two products after it, with no program in sight: in the form
   the kernel computes and in the one differentiating the forward gives, which are equal. -/
module

public import Idealize.ShloMosaic.Lib.Pointwise
public import proofs.«01_k».proof.Proof.FfnSum

@[expose] public section

noncomputable section

namespace Cert.NormGrad

open Idealize.ShloMosaic Cert.AttnMath Cert.FfnSum

/-- The gains of both layers, a matrix of both layers, one row. -/
abbrev Gains : Shape := ⟨2, ![2, 1024]⟩
abbrev Mats : Shape := ⟨3, ![2, 1024, 2816]⟩
abbrev OneRow : Shape := ⟨2, ![1, 1024]⟩

/-- The width and the number added to the mean square, as the programs write them. -/
def width : EReal := Ideal.ofBits .f32 0x44800000#32
def eps : EReal := Ideal.ofBits .f32 0x358637BD#32

theorem width_eq : width = ((1024 : ℝ) : EReal) := by
  unfold width
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

theorem eps_pos : ∃ e : ℝ, 0 < e ∧ eps = (e : EReal) := by
  unfold eps
  simp [Ideal.ofBits, Ideal.ieee, -EReal.coe_mul]

/-- One over the root of a row's mean square. -/
def meanSq (x : Fin 1024 → EReal) : EReal := Ideal.div (∑ j, x j * x j) width + eps
def rstd (x : Fin 1024 → EReal) : EReal := Ideal.rsqrt (meanSq x)

/-- The gradient to a row `x` under gains `g` with the scaled row's gradient `d`, as the kernel computes it. -/
def rowGrad (x g d : Fin 1024 → EReal) (l : Fin 1024) : EReal :=
  rstd x * (d l * g l - x l * rstd x * Ideal.div (∑ j, d j * g j * (x j * rstd x)) width)

/-- What the mean square's share is, in the differentiated forward. -/
def share (x g d : Fin 1024 → EReal) : EReal :=
  Ideal.div ((∑ j, x j * (d j * g j)) * (Ideal.ofBits .f32 0xBF000000#32 * Ideal.div (rstd x) (meanSq x))) width

/-- A row's mean square of real values is real and positive, and so is one over its root. -/
theorem rstd_coe (a : Fin 1024 → ℝ) : ∃ v : ℝ, 0 < v ∧ meanSq (fun j => (a j : EReal)) = (v : EReal) ∧ rstd (fun j => (a j : EReal)) = (((Real.sqrt v)⁻¹ : ℝ) : EReal) := by
  obtain ⟨e, he, hE⟩ := eps_pos
  have hs : 0 ≤ ∑ j, a j * a j := Finset.sum_nonneg fun j _ => mul_self_nonneg _
  have hv : 0 < (∑ j, a j * a j) * (1 / 1024) + e := by positivity
  have hm : meanSq (fun j => (a j : EReal)) = (((∑ j, a j * a j) * (1 / 1024) + e : ℝ) : EReal) := by
    unfold meanSq
    rw [width_eq, hE, Ideal.div_coe (by norm_num), EReal.coe_add, EReal.coe_mul, coe_sum]
    simp only [EReal.coe_mul]
  refine ⟨_, hv, hm, ?_⟩
  unfold rstd
  rw [hm, Ideal.rsqrt_coe, if_neg hv.not_gt, if_neg hv.ne']

/-- A row holding an infinity has infinite mean square, and one over its root is zero. -/
theorem rstd_infinite (x : Fin 1024 → EReal) (j : Fin 1024) (hj : x j = ⊤ ∨ x j = ⊥) : meanSq x = ⊤ ∧ rstd x = 0 := by
  obtain ⟨e, he, hE⟩ := eps_pos
  have hnn : ∀ i, 0 ≤ x i * x i := fun i => by
    rcases le_total 0 (x i) with h | h
    · exact mul_nonneg h h
    · have h' : 0 ≤ -x i := EReal.neg_nonneg.mpr h
      have := mul_nonneg h' h'
      rwa [neg_mul, mul_neg, neg_neg] at this
  have htop : x j * x j = ⊤ := by rcases hj with h | h <;> rw [h] <;> rfl
  have hs : ∑ i, x i * x i = ⊤ := top_unique (htop ▸ Finset.single_le_sum (f := fun i => x i * x i) (fun i _ => hnn i) (Finset.mem_univ j))
  have hm : meanSq x = ⊤ := by
    unfold meanSq
    rw [hs, width_eq, Ideal.div_coe (by norm_num), hE, EReal.top_mul_coe_of_pos (by norm_num), EReal.top_add_coe]
  refine ⟨hm, ?_⟩
  unfold rstd
  rw [hm]
  rfl

/-- A nonnegative real factor goes into a sum. -/
theorem coe_mul_sum (s : ℝ) (hs : 0 ≤ s) (f : Fin 1024 → EReal) : (s : EReal) * ∑ j, f j = ∑ j, (s : EReal) * f j := by
  induction (Finset.univ : Finset (Fin 1024)) using Finset.cons_induction with
  | empty => simp
  | cons a t ha ih =>
    rw [Finset.sum_cons, Finset.sum_cons, ← ih]
    exact EReal.left_distrib_of_nonneg_of_ne_top (EReal.coe_nonneg.mpr hs) (EReal.coe_ne_top s) _ _

theorem twice (u : EReal) : u + u = ((2 : ℝ) : EReal) * u := by
  have h : ((2 : ℝ) : EReal) = 1 + 1 := by norm_cast
  rw [h, EReal.right_distrib_of_nonneg zero_le_one zero_le_one, one_mul]

/-- The kernel's form is the differentiated forward's, the direct part and twice the row times the share, whatever the values:
    a row of real numbers has a positive real number for its scale, and one holding an infinity has zero. -/
theorem rowGrad_eq (x g d : Fin 1024 → EReal) (l : Fin 1024) (y : EReal) :
    y + rowGrad x g d l = y + d l * g l * rstd x + x l * share x g d + share x g d * x l := by
  by_cases hx : ∃ j, x j = ⊤ ∨ x j = ⊥
  · obtain ⟨j, hj⟩ := hx
    obtain ⟨hm, hr⟩ := rstd_infinite x j hj
    have hsh : share x g d = 0 := by
      unfold share
      have h0 : Ideal.div 0 ⊤ = 0 := by simp [Ideal.div]
      rw [hm, hr, h0, mul_zero, mul_zero, width_eq, Ideal.div_coe (by norm_num), zero_mul]
    unfold rowGrad
    rw [hsh, hr]
    simp only [zero_mul, mul_zero, add_zero]
  · have hx' : ∀ j, ∃ r : ℝ, x j = (r : EReal) := fun j => by
      have h1 : x j ≠ ⊤ := fun h => hx ⟨j, .inl h⟩
      have h2 : x j ≠ ⊥ := fun h => hx ⟨j, .inr h⟩
      exact ⟨(x j).toReal, (EReal.coe_toReal h1 h2).symm⟩
    choose a ha using hx'
    obtain rfl : x = fun j => (a j : EReal) := funext ha
    obtain ⟨v, hv, hm, hr⟩ := rstd_coe a
    unfold rowGrad share
    rw [hm, hr, width_eq, half_eq]
    have hsp : 0 ≤ (Real.sqrt v)⁻¹ := inv_nonneg.mpr (Real.sqrt_nonneg v)
    have hss : (Real.sqrt v)⁻¹ * (Real.sqrt v)⁻¹ = 1 / v := by
      rw [← mul_inv, Real.mul_self_sqrt hv.le, one_div]
    generalize (Real.sqrt v)⁻¹ = s at hsp hss ⊢
    have hT : ∑ j, d j * g j * ((a j : EReal) * (s : EReal)) = (s : EReal) * ∑ j, (a j : EReal) * (d j * g j) := by
      rw [coe_mul_sum s hsp]
      exact Finset.sum_congr rfl fun j _ => by ac_rfl
    rw [hT, Ideal.div_coe (by norm_num : (1024 : ℝ) ≠ 0), Ideal.div_coe hv.ne', Ideal.div_coe (by norm_num : (1024 : ℝ) ≠ 0)]
    generalize (∑ j, (a j : EReal) * (d j * g j)) = T
    generalize d l * g l = w
    have e1 : (s : EReal) * (w - (a l : EReal) * s * (s * T * ((1 / 1024 : ℝ) : EReal)))
        = w * s + ((-(s * s * s * (1 / 1024)) : ℝ) : EReal) * ((a l : EReal) * T) := by
      rw [sub_eq_add_neg, EReal.left_distrib_of_nonneg_of_ne_top (EReal.coe_nonneg.mpr hsp) (EReal.coe_ne_top s), mul_comm (s : EReal) w, mul_neg,
        EReal.coe_neg, neg_mul]
      simp only [EReal.coe_mul]
      congr 2
      ac_rfl
    have e2 : (a l : EReal) * (T * (((-(1 / 2) : ℝ) : EReal) * ((s : EReal) * ((1 / v : ℝ) : EReal))) * ((1 / 1024 : ℝ) : EReal))
        = ((-(1 / 2) * (s * (1 / v)) * (1 / 1024) : ℝ) : EReal) * ((a l : EReal) * T) := by
      simp only [EReal.coe_mul]
      ac_rfl
    rw [e1, mul_comm _ (a l : EReal), e2, add_assoc (y + w * s), twice, ← mul_assoc ((2 : ℝ) : EReal), ← EReal.coe_mul, add_assoc, ← hss]
    congr 5
    ring

/-- A sum over the hidden columns is the sum of the four chips' shares. -/
theorem sum_chips (f : Fin 2816 → EReal) :
    ∑ r : Fin 704, f (hid 0 r) + ∑ r : Fin 704, f (hid 1 r) + ∑ r : Fin 704, f (hid 2 r) + ∑ r : Fin 704, f (hid 3 r) = ∑ i, f i := by
  rw [← Fin.sum_univ_four fun k => ∑ r : Fin 704, f (hid k r), ← Fintype.sum_prod_type']
  refine Fintype.sum_bijective (fun p : Fin 4 × Fin 704 => hid p.1 p.2) ⟨?_, ?_⟩ _ _ fun _ => rfl
  · rintro ⟨J, r⟩ ⟨J', r'⟩ h
    have h := congrArg Fin.val h
    change J.val * 704 + r.val = J'.val * 704 + r'.val at h
    exact Prod.ext (Fin.ext (show J.val = J'.val by omega)) (Fin.ext (show r.val = r'.val by omega))
  · intro i
    refine ⟨(⟨i.val / 704, by omega⟩, ⟨i.val % 704, by omega⟩), Fin.ext ?_⟩
    show i.val / 704 * 704 + i.val % 704 = i.val
    omega

/-- Two such sums, added chip by chip. -/
theorem sum_chips_two (f g : Fin 2816 → EReal) :
    ∑ r : Fin 704, f (hid 0 r) + ∑ r : Fin 704, g (hid 0 r) + ∑ r : Fin 704, f (hid 1 r) + ∑ r : Fin 704, g (hid 1 r)
        + ∑ r : Fin 704, f (hid 2 r) + ∑ r : Fin 704, g (hid 2 r) + ∑ r : Fin 704, f (hid 3 r) + ∑ r : Fin 704, g (hid 3 r)
      = ∑ i, f i + ∑ i, g i := by
  rw [← sum_chips f, ← sum_chips g]
  ac_rfl

variable (X : Rows.Idx → EReal) (G : Gains.Idx → EReal) (A B : Mats.Idx → EReal) (Y : Rows.Idx → EReal) (P Q : Hidden.Idx → EReal) (k : Fin 2)

/-- The scaled row's gradient through the two products of layer `k`. -/
def mid (i : Fin 4096) (j : Fin 1024) : EReal := ∑ f : Fin 2816, P (ix2 i f) * A (ix3 k j f) + ∑ f : Fin 2816, Q (ix2 i f) * B (ix3 k j f)

/-- The rows' gradient: what comes past the layer, and what comes through it. -/
def inGrad (y : Rows.Idx) : EReal :=
  Y y + rowGrad (fun j => X (ix2 (y 0 : Fin 4096) j)) (fun j => G (ix2 k j)) (mid A B P Q k (y 0)) (y 1)

/-- One token's part of the gains' gradient, and the gradient. -/
def gainTok (y : OneRow.Idx) (i : Fin 4096) : EReal := mid A B P Q k i (y 1) * (X (ix2 i (y 1 : Fin 1024)) * rstd fun j => X (ix2 i j))
def gainGrad (y : OneRow.Idx) : EReal := ∑ i : Fin 4096, gainTok X A B P Q k y i

/-- The rows' gradient is the differentiated forward's. -/
theorem inGrad_eq (i : Fin 4096) (l : Fin 1024) :
    inGrad X G A B Y P Q k (ix2 i l) = Y (ix2 i l) + mid A B P Q k i l * G (ix2 k l) * rstd (fun j => X (ix2 i j))
      + X (ix2 i l) * share (fun j => X (ix2 i j)) (fun j => G (ix2 k j)) (mid A B P Q k i)
      + share (fun j => X (ix2 i j)) (fun j => G (ix2 k j)) (mid A B P Q k i) * X (ix2 i l) :=
  rowGrad_eq _ _ _ l _

end Cert.NormGrad
-- ==== Proof.InStep.lean ====
/- One grid point of the kernel for the gradient to the feed-forward's rows (second layer), idealized: the block of rows it
   writes, and what it adds to the gains' gradient it carries. -/
module

public import proofs.«01_k».proof.Proof.Gen.InGradIdeal.Value
public import proofs.«01_k».proof.Proof.NormGrad
public import Idealize.ShloMosaic.Lib.Pipeline.Value
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.InGradIdeal.Hand

open Cert.InGradIdeal Cert.InGradIdeal.Gen Cert.NormGrad

/-- The scaled rows' gradient of the block, chip by chip. -/
def midBlk (x0 x1 : Vec Ideal S4x512x704 .bf16) (x2 x3 : Vec Ideal S4x1024x704 .bf16) (s : Fin 512) (l : Fin 1024) : EReal :=
  ∑ r : Fin 704, x0 (ix3 0 s r) * x2 (ix3 0 l r) + ∑ r : Fin 704, x1 (ix3 0 s r) * x3 (ix3 0 l r)
    + ∑ r : Fin 704, x0 (ix3 1 s r) * x2 (ix3 1 l r) + ∑ r : Fin 704, x1 (ix3 1 s r) * x3 (ix3 1 l r)
    + ∑ r : Fin 704, x0 (ix3 2 s r) * x2 (ix3 2 l r) + ∑ r : Fin 704, x1 (ix3 2 s r) * x3 (ix3 2 l r)
    + ∑ r : Fin 704, x0 (ix3 3 s r) * x2 (ix3 3 l r) + ∑ r : Fin 704, x1 (ix3 3 s r) * x3 (ix3 3 l r)

/-- The rows the point writes, and what it adds to the gains' gradient. -/
def rowsBlk (x0 x1 : Vec Ideal S4x512x704 .bf16) (x2 x3 : Vec Ideal S4x1024x704 .bf16) (x4 : Vec Ideal S512x1024 .f32) (x5 : Vec Ideal S1x1024 .f32)
    (x6 : Vec Ideal S512x1024 .f32) (y : S512x1024.Idx) : EReal :=
  x6 y + rowGrad (fun j => x4 (ix2 (y 0 : Fin 512) j)) (fun j => x5 (ix2 0 j)) (midBlk x0 x1 x2 x3 (y 0)) (y 1)
def gainBlk (x0 x1 : Vec Ideal S4x512x704 .bf16) (x2 x3 : Vec Ideal S4x1024x704 .bf16) (x4 : Vec Ideal S512x1024 .f32) (p : OneRow.Idx → EReal) (y : OneRow.Idx) : EReal :=
  p y + ∑ s : Fin 512, midBlk x0 x1 x2 x3 s (y 1) * (x4 (ix2 s (y 1 : Fin 1024)) * rstd fun j => x4 (ix2 s j))

/-- The stored payloads, read at an index. -/
theorem rows_at (d x : Vec Ideal S512x1024 .f32) (g : Vec Ideal S1x1024 .f32) (h : Vec Ideal S512x1024 .f32) (s : Fin 512) (l : Fin 1024) :
    k0_pay3 d x (k0_pay9 g) (k0_pay10 x) k0_pay11 h (ix2 s l)
      = h (ix2 s l) + rowGrad (fun j => x (ix2 s j)) (fun j => g (ix2 0 j)) (fun j => d (ix2 s j)) l := by
  unfold_payloads
  pointwise
  rfl

theorem gain_at (d x : Vec Ideal S512x1024 .f32) (p : Vec Ideal S1x1024 .f32) (l : Fin 1024) :
    k0_pay5 d x (k0_pay10 x) k0_pay11 p (ix2 0 l) = p (ix2 0 l) + ∑ s : Fin 512, d (ix2 s l) * (x (ix2 s l) * rstd fun j => x (ix2 s j)) := by
  unfold_payloads
  pointwise
  rfl

theorem mid_at (d0 d1 d2 d3 e0 e1 e2 e3 : Vec Ideal S1x512x704 .bf16) (w0 w1 w2 w3 u0 u1 u2 u3 : Vec Ideal S1x1024x704 .bf16) (s : Fin 512) (l : Fin 1024) :
    k0_pay8 (k0_pay6 d0 w0 e0 u0 d1 w1 e1 u1) (k0_pay7 d2) w2 e2 u2 d3 w3 e3 u3 (ix2 s l)
      = ∑ r, d0 (ix3 0 s r) * w0 (ix3 0 l r) + ∑ r, e0 (ix3 0 s r) * u0 (ix3 0 l r) + ∑ r, d1 (ix3 0 s r) * w1 (ix3 0 l r)
        + ∑ r, e1 (ix3 0 s r) * u1 (ix3 0 l r) + ∑ r, d2 (ix3 0 s r) * w2 (ix3 0 l r) + ∑ r, e2 (ix3 0 s r) * u2 (ix3 0 l r)
        + ∑ r, d3 (ix3 0 s r) * w3 (ix3 0 l r) + ∑ r, e3 (ix3 0 s r) * u3 (ix3 0 l r) := by
  unfold_payloads
  pointwise

theorem fill_eq (y : S1x1024.Idx) : k0_pay4 (F := Ideal) y = 0 := by
  idx_vars y
  unfold_payloads
  pointwise

/-- Chip `k`'s slab, read. -/
theorem ld_d (x : Vec Ideal S4x512x704 .bf16) (k : Fin 4) {off : Fin 3 → ℕ} (hoff : off = ![k.val, 0, 0]) (inb : ∀ a, off a + ![1, 512, 704] a ≤ S4x512x704.size a) (s : Fin 512) (r : Fin 704) :
    View.ld x (Rect.unit (s := S4x512x704) off ![1, 512, 704] inb) (ix3 0 s r : S1x512x704.Idx) = x (ix3 k s r) := by
  subst hoff
  show x _ = x _
  congr 1
  funext a
  apply Fin.ext
  match a with
  | ⟨0, _⟩ => show k.val + 1 * 0 = k.val; omega
  | ⟨1, _⟩ => show 0 + 1 * s.val = s.val; omega
  | ⟨2, _⟩ => show 0 + 1 * r.val = r.val; omega

theorem ld_w (x : Vec Ideal S4x1024x704 .bf16) (k : Fin 4) {off : Fin 3 → ℕ} (hoff : off = ![k.val, 0, 0]) (inb : ∀ a, off a + ![1, 1024, 704] a ≤ S4x1024x704.size a) (s : Fin 1024) (r : Fin 704) :
    View.ld x (Rect.unit (s := S4x1024x704) off ![1, 1024, 704] inb) (ix3 0 s r : S1x1024x704.Idx) = x (ix3 k s r) := by
  subst hoff
  show x _ = x _
  congr 1
  funext a
  apply Fin.ext
  match a with
  | ⟨0, _⟩ => show k.val + 1 * 0 = k.val; omega
  | ⟨1, _⟩ => show 0 + 1 * s.val = s.val; omega
  | ⟨2, _⟩ => show 0 + 1 * r.val = r.val; omega

theorem ld_rows (x : Vec Ideal S512x1024 .f32) (inb : ∀ a, (![0, 0] : Fin 2 → ℕ) a + ![512, 1024] a ≤ S512x1024.size a) :
    View.ld x (Rect.unit (s := S512x1024) ![0, 0] ![512, 1024] inb) = x := by
  funext y
  show x _ = x y
  congr 1
  funext a
  apply Fin.ext
  match a with
  | ⟨0, _⟩ => show 0 + 1 * (y 0).val = (y 0).val; omega
  | ⟨1, _⟩ => show 0 + 1 * (y 1).val = (y 1).val; omega

theorem ld_row (x : Vec Ideal S1x1024 .f32) (inb : ∀ a, (![0, 0] : Fin 2 → ℕ) a + ![1, 1024] a ≤ S1x1024.size a) :
    View.ld x (Rect.unit (s := S1x1024) ![0, 0] ![1, 1024] inb) = x := by
  funext y
  show x _ = x y
  congr 1
  funext a
  apply Fin.ext
  match a with
  | ⟨0, _⟩ => show 0 + 1 * (y 0).val = (y 0).val; omega
  | ⟨1, _⟩ => show 0 + 1 * (y 1).val = (y 1).val; omega

theorem emb_rows (inb : ∀ a, (![0, 0] : Fin 2 → ℕ) a + ![512, 1024] a ≤ S512x1024.size a) (y : S512x1024.Idx) :
    (Rect.unit (s := S512x1024) ![0, 0] ![512, 1024] inb).emb y = y := by
  funext a
  apply Fin.ext
  match a with
  | ⟨0, _⟩ => show 0 + 1 * (y 0).val = (y 0).val; omega
  | ⟨1, _⟩ => show 0 + 1 * (y 1).val = (y 1).val; omega

theorem emb_row (inb : ∀ a, (![0, 0] : Fin 2 → ℕ) a + ![1, 1024] a ≤ S1x1024.size a) (y : S1x1024.Idx) :
    (Rect.unit (s := S1x1024) ![0, 0] ![1, 1024] inb).emb y = y := by
  funext a
  apply Fin.ext
  match a with
  | ⟨0, _⟩ => show 0 + 1 * (y 0).val = (y 0).val; omega
  | ⟨1, _⟩ => show 0 + 1 * (y 1).val = (y 1).val; omega

/-- The block's gradient as the point assembles it. -/
def midMat (x0 x1 : Vec Ideal S4x512x704 .bf16) (x2 x3 : Vec Ideal S4x1024x704 .bf16) : Vec Ideal S512x1024 .f32 :=
  k0_pay8
    (k0_pay6 (View.ld x0 (Rect.unit ![0, 0, 0] ![1, 512, 704] inb_S4x512x704_S1x512x704_0_0_0)) (View.ld x2 (Rect.unit ![0, 0, 0] ![1, 1024, 704] inb_S4x1024x704_S1x1024x704_0_0_0))
      (View.ld x1 (Rect.unit ![0, 0, 0] ![1, 512, 704] inb_S4x512x704_S1x512x704_0_0_0)) (View.ld x3 (Rect.unit ![0, 0, 0] ![1, 1024, 704] inb_S4x1024x704_S1x1024x704_0_0_0))
      (View.ld x0 (Rect.unit ![1, 0, 0] ![1, 512, 704] inb_S4x512x704_S1x512x704_1_0_0)) (View.ld x2 (Rect.unit ![1, 0, 0] ![1, 1024, 704] inb_S4x1024x704_S1x1024x704_1_0_0))
      (View.ld x1 (Rect.unit ![1, 0, 0] ![1, 512, 704] inb_S4x512x704_S1x512x704_1_0_0)) (View.ld x3 (Rect.unit ![1, 0, 0] ![1, 1024, 704] inb_S4x1024x704_S1x1024x704_1_0_0)))
    (k0_pay7 (View.ld x0 (Rect.unit ![2, 0, 0] ![1, 512, 704] inb_S4x512x704_S1x512x704_2_0_0))) (View.ld x2 (Rect.unit ![2, 0, 0] ![1, 1024, 704] inb_S4x1024x704_S1x1024x704_2_0_0))
    (View.ld x1 (Rect.unit ![2, 0, 0] ![1, 512, 704] inb_S4x512x704_S1x512x704_2_0_0)) (View.ld x3 (Rect.unit ![2, 0, 0] ![1, 1024, 704] inb_S4x1024x704_S1x1024x704_2_0_0))
    (View.ld x0 (Rect.unit ![3, 0, 0] ![1, 512, 704] inb_S4x512x704_S1x512x704_3_0_0)) (View.ld x2 (Rect.unit ![3, 0, 0] ![1, 1024, 704] inb_S4x1024x704_S1x1024x704_3_0_0))
    (View.ld x1 (Rect.unit ![3, 0, 0] ![1, 512, 704] inb_S4x512x704_S1x512x704_3_0_0)) (View.ld x3 (Rect.unit ![3, 0, 0] ![1, 1024, 704] inb_S4x1024x704_S1x1024x704_3_0_0))

theorem midMat_at (x0 x1 : Vec Ideal S4x512x704 .bf16) (x2 x3 : Vec Ideal S4x1024x704 .bf16) (s : Fin 512) (l : Fin 1024) :
    midMat x0 x1 x2 x3 (ix2 s l) = midBlk x0 x1 x2 x3 s l := by
  unfold midMat
  refine (mid_at _ _ _ _ _ _ _ _ _ _ _ _ _ _ _ _ s l).trans ?_
  simp only [ld_d x0 0 (off := ![0, 0, 0]) rfl, ld_d x0 1 (off := ![1, 0, 0]) rfl, ld_d x0 2 (off := ![2, 0, 0]) rfl, ld_d x0 3 (off := ![3, 0, 0]) rfl, ld_d x1 0 (off := ![0, 0, 0]) rfl, ld_d x1 1 (off := ![1, 0, 0]) rfl, ld_d x1 2 (off := ![2, 0, 0]) rfl, ld_d x1 3 (off := ![3, 0, 0]) rfl, ld_w x2 0 (off := ![0, 0, 0]) rfl, ld_w x2 1 (off := ![1, 0, 0]) rfl, ld_w x2 2 (off := ![2, 0, 0]) rfl, ld_w x2 3 (off := ![3, 0, 0]) rfl, ld_w x3 0 (off := ![0, 0, 0]) rfl, ld_w x3 1 (off := ![1, 0, 0]) rfl, ld_w x3 2 (off := ![2, 0, 0]) rfl, ld_w x3 3 (off := ![3, 0, 0]) rfl]
  rfl

/-- The two stored pieces are the point's values at their places. -/
theorem rows_piece (x0 x1 : Vec Ideal S4x512x704 .bf16) (x2 x3 : Vec Ideal S4x1024x704 .bf16) (x4 : Vec Ideal S512x1024 .f32) (x5 : Vec Ideal S1x1024 .f32)
    (x6 : Vec Ideal S512x1024 .f32) (inb : ∀ a, (![0, 0] : Fin 2 → ℕ) a + ![512, 1024] a ≤ S512x1024.size a) (x : S512x1024.Idx) :
    k0_pay3 (midMat x0 x1 x2 x3) x4 (k0_pay9 x5) (k0_pay10 x4) k0_pay11 x6 x
      = rowsBlk x0 x1 x2 x3 x4 x5 x6 ((Rect.unit (s := S512x1024) ![0, 0] ![512, 1024] inb).emb x) := by
  rw [emb_rows]
  idx_vars x
  refine (rows_at _ _ _ _ _ _).trans ?_
  simp only [midMat_at]
  rfl

theorem gain_piece (x0 x1 : Vec Ideal S4x512x704 .bf16) (x2 x3 : Vec Ideal S4x1024x704 .bf16) (x4 : Vec Ideal S512x1024 .f32) (p : Vec Ideal S1x1024 .f32)
    (q : OneRow.Idx → EReal) (hq : ∀ y, p y = q y) (inb : ∀ a, (![0, 0] : Fin 2 → ℕ) a + ![1, 1024] a ≤ S1x1024.size a) (x : S1x1024.Idx) :
    k0_pay5 (midMat x0 x1 x2 x3) x4 (k0_pay10 x4) k0_pay11 p x
      = gainBlk x0 x1 x2 x3 x4 q ((Rect.unit (s := S1x1024) ![0, 0] ![1, 1024] inb).emb x) := by
  rw [emb_row]
  obtain ⟨l, rfl⟩ : ∃ l : Fin 1024, x = ix2 0 l := ⟨x 1, by
    have h0 : (x 0).val < 1 := (x 0).isLt
    funext a
    match a with
    | ⟨0, _⟩ => exact Fin.ext (show (x 0).val = 0 by omega)
    | ⟨1, _⟩ => rfl⟩
  refine (gain_at _ _ _ l).trans ?_
  rw [hq]
  exact congrArg (q (ix2 0 l) + ·) (Finset.sum_congr rfl fun s _ => congrArg (· * _) (midMat_at x0 x1 x2 x3 s l))

theorem mem_row (inb : ∀ a, (![0, 0] : Fin 2 → ℕ) a + ![1, 1024] a ≤ S1x1024.size a) (y : S1x1024.Idx) :
    y ∈ (Rect.unit (s := S1x1024) ![0, 0] ![1, 1024] inb).set := by
  refine Rect.mem_set_unit.mpr fun a => ?_
  match a with
  | ⟨0, _⟩ => exact ⟨Nat.zero_le _, show (y 0).val < 0 + 1 by have := (y 0).isLt; change (y 0).val < 1 at this; omega⟩
  | ⟨1, _⟩ => exact ⟨Nat.zero_le _, show (y 1).val < 0 + 1024 by have := (y 1).isLt; change (y 1).val < 1024 at this; omega⟩

theorem cover1 (y : S1x1024.Idx) (w : S1x1024.Idx → Elt Ideal .f32) :
    ∃ p ∈ ([⟨Rect.unit ![0, 0] ![1, 1024] inb_S1x1024_S1x1024_0_0, w⟩] : List (View.Piece (Elt Ideal) S1x1024 .f32)), y ∈ p.1.set :=
  ⟨_, List.mem_cons_self, mem_row inb_S1x1024_S1x1024_0_0 y⟩

variable (c : Dev nD) (i : grid0.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole)
  (x0 x1 : Vec Ideal S4x512x704 .bf16) (x2 x3 : Vec Ideal S4x1024x704 .bf16) (x4 : Vec Ideal S512x1024 .f32) (x5 : Vec Ideal S1x1024 .f32) (x6 : Vec Ideal S512x1024 .f32) (xo : Vec Ideal S1x1024 .f32)

theorem outA_7 (hc0 : cond0_0 i) (y : S512x1024.Idx) :
    out0_A_7 c i arg1 harg1 arg2 harg2 arg3 harg3 arg4 harg4 arg5 harg5 arg6 harg6 arg7 harg7 arg8 harg8 arg9 harg9 hc0 x0 x1 x2 x3 x4 x5 x6 y = rowsBlk x0 x1 x2 x3 x4 x5 x6 y := by
  unfold out0_A_7
  refine View.read_writes_apply_of_pieces (Val := Elt Ideal) _ _ (rowsBlk x0 x1 x2 x3 x4 x5 x6 : S512x1024.Idx → Elt Ideal .f32) _ (View.PiecesOf.mem ?_) y (cover0_A_7 c i arg1 harg1 arg2 harg2 arg3 harg3 arg4 harg4 arg5 harg5 arg6 harg6 arg7 harg7 arg8 harg8 arg9 harg9 hc0 x0 x1 x2 x3 x4 x5 x6 y)
  unfold kernelRun0_A
  dsimp only
  sl_unfold_run_names
  simp only [View.readAt_eq_ld, harg1.read_unread, harg2.read_unread, harg3.read_unread, harg4.read_unread, harg5.read_unread, harg6.read_unread, harg7.read_unread, ld_rows, ld_row]
  exact ⟨rows_piece x0 x1 x2 x3 x4 x5 x6 inb_S512x1024_S512x1024_0_0, trivial⟩

theorem outB_7 (hc0 : ¬cond0_0 i) (y : S512x1024.Idx) :
    out0_B_7 c i arg1 harg1 arg2 harg2 arg3 harg3 arg4 harg4 arg5 harg5 arg6 harg6 arg7 harg7 arg8 harg8 arg9 harg9 hc0 x0 x1 x2 x3 x4 x5 x6 xo y = rowsBlk x0 x1 x2 x3 x4 x5 x6 y := by
  unfold out0_B_7
  refine View.read_writes_apply_of_pieces (Val := Elt Ideal) _ _ (rowsBlk x0 x1 x2 x3 x4 x5 x6 : S512x1024.Idx → Elt Ideal .f32) _ (View.PiecesOf.mem ?_) y (cover0_B_7 c i arg1 harg1 arg2 harg2 arg3 harg3 arg4 harg4 arg5 harg5 arg6 harg6 arg7 harg7 arg8 harg8 arg9 harg9 hc0 x0 x1 x2 x3 x4 x5 x6 xo y)
  unfold kernelRun0_B
  dsimp only
  sl_unfold_run_names
  simp only [View.readAt_eq_ld, harg1.read_unread, harg2.read_unread, harg3.read_unread, harg4.read_unread, harg5.read_unread, harg6.read_unread, harg7.read_unread, harg9.read_unread, ld_rows, ld_row]
  exact ⟨rows_piece x0 x1 x2 x3 x4 x5 x6 inb_S512x1024_S512x1024_0_0, trivial⟩

theorem outA_8 (hc0 : cond0_0 i) (y : S1x1024.Idx) :
    out0_A_8 c i arg1 harg1 arg2 harg2 arg3 harg3 arg4 harg4 arg5 harg5 arg6 harg6 arg7 harg7 arg8 harg8 arg9 harg9 hc0 x0 x1 x2 x3 x4 x5 x6 y = gainBlk x0 x1 x2 x3 x4 (fun _ => 0) y := by
  unfold out0_A_8
  rw [View.read_writes_junk_apply_eq_canon]
  unfold kernelRun0_A
  dsimp only
  sl_unfold_run_names
  simp (disch := decide) only [↓View.readCov_skip, ↓View.readCov_fill]
  simp only [View.readAt_eq_ld, harg1.read_unread, harg2.read_unread, harg3.read_unread, harg4.read_unread, harg5.read_unread, harg6.read_unread, harg7.read_unread, ld_rows, ld_row]
  have h := gain_piece x0 x1 x2 x3 x4 (k0_pay4 (F := Ideal)) (fun _ => 0) fill_eq inb_S1x1024_S1x1024_0_0
  refine View.canon_append_of_piecesOf (Val := Elt Ideal) (gainBlk x0 x1 x2 x3 x4 (fun _ => 0) : S1x1024.Idx → Elt Ideal .f32) [_] [_] ?_ y (cover1 y _)
  exact ⟨h, trivial⟩

theorem outB_8 (hc0 : ¬cond0_0 i) (y : S1x1024.Idx) :
    out0_B_8 c i arg1 harg1 arg2 harg2 arg3 harg3 arg4 harg4 arg5 harg5 arg6 harg6 arg7 harg7 arg8 harg8 arg9 harg9 hc0 x0 x1 x2 x3 x4 x5 x6 xo y = gainBlk x0 x1 x2 x3 x4 xo y := by
  unfold out0_B_8
  refine View.read_writes_apply_of_pieces (Val := Elt Ideal) _ _ (gainBlk x0 x1 x2 x3 x4 xo : S1x1024.Idx → Elt Ideal .f32) _ (View.PiecesOf.mem ?_) y (cover0_B_8 c i arg1 harg1 arg2 harg2 arg3 harg3 arg4 harg4 arg5 harg5 arg6 harg6 arg7 harg7 arg8 harg8 arg9 harg9 hc0 x0 x1 x2 x3 x4 x5 x6 xo y)
  unfold kernelRun0_B
  dsimp only
  sl_unfold_run_names
  simp only [View.readAt_eq_ld, harg1.read_unread, harg2.read_unread, harg3.read_unread, harg4.read_unread, harg5.read_unread, harg6.read_unread, harg7.read_unread, harg9.read_unread, ld_rows, ld_row]
  exact ⟨gain_piece x0 x1 x2 x3 x4 xo xo (fun _ => rfl) inb_S1x1024_S1x1024_0_0, trivial⟩

end Cert.InGradIdeal.Hand
-- ==== Proof.GatesStep.lean ====
/- One grid point of the feed-forward's first half, idealized: each chip's slab of the hidden values and of their derivatives to the
   gate and to the linear factor. The two layers' programs have one body. -/
module

public import proofs.«01_k».proof.Proof.Swiglu
public import proofs.«01_k».proof.Proof.InStep
public import proofs.«01_k».proof.Proof.DownStep
public import proofs.«01_k».proof.Proof.Gen.GatesIdeal.Value
public import proofs.«01_k».proof.Proof.Gen.GatesFirstIdeal.Value

@[expose] public section

set_option maxRecDepth 16384

noncomputable section

open Idealize.ShloMosaic Idealize.ShloMosaic.TcCoe Idealize.SL.Sem

namespace Cert.GatesIdeal.Hand

open Cert.GatesIdeal Cert.GatesIdeal.Gen Cert.Swiglu
open Cert.DownGradIdeal.Hand (emb_x)
open Cert.InGradIdeal.Hand (ld_w)

/-- The block's product with a first matrix, and the three values it gives. -/
def dotBlk (x0 : Vec Ideal S512x1024 .bf16) (w : Vec Ideal S4x1024x704 .bf16) (y : S4x512x704.Idx) : EReal :=
  ∑ l : Fin 1024, x0 (ix2 (y 1 : Fin 512) l) * w (ix3 (y 0 : Fin 4) l (y 2 : Fin 704))
def gateBlk (x0 : Vec Ideal S512x1024 .bf16) (w v : Vec Ideal S4x1024x704 .bf16) (y : S4x512x704.Idx) : EReal := factored (dotBlk x0 w y) (dotBlk x0 v y)
def upBlk (x0 : Vec Ideal S512x1024 .bf16) (w : Vec Ideal S4x1024x704 .bf16) (y : S4x512x704.Idx) : EReal := dotBlk x0 w y * lgsTanh (dotBlk x0 w y)
def hidBlk (x0 : Vec Ideal S512x1024 .bf16) (w v : Vec Ideal S4x1024x704 .bf16) (y : S4x512x704.Idx) : EReal := upBlk x0 w y * dotBlk x0 v y

variable (q : Vec Ideal S512x1024 .bf16) (a b : Vec Ideal S1x1024x704 .bf16)

/-- One chip's two products, and its stored payloads, read at an index. -/
theorem pay1_at (s : Fin 512) (r : Fin 704) : k0_pay1 q a (ix2 s r) = ∑ l : Fin 1024, q (ix2 s l) * a (ix3 0 l r) := by
  unfold_payloads
  pointwise

theorem pay2_at (s : Fin 512) (r : Fin 704) : k0_pay2 q b (ix2 s r) = ∑ l : Fin 1024, q (ix2 s l) * b (ix3 0 l r) := pay1_at q b s r

theorem pay3_at (s : Fin 512) (r : Fin 704) : k0_pay3 q a (ix2 s r) = lgsTanh (∑ l : Fin 1024, q (ix2 s l) * a (ix3 0 l r)) := by
  have h := pay1_at q a s r
  unfold k0_pay3
  generalize k0_pay1 q a = d at h ⊢
  pointwise
  rw [h]
  rfl

theorem pay5_at (s : Fin 512) (r : Fin 704) : k0_pay5 q a b (ix3 0 s r)
    = factored (∑ l : Fin 1024, q (ix2 s l) * a (ix3 0 l r)) (∑ l : Fin 1024, q (ix2 s l) * b (ix3 0 l r)) := by
  have h1 := pay1_at q a s r
  have h2 := pay2_at q b s r
  have h3 := pay3_at q a s r
  unfold k0_pay5
  generalize k0_pay1 q a = d1 at h1 ⊢
  generalize k0_pay2 q b = d2 at h2 ⊢
  generalize k0_pay3 q a = d3 at h3 ⊢
  pointwise
  rw [h1, h2, h3]
  rfl

theorem pay6_at (s : Fin 512) (r : Fin 704) : k0_pay6 q a (ix3 0 s r)
    = (∑ l : Fin 1024, q (ix2 s l) * a (ix3 0 l r)) * lgsTanh (∑ l : Fin 1024, q (ix2 s l) * a (ix3 0 l r)) := by
  have h1 := pay1_at q a s r
  have h3 := pay3_at q a s r
  unfold k0_pay6 k0_pay4
  generalize k0_pay1 q a = d1 at h1 ⊢
  generalize k0_pay3 q a = d3 at h3 ⊢
  pointwise
  rw [h1, h3]

theorem pay8_at (s : Fin 512) (r : Fin 704) : k0_pay8 (k0_pay7 q a b) (ix3 0 s r)
    = (∑ l : Fin 1024, q (ix2 s l) * a (ix3 0 l r)) * lgsTanh (∑ l : Fin 1024, q (ix2 s l) * a (ix3 0 l r)) * ∑ l : Fin 1024, q (ix2 s l) * b (ix3 0 l r) := by
  have h1 := pay1_at q a s r
  have h2 := pay2_at q b s r
  have h3 := pay3_at q a s r
  unfold k0_pay8 k0_pay7 k0_pay4
  generalize k0_pay1 q a = d1 at h1 ⊢
  generalize k0_pay2 q b = d2 at h2 ⊢
  generalize k0_pay3 q a = d3 at h3 ⊢
  pointwise
  rw [h1, h2, h3]

/-- The other chips' payloads are the first's. -/
theorem pay13_eq : k0_pay13 q a b = k0_pay5 q a b := rfl
theorem pay21_eq : k0_pay21 q a b = k0_pay5 q a b := rfl
theorem pay28_eq : k0_pay28 q a b = k0_pay5 q a b := rfl
theorem pay14_eq : k0_pay14 q a = k0_pay6 q a := rfl
theorem pay22_eq : k0_pay22 q a = k0_pay6 q a := rfl
theorem pay29_eq : k0_pay29 q a = k0_pay6 q a := rfl
theorem pay16_eq : k0_pay16 (k0_pay15 q a b) = k0_pay8 (k0_pay7 q a b) := rfl
theorem pay23_eq : k0_pay23 q a b = k0_pay8 (k0_pay7 q a b) := rfl
theorem pay30_eq : k0_pay30 q a b = k0_pay8 (k0_pay7 q a b) := rfl

theorem ld_whole (x : Vec Ideal S512x1024 .bf16) (inb : ∀ a, (![0, 0] : Fin 2 → ℕ) a + ![512, 1024] a ≤ S512x1024.size a) :
    View.ld x (Rect.unit (s := S512x1024) ![0, 0] ![512, 1024] inb) = x := by
  funext y
  show x _ = x y
  congr 1
  funext a
  apply Fin.ext
  match a with
  | ⟨0, _⟩ => show 0 + 1 * (y 0).val = (y 0).val; omega
  | ⟨1, _⟩ => show 0 + 1 * (y 1).val = (y 1).val; omega

variable (x0 : Vec Ideal S512x1024 .bf16) (x1 x2 : Vec Ideal S4x1024x704 .bf16)

/-- What agrees with a value at one chip's indices agrees at that chip's place. -/
theorem piece (p : Vec Ideal S1x512x704 .bf16) (G : S4x512x704.Idx → EReal) (k : Fin 4) {off : Fin 3 → ℕ} (hoff : off = ![k.val, 0, 0])
    (inb : ∀ a, off a + ![1, 512, 704] a ≤ S4x512x704.size a) (hp : ∀ (s : Fin 512) (r : Fin 704), p (ix3 0 s r) = G (ix3 k s r)) (x : S1x512x704.Idx) :
    p x = G ((Rect.unit (s := S4x512x704) off ![1, 512, 704] inb).emb x) := by
  obtain ⟨s, r, rfl⟩ : ∃ (s : Fin 512) (r : Fin 704), x = ix3 0 s r := ⟨x 1, x 2, by
    have h0 : (x 0).val < 1 := (x 0).isLt
    funext a
    match a with
    | ⟨0, _⟩ => exact Fin.ext (show (x 0).val = 0 by omega)
    | ⟨1, _⟩ => rfl
    | ⟨2, _⟩ => rfl⟩
  exact (hp s r).trans (congrArg G (emb_x k hoff inb s r)).symm

theorem dot_at (w : Vec Ideal S4x1024x704 .bf16) (k : Fin 4) {off : Fin 3 → ℕ} (hoff : off = ![k.val, 0, 0]) (inb : ∀ a, off a + ![1, 1024, 704] a ≤ S4x1024x704.size a) (s : Fin 512) (r : Fin 704) :
    ∑ l : Fin 1024, x0 (ix2 s l) * (View.ld w (Rect.unit (s := S4x1024x704) off ![1, 1024, 704] inb) : Vec Ideal S1x1024x704 .bf16) (ix3 0 l r) = dotBlk x0 w (ix3 k s r) :=
  Finset.sum_congr rfl fun l _ => congrArg (x0 (ix2 s l) * ·) (ld_w w k hoff inb l r)

theorem gate_piece (k : Fin 4) {off : Fin 3 → ℕ} (hoff : off = ![k.val, 0, 0]) (inb : ∀ a, off a + ![1, 1024, 704] a ≤ S4x1024x704.size a) (inb' : ∀ a, off a + ![1, 512, 704] a ≤ S4x512x704.size a) (x : S1x512x704.Idx) :
    k0_pay5 x0 (View.ld x1 (Rect.unit (s := S4x1024x704) off ![1, 1024, 704] inb)) (View.ld x2 (Rect.unit (s := S4x1024x704) off ![1, 1024, 704] inb)) x
      = gateBlk x0 x1 x2 ((Rect.unit (s := S4x512x704) off ![1, 512, 704] inb').emb x) :=
  piece _ _ k hoff inb' (fun s r => (pay5_at x0 _ _ s r).trans (congrArg₂ factored (dot_at x0 x1 k hoff inb s r) (dot_at x0 x2 k hoff inb s r))) x

theorem up_piece (k : Fin 4) {off : Fin 3 → ℕ} (hoff : off = ![k.val, 0, 0]) (inb : ∀ a, off a + ![1, 1024, 704] a ≤ S4x1024x704.size a) (inb' : ∀ a, off a + ![1, 512, 704] a ≤ S4x512x704.size a) (x : S1x512x704.Idx) :
    k0_pay6 x0 (View.ld x1 (Rect.unit (s := S4x1024x704) off ![1, 1024, 704] inb)) x = upBlk x0 x1 ((Rect.unit (s := S4x512x704) off ![1, 512, 704] inb').emb x) :=
  piece _ _ k hoff inb' (fun s r => (pay6_at x0 _ s r).trans (congrArg (fun e : EReal => e * lgsTanh e) (dot_at x0 x1 k hoff inb s r))) x

theorem hid_piece (k : Fin 4) {off : Fin 3 → ℕ} (hoff : off = ![k.val, 0, 0]) (inb : ∀ a, off a + ![1, 1024, 704] a ≤ S4x1024x704.size a) (inb' : ∀ a, off a + ![1, 512, 704] a ≤ S4x512x704.size a) (x : S1x512x704.Idx) :
    k0_pay8 (k0_pay7 x0 (View.ld x1 (Rect.unit (s := S4x1024x704) off ![1, 1024, 704] inb)) (View.ld x2 (Rect.unit (s := S4x1024x704) off ![1, 1024, 704] inb))) x
      = hidBlk x0 x1 x2 ((Rect.unit (s := S4x512x704) off ![1, 512, 704] inb').emb x) :=
  piece _ _ k hoff inb' (fun s r => (pay8_at x0 _ _ s r).trans
    (congrArg₂ (fun e e' : EReal => e * lgsTanh e * e') (dot_at x0 x1 k hoff inb s r) (dot_at x0 x2 k hoff inb s r))) x

theorem out3_eq : out0_3 x0 x1 x2 = gateBlk x0 x1 x2 := by
  funext y
  unfold out0_3
  refine View.canon_apply_of_pieces (Val := Elt Ideal) (gateBlk x0 x1 x2 : S4x512x704.Idx → Elt Ideal .bf16) _ (View.PiecesOf.mem ?_) y (cover0_3 _ _ _ _ y)
  simp only [r0_0, ld_whole, pay13_eq, pay21_eq, pay28_eq]
  exact ⟨gate_piece x0 x1 x2 3 rfl _ inb_S4x512x704_S1x512x704_3_0_0, gate_piece x0 x1 x2 2 rfl _ inb_S4x512x704_S1x512x704_2_0_0, gate_piece x0 x1 x2 1 rfl _ inb_S4x512x704_S1x512x704_1_0_0, gate_piece x0 x1 x2 0 rfl _ inb_S4x512x704_S1x512x704_0_0_0, trivial⟩

theorem out4_eq : out0_4 x0 x1 x2 = upBlk x0 x1 := by
  funext y
  unfold out0_4
  refine View.canon_apply_of_pieces (Val := Elt Ideal) (upBlk x0 x1 : S4x512x704.Idx → Elt Ideal .bf16) _ (View.PiecesOf.mem ?_) y (cover0_4 _ _ _ _ y)
  simp only [r0_0, ld_whole, pay14_eq, pay22_eq, pay29_eq]
  exact ⟨up_piece x0 x1 3 rfl _ inb_S4x512x704_S1x512x704_3_0_0, up_piece x0 x1 2 rfl _ inb_S4x512x704_S1x512x704_2_0_0, up_piece x0 x1 1 rfl _ inb_S4x512x704_S1x512x704_1_0_0, up_piece x0 x1 0 rfl _ inb_S4x512x704_S1x512x704_0_0_0, trivial⟩

theorem out5_eq : out0_5 x0 x1 x2 = hidBlk x0 x1 x2 := by
  funext y
  unfold out0_5
  refine View.canon_apply_of_pieces (Val := Elt Ideal) (hidBlk x0 x1 x2 : S4x512x704.Idx → Elt Ideal .bf16) _ (View.PiecesOf.mem ?_) y (cover0_5 _ _ _ _ y)
  simp only [r0_0, ld_whole, pay16_eq, pay23_eq, pay30_eq]
  exact ⟨hid_piece x0 x1 x2 3 rfl _ inb_S4x512x704_S1x512x704_3_0_0, hid_piece x0 x1 x2 2 rfl _ inb_S4x512x704_S1x512x704_2_0_0, hid_piece x0 x1 x2 1 rfl _ inb_S4x512x704_S1x512x704_1_0_0, hid_piece x0 x1 x2 0 rfl _ inb_S4x512x704_S1x512x704_0_0_0, trivial⟩

/-- An index of a block, by its coordinates. -/
theorem ix3_of (y : S4x512x704.Idx) : y = ix3 (y 0 : Fin 4) (y 1 : Fin 512) (y 2 : Fin 704) := by
  funext a
  match a with
  | ⟨0, _⟩ => rfl
  | ⟨1, _⟩ => rfl
  | ⟨2, _⟩ => rfl

theorem first3_eq : Cert.GatesFirstIdeal.Gen.out0_3 x0 x1 x2 = gateBlk x0 x1 x2 := out3_eq x0 x1 x2
theorem first4_eq : Cert.GatesFirstIdeal.Gen.out0_4 x0 x1 x2 = upBlk x0 x1 := out4_eq x0 x1 x2
theorem first5_eq : Cert.GatesFirstIdeal.Gen.out0_5 x0 x1 x2 = hidBlk x0 x1 x2 := out5_eq x0 x1 x2

end Cert.GatesIdeal.Hand
-- ==== Proof.GatesValue.lean ====
/- The feed-forward's first half, layer 1, idealized: each of the eight blocks of rows writes its rows of the hidden values and of
   their derivatives to the gate and to the linear factor. -/
module

public import proofs.«01_k».proof.Proof.GatesStep
public import Idealize.ShloMosaic.Lib.StableHlo.RunRead
public import Idealize.ShloMosaic.Lib.Claim

@[expose] public section

set_option maxRecDepth 16384

noncomputable section

namespace Cert.GatesIdeal.Hand

open Cert.GatesIdeal Cert.GatesIdeal.Gen Cert.Swiglu Cert.FfnSum Cert.AttnMath
open Idealize.ShloMosaic Idealize.ShloMosaic.TcCoe Idealize.SL.Sem Idealize.ShloMosaic.StableHlo
open Idealize.ShloMosaic.Pipeline (Dat)

/-- A first matrix of both layers, one slab per chip. -/
def stacked (w : FVec Ideal S2x1024x2816 .bf16) : FVec Ideal S4x2048x704 .bf16 :=
  shapeCast S4x2048x704 (transpose S4x2x1024x704 [2, 0, 1, 3] (shapeCast S2x1024x4x704 w shapeCasts_S2x1024x2816_S2x1024x4x704) transposes_S2x1024x4x704_S4x2x1024x704_2_0_1_3)
    shapeCasts_S4x2x1024x704_S4x2048x704

/-- Row `j` of the layer among both layers' rows. -/
def lrow (j : Fin 1024) : Fin 2048 := ⟨1024 + j.val, by omega⟩

theorem stacked_at (w : FVec Ideal S2x1024x2816 .bf16) (k : Fin 4) (j : Fin 1024) (r : Fin 704) : stacked w (ix3 k (lrow j) r) = w (ix3 1 j (hid k r)) := by
  unfold stacked lrow
  pointwise
  refine congrArg (fun k' : Fin 2 => w (ix3 k' j (hid k r))) (Fin.ext ?_)
  dsimp only
  omega

variable (m : (ℓ : Loc nD τ sig) → Buf (Elt Ideal) ℓ) (ρ : Dev nD → PrngReg)

/-- The arguments as launched. -/
abbrev argA (c : Dev nD) : FVec Ideal S4096x1024 .bf16 := m ((c : Thread nD τ).loc main_arg0)
abbrev argW (c : Dev nD) : FVec Ideal S2x1024x2816 .bf16 := m ((c : Thread nD τ).loc main_arg1)
abbrev argU (c : Dev nD) : FVec Ideal S2x1024x2816 .bf16 := m ((c : Thread nD τ).loc main_arg2)

theorem V_w (c : Dev nD) : V (F := Ideal) m c main_v2 = stacked (argW m c) := by
  unfold_abbrev_sides
  after_reads_simp
  rfl

theorem V_u (c : Dev nD) : V (F := Ideal) m c main_v5 = stacked (argU m c) := by
  unfold_abbrev_sides
  after_reads_simp
  rfl

/-- Where the windows' blocks lie, decided over the grid. -/
theorem idx_facts : ∀ t : Fin cfg0.N,
    (win0_0.index t 0 = t.val ∧ win0_0.index t 1 = 0)
    ∧ (win0_1.index t 0 = 0 ∧ win0_1.index t 1 = 1 ∧ win0_1.index t 2 = 0)
    ∧ (win0_2.index t 0 = 0 ∧ win0_2.index t 1 = 1 ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0) :=
  (by decide +kernel : ∀ t : Fin grid0.N, _)

theorem lt8 (t : Fin cfg0.N) : t.val < 8 := lt_of_lt_of_eq t.isLt N_0

section Blocks

variable (g : (b : Ref sig .tc) → Buf (Elt Ideal) (((0 : Dev nD).tc : Thread nD τ).loc b)) (t : Fin cfg0.N)

theorem at1 (k : Fin 4) (j : Fin 1024) (r : Fin 704) :
    (((cfg0.win 1).blk t).view.read (Elt Ideal) (g (Pipeline.arrRef spec0 1)) : Vec Ideal S4x1024x704 .bf16) (ix3 k j r)
      = (g main_v2 : Vec Ideal S4x2048x704 .bf16) (ix3 k (lrow j) r) := by
  obtain ⟨-, ⟨e0, e1, e2⟩, -⟩ := idx_facts t
  rw [View.read_apply]
  show g main_v2 _ = g main_v2 _
  congr 1
  funext a
  apply Fin.ext
  match a with
  | ⟨0, _⟩ => show win0_1.index t 0 * 4 + 1 * k.val = k.val; rw [e0]; omega
  | ⟨1, _⟩ => show win0_1.index t 1 * 1024 + 1 * j.val = 1024 + j.val; rw [e1]; omega
  | ⟨2, _⟩ => show win0_1.index t 2 * 704 + 1 * r.val = r.val; rw [e2]; omega

theorem at2 (k : Fin 4) (j : Fin 1024) (r : Fin 704) :
    (((cfg0.win 2).blk t).view.read (Elt Ideal) (g (Pipeline.arrRef spec0 2)) : Vec Ideal S4x1024x704 .bf16) (ix3 k j r)
      = (g main_v5 : Vec Ideal S4x2048x704 .bf16) (ix3 k (lrow j) r) := by
  obtain ⟨-, -, ⟨e0, e1, e2⟩, -⟩ := idx_facts t
  rw [View.read_apply]
  show g main_v5 _ = g main_v5 _
  congr 1
  funext a
  apply Fin.ext
  match a with
  | ⟨0, _⟩ => show win0_2.index t 0 * 4 + 1 * k.val = k.val; rw [e0]; omega
  | ⟨1, _⟩ => show win0_2.index t 1 * 1024 + 1 * j.val = 1024 + j.val; rw [e1]; omega
  | ⟨2, _⟩ => show win0_2.index t 2 * 704 + 1 * r.val = r.val; rw [e2]; omega

end Blocks

variable (c : Dev nD) (t : Fin cfg0.N)

theorem blk0 (s : Fin 512) (l : Fin 1024) : (iblk m c 0 t : Vec Ideal S512x1024 .bf16) (ix2 s l) = argA m c (ix2 (row (blockOf t.val) s) l) := by
  obtain ⟨⟨e0, e1⟩, -⟩ := idx_facts t
  have h8 := lt8 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * s.val = 512 * (t.val % 8) + s.val; rw [e0]; omega
  | ⟨1, _⟩ => show win0_0.index t 1 * 1024 + 1 * l.val = l.val; rw [e1]; omega

theorem blk1 (k : Fin 4) (j : Fin 1024) (r : Fin 704) : (iblk m c 1 t : Vec Ideal S4x1024x704 .bf16) (ix3 k j r) = argW m c (ix3 1 j (hid k r)) :=
  (at1 (V (F := Ideal) m c) t k j r).trans ((congrFun (V_w m c) _).trans (stacked_at _ _ _ _))

theorem blk2 (k : Fin 4) (j : Fin 1024) (r : Fin 704) : (iblk m c 2 t : Vec Ideal S4x1024x704 .bf16) (ix3 k j r) = argU m c (ix3 1 j (hid k r)) :=
  (at2 (V (F := Ideal) m c) t k j r).trans ((congrFun (V_u m c) _).trans (stacked_at _ _ _ _))

/-- The block's products are its rows'. -/
theorem gate_lin (k : Fin 4) (s : Fin 512) (r : Fin 704) : dotBlk (iblk m c 0 t) (iblk m c 1 t) (ix3 k s r) = lin (argA m c) (argW m c) 1 (row (blockOf t.val) s) (hid k r) :=
  Finset.sum_congr rfl fun l _ => congrArg₂ (fun a b : EReal => a * b) (blk0 m c t s l) (blk1 m c t k l r)

theorem up_lin (k : Fin 4) (s : Fin 512) (r : Fin 704) : dotBlk (iblk m c 0 t) (iblk m c 2 t) (ix3 k s r) = lin (argA m c) (argU m c) 1 (row (blockOf t.val) s) (hid k r) :=
  Finset.sum_congr rfl fun l _ => congrArg₂ (fun a b : EReal => a * b) (blk0 m c t s l) (blk2 m c t k l r)

/-- The rows and the matrix of the second factor are real. -/
def Real : Prop := (∀ y, IsReal (argA m c y)) ∧ ∀ y, IsReal (argU m c y)

/-- What the point writes, at one chip's indices. -/
theorem out3_at (h : Real m c) (k : Fin 4) (s : Fin 512) (r : Fin 704) : gateBlk (iblk m c 0 t) (iblk m c 1 t) (iblk m c 2 t) (ix3 k s r)
    = slopeGate (argA m c) (argW m c) (argU m c) 1 (ix3 k (row (blockOf t.val) s) r) :=
  (congrArg₂ factored (gate_lin m c t k s r) (up_lin m c t k s r)).trans (factored_eq _ (lin_real h.1 h.2 _ _ _))

theorem out4_at (k : Fin 4) (s : Fin 512) (r : Fin 704) : upBlk (iblk m c 0 t) (iblk m c 1 t) (ix3 k s r)
    = slopeLin (argA m c) (argW m c) 1 (ix3 k (row (blockOf t.val) s) r) :=
  (congrArg (fun e : EReal => e * lgsTanh e) (gate_lin m c t k s r)).trans (congrArg (_ * ·) (lgsTanh_eq _))

theorem out5_at (k : Fin 4) (s : Fin 512) (r : Fin 704) : hidBlk (iblk m c 0 t) (iblk m c 1 t) (iblk m c 2 t) (ix3 k s r)
    = hidden (argA m c) (argW m c) (argU m c) 1 (ix3 k (row (blockOf t.val) s) r) :=
  congrArg₂ (fun a b : EReal => a * b) (out4_at m c t k s r) (up_lin m c t k s r)

/-- Point `t` writes its rows of the three results. -/
theorem flushed3_eq (h : Real m c) : (dats m 0 c).flushed 3 t = ((cfg0.win 3).blk t).view.read (Elt Ideal) (slopeGate (argA m c) (argW m c) (argU m c) 1) := by
  obtain ⟨-, -, -, ⟨e0, e1, e2⟩, -⟩ := idx_facts t
  have h8 := lt8 t
  rw [Value.flushed3]
  funext y
  rw [View.read_apply]
  show out0_3 (iblk m c 0 t) (iblk m c 1 t) (iblk m c 2 t) (y : S4x512x704.Idx) = _
  rw [out3_eq]
  refine (congrArg _ (ix3_of y)).trans ((out3_at m c t h (y 0) (y 1) (y 2)).trans ?_)
  refine congrArg (slopeGate (argA m c) (argW m c) (argU m c) 1) (a₁ := ix3 (y 0 : Fin 4) (row (blockOf t.val) (y 1)) (y 2 : Fin 704)) ?_
  funext a
  apply Fin.ext
  match a with
  | ⟨0, _⟩ => show (y 0).val = win0_3.index t 0 * 4 + 1 * (y 0).val; rw [e0]; omega
  | ⟨1, _⟩ => show 512 * (t.val % 8) + (y 1).val = win0_3.index t 1 * 512 + 1 * (y 1).val; rw [e1]; omega
  | ⟨2, _⟩ => show (y 2).val = win0_3.index t 2 * 704 + 1 * (y 2).val; rw [e2]; omega

theorem flushed4_eq : (dats m 0 c).flushed 4 t = ((cfg0.win 4).blk t).view.read (Elt Ideal) (slopeLin (argA m c) (argW m c) 1) := by
  obtain ⟨-, -, -, -, ⟨e0, e1, e2⟩, -⟩ := idx_facts t
  have h8 := lt8 t
  rw [Value.flushed4]
  funext y
  rw [View.read_apply]
  show out0_4 (iblk m c 0 t) (iblk m c 1 t) (iblk m c 2 t) (y : S4x512x704.Idx) = _
  rw [out4_eq]
  refine (congrArg _ (ix3_of y)).trans ((out4_at m c t (y 0) (y 1) (y 2)).trans ?_)
  refine congrArg (slopeLin (argA m c) (argW m c) 1) (a₁ := ix3 (y 0 : Fin 4) (row (blockOf t.val) (y 1)) (y 2 : Fin 704)) ?_
  funext a
  apply Fin.ext
  match a with
  | ⟨0, _⟩ => show (y 0).val = win0_4.index t 0 * 4 + 1 * (y 0).val; rw [e0]; omega
  | ⟨1, _⟩ => show 512 * (t.val % 8) + (y 1).val = win0_4.index t 1 * 512 + 1 * (y 1).val; rw [e1]; omega
  | ⟨2, _⟩ => show (y 2).val = win0_4.index t 2 * 704 + 1 * (y 2).val; rw [e2]; omega

theorem flushed5_eq : (dats m 0 c).flushed 5 t = ((cfg0.win 5).blk t).view.read (Elt Ideal) (hidden (argA m c) (argW m c) (argU m c) 1) := by
  obtain ⟨-, -, -, -, -, ⟨e0, e1, e2⟩⟩ := idx_facts t
  have h8 := lt8 t
  rw [Value.flushed5]
  funext y
  rw [View.read_apply]
  show out0_5 (iblk m c 0 t) (iblk m c 1 t) (iblk m c 2 t) (y : S4x512x704.Idx) = _
  rw [out5_eq]
  refine (congrArg _ (ix3_of y)).trans ((out5_at m c t (y 0) (y 1) (y 2)).trans ?_)
  refine congrArg (hidden (argA m c) (argW m c) (argU m c) 1) (a₁ := ix3 (y 0 : Fin 4) (row (blockOf t.val) (y 1)) (y 2 : Fin 704)) ?_
  funext a
  apply Fin.ext
  match a with
  | ⟨0, _⟩ => show (y 0).val = win0_5.index t 0 * 4 + 1 * (y 0).val; rw [e0]; omega
  | ⟨1, _⟩ => show 512 * (t.val % 8) + (y 1).val = win0_5.index t 1 * 512 + 1 * (y 1).val; rw [e1]; omega
  | ⟨2, _⟩ => show (y 2).val = win0_5.index t 2 * 704 + 1 * (y 2).val; rw [e2]; omega

omit c t in
/-- Every index lies in some writing point's block. -/
theorem cover3 (i : S4x4096x704.Idx) : ∃ t : Fin cfg0.N, (cfg0.win 3).flush t = true ∧ i ∈ ((cfg0.win 3).blk t).view.set := by
  have h0 : (i 0 : Nat) < 4 := (i 0).isLt
  have h1 : (i 1 : Nat) < 4096 := (i 1).isLt
  have h2 : (i 2 : Nat) < 704 := (i 2).isLt
  have hN : cfg0.N = 8 := N_0
  refine ⟨⟨(i 1 : Nat) / 512, by omega⟩, flush0_3 _, ?_⟩
  generalize ht : (⟨(i 1 : Nat) / 512, _⟩ : Fin cfg0.N) = t
  have hv : t.val = (i 1 : Nat) / 512 := by rw [← ht]
  obtain ⟨-, -, -, ⟨e0, e1, e2⟩, -⟩ := idx_facts t
  show i ∈ ((View.whole main_v6_0).slice (win0_3.rect t)).set
  rw [View.set_slice_whole, Rect.mem_set_unit]
  intro a
  match a with
  | ⟨0, _⟩ => show win0_3.index t 0 * 4 ≤ (i 0 : Nat) ∧ (i 0 : Nat) < win0_3.index t 0 * 4 + 4; rw [e0]; omega
  | ⟨1, _⟩ => show win0_3.index t 1 * 512 ≤ (i 1 : Nat) ∧ (i 1 : Nat) < win0_3.index t 1 * 512 + 512; rw [e1]; omega
  | ⟨2, _⟩ => show win0_3.index t 2 * 704 ≤ (i 2 : Nat) ∧ (i 2 : Nat) < win0_3.index t 2 * 704 + 704; rw [e2]; omega

omit c t in
theorem cover4 (i : S4x4096x704.Idx) : ∃ t : Fin cfg0.N, (cfg0.win 4).flush t = true ∧ i ∈ ((cfg0.win 4).blk t).view.set := by
  obtain ⟨t, -, h⟩ := cover3 i
  exact ⟨t, flush0_4 t, h⟩

omit c t in
theorem cover5 (i : S4x4096x704.Idx) : ∃ t : Fin cfg0.N, (cfg0.win 5).flush t = true ∧ i ∈ ((cfg0.win 5).blk t).view.set := by
  obtain ⟨t, -, h⟩ := cover3 i
  exact ⟨t, flush0_5 t, h⟩

omit c t in
/-- The run at such arguments: the three results, the arguments unchanged. -/
theorem run (hr : ∀ c : Dev nD, Real m c) : θ_run defs (onTc (τ := τ) (main (F := Ideal))) ⟨m, fun _ => 0, ρ⟩ fun r => ∀ c : Dev nD,
      r.2.mem ((c : Thread nD τ).loc main_v6_0) = slopeGate (argA m c) (argW m c) (argU m c) 1
      ∧ r.2.mem ((c : Thread nD τ).loc main_v6_1) = slopeLin (argA m c) (argW m c) 1
      ∧ r.2.mem ((c : Thread nD τ).loc main_v6_2) = hidden (argA m c) (argW m c) (argU m c) 1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed3_eq m c t (hr c)) cover3),
      (h c).2.1.trans ((dats m 0 c).arrAt_eq_of_cover 4 _ (fun t _ => flushed4_eq m c t) cover4),
      (h c).2.2.1.trans ((dats m 0 c).arrAt_eq_of_cover 5 _ (fun t _ => flushed5_eq m c t) cover5), (h c).2.2.2⟩)
    (Value.run_blocks m ρ)

end Cert.GatesIdeal.Hand
-- ==== Proof.GatesRef.lean ====
/- The reference for the feed-forward's first half, layer 1: the gate times the linear factor, and the derivatives to the two. -/
module

public import proofs.«01_k».proof.Proof.Swiglu
public import proofs.«01_k».proof.Proof.Gen.GatesRefIdeal.Run
public import proofs.«01_k».proof.Proof.Gen.GatesRefIdeal.Read

@[expose] public section

set_option maxRecDepth 16384

noncomputable section

open Idealize.ShloMosaic Idealize.ShloMosaic.TcCoe Idealize.SL.Sem

namespace Cert.GatesRefIdeal.Hand

open Cert.GatesRefIdeal Cert.GatesRefIdeal.Gen Cert.GatesRefIdeal.Read Cert.Swiglu Cert.FfnSum

variable (A : FVec Ideal S4096x1024 .bf16) (W U : FVec Ideal S2x1024x2816 .bf16)

/-- The two products, and the logistic of the first. -/
theorem gate_at (i : Fin 4096) (f : Fin 2816) : val_main_v4 (F := Ideal) A W (ix2 i f) = lin A W 1 i f := by
  simp only [val_main_v4, val_main_v3, val_main_v2, val_main_v1, val_main_v0]
  pointwise
  rfl

theorem up_at (i : Fin 4096) (f : Fin 2816) : val_main_v8 (F := Ideal) A U (ix2 i f) = lin A U 1 i f := by
  simp only [val_main_v8, val_main_v7, val_main_v6, val_main_v5, val_main_v0]
  pointwise
  rfl

theorem lgs_at (i : Fin 4096) (f : Fin 2816) : val_main_v9_2 (F := Ideal) A W (ix2 i f) = lgs (lin A W 1 i f) := by
  have hd := gate_at A W i f
  simp only [val_main_v9_2, val_main_call0_v4, val_main_call0_cst_0, val_main_call0_v3, val_main_call0_v2, val_main_call0_cst, val_main_call0_v1, val_main_call0_v0]
  generalize val_main_v4 (F := Ideal) A W = d at hd ⊢
  pointwise
  rw [hd]
  rfl

/-- The three results, one slab per chip. -/
theorem slopeGate_eq : val_main_v17 (F := Ideal) A W U = slopeGate A W U 1 := by
  funext y
  obtain ⟨k, i, r, rfl⟩ : ∃ (k : Fin 4) (i : Fin 4096) (r : Fin 704), y = ix3 k i r := ⟨y 0, y 1, y 2, by idx_vars y⟩
  have h1 := gate_at A W i (hid k r)
  have h2 := up_at A U i (hid k r)
  have h3 := lgs_at A W i (hid k r)
  refine Eq.trans ?_ (chain_one (lin A W 1 i (hid k r)) (lin A U 1 i (hid k r))).symm
  rw [← h3, ← h2, ← h1]
  simp only [val_main_v17, val_main_v16, val_main_v15, val_main_v14, val_main_call1_v2, val_main_call1_v1, val_main_call1_v0, val_main_v13, val_main_v11, val_main_cst, val_main_v9_1, val_main_call0_v7, val_main_call0_v6, val_main_call0_cst_1]
  generalize val_main_v4 (F := Ideal) A W = d
  generalize val_main_v8 (F := Ideal) A U = e
  generalize val_main_v9_2 (F := Ideal) A W = l
  pointwise
  try rfl

theorem slopeLin_eq : val_main_v20 (F := Ideal) A W = slopeLin A W 1 := by
  funext y
  obtain ⟨k, i, r, rfl⟩ : ∃ (k : Fin 4) (i : Fin 4096) (r : Fin 704), y = ix3 k i r := ⟨y 0, y 1, y 2, by idx_vars y⟩
  refine Eq.trans ?_ (congrArg₂ (fun a b : EReal => a * b) (gate_at A W i (hid k r)) (lgs_at A W i (hid k r)))
  simp only [val_main_v20, val_main_v19, val_main_v18, val_main_v12, val_main_v11, val_main_cst, val_main_v9_0]
  generalize val_main_v4 (F := Ideal) A W = d
  generalize val_main_v9_2 (F := Ideal) A W = l
  pointwise
  try rfl

theorem hidden_eq : val_main_v23 (F := Ideal) A W U = hidden A W U 1 := by
  funext y
  obtain ⟨k, i, r, rfl⟩ : ∃ (k : Fin 4) (i : Fin 4096) (r : Fin 704), y = ix3 k i r := ⟨y 0, y 1, y 2, by idx_vars y⟩
  refine Eq.trans ?_ (congrArg₂ (fun a b : EReal => a * b) (congrArg₂ (fun a b : EReal => a * b) (gate_at A W i (hid k r)) (lgs_at A W i (hid k r))) (up_at A U i (hid k r)))
  simp only [val_main_v23, val_main_v22, val_main_v21, val_main_v10, val_main_v9_0]
  generalize val_main_v4 (F := Ideal) A W = d
  generalize val_main_v8 (F := Ideal) A U = e
  generalize val_main_v9_2 (F := Ideal) A W = l
  pointwise
  try rfl

variable (m : (ℓ : Loc nD τ sig) → Buf (Elt Ideal) ℓ) (ρ : Dev nD → PrngReg)

/-- The run: the results at these values, the arguments unchanged. -/
theorem run : θ_run defs (onTc (τ := τ) (main (F := Ideal))) ⟨m, fun _ => 0, ρ⟩ fun r => ∀ c : Dev nD,
      r.2.mem ((c : Thread nD τ).loc main_v17) = slopeGate (m ((c : Thread nD τ).loc main_arg0)) (m ((c : Thread nD τ).loc main_arg1)) (m ((c : Thread nD τ).loc main_arg2)) 1
      ∧ r.2.mem ((c : Thread nD τ).loc main_v20) = slopeLin (m ((c : Thread nD τ).loc main_arg0)) (m ((c : Thread nD τ).loc main_arg1)) 1
      ∧ r.2.mem ((c : Thread nD τ).loc main_v23) = hidden (m ((c : Thread nD τ).loc main_arg0)) (m ((c : Thread nD τ).loc main_arg1)) (m ((c : Thread nD τ).loc main_arg2)) 1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((val_main_v17_eq (F := Ideal) _ _ _).trans (slopeGate_eq _ _ _)),
    (h c).2.1.trans ((val_main_v20_eq (F := Ideal) _ _).trans (slopeLin_eq _ _)),
    (h c).2.2.1.trans ((val_main_v23_eq (F := Ideal) _ _ _).trans (hidden_eq _ _ _)), (h c).2.2.2⟩) (Value.run (F := Ideal) m ρ)

end Cert.GatesRefIdeal.Hand
-- ==== Proof.GatesFirstValue.lean ====
/- The feed-forward's first half, layer 0, idealized: each of the eight blocks of rows writes its rows of the hidden values and of
   their derivatives to the gate and to the linear factor. -/
module

public import proofs.«01_k».proof.Proof.GatesValue
public import Idealize.ShloMosaic.Lib.StableHlo.RunRead
public import Idealize.ShloMosaic.Lib.Claim

@[expose] public section

set_option maxRecDepth 16384

noncomputable section

namespace Cert.GatesFirstIdeal.Hand

open Cert.GatesIdeal.Hand (stacked dotBlk gateBlk upBlk hidBlk ix3_of first3_eq first4_eq first5_eq)
open Cert.GatesFirstIdeal Cert.GatesFirstIdeal.Gen Cert.Swiglu Cert.FfnSum Cert.AttnMath
open Idealize.ShloMosaic Idealize.ShloMosaic.TcCoe Idealize.SL.Sem Idealize.ShloMosaic.StableHlo
open Idealize.ShloMosaic.Pipeline (Dat)

/-- Row `j` of the layer among both layers' rows. -/
def lrow (j : Fin 1024) : Fin 2048 := ⟨j.val, by omega⟩

theorem stacked_at (w : FVec Ideal S2x1024x2816 .bf16) (k : Fin 4) (j : Fin 1024) (r : Fin 704) : stacked w (ix3 k (lrow j) r) = w (ix3 0 j (hid k r)) := by
  unfold stacked lrow
  pointwise
  refine congrArg₂ (fun (k' : Fin 2) (j' : Fin 1024) => w (ix3 k' j' (hid k r))) (Fin.ext ?_) (Fin.ext ?_)
  · exact Nat.div_eq_of_lt j.isLt
  · exact Nat.mod_eq_of_lt j.isLt

variable (m : (ℓ : Loc nD τ sig) → Buf (Elt Ideal) ℓ) (ρ : Dev nD → PrngReg)

/-- The arguments as launched. -/
abbrev argA (c : Dev nD) : FVec Ideal S4096x1024 .bf16 := m ((c : Thread nD τ).loc main_arg0)
abbrev argW (c : Dev nD) : FVec Ideal S2x1024x2816 .bf16 := m ((c : Thread nD τ).loc main_arg1)
abbrev argU (c : Dev nD) : FVec Ideal S2x1024x2816 .bf16 := m ((c : Thread nD τ).loc main_arg2)

theorem V_w (c : Dev nD) : V (F := Ideal) m c main_v2 = stacked (argW m c) := by
  unfold_abbrev_sides
  after_reads_simp
  rfl

theorem V_u (c : Dev nD) : V (F := Ideal) m c main_v5 = stacked (argU m c) := by
  unfold_abbrev_sides
  after_reads_simp
  rfl

/-- Where the windows' blocks lie, decided over the grid. -/
theorem idx_facts : ∀ t : Fin cfg0.N,
    (win0_0.index t 0 = t.val ∧ win0_0.index t 1 = 0)
    ∧ (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0) :=
  (by decide +kernel : ∀ t : Fin grid0.N, _)

theorem lt8 (t : Fin cfg0.N) : t.val < 8 := lt_of_lt_of_eq t.isLt N_0

section Blocks

variable (g : (b : Ref sig .tc) → Buf (Elt Ideal) (((0 : Dev nD).tc : Thread nD τ).loc b)) (t : Fin cfg0.N)

theorem at1 (k : Fin 4) (j : Fin 1024) (r : Fin 704) :
    (((cfg0.win 1).blk t).view.read (Elt Ideal) (g (Pipeline.arrRef spec0 1)) : Vec Ideal S4x1024x704 .bf16) (ix3 k j r)
      = (g main_v2 : Vec Ideal S4x2048x704 .bf16) (ix3 k (lrow j) r) := by
  obtain ⟨-, ⟨e0, e1, e2⟩, -⟩ := idx_facts t
  rw [View.read_apply]
  show g main_v2 _ = g main_v2 _
  congr 1
  funext a
  apply Fin.ext
  match a with
  | ⟨0, _⟩ => show win0_1.index t 0 * 4 + 1 * k.val = k.val; rw [e0]; omega
  | ⟨1, _⟩ => show win0_1.index t 1 * 1024 + 1 * j.val = j.val; rw [e1]; omega
  | ⟨2, _⟩ => show win0_1.index t 2 * 704 + 1 * r.val = r.val; rw [e2]; omega

theorem at2 (k : Fin 4) (j : Fin 1024) (r : Fin 704) :
    (((cfg0.win 2).blk t).view.read (Elt Ideal) (g (Pipeline.arrRef spec0 2)) : Vec Ideal S4x1024x704 .bf16) (ix3 k j r)
      = (g main_v5 : Vec Ideal S4x2048x704 .bf16) (ix3 k (lrow j) r) := by
  obtain ⟨-, -, ⟨e0, e1, e2⟩, -⟩ := idx_facts t
  rw [View.read_apply]
  show g main_v5 _ = g main_v5 _
  congr 1
  funext a
  apply Fin.ext
  match a with
  | ⟨0, _⟩ => show win0_2.index t 0 * 4 + 1 * k.val = k.val; rw [e0]; omega
  | ⟨1, _⟩ => show win0_2.index t 1 * 1024 + 1 * j.val = j.val; rw [e1]; omega
  | ⟨2, _⟩ => show win0_2.index t 2 * 704 + 1 * r.val = r.val; rw [e2]; omega

end Blocks

variable (c : Dev nD) (t : Fin cfg0.N)

theorem blk0 (s : Fin 512) (l : Fin 1024) : (iblk m c 0 t : Vec Ideal S512x1024 .bf16) (ix2 s l) = argA m c (ix2 (row (blockOf t.val) s) l) := by
  obtain ⟨⟨e0, e1⟩, -⟩ := idx_facts t
  have h8 := lt8 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * s.val = 512 * (t.val % 8) + s.val; rw [e0]; omega
  | ⟨1, _⟩ => show win0_0.index t 1 * 1024 + 1 * l.val = l.val; rw [e1]; omega

theorem blk1 (k : Fin 4) (j : Fin 1024) (r : Fin 704) : (iblk m c 1 t : Vec Ideal S4x1024x704 .bf16) (ix3 k j r) = argW m c (ix3 0 j (hid k r)) :=
  (at1 (V (F := Ideal) m c) t k j r).trans ((congrFun (V_w m c) _).trans (stacked_at _ _ _ _))

theorem blk2 (k : Fin 4) (j : Fin 1024) (r : Fin 704) : (iblk m c 2 t : Vec Ideal S4x1024x704 .bf16) (ix3 k j r) = argU m c (ix3 0 j (hid k r)) :=
  (at2 (V (F := Ideal) m c) t k j r).trans ((congrFun (V_u m c) _).trans (stacked_at _ _ _ _))

/-- The block's products are its rows'. -/
theorem gate_lin (k : Fin 4) (s : Fin 512) (r : Fin 704) : dotBlk (iblk m c 0 t) (iblk m c 1 t) (ix3 k s r) = lin (argA m c) (argW m c) 0 (row (blockOf t.val) s) (hid k r) :=
  Finset.sum_congr rfl fun l _ => congrArg₂ (fun a b : EReal => a * b) (blk0 m c t s l) (blk1 m c t k l r)

theorem up_lin (k : Fin 4) (s : Fin 512) (r : Fin 704) : dotBlk (iblk m c 0 t) (iblk m c 2 t) (ix3 k s r) = lin (argA m c) (argU m c) 0 (row (blockOf t.val) s) (hid k r) :=
  Finset.sum_congr rfl fun l _ => congrArg₂ (fun a b : EReal => a * b) (blk0 m c t s l) (blk2 m c t k l r)

/-- The rows and the matrix of the second factor are real. -/
def Real : Prop := (∀ y, IsReal (argA m c y)) ∧ ∀ y, IsReal (argU m c y)

/-- What the point writes, at one chip's indices. -/
theorem out3_at (h : Real m c) (k : Fin 4) (s : Fin 512) (r : Fin 704) : gateBlk (iblk m c 0 t) (iblk m c 1 t) (iblk m c 2 t) (ix3 k s r)
    = slopeGate (argA m c) (argW m c) (argU m c) 0 (ix3 k (row (blockOf t.val) s) r) :=
  (congrArg₂ factored (gate_lin m c t k s r) (up_lin m c t k s r)).trans (factored_eq _ (lin_real h.1 h.2 _ _ _))

theorem out4_at (k : Fin 4) (s : Fin 512) (r : Fin 704) : upBlk (iblk m c 0 t) (iblk m c 1 t) (ix3 k s r)
    = slopeLin (argA m c) (argW m c) 0 (ix3 k (row (blockOf t.val) s) r) :=
  (congrArg (fun e : EReal => e * lgsTanh e) (gate_lin m c t k s r)).trans (congrArg (_ * ·) (lgsTanh_eq _))

theorem out5_at (k : Fin 4) (s : Fin 512) (r : Fin 704) : hidBlk (iblk m c 0 t) (iblk m c 1 t) (iblk m c 2 t) (ix3 k s r)
    = hidden (argA m c) (argW m c) (argU m c) 0 (ix3 k (row (blockOf t.val) s) r) :=
  congrArg₂ (fun a b : EReal => a * b) (out4_at m c t k s r) (up_lin m c t k s r)

/-- Point `t` writes its rows of the three results. -/
theorem flushed3_eq (h : Real m c) : (dats m 0 c).flushed 3 t = ((cfg0.win 3).blk t).view.read (Elt Ideal) (slopeGate (argA m c) (argW m c) (argU m c) 0) := by
  obtain ⟨-, -, -, ⟨e0, e1, e2⟩, -⟩ := idx_facts t
  have h8 := lt8 t
  rw [Value.flushed3]
  funext y
  rw [View.read_apply]
  show out0_3 (iblk m c 0 t) (iblk m c 1 t) (iblk m c 2 t) (y : S4x512x704.Idx) = _
  rw [first3_eq]
  refine (congrArg _ (ix3_of y)).trans ((out3_at m c t h (y 0) (y 1) (y 2)).trans ?_)
  refine congrArg (slopeGate (argA m c) (argW m c) (argU m c) 0) (a₁ := ix3 (y 0 : Fin 4) (row (blockOf t.val) (y 1)) (y 2 : Fin 704)) ?_
  funext a
  apply Fin.ext
  match a with
  | ⟨0, _⟩ => show (y 0).val = win0_3.index t 0 * 4 + 1 * (y 0).val; rw [e0]; omega
  | ⟨1, _⟩ => show 512 * (t.val % 8) + (y 1).val = win0_3.index t 1 * 512 + 1 * (y 1).val; rw [e1]; omega
  | ⟨2, _⟩ => show (y 2).val = win0_3.index t 2 * 704 + 1 * (y 2).val; rw [e2]; omega

theorem flushed4_eq : (dats m 0 c).flushed 4 t = ((cfg0.win 4).blk t).view.read (Elt Ideal) (slopeLin (argA m c) (argW m c) 0) := by
  obtain ⟨-, -, -, -, ⟨e0, e1, e2⟩, -⟩ := idx_facts t
  have h8 := lt8 t
  rw [Value.flushed4]
  funext y
  rw [View.read_apply]
  show out0_4 (iblk m c 0 t) (iblk m c 1 t) (iblk m c 2 t) (y : S4x512x704.Idx) = _
  rw [first4_eq]
  refine (congrArg _ (ix3_of y)).trans ((out4_at m c t (y 0) (y 1) (y 2)).trans ?_)
  refine congrArg (slopeLin (argA m c) (argW m c) 0) (a₁ := ix3 (y 0 : Fin 4) (row (blockOf t.val) (y 1)) (y 2 : Fin 704)) ?_
  funext a
  apply Fin.ext
  match a with
  | ⟨0, _⟩ => show (y 0).val = win0_4.index t 0 * 4 + 1 * (y 0).val; rw [e0]; omega
  | ⟨1, _⟩ => show 512 * (t.val % 8) + (y 1).val = win0_4.index t 1 * 512 + 1 * (y 1).val; rw [e1]; omega
  | ⟨2, _⟩ => show (y 2).val = win0_4.index t 2 * 704 + 1 * (y 2).val; rw [e2]; omega

theorem flushed5_eq : (dats m 0 c).flushed 5 t = ((cfg0.win 5).blk t).view.read (Elt Ideal) (hidden (argA m c) (argW m c) (argU m c) 0) := by
  obtain ⟨-, -, -, -, -, ⟨e0, e1, e2⟩⟩ := idx_facts t
  have h8 := lt8 t
  rw [Value.flushed5]
  funext y
  rw [View.read_apply]
  show out0_5 (iblk m c 0 t) (iblk m c 1 t) (iblk m c 2 t) (y : S4x512x704.Idx) = _
  rw [first5_eq]
  refine (congrArg _ (ix3_of y)).trans ((out5_at m c t (y 0) (y 1) (y 2)).trans ?_)
  refine congrArg (hidden (argA m c) (argW m c) (argU m c) 0) (a₁ := ix3 (y 0 : Fin 4) (row (blockOf t.val) (y 1)) (y 2 : Fin 704)) ?_
  funext a
  apply Fin.ext
  match a with
  | ⟨0, _⟩ => show (y 0).val = win0_5.index t 0 * 4 + 1 * (y 0).val; rw [e0]; omega
  | ⟨1, _⟩ => show 512 * (t.val % 8) + (y 1).val = win0_5.index t 1 * 512 + 1 * (y 1).val; rw [e1]; omega
  | ⟨2, _⟩ => show (y 2).val = win0_5.index t 2 * 704 + 1 * (y 2).val; rw [e2]; omega

omit c t in
/-- Every index lies in some writing point's block. -/
theorem cover3 (i : S4x4096x704.Idx) : ∃ t : Fin cfg0.N, (cfg0.win 3).flush t = true ∧ i ∈ ((cfg0.win 3).blk t).view.set := by
  have h0 : (i 0 : Nat) < 4 := (i 0).isLt
  have h1 : (i 1 : Nat) < 4096 := (i 1).isLt
  have h2 : (i 2 : Nat) < 704 := (i 2).isLt
  have hN : cfg0.N = 8 := N_0
  refine ⟨⟨(i 1 : Nat) / 512, by omega⟩, flush0_3 _, ?_⟩
  generalize ht : (⟨(i 1 : Nat) / 512, _⟩ : Fin cfg0.N) = t
  have hv : t.val = (i 1 : Nat) / 512 := by rw [← ht]
  obtain ⟨-, -, -, ⟨e0, e1, e2⟩, -⟩ := idx_facts t
  show i ∈ ((View.whole main_v6_0).slice (win0_3.rect t)).set
  rw [View.set_slice_whole, Rect.mem_set_unit]
  intro a
  match a with
  | ⟨0, _⟩ => show win0_3.index t 0 * 4 ≤ (i 0 : Nat) ∧ (i 0 : Nat) < win0_3.index t 0 * 4 + 4; rw [e0]; omega
  | ⟨1, _⟩ => show win0_3.index t 1 * 512 ≤ (i 1 : Nat) ∧ (i 1 : Nat) < win0_3.index t 1 * 512 + 512; rw [e1]; omega
  | ⟨2, _⟩ => show win0_3.index t 2 * 704 ≤ (i 2 : Nat) ∧ (i 2 : Nat) < win0_3.index t 2 * 704 + 704; rw [e2]; omega

omit c t in
theorem cover4 (i : S4x4096x704.Idx) : ∃ t : Fin cfg0.N, (cfg0.win 4).flush t = true ∧ i ∈ ((cfg0.win 4).blk t).view.set := by
  obtain ⟨t, -, h⟩ := cover3 i
  exact ⟨t, flush0_4 t, h⟩

omit c t in
theorem cover5 (i : S4x4096x704.Idx) : ∃ t : Fin cfg0.N, (cfg0.win 5).flush t = true ∧ i ∈ ((cfg0.win 5).blk t).view.set := by
  obtain ⟨t, -, h⟩ := cover3 i
  exact ⟨t, flush0_5 t, h⟩

omit c t in
/-- The run at such arguments: the three results, the arguments unchanged. -/
theorem run (hr : ∀ c : Dev nD, Real m c) : θ_run defs (onTc (τ := τ) (main (F := Ideal))) ⟨m, fun _ => 0, ρ⟩ fun r => ∀ c : Dev nD,
      r.2.mem ((c : Thread nD τ).loc main_v6_0) = slopeGate (argA m c) (argW m c) (argU m c) 0
      ∧ r.2.mem ((c : Thread nD τ).loc main_v6_1) = slopeLin (argA m c) (argW m c) 0
      ∧ r.2.mem ((c : Thread nD τ).loc main_v6_2) = hidden (argA m c) (argW m c) (argU m c) 0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed3_eq m c t (hr c)) cover3),
      (h c).2.1.trans ((dats m 0 c).arrAt_eq_of_cover 4 _ (fun t _ => flushed4_eq m c t) cover4),
      (h c).2.2.1.trans ((dats m 0 c).arrAt_eq_of_cover 5 _ (fun t _ => flushed5_eq m c t) cover5), (h c).2.2.2⟩)
    (Value.run_blocks m ρ)

end Cert.GatesFirstIdeal.Hand
-- ==== Proof.GatesFirstRef.lean ====
/- The reference for the feed-forward's first half, layer 0: the gate times the linear factor, and the derivatives to the two. -/
module

public import proofs.«01_k».proof.Proof.Swiglu
public import proofs.«01_k».proof.Proof.Gen.GatesFirstRefIdeal.Run
public import proofs.«01_k».proof.Proof.Gen.GatesFirstRefIdeal.Read

@[expose] public section

set_option maxRecDepth 16384

noncomputable section

open Idealize.ShloMosaic Idealize.ShloMosaic.TcCoe Idealize.SL.Sem

namespace Cert.GatesFirstRefIdeal.Hand

open Cert.GatesFirstRefIdeal Cert.GatesFirstRefIdeal.Gen Cert.GatesFirstRefIdeal.Read Cert.Swiglu Cert.FfnSum

variable (A : FVec Ideal S4096x1024 .bf16) (W U : FVec Ideal S2x1024x2816 .bf16)

/-- The two products, and the logistic of the first. -/
theorem gate_at (i : Fin 4096) (f : Fin 2816) : val_main_v4 (F := Ideal) A W (ix2 i f) = lin A W 0 i f := by
  simp only [val_main_v4, val_main_v3, val_main_v2, val_main_v1, val_main_v0]
  pointwise
  rfl

theorem up_at (i : Fin 4096) (f : Fin 2816) : val_main_v8 (F := Ideal) A U (ix2 i f) = lin A U 0 i f := by
  simp only [val_main_v8, val_main_v7, val_main_v6, val_main_v5, val_main_v0]
  pointwise
  rfl

theorem lgs_at (i : Fin 4096) (f : Fin 2816) : val_main_v9_2 (F := Ideal) A W (ix2 i f) = lgs (lin A W 0 i f) := by
  have hd := gate_at A W i f
  simp only [val_main_v9_2, val_main_call0_v4, val_main_call0_cst_0, val_main_call0_v3, val_main_call0_v2, val_main_call0_cst, val_main_call0_v1, val_main_call0_v0]
  generalize val_main_v4 (F := Ideal) A W = d at hd ⊢
  pointwise
  rw [hd]
  rfl

/-- The three results, one slab per chip. -/
theorem slopeGate_eq : val_main_v17 (F := Ideal) A W U = slopeGate A W U 0 := by
  funext y
  obtain ⟨k, i, r, rfl⟩ : ∃ (k : Fin 4) (i : Fin 4096) (r : Fin 704), y = ix3 k i r := ⟨y 0, y 1, y 2, by idx_vars y⟩
  have h1 := gate_at A W i (hid k r)
  have h2 := up_at A U i (hid k r)
  have h3 := lgs_at A W i (hid k r)
  refine Eq.trans ?_ (chain_one (lin A W 0 i (hid k r)) (lin A U 0 i (hid k r))).symm
  rw [← h3, ← h2, ← h1]
  simp only [val_main_v17, val_main_v16, val_main_v15, val_main_v14, val_main_call1_v2, val_main_call1_v1, val_main_call1_v0, val_main_v13, val_main_v11, val_main_cst, val_main_v9_1, val_main_call0_v7, val_main_call0_v6, val_main_call0_cst_1]
  generalize val_main_v4 (F := Ideal) A W = d
  generalize val_main_v8 (F := Ideal) A U = e
  generalize val_main_v9_2 (F := Ideal) A W = l
  pointwise
  try rfl

theorem slopeLin_eq : val_main_v20 (F := Ideal) A W = slopeLin A W 0 := by
  funext y
  obtain ⟨k, i, r, rfl⟩ : ∃ (k : Fin 4) (i : Fin 4096) (r : Fin 704), y = ix3 k i r := ⟨y 0, y 1, y 2, by idx_vars y⟩
  refine Eq.trans ?_ (congrArg₂ (fun a b : EReal => a * b) (gate_at A W i (hid k r)) (lgs_at A W i (hid k r)))
  simp only [val_main_v20, val_main_v19, val_main_v18, val_main_v12, val_main_v11, val_main_cst, val_main_v9_0]
  generalize val_main_v4 (F := Ideal) A W = d
  generalize val_main_v9_2 (F := Ideal) A W = l
  pointwise
  try rfl

theorem hidden_eq : val_main_v23 (F := Ideal) A W U = hidden A W U 0 := by
  funext y
  obtain ⟨k, i, r, rfl⟩ : ∃ (k : Fin 4) (i : Fin 4096) (r : Fin 704), y = ix3 k i r := ⟨y 0, y 1, y 2, by idx_vars y⟩
  refine Eq.trans ?_ (congrArg₂ (fun a b : EReal => a * b) (congrArg₂ (fun a b : EReal => a * b) (gate_at A W i (hid k r)) (lgs_at A W i (hid k r))) (up_at A U i (hid k r)))
  simp only [val_main_v23, val_main_v22, val_main_v21, val_main_v10, val_main_v9_0]
  generalize val_main_v4 (F := Ideal) A W = d
  generalize val_main_v8 (F := Ideal) A U = e
  generalize val_main_v9_2 (F := Ideal) A W = l
  pointwise
  try rfl

variable (m : (ℓ : Loc nD τ sig) → Buf (Elt Ideal) ℓ) (ρ : Dev nD → PrngReg)

/-- The run: the results at these values, the arguments unchanged. -/
theorem run : θ_run defs (onTc (τ := τ) (main (F := Ideal))) ⟨m, fun _ => 0, ρ⟩ fun r => ∀ c : Dev nD,
      r.2.mem ((c : Thread nD τ).loc main_v17) = slopeGate (m ((c : Thread nD τ).loc main_arg0)) (m ((c : Thread nD τ).loc main_arg1)) (m ((c : Thread nD τ).loc main_arg2)) 0
      ∧ r.2.mem ((c : Thread nD τ).loc main_v20) = slopeLin (m ((c : Thread nD τ).loc main_arg0)) (m ((c : Thread nD τ).loc main_arg1)) 0
      ∧ r.2.mem ((c : Thread nD τ).loc main_v23) = hidden (m ((c : Thread nD τ).loc main_arg0)) (m ((c : Thread nD τ).loc main_arg1)) (m ((c : Thread nD τ).loc main_arg2)) 0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((val_main_v17_eq (F := Ideal) _ _ _).trans (slopeGate_eq _ _ _)),
    (h c).2.1.trans ((val_main_v20_eq (F := Ideal) _ _).trans (slopeLin_eq _ _)),
    (h c).2.2.1.trans ((val_main_v23_eq (F := Ideal) _ _ _).trans (hidden_eq _ _ _)), (h c).2.2.2⟩) (Value.run (F := Ideal) m ρ)

end Cert.GatesFirstRefIdeal.Hand
-- ==== Proof.GateFinite.lean ====
/- Arguments of the feed-forward's derivatives whose elements are finite, read as real arrays. -/
module

public import proofs.«01_k».proof.Pre_finite_hidden
public import proofs.«01_k».proof.Pre_finite_gates
public import proofs.«01_k».proof.Proof.AttnFinite
public import proofs.«01_k».proof.Proof.Swiglu

@[expose] public section

noncomputable section

namespace Cert.Pre_finite_hidden.Hand

open Idealize.ShloMosaic Cert.Pre_finite_hidden
open Cert.Pre_finite.Hand (bits_inf16 bits_inf32)
open Swiglu (IsReal real_of_flag)

theorem facts : Cert.Pre_finite_hidden.Facts where
  bcast_S_S4096x2816 := by decide
  bcast_S_S2x2816x1024 := by decide
  bcast_S_S4096x1024 := by decide

/-- The second factor, the weights and the incoming gradient, all finite. -/
theorem args [Facts] (x0 x1 : FVec Ideal S4096x2816 .f32) (x2 : FVec Ideal S2x2816x1024 .bf16) (x3 : FVec Ideal S4096x1024 .f32)
    (h : (fn (F := Ideal) x0 x1 x2 x3).1 = (fun _ => 1#1) ∧ (fn (F := Ideal) x0 x1 x2 x3).2.1 = (fun _ => 1#1) ∧
      (fn (F := Ideal) x0 x1 x2 x3).2.2 = (fun _ => 1#1)) :
    (∀ y, IsReal (x1 y)) ∧ (∀ y, IsReal (x2 y)) ∧ ∀ y, IsReal (x3 y) :=
  ⟨fun y => real_of_flag bits_inf32 (congrFun h.1 y), fun y => real_of_flag bits_inf16 (congrFun h.2.1 y),
    fun y => real_of_flag bits_inf32 (congrFun h.2.2 y)⟩

end Cert.Pre_finite_hidden.Hand

namespace Cert.Pre_finite_gates.Hand

open Idealize.ShloMosaic Cert.Pre_finite_gates
open Cert.Pre_finite.Hand (bits_inf16)
open Swiglu (IsReal real_of_flag)

theorem facts : Cert.Pre_finite_gates.Facts where
  bcast_S_S4096x1024 := by decide
  bcast_S_S2x1024x2816 := by decide

/-- The normalised rows and the second matrix, all finite. -/
theorem args [Facts] (x0 : FVec Ideal S4096x1024 .bf16) (x1 x2 : FVec Ideal S2x1024x2816 .bf16)
    (h : (fn (F := Ideal) x0 x1 x2).1 = (fun _ => 1#1) ∧ (fn (F := Ideal) x0 x1 x2).2 = (fun _ => 1#1)) :
    (∀ y, IsReal (x0 y)) ∧ ∀ y, IsReal (x2 y) :=
  ⟨fun y => real_of_flag bits_inf16 (congrFun h.1 y), fun y => real_of_flag bits_inf16 (congrFun h.2 y)⟩

end Cert.Pre_finite_gates.Hand

end
-- ==== Proof.InValue.lean ====
/- The kernel for the gradient of the feed-forward's input, layer 1, idealized: each of the eight blocks of rows writes its
   rows' gradient, and after the last one the running row is the gains' gradient. -/
module

public import proofs.«01_k».proof.Proof.InStep
public import proofs.«01_k».proof.Proof.Gen.InGradIdeal.Value
public import Idealize.ShloMosaic.Lib.Pipeline.Value
public import Idealize.ShloMosaic.Lib.StableHlo.RunRead
public import Idealize.ShloMosaic.Lib.Claim

@[expose] public section

set_option maxRecDepth 16384

noncomputable section

namespace Cert.InGradIdeal.Hand

open Cert.InGradIdeal Cert.InGradIdeal.Gen Cert.NormGrad Cert.FfnSum Cert.AttnMath
open Idealize.ShloMosaic Idealize.ShloMosaic.TcCoe Idealize.SL.Sem Idealize.ShloMosaic.StableHlo
open Idealize.ShloMosaic.Pipeline (Dat)

/-- The hidden values' cotangent, one slab per chip; a matrix of both layers, one slab per chip; the layer's gains. -/
def byChip (z : FVec Ideal S4096x2816 .bf16) : FVec Ideal S4x4096x704 .bf16 :=
  transpose S4x4096x704 [1, 0, 2] (shapeCast S4096x4x704 z shapeCasts_S4096x2816_S4096x4x704) transposes_S4096x4x704_S4x4096x704_1_0_2
def stacked (w : FVec Ideal S2x1024x2816 .bf16) : FVec Ideal S4x2048x704 .bf16 :=
  shapeCast S4x2048x704 (transpose S4x2x1024x704 [2, 0, 1, 3] (shapeCast S2x1024x4x704 w shapeCasts_S2x1024x2816_S2x1024x4x704) transposes_S2x1024x4x704_S4x2x1024x704_2_0_1_3)
    shapeCasts_S4x2x1024x704_S4x2048x704
def gains (g : FVec Ideal S2x1024 .f32) : FVec Ideal S1x1024 .f32 := extractStridedSlice S1x1024 ![1, 0] g slices_S2x1024_S1x1024_1_0

/-- Row `j` of layer 1 among both layers' rows. -/
def lrow (j : Fin 1024) : Fin 2048 := ⟨1024 + j.val, by omega⟩

theorem byChip_at (z : FVec Ideal S4096x2816 .bf16) (k : Fin 4) (i : Fin 4096) (r : Fin 704) : byChip z (ix3 k i r) = z (ix2 i (hid k r)) := by
  unfold byChip
  pointwise
  try rfl

theorem stacked_at (w : FVec Ideal S2x1024x2816 .bf16) (k : Fin 4) (j : Fin 1024) (r : Fin 704) : stacked w (ix3 k (lrow j) r) = w (ix3 1 j (hid k r)) := by
  unfold stacked lrow
  pointwise
  refine congrArg (fun k' : Fin 2 => w (ix3 k' j (hid k r))) (Fin.ext ?_)
  dsimp only
  omega

theorem gains_at (g : FVec Ideal S2x1024 .f32) (j : Fin 1024) : gains g (ix2 0 j) = g (ix2 1 j) := by
  unfold gains
  pointwise
  try rfl

variable (m : (ℓ : Loc nD τ sig) → Buf (Elt Ideal) ℓ) (ρ : Dev nD → PrngReg)

/-- The arguments as launched. -/
abbrev argX (c : Dev nD) : FVec Ideal S4096x1024 .f32 := m ((c : Thread nD τ).loc main_arg0)
abbrev argG (c : Dev nD) : FVec Ideal S2x1024 .f32 := m ((c : Thread nD τ).loc main_arg1)
abbrev argA (c : Dev nD) : FVec Ideal S2x1024x2816 .bf16 := m ((c : Thread nD τ).loc main_arg2)
abbrev argB (c : Dev nD) : FVec Ideal S2x1024x2816 .bf16 := m ((c : Thread nD τ).loc main_arg3)
abbrev argY (c : Dev nD) : FVec Ideal S4096x1024 .f32 := m ((c : Thread nD τ).loc main_arg4)
abbrev argP (c : Dev nD) : FVec Ideal S4096x2816 .bf16 := m ((c : Thread nD τ).loc main_arg5)
abbrev argQ (c : Dev nD) : FVec Ideal S4096x2816 .bf16 := m ((c : Thread nD τ).loc main_arg6)

theorem V_p (c : Dev nD) : V (F := Ideal) m c main_v1 = byChip (argP m c) := by
  unfold_abbrev_sides
  after_reads_simp
  rfl

theorem V_q (c : Dev nD) : V (F := Ideal) m c main_v3 = byChip (argQ m c) := by
  unfold_abbrev_sides
  after_reads_simp
  rfl

theorem V_a (c : Dev nD) : V (F := Ideal) m c main_v6 = stacked (argA m c) := by
  unfold_abbrev_sides
  after_reads_simp
  rfl

theorem V_b (c : Dev nD) : V (F := Ideal) m c main_v9 = stacked (argB m c) := by
  unfold_abbrev_sides
  after_reads_simp
  rfl

theorem V_g (c : Dev nD) : V (F := Ideal) m c main_v10 = gains (argG m c) := by
  unfold_abbrev_sides
  after_reads_simp
  rfl

/-- Where the windows' blocks lie, decided over the grid. -/
theorem idx_facts : ∀ t : Fin cfg0.N,
    (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = 1 ∧ win0_2.index t 2 = 0)
    ∧ (win0_3.index t 0 = 0 ∧ win0_3.index t 1 = 1 ∧ win0_3.index t 2 = 0)
    ∧ (win0_4.index t 0 = t.val ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = 0 ∧ win0_8.index t 1 = 0) :=
  (by decide +kernel : ∀ t : Fin grid0.N, _)

theorem lt8 (t : Fin cfg0.N) : t.val < 8 := lt_of_lt_of_eq t.isLt N_0

section Blocks

variable (g : (b : Ref sig .tc) → Buf (Elt Ideal) (((0 : Dev nD).tc : Thread nD τ).loc b)) (t : Fin cfg0.N)

theorem at0 (k : Fin 4) (s : Fin 512) (r : Fin 704) :
    (((cfg0.win 0).blk t).view.read (Elt Ideal) (g (Pipeline.arrRef spec0 0)) : Vec Ideal S4x512x704 .bf16) (ix3 k s r)
      = (g main_v1 : Vec Ideal S4x4096x704 .bf16) (ix3 k (row (blockOf t.val) s) r) := by
  obtain ⟨⟨e0, e1, e2⟩, -⟩ := idx_facts t
  have h8 := lt8 t
  rw [View.read_apply]
  show g main_v1 _ = g main_v1 _
  congr 1
  funext a
  apply Fin.ext
  match a with
  | ⟨0, _⟩ => show win0_0.index t 0 * 4 + 1 * k.val = k.val; rw [e0]; omega
  | ⟨1, _⟩ => show win0_0.index t 1 * 512 + 1 * s.val = 512 * (t.val % 8) + s.val; rw [e1]; omega
  | ⟨2, _⟩ => show win0_0.index t 2 * 704 + 1 * r.val = r.val; rw [e2]; omega

theorem at1 (k : Fin 4) (s : Fin 512) (r : Fin 704) :
    (((cfg0.win 1).blk t).view.read (Elt Ideal) (g (Pipeline.arrRef spec0 1)) : Vec Ideal S4x512x704 .bf16) (ix3 k s r)
      = (g main_v3 : Vec Ideal S4x4096x704 .bf16) (ix3 k (row (blockOf t.val) s) r) := by
  obtain ⟨-, ⟨e0, e1, e2⟩, -⟩ := idx_facts t
  have h8 := lt8 t
  rw [View.read_apply]
  show g main_v3 _ = g main_v3 _
  congr 1
  funext a
  apply Fin.ext
  match a with
  | ⟨0, _⟩ => show win0_1.index t 0 * 4 + 1 * k.val = k.val; rw [e0]; omega
  | ⟨1, _⟩ => show win0_1.index t 1 * 512 + 1 * s.val = 512 * (t.val % 8) + s.val; rw [e1]; omega
  | ⟨2, _⟩ => show win0_1.index t 2 * 704 + 1 * r.val = r.val; rw [e2]; omega

theorem at2 (k : Fin 4) (j : Fin 1024) (r : Fin 704) :
    (((cfg0.win 2).blk t).view.read (Elt Ideal) (g (Pipeline.arrRef spec0 2)) : Vec Ideal S4x1024x704 .bf16) (ix3 k j r)
      = (g main_v6 : Vec Ideal S4x2048x704 .bf16) (ix3 k (lrow j) r) := by
  obtain ⟨-, -, ⟨e0, e1, e2⟩, -⟩ := idx_facts t
  rw [View.read_apply]
  show g main_v6 _ = g main_v6 _
  congr 1
  funext a
  apply Fin.ext
  match a with
  | ⟨0, _⟩ => show win0_2.index t 0 * 4 + 1 * k.val = k.val; rw [e0]; omega
  | ⟨1, _⟩ => show win0_2.index t 1 * 1024 + 1 * j.val = 1024 + j.val; rw [e1]; omega
  | ⟨2, _⟩ => show win0_2.index t 2 * 704 + 1 * r.val = r.val; rw [e2]; omega

theorem at3 (k : Fin 4) (j : Fin 1024) (r : Fin 704) :
    (((cfg0.win 3).blk t).view.read (Elt Ideal) (g (Pipeline.arrRef spec0 3)) : Vec Ideal S4x1024x704 .bf16) (ix3 k j r)
      = (g main_v9 : Vec Ideal S4x2048x704 .bf16) (ix3 k (lrow j) r) := by
  obtain ⟨-, -, -, ⟨e0, e1, e2⟩, -⟩ := idx_facts t
  rw [View.read_apply]
  show g main_v9 _ = g main_v9 _
  congr 1
  funext a
  apply Fin.ext
  match a with
  | ⟨0, _⟩ => show win0_3.index t 0 * 4 + 1 * k.val = k.val; rw [e0]; omega
  | ⟨1, _⟩ => show win0_3.index t 1 * 1024 + 1 * j.val = 1024 + j.val; rw [e1]; omega
  | ⟨2, _⟩ => show win0_3.index t 2 * 704 + 1 * r.val = r.val; rw [e2]; omega

theorem at5 (j : Fin 1024) :
    (((cfg0.win 5).blk t).view.read (Elt Ideal) (g (Pipeline.arrRef spec0 5)) : Vec Ideal S1x1024 .f32) (ix2 0 j)
      = (g main_v10 : Vec Ideal S1x1024 .f32) (ix2 0 j) := by
  obtain ⟨-, -, -, -, -, ⟨e0, e1⟩, -⟩ := idx_facts t
  rw [View.read_apply]
  show g main_v10 _ = g main_v10 _
  congr 1
  funext a
  apply Fin.ext
  match a with
  | ⟨0, _⟩ => show win0_5.index t 0 * 1 + 1 * 0 = 0; rw [e0]
  | ⟨1, _⟩ => show win0_5.index t 1 * 1024 + 1 * j.val = j.val; rw [e1]; omega

end Blocks

variable (c : Dev nD) (t : Fin cfg0.N)

theorem blk0 (k : Fin 4) (s : Fin 512) (r : Fin 704) : (iblk m c 0 t : Vec Ideal S4x512x704 .bf16) (ix3 k s r) = argP m c (ix2 (row (blockOf t.val) s) (hid k r)) :=
  (at0 (V (F := Ideal) m c) t k s r).trans ((congrFun (V_p m c) _).trans (byChip_at _ _ _ _))

theorem blk1 (k : Fin 4) (s : Fin 512) (r : Fin 704) : (iblk m c 1 t : Vec Ideal S4x512x704 .bf16) (ix3 k s r) = argQ m c (ix2 (row (blockOf t.val) s) (hid k r)) :=
  (at1 (V (F := Ideal) m c) t k s r).trans ((congrFun (V_q m c) _).trans (byChip_at _ _ _ _))

theorem blk2 (k : Fin 4) (j : Fin 1024) (r : Fin 704) : (iblk m c 2 t : Vec Ideal S4x1024x704 .bf16) (ix3 k j r) = argA m c (ix3 1 j (hid k r)) :=
  (at2 (V (F := Ideal) m c) t k j r).trans ((congrFun (V_a m c) _).trans (stacked_at _ _ _ _))

theorem blk3 (k : Fin 4) (j : Fin 1024) (r : Fin 704) : (iblk m c 3 t : Vec Ideal S4x1024x704 .bf16) (ix3 k j r) = argB m c (ix3 1 j (hid k r)) :=
  (at3 (V (F := Ideal) m c) t k j r).trans ((congrFun (V_b m c) _).trans (stacked_at _ _ _ _))

theorem blk5 (j : Fin 1024) : (iblk m c 5 t : Vec Ideal S1x1024 .f32) (ix2 0 j) = argG m c (ix2 1 j) :=
  (at5 (V (F := Ideal) m c) t j).trans ((congrFun (V_g m c) _).trans (gains_at _ _))

theorem blk4 (s : Fin 512) (l : Fin 1024) : (iblk m c 4 t : Vec Ideal S512x1024 .f32) (ix2 s l) = argX m c (ix2 (row (blockOf t.val) s) l) := by
  obtain ⟨-, -, -, -, ⟨e0, e1⟩, -⟩ := idx_facts t
  have h8 := lt8 t
  unfold iblk
  rw [View.read_apply]
  show V m c main_arg0 _ = m (c.tc.loc main_arg0) _
  rw [V_main_arg0]
  congr 1
  funext a
  apply Fin.ext
  match a with
  | ⟨0, _⟩ => show win0_4.index t 0 * 512 + 1 * s.val = 512 * (t.val % 8) + s.val; rw [e0]; omega
  | ⟨1, _⟩ => show win0_4.index t 1 * 1024 + 1 * l.val = l.val; rw [e1]; omega

theorem blk6 (s : Fin 512) (l : Fin 1024) : (iblk m c 6 t : Vec Ideal S512x1024 .f32) (ix2 s l) = argY m c (ix2 (row (blockOf t.val) s) l) := by
  obtain ⟨-, -, -, -, -, -, ⟨e0, e1⟩, -⟩ := idx_facts t
  have h8 := lt8 t
  unfold iblk
  rw [View.read_apply]
  show V m c main_arg4 _ = m (c.tc.loc main_arg4) _
  rw [V_main_arg4]
  congr 1
  funext a
  apply Fin.ext
  match a with
  | ⟨0, _⟩ => show win0_6.index t 0 * 512 + 1 * s.val = 512 * (t.val % 8) + s.val; rw [e0]; omega
  | ⟨1, _⟩ => show win0_6.index t 1 * 1024 + 1 * l.val = l.val; rw [e1]; omega

/-- The block's scaled rows' gradient is the rows'. -/
theorem midBlk_eq (s : Fin 512) (l : Fin 1024) :
    midBlk (iblk m c 0 t) (iblk m c 1 t) (iblk m c 2 t) (iblk m c 3 t) s l = mid (argA m c) (argB m c) (argP m c) (argQ m c) 1 (row (blockOf t.val) s) l := by
  unfold midBlk
  simp only [blk0, blk1, blk2, blk3]
  exact sum_chips_two (fun f => argP m c (ix2 (row (blockOf t.val) s) f) * argA m c (ix3 1 l f)) (fun f => argQ m c (ix2 (row (blockOf t.val) s) f) * argB m c (ix3 1 l f))

/-- What the point writes: its rows of the gradient. -/
theorem rowsBlk_eq (s : Fin 512) (l : Fin 1024) :
    rowsBlk (iblk m c 0 t) (iblk m c 1 t) (iblk m c 2 t) (iblk m c 3 t) (iblk m c 4 t) (iblk m c 5 t) (iblk m c 6 t) (ix2 s l)
      = inGrad (argX m c) (argG m c) (argA m c) (argB m c) (argY m c) (argP m c) (argQ m c) 1 (ix2 (row (blockOf t.val) s) l) := by
  have e4 : (fun j => (iblk m c 4 t : Vec Ideal S512x1024 .f32) (ix2 s j)) = fun j => argX m c (ix2 (row (blockOf t.val) s) j) := funext fun j => blk4 m c t s j
  have e5 : (fun j => (iblk m c 5 t : Vec Ideal S1x1024 .f32) (ix2 0 j)) = fun j => argG m c (ix2 1 j) := funext fun j => blk5 m c t j
  have e6 : midBlk (iblk m c 0 t) (iblk m c 1 t) (iblk m c 2 t) (iblk m c 3 t) s = mid (argA m c) (argB m c) (argP m c) (argQ m c) 1 (row (blockOf t.val) s) :=
    funext fun j => midBlk_eq m c t s j
  unfold rowsBlk inGrad
  exact congrArg₂ (fun a b : EReal => a + b) (blk6 m c t s l) (congrFun (congr (congr (congrArg rowGrad e4) e5) e6) l)

/-- And what it adds to the gains' gradient: its tokens' parts. -/
theorem gainBlk_eq (p : OneRow.Idx → EReal) (y : OneRow.Idx) :
    gainBlk (iblk m c 0 t) (iblk m c 1 t) (iblk m c 2 t) (iblk m c 3 t) (iblk m c 4 t) p y
      = p y + ∑ s : Fin 512, gainTok (argX m c) (argA m c) (argB m c) (argP m c) (argQ m c) 1 y (row (blockOf t.val) s) := by
  refine congrArg (p y + ·) (Finset.sum_congr rfl fun s _ => ?_)
  exact congrArg₂ (fun a b : EReal => a * b) (midBlk_eq m c t s (y 1))
    (congrArg₂ (fun a b : EReal => a * b) (blk4 m c t s (y 1)) (congrArg rstd (funext fun j => blk4 m c t s j)))

/-- The outputs after point `t`. -/
theorem rows_out (s : Fin 512) (l : Fin 1024) :
    (outsAt0 m c t.val t.isLt).1 (ix2 s l) = inGrad (argX m c) (argG m c) (argA m c) (argB m c) (argY m c) (argP m c) (argQ m c) 1 (ix2 (row (blockOf t.val) s) l) := by
  by_cases h0 : t.val % 8 = 0
  · rw [outsAt0_A m c t h0]
    dsimp only
    rw [outA_7]
    exact rowsBlk_eq m c t s l
  · rw [outsAt0_B m c t h0]
    dsimp only
    rw [outB_7]
    exact rowsBlk_eq m c t s l

theorem gain_first (h0 : t.val % 8 = 0) (y : S1x1024.Idx) :
    (outsAt0 m c t.val t.isLt).2 y = 0 + ∑ s : Fin 512, gainTok (argX m c) (argA m c) (argB m c) (argP m c) (argQ m c) 1 y (row (blockOf t.val) s) := by
  rw [outsAt0_A m c t h0]
  dsimp only
  rw [outA_8]
  exact gainBlk_eq m c t (fun _ => 0) y

theorem gain_next (h0 : ¬t.val % 8 = 0) (y : S1x1024.Idx) :
    (outsAt0 m c t.val t.isLt).2 y = (outsAt0 m c (t.val - 1) (Nat.lt_of_le_of_lt (Nat.sub_le _ _) t.isLt)).2 y
      + ∑ s : Fin 512, gainTok (argX m c) (argA m c) (argB m c) (argP m c) (argQ m c) 1 y (row (blockOf t.val) s) := by
  rw [outsAt0_B m c t h0]
  dsimp only
  rw [outB_8]
  exact gainBlk_eq m c t _ y

/-- The running row after point `n`. -/
theorem gain_upto (y : S1x1024.Idx) : ∀ (n : ℕ) (hn : n < cfg0.N),
    (outsAt0 m c n hn).2 y = upto (gainTok (argX m c) (argA m c) (argB m c) (argP m c) (argQ m c) 1 y) (n + 1)
  | 0, hn => gain_first m c ⟨0, hn⟩ rfl y
  | n + 1, hn => by
    have h8 : n + 1 < 8 := lt_of_lt_of_eq hn N_0
    refine (gain_next m c ⟨n + 1, hn⟩ (by dsimp only; omega) y).trans ?_
    exact congrArg (· + ∑ s : Fin 512, gainTok (argX m c) (argA m c) (argB m c) (argP m c) (argQ m c) 1 y (row (blockOf (n + 1)) s)) (gain_upto y n (by omega))

/-- Point `t` writes its rows of the gradient. -/
theorem flushed7_eq : (dats m 0 c).flushed 7 t = ((cfg0.win 7).blk t).view.read (Elt Ideal)
    (inGrad (argX m c) (argG m c) (argA m c) (argB m c) (argY m c) (argP m c) (argQ m c) 1) := by
  obtain ⟨-, -, -, -, -, -, -, ⟨e0, e1⟩, -⟩ := idx_facts t
  have h8 := lt8 t
  rw [Value.flushed7]
  funext y
  rw [View.read_apply]
  show (outsAt0 m c t.val t.isLt).1 (y : S512x1024.Idx) = _
  have hy : (y : S512x1024.Idx) = ix2 (y 0 : Fin 512) (y 1 : Fin 1024) := by
    funext a
    match a with
    | ⟨0, _⟩ => rfl
    | ⟨1, _⟩ => rfl
  refine ((congrArg (outsAt0 m c t.val t.isLt).1 hy).trans (rows_out m c t (y 0) (y 1))).trans ?_
  refine congrArg (inGrad (argX m c) (argG m c) (argA m c) (argB m c) (argY m c) (argP m c) (argQ m c) 1) ?_
  funext a
  apply Fin.ext
  match a with
  | ⟨0, _⟩ => show 512 * (t.val % 8) + (y 0).val = win0_7.index t 0 * 512 + 1 * (y 0).val; rw [e0]; omega
  | ⟨1, _⟩ => show (y 1).val = win0_7.index t 1 * 1024 + 1 * (y 1).val; rw [e1]; omega

/-- The last point writes the gains' gradient. -/
theorem flushed8_eq (hf : (cfg0.win 8).flush t = true) : (dats m 0 c).flushed 8 t = ((cfg0.win 8).blk t).view.read (Elt Ideal)
    (gainGrad (argX m c) (argA m c) (argB m c) (argP m c) (argQ m c) 1) := by
  obtain ⟨-, -, -, -, -, -, -, -, ⟨e0, e1⟩⟩ := idx_facts t
  have h8 := lt8 t
  have h7 : t.val % 8 = 7 := (flush0_8 t).mp hf
  have e7 : t.val + 1 = 8 := by omega
  rw [Value.flushed8]
  funext y
  rw [View.read_apply]
  show (outsAt0 m c t.val t.isLt).2 (y : S1x1024.Idx) = _
  refine (gain_upto m c y t.val t.isLt).trans ?_
  rw [e7, upto_all]
  refine congrArg (gainGrad (argX m c) (argA m c) (argB m c) (argP m c) (argQ m c) 1) (a₁ := y) ?_
  funext a
  apply Fin.ext
  match a with
  | ⟨0, _⟩ => show (y 0).val = win0_8.index t 0 * 1 + 1 * (y 0).val; rw [e0]; omega
  | ⟨1, _⟩ => show (y 1).val = win0_8.index t 1 * 1024 + 1 * (y 1).val; rw [e1]; omega

omit c t in
/-- Every index lies in some writing point's block. -/
theorem cover7 (i : S4096x1024.Idx) : ∃ t : Fin cfg0.N, (cfg0.win 7).flush t = true ∧ i ∈ ((cfg0.win 7).blk t).view.set := by
  have h0 : (i 0 : Nat) < 4096 := (i 0).isLt
  have h1 : (i 1 : Nat) < 1024 := (i 1).isLt
  have hN : cfg0.N = 8 := N_0
  refine ⟨⟨(i 0 : Nat) / 512, by omega⟩, flush0_7 _, ?_⟩
  generalize ht : (⟨(i 0 : Nat) / 512, _⟩ : Fin cfg0.N) = t
  have hv : t.val = (i 0 : Nat) / 512 := by rw [← ht]
  obtain ⟨-, -, -, -, -, -, -, ⟨e0, e1⟩, -⟩ := idx_facts t
  show i ∈ ((View.whole main_v11_0).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512; rw [e0]; omega
  | ⟨1, _⟩ => show win0_7.index t 1 * 1024 ≤ (i 1 : Nat) ∧ (i 1 : Nat) < win0_7.index t 1 * 1024 + 1024; rw [e1]; omega

omit c t in
theorem cover8 (i : S1x1024.Idx) : ∃ t : Fin cfg0.N, (cfg0.win 8).flush t = true ∧ i ∈ ((cfg0.win 8).blk t).view.set := by
  have h0 : (i 0 : Nat) < 1 := (i 0).isLt
  have h1 : (i 1 : Nat) < 1024 := (i 1).isLt
  have hN : cfg0.N = 8 := N_0
  refine ⟨⟨7, by omega⟩, (flush0_8 _).mpr rfl, ?_⟩
  generalize (⟨7, _⟩ : Fin cfg0.N) = t
  obtain ⟨-, -, -, -, -, -, -, -, ⟨e0, e1⟩⟩ := idx_facts t
  show i ∈ ((View.whole main_v11_1).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1; rw [e0]; omega
  | ⟨1, _⟩ => show win0_8.index t 1 * 1024 ≤ (i 1 : Nat) ∧ (i 1 : Nat) < win0_8.index t 1 * 1024 + 1024; rw [e1]; omega

omit c t in
/-- The run: both results at the gradients, the arguments unchanged. -/
theorem run : θ_run defs (onTc (τ := τ) (main (F := Ideal))) ⟨m, fun _ => 0, ρ⟩ fun r => ∀ c : Dev nD,
      r.2.mem ((c : Thread nD τ).loc main_v11_0) = inGrad (argX m c) (argG m c) (argA m c) (argB m c) (argY m c) (argP m c) (argQ m c) 1
      ∧ r.2.mem ((c : Thread nD τ).loc main_v11_1) = gainGrad (argX m c) (argA m c) (argB m c) (argP m c) (argQ m c) 1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans ((dats m 0 c).arrAt_eq_of_cover 7 _ (fun t _ => flushed7_eq m c t) cover7),
      (h c).2.1.trans ((dats m 0 c).arrAt_eq_of_cover 8 _ (fun t hf => flushed8_eq m c t hf) cover8), (h c).2.2⟩)
    (Value.run_blocks m ρ)

end Cert.InGradIdeal.Hand
-- ==== Proof.InRef.lean ====
/- The reference for the gradient of the feed-forward's input, layer 1: differentiating the scaling and the two products gives,
   the gradient as the kernel computes it. -/
module

public import proofs.«01_k».proof.Proof.NormGrad
public import proofs.«01_k».proof.Proof.Gen.InRefIdeal.Run
public import proofs.«01_k».proof.Proof.Gen.InRefIdeal.Read
public import Idealize.ShloMosaic.Lib.Pointwise

@[expose] public section

set_option maxRecDepth 16384

noncomputable section

open Idealize.ShloMosaic Idealize.ShloMosaic.TcCoe Idealize.SL.Sem

namespace Cert.InRefIdeal.Hand

open Cert.InRefIdeal Cert.InRefIdeal.Gen Cert.InRefIdeal.Read Cert.NormGrad

variable (X : FVec Ideal S4096x1024 .f32) (G : FVec Ideal S2x1024 .f32) (A B : FVec Ideal S2x1024x2816 .bf16) (Y : FVec Ideal S4096x1024 .f32) (P Q : FVec Ideal S4096x2816 .bf16)

/-- The scaled row's gradient. -/
theorem da_at (i : Fin 4096) (l : Fin 1024) : val_main_v30 (F := Ideal) A B P Q (ix2 i l) = mid A B P Q 1 i l := by
  simp only [val_main_v30, val_main_v29, val_main_v28, val_main_v27, val_main_v26, val_main_v24, val_main_v23, val_main_v22, val_main_v20, val_main_v19, val_main_v18]
  pointwise
  exact add_comm _ _

/-- One over the root of the row's mean square, and the mean square. -/
theorem rs_at (i : Fin 4096) : val_main_v9 (F := Ideal) X (ix2 i 0) = rstd fun j => X (ix2 i j) := by
  simp only [val_main_v9, val_main_v8, val_main_v7, val_main_v6, val_main_v5, val_main_v4, val_main_v3, val_main_v2, val_main_cst, val_main_cst_0, val_main_cst_1]
  pointwise
  rfl

theorem ms_at (i : Fin 4096) : val_main_v8 (F := Ideal) X (ix2 i 0) = meanSq fun j => X (ix2 i j) := by
  simp only [val_main_v8, val_main_v7, val_main_v6, val_main_v5, val_main_v4, val_main_v3, val_main_v2, val_main_cst, val_main_cst_0, val_main_cst_1]
  pointwise
  rfl

/-- The rows' gradient as differentiating writes it. -/
theorem rows_form (i : Fin 4096) (l : Fin 1024) : val_main_v51 (F := Ideal) X G A B Y P Q (ix2 i l)
    = Y (ix2 i l) + mid A B P Q 1 i l * G (ix2 1 l) * rstd (fun j => X (ix2 i j))
      + X (ix2 i l) * share (fun j => X (ix2 i j)) (fun j => G (ix2 1 j)) (mid A B P Q 1 i)
      + share (fun j => X (ix2 i j)) (fun j => G (ix2 1 j)) (mid A B P Q 1 i) * X (ix2 i l) := by
  have hd := da_at A B P Q i
  have hr := rs_at X i
  have hv := ms_at X i
  simp only [val_main_v51, val_main_v50, val_main_v49, val_main_v48, val_main_v47, val_main_v46, val_main_v45, val_main_v44, val_main_v43, val_main_v42, val_main_v41, val_main_v40, val_main_v39, val_main_v38, val_main_v37, val_main_v35, val_main_v34, val_main_v15, val_main_v1, val_main_v0, val_main_v12, val_main_v11, val_main_v10, val_main_cst_2, val_main_cst_5, val_main_cst_6, val_main_cst_7]
  generalize val_main_v30 (F := Ideal) A B P Q = d at hd ⊢
  generalize val_main_v9 (F := Ideal) X = r at hr ⊢
  generalize val_main_v8 (F := Ideal) X = v at hv ⊢
  pointwise
  simp only [Fin.sum_univ_one, hd, hr, hv]
  rfl

/-- The gains' gradient. -/
theorem gain_form (l : Fin 1024) : val_main_v52 (F := Ideal) X A B P Q (ix2 0 l) = gainGrad X A B P Q 1 (ix2 0 l) := by
  have hd := fun i => da_at A B P Q i l
  have hr := rs_at X
  simp only [val_main_v52, val_main_v36, val_main_v33, val_main_v32, val_main_v31, val_main_v14, val_main_v13, val_main_cst_3, val_main_cst_4]
  generalize val_main_v30 (F := Ideal) A B P Q = d at hd ⊢
  generalize val_main_v9 (F := Ideal) X = r at hr ⊢
  pointwise
  simp only [Fin.sum_univ_one, hd, hr]
  exact Finset.sum_congr rfl fun i _ => mul_comm _ _

/-- The two results are the gradients. -/
theorem rows_grad : val_main_v51 (F := Ideal) X G A B Y P Q = inGrad X G A B Y P Q 1 := by
  funext y
  idx_vars y
  exact (rows_form X G A B Y P Q _ _).trans (inGrad_eq X G A B Y P Q 1 _ _).symm

theorem gain_grad : val_main_v52 (F := Ideal) X A B P Q = gainGrad X A B P Q 1 := by
  funext y
  obtain ⟨l, rfl⟩ : ∃ l : Fin 1024, y = ix2 0 l := ⟨y 1, by
    have h0 : (y 0).val < 1 := (y 0).isLt
    funext a
    match a with
    | ⟨0, _⟩ => exact Fin.ext (show (y 0).val = 0 by omega)
    | ⟨1, _⟩ => rfl⟩
  exact gain_form X A B P Q l

variable (m : (ℓ : Loc nD τ sig) → Buf (Elt Ideal) ℓ) (ρ : Dev nD → PrngReg)

/-- The run: the results at the gradients, the arguments unchanged. -/
theorem run : θ_run defs (onTc (τ := τ) (main (F := Ideal))) ⟨m, fun _ => 0, ρ⟩ fun r => ∀ c : Dev nD,
      r.2.mem ((c : Thread nD τ).loc main_v51) = inGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 1
      ∧ r.2.mem ((c : Thread nD τ).loc main_v52) = gainGrad (m ((c : Thread nD τ).loc main_arg0)) (m ((c : Thread nD τ).loc main_arg2)) (m ((c : Thread nD τ).loc main_arg3)) (m ((c : Thread nD τ).loc main_arg5)) (m ((c : Thread nD τ).loc main_arg6)) 1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((val_main_v51_eq (F := Ideal) m c).trans (rows_grad _ _ _ _ _ _ _)),
    (h c).2.1.trans ((val_main_v52_eq (F := Ideal) _ _ _ _ _).trans (gain_grad _ _ _ _ _)), (h c).2.2⟩) (Value.run (F := Ideal) m ρ)

end Cert.InRefIdeal.Hand
-- ==== Proof.InFirstStep.lean ====
/- One grid point of the kernel for the gradient to the feed-forward's rows (first layer), idealized: the block of rows it
   writes, and what it adds to the gains' gradient it carries. -/
module

public import proofs.«01_k».proof.Proof.InStep
public import proofs.«01_k».proof.Proof.Gen.InFirstGradIdeal.Value
public import proofs.«01_k».proof.Proof.NormGrad
public import Idealize.ShloMosaic.Lib.Pipeline.Value
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.InFirstGradIdeal.Hand

open Cert.InFirstGradIdeal Cert.InFirstGradIdeal.Gen Cert.NormGrad

open Cert.InGradIdeal.Hand (midBlk rowsBlk gainBlk fill_eq ld_rows ld_row rows_piece gain_piece cover1)

variable (c : Dev nD) (i : grid0.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole)
  (x0 x1 : Vec Ideal S4x512x704 .bf16) (x2 x3 : Vec Ideal S4x1024x704 .bf16) (x4 : Vec Ideal S512x1024 .f32) (x5 : Vec Ideal S1x1024 .f32) (x6 : Vec Ideal S512x1024 .f32) (xo : Vec Ideal S1x1024 .f32)

theorem outA_7 (hc0 : cond0_0 i) (y : S512x1024.Idx) :
    out0_A_7 c i arg1 harg1 arg2 harg2 arg3 harg3 arg4 harg4 arg5 harg5 arg6 harg6 arg7 harg7 arg8 harg8 arg9 harg9 hc0 x0 x1 x2 x3 x4 x5 x6 y = rowsBlk x0 x1 x2 x3 x4 x5 x6 y := by
  unfold out0_A_7
  refine View.read_writes_apply_of_pieces (Val := Elt Ideal) _ _ (rowsBlk x0 x1 x2 x3 x4 x5 x6 : S512x1024.Idx → Elt Ideal .f32) _ (View.PiecesOf.mem ?_) y (cover0_A_7 c i arg1 harg1 arg2 harg2 arg3 harg3 arg4 harg4 arg5 harg5 arg6 harg6 arg7 harg7 arg8 harg8 arg9 harg9 hc0 x0 x1 x2 x3 x4 x5 x6 y)
  unfold kernelRun0_A
  dsimp only
  sl_unfold_run_names
  simp only [View.readAt_eq_ld, harg1.read_unread, harg2.read_unread, harg3.read_unread, harg4.read_unread, harg5.read_unread, harg6.read_unread, harg7.read_unread, ld_rows, ld_row]
  exact ⟨rows_piece x0 x1 x2 x3 x4 x5 x6 inb_S512x1024_S512x1024_0_0, trivial⟩

theorem outB_7 (hc0 : ¬cond0_0 i) (y : S512x1024.Idx) :
    out0_B_7 c i arg1 harg1 arg2 harg2 arg3 harg3 arg4 harg4 arg5 harg5 arg6 harg6 arg7 harg7 arg8 harg8 arg9 harg9 hc0 x0 x1 x2 x3 x4 x5 x6 xo y = rowsBlk x0 x1 x2 x3 x4 x5 x6 y := by
  unfold out0_B_7
  refine View.read_writes_apply_of_pieces (Val := Elt Ideal) _ _ (rowsBlk x0 x1 x2 x3 x4 x5 x6 : S512x1024.Idx → Elt Ideal .f32) _ (View.PiecesOf.mem ?_) y (cover0_B_7 c i arg1 harg1 arg2 harg2 arg3 harg3 arg4 harg4 arg5 harg5 arg6 harg6 arg7 harg7 arg8 harg8 arg9 harg9 hc0 x0 x1 x2 x3 x4 x5 x6 xo y)
  unfold kernelRun0_B
  dsimp only
  sl_unfold_run_names
  simp only [View.readAt_eq_ld, harg1.read_unread, harg2.read_unread, harg3.read_unread, harg4.read_unread, harg5.read_unread, harg6.read_unread, harg7.read_unread, harg9.read_unread, ld_rows, ld_row]
  exact ⟨rows_piece x0 x1 x2 x3 x4 x5 x6 inb_S512x1024_S512x1024_0_0, trivial⟩

theorem outA_8 (hc0 : cond0_0 i) (y : S1x1024.Idx) :
    out0_A_8 c i arg1 harg1 arg2 harg2 arg3 harg3 arg4 harg4 arg5 harg5 arg6 harg6 arg7 harg7 arg8 harg8 arg9 harg9 hc0 x0 x1 x2 x3 x4 x5 x6 y = gainBlk x0 x1 x2 x3 x4 (fun _ => 0) y := by
  unfold out0_A_8
  rw [View.read_writes_junk_apply_eq_canon]
  unfold kernelRun0_A
  dsimp only
  sl_unfold_run_names
  simp (disch := decide) only [↓View.readCov_skip, ↓View.readCov_fill]
  simp only [View.readAt_eq_ld, harg1.read_unread, harg2.read_unread, harg3.read_unread, harg4.read_unread, harg5.read_unread, harg6.read_unread, harg7.read_unread, ld_rows, ld_row]
  have h := gain_piece x0 x1 x2 x3 x4 (k0_pay4 (F := Ideal)) (fun _ => 0) fill_eq inb_S1x1024_S1x1024_0_0
  refine View.canon_append_of_piecesOf (Val := Elt Ideal) (gainBlk x0 x1 x2 x3 x4 (fun _ => 0) : S1x1024.Idx → Elt Ideal .f32) [_] [_] ?_ y (cover1 y _)
  exact ⟨h, trivial⟩

theorem outB_8 (hc0 : ¬cond0_0 i) (y : S1x1024.Idx) :
    out0_B_8 c i arg1 harg1 arg2 harg2 arg3 harg3 arg4 harg4 arg5 harg5 arg6 harg6 arg7 harg7 arg8 harg8 arg9 harg9 hc0 x0 x1 x2 x3 x4 x5 x6 xo y = gainBlk x0 x1 x2 x3 x4 xo y := by
  unfold out0_B_8
  refine View.read_writes_apply_of_pieces (Val := Elt Ideal) _ _ (gainBlk x0 x1 x2 x3 x4 xo : S1x1024.Idx → Elt Ideal .f32) _ (View.PiecesOf.mem ?_) y (cover0_B_8 c i arg1 harg1 arg2 harg2 arg3 harg3 arg4 harg4 arg5 harg5 arg6 harg6 arg7 harg7 arg8 harg8 arg9 harg9 hc0 x0 x1 x2 x3 x4 x5 x6 xo y)
  unfold kernelRun0_B
  dsimp only
  sl_unfold_run_names
  simp only [View.readAt_eq_ld, harg1.read_unread, harg2.read_unread, harg3.read_unread, harg4.read_unread, harg5.read_unread, harg6.read_unread, harg7.read_unread, harg9.read_unread, ld_rows, ld_row]
  exact ⟨gain_piece x0 x1 x2 x3 x4 xo xo (fun _ => rfl) inb_S1x1024_S1x1024_0_0, trivial⟩

end Cert.InFirstGradIdeal.Hand
-- ==== Proof.InFirstValue.lean ====
/- The kernel for the gradient of the feed-forward's input, layer 0, idealized: each of the eight blocks of rows writes its
   rows' gradient, and after the last one the running row is the gains' gradient. -/
module

public import proofs.«01_k».proof.Proof.InFirstStep
public import proofs.«01_k».proof.Proof.Gen.InFirstGradIdeal.Value
public import Idealize.ShloMosaic.Lib.Pipeline.Value
public import Idealize.ShloMosaic.Lib.StableHlo.RunRead
public import Idealize.ShloMosaic.Lib.Claim

@[expose] public section

set_option maxRecDepth 16384

noncomputable section

namespace Cert.InFirstGradIdeal.Hand

open Cert.InGradIdeal.Hand (midBlk rowsBlk gainBlk)
open Cert.InFirstGradIdeal Cert.InFirstGradIdeal.Gen Cert.NormGrad Cert.FfnSum Cert.AttnMath
open Idealize.ShloMosaic Idealize.ShloMosaic.TcCoe Idealize.SL.Sem Idealize.ShloMosaic.StableHlo
open Idealize.ShloMosaic.Pipeline (Dat)

/-- The hidden values' cotangent, one slab per chip; a matrix of both layers, one slab per chip; the layer's gains. -/
def byChip (z : FVec Ideal S4096x2816 .bf16) : FVec Ideal S4x4096x704 .bf16 :=
  transpose S4x4096x704 [1, 0, 2] (shapeCast S4096x4x704 z shapeCasts_S4096x2816_S4096x4x704) transposes_S4096x4x704_S4x4096x704_1_0_2
def stacked (w : FVec Ideal S2x1024x2816 .bf16) : FVec Ideal S4x2048x704 .bf16 :=
  shapeCast S4x2048x704 (transpose S4x2x1024x704 [2, 0, 1, 3] (shapeCast S2x1024x4x704 w shapeCasts_S2x1024x2816_S2x1024x4x704) transposes_S2x1024x4x704_S4x2x1024x704_2_0_1_3)
    shapeCasts_S4x2x1024x704_S4x2048x704
def gains (g : FVec Ideal S2x1024 .f32) : FVec Ideal S1x1024 .f32 := extractStridedSlice S1x1024 ![0, 0] g slices_S2x1024_S1x1024_0_0

/-- Row `j` of layer 0 among both layers' rows. -/
def lrow (j : Fin 1024) : Fin 2048 := ⟨j.val, by omega⟩

theorem byChip_at (z : FVec Ideal S4096x2816 .bf16) (k : Fin 4) (i : Fin 4096) (r : Fin 704) : byChip z (ix3 k i r) = z (ix2 i (hid k r)) := by
  unfold byChip
  pointwise
  try rfl

theorem stacked_at (w : FVec Ideal S2x1024x2816 .bf16) (k : Fin 4) (j : Fin 1024) (r : Fin 704) : stacked w (ix3 k (lrow j) r) = w (ix3 0 j (hid k r)) := by
  unfold stacked lrow
  pointwise
  refine congrArg₂ (fun (k' : Fin 2) (j' : Fin 1024) => w (ix3 k' j' (hid k r))) (Fin.ext ?_) (Fin.ext ?_)
  · exact Nat.div_eq_of_lt j.isLt
  · exact Nat.mod_eq_of_lt j.isLt

theorem gains_at (g : FVec Ideal S2x1024 .f32) (j : Fin 1024) : gains g (ix2 0 j) = g (ix2 0 j) := by
  unfold gains
  pointwise
  try rfl

variable (m : (ℓ : Loc nD τ sig) → Buf (Elt Ideal) ℓ) (ρ : Dev nD → PrngReg)

/-- The arguments as launched. -/
abbrev argX (c : Dev nD) : FVec Ideal S4096x1024 .f32 := m ((c : Thread nD τ).loc main_arg0)
abbrev argG (c : Dev nD) : FVec Ideal S2x1024 .f32 := m ((c : Thread nD τ).loc main_arg1)
abbrev argA (c : Dev nD) : FVec Ideal S2x1024x2816 .bf16 := m ((c : Thread nD τ).loc main_arg2)
abbrev argB (c : Dev nD) : FVec Ideal S2x1024x2816 .bf16 := m ((c : Thread nD τ).loc main_arg3)
abbrev argY (c : Dev nD) : FVec Ideal S4096x1024 .f32 := m ((c : Thread nD τ).loc main_arg4)
abbrev argP (c : Dev nD) : FVec Ideal S4096x2816 .bf16 := m ((c : Thread nD τ).loc main_arg5)
abbrev argQ (c : Dev nD) : FVec Ideal S4096x2816 .bf16 := m ((c : Thread nD τ).loc main_arg6)

theorem V_p (c : Dev nD) : V (F := Ideal) m c main_v1 = byChip (argP m c) := by
  unfold_abbrev_sides
  after_reads_simp
  rfl

theorem V_q (c : Dev nD) : V (F := Ideal) m c main_v3 = byChip (argQ m c) := by
  unfold_abbrev_sides
  after_reads_simp
  rfl

theorem V_a (c : Dev nD) : V (F := Ideal) m c main_v6 = stacked (argA m c) := by
  unfold_abbrev_sides
  after_reads_simp
  rfl

theorem V_b (c : Dev nD) : V (F := Ideal) m c main_v9 = stacked (argB m c) := by
  unfold_abbrev_sides
  after_reads_simp
  rfl

theorem V_g (c : Dev nD) : V (F := Ideal) m c main_v10 = gains (argG m c) := by
  unfold_abbrev_sides
  after_reads_simp
  rfl

/-- Where the windows' blocks lie, decided over the grid. -/
theorem idx_facts : ∀ t : Fin cfg0.N,
    (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = t.val ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = 0 ∧ win0_8.index t 1 = 0) :=
  (by decide +kernel : ∀ t : Fin grid0.N, _)

theorem lt8 (t : Fin cfg0.N) : t.val < 8 := lt_of_lt_of_eq t.isLt N_0

section Blocks

variable (g : (b : Ref sig .tc) → Buf (Elt Ideal) (((0 : Dev nD).tc : Thread nD τ).loc b)) (t : Fin cfg0.N)

theorem at0 (k : Fin 4) (s : Fin 512) (r : Fin 704) :
    (((cfg0.win 0).blk t).view.read (Elt Ideal) (g (Pipeline.arrRef spec0 0)) : Vec Ideal S4x512x704 .bf16) (ix3 k s r)
      = (g main_v1 : Vec Ideal S4x4096x704 .bf16) (ix3 k (row (blockOf t.val) s) r) := by
  obtain ⟨⟨e0, e1, e2⟩, -⟩ := idx_facts t
  have h8 := lt8 t
  rw [View.read_apply]
  show g main_v1 _ = g main_v1 _
  congr 1
  funext a
  apply Fin.ext
  match a with
  | ⟨0, _⟩ => show win0_0.index t 0 * 4 + 1 * k.val = k.val; rw [e0]; omega
  | ⟨1, _⟩ => show win0_0.index t 1 * 512 + 1 * s.val = 512 * (t.val % 8) + s.val; rw [e1]; omega
  | ⟨2, _⟩ => show win0_0.index t 2 * 704 + 1 * r.val = r.val; rw [e2]; omega

theorem at1 (k : Fin 4) (s : Fin 512) (r : Fin 704) :
    (((cfg0.win 1).blk t).view.read (Elt Ideal) (g (Pipeline.arrRef spec0 1)) : Vec Ideal S4x512x704 .bf16) (ix3 k s r)
      = (g main_v3 : Vec Ideal S4x4096x704 .bf16) (ix3 k (row (blockOf t.val) s) r) := by
  obtain ⟨-, ⟨e0, e1, e2⟩, -⟩ := idx_facts t
  have h8 := lt8 t
  rw [View.read_apply]
  show g main_v3 _ = g main_v3 _
  congr 1
  funext a
  apply Fin.ext
  match a with
  | ⟨0, _⟩ => show win0_1.index t 0 * 4 + 1 * k.val = k.val; rw [e0]; omega
  | ⟨1, _⟩ => show win0_1.index t 1 * 512 + 1 * s.val = 512 * (t.val % 8) + s.val; rw [e1]; omega
  | ⟨2, _⟩ => show win0_1.index t 2 * 704 + 1 * r.val = r.val; rw [e2]; omega

theorem at2 (k : Fin 4) (j : Fin 1024) (r : Fin 704) :
    (((cfg0.win 2).blk t).view.read (Elt Ideal) (g (Pipeline.arrRef spec0 2)) : Vec Ideal S4x1024x704 .bf16) (ix3 k j r)
      = (g main_v6 : Vec Ideal S4x2048x704 .bf16) (ix3 k (lrow j) r) := by
  obtain ⟨-, -, ⟨e0, e1, e2⟩, -⟩ := idx_facts t
  rw [View.read_apply]
  show g main_v6 _ = g main_v6 _
  congr 1
  funext a
  apply Fin.ext
  match a with
  | ⟨0, _⟩ => show win0_2.index t 0 * 4 + 1 * k.val = k.val; rw [e0]; omega
  | ⟨1, _⟩ => show win0_2.index t 1 * 1024 + 1 * j.val = j.val; rw [e1]; omega
  | ⟨2, _⟩ => show win0_2.index t 2 * 704 + 1 * r.val = r.val; rw [e2]; omega

theorem at3 (k : Fin 4) (j : Fin 1024) (r : Fin 704) :
    (((cfg0.win 3).blk t).view.read (Elt Ideal) (g (Pipeline.arrRef spec0 3)) : Vec Ideal S4x1024x704 .bf16) (ix3 k j r)
      = (g main_v9 : Vec Ideal S4x2048x704 .bf16) (ix3 k (lrow j) r) := by
  obtain ⟨-, -, -, ⟨e0, e1, e2⟩, -⟩ := idx_facts t
  rw [View.read_apply]
  show g main_v9 _ = g main_v9 _
  congr 1
  funext a
  apply Fin.ext
  match a with
  | ⟨0, _⟩ => show win0_3.index t 0 * 4 + 1 * k.val = k.val; rw [e0]; omega
  | ⟨1, _⟩ => show win0_3.index t 1 * 1024 + 1 * j.val = j.val; rw [e1]; omega
  | ⟨2, _⟩ => show win0_3.index t 2 * 704 + 1 * r.val = r.val; rw [e2]; omega

theorem at5 (j : Fin 1024) :
    (((cfg0.win 5).blk t).view.read (Elt Ideal) (g (Pipeline.arrRef spec0 5)) : Vec Ideal S1x1024 .f32) (ix2 0 j)
      = (g main_v10 : Vec Ideal S1x1024 .f32) (ix2 0 j) := by
  obtain ⟨-, -, -, -, -, ⟨e0, e1⟩, -⟩ := idx_facts t
  rw [View.read_apply]
  show g main_v10 _ = g main_v10 _
  congr 1
  funext a
  apply Fin.ext
  match a with
  | ⟨0, _⟩ => show win0_5.index t 0 * 1 + 1 * 0 = 0; rw [e0]
  | ⟨1, _⟩ => show win0_5.index t 1 * 1024 + 1 * j.val = j.val; rw [e1]; omega

end Blocks

variable (c : Dev nD) (t : Fin cfg0.N)

theorem blk0 (k : Fin 4) (s : Fin 512) (r : Fin 704) : (iblk m c 0 t : Vec Ideal S4x512x704 .bf16) (ix3 k s r) = argP m c (ix2 (row (blockOf t.val) s) (hid k r)) :=
  (at0 (V (F := Ideal) m c) t k s r).trans ((congrFun (V_p m c) _).trans (byChip_at _ _ _ _))

theorem blk1 (k : Fin 4) (s : Fin 512) (r : Fin 704) : (iblk m c 1 t : Vec Ideal S4x512x704 .bf16) (ix3 k s r) = argQ m c (ix2 (row (blockOf t.val) s) (hid k r)) :=
  (at1 (V (F := Ideal) m c) t k s r).trans ((congrFun (V_q m c) _).trans (byChip_at _ _ _ _))

theorem blk2 (k : Fin 4) (j : Fin 1024) (r : Fin 704) : (iblk m c 2 t : Vec Ideal S4x1024x704 .bf16) (ix3 k j r) = argA m c (ix3 0 j (hid k r)) :=
  (at2 (V (F := Ideal) m c) t k j r).trans ((congrFun (V_a m c) _).trans (stacked_at _ _ _ _))

theorem blk3 (k : Fin 4) (j : Fin 1024) (r : Fin 704) : (iblk m c 3 t : Vec Ideal S4x1024x704 .bf16) (ix3 k j r) = argB m c (ix3 0 j (hid k r)) :=
  (at3 (V (F := Ideal) m c) t k j r).trans ((congrFun (V_b m c) _).trans (stacked_at _ _ _ _))

theorem blk5 (j : Fin 1024) : (iblk m c 5 t : Vec Ideal S1x1024 .f32) (ix2 0 j) = argG m c (ix2 0 j) :=
  (at5 (V (F := Ideal) m c) t j).trans ((congrFun (V_g m c) _).trans (gains_at _ _))

theorem blk4 (s : Fin 512) (l : Fin 1024) : (iblk m c 4 t : Vec Ideal S512x1024 .f32) (ix2 s l) = argX m c (ix2 (row (blockOf t.val) s) l) := by
  obtain ⟨-, -, -, -, ⟨e0, e1⟩, -⟩ := idx_facts t
  have h8 := lt8 t
  unfold iblk
  rw [View.read_apply]
  show V m c main_arg0 _ = m (c.tc.loc main_arg0) _
  rw [V_main_arg0]
  congr 1
  funext a
  apply Fin.ext
  match a with
  | ⟨0, _⟩ => show win0_4.index t 0 * 512 + 1 * s.val = 512 * (t.val % 8) + s.val; rw [e0]; omega
  | ⟨1, _⟩ => show win0_4.index t 1 * 1024 + 1 * l.val = l.val; rw [e1]; omega

theorem blk6 (s : Fin 512) (l : Fin 1024) : (iblk m c 6 t : Vec Ideal S512x1024 .f32) (ix2 s l) = argY m c (ix2 (row (blockOf t.val) s) l) := by
  obtain ⟨-, -, -, -, -, -, ⟨e0, e1⟩, -⟩ := idx_facts t
  have h8 := lt8 t
  unfold iblk
  rw [View.read_apply]
  show V m c main_arg4 _ = m (c.tc.loc main_arg4) _
  rw [V_main_arg4]
  congr 1
  funext a
  apply Fin.ext
  match a with
  | ⟨0, _⟩ => show win0_6.index t 0 * 512 + 1 * s.val = 512 * (t.val % 8) + s.val; rw [e0]; omega
  | ⟨1, _⟩ => show win0_6.index t 1 * 1024 + 1 * l.val = l.val; rw [e1]; omega

/-- The block's scaled rows' gradient is the rows'. -/
theorem midBlk_eq (s : Fin 512) (l : Fin 1024) :
    midBlk (iblk m c 0 t) (iblk m c 1 t) (iblk m c 2 t) (iblk m c 3 t) s l = mid (argA m c) (argB m c) (argP m c) (argQ m c) 0 (row (blockOf t.val) s) l := by
  unfold midBlk
  simp only [blk0, blk1, blk2, blk3]
  exact sum_chips_two (fun f => argP m c (ix2 (row (blockOf t.val) s) f) * argA m c (ix3 0 l f)) (fun f => argQ m c (ix2 (row (blockOf t.val) s) f) * argB m c (ix3 0 l f))

/-- What the point writes: its rows of the gradient. -/
theorem rowsBlk_eq (s : Fin 512) (l : Fin 1024) :
    rowsBlk (iblk m c 0 t) (iblk m c 1 t) (iblk m c 2 t) (iblk m c 3 t) (iblk m c 4 t) (iblk m c 5 t) (iblk m c 6 t) (ix2 s l)
      = inGrad (argX m c) (argG m c) (argA m c) (argB m c) (argY m c) (argP m c) (argQ m c) 0 (ix2 (row (blockOf t.val) s) l) := by
  have e4 : (fun j => (iblk m c 4 t : Vec Ideal S512x1024 .f32) (ix2 s j)) = fun j => argX m c (ix2 (row (blockOf t.val) s) j) := funext fun j => blk4 m c t s j
  have e5 : (fun j => (iblk m c 5 t : Vec Ideal S1x1024 .f32) (ix2 0 j)) = fun j => argG m c (ix2 0 j) := funext fun j => blk5 m c t j
  have e6 : midBlk (iblk m c 0 t) (iblk m c 1 t) (iblk m c 2 t) (iblk m c 3 t) s = mid (argA m c) (argB m c) (argP m c) (argQ m c) 0 (row (blockOf t.val) s) :=
    funext fun j => midBlk_eq m c t s j
  unfold rowsBlk inGrad
  exact congrArg₂ (fun a b : EReal => a + b) (blk6 m c t s l) (congrFun (congr (congr (congrArg rowGrad e4) e5) e6) l)

/-- And what it adds to the gains' gradient: its tokens' parts. -/
theorem gainBlk_eq (p : OneRow.Idx → EReal) (y : OneRow.Idx) :
    gainBlk (iblk m c 0 t) (iblk m c 1 t) (iblk m c 2 t) (iblk m c 3 t) (iblk m c 4 t) p y
      = p y + ∑ s : Fin 512, gainTok (argX m c) (argA m c) (argB m c) (argP m c) (argQ m c) 0 y (row (blockOf t.val) s) := by
  refine congrArg (p y + ·) (Finset.sum_congr rfl fun s _ => ?_)
  exact congrArg₂ (fun a b : EReal => a * b) (midBlk_eq m c t s (y 1))
    (congrArg₂ (fun a b : EReal => a * b) (blk4 m c t s (y 1)) (congrArg rstd (funext fun j => blk4 m c t s j)))

/-- The outputs after point `t`. -/
theorem rows_out (s : Fin 512) (l : Fin 1024) :
    (outsAt0 m c t.val t.isLt).1 (ix2 s l) = inGrad (argX m c) (argG m c) (argA m c) (argB m c) (argY m c) (argP m c) (argQ m c) 0 (ix2 (row (blockOf t.val) s) l) := by
  by_cases h0 : t.val % 8 = 0
  · rw [outsAt0_A m c t h0]
    dsimp only
    rw [outA_7]
    exact rowsBlk_eq m c t s l
  · rw [outsAt0_B m c t h0]
    dsimp only
    rw [outB_7]
    exact rowsBlk_eq m c t s l

theorem gain_first (h0 : t.val % 8 = 0) (y : S1x1024.Idx) :
    (outsAt0 m c t.val t.isLt).2 y = 0 + ∑ s : Fin 512, gainTok (argX m c) (argA m c) (argB m c) (argP m c) (argQ m c) 0 y (row (blockOf t.val) s) := by
  rw [outsAt0_A m c t h0]
  dsimp only
  rw [outA_8]
  exact gainBlk_eq m c t (fun _ => 0) y

theorem gain_next (h0 : ¬t.val % 8 = 0) (y : S1x1024.Idx) :
    (outsAt0 m c t.val t.isLt).2 y = (outsAt0 m c (t.val - 1) (Nat.lt_of_le_of_lt (Nat.sub_le _ _) t.isLt)).2 y
      + ∑ s : Fin 512, gainTok (argX m c) (argA m c) (argB m c) (argP m c) (argQ m c) 0 y (row (blockOf t.val) s) := by
  rw [outsAt0_B m c t h0]
  dsimp only
  rw [outB_8]
  exact gainBlk_eq m c t _ y

/-- The running row after point `n`. -/
theorem gain_upto (y : S1x1024.Idx) : ∀ (n : ℕ) (hn : n < cfg0.N),
    (outsAt0 m c n hn).2 y = upto (gainTok (argX m c) (argA m c) (argB m c) (argP m c) (argQ m c) 0 y) (n + 1)
  | 0, hn => gain_first m c ⟨0, hn⟩ rfl y
  | n + 1, hn => by
    have h8 : n + 1 < 8 := lt_of_lt_of_eq hn N_0
    refine (gain_next m c ⟨n + 1, hn⟩ (by dsimp only; omega) y).trans ?_
    exact congrArg (· + ∑ s : Fin 512, gainTok (argX m c) (argA m c) (argB m c) (argP m c) (argQ m c) 0 y (row (blockOf (n + 1)) s)) (gain_upto y n (by omega))

/-- Point `t` writes its rows of the gradient. -/
theorem flushed7_eq : (dats m 0 c).flushed 7 t = ((cfg0.win 7).blk t).view.read (Elt Ideal)
    (inGrad (argX m c) (argG m c) (argA m c) (argB m c) (argY m c) (argP m c) (argQ m c) 0) := by
  obtain ⟨-, -, -, -, -, -, -, ⟨e0, e1⟩, -⟩ := idx_facts t
  have h8 := lt8 t
  rw [Value.flushed7]
  funext y
  rw [View.read_apply]
  show (outsAt0 m c t.val t.isLt).1 (y : S512x1024.Idx) = _
  have hy : (y : S512x1024.Idx) = ix2 (y 0 : Fin 512) (y 1 : Fin 1024) := by
    funext a
    match a with
    | ⟨0, _⟩ => rfl
    | ⟨1, _⟩ => rfl
  refine ((congrArg (outsAt0 m c t.val t.isLt).1 hy).trans (rows_out m c t (y 0) (y 1))).trans ?_
  refine congrArg (inGrad (argX m c) (argG m c) (argA m c) (argB m c) (argY m c) (argP m c) (argQ m c) 0) ?_
  funext a
  apply Fin.ext
  match a with
  | ⟨0, _⟩ => show 512 * (t.val % 8) + (y 0).val = win0_7.index t 0 * 512 + 1 * (y 0).val; rw [e0]; omega
  | ⟨1, _⟩ => show (y 1).val = win0_7.index t 1 * 1024 + 1 * (y 1).val; rw [e1]; omega

/-- The last point writes the gains' gradient. -/
theorem flushed8_eq (hf : (cfg0.win 8).flush t = true) : (dats m 0 c).flushed 8 t = ((cfg0.win 8).blk t).view.read (Elt Ideal)
    (gainGrad (argX m c) (argA m c) (argB m c) (argP m c) (argQ m c) 0) := by
  obtain ⟨-, -, -, -, -, -, -, -, ⟨e0, e1⟩⟩ := idx_facts t
  have h8 := lt8 t
  have h7 : t.val % 8 = 7 := (flush0_8 t).mp hf
  have e7 : t.val + 1 = 8 := by omega
  rw [Value.flushed8]
  funext y
  rw [View.read_apply]
  show (outsAt0 m c t.val t.isLt).2 (y : S1x1024.Idx) = _
  refine (gain_upto m c y t.val t.isLt).trans ?_
  rw [e7, upto_all]
  refine congrArg (gainGrad (argX m c) (argA m c) (argB m c) (argP m c) (argQ m c) 0) (a₁ := y) ?_
  funext a
  apply Fin.ext
  match a with
  | ⟨0, _⟩ => show (y 0).val = win0_8.index t 0 * 1 + 1 * (y 0).val; rw [e0]; omega
  | ⟨1, _⟩ => show (y 1).val = win0_8.index t 1 * 1024 + 1 * (y 1).val; rw [e1]; omega

omit c t in
/-- Every index lies in some writing point's block. -/
theorem cover7 (i : S4096x1024.Idx) : ∃ t : Fin cfg0.N, (cfg0.win 7).flush t = true ∧ i ∈ ((cfg0.win 7).blk t).view.set := by
  have h0 : (i 0 : Nat) < 4096 := (i 0).isLt
  have h1 : (i 1 : Nat) < 1024 := (i 1).isLt
  have hN : cfg0.N = 8 := N_0
  refine ⟨⟨(i 0 : Nat) / 512, by omega⟩, flush0_7 _, ?_⟩
  generalize ht : (⟨(i 0 : Nat) / 512, _⟩ : Fin cfg0.N) = t
  have hv : t.val = (i 0 : Nat) / 512 := by rw [← ht]
  obtain ⟨-, -, -, -, -, -, -, ⟨e0, e1⟩, -⟩ := idx_facts t
  show i ∈ ((View.whole main_v11_0).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512; rw [e0]; omega
  | ⟨1, _⟩ => show win0_7.index t 1 * 1024 ≤ (i 1 : Nat) ∧ (i 1 : Nat) < win0_7.index t 1 * 1024 + 1024; rw [e1]; omega

omit c t in
theorem cover8 (i : S1x1024.Idx) : ∃ t : Fin cfg0.N, (cfg0.win 8).flush t = true ∧ i ∈ ((cfg0.win 8).blk t).view.set := by
  have h0 : (i 0 : Nat) < 1 := (i 0).isLt
  have h1 : (i 1 : Nat) < 1024 := (i 1).isLt
  have hN : cfg0.N = 8 := N_0
  refine ⟨⟨7, by omega⟩, (flush0_8 _).mpr rfl, ?_⟩
  generalize (⟨7, _⟩ : Fin cfg0.N) = t
  obtain ⟨-, -, -, -, -, -, -, -, ⟨e0, e1⟩⟩ := idx_facts t
  show i ∈ ((View.whole main_v11_1).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1; rw [e0]; omega
  | ⟨1, _⟩ => show win0_8.index t 1 * 1024 ≤ (i 1 : Nat) ∧ (i 1 : Nat) < win0_8.index t 1 * 1024 + 1024; rw [e1]; omega

omit c t in
/-- The run: both results at the gradients, the arguments unchanged. -/
theorem run : θ_run defs (onTc (τ := τ) (main (F := Ideal))) ⟨m, fun _ => 0, ρ⟩ fun r => ∀ c : Dev nD,
      r.2.mem ((c : Thread nD τ).loc main_v11_0) = inGrad (argX m c) (argG m c) (argA m c) (argB m c) (argY m c) (argP m c) (argQ m c) 0
      ∧ r.2.mem ((c : Thread nD τ).loc main_v11_1) = gainGrad (argX m c) (argA m c) (argB m c) (argP m c) (argQ m c) 0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans ((dats m 0 c).arrAt_eq_of_cover 7 _ (fun t _ => flushed7_eq m c t) cover7),
      (h c).2.1.trans ((dats m 0 c).arrAt_eq_of_cover 8 _ (fun t hf => flushed8_eq m c t hf) cover8), (h c).2.2⟩)
    (Value.run_blocks m ρ)

end Cert.InFirstGradIdeal.Hand
-- ==== Proof.InFirstRef.lean ====
/- The reference for the gradient of the feed-forward's input, layer 0: differentiating the scaling and the two products gives,
   the gradient as the kernel computes it. -/
module

public import proofs.«01_k».proof.Proof.NormGrad
public import proofs.«01_k».proof.Proof.Gen.InFirstRefIdeal.Run
public import proofs.«01_k».proof.Proof.Gen.InFirstRefIdeal.Read
public import Idealize.ShloMosaic.Lib.Pointwise

@[expose] public section

set_option maxRecDepth 16384

noncomputable section

open Idealize.ShloMosaic Idealize.ShloMosaic.TcCoe Idealize.SL.Sem

namespace Cert.InFirstRefIdeal.Hand

open Cert.InFirstRefIdeal Cert.InFirstRefIdeal.Gen Cert.InFirstRefIdeal.Read Cert.NormGrad

variable (X : FVec Ideal S4096x1024 .f32) (G : FVec Ideal S2x1024 .f32) (A B : FVec Ideal S2x1024x2816 .bf16) (Y : FVec Ideal S4096x1024 .f32) (P Q : FVec Ideal S4096x2816 .bf16)

/-- The scaled row's gradient. -/
theorem da_at (i : Fin 4096) (l : Fin 1024) : val_main_v30 (F := Ideal) A B P Q (ix2 i l) = mid A B P Q 0 i l := by
  simp only [val_main_v30, val_main_v29, val_main_v28, val_main_v27, val_main_v26, val_main_v24, val_main_v23, val_main_v22, val_main_v20, val_main_v19, val_main_v18]
  pointwise
  exact add_comm _ _

/-- One over the root of the row's mean square, and the mean square. -/
theorem rs_at (i : Fin 4096) : val_main_v9 (F := Ideal) X (ix2 i 0) = rstd fun j => X (ix2 i j) := by
  simp only [val_main_v9, val_main_v8, val_main_v7, val_main_v6, val_main_v5, val_main_v4, val_main_v3, val_main_v2, val_main_cst, val_main_cst_0, val_main_cst_1]
  pointwise
  rfl

theorem ms_at (i : Fin 4096) : val_main_v8 (F := Ideal) X (ix2 i 0) = meanSq fun j => X (ix2 i j) := by
  simp only [val_main_v8, val_main_v7, val_main_v6, val_main_v5, val_main_v4, val_main_v3, val_main_v2, val_main_cst, val_main_cst_0, val_main_cst_1]
  pointwise
  rfl

/-- The rows' gradient as differentiating writes it. -/
theorem rows_form (i : Fin 4096) (l : Fin 1024) : val_main_v51 (F := Ideal) X G A B Y P Q (ix2 i l)
    = Y (ix2 i l) + mid A B P Q 0 i l * G (ix2 0 l) * rstd (fun j => X (ix2 i j))
      + X (ix2 i l) * share (fun j => X (ix2 i j)) (fun j => G (ix2 0 j)) (mid A B P Q 0 i)
      + share (fun j => X (ix2 i j)) (fun j => G (ix2 0 j)) (mid A B P Q 0 i) * X (ix2 i l) := by
  have hd := da_at A B P Q i
  have hr := rs_at X i
  have hv := ms_at X i
  simp only [val_main_v51, val_main_v50, val_main_v49, val_main_v48, val_main_v47, val_main_v46, val_main_v45, val_main_v44, val_main_v43, val_main_v42, val_main_v41, val_main_v40, val_main_v39, val_main_v38, val_main_v37, val_main_v35, val_main_v34, val_main_v15, val_main_v1, val_main_v0, val_main_v12, val_main_v11, val_main_v10, val_main_cst_2, val_main_cst_5, val_main_cst_6, val_main_cst_7]
  generalize val_main_v30 (F := Ideal) A B P Q = d at hd ⊢
  generalize val_main_v9 (F := Ideal) X = r at hr ⊢
  generalize val_main_v8 (F := Ideal) X = v at hv ⊢
  pointwise
  simp only [Fin.sum_univ_one, hd, hr, hv]
  rfl

/-- The gains' gradient. -/
theorem gain_form (l : Fin 1024) : val_main_v52 (F := Ideal) X A B P Q (ix2 0 l) = gainGrad X A B P Q 0 (ix2 0 l) := by
  have hd := fun i => da_at A B P Q i l
  have hr := rs_at X
  simp only [val_main_v52, val_main_v36, val_main_v33, val_main_v32, val_main_v31, val_main_v14, val_main_v13, val_main_cst_3, val_main_cst_4]
  generalize val_main_v30 (F := Ideal) A B P Q = d at hd ⊢
  generalize val_main_v9 (F := Ideal) X = r at hr ⊢
  pointwise
  simp only [Fin.sum_univ_one, hd, hr]
  exact Finset.sum_congr rfl fun i _ => mul_comm _ _

/-- The two results are the gradients. -/
theorem rows_grad : val_main_v51 (F := Ideal) X G A B Y P Q = inGrad X G A B Y P Q 0 := by
  funext y
  idx_vars y
  exact (rows_form X G A B Y P Q _ _).trans (inGrad_eq X G A B Y P Q 0 _ _).symm

theorem gain_grad : val_main_v52 (F := Ideal) X A B P Q = gainGrad X A B P Q 0 := by
  funext y
  obtain ⟨l, rfl⟩ : ∃ l : Fin 1024, y = ix2 0 l := ⟨y 1, by
    have h0 : (y 0).val < 1 := (y 0).isLt
    funext a
    match a with
    | ⟨0, _⟩ => exact Fin.ext (show (y 0).val = 0 by omega)
    | ⟨1, _⟩ => rfl⟩
  exact gain_form X A B P Q l

variable (m : (ℓ : Loc nD τ sig) → Buf (Elt Ideal) ℓ) (ρ : Dev nD → PrngReg)

/-- The run: the results at the gradients, the arguments unchanged. -/
theorem run : θ_run defs (onTc (τ := τ) (main (F := Ideal))) ⟨m, fun _ => 0, ρ⟩ fun r => ∀ c : Dev nD,
      r.2.mem ((c : Thread nD τ).loc main_v51) = inGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 0
      ∧ r.2.mem ((c : Thread nD τ).loc main_v52) = gainGrad (m ((c : Thread nD τ).loc main_arg0)) (m ((c : Thread nD τ).loc main_arg2)) (m ((c : Thread nD τ).loc main_arg3)) (m ((c : Thread nD τ).loc main_arg5)) (m ((c : Thread nD τ).loc main_arg6)) 0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((val_main_v51_eq (F := Ideal) m c).trans (rows_grad _ _ _ _ _ _ _)),
    (h c).2.1.trans ((val_main_v52_eq (F := Ideal) _ _ _ _ _).trans (gain_grad _ _ _ _ _)), (h c).2.2⟩) (Value.run (F := Ideal) m ρ)

end Cert.InFirstRefIdeal.Hand
-- ==== Proof.lean ====
module

public import proofs.«01_k».proof.Defs
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.ConvValue
public import proofs.«01_k».proof.Proof.ConvRef
public import proofs.«01_k».proof.Proof.AttnFrames
public import proofs.«01_k».proof.Proof.AttnFinite
public import proofs.«01_k».proof.Proof.AttnValue
public import proofs.«01_k».proof.Proof.DownValue
public import proofs.«01_k».proof.Proof.DownRef
public import proofs.«01_k».proof.Proof.UpValue
public import proofs.«01_k».proof.Proof.UpRef
public import proofs.«01_k».proof.Proof.HidValue
public import proofs.«01_k».proof.Proof.HidRef
public import proofs.«01_k».proof.Proof.HidFirstValue
public import proofs.«01_k».proof.Proof.HidFirstRef
public import proofs.«01_k».proof.Proof.GatesValue
public import proofs.«01_k».proof.Proof.GatesRef
public import proofs.«01_k».proof.Proof.GatesFirstValue
public import proofs.«01_k».proof.Proof.GatesFirstRef
public import proofs.«01_k».proof.Proof.GateFinite
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwd.Loops
public import proofs.«01_k».proof.Proof.Gen.AttnBwd
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdIdeal.Loops
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvRefIdeal
public import proofs.«01_k».proof.Proof.Gen.DownGrad
public import proofs.«01_k».proof.Proof.Gen.DownGrad.Skeleton
public import proofs.«01_k».proof.Proof.Gen.DownGrad.Launch
public import proofs.«01_k».proof.Proof.Gen.DownGrad.Points
public import proofs.«01_k».proof.Proof.Gen.DownGrad.Frame
public import proofs.«01_k».proof.Proof.Gen.DownGrad.Value
public import proofs.«01_k».proof.Proof.Gen.DownGradIdeal
public import proofs.«01_k».proof.Proof.Gen.DownGradIdeal.Skeleton
public import proofs.«01_k».proof.Proof.Gen.DownGradIdeal.Launch
public import proofs.«01_k».proof.Proof.Gen.DownGradIdeal.Points
public import proofs.«01_k».proof.Proof.Gen.DownGradIdeal.Frame
public import proofs.«01_k».proof.Proof.Gen.DownGradIdeal.Value
public import proofs.«01_k».proof.Proof.Gen.UpGrad
public import proofs.«01_k».proof.Proof.Gen.UpGrad.Skeleton
public import proofs.«01_k».proof.Proof.Gen.UpGrad.Launch
public import proofs.«01_k».proof.Proof.Gen.UpGrad.Points
public import proofs.«01_k».proof.Proof.Gen.UpGrad.Frame
public import proofs.«01_k».proof.Proof.Gen.UpGrad.Value
public import proofs.«01_k».proof.Proof.Gen.UpGradIdeal
public import proofs.«01_k».proof.Proof.Gen.UpGradIdeal.Skeleton
public import proofs.«01_k».proof.Proof.Gen.UpGradIdeal.Launch
public import proofs.«01_k».proof.Proof.Gen.UpGradIdeal.Points
public import proofs.«01_k».proof.Proof.Gen.UpGradIdeal.Frame
public import proofs.«01_k».proof.Proof.Gen.UpGradIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.UpRefIdeal
public import proofs.«01_k».proof.Proof.Gen.UpRefIdeal.Run
public import proofs.«01_k».proof.Proof.Gen.UpRefIdeal.Read
public import Idealize.ShloMosaic.Adequacy
public import Idealize.ShloMosaic.Init
public import proofs.«01_k».proof.Proof.Gen.HidGrad
public import proofs.«01_k».proof.Proof.Gen.HidGrad.Skeleton
public import proofs.«01_k».proof.Proof.Gen.HidGrad.Launch
public import proofs.«01_k».proof.Proof.Gen.HidGrad.Points
public import proofs.«01_k».proof.Proof.Gen.HidGrad.Frame
public import proofs.«01_k».proof.Proof.Gen.HidGrad.Value
public import proofs.«01_k».proof.Proof.Gen.HidGradIdeal
public import proofs.«01_k».proof.Proof.Gen.HidGradIdeal.Skeleton
public import proofs.«01_k».proof.Proof.Gen.HidGradIdeal.Launch
public import proofs.«01_k».proof.Proof.Gen.HidGradIdeal.Points
public import proofs.«01_k».proof.Proof.Gen.HidGradIdeal.Frame
public import proofs.«01_k».proof.Proof.Gen.HidGradIdeal.Value
public import proofs.«01_k».proof.Proof.Gen.HidRefIdeal
public import proofs.«01_k».proof.Proof.Gen.HidRefIdeal.Run
public import proofs.«01_k».proof.Proof.Gen.HidRefIdeal.Read
public import proofs.«01_k».proof.Proof.Gen.HidFirstGrad
public import proofs.«01_k».proof.Proof.Gen.HidFirstGrad.Skeleton
public import proofs.«01_k».proof.Proof.Gen.HidFirstGrad.Launch
public import proofs.«01_k».proof.Proof.Gen.HidFirstGrad.Points
public import proofs.«01_k».proof.Proof.Gen.HidFirstGrad.Frame
public import proofs.«01_k».proof.Proof.Gen.HidFirstGrad.Value
public import proofs.«01_k».proof.Proof.Gen.HidFirstGradIdeal
public import proofs.«01_k».proof.Proof.Gen.HidFirstGradIdeal.Skeleton
public import proofs.«01_k».proof.Proof.Gen.HidFirstGradIdeal.Launch
public import proofs.«01_k».proof.Proof.Gen.HidFirstGradIdeal.Points
public import proofs.«01_k».proof.Proof.Gen.HidFirstGradIdeal.Frame
public import proofs.«01_k».proof.Proof.Gen.HidFirstGradIdeal.Value
public import proofs.«01_k».proof.Proof.Gen.HidFirstRefIdeal
public import proofs.«01_k».proof.Proof.Gen.HidFirstRefIdeal.Run
public import proofs.«01_k».proof.Proof.Gen.HidFirstRefIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.Gates.Value
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.GatesFirst
public import proofs.«01_k».proof.Proof.Gen.GatesFirst.Skeleton
public import proofs.«01_k».proof.Proof.Gen.GatesFirst.Launch
public import proofs.«01_k».proof.Proof.Gen.GatesFirst.Points
public import proofs.«01_k».proof.Proof.Gen.GatesFirst.Frame
public import proofs.«01_k».proof.Proof.Gen.GatesFirst.Value
public import proofs.«01_k».proof.Proof.Gen.GatesFirstIdeal
public import proofs.«01_k».proof.Proof.Gen.GatesFirstIdeal.Skeleton
public import proofs.«01_k».proof.Proof.Gen.GatesFirstIdeal.Launch
public import proofs.«01_k».proof.Proof.Gen.GatesFirstIdeal.Points
public import proofs.«01_k».proof.Proof.Gen.GatesFirstIdeal.Frame
public import proofs.«01_k».proof.Proof.Gen.GatesFirstIdeal.Value
public import proofs.«01_k».proof.Proof.Gen.GatesFirstRefIdeal
public import proofs.«01_k».proof.Proof.Gen.GatesFirstRefIdeal.Run
public import proofs.«01_k».proof.Proof.Gen.GatesFirstRefIdeal.Read
public import proofs.«01_k».proof.Proof.Gen.InGrad
public import proofs.«01_k».proof.Proof.Gen.InFirstGrad
public import proofs.«01_k».proof.Proof.Gen.InGrad.Skeleton
public import proofs.«01_k».proof.Proof.Gen.InFirstGrad.Skeleton
public import proofs.«01_k».proof.Proof.Gen.InGrad.Launch
public import proofs.«01_k».proof.Proof.Gen.InFirstGrad.Launch
public import proofs.«01_k».proof.Proof.Gen.InGrad.Points
public import proofs.«01_k».proof.Proof.Gen.InFirstGrad.Points
public import proofs.«01_k».proof.Proof.Gen.InGrad.Frame
public import proofs.«01_k».proof.Proof.Gen.InFirstGrad.Frame
public import proofs.«01_k».proof.Proof.Gen.InGrad.Value
public import proofs.«01_k».proof.Proof.Gen.InFirstGrad.Value
public import proofs.«01_k».proof.Proof.Gen.InGradIdeal
public import proofs.«01_k».proof.Proof.Gen.InFirstGradIdeal
public import proofs.«01_k».proof.Proof.Gen.InGradIdeal.Skeleton
public import proofs.«01_k».proof.Proof.Gen.InFirstGradIdeal.Skeleton
public import proofs.«01_k».proof.Proof.Gen.InGradIdeal.Launch
public import proofs.«01_k».proof.Proof.Gen.InFirstGradIdeal.Launch
public import proofs.«01_k».proof.Proof.Gen.InGradIdeal.Points
public import proofs.«01_k».proof.Proof.Gen.InFirstGradIdeal.Points
public import proofs.«01_k».proof.Proof.Gen.InGradIdeal.Frame
public import proofs.«01_k».proof.Proof.Gen.InFirstGradIdeal.Frame
public import proofs.«01_k».proof.Proof.Gen.InGradIdeal.Value
public import proofs.«01_k».proof.Proof.Gen.InFirstGradIdeal.Value
public import proofs.«01_k».proof.Proof.Gen.InRefIdeal
public import proofs.«01_k».proof.Proof.Gen.InFirstRefIdeal
public import proofs.«01_k».proof.Proof.Gen.InRefIdeal.Run
public import proofs.«01_k».proof.Proof.Gen.InFirstRefIdeal.Run
public import proofs.«01_k».proof.Proof.Gen.InRefIdeal.Read
public import proofs.«01_k».proof.Proof.Gen.InFirstRefIdeal.Read
public import proofs.«01_k».proof.Proof.InValue
public import proofs.«01_k».proof.Proof.InRef
public import proofs.«01_k».proof.Proof.InFirstValue
public import proofs.«01_k».proof.Proof.InFirstRef

@[expose] public section

noncomputable section

namespace Cert.Proof

open Idealize.ShloMosaic Idealize.ShloMosaic.TcCoe Idealize.SL.Sem

/-! ## The short gated convolution's backward -/

theorem conv_frame : Cert.quiescent_ConvBwd := fun m ρ _ => Cert.ConvBwd.Gen.frame m ρ

theorem conv_frame_ideal : Cert.quiescent_ConvBwdIdeal := fun m ρ _ => Cert.ConvBwdIdeal.Gen.frame m ρ

theorem conv_frame_ref : Cert.quiescent_ConvRefIdeal := fun m ρ _ =>
  (θ_run Cert.ConvRefIdeal.defs _ _).mono (fun r h => ⟨fun c => (h c).2.2,
    Idealize.ShloMosaic.sem_eq_zero_of_no_sems (by decide) r.2⟩) (Cert.ConvRefIdeal.Value.run (F := Ideal) m ρ)

theorem conv_preserves : Cert.preserves_ConvBwd_ConvBwdIdeal := trivial

theorem conv_algebraic : Cert.algebraic_ConvBwdIdeal_ConvRefIdeal := by
  intro m ρ m' ρ' _ hagree
  refine ⟨fun c => ConvSpec.gradX (ConvBwdIdeal.Hand.argX m c) (ConvBwdIdeal.Hand.argW m c) (ConvBwdIdeal.Hand.argY m c),
    fun c => ConvSpec.gradW (ConvBwdIdeal.Hand.argX m c) (ConvBwdIdeal.Hand.argY m c), ?_, ?_⟩
  · exact (θ_run Cert.ConvBwdIdeal.defs _ _).mono (fun _ h c => h c) (Cert.ConvBwdIdeal.Hand.run m ρ)
  · refine (θ_run Cert.ConvRefIdeal.defs _ _).mono (fun _ h c => ?_) (Cert.ConvRefIdeal.Hand.run m' ρ')
    obtain ⟨e0, e1, e2⟩ := hagree c
    refine ⟨(h c).1.trans ?_, (h c).2.1.trans ?_, (h c).2.2⟩
    · unfold ConvBwdIdeal.Hand.argX ConvBwdIdeal.Hand.argW ConvBwdIdeal.Hand.argY
      rw [e0, e1, e2]
    · unfold ConvBwdIdeal.Hand.argX ConvBwdIdeal.Hand.argY
      rw [e0, e2]

/-! ## The backward of causal attention -/

theorem attn_frame : Cert.quiescent_AttnBwd := Cert.AttnBwdIdeal.Hand.frame_words

theorem attn_frame_ideal : Cert.quiescent_AttnBwdIdeal := Cert.AttnBwdIdeal.Hand.frame_idealized

theorem attn_frame_ref : Cert.quiescent_AttnRefIdeal := fun m ρ _ =>
  (θ_run Cert.AttnRefIdeal.defs _ _).mono (fun r h => ⟨fun c => (h c).2.2.2,
    Idealize.ShloMosaic.sem_eq_zero_of_no_sems (by decide) r.2⟩) (Cert.AttnRefIdeal.Value.run (F := Ideal) m ρ)

theorem attn_preserves : Cert.preserves_AttnBwd_AttnBwdIdeal :=
  ⟨IdealRules.named_const.statement Cert.AttnBwdIdeal.κ "mask" .f32 0xF149F2CA#32 ⊥ rfl,
   IdealRules.named_const.statement Cert.AttnBwdIdeal.κ "scale_log2" .f32 0x3DD53B95#32 (((Real.sqrt 192)⁻¹ * (Real.log 2)⁻¹ : ℝ) : EReal) rfl,
   IdealRules.named_const.statement Cert.AttnBwdIdeal.κ "log2e" .f32 0x3FB8AA3B#32 (((Real.log 2)⁻¹ : ℝ) : EReal) rfl,
   IdealRules.named_const.statement Cert.AttnBwdIdeal.κ "scale" .f32 0x3D93CD3A#32 (((Real.sqrt 192)⁻¹ : ℝ) : EReal) rfl⟩

theorem attn_frame_ideal_pre : Cert.quiescent_AttnBwdIdeal_pre_finite (hPre_finite := Cert.Pre_finite.Hand.facts) :=
  fun m ρ _ => attn_frame_ideal m ρ trivial

theorem attn_frame_ref_pre : Cert.quiescent_AttnRefIdeal_pre_finite (hPre_finite := Cert.Pre_finite.Hand.facts) :=
  fun m ρ _ => attn_frame_ref m ρ trivial

theorem attn_algebraic : Cert.algebraic_AttnBwdIdeal_AttnRefIdeal_pre_finite (hPre_finite := Cert.Pre_finite.Hand.facts) := by
  intro m ρ m' ρ' hpre hagree
  letI := Cert.Pre_finite.Hand.facts
  refine ⟨Cert.AttnBwdIdeal.Hand.gradQ m, Cert.AttnBwdIdeal.Hand.gradK m, Cert.AttnBwdIdeal.Hand.gradV m, ?_, ?_⟩
  · exact (θ_run Cert.AttnBwdIdeal.defs _ _).mono (fun _ h c => h c)
      (Cert.AttnBwdIdeal.Hand.run_grads m ρ fun c => Cert.Pre_finite.Hand.args _ _ _ _ (hpre c))
  · refine (θ_run Cert.AttnRefIdeal.defs _ _).mono (fun _ h c => ?_) (Cert.AttnRefIdeal.Value.run (F := Ideal) m' ρ')
    obtain ⟨e0, e1, e2, e3⟩ := hagree c
    refine ⟨(h c).1.trans ((Cert.AttnRefIdeal.Read.val_main_v72_eq m' c).trans ?_), (h c).2.1.trans ((Cert.AttnRefIdeal.Read.val_main_v71_eq m' c).trans ?_),
      (h c).2.2.1.trans ((Cert.AttnRefIdeal.Read.val_main_v70_eq m' c).trans ?_), (h c).2.2.2⟩
    · unfold AttnBwdIdeal.Hand.gradQ AttnBwdIdeal.Hand.argQ AttnBwdIdeal.Hand.argK AttnBwdIdeal.Hand.argV AttnBwdIdeal.Hand.argD
      rw [e0, e1, e2, e3]
    · unfold AttnBwdIdeal.Hand.gradK AttnBwdIdeal.Hand.argQ AttnBwdIdeal.Hand.argK AttnBwdIdeal.Hand.argV AttnBwdIdeal.Hand.argD
      rw [e0, e1, e2, e3]
    · unfold AttnBwdIdeal.Hand.gradV AttnBwdIdeal.Hand.argQ AttnBwdIdeal.Hand.argK AttnBwdIdeal.Hand.argD
      rw [e0, e1, e3]

/-! ## The gradient of the feed-forward's second matrix -/

theorem down_frame : Cert.quiescent_DownGrad := fun m ρ _ => Cert.DownGrad.Gen.frame m ρ

theorem down_frame_ideal : Cert.quiescent_DownGradIdeal := fun m ρ _ => Cert.DownGradIdeal.Gen.frame m ρ

theorem down_frame_ref : Cert.quiescent_DownRefIdeal := fun m ρ _ =>
  (θ_run Cert.DownRefIdeal.defs _ _).mono (fun r h => ⟨fun c => (h c).2,
    Idealize.ShloMosaic.sem_eq_zero_of_no_sems (by decide) r.2⟩) (Cert.DownRefIdeal.Value.run (F := Ideal) m ρ)

theorem down_preserves : Cert.preserves_DownGrad_DownGradIdeal := trivial

theorem down_algebraic : Cert.algebraic_DownGradIdeal_DownRefIdeal := by
  intro m ρ m' ρ' _ hagree
  refine ⟨fun c => FfnSum.downGrad (Cert.DownGradIdeal.Hand.argZ m c) (Cert.DownGradIdeal.Hand.argH m c), ?_, ?_⟩
  · exact (θ_run Cert.DownGradIdeal.defs _ _).mono (fun _ h c => h c) (Cert.DownGradIdeal.Hand.run m ρ)
  · refine (θ_run Cert.DownRefIdeal.defs _ _).mono (fun _ h c => ?_) (Cert.DownRefIdeal.Hand.run m' ρ')
    obtain ⟨e0, e1⟩ := hagree c
    refine ⟨(h c).1.trans ?_, (h c).2⟩
    unfold DownGradIdeal.Hand.argZ DownGradIdeal.Hand.argH
    rw [e0, e1]

/-! ## The gradient of the feed-forward's first matrices -/

theorem up_frame : Cert.quiescent_UpGrad := fun m ρ _ => Cert.UpGrad.Gen.frame m ρ

theorem up_frame_ideal : Cert.quiescent_UpGradIdeal := fun m ρ _ => Cert.UpGradIdeal.Gen.frame m ρ

theorem up_frame_ref : Cert.quiescent_UpRefIdeal := fun m ρ _ =>
  (θ_run Cert.UpRefIdeal.defs _ _).mono (fun r h => ⟨fun c => (h c).2,
    Idealize.ShloMosaic.sem_eq_zero_of_no_sems (by decide) r.2⟩) (Cert.UpRefIdeal.Value.run (F := Ideal) m ρ)

theorem up_preserves : Cert.preserves_UpGrad_UpGradIdeal := trivial

theorem up_algebraic : Cert.algebraic_UpGradIdeal_UpRefIdeal := by
  intro m ρ m' ρ' _ hagree
  refine ⟨fun c => FfnSum.upGrad (Cert.UpGradIdeal.Hand.argA m c) (Cert.UpGradIdeal.Hand.argY m c), ?_, ?_⟩
  · exact (θ_run Cert.UpGradIdeal.defs _ _).mono (fun _ h c => h c) (Cert.UpGradIdeal.Hand.run m ρ)
  · refine (θ_run Cert.UpRefIdeal.defs _ _).mono (fun _ h c => ?_) (Cert.UpRefIdeal.Hand.run m' ρ')
    obtain ⟨e0, e1⟩ := hagree c
    refine ⟨(h c).1.trans ?_, (h c).2⟩
    unfold UpGradIdeal.Hand.argA UpGradIdeal.Hand.argY
    rw [e0, e1]

/-! ## The gradient of the feed-forward's input, layer 1 -/

theorem input_frame : Cert.quiescent_InGrad := fun m ρ _ => Cert.InGrad.Gen.frame m ρ

theorem input_frame_ideal : Cert.quiescent_InGradIdeal := fun m ρ _ => Cert.InGradIdeal.Gen.frame m ρ

theorem input_frame_ref : Cert.quiescent_InRefIdeal := fun m ρ _ =>
  (θ_run Cert.InRefIdeal.defs _ _).mono (fun r h => ⟨fun c => (h c).2.2,
    Idealize.ShloMosaic.sem_eq_zero_of_no_sems (by decide) r.2⟩) (Cert.InRefIdeal.Value.run (F := Ideal) m ρ)

theorem input_preserves : Cert.preserves_InGrad_InGradIdeal := trivial

theorem input_algebraic : Cert.algebraic_InGradIdeal_InRefIdeal := by
  intro m ρ m' ρ' _ hagree
  refine ⟨fun c => NormGrad.inGrad (Cert.InGradIdeal.Hand.argX m c) (Cert.InGradIdeal.Hand.argG m c) (Cert.InGradIdeal.Hand.argA m c) (Cert.InGradIdeal.Hand.argB m c) (Cert.InGradIdeal.Hand.argY m c) (Cert.InGradIdeal.Hand.argP m c) (Cert.InGradIdeal.Hand.argQ m c) 1, fun c => NormGrad.gainGrad (Cert.InGradIdeal.Hand.argX m c) (Cert.InGradIdeal.Hand.argA m c) (Cert.InGradIdeal.Hand.argB m c) (Cert.InGradIdeal.Hand.argP m c) (Cert.InGradIdeal.Hand.argQ m c) 1, ?_, ?_⟩
  · exact (θ_run Cert.InGradIdeal.defs _ _).mono (fun _ h c => h c) (Cert.InGradIdeal.Hand.run m ρ)
  · refine (θ_run Cert.InRefIdeal.defs _ _).mono (fun _ h c => ?_) (Cert.InRefIdeal.Hand.run m' ρ')
    obtain ⟨e0, e1, e2, e3, e4, e5, e6⟩ := hagree c
    refine ⟨(h c).1.trans ?_, (h c).2.1.trans ?_, (h c).2.2⟩
    · unfold InGradIdeal.Hand.argX InGradIdeal.Hand.argG InGradIdeal.Hand.argA InGradIdeal.Hand.argB InGradIdeal.Hand.argY InGradIdeal.Hand.argP InGradIdeal.Hand.argQ
      rw [e0, e1, e2, e3, e4, e5, e6]
    · unfold InGradIdeal.Hand.argX InGradIdeal.Hand.argA InGradIdeal.Hand.argB InGradIdeal.Hand.argP InGradIdeal.Hand.argQ
      rw [e0, e2, e3, e5, e6]

/-! ## The gradient of the feed-forward's input, layer 0 -/

theorem first_frame : Cert.quiescent_InFirstGrad := fun m ρ _ => Cert.InFirstGrad.Gen.frame m ρ

theorem first_frame_ideal : Cert.quiescent_InFirstGradIdeal := fun m ρ _ => Cert.InFirstGradIdeal.Gen.frame m ρ

theorem first_frame_ref : Cert.quiescent_InFirstRefIdeal := fun m ρ _ =>
  (θ_run Cert.InFirstRefIdeal.defs _ _).mono (fun r h => ⟨fun c => (h c).2.2,
    Idealize.ShloMosaic.sem_eq_zero_of_no_sems (by decide) r.2⟩) (Cert.InFirstRefIdeal.Value.run (F := Ideal) m ρ)

theorem first_preserves : Cert.preserves_InFirstGrad_InFirstGradIdeal := trivial

theorem first_algebraic : Cert.algebraic_InFirstGradIdeal_InFirstRefIdeal := by
  intro m ρ m' ρ' _ hagree
  refine ⟨fun c => NormGrad.inGrad (Cert.InFirstGradIdeal.Hand.argX m c) (Cert.InFirstGradIdeal.Hand.argG m c) (Cert.InFirstGradIdeal.Hand.argA m c) (Cert.InFirstGradIdeal.Hand.argB m c) (Cert.InFirstGradIdeal.Hand.argY m c) (Cert.InFirstGradIdeal.Hand.argP m c) (Cert.InFirstGradIdeal.Hand.argQ m c) 0, fun c => NormGrad.gainGrad (Cert.InFirstGradIdeal.Hand.argX m c) (Cert.InFirstGradIdeal.Hand.argA m c) (Cert.InFirstGradIdeal.Hand.argB m c) (Cert.InFirstGradIdeal.Hand.argP m c) (Cert.InFirstGradIdeal.Hand.argQ m c) 0, ?_, ?_⟩
  · exact (θ_run Cert.InFirstGradIdeal.defs _ _).mono (fun _ h c => h c) (Cert.InFirstGradIdeal.Hand.run m ρ)
  · refine (θ_run Cert.InFirstRefIdeal.defs _ _).mono (fun _ h c => ?_) (Cert.InFirstRefIdeal.Hand.run m' ρ')
    obtain ⟨e0, e1, e2, e3, e4, e5, e6⟩ := hagree c
    refine ⟨(h c).1.trans ?_, (h c).2.1.trans ?_, (h c).2.2⟩
    · unfold InFirstGradIdeal.Hand.argX InFirstGradIdeal.Hand.argG InFirstGradIdeal.Hand.argA InFirstGradIdeal.Hand.argB InFirstGradIdeal.Hand.argY InFirstGradIdeal.Hand.argP InFirstGradIdeal.Hand.argQ
      rw [e0, e1, e2, e3, e4, e5, e6]
    · unfold InFirstGradIdeal.Hand.argX InFirstGradIdeal.Hand.argA InFirstGradIdeal.Hand.argB InFirstGradIdeal.Hand.argP InFirstGradIdeal.Hand.argQ
      rw [e0, e2, e3, e5, e6]

/-! ## The gradients of the feed-forward's two factors, layer 1 -/

theorem hidden_frame : Cert.quiescent_HidGrad := fun m ρ _ => Cert.HidGrad.Gen.frame m ρ

theorem hidden_frame_ideal : Cert.quiescent_HidGradIdeal := fun m ρ _ => Cert.HidGradIdeal.Gen.frame m ρ

theorem hidden_frame_ideal_pre : Cert.quiescent_HidGradIdeal_pre_finite_hidden (hPre_finite_hidden := Cert.Pre_finite_hidden.Hand.facts) :=
  fun m ρ _ => hidden_frame_ideal m ρ trivial

theorem hidden_frame_ref : Cert.quiescent_HidRefIdeal := fun m ρ _ =>
  (θ_run Cert.HidRefIdeal.defs _ _).mono (fun r h => ⟨fun c => (h c).2.2,
    Idealize.ShloMosaic.sem_eq_zero_of_no_sems (by decide) r.2⟩) (Cert.HidRefIdeal.Value.run (F := Ideal) m ρ)

theorem hidden_frame_ref_pre : Cert.quiescent_HidRefIdeal_pre_finite_hidden (hPre_finite_hidden := Cert.Pre_finite_hidden.Hand.facts) :=
  fun m ρ _ => hidden_frame_ref m ρ trivial

theorem hidden_preserves : Cert.preserves_HidGrad_HidGradIdeal := trivial

theorem hidden_algebraic : Cert.algebraic_HidGradIdeal_HidRefIdeal_pre_finite_hidden (hPre_finite_hidden := Cert.Pre_finite_hidden.Hand.facts) := by
  intro m ρ m' ρ' hpre hagree
  letI := Cert.Pre_finite_hidden.Hand.facts
  refine ⟨fun c => Swiglu.gateGrad (Cert.HidGradIdeal.Hand.argG m c) (Cert.HidGradIdeal.Hand.argU m c) (Cert.HidGradIdeal.Hand.argW m c) (Cert.HidGradIdeal.Hand.argH m c) 1, fun c => Swiglu.linGrad (Cert.HidGradIdeal.Hand.argG m c) (Cert.HidGradIdeal.Hand.argW m c) (Cert.HidGradIdeal.Hand.argH m c) 1, ?_, ?_⟩
  · exact (θ_run Cert.HidGradIdeal.defs _ _).mono (fun _ h c => h c)
      (Cert.HidGradIdeal.Hand.run m ρ fun c => Cert.Pre_finite_hidden.Hand.args _ _ _ _ (hpre c))
  · refine (θ_run Cert.HidRefIdeal.defs _ _).mono (fun _ h c => ?_) (Cert.HidRefIdeal.Hand.run m' ρ')
    obtain ⟨e0, e1, e2, e3⟩ := hagree c
    refine ⟨(h c).1.trans ?_, (h c).2.1.trans ?_, (h c).2.2⟩
    · unfold HidGradIdeal.Hand.argG HidGradIdeal.Hand.argU HidGradIdeal.Hand.argW HidGradIdeal.Hand.argH
      rw [e0, e1, e2, e3]
    · unfold HidGradIdeal.Hand.argG HidGradIdeal.Hand.argW HidGradIdeal.Hand.argH
      rw [e0, e2, e3]

/-! ## The gradients of the feed-forward's two factors, layer 0 -/

theorem hidden_first_frame : Cert.quiescent_HidFirstGrad := fun m ρ _ => Cert.HidFirstGrad.Gen.frame m ρ

theorem hidden_first_frame_ideal : Cert.quiescent_HidFirstGradIdeal := fun m ρ _ => Cert.HidFirstGradIdeal.Gen.frame m ρ

theorem hidden_first_frame_ideal_pre : Cert.quiescent_HidFirstGradIdeal_pre_finite_hidden (hPre_finite_hidden := Cert.Pre_finite_hidden.Hand.facts) :=
  fun m ρ _ => hidden_first_frame_ideal m ρ trivial

theorem hidden_first_frame_ref : Cert.quiescent_HidFirstRefIdeal := fun m ρ _ =>
  (θ_run Cert.HidFirstRefIdeal.defs _ _).mono (fun r h => ⟨fun c => (h c).2.2,
    Idealize.ShloMosaic.sem_eq_zero_of_no_sems (by decide) r.2⟩) (Cert.HidFirstRefIdeal.Value.run (F := Ideal) m ρ)

theorem hidden_first_frame_ref_pre : Cert.quiescent_HidFirstRefIdeal_pre_finite_hidden (hPre_finite_hidden := Cert.Pre_finite_hidden.Hand.facts) :=
  fun m ρ _ => hidden_first_frame_ref m ρ trivial

theorem hidden_first_preserves : Cert.preserves_HidFirstGrad_HidFirstGradIdeal := trivial

theorem hidden_first_algebraic : Cert.algebraic_HidFirstGradIdeal_HidFirstRefIdeal_pre_finite_hidden (hPre_finite_hidden := Cert.Pre_finite_hidden.Hand.facts) := by
  intro m ρ m' ρ' hpre hagree
  letI := Cert.Pre_finite_hidden.Hand.facts
  refine ⟨fun c => Swiglu.gateGrad (Cert.HidFirstGradIdeal.Hand.argG m c) (Cert.HidFirstGradIdeal.Hand.argU m c) (Cert.HidFirstGradIdeal.Hand.argW m c) (Cert.HidFirstGradIdeal.Hand.argH m c) 0, fun c => Swiglu.linGrad (Cert.HidFirstGradIdeal.Hand.argG m c) (Cert.HidFirstGradIdeal.Hand.argW m c) (Cert.HidFirstGradIdeal.Hand.argH m c) 0, ?_, ?_⟩
  · exact (θ_run Cert.HidFirstGradIdeal.defs _ _).mono (fun _ h c => h c)
      (Cert.HidFirstGradIdeal.Hand.run m ρ fun c => Cert.Pre_finite_hidden.Hand.args _ _ _ _ (hpre c))
  · refine (θ_run Cert.HidFirstRefIdeal.defs _ _).mono (fun _ h c => ?_) (Cert.HidFirstRefIdeal.Hand.run m' ρ')
    obtain ⟨e0, e1, e2, e3⟩ := hagree c
    refine ⟨(h c).1.trans ?_, (h c).2.1.trans ?_, (h c).2.2⟩
    · unfold HidFirstGradIdeal.Hand.argG HidFirstGradIdeal.Hand.argU HidFirstGradIdeal.Hand.argW HidFirstGradIdeal.Hand.argH
      rw [e0, e1, e2, e3]
    · unfold HidFirstGradIdeal.Hand.argG HidFirstGradIdeal.Hand.argW HidFirstGradIdeal.Hand.argH
      rw [e0, e2, e3]

/-! ## The feed-forward's gates and hidden values, layer 1 -/

theorem gates_frame : Cert.quiescent_Gates := fun m ρ _ => Cert.Gates.Gen.frame m ρ

theorem gates_frame_ideal : Cert.quiescent_GatesIdeal := fun m ρ _ => Cert.GatesIdeal.Gen.frame m ρ

theorem gates_frame_ideal_pre : Cert.quiescent_GatesIdeal_pre_finite_gates (hPre_finite_gates := Cert.Pre_finite_gates.Hand.facts) :=
  fun m ρ _ => gates_frame_ideal m ρ trivial

theorem gates_frame_ref : Cert.quiescent_GatesRefIdeal := fun m ρ _ =>
  (θ_run Cert.GatesRefIdeal.defs _ _).mono (fun r h => ⟨fun c => (h c).2.2.2,
    Idealize.ShloMosaic.sem_eq_zero_of_no_sems (by decide) r.2⟩) (Cert.GatesRefIdeal.Value.run (F := Ideal) m ρ)

theorem gates_frame_ref_pre : Cert.quiescent_GatesRefIdeal_pre_finite_gates (hPre_finite_gates := Cert.Pre_finite_gates.Hand.facts) :=
  fun m ρ _ => gates_frame_ref m ρ trivial

theorem gates_preserves : Cert.preserves_Gates_GatesIdeal := trivial

theorem gates_algebraic : Cert.algebraic_GatesIdeal_GatesRefIdeal_pre_finite_gates (hPre_finite_gates := Cert.Pre_finite_gates.Hand.facts) := by
  intro m ρ m' ρ' hpre hagree
  letI := Cert.Pre_finite_gates.Hand.facts
  refine ⟨fun c => Swiglu.slopeGate (Cert.GatesIdeal.Hand.argA m c) (Cert.GatesIdeal.Hand.argW m c) (Cert.GatesIdeal.Hand.argU m c) 1, fun c => Swiglu.slopeLin (Cert.GatesIdeal.Hand.argA m c) (Cert.GatesIdeal.Hand.argW m c) 1, fun c => Swiglu.hidden (Cert.GatesIdeal.Hand.argA m c) (Cert.GatesIdeal.Hand.argW m c) (Cert.GatesIdeal.Hand.argU m c) 1, ?_, ?_⟩
  · exact (θ_run Cert.GatesIdeal.defs _ _).mono (fun _ h c => h c)
      (Cert.GatesIdeal.Hand.run m ρ fun c => Cert.Pre_finite_gates.Hand.args _ _ _ (hpre c))
  · refine (θ_run Cert.GatesRefIdeal.defs _ _).mono (fun _ h c => ?_) (Cert.GatesRefIdeal.Hand.run m' ρ')
    obtain ⟨e0, e1, e2⟩ := hagree c
    refine ⟨(h c).1.trans ?_, (h c).2.1.trans ?_, (h c).2.2.1.trans ?_, (h c).2.2.2⟩
    · unfold GatesIdeal.Hand.argA GatesIdeal.Hand.argW GatesIdeal.Hand.argU
      rw [e0, e1, e2]
    · unfold GatesIdeal.Hand.argA GatesIdeal.Hand.argW
      rw [e0, e1]
    · unfold GatesIdeal.Hand.argA GatesIdeal.Hand.argW GatesIdeal.Hand.argU
      rw [e0, e1, e2]

/-! ## The feed-forward's gates and hidden values, layer 0 -/

theorem gates_first_frame : Cert.quiescent_GatesFirst := fun m ρ _ => Cert.GatesFirst.Gen.frame m ρ

theorem gates_first_frame_ideal : Cert.quiescent_GatesFirstIdeal := fun m ρ _ => Cert.GatesFirstIdeal.Gen.frame m ρ

theorem gates_first_frame_ideal_pre : Cert.quiescent_GatesFirstIdeal_pre_finite_gates (hPre_finite_gates := Cert.Pre_finite_gates.Hand.facts) :=
  fun m ρ _ => gates_first_frame_ideal m ρ trivial

theorem gates_first_frame_ref : Cert.quiescent_GatesFirstRefIdeal := fun m ρ _ =>
  (θ_run Cert.GatesFirstRefIdeal.defs _ _).mono (fun r h => ⟨fun c => (h c).2.2.2,
    Idealize.ShloMosaic.sem_eq_zero_of_no_sems (by decide) r.2⟩) (Cert.GatesFirstRefIdeal.Value.run (F := Ideal) m ρ)

theorem gates_first_frame_ref_pre : Cert.quiescent_GatesFirstRefIdeal_pre_finite_gates (hPre_finite_gates := Cert.Pre_finite_gates.Hand.facts) :=
  fun m ρ _ => gates_first_frame_ref m ρ trivial

theorem gates_first_preserves : Cert.preserves_GatesFirst_GatesFirstIdeal := trivial

theorem gates_first_algebraic : Cert.algebraic_GatesFirstIdeal_GatesFirstRefIdeal_pre_finite_gates (hPre_finite_gates := Cert.Pre_finite_gates.Hand.facts) := by
  intro m ρ m' ρ' hpre hagree
  letI := Cert.Pre_finite_gates.Hand.facts
  refine ⟨fun c => Swiglu.slopeGate (Cert.GatesFirstIdeal.Hand.argA m c) (Cert.GatesFirstIdeal.Hand.argW m c) (Cert.GatesFirstIdeal.Hand.argU m c) 0, fun c => Swiglu.slopeLin (Cert.GatesFirstIdeal.Hand.argA m c) (Cert.GatesFirstIdeal.Hand.argW m c) 0, fun c => Swiglu.hidden (Cert.GatesFirstIdeal.Hand.argA m c) (Cert.GatesFirstIdeal.Hand.argW m c) (Cert.GatesFirstIdeal.Hand.argU m c) 0, ?_, ?_⟩
  · exact (θ_run Cert.GatesFirstIdeal.defs _ _).mono (fun _ h c => h c)
      (Cert.GatesFirstIdeal.Hand.run m ρ fun c => Cert.Pre_finite_gates.Hand.args _ _ _ (hpre c))
  · refine (θ_run Cert.GatesFirstRefIdeal.defs _ _).mono (fun _ h c => ?_) (Cert.GatesFirstRefIdeal.Hand.run m' ρ')
    obtain ⟨e0, e1, e2⟩ := hagree c
    refine ⟨(h c).1.trans ?_, (h c).2.1.trans ?_, (h c).2.2.1.trans ?_, (h c).2.2.2⟩
    · unfold GatesFirstIdeal.Hand.argA GatesFirstIdeal.Hand.argW GatesFirstIdeal.Hand.argU
      rw [e0, e1, e2]
    · unfold GatesFirstIdeal.Hand.argA GatesFirstIdeal.Hand.argW
      rw [e0, e1]
    · unfold GatesFirstIdeal.Hand.argA GatesFirstIdeal.Hand.argW GatesFirstIdeal.Hand.argU
      rw [e0, e1, e2]

theorem claim : Cert.Claim := ⟨Cert.ConvBwd.Gen.facts, Cert.ConvBwdIdeal.Gen.facts, Cert.ConvRefIdeal.Gen.facts,
  Cert.AttnBwd.Gen.facts, Cert.AttnBwdIdeal.Gen.facts, Cert.AttnRefIdeal.Gen.facts,
  Cert.DownGrad.Gen.facts, Cert.DownGradIdeal.Gen.facts, Cert.DownRefIdeal.Gen.facts, Cert.UpGrad.Gen.facts, Cert.UpGradIdeal.Gen.facts, Cert.UpRefIdeal.Gen.facts,
  Cert.InGrad.Gen.facts, Cert.InGradIdeal.Gen.facts, Cert.InRefIdeal.Gen.facts,
  Cert.InFirstGrad.Gen.facts, Cert.InFirstGradIdeal.Gen.facts, Cert.InFirstRefIdeal.Gen.facts,
  Cert.HidGrad.Gen.facts, Cert.HidGradIdeal.Gen.facts, Cert.HidRefIdeal.Gen.facts,
  Cert.HidFirstGrad.Gen.facts, Cert.HidFirstGradIdeal.Gen.facts, Cert.HidFirstRefIdeal.Gen.facts,
  Cert.Gates.Gen.facts, Cert.GatesIdeal.Gen.facts, Cert.GatesRefIdeal.Gen.facts,
  Cert.GatesFirst.Gen.facts, Cert.GatesFirstIdeal.Gen.facts, Cert.GatesFirstRefIdeal.Gen.facts,
  Cert.Pre_finite.Hand.facts, Cert.Pre_finite_hidden.Hand.facts, Cert.Pre_finite_gates.Hand.facts,
  conv_frame, conv_frame_ideal, conv_frame_ref, attn_frame, attn_frame_ideal, attn_frame_ideal_pre, attn_frame_ref, attn_frame_ref_pre,
  down_frame, down_frame_ideal, down_frame_ref, up_frame, up_frame_ideal, up_frame_ref,
  input_frame, input_frame_ideal, input_frame_ref,
  first_frame, first_frame_ideal, first_frame_ref,
  hidden_frame, hidden_frame_ideal, hidden_frame_ideal_pre, hidden_frame_ref, hidden_frame_ref_pre,
  hidden_first_frame, hidden_first_frame_ideal, hidden_first_frame_ideal_pre, hidden_first_frame_ref, hidden_first_frame_ref_pre,
  gates_frame, gates_frame_ideal, gates_frame_ideal_pre, gates_frame_ref, gates_frame_ref_pre,
  gates_first_frame, gates_first_frame_ideal, gates_first_frame_ideal_pre, gates_first_frame_ref, gates_first_frame_ref_pre,
  conv_preserves, conv_algebraic, attn_preserves, attn_algebraic, down_preserves, down_algebraic, up_preserves, up_algebraic,
  input_preserves, input_algebraic, first_preserves, first_algebraic,
  hidden_preserves, hidden_algebraic, hidden_first_preserves, hidden_first_algebraic, gates_preserves, gates_algebraic, gates_first_preserves, gates_first_algebraic⟩

end Cert.Proof

end
